-- ==== Defs.lean ====
def Pre_BwdIn (m : (ℓ : Loc Cert.BwdIn.nD Cert.BwdIn.τ Cert.BwdIn.sig) → Buf (Elt Bits) ℓ) : Prop :=
  True

def Pre_BwdInIdeal (m : (ℓ : Loc Cert.BwdInIdeal.nD Cert.BwdInIdeal.τ Cert.BwdInIdeal.sig) → Buf (Elt Ideal) ℓ) : Prop :=
  True

def Pre_BwdInIdeal_finite_in [hPre_finite_in : Cert.Pre_finite_in.Facts] (m : (ℓ : Loc Cert.BwdInIdeal.nD Cert.BwdInIdeal.τ Cert.BwdInIdeal.sig) → Buf (Elt Ideal) ℓ) : Prop :=
  ∀ c : Dev Cert.BwdInIdeal.nD,
    (Cert.Pre_finite_in.fn (F := Ideal) (m ((c.tc : Thread Cert.BwdInIdeal.nD Cert.BwdInIdeal.τ).loc Cert.BwdInIdeal.main_arg0)) (m ((c.tc : Thread Cert.BwdInIdeal.nD Cert.BwdInIdeal.τ).loc Cert.BwdInIdeal.main_arg1)) (m ((c.tc : Thread Cert.BwdInIdeal.nD Cert.BwdInIdeal.τ).loc Cert.BwdInIdeal.main_arg2)) (m ((c.tc : Thread Cert.BwdInIdeal.nD Cert.BwdInIdeal.τ).loc Cert.BwdInIdeal.main_arg3)) (m ((c.tc : Thread Cert.BwdInIdeal.nD Cert.BwdInIdeal.τ).loc Cert.BwdInIdeal.main_arg4))) = (fun _ => 1#1)

def Pre_RefInIdeal (m : (ℓ : Loc Cert.RefInIdeal.nD Cert.RefInIdeal.τ Cert.RefInIdeal.sig) → Buf (Elt Ideal) ℓ) : Prop :=
  True

def Pre_RefInIdeal_finite_in [hPre_finite_in : Cert.Pre_finite_in.Facts] (m : (ℓ : Loc Cert.RefInIdeal.nD Cert.RefInIdeal.τ Cert.RefInIdeal.sig) → Buf (Elt Ideal) ℓ) : Prop :=
  ∀ c : Dev Cert.RefInIdeal.nD,
    (Cert.Pre_finite_in.fn (F := Ideal) (m ((c.tc : Thread Cert.RefInIdeal.nD Cert.RefInIdeal.τ).loc Cert.RefInIdeal.main_arg0)) (m ((c.tc : Thread Cert.RefInIdeal.nD Cert.RefInIdeal.τ).loc Cert.RefInIdeal.main_arg1)) (m ((c.tc : Thread Cert.RefInIdeal.nD Cert.RefInIdeal.τ).loc Cert.RefInIdeal.main_arg2)) (m ((c.tc : Thread Cert.RefInIdeal.nD Cert.RefInIdeal.τ).loc Cert.RefInIdeal.main_arg3)) (m ((c.tc : Thread Cert.RefInIdeal.nD Cert.RefInIdeal.τ).loc Cert.RefInIdeal.main_arg4))) = (fun _ => 1#1)

def Pre_BwdConv (m : (ℓ : Loc Cert.BwdConv.nD Cert.BwdConv.τ Cert.BwdConv.sig) → Buf (Elt Bits) ℓ) : Prop :=
  True

def Pre_BwdConvIdeal (m : (ℓ : Loc Cert.BwdConvIdeal.nD Cert.BwdConvIdeal.τ Cert.BwdConvIdeal.sig) → Buf (Elt Ideal) ℓ) : Prop :=
  True

def Pre_RefConvIdeal (m : (ℓ : Loc Cert.RefConvIdeal.nD Cert.RefConvIdeal.τ Cert.RefConvIdeal.sig) → Buf (Elt Ideal) ℓ) : Prop :=
  True

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpIdeal_finite_mlp [hPre_finite_mlp : Cert.Pre_finite_mlp.Facts] (m : (ℓ : Loc Cert.MlpIdeal.nD Cert.MlpIdeal.τ Cert.MlpIdeal.sig) → Buf (Elt Ideal) ℓ) : Prop :=
  ∀ c : Dev Cert.MlpIdeal.nD,
    (Cert.Pre_finite_mlp.fn (F := Ideal) (m ((c.tc : Thread Cert.MlpIdeal.nD Cert.MlpIdeal.τ).loc Cert.MlpIdeal.main_arg0)) (m ((c.tc : Thread Cert.MlpIdeal.nD Cert.MlpIdeal.τ).loc Cert.MlpIdeal.main_arg1)) (m ((c.tc : Thread Cert.MlpIdeal.nD Cert.MlpIdeal.τ).loc Cert.MlpIdeal.main_arg2)) (m ((c.tc : Thread Cert.MlpIdeal.nD Cert.MlpIdeal.τ).loc Cert.MlpIdeal.main_arg3)) (m ((c.tc : Thread Cert.MlpIdeal.nD Cert.MlpIdeal.τ).loc Cert.MlpIdeal.main_arg4)) (m ((c.tc : Thread Cert.MlpIdeal.nD Cert.MlpIdeal.τ).loc Cert.MlpIdeal.main_arg5)) (m ((c.tc : Thread Cert.MlpIdeal.nD Cert.MlpIdeal.τ).loc Cert.MlpIdeal.main_arg6)) (m ((c.tc : Thread Cert.MlpIdeal.nD Cert.MlpIdeal.τ).loc Cert.MlpIdeal.main_arg7))) = (fun _ => 1#1)

def Pre_RefMlpIdeal (m : (ℓ : Loc Cert.RefMlpIdeal.nD Cert.RefMlpIdeal.τ Cert.RefMlpIdeal.sig) → Buf (Elt Ideal) ℓ) : Prop :=
  True

def Pre_RefMlpIdeal_finite_mlp [hPre_finite_mlp : Cert.Pre_finite_mlp.Facts] (m : (ℓ : Loc Cert.RefMlpIdeal.nD Cert.RefMlpIdeal.τ Cert.RefMlpIdeal.sig) → Buf (Elt Ideal) ℓ) : Prop :=
  ∀ c : Dev Cert.RefMlpIdeal.nD,
    (Cert.Pre_finite_mlp.fn (F := Ideal) (m ((c.tc : Thread Cert.RefMlpIdeal.nD Cert.RefMlpIdeal.τ).loc Cert.RefMlpIdeal.main_arg0)) (m ((c.tc : Thread Cert.RefMlpIdeal.nD Cert.RefMlpIdeal.τ).loc Cert.RefMlpIdeal.main_arg1)) (m ((c.tc : Thread Cert.RefMlpIdeal.nD Cert.RefMlpIdeal.τ).loc Cert.RefMlpIdeal.main_arg2)) (m ((c.tc : Thread Cert.RefMlpIdeal.nD Cert.RefMlpIdeal.τ).loc Cert.RefMlpIdeal.main_arg3)) (m ((c.tc : Thread Cert.RefMlpIdeal.nD Cert.RefMlpIdeal.τ).loc Cert.RefMlpIdeal.main_arg4)) (m ((c.tc : Thread Cert.RefMlpIdeal.nD Cert.RefMlpIdeal.τ).loc Cert.RefMlpIdeal.main_arg5)) (m ((c.tc : Thread Cert.RefMlpIdeal.nD Cert.RefMlpIdeal.τ).loc Cert.RefMlpIdeal.main_arg6)) (m ((c.tc : Thread Cert.RefMlpIdeal.nD Cert.RefMlpIdeal.τ).loc Cert.RefMlpIdeal.main_arg7))) = (fun _ => 1#1)

def Pre_BwdMix (m : (ℓ : Loc Cert.BwdMix.nD Cert.BwdMix.τ Cert.BwdMix.sig) → Buf (Elt Bits) ℓ) : Prop :=
  True

def Pre_BwdMixIdeal (m : (ℓ : Loc Cert.BwdMixIdeal.nD Cert.BwdMixIdeal.τ Cert.BwdMixIdeal.sig) → Buf (Elt Ideal) ℓ) : Prop :=
  True

def Pre_BwdMixIdeal_finite_mix [hPre_finite_mix : Cert.Pre_finite_mix.Facts] (m : (ℓ : Loc Cert.BwdMixIdeal.nD Cert.BwdMixIdeal.τ Cert.BwdMixIdeal.sig) → Buf (Elt Ideal) ℓ) : Prop :=
  ∀ c : Dev Cert.BwdMixIdeal.nD,
    (Cert.Pre_finite_mix.fn (F := Ideal) (m ((c.tc : Thread Cert.BwdMixIdeal.nD Cert.BwdMixIdeal.τ).loc Cert.BwdMixIdeal.main_arg0)) (m ((c.tc : Thread Cert.BwdMixIdeal.nD Cert.BwdMixIdeal.τ).loc Cert.BwdMixIdeal.main_arg1)) (m ((c.tc : Thread Cert.BwdMixIdeal.nD Cert.BwdMixIdeal.τ).loc Cert.BwdMixIdeal.main_arg2)) (m ((c.tc : Thread Cert.BwdMixIdeal.nD Cert.BwdMixIdeal.τ).loc Cert.BwdMixIdeal.main_arg3)) (m ((c.tc : Thread Cert.BwdMixIdeal.nD Cert.BwdMixIdeal.τ).loc Cert.BwdMixIdeal.main_arg4)) (m ((c.tc : Thread Cert.BwdMixIdeal.nD Cert.BwdMixIdeal.τ).loc Cert.BwdMixIdeal.main_arg5)) (m ((c.tc : Thread Cert.BwdMixIdeal.nD Cert.BwdMixIdeal.τ).loc Cert.BwdMixIdeal.main_arg6)) (m ((c.tc : Thread Cert.BwdMixIdeal.nD Cert.BwdMixIdeal.τ).loc Cert.BwdMixIdeal.main_arg7)) (m ((c.tc : Thread Cert.BwdMixIdeal.nD Cert.BwdMixIdeal.τ).loc Cert.BwdMixIdeal.main_arg8)) (m ((c.tc : Thread Cert.BwdMixIdeal.nD Cert.BwdMixIdeal.τ).loc Cert.BwdMixIdeal.main_arg9)) (m ((c.tc : Thread Cert.BwdMixIdeal.nD Cert.BwdMixIdeal.τ).loc Cert.BwdMixIdeal.main_arg10))) = (fun _ => 1#1)

def Pre_RefMixIdeal (m : (ℓ : Loc Cert.RefMixIdeal.nD Cert.RefMixIdeal.τ Cert.RefMixIdeal.sig) → Buf (Elt Ideal) ℓ) : Prop :=
  True

def Pre_RefMixIdeal_finite_mix [hPre_finite_mix : Cert.Pre_finite_mix.Facts] (m : (ℓ : Loc Cert.RefMixIdeal.nD Cert.RefMixIdeal.τ Cert.RefMixIdeal.sig) → Buf (Elt Ideal) ℓ) : Prop :=
  ∀ c : Dev Cert.RefMixIdeal.nD,
    (Cert.Pre_finite_mix.fn (F := Ideal) (m ((c.tc : Thread Cert.RefMixIdeal.nD Cert.RefMixIdeal.τ).loc Cert.RefMixIdeal.main_arg0)) (m ((c.tc : Thread Cert.RefMixIdeal.nD Cert.RefMixIdeal.τ).loc Cert.RefMixIdeal.main_arg1)) (m ((c.tc : Thread Cert.RefMixIdeal.nD Cert.RefMixIdeal.τ).loc Cert.RefMixIdeal.main_arg2)) (m ((c.tc : Thread Cert.RefMixIdeal.nD Cert.RefMixIdeal.τ).loc Cert.RefMixIdeal.main_arg3)) (m ((c.tc : Thread Cert.RefMixIdeal.nD Cert.RefMixIdeal.τ).loc Cert.RefMixIdeal.main_arg4)) (m ((c.tc : Thread Cert.RefMixIdeal.nD Cert.RefMixIdeal.τ).loc Cert.RefMixIdeal.main_arg5)) (m ((c.tc : Thread Cert.RefMixIdeal.nD Cert.RefMixIdeal.τ).loc Cert.RefMixIdeal.main_arg6)) (m ((c.tc : Thread Cert.RefMixIdeal.nD Cert.RefMixIdeal.τ).loc Cert.RefMixIdeal.main_arg7)) (m ((c.tc : Thread Cert.RefMixIdeal.nD Cert.RefMixIdeal.τ).loc Cert.RefMixIdeal.main_arg8)) (m ((c.tc : Thread Cert.RefMixIdeal.nD Cert.RefMixIdeal.τ).loc Cert.RefMixIdeal.main_arg9)) (m ((c.tc : Thread Cert.RefMixIdeal.nD Cert.RefMixIdeal.τ).loc Cert.RefMixIdeal.main_arg10))) = (fun _ => 1#1)

def Pre_FwdIn (m : (ℓ : Loc Cert.FwdIn.nD Cert.FwdIn.τ Cert.FwdIn.sig) → Buf (Elt Bits) ℓ) : Prop :=
  True

def Pre_FwdInIdeal (m : (ℓ : Loc Cert.FwdInIdeal.nD Cert.FwdInIdeal.τ Cert.FwdInIdeal.sig) → Buf (Elt Ideal) ℓ) : Prop :=
  True

def Pre_RefFwdIdeal (m : (ℓ : Loc Cert.RefFwdIdeal.nD Cert.RefFwdIdeal.τ Cert.RefFwdIdeal.sig) → Buf (Elt Ideal) ℓ) : Prop :=
  True

def Pre_WGrad (m : (ℓ : Loc Cert.WGrad.nD Cert.WGrad.τ Cert.WGrad.sig) → Buf (Elt Bits) ℓ) : Prop :=
  True

def Pre_WGradIdeal (m : (ℓ : Loc Cert.WGradIdeal.nD Cert.WGradIdeal.τ Cert.WGradIdeal.sig) → Buf (Elt Ideal) ℓ) : Prop :=
  True

def Pre_RefWgIdeal (m : (ℓ : Loc Cert.RefWgIdeal.nD Cert.RefWgIdeal.τ Cert.RefWgIdeal.sig) → Buf (Elt Ideal) ℓ) : Prop :=
  True

def Pre_WGradIn (m : (ℓ : Loc Cert.WGradIn.nD Cert.WGradIn.τ Cert.WGradIn.sig) → Buf (Elt Bits) ℓ) : Prop :=
  True

def Pre_WGradInIdeal (m : (ℓ : Loc Cert.WGradInIdeal.nD Cert.WGradInIdeal.τ Cert.WGradInIdeal.sig) → Buf (Elt Ideal) ℓ) : Prop :=
  True

def Pre_RefWiIdeal (m : (ℓ : Loc Cert.RefWiIdeal.nD Cert.RefWiIdeal.τ Cert.RefWiIdeal.sig) → Buf (Elt Ideal) ℓ) : Prop :=
  True

def quiescent_BwdIn [hBwdIn : Cert.BwdIn.Facts] : Prop :=
  ∀ (m : (ℓ : Loc Cert.BwdIn.nD Cert.BwdIn.τ Cert.BwdIn.sig) → Buf (Elt Bits) ℓ) (g : Dev Cert.BwdIn.nD → PrngReg), Pre_BwdIn m →
    θ_run (Cert.BwdIn.defs (F := Bits)) (onTc (τ := Cert.BwdIn.τ) (Cert.BwdIn.main (F := Bits))) ⟨m, fun _ => 0, g⟩ (fun r => (∀ c : Dev Cert.BwdIn.nD,
      r.2.mem ((c.tc : Thread Cert.BwdIn.nD Cert.BwdIn.τ).loc Cert.BwdIn.main_arg0) = m ((c.tc : Thread Cert.BwdIn.nD Cert.BwdIn.τ).loc Cert.BwdIn.main_arg0)
      ∧ r.2.mem ((c.tc : Thread Cert.BwdIn.nD Cert.BwdIn.τ).loc Cert.BwdIn.main_arg1) = m ((c.tc : Thread Cert.BwdIn.nD Cert.BwdIn.τ).loc Cert.BwdIn.main_arg1)
      ∧ r.2.mem ((c.tc : Thread Cert.BwdIn.nD Cert.BwdIn.τ).loc Cert.BwdIn.main_arg2) = m ((c.tc : Thread Cert.BwdIn.nD Cert.BwdIn.τ).loc Cert.BwdIn.main_arg2)
      ∧ r.2.mem ((c.tc : Thread Cert.BwdIn.nD Cert.BwdIn.τ).loc Cert.BwdIn.main_arg3) = m ((c.tc : Thread Cert.BwdIn.nD Cert.BwdIn.τ).loc Cert.BwdIn.main_arg3)
      ∧ r.2.mem ((c.tc : Thread Cert.BwdIn.nD Cert.BwdIn.τ).loc Cert.BwdIn.main_arg4) = m ((c.tc : Thread Cert.BwdIn.nD Cert.BwdIn.τ).loc Cert.BwdIn.main_arg4))
      ∧ r.2.sem = fun _ => 0)

def quiescent_BwdInIdeal [hBwdInIdeal : Cert.BwdInIdeal.Facts] : Prop :=
  ∀ (m : (ℓ : Loc Cert.BwdInIdeal.nD Cert.BwdInIdeal.τ Cert.BwdInIdeal.sig) → Buf (Elt Ideal) ℓ) (g : Dev Cert.BwdInIdeal.nD → PrngReg), Pre_BwdInIdeal m →
    θ_run (Cert.BwdInIdeal.defs (F := Ideal)) (onTc (τ := Cert.BwdInIdeal.τ) (Cert.BwdInIdeal.main (F := Ideal))) ⟨m, fun _ => 0, g⟩ (fun r => (∀ c : Dev Cert.BwdInIdeal.nD,
      r.2.mem ((c.tc : Thread Cert.BwdInIdeal.nD Cert.BwdInIdeal.τ).loc Cert.BwdInIdeal.main_arg0) = m ((c.tc : Thread Cert.BwdInIdeal.nD Cert.BwdInIdeal.τ).loc Cert.BwdInIdeal.main_arg0)
      ∧ r.2.mem ((c.tc : Thread Cert.BwdInIdeal.nD Cert.BwdInIdeal.τ).loc Cert.BwdInIdeal.main_arg1) = m ((c.tc : Thread Cert.BwdInIdeal.nD Cert.BwdInIdeal.τ).loc Cert.BwdInIdeal.main_arg1)
      ∧ r.2.mem ((c.tc : Thread Cert.BwdInIdeal.nD Cert.BwdInIdeal.τ).loc Cert.BwdInIdeal.main_arg2) = m ((c.tc : Thread Cert.BwdInIdeal.nD Cert.BwdInIdeal.τ).loc Cert.BwdInIdeal.main_arg2)
      ∧ r.2.mem ((c.tc : Thread Cert.BwdInIdeal.nD Cert.BwdInIdeal.τ).loc Cert.BwdInIdeal.main_arg3) = m ((c.tc : Thread Cert.BwdInIdeal.nD Cert.BwdInIdeal.τ).loc Cert.BwdInIdeal.main_arg3)
      ∧ r.2.mem ((c.tc : Thread Cert.BwdInIdeal.nD Cert.BwdInIdeal.τ).loc Cert.BwdInIdeal.main_arg4) = m ((c.tc : Thread Cert.BwdInIdeal.nD Cert.BwdInIdeal.τ).loc Cert.BwdInIdeal.main_arg4))
      ∧ r.2.sem = fun _ => 0)

def quiescent_BwdInIdeal_pre_finite_in [hBwdInIdeal : Cert.BwdInIdeal.Facts] [hPre_finite_in : Cert.Pre_finite_in.Facts] : Prop :=
  ∀ (m : (ℓ : Loc Cert.BwdInIdeal.nD Cert.BwdInIdeal.τ Cert.BwdInIdeal.sig) → Buf (Elt Ideal) ℓ) (g : Dev Cert.BwdInIdeal.nD → PrngReg), Pre_BwdInIdeal_finite_in m →
    θ_run (Cert.BwdInIdeal.defs (F := Ideal)) (onTc (τ := Cert.BwdInIdeal.τ) (Cert.BwdInIdeal.main (F := Ideal))) ⟨m, fun _ => 0, g⟩ (fun r => (∀ c : Dev Cert.BwdInIdeal.nD,
      r.2.mem ((c.tc : Thread Cert.BwdInIdeal.nD Cert.BwdInIdeal.τ).loc Cert.BwdInIdeal.main_arg0) = m ((c.tc : Thread Cert.BwdInIdeal.nD Cert.BwdInIdeal.τ).loc Cert.BwdInIdeal.main_arg0)
      ∧ r.2.mem ((c.tc : Thread Cert.BwdInIdeal.nD Cert.BwdInIdeal.τ).loc Cert.BwdInIdeal.main_arg1) = m ((c.tc : Thread Cert.BwdInIdeal.nD Cert.BwdInIdeal.τ).loc Cert.BwdInIdeal.main_arg1)
      ∧ r.2.mem ((c.tc : Thread Cert.BwdInIdeal.nD Cert.BwdInIdeal.τ).loc Cert.BwdInIdeal.main_arg2) = m ((c.tc : Thread Cert.BwdInIdeal.nD Cert.BwdInIdeal.τ).loc Cert.BwdInIdeal.main_arg2)
      ∧ r.2.mem ((c.tc : Thread Cert.BwdInIdeal.nD Cert.BwdInIdeal.τ).loc Cert.BwdInIdeal.main_arg3) = m ((c.tc : Thread Cert.BwdInIdeal.nD Cert.BwdInIdeal.τ).loc Cert.BwdInIdeal.main_arg3)
      ∧ r.2.mem ((c.tc : Thread Cert.BwdInIdeal.nD Cert.BwdInIdeal.τ).loc Cert.BwdInIdeal.main_arg4) = m ((c.tc : Thread Cert.BwdInIdeal.nD Cert.BwdInIdeal.τ).loc Cert.BwdInIdeal.main_arg4))
      ∧ r.2.sem = fun _ => 0)

def quiescent_RefInIdeal [hRefInIdeal : Cert.RefInIdeal.Facts] : Prop :=
  ∀ (m : (ℓ : Loc Cert.RefInIdeal.nD Cert.RefInIdeal.τ Cert.RefInIdeal.sig) → Buf (Elt Ideal) ℓ) (g : Dev Cert.RefInIdeal.nD → PrngReg), Pre_RefInIdeal m →
    θ_run (Cert.RefInIdeal.defs (F := Ideal)) (onTc (τ := Cert.RefInIdeal.τ) (Cert.RefInIdeal.main (F := Ideal))) ⟨m, fun _ => 0, g⟩ (fun r => (∀ c : Dev Cert.RefInIdeal.nD,
      r.2.mem ((c.tc : Thread Cert.RefInIdeal.nD Cert.RefInIdeal.τ).loc Cert.RefInIdeal.main_arg0) = m ((c.tc : Thread Cert.RefInIdeal.nD Cert.RefInIdeal.τ).loc Cert.RefInIdeal.main_arg0)
      ∧ r.2.mem ((c.tc : Thread Cert.RefInIdeal.nD Cert.RefInIdeal.τ).loc Cert.RefInIdeal.main_arg1) = m ((c.tc : Thread Cert.RefInIdeal.nD Cert.RefInIdeal.τ).loc Cert.RefInIdeal.main_arg1)
      ∧ r.2.mem ((c.tc : Thread Cert.RefInIdeal.nD Cert.RefInIdeal.τ).loc Cert.RefInIdeal.main_arg2) = m ((c.tc : Thread Cert.RefInIdeal.nD Cert.RefInIdeal.τ).loc Cert.RefInIdeal.main_arg2)
      ∧ r.2.mem ((c.tc : Thread Cert.RefInIdeal.nD Cert.RefInIdeal.τ).loc Cert.RefInIdeal.main_arg3) = m ((c.tc : Thread Cert.RefInIdeal.nD Cert.RefInIdeal.τ).loc Cert.RefInIdeal.main_arg3)
      ∧ r.2.mem ((c.tc : Thread Cert.RefInIdeal.nD Cert.RefInIdeal.τ).loc Cert.RefInIdeal.main_arg4) = m ((c.tc : Thread Cert.RefInIdeal.nD Cert.RefInIdeal.τ).loc Cert.RefInIdeal.main_arg4))
      ∧ r.2.sem = fun _ => 0)

def quiescent_RefInIdeal_pre_finite_in [hRefInIdeal : Cert.RefInIdeal.Facts] [hPre_finite_in : Cert.Pre_finite_in.Facts] : Prop :=
  ∀ (m : (ℓ : Loc Cert.RefInIdeal.nD Cert.RefInIdeal.τ Cert.RefInIdeal.sig) → Buf (Elt Ideal) ℓ) (g : Dev Cert.RefInIdeal.nD → PrngReg), Pre_RefInIdeal_finite_in m →
    θ_run (Cert.RefInIdeal.defs (F := Ideal)) (onTc (τ := Cert.RefInIdeal.τ) (Cert.RefInIdeal.main (F := Ideal))) ⟨m, fun _ => 0, g⟩ (fun r => (∀ c : Dev Cert.RefInIdeal.nD,
      r.2.mem ((c.tc : Thread Cert.RefInIdeal.nD Cert.RefInIdeal.τ).loc Cert.RefInIdeal.main_arg0) = m ((c.tc : Thread Cert.RefInIdeal.nD Cert.RefInIdeal.τ).loc Cert.RefInIdeal.main_arg0)
      ∧ r.2.mem ((c.tc : Thread Cert.RefInIdeal.nD Cert.RefInIdeal.τ).loc Cert.RefInIdeal.main_arg1) = m ((c.tc : Thread Cert.RefInIdeal.nD Cert.RefInIdeal.τ).loc Cert.RefInIdeal.main_arg1)
      ∧ r.2.mem ((c.tc : Thread Cert.RefInIdeal.nD Cert.RefInIdeal.τ).loc Cert.RefInIdeal.main_arg2) = m ((c.tc : Thread Cert.RefInIdeal.nD Cert.RefInIdeal.τ).loc Cert.RefInIdeal.main_arg2)
      ∧ r.2.mem ((c.tc : Thread Cert.RefInIdeal.nD Cert.RefInIdeal.τ).loc Cert.RefInIdeal.main_arg3) = m ((c.tc : Thread Cert.RefInIdeal.nD Cert.RefInIdeal.τ).loc Cert.RefInIdeal.main_arg3)
      ∧ r.2.mem ((c.tc : Thread Cert.RefInIdeal.nD Cert.RefInIdeal.τ).loc Cert.RefInIdeal.main_arg4) = m ((c.tc : Thread Cert.RefInIdeal.nD Cert.RefInIdeal.τ).loc Cert.RefInIdeal.main_arg4))
      ∧ r.2.sem = fun _ => 0)

def quiescent_BwdConv [hBwdConv : Cert.BwdConv.Facts] : Prop :=
  ∀ (m : (ℓ : Loc Cert.BwdConv.nD Cert.BwdConv.τ Cert.BwdConv.sig) → Buf (Elt Bits) ℓ) (g : Dev Cert.BwdConv.nD → PrngReg), Pre_BwdConv m →
    θ_run (Cert.BwdConv.defs (F := Bits)) (onTc (τ := Cert.BwdConv.τ) (Cert.BwdConv.main (F := Bits))) ⟨m, fun _ => 0, g⟩ (fun r => (∀ c : Dev Cert.BwdConv.nD,
      r.2.mem ((c.tc : Thread Cert.BwdConv.nD Cert.BwdConv.τ).loc Cert.BwdConv.main_arg0) = m ((c.tc : Thread Cert.BwdConv.nD Cert.BwdConv.τ).loc Cert.BwdConv.main_arg0)
      ∧ r.2.mem ((c.tc : Thread Cert.BwdConv.nD Cert.BwdConv.τ).loc Cert.BwdConv.main_arg1) = m ((c.tc : Thread Cert.BwdConv.nD Cert.BwdConv.τ).loc Cert.BwdConv.main_arg1)
      ∧ r.2.mem ((c.tc : Thread Cert.BwdConv.nD Cert.BwdConv.τ).loc Cert.BwdConv.main_arg2) = m ((c.tc : Thread Cert.BwdConv.nD Cert.BwdConv.τ).loc Cert.BwdConv.main_arg2)
      ∧ r.2.mem ((c.tc : Thread Cert.BwdConv.nD Cert.BwdConv.τ).loc Cert.BwdConv.main_arg3) = m ((c.tc : Thread Cert.BwdConv.nD Cert.BwdConv.τ).loc Cert.BwdConv.main_arg3)
      ∧ r.2.mem ((c.tc : Thread Cert.BwdConv.nD Cert.BwdConv.τ).loc Cert.BwdConv.main_arg4) = m ((c.tc : Thread Cert.BwdConv.nD Cert.BwdConv.τ).loc Cert.BwdConv.main_arg4)
      ∧ r.2.mem ((c.tc : Thread Cert.BwdConv.nD Cert.BwdConv.τ).loc Cert.BwdConv.main_arg5) = m ((c.tc : Thread Cert.BwdConv.nD Cert.BwdConv.τ).loc Cert.BwdConv.main_arg5)
      ∧ r.2.mem ((c.tc : Thread Cert.BwdConv.nD Cert.BwdConv.τ).loc Cert.BwdConv.main_arg6) = m ((c.tc : Thread Cert.BwdConv.nD Cert.BwdConv.τ).loc Cert.BwdConv.main_arg6)
      ∧ r.2.mem ((c.tc : Thread Cert.BwdConv.nD Cert.BwdConv.τ).loc Cert.BwdConv.main_arg7) = m ((c.tc : Thread Cert.BwdConv.nD Cert.BwdConv.τ).loc Cert.BwdConv.main_arg7))
      ∧ r.2.sem = fun _ => 0)

def quiescent_BwdConvIdeal [hBwdConvIdeal : Cert.BwdConvIdeal.Facts] : Prop :=
  ∀ (m : (ℓ : Loc Cert.BwdConvIdeal.nD Cert.BwdConvIdeal.τ Cert.BwdConvIdeal.sig) → Buf (Elt Ideal) ℓ) (g : Dev Cert.BwdConvIdeal.nD → PrngReg), Pre_BwdConvIdeal m →
    θ_run (Cert.BwdConvIdeal.defs (F := Ideal)) (onTc (τ := Cert.BwdConvIdeal.τ) (Cert.BwdConvIdeal.main (F := Ideal))) ⟨m, fun _ => 0, g⟩ (fun r => (∀ c : Dev Cert.BwdConvIdeal.nD,
      r.2.mem ((c.tc : Thread Cert.BwdConvIdeal.nD Cert.BwdConvIdeal.τ).loc Cert.BwdConvIdeal.main_arg0) = m ((c.tc : Thread Cert.BwdConvIdeal.nD Cert.BwdConvIdeal.τ).loc Cert.BwdConvIdeal.main_arg0)
      ∧ r.2.mem ((c.tc : Thread Cert.BwdConvIdeal.nD Cert.BwdConvIdeal.τ).loc Cert.BwdConvIdeal.main_arg1) = m ((c.tc : Thread Cert.BwdConvIdeal.nD Cert.BwdConvIdeal.τ).loc Cert.BwdConvIdeal.main_arg1)
      ∧ r.2.mem ((c.tc : Thread Cert.BwdConvIdeal.nD Cert.BwdConvIdeal.τ).loc Cert.BwdConvIdeal.main_arg2) = m ((c.tc : Thread Cert.BwdConvIdeal.nD Cert.BwdConvIdeal.τ).loc Cert.BwdConvIdeal.main_arg2)
      ∧ r.2.mem ((c.tc : Thread Cert.BwdConvIdeal.nD Cert.BwdConvIdeal.τ).loc Cert.BwdConvIdeal.main_arg3) = m ((c.tc : Thread Cert.BwdConvIdeal.nD Cert.BwdConvIdeal.τ).loc Cert.BwdConvIdeal.main_arg3)
      ∧ r.2.mem ((c.tc : Thread Cert.BwdConvIdeal.nD Cert.BwdConvIdeal.τ).loc Cert.BwdConvIdeal.main_arg4) = m ((c.tc : Thread Cert.BwdConvIdeal.nD Cert.BwdConvIdeal.τ).loc Cert.BwdConvIdeal.main_arg4)
      ∧ r.2.mem ((c.tc : Thread Cert.BwdConvIdeal.nD Cert.BwdConvIdeal.τ).loc Cert.BwdConvIdeal.main_arg5) = m ((c.tc : Thread Cert.BwdConvIdeal.nD Cert.BwdConvIdeal.τ).loc Cert.BwdConvIdeal.main_arg5)
      ∧ r.2.mem ((c.tc : Thread Cert.BwdConvIdeal.nD Cert.BwdConvIdeal.τ).loc Cert.BwdConvIdeal.main_arg6) = m ((c.tc : Thread Cert.BwdConvIdeal.nD Cert.BwdConvIdeal.τ).loc Cert.BwdConvIdeal.main_arg6)
      ∧ r.2.mem ((c.tc : Thread Cert.BwdConvIdeal.nD Cert.BwdConvIdeal.τ).loc Cert.BwdConvIdeal.main_arg7) = m ((c.tc : Thread Cert.BwdConvIdeal.nD Cert.BwdConvIdeal.τ).loc Cert.BwdConvIdeal.main_arg7))
      ∧ r.2.sem = fun _ => 0)

def quiescent_RefConvIdeal [hRefConvIdeal : Cert.RefConvIdeal.Facts] : Prop :=
  ∀ (m : (ℓ : Loc Cert.RefConvIdeal.nD Cert.RefConvIdeal.τ Cert.RefConvIdeal.sig) → Buf (Elt Ideal) ℓ) (g : Dev Cert.RefConvIdeal.nD → PrngReg), Pre_RefConvIdeal m →
    θ_run (Cert.RefConvIdeal.defs (F := Ideal)) (onTc (τ := Cert.RefConvIdeal.τ) (Cert.RefConvIdeal.main (F := Ideal))) ⟨m, fun _ => 0, g⟩ (fun r => (∀ c : Dev Cert.RefConvIdeal.nD,
      r.2.mem ((c.tc : Thread Cert.RefConvIdeal.nD Cert.RefConvIdeal.τ).loc Cert.RefConvIdeal.main_arg0) = m ((c.tc : Thread Cert.RefConvIdeal.nD Cert.RefConvIdeal.τ).loc Cert.RefConvIdeal.main_arg0)
      ∧ r.2.mem ((c.tc : Thread Cert.RefConvIdeal.nD Cert.RefConvIdeal.τ).loc Cert.RefConvIdeal.main_arg1) = m ((c.tc : Thread Cert.RefConvIdeal.nD Cert.RefConvIdeal.τ).loc Cert.RefConvIdeal.main_arg1)
      ∧ r.2.mem ((c.tc : Thread Cert.RefConvIdeal.nD Cert.RefConvIdeal.τ).loc Cert.RefConvIdeal.main_arg2) = m ((c.tc : Thread Cert.RefConvIdeal.nD Cert.RefConvIdeal.τ).loc Cert.RefConvIdeal.main_arg2)
      ∧ r.2.mem ((c.tc : Thread Cert.RefConvIdeal.nD Cert.RefConvIdeal.τ).loc Cert.RefConvIdeal.main_arg3) = m ((c.tc : Thread Cert.RefConvIdeal.nD Cert.RefConvIdeal.τ).loc Cert.RefConvIdeal.main_arg3)
      ∧ r.2.mem ((c.tc : Thread Cert.RefConvIdeal.nD Cert.RefConvIdeal.τ).loc Cert.RefConvIdeal.main_arg4) = m ((c.tc : Thread Cert.RefConvIdeal.nD Cert.RefConvIdeal.τ).loc Cert.RefConvIdeal.main_arg4)
      ∧ r.2.mem ((c.tc : Thread Cert.RefConvIdeal.nD Cert.RefConvIdeal.τ).loc Cert.RefConvIdeal.main_arg5) = m ((c.tc : Thread Cert.RefConvIdeal.nD Cert.RefConvIdeal.τ).loc Cert.RefConvIdeal.main_arg5)
      ∧ r.2.mem ((c.tc : Thread Cert.RefConvIdeal.nD Cert.RefConvIdeal.τ).loc Cert.RefConvIdeal.main_arg6) = m ((c.tc : Thread Cert.RefConvIdeal.nD Cert.RefConvIdeal.τ).loc Cert.RefConvIdeal.main_arg6)
      ∧ r.2.mem ((c.tc : Thread Cert.RefConvIdeal.nD Cert.RefConvIdeal.τ).loc Cert.RefConvIdeal.main_arg7) = m ((c.tc : Thread Cert.RefConvIdeal.nD Cert.RefConvIdeal.τ).loc Cert.RefConvIdeal.main_arg7))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4)
      ∧ r.2.mem ((c.tc : Thread Cert.Mlp.nD Cert.Mlp.τ).loc Cert.Mlp.main_arg5) = m ((c.tc : Thread Cert.Mlp.nD Cert.Mlp.τ).loc Cert.Mlp.main_arg5)
      ∧ r.2.mem ((c.tc : Thread Cert.Mlp.nD Cert.Mlp.τ).loc Cert.Mlp.main_arg6) = m ((c.tc : Thread Cert.Mlp.nD Cert.Mlp.τ).loc Cert.Mlp.main_arg6)
      ∧ r.2.mem ((c.tc : Thread Cert.Mlp.nD Cert.Mlp.τ).loc Cert.Mlp.main_arg7) = m ((c.tc : Thread Cert.Mlp.nD Cert.Mlp.τ).loc Cert.Mlp.main_arg7))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
      ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
      ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6)
      ∧ r.2.mem ((c.tc : Thread Cert.MlpIdeal.nD Cert.MlpIdeal.τ).loc Cert.MlpIdeal.main_arg7) = m ((c.tc : Thread Cert.MlpIdeal.nD Cert.MlpIdeal.τ).loc Cert.MlpIdeal.main_arg7))
      ∧ r.2.sem = fun _ => 0)

def quiescent_MlpIdeal_pre_finite_mlp [hMlpIdeal : Cert.MlpIdeal.Facts] [hPre_finite_mlp : Cert.Pre_finite_mlp.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal_finite_mlp m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
      ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
      ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6)
      ∧ r.2.mem ((c.tc : Thread Cert.MlpIdeal.nD Cert.MlpIdeal.τ).loc Cert.MlpIdeal.main_arg7) = m ((c.tc : Thread Cert.MlpIdeal.nD Cert.MlpIdeal.τ).loc Cert.MlpIdeal.main_arg7))
      ∧ r.2.sem = fun _ => 0)

def quiescent_RefMlpIdeal [hRefMlpIdeal : Cert.RefMlpIdeal.Facts] : Prop :=
  ∀ (m : (ℓ : Loc Cert.RefMlpIdeal.nD Cert.RefMlpIdeal.τ Cert.RefMlpIdeal.sig) → Buf (Elt Ideal) ℓ) (g : Dev Cert.RefMlpIdeal.nD → PrngReg), Pre_RefMlpIdeal m →
    θ_run (Cert.RefMlpIdeal.defs (F := Ideal)) (onTc (τ := Cert.RefMlpIdeal.τ) (Cert.RefMlpIdeal.main (F := Ideal))) ⟨m, fun _ => 0, g⟩ (fun r => (∀ c : Dev Cert.RefMlpIdeal.nD,
      r.2.mem ((c.tc : Thread Cert.RefMlpIdeal.nD Cert.RefMlpIdeal.τ).loc Cert.RefMlpIdeal.main_arg0) = m ((c.tc : Thread Cert.RefMlpIdeal.nD Cert.RefMlpIdeal.τ).loc Cert.RefMlpIdeal.main_arg0)
      ∧ r.2.mem ((c.tc : Thread Cert.RefMlpIdeal.nD Cert.RefMlpIdeal.τ).loc Cert.RefMlpIdeal.main_arg1) = m ((c.tc : Thread Cert.RefMlpIdeal.nD Cert.RefMlpIdeal.τ).loc Cert.RefMlpIdeal.main_arg1)
      ∧ r.2.mem ((c.tc : Thread Cert.RefMlpIdeal.nD Cert.RefMlpIdeal.τ).loc Cert.RefMlpIdeal.main_arg2) = m ((c.tc : Thread Cert.RefMlpIdeal.nD Cert.RefMlpIdeal.τ).loc Cert.RefMlpIdeal.main_arg2)
      ∧ r.2.mem ((c.tc : Thread Cert.RefMlpIdeal.nD Cert.RefMlpIdeal.τ).loc Cert.RefMlpIdeal.main_arg3) = m ((c.tc : Thread Cert.RefMlpIdeal.nD Cert.RefMlpIdeal.τ).loc Cert.RefMlpIdeal.main_arg3)
      ∧ r.2.mem ((c.tc : Thread Cert.RefMlpIdeal.nD Cert.RefMlpIdeal.τ).loc Cert.RefMlpIdeal.main_arg4) = m ((c.tc : Thread Cert.RefMlpIdeal.nD Cert.RefMlpIdeal.τ).loc Cert.RefMlpIdeal.main_arg4)
      ∧ r.2.mem ((c.tc : Thread Cert.RefMlpIdeal.nD Cert.RefMlpIdeal.τ).loc Cert.RefMlpIdeal.main_arg5) = m ((c.tc : Thread Cert.RefMlpIdeal.nD Cert.RefMlpIdeal.τ).loc Cert.RefMlpIdeal.main_arg5)
      ∧ r.2.mem ((c.tc : Thread Cert.RefMlpIdeal.nD Cert.RefMlpIdeal.τ).loc Cert.RefMlpIdeal.main_arg6) = m ((c.tc : Thread Cert.RefMlpIdeal.nD Cert.RefMlpIdeal.τ).loc Cert.RefMlpIdeal.main_arg6)
      ∧ r.2.mem ((c.tc : Thread Cert.RefMlpIdeal.nD Cert.RefMlpIdeal.τ).loc Cert.RefMlpIdeal.main_arg7) = m ((c.tc : Thread Cert.RefMlpIdeal.nD Cert.RefMlpIdeal.τ).loc Cert.RefMlpIdeal.main_arg7))
      ∧ r.2.sem = fun _ => 0)

def quiescent_RefMlpIdeal_pre_finite_mlp [hRefMlpIdeal : Cert.RefMlpIdeal.Facts] [hPre_finite_mlp : Cert.Pre_finite_mlp.Facts] : Prop :=
  ∀ (m : (ℓ : Loc Cert.RefMlpIdeal.nD Cert.RefMlpIdeal.τ Cert.RefMlpIdeal.sig) → Buf (Elt Ideal) ℓ) (g : Dev Cert.RefMlpIdeal.nD → PrngReg), Pre_RefMlpIdeal_finite_mlp m →
    θ_run (Cert.RefMlpIdeal.defs (F := Ideal)) (onTc (τ := Cert.RefMlpIdeal.τ) (Cert.RefMlpIdeal.main (F := Ideal))) ⟨m, fun _ => 0, g⟩ (fun r => (∀ c : Dev Cert.RefMlpIdeal.nD,
      r.2.mem ((c.tc : Thread Cert.RefMlpIdeal.nD Cert.RefMlpIdeal.τ).loc Cert.RefMlpIdeal.main_arg0) = m ((c.tc : Thread Cert.RefMlpIdeal.nD Cert.RefMlpIdeal.τ).loc Cert.RefMlpIdeal.main_arg0)
      ∧ r.2.mem ((c.tc : Thread Cert.RefMlpIdeal.nD Cert.RefMlpIdeal.τ).loc Cert.RefMlpIdeal.main_arg1) = m ((c.tc : Thread Cert.RefMlpIdeal.nD Cert.RefMlpIdeal.τ).loc Cert.RefMlpIdeal.main_arg1)
      ∧ r.2.mem ((c.tc : Thread Cert.RefMlpIdeal.nD Cert.RefMlpIdeal.τ).loc Cert.RefMlpIdeal.main_arg2) = m ((c.tc : Thread Cert.RefMlpIdeal.nD Cert.RefMlpIdeal.τ).loc Cert.RefMlpIdeal.main_arg2)
      ∧ r.2.mem ((c.tc : Thread Cert.RefMlpIdeal.nD Cert.RefMlpIdeal.τ).loc Cert.RefMlpIdeal.main_arg3) = m ((c.tc : Thread Cert.RefMlpIdeal.nD Cert.RefMlpIdeal.τ).loc Cert.RefMlpIdeal.main_arg3)
      ∧ r.2.mem ((c.tc : Thread Cert.RefMlpIdeal.nD Cert.RefMlpIdeal.τ).loc Cert.RefMlpIdeal.main_arg4) = m ((c.tc : Thread Cert.RefMlpIdeal.nD Cert.RefMlpIdeal.τ).loc Cert.RefMlpIdeal.main_arg4)
      ∧ r.2.mem ((c.tc : Thread Cert.RefMlpIdeal.nD Cert.RefMlpIdeal.τ).loc Cert.RefMlpIdeal.main_arg5) = m ((c.tc : Thread Cert.RefMlpIdeal.nD Cert.RefMlpIdeal.τ).loc Cert.RefMlpIdeal.main_arg5)
      ∧ r.2.mem ((c.tc : Thread Cert.RefMlpIdeal.nD Cert.RefMlpIdeal.τ).loc Cert.RefMlpIdeal.main_arg6) = m ((c.tc : Thread Cert.RefMlpIdeal.nD Cert.RefMlpIdeal.τ).loc Cert.RefMlpIdeal.main_arg6)
      ∧ r.2.mem ((c.tc : Thread Cert.RefMlpIdeal.nD Cert.RefMlpIdeal.τ).loc Cert.RefMlpIdeal.main_arg7) = m ((c.tc : Thread Cert.RefMlpIdeal.nD Cert.RefMlpIdeal.τ).loc Cert.RefMlpIdeal.main_arg7))
      ∧ r.2.sem = fun _ => 0)

def quiescent_BwdMix [hBwdMix : Cert.BwdMix.Facts] : Prop :=
  ∀ (m : (ℓ : Loc Cert.BwdMix.nD Cert.BwdMix.τ Cert.BwdMix.sig) → Buf (Elt Bits) ℓ) (g : Dev Cert.BwdMix.nD → PrngReg), Pre_BwdMix m →
    θ_run (Cert.BwdMix.defs (F := Bits)) (onTc (τ := Cert.BwdMix.τ) (Cert.BwdMix.main (F := Bits))) ⟨m, fun _ => 0, g⟩ (fun r => (∀ c : Dev Cert.BwdMix.nD,
      r.2.mem ((c.tc : Thread Cert.BwdMix.nD Cert.BwdMix.τ).loc Cert.BwdMix.main_arg0) = m ((c.tc : Thread Cert.BwdMix.nD Cert.BwdMix.τ).loc Cert.BwdMix.main_arg0)
      ∧ r.2.mem ((c.tc : Thread Cert.BwdMix.nD Cert.BwdMix.τ).loc Cert.BwdMix.main_arg1) = m ((c.tc : Thread Cert.BwdMix.nD Cert.BwdMix.τ).loc Cert.BwdMix.main_arg1)
      ∧ r.2.mem ((c.tc : Thread Cert.BwdMix.nD Cert.BwdMix.τ).loc Cert.BwdMix.main_arg2) = m ((c.tc : Thread Cert.BwdMix.nD Cert.BwdMix.τ).loc Cert.BwdMix.main_arg2)
      ∧ r.2.mem ((c.tc : Thread Cert.BwdMix.nD Cert.BwdMix.τ).loc Cert.BwdMix.main_arg3) = m ((c.tc : Thread Cert.BwdMix.nD Cert.BwdMix.τ).loc Cert.BwdMix.main_arg3)
      ∧ r.2.mem ((c.tc : Thread Cert.BwdMix.nD Cert.BwdMix.τ).loc Cert.BwdMix.main_arg4) = m ((c.tc : Thread Cert.BwdMix.nD Cert.BwdMix.τ).loc Cert.BwdMix.main_arg4)
      ∧ r.2.mem ((c.tc : Thread Cert.BwdMix.nD Cert.BwdMix.τ).loc Cert.BwdMix.main_arg5) = m ((c.tc : Thread Cert.BwdMix.nD Cert.BwdMix.τ).loc Cert.BwdMix.main_arg5)
      ∧ r.2.mem ((c.tc : Thread Cert.BwdMix.nD Cert.BwdMix.τ).loc Cert.BwdMix.main_arg6) = m ((c.tc : Thread Cert.BwdMix.nD Cert.BwdMix.τ).loc Cert.BwdMix.main_arg6)
      ∧ r.2.mem ((c.tc : Thread Cert.BwdMix.nD Cert.BwdMix.τ).loc Cert.BwdMix.main_arg7) = m ((c.tc : Thread Cert.BwdMix.nD Cert.BwdMix.τ).loc Cert.BwdMix.main_arg7)
      ∧ r.2.mem ((c.tc : Thread Cert.BwdMix.nD Cert.BwdMix.τ).loc Cert.BwdMix.main_arg8) = m ((c.tc : Thread Cert.BwdMix.nD Cert.BwdMix.τ).loc Cert.BwdMix.main_arg8)
      ∧ r.2.mem ((c.tc : Thread Cert.BwdMix.nD Cert.BwdMix.τ).loc Cert.BwdMix.main_arg9) = m ((c.tc : Thread Cert.BwdMix.nD Cert.BwdMix.τ).loc Cert.BwdMix.main_arg9)
      ∧ r.2.mem ((c.tc : Thread Cert.BwdMix.nD Cert.BwdMix.τ).loc Cert.BwdMix.main_arg10) = m ((c.tc : Thread Cert.BwdMix.nD Cert.BwdMix.τ).loc Cert.BwdMix.main_arg10))
      ∧ r.2.sem = fun _ => 0)

def quiescent_BwdMixIdeal [hBwdMixIdeal : Cert.BwdMixIdeal.Facts] : Prop :=
  ∀ (m : (ℓ : Loc Cert.BwdMixIdeal.nD Cert.BwdMixIdeal.τ Cert.BwdMixIdeal.sig) → Buf (Elt Ideal) ℓ) (g : Dev Cert.BwdMixIdeal.nD → PrngReg), Pre_BwdMixIdeal m →
    θ_run (Cert.BwdMixIdeal.defs (F := Ideal)) (onTc (τ := Cert.BwdMixIdeal.τ) (Cert.BwdMixIdeal.main (F := Ideal))) ⟨m, fun _ => 0, g⟩ (fun r => (∀ c : Dev Cert.BwdMixIdeal.nD,
      r.2.mem ((c.tc : Thread Cert.BwdMixIdeal.nD Cert.BwdMixIdeal.τ).loc Cert.BwdMixIdeal.main_arg0) = m ((c.tc : Thread Cert.BwdMixIdeal.nD Cert.BwdMixIdeal.τ).loc Cert.BwdMixIdeal.main_arg0)
      ∧ r.2.mem ((c.tc : Thread Cert.BwdMixIdeal.nD Cert.BwdMixIdeal.τ).loc Cert.BwdMixIdeal.main_arg1) = m ((c.tc : Thread Cert.BwdMixIdeal.nD Cert.BwdMixIdeal.τ).loc Cert.BwdMixIdeal.main_arg1)
      ∧ r.2.mem ((c.tc : Thread Cert.BwdMixIdeal.nD Cert.BwdMixIdeal.τ).loc Cert.BwdMixIdeal.main_arg2) = m ((c.tc : Thread Cert.BwdMixIdeal.nD Cert.BwdMixIdeal.τ).loc Cert.BwdMixIdeal.main_arg2)
      ∧ r.2.mem ((c.tc : Thread Cert.BwdMixIdeal.nD Cert.BwdMixIdeal.τ).loc Cert.BwdMixIdeal.main_arg3) = m ((c.tc : Thread Cert.BwdMixIdeal.nD Cert.BwdMixIdeal.τ).loc Cert.BwdMixIdeal.main_arg3)
      ∧ r.2.mem ((c.tc : Thread Cert.BwdMixIdeal.nD Cert.BwdMixIdeal.τ).loc Cert.BwdMixIdeal.main_arg4) = m ((c.tc : Thread Cert.BwdMixIdeal.nD Cert.BwdMixIdeal.τ).loc Cert.BwdMixIdeal.main_arg4)
      ∧ r.2.mem ((c.tc : Thread Cert.BwdMixIdeal.nD Cert.BwdMixIdeal.τ).loc Cert.BwdMixIdeal.main_arg5) = m ((c.tc : Thread Cert.BwdMixIdeal.nD Cert.BwdMixIdeal.τ).loc Cert.BwdMixIdeal.main_arg5)
      ∧ r.2.mem ((c.tc : Thread Cert.BwdMixIdeal.nD Cert.BwdMixIdeal.τ).loc Cert.BwdMixIdeal.main_arg6) = m ((c.tc : Thread Cert.BwdMixIdeal.nD Cert.BwdMixIdeal.τ).loc Cert.BwdMixIdeal.main_arg6)
      ∧ r.2.mem ((c.tc : Thread Cert.BwdMixIdeal.nD Cert.BwdMixIdeal.τ).loc Cert.BwdMixIdeal.main_arg7) = m ((c.tc : Thread Cert.BwdMixIdeal.nD Cert.BwdMixIdeal.τ).loc Cert.BwdMixIdeal.main_arg7)
      ∧ r.2.mem ((c.tc : Thread Cert.BwdMixIdeal.nD Cert.BwdMixIdeal.τ).loc Cert.BwdMixIdeal.main_arg8) = m ((c.tc : Thread Cert.BwdMixIdeal.nD Cert.BwdMixIdeal.τ).loc Cert.BwdMixIdeal.main_arg8)
      ∧ r.2.mem ((c.tc : Thread Cert.BwdMixIdeal.nD Cert.BwdMixIdeal.τ).loc Cert.BwdMixIdeal.main_arg9) = m ((c.tc : Thread Cert.BwdMixIdeal.nD Cert.BwdMixIdeal.τ).loc Cert.BwdMixIdeal.main_arg9)
      ∧ r.2.mem ((c.tc : Thread Cert.BwdMixIdeal.nD Cert.BwdMixIdeal.τ).loc Cert.BwdMixIdeal.main_arg10) = m ((c.tc : Thread Cert.BwdMixIdeal.nD Cert.BwdMixIdeal.τ).loc Cert.BwdMixIdeal.main_arg10))
      ∧ r.2.sem = fun _ => 0)

def quiescent_BwdMixIdeal_pre_finite_mix [hBwdMixIdeal : Cert.BwdMixIdeal.Facts] [hPre_finite_mix : Cert.Pre_finite_mix.Facts] : Prop :=
  ∀ (m : (ℓ : Loc Cert.BwdMixIdeal.nD Cert.BwdMixIdeal.τ Cert.BwdMixIdeal.sig) → Buf (Elt Ideal) ℓ) (g : Dev Cert.BwdMixIdeal.nD → PrngReg), Pre_BwdMixIdeal_finite_mix m →
    θ_run (Cert.BwdMixIdeal.defs (F := Ideal)) (onTc (τ := Cert.BwdMixIdeal.τ) (Cert.BwdMixIdeal.main (F := Ideal))) ⟨m, fun _ => 0, g⟩ (fun r => (∀ c : Dev Cert.BwdMixIdeal.nD,
      r.2.mem ((c.tc : Thread Cert.BwdMixIdeal.nD Cert.BwdMixIdeal.τ).loc Cert.BwdMixIdeal.main_arg0) = m ((c.tc : Thread Cert.BwdMixIdeal.nD Cert.BwdMixIdeal.τ).loc Cert.BwdMixIdeal.main_arg0)
      ∧ r.2.mem ((c.tc : Thread Cert.BwdMixIdeal.nD Cert.BwdMixIdeal.τ).loc Cert.BwdMixIdeal.main_arg1) = m ((c.tc : Thread Cert.BwdMixIdeal.nD Cert.BwdMixIdeal.τ).loc Cert.BwdMixIdeal.main_arg1)
      ∧ r.2.mem ((c.tc : Thread Cert.BwdMixIdeal.nD Cert.BwdMixIdeal.τ).loc Cert.BwdMixIdeal.main_arg2) = m ((c.tc : Thread Cert.BwdMixIdeal.nD Cert.BwdMixIdeal.τ).loc Cert.BwdMixIdeal.main_arg2)
      ∧ r.2.mem ((c.tc : Thread Cert.BwdMixIdeal.nD Cert.BwdMixIdeal.τ).loc Cert.BwdMixIdeal.main_arg3) = m ((c.tc : Thread Cert.BwdMixIdeal.nD Cert.BwdMixIdeal.τ).loc Cert.BwdMixIdeal.main_arg3)
      ∧ r.2.mem ((c.tc : Thread Cert.BwdMixIdeal.nD Cert.BwdMixIdeal.τ).loc Cert.BwdMixIdeal.main_arg4) = m ((c.tc : Thread Cert.BwdMixIdeal.nD Cert.BwdMixIdeal.τ).loc Cert.BwdMixIdeal.main_arg4)
      ∧ r.2.mem ((c.tc : Thread Cert.BwdMixIdeal.nD Cert.BwdMixIdeal.τ).loc Cert.BwdMixIdeal.main_arg5) = m ((c.tc : Thread Cert.BwdMixIdeal.nD Cert.BwdMixIdeal.τ).loc Cert.BwdMixIdeal.main_arg5)
      ∧ r.2.mem ((c.tc : Thread Cert.BwdMixIdeal.nD Cert.BwdMixIdeal.τ).loc Cert.BwdMixIdeal.main_arg6) = m ((c.tc : Thread Cert.BwdMixIdeal.nD Cert.BwdMixIdeal.τ).loc Cert.BwdMixIdeal.main_arg6)
      ∧ r.2.mem ((c.tc : Thread Cert.BwdMixIdeal.nD Cert.BwdMixIdeal.τ).loc Cert.BwdMixIdeal.main_arg7) = m ((c.tc : Thread Cert.BwdMixIdeal.nD Cert.BwdMixIdeal.τ).loc Cert.BwdMixIdeal.main_arg7)
      ∧ r.2.mem ((c.tc : Thread Cert.BwdMixIdeal.nD Cert.BwdMixIdeal.τ).loc Cert.BwdMixIdeal.main_arg8) = m ((c.tc : Thread Cert.BwdMixIdeal.nD Cert.BwdMixIdeal.τ).loc Cert.BwdMixIdeal.main_arg8)
      ∧ r.2.mem ((c.tc : Thread Cert.BwdMixIdeal.nD Cert.BwdMixIdeal.τ).loc Cert.BwdMixIdeal.main_arg9) = m ((c.tc : Thread Cert.BwdMixIdeal.nD Cert.BwdMixIdeal.τ).loc Cert.BwdMixIdeal.main_arg9)
      ∧ r.2.mem ((c.tc : Thread Cert.BwdMixIdeal.nD Cert.BwdMixIdeal.τ).loc Cert.BwdMixIdeal.main_arg10) = m ((c.tc : Thread Cert.BwdMixIdeal.nD Cert.BwdMixIdeal.τ).loc Cert.BwdMixIdeal.main_arg10))
      ∧ r.2.sem = fun _ => 0)

def quiescent_RefMixIdeal [hRefMixIdeal : Cert.RefMixIdeal.Facts] : Prop :=
  ∀ (m : (ℓ : Loc Cert.RefMixIdeal.nD Cert.RefMixIdeal.τ Cert.RefMixIdeal.sig) → Buf (Elt Ideal) ℓ) (g : Dev Cert.RefMixIdeal.nD → PrngReg), Pre_RefMixIdeal m →
    θ_run (Cert.RefMixIdeal.defs (F := Ideal)) (onTc (τ := Cert.RefMixIdeal.τ) (Cert.RefMixIdeal.main (F := Ideal))) ⟨m, fun _ => 0, g⟩ (fun r => (∀ c : Dev Cert.RefMixIdeal.nD,
      r.2.mem ((c.tc : Thread Cert.RefMixIdeal.nD Cert.RefMixIdeal.τ).loc Cert.RefMixIdeal.main_arg0) = m ((c.tc : Thread Cert.RefMixIdeal.nD Cert.RefMixIdeal.τ).loc Cert.RefMixIdeal.main_arg0)
      ∧ r.2.mem ((c.tc : Thread Cert.RefMixIdeal.nD Cert.RefMixIdeal.τ).loc Cert.RefMixIdeal.main_arg1) = m ((c.tc : Thread Cert.RefMixIdeal.nD Cert.RefMixIdeal.τ).loc Cert.RefMixIdeal.main_arg1)
      ∧ r.2.mem ((c.tc : Thread Cert.RefMixIdeal.nD Cert.RefMixIdeal.τ).loc Cert.RefMixIdeal.main_arg2) = m ((c.tc : Thread Cert.RefMixIdeal.nD Cert.RefMixIdeal.τ).loc Cert.RefMixIdeal.main_arg2)
      ∧ r.2.mem ((c.tc : Thread Cert.RefMixIdeal.nD Cert.RefMixIdeal.τ).loc Cert.RefMixIdeal.main_arg3) = m ((c.tc : Thread Cert.RefMixIdeal.nD Cert.RefMixIdeal.τ).loc Cert.RefMixIdeal.main_arg3)
      ∧ r.2.mem ((c.tc : Thread Cert.RefMixIdeal.nD Cert.RefMixIdeal.τ).loc Cert.RefMixIdeal.main_arg4) = m ((c.tc : Thread Cert.RefMixIdeal.nD Cert.RefMixIdeal.τ).loc Cert.RefMixIdeal.main_arg4)
      ∧ r.2.mem ((c.tc : Thread Cert.RefMixIdeal.nD Cert.RefMixIdeal.τ).loc Cert.RefMixIdeal.main_arg5) = m ((c.tc : Thread Cert.RefMixIdeal.nD Cert.RefMixIdeal.τ).loc Cert.RefMixIdeal.main_arg5)
      ∧ r.2.mem ((c.tc : Thread Cert.RefMixIdeal.nD Cert.RefMixIdeal.τ).loc Cert.RefMixIdeal.main_arg6) = m ((c.tc : Thread Cert.RefMixIdeal.nD Cert.RefMixIdeal.τ).loc Cert.RefMixIdeal.main_arg6)
      ∧ r.2.mem ((c.tc : Thread Cert.RefMixIdeal.nD Cert.RefMixIdeal.τ).loc Cert.RefMixIdeal.main_arg7) = m ((c.tc : Thread Cert.RefMixIdeal.nD Cert.RefMixIdeal.τ).loc Cert.RefMixIdeal.main_arg7)
      ∧ r.2.mem ((c.tc : Thread Cert.RefMixIdeal.nD Cert.RefMixIdeal.τ).loc Cert.RefMixIdeal.main_arg8) = m ((c.tc : Thread Cert.RefMixIdeal.nD Cert.RefMixIdeal.τ).loc Cert.RefMixIdeal.main_arg8)
      ∧ r.2.mem ((c.tc : Thread Cert.RefMixIdeal.nD Cert.RefMixIdeal.τ).loc Cert.RefMixIdeal.main_arg9) = m ((c.tc : Thread Cert.RefMixIdeal.nD Cert.RefMixIdeal.τ).loc Cert.RefMixIdeal.main_arg9)
      ∧ r.2.mem ((c.tc : Thread Cert.RefMixIdeal.nD Cert.RefMixIdeal.τ).loc Cert.RefMixIdeal.main_arg10) = m ((c.tc : Thread Cert.RefMixIdeal.nD Cert.RefMixIdeal.τ).loc Cert.RefMixIdeal.main_arg10))
      ∧ r.2.sem = fun _ => 0)

def quiescent_RefMixIdeal_pre_finite_mix [hRefMixIdeal : Cert.RefMixIdeal.Facts] [hPre_finite_mix : Cert.Pre_finite_mix.Facts] : Prop :=
  ∀ (m : (ℓ : Loc Cert.RefMixIdeal.nD Cert.RefMixIdeal.τ Cert.RefMixIdeal.sig) → Buf (Elt Ideal) ℓ) (g : Dev Cert.RefMixIdeal.nD → PrngReg), Pre_RefMixIdeal_finite_mix m →
    θ_run (Cert.RefMixIdeal.defs (F := Ideal)) (onTc (τ := Cert.RefMixIdeal.τ) (Cert.RefMixIdeal.main (F := Ideal))) ⟨m, fun _ => 0, g⟩ (fun r => (∀ c : Dev Cert.RefMixIdeal.nD,
      r.2.mem ((c.tc : Thread Cert.RefMixIdeal.nD Cert.RefMixIdeal.τ).loc Cert.RefMixIdeal.main_arg0) = m ((c.tc : Thread Cert.RefMixIdeal.nD Cert.RefMixIdeal.τ).loc Cert.RefMixIdeal.main_arg0)
      ∧ r.2.mem ((c.tc : Thread Cert.RefMixIdeal.nD Cert.RefMixIdeal.τ).loc Cert.RefMixIdeal.main_arg1) = m ((c.tc : Thread Cert.RefMixIdeal.nD Cert.RefMixIdeal.τ).loc Cert.RefMixIdeal.main_arg1)
      ∧ r.2.mem ((c.tc : Thread Cert.RefMixIdeal.nD Cert.RefMixIdeal.τ).loc Cert.RefMixIdeal.main_arg2) = m ((c.tc : Thread Cert.RefMixIdeal.nD Cert.RefMixIdeal.τ).loc Cert.RefMixIdeal.main_arg2)
      ∧ r.2.mem ((c.tc : Thread Cert.RefMixIdeal.nD Cert.RefMixIdeal.τ).loc Cert.RefMixIdeal.main_arg3) = m ((c.tc : Thread Cert.RefMixIdeal.nD Cert.RefMixIdeal.τ).loc Cert.RefMixIdeal.main_arg3)
      ∧ r.2.mem ((c.tc : Thread Cert.RefMixIdeal.nD Cert.RefMixIdeal.τ).loc Cert.RefMixIdeal.main_arg4) = m ((c.tc : Thread Cert.RefMixIdeal.nD Cert.RefMixIdeal.τ).loc Cert.RefMixIdeal.main_arg4)
      ∧ r.2.mem ((c.tc : Thread Cert.RefMixIdeal.nD Cert.RefMixIdeal.τ).loc Cert.RefMixIdeal.main_arg5) = m ((c.tc : Thread Cert.RefMixIdeal.nD Cert.RefMixIdeal.τ).loc Cert.RefMixIdeal.main_arg5)
      ∧ r.2.mem ((c.tc : Thread Cert.RefMixIdeal.nD Cert.RefMixIdeal.τ).loc Cert.RefMixIdeal.main_arg6) = m ((c.tc : Thread Cert.RefMixIdeal.nD Cert.RefMixIdeal.τ).loc Cert.RefMixIdeal.main_arg6)
      ∧ r.2.mem ((c.tc : Thread Cert.RefMixIdeal.nD Cert.RefMixIdeal.τ).loc Cert.RefMixIdeal.main_arg7) = m ((c.tc : Thread Cert.RefMixIdeal.nD Cert.RefMixIdeal.τ).loc Cert.RefMixIdeal.main_arg7)
      ∧ r.2.mem ((c.tc : Thread Cert.RefMixIdeal.nD Cert.RefMixIdeal.τ).loc Cert.RefMixIdeal.main_arg8) = m ((c.tc : Thread Cert.RefMixIdeal.nD Cert.RefMixIdeal.τ).loc Cert.RefMixIdeal.main_arg8)
      ∧ r.2.mem ((c.tc : Thread Cert.RefMixIdeal.nD Cert.RefMixIdeal.τ).loc Cert.RefMixIdeal.main_arg9) = m ((c.tc : Thread Cert.RefMixIdeal.nD Cert.RefMixIdeal.τ).loc Cert.RefMixIdeal.main_arg9)
      ∧ r.2.mem ((c.tc : Thread Cert.RefMixIdeal.nD Cert.RefMixIdeal.τ).loc Cert.RefMixIdeal.main_arg10) = m ((c.tc : Thread Cert.RefMixIdeal.nD Cert.RefMixIdeal.τ).loc Cert.RefMixIdeal.main_arg10))
      ∧ r.2.sem = fun _ => 0)

def quiescent_FwdIn [hFwdIn : Cert.FwdIn.Facts] : Prop :=
  ∀ (m : (ℓ : Loc Cert.FwdIn.nD Cert.FwdIn.τ Cert.FwdIn.sig) → Buf (Elt Bits) ℓ) (g : Dev Cert.FwdIn.nD → PrngReg), Pre_FwdIn m →
    θ_run (Cert.FwdIn.defs (F := Bits)) (onTc (τ := Cert.FwdIn.τ) (Cert.FwdIn.main (F := Bits))) ⟨m, fun _ => 0, g⟩ (fun r => (∀ c : Dev Cert.FwdIn.nD,
      r.2.mem ((c.tc : Thread Cert.FwdIn.nD Cert.FwdIn.τ).loc Cert.FwdIn.main_arg0) = m ((c.tc : Thread Cert.FwdIn.nD Cert.FwdIn.τ).loc Cert.FwdIn.main_arg0)
      ∧ r.2.mem ((c.tc : Thread Cert.FwdIn.nD Cert.FwdIn.τ).loc Cert.FwdIn.main_arg1) = m ((c.tc : Thread Cert.FwdIn.nD Cert.FwdIn.τ).loc Cert.FwdIn.main_arg1)
      ∧ r.2.mem ((c.tc : Thread Cert.FwdIn.nD Cert.FwdIn.τ).loc Cert.FwdIn.main_arg2) = m ((c.tc : Thread Cert.FwdIn.nD Cert.FwdIn.τ).loc Cert.FwdIn.main_arg2)
      ∧ r.2.mem ((c.tc : Thread Cert.FwdIn.nD Cert.FwdIn.τ).loc Cert.FwdIn.main_arg3) = m ((c.tc : Thread Cert.FwdIn.nD Cert.FwdIn.τ).loc Cert.FwdIn.main_arg3))
      ∧ r.2.sem = fun _ => 0)

def quiescent_FwdInIdeal [hFwdInIdeal : Cert.FwdInIdeal.Facts] : Prop :=
  ∀ (m : (ℓ : Loc Cert.FwdInIdeal.nD Cert.FwdInIdeal.τ Cert.FwdInIdeal.sig) → Buf (Elt Ideal) ℓ) (g : Dev Cert.FwdInIdeal.nD → PrngReg), Pre_FwdInIdeal m →
    θ_run (Cert.FwdInIdeal.defs (F := Ideal)) (onTc (τ := Cert.FwdInIdeal.τ) (Cert.FwdInIdeal.main (F := Ideal))) ⟨m, fun _ => 0, g⟩ (fun r => (∀ c : Dev Cert.FwdInIdeal.nD,
      r.2.mem ((c.tc : Thread Cert.FwdInIdeal.nD Cert.FwdInIdeal.τ).loc Cert.FwdInIdeal.main_arg0) = m ((c.tc : Thread Cert.FwdInIdeal.nD Cert.FwdInIdeal.τ).loc Cert.FwdInIdeal.main_arg0)
      ∧ r.2.mem ((c.tc : Thread Cert.FwdInIdeal.nD Cert.FwdInIdeal.τ).loc Cert.FwdInIdeal.main_arg1) = m ((c.tc : Thread Cert.FwdInIdeal.nD Cert.FwdInIdeal.τ).loc Cert.FwdInIdeal.main_arg1)
      ∧ r.2.mem ((c.tc : Thread Cert.FwdInIdeal.nD Cert.FwdInIdeal.τ).loc Cert.FwdInIdeal.main_arg2) = m ((c.tc : Thread Cert.FwdInIdeal.nD Cert.FwdInIdeal.τ).loc Cert.FwdInIdeal.main_arg2)
      ∧ r.2.mem ((c.tc : Thread Cert.FwdInIdeal.nD Cert.FwdInIdeal.τ).loc Cert.FwdInIdeal.main_arg3) = m ((c.tc : Thread Cert.FwdInIdeal.nD Cert.FwdInIdeal.τ).loc Cert.FwdInIdeal.main_arg3))
      ∧ r.2.sem = fun _ => 0)

def quiescent_RefFwdIdeal [hRefFwdIdeal : Cert.RefFwdIdeal.Facts] : Prop :=
  ∀ (m : (ℓ : Loc Cert.RefFwdIdeal.nD Cert.RefFwdIdeal.τ Cert.RefFwdIdeal.sig) → Buf (Elt Ideal) ℓ) (g : Dev Cert.RefFwdIdeal.nD → PrngReg), Pre_RefFwdIdeal m →
    θ_run (Cert.RefFwdIdeal.defs (F := Ideal)) (onTc (τ := Cert.RefFwdIdeal.τ) (Cert.RefFwdIdeal.main (F := Ideal))) ⟨m, fun _ => 0, g⟩ (fun r => (∀ c : Dev Cert.RefFwdIdeal.nD,
      r.2.mem ((c.tc : Thread Cert.RefFwdIdeal.nD Cert.RefFwdIdeal.τ).loc Cert.RefFwdIdeal.main_arg0) = m ((c.tc : Thread Cert.RefFwdIdeal.nD Cert.RefFwdIdeal.τ).loc Cert.RefFwdIdeal.main_arg0)
      ∧ r.2.mem ((c.tc : Thread Cert.RefFwdIdeal.nD Cert.RefFwdIdeal.τ).loc Cert.RefFwdIdeal.main_arg1) = m ((c.tc : Thread Cert.RefFwdIdeal.nD Cert.RefFwdIdeal.τ).loc Cert.RefFwdIdeal.main_arg1)
      ∧ r.2.mem ((c.tc : Thread Cert.RefFwdIdeal.nD Cert.RefFwdIdeal.τ).loc Cert.RefFwdIdeal.main_arg2) = m ((c.tc : Thread Cert.RefFwdIdeal.nD Cert.RefFwdIdeal.τ).loc Cert.RefFwdIdeal.main_arg2)
      ∧ r.2.mem ((c.tc : Thread Cert.RefFwdIdeal.nD Cert.RefFwdIdeal.τ).loc Cert.RefFwdIdeal.main_arg3) = m ((c.tc : Thread Cert.RefFwdIdeal.nD Cert.RefFwdIdeal.τ).loc Cert.RefFwdIdeal.main_arg3))
      ∧ r.2.sem = fun _ => 0)

def quiescent_WGrad [hWGrad : Cert.WGrad.Facts] : Prop :=
  ∀ (m : (ℓ : Loc Cert.WGrad.nD Cert.WGrad.τ Cert.WGrad.sig) → Buf (Elt Bits) ℓ) (g : Dev Cert.WGrad.nD → PrngReg), Pre_WGrad m →
    θ_run (Cert.WGrad.defs (F := Bits)) (onTc (τ := Cert.WGrad.τ) (Cert.WGrad.main (F := Bits))) ⟨m, fun _ => 0, g⟩ (fun r => (∀ c : Dev Cert.WGrad.nD,
      r.2.mem ((c.tc : Thread Cert.WGrad.nD Cert.WGrad.τ).loc Cert.WGrad.main_arg0) = m ((c.tc : Thread Cert.WGrad.nD Cert.WGrad.τ).loc Cert.WGrad.main_arg0)
      ∧ r.2.mem ((c.tc : Thread Cert.WGrad.nD Cert.WGrad.τ).loc Cert.WGrad.main_arg1) = m ((c.tc : Thread Cert.WGrad.nD Cert.WGrad.τ).loc Cert.WGrad.main_arg1))
      ∧ r.2.sem = fun _ => 0)

def quiescent_WGradIdeal [hWGradIdeal : Cert.WGradIdeal.Facts] : Prop :=
  ∀ (m : (ℓ : Loc Cert.WGradIdeal.nD Cert.WGradIdeal.τ Cert.WGradIdeal.sig) → Buf (Elt Ideal) ℓ) (g : Dev Cert.WGradIdeal.nD → PrngReg), Pre_WGradIdeal m →
    θ_run (Cert.WGradIdeal.defs (F := Ideal)) (onTc (τ := Cert.WGradIdeal.τ) (Cert.WGradIdeal.main (F := Ideal))) ⟨m, fun _ => 0, g⟩ (fun r => (∀ c : Dev Cert.WGradIdeal.nD,
      r.2.mem ((c.tc : Thread Cert.WGradIdeal.nD Cert.WGradIdeal.τ).loc Cert.WGradIdeal.main_arg0) = m ((c.tc : Thread Cert.WGradIdeal.nD Cert.WGradIdeal.τ).loc Cert.WGradIdeal.main_arg0)
      ∧ r.2.mem ((c.tc : Thread Cert.WGradIdeal.nD Cert.WGradIdeal.τ).loc Cert.WGradIdeal.main_arg1) = m ((c.tc : Thread Cert.WGradIdeal.nD Cert.WGradIdeal.τ).loc Cert.WGradIdeal.main_arg1))
      ∧ r.2.sem = fun _ => 0)

def quiescent_RefWgIdeal [hRefWgIdeal : Cert.RefWgIdeal.Facts] : Prop :=
  ∀ (m : (ℓ : Loc Cert.RefWgIdeal.nD Cert.RefWgIdeal.τ Cert.RefWgIdeal.sig) → Buf (Elt Ideal) ℓ) (g : Dev Cert.RefWgIdeal.nD → PrngReg), Pre_RefWgIdeal m →
    θ_run (Cert.RefWgIdeal.defs (F := Ideal)) (onTc (τ := Cert.RefWgIdeal.τ) (Cert.RefWgIdeal.main (F := Ideal))) ⟨m, fun _ => 0, g⟩ (fun r => (∀ c : Dev Cert.RefWgIdeal.nD,
      r.2.mem ((c.tc : Thread Cert.RefWgIdeal.nD Cert.RefWgIdeal.τ).loc Cert.RefWgIdeal.main_arg0) = m ((c.tc : Thread Cert.RefWgIdeal.nD Cert.RefWgIdeal.τ).loc Cert.RefWgIdeal.main_arg0)
      ∧ r.2.mem ((c.tc : Thread Cert.RefWgIdeal.nD Cert.RefWgIdeal.τ).loc Cert.RefWgIdeal.main_arg1) = m ((c.tc : Thread Cert.RefWgIdeal.nD Cert.RefWgIdeal.τ).loc Cert.RefWgIdeal.main_arg1))
      ∧ r.2.sem = fun _ => 0)

def quiescent_WGradIn [hWGradIn : Cert.WGradIn.Facts] : Prop :=
  ∀ (m : (ℓ : Loc Cert.WGradIn.nD Cert.WGradIn.τ Cert.WGradIn.sig) → Buf (Elt Bits) ℓ) (g : Dev Cert.WGradIn.nD → PrngReg), Pre_WGradIn m →
    θ_run (Cert.WGradIn.defs (F := Bits)) (onTc (τ := Cert.WGradIn.τ) (Cert.WGradIn.main (F := Bits))) ⟨m, fun _ => 0, g⟩ (fun r => (∀ c : Dev Cert.WGradIn.nD,
      r.2.mem ((c.tc : Thread Cert.WGradIn.nD Cert.WGradIn.τ).loc Cert.WGradIn.main_arg0) = m ((c.tc : Thread Cert.WGradIn.nD Cert.WGradIn.τ).loc Cert.WGradIn.main_arg0)
      ∧ r.2.mem ((c.tc : Thread Cert.WGradIn.nD Cert.WGradIn.τ).loc Cert.WGradIn.main_arg1) = m ((c.tc : Thread Cert.WGradIn.nD Cert.WGradIn.τ).loc Cert.WGradIn.main_arg1)
      ∧ r.2.mem ((c.tc : Thread Cert.WGradIn.nD Cert.WGradIn.τ).loc Cert.WGradIn.main_arg2) = m ((c.tc : Thread Cert.WGradIn.nD Cert.WGradIn.τ).loc Cert.WGradIn.main_arg2))
      ∧ r.2.sem = fun _ => 0)

def quiescent_WGradInIdeal [hWGradInIdeal : Cert.WGradInIdeal.Facts] : Prop :=
  ∀ (m : (ℓ : Loc Cert.WGradInIdeal.nD Cert.WGradInIdeal.τ Cert.WGradInIdeal.sig) → Buf (Elt Ideal) ℓ) (g : Dev Cert.WGradInIdeal.nD → PrngReg), Pre_WGradInIdeal m →
    θ_run (Cert.WGradInIdeal.defs (F := Ideal)) (onTc (τ := Cert.WGradInIdeal.τ) (Cert.WGradInIdeal.main (F := Ideal))) ⟨m, fun _ => 0, g⟩ (fun r => (∀ c : Dev Cert.WGradInIdeal.nD,
      r.2.mem ((c.tc : Thread Cert.WGradInIdeal.nD Cert.WGradInIdeal.τ).loc Cert.WGradInIdeal.main_arg0) = m ((c.tc : Thread Cert.WGradInIdeal.nD Cert.WGradInIdeal.τ).loc Cert.WGradInIdeal.main_arg0)
      ∧ r.2.mem ((c.tc : Thread Cert.WGradInIdeal.nD Cert.WGradInIdeal.τ).loc Cert.WGradInIdeal.main_arg1) = m ((c.tc : Thread Cert.WGradInIdeal.nD Cert.WGradInIdeal.τ).loc Cert.WGradInIdeal.main_arg1)
      ∧ r.2.mem ((c.tc : Thread Cert.WGradInIdeal.nD Cert.WGradInIdeal.τ).loc Cert.WGradInIdeal.main_arg2) = m ((c.tc : Thread Cert.WGradInIdeal.nD Cert.WGradInIdeal.τ).loc Cert.WGradInIdeal.main_arg2))
      ∧ r.2.sem = fun _ => 0)

def quiescent_RefWiIdeal [hRefWiIdeal : Cert.RefWiIdeal.Facts] : Prop :=
  ∀ (m : (ℓ : Loc Cert.RefWiIdeal.nD Cert.RefWiIdeal.τ Cert.RefWiIdeal.sig) → Buf (Elt Ideal) ℓ) (g : Dev Cert.RefWiIdeal.nD → PrngReg), Pre_RefWiIdeal m →
    θ_run (Cert.RefWiIdeal.defs (F := Ideal)) (onTc (τ := Cert.RefWiIdeal.τ) (Cert.RefWiIdeal.main (F := Ideal))) ⟨m, fun _ => 0, g⟩ (fun r => (∀ c : Dev Cert.RefWiIdeal.nD,
      r.2.mem ((c.tc : Thread Cert.RefWiIdeal.nD Cert.RefWiIdeal.τ).loc Cert.RefWiIdeal.main_arg0) = m ((c.tc : Thread Cert.RefWiIdeal.nD Cert.RefWiIdeal.τ).loc Cert.RefWiIdeal.main_arg0)
      ∧ r.2.mem ((c.tc : Thread Cert.RefWiIdeal.nD Cert.RefWiIdeal.τ).loc Cert.RefWiIdeal.main_arg1) = m ((c.tc : Thread Cert.RefWiIdeal.nD Cert.RefWiIdeal.τ).loc Cert.RefWiIdeal.main_arg1)
      ∧ r.2.mem ((c.tc : Thread Cert.RefWiIdeal.nD Cert.RefWiIdeal.τ).loc Cert.RefWiIdeal.main_arg2) = m ((c.tc : Thread Cert.RefWiIdeal.nD Cert.RefWiIdeal.τ).loc Cert.RefWiIdeal.main_arg2))
      ∧ r.2.sem = fun _ => 0)

def preserves_BwdIn_BwdInIdeal : Prop :=
  True

def algebraic_BwdInIdeal_RefInIdeal_pre_finite_in [hBwdInIdeal : Cert.BwdInIdeal.Facts] [hRefInIdeal : Cert.RefInIdeal.Facts] [hPre_finite_in : Cert.Pre_finite_in.Facts] : Prop :=
  ∀ (m : (ℓ : Loc Cert.BwdInIdeal.nD Cert.BwdInIdeal.τ Cert.BwdInIdeal.sig) → Buf (Elt Ideal) ℓ) (g : Dev Cert.BwdInIdeal.nD → PrngReg)
    (m' : (ℓ : Loc Cert.RefInIdeal.nD Cert.RefInIdeal.τ Cert.RefInIdeal.sig) → Buf (Elt Ideal) ℓ) (g' : Dev Cert.RefInIdeal.nD → PrngReg), Pre_BwdInIdeal_finite_in m →
    (∀ c : Dev Cert.BwdInIdeal.nD,
      m' ((c.tc : Thread Cert.RefInIdeal.nD Cert.RefInIdeal.τ).loc Cert.RefInIdeal.main_arg0) = m ((c.tc : Thread Cert.BwdInIdeal.nD Cert.BwdInIdeal.τ).loc Cert.BwdInIdeal.main_arg0)
      ∧ m' ((c.tc : Thread Cert.RefInIdeal.nD Cert.RefInIdeal.τ).loc Cert.RefInIdeal.main_arg1) = m ((c.tc : Thread Cert.BwdInIdeal.nD Cert.BwdInIdeal.τ).loc Cert.BwdInIdeal.main_arg1)
      ∧ m' ((c.tc : Thread Cert.RefInIdeal.nD Cert.RefInIdeal.τ).loc Cert.RefInIdeal.main_arg2) = m ((c.tc : Thread Cert.BwdInIdeal.nD Cert.BwdInIdeal.τ).loc Cert.BwdInIdeal.main_arg2)
      ∧ m' ((c.tc : Thread Cert.RefInIdeal.nD Cert.RefInIdeal.τ).loc Cert.RefInIdeal.main_arg3) = m ((c.tc : Thread Cert.BwdInIdeal.nD Cert.BwdInIdeal.τ).loc Cert.BwdInIdeal.main_arg3)
      ∧ m' ((c.tc : Thread Cert.RefInIdeal.nD Cert.RefInIdeal.τ).loc Cert.RefInIdeal.main_arg4) = m ((c.tc : Thread Cert.BwdInIdeal.nD Cert.BwdInIdeal.τ).loc Cert.BwdInIdeal.main_arg4)) →
    ∃ (v0 : (c : Dev Cert.BwdInIdeal.nD) → Buf (Elt Ideal) ((c.tc : Thread Cert.BwdInIdeal.nD Cert.BwdInIdeal.τ).loc Cert.BwdInIdeal.main_v10_0)) (v1 : (c : Dev Cert.BwdInIdeal.nD) → Buf (Elt Ideal) ((c.tc : Thread Cert.BwdInIdeal.nD Cert.BwdInIdeal.τ).loc Cert.BwdInIdeal.main_v10_1)),
      θ_run (Cert.BwdInIdeal.defs (F := Ideal)) (onTc (τ := Cert.BwdInIdeal.τ) (Cert.BwdInIdeal.main (F := Ideal))) ⟨m, fun _ => 0, g⟩ (fun r => ∀ c : Dev Cert.BwdInIdeal.nD,
          r.2.mem ((c.tc : Thread Cert.BwdInIdeal.nD Cert.BwdInIdeal.τ).loc Cert.BwdInIdeal.main_v10_0) = v0 c
          ∧ r.2.mem ((c.tc : Thread Cert.BwdInIdeal.nD Cert.BwdInIdeal.τ).loc Cert.BwdInIdeal.main_v10_1) = v1 c
          ∧ r.2.mem ((c.tc : Thread Cert.BwdInIdeal.nD Cert.BwdInIdeal.τ).loc Cert.BwdInIdeal.main_arg0) = m ((c.tc : Thread Cert.BwdInIdeal.nD Cert.BwdInIdeal.τ).loc Cert.BwdInIdeal.main_arg0)
          ∧ r.2.mem ((c.tc : Thread Cert.BwdInIdeal.nD Cert.BwdInIdeal.τ).loc Cert.BwdInIdeal.main_arg1) = m ((c.tc : Thread Cert.BwdInIdeal.nD Cert.BwdInIdeal.τ).loc Cert.BwdInIdeal.main_arg1)
          ∧ r.2.mem ((c.tc : Thread Cert.BwdInIdeal.nD Cert.BwdInIdeal.τ).loc Cert.BwdInIdeal.main_arg2) = m ((c.tc : Thread Cert.BwdInIdeal.nD Cert.BwdInIdeal.τ).loc Cert.BwdInIdeal.main_arg2)
          ∧ r.2.mem ((c.tc : Thread Cert.BwdInIdeal.nD Cert.BwdInIdeal.τ).loc Cert.BwdInIdeal.main_arg3) = m ((c.tc : Thread Cert.BwdInIdeal.nD Cert.BwdInIdeal.τ).loc Cert.BwdInIdeal.main_arg3)
          ∧ r.2.mem ((c.tc : Thread Cert.BwdInIdeal.nD Cert.BwdInIdeal.τ).loc Cert.BwdInIdeal.main_arg4) = m ((c.tc : Thread Cert.BwdInIdeal.nD Cert.BwdInIdeal.τ).loc Cert.BwdInIdeal.main_arg4))
      ∧ θ_run (Cert.RefInIdeal.defs (F := Ideal)) (onTc (τ := Cert.RefInIdeal.τ) (Cert.RefInIdeal.main (F := Ideal))) ⟨m', fun _ => 0, g'⟩ (fun r => ∀ c : Dev Cert.RefInIdeal.nD,
          r.2.mem ((c.tc : Thread Cert.RefInIdeal.nD Cert.RefInIdeal.τ).loc Cert.RefInIdeal.main_v40) = v0 c
          ∧ r.2.mem ((c.tc : Thread Cert.RefInIdeal.nD Cert.RefInIdeal.τ).loc Cert.RefInIdeal.main_v43) = v1 c
          ∧ r.2.mem ((c.tc : Thread Cert.RefInIdeal.nD Cert.RefInIdeal.τ).loc Cert.RefInIdeal.main_arg0) = m' ((c.tc : Thread Cert.RefInIdeal.nD Cert.RefInIdeal.τ).loc Cert.RefInIdeal.main_arg0)
          ∧ r.2.mem ((c.tc : Thread Cert.RefInIdeal.nD Cert.RefInIdeal.τ).loc Cert.RefInIdeal.main_arg1) = m' ((c.tc : Thread Cert.RefInIdeal.nD Cert.RefInIdeal.τ).loc Cert.RefInIdeal.main_arg1)
          ∧ r.2.mem ((c.tc : Thread Cert.RefInIdeal.nD Cert.RefInIdeal.τ).loc Cert.RefInIdeal.main_arg2) = m' ((c.tc : Thread Cert.RefInIdeal.nD Cert.RefInIdeal.τ).loc Cert.RefInIdeal.main_arg2)
          ∧ r.2.mem ((c.tc : Thread Cert.RefInIdeal.nD Cert.RefInIdeal.τ).loc Cert.RefInIdeal.main_arg3) = m' ((c.tc : Thread Cert.RefInIdeal.nD Cert.RefInIdeal.τ).loc Cert.RefInIdeal.main_arg3)
          ∧ r.2.mem ((c.tc : Thread Cert.RefInIdeal.nD Cert.RefInIdeal.τ).loc Cert.RefInIdeal.main_arg4) = m' ((c.tc : Thread Cert.RefInIdeal.nD Cert.RefInIdeal.τ).loc Cert.RefInIdeal.main_arg4))

def preserves_BwdConv_BwdConvIdeal : Prop :=
  True

def algebraic_BwdConvIdeal_RefConvIdeal [hBwdConvIdeal : Cert.BwdConvIdeal.Facts] [hRefConvIdeal : Cert.RefConvIdeal.Facts] : Prop :=
  ∀ (m : (ℓ : Loc Cert.BwdConvIdeal.nD Cert.BwdConvIdeal.τ Cert.BwdConvIdeal.sig) → Buf (Elt Ideal) ℓ) (g : Dev Cert.BwdConvIdeal.nD → PrngReg)
    (m' : (ℓ : Loc Cert.RefConvIdeal.nD Cert.RefConvIdeal.τ Cert.RefConvIdeal.sig) → Buf (Elt Ideal) ℓ) (g' : Dev Cert.RefConvIdeal.nD → PrngReg), Pre_BwdConvIdeal m →
    (∀ c : Dev Cert.BwdConvIdeal.nD,
      m' ((c.tc : Thread Cert.RefConvIdeal.nD Cert.RefConvIdeal.τ).loc Cert.RefConvIdeal.main_arg0) = m ((c.tc : Thread Cert.BwdConvIdeal.nD Cert.BwdConvIdeal.τ).loc Cert.BwdConvIdeal.main_arg0)
      ∧ m' ((c.tc : Thread Cert.RefConvIdeal.nD Cert.RefConvIdeal.τ).loc Cert.RefConvIdeal.main_arg1) = m ((c.tc : Thread Cert.BwdConvIdeal.nD Cert.BwdConvIdeal.τ).loc Cert.BwdConvIdeal.main_arg1)
      ∧ m' ((c.tc : Thread Cert.RefConvIdeal.nD Cert.RefConvIdeal.τ).loc Cert.RefConvIdeal.main_arg2) = m ((c.tc : Thread Cert.BwdConvIdeal.nD Cert.BwdConvIdeal.τ).loc Cert.BwdConvIdeal.main_arg2)
      ∧ m' ((c.tc : Thread Cert.RefConvIdeal.nD Cert.RefConvIdeal.τ).loc Cert.RefConvIdeal.main_arg3) = m ((c.tc : Thread Cert.BwdConvIdeal.nD Cert.BwdConvIdeal.τ).loc Cert.BwdConvIdeal.main_arg3)
      ∧ m' ((c.tc : Thread Cert.RefConvIdeal.nD Cert.RefConvIdeal.τ).loc Cert.RefConvIdeal.main_arg4) = m ((c.tc : Thread Cert.BwdConvIdeal.nD Cert.BwdConvIdeal.τ).loc Cert.BwdConvIdeal.main_arg4)
      ∧ m' ((c.tc : Thread Cert.RefConvIdeal.nD Cert.RefConvIdeal.τ).loc Cert.RefConvIdeal.main_arg5) = m ((c.tc : Thread Cert.BwdConvIdeal.nD Cert.BwdConvIdeal.τ).loc Cert.BwdConvIdeal.main_arg5)
      ∧ m' ((c.tc : Thread Cert.RefConvIdeal.nD Cert.RefConvIdeal.τ).loc Cert.RefConvIdeal.main_arg6) = m ((c.tc : Thread Cert.BwdConvIdeal.nD Cert.BwdConvIdeal.τ).loc Cert.BwdConvIdeal.main_arg6)
      ∧ m' ((c.tc : Thread Cert.RefConvIdeal.nD Cert.RefConvIdeal.τ).loc Cert.RefConvIdeal.main_arg7) = m ((c.tc : Thread Cert.BwdConvIdeal.nD Cert.BwdConvIdeal.τ).loc Cert.BwdConvIdeal.main_arg7)) →
    ∃ (v0 : (c : Dev Cert.BwdConvIdeal.nD) → Buf (Elt Ideal) ((c.tc : Thread Cert.BwdConvIdeal.nD Cert.BwdConvIdeal.τ).loc Cert.BwdConvIdeal.main_v11_0)) (v1 : (c : Dev Cert.BwdConvIdeal.nD) → Buf (Elt Ideal) ((c.tc : Thread Cert.BwdConvIdeal.nD Cert.BwdConvIdeal.τ).loc Cert.BwdConvIdeal.main_v11_1)),
      θ_run (Cert.BwdConvIdeal.defs (F := Ideal)) (onTc (τ := Cert.BwdConvIdeal.τ) (Cert.BwdConvIdeal.main (F := Ideal))) ⟨m, fun _ => 0, g⟩ (fun r => ∀ c : Dev Cert.BwdConvIdeal.nD,
          r.2.mem ((c.tc : Thread Cert.BwdConvIdeal.nD Cert.BwdConvIdeal.τ).loc Cert.BwdConvIdeal.main_v11_0) = v0 c
          ∧ r.2.mem ((c.tc : Thread Cert.BwdConvIdeal.nD Cert.BwdConvIdeal.τ).loc Cert.BwdConvIdeal.main_v11_1) = v1 c
          ∧ r.2.mem ((c.tc : Thread Cert.BwdConvIdeal.nD Cert.BwdConvIdeal.τ).loc Cert.BwdConvIdeal.main_arg0) = m ((c.tc : Thread Cert.BwdConvIdeal.nD Cert.BwdConvIdeal.τ).loc Cert.BwdConvIdeal.main_arg0)
          ∧ r.2.mem ((c.tc : Thread Cert.BwdConvIdeal.nD Cert.BwdConvIdeal.τ).loc Cert.BwdConvIdeal.main_arg1) = m ((c.tc : Thread Cert.BwdConvIdeal.nD Cert.BwdConvIdeal.τ).loc Cert.BwdConvIdeal.main_arg1)
          ∧ r.2.mem ((c.tc : Thread Cert.BwdConvIdeal.nD Cert.BwdConvIdeal.τ).loc Cert.BwdConvIdeal.main_arg2) = m ((c.tc : Thread Cert.BwdConvIdeal.nD Cert.BwdConvIdeal.τ).loc Cert.BwdConvIdeal.main_arg2)
          ∧ r.2.mem ((c.tc : Thread Cert.BwdConvIdeal.nD Cert.BwdConvIdeal.τ).loc Cert.BwdConvIdeal.main_arg3) = m ((c.tc : Thread Cert.BwdConvIdeal.nD Cert.BwdConvIdeal.τ).loc Cert.BwdConvIdeal.main_arg3)
          ∧ r.2.mem ((c.tc : Thread Cert.BwdConvIdeal.nD Cert.BwdConvIdeal.τ).loc Cert.BwdConvIdeal.main_arg4) = m ((c.tc : Thread Cert.BwdConvIdeal.nD Cert.BwdConvIdeal.τ).loc Cert.BwdConvIdeal.main_arg4)
          ∧ r.2.mem ((c.tc : Thread Cert.BwdConvIdeal.nD Cert.BwdConvIdeal.τ).loc Cert.BwdConvIdeal.main_arg5) = m ((c.tc : Thread Cert.BwdConvIdeal.nD Cert.BwdConvIdeal.τ).loc Cert.BwdConvIdeal.main_arg5)
          ∧ r.2.mem ((c.tc : Thread Cert.BwdConvIdeal.nD Cert.BwdConvIdeal.τ).loc Cert.BwdConvIdeal.main_arg6) = m ((c.tc : Thread Cert.BwdConvIdeal.nD Cert.BwdConvIdeal.τ).loc Cert.BwdConvIdeal.main_arg6)
          ∧ r.2.mem ((c.tc : Thread Cert.BwdConvIdeal.nD Cert.BwdConvIdeal.τ).loc Cert.BwdConvIdeal.main_arg7) = m ((c.tc : Thread Cert.BwdConvIdeal.nD Cert.BwdConvIdeal.τ).loc Cert.BwdConvIdeal.main_arg7))
      ∧ θ_run (Cert.RefConvIdeal.defs (F := Ideal)) (onTc (τ := Cert.RefConvIdeal.τ) (Cert.RefConvIdeal.main (F := Ideal))) ⟨m', fun _ => 0, g'⟩ (fun r => ∀ c : Dev Cert.RefConvIdeal.nD,
          r.2.mem ((c.tc : Thread Cert.RefConvIdeal.nD Cert.RefConvIdeal.τ).loc Cert.RefConvIdeal.main_v655) = v0 c
          ∧ r.2.mem ((c.tc : Thread Cert.RefConvIdeal.nD Cert.RefConvIdeal.τ).loc Cert.RefConvIdeal.main_v653) = v1 c
          ∧ r.2.mem ((c.tc : Thread Cert.RefConvIdeal.nD Cert.RefConvIdeal.τ).loc Cert.RefConvIdeal.main_arg0) = m' ((c.tc : Thread Cert.RefConvIdeal.nD Cert.RefConvIdeal.τ).loc Cert.RefConvIdeal.main_arg0)
          ∧ r.2.mem ((c.tc : Thread Cert.RefConvIdeal.nD Cert.RefConvIdeal.τ).loc Cert.RefConvIdeal.main_arg1) = m' ((c.tc : Thread Cert.RefConvIdeal.nD Cert.RefConvIdeal.τ).loc Cert.RefConvIdeal.main_arg1)
          ∧ r.2.mem ((c.tc : Thread Cert.RefConvIdeal.nD Cert.RefConvIdeal.τ).loc Cert.RefConvIdeal.main_arg2) = m' ((c.tc : Thread Cert.RefConvIdeal.nD Cert.RefConvIdeal.τ).loc Cert.RefConvIdeal.main_arg2)
          ∧ r.2.mem ((c.tc : Thread Cert.RefConvIdeal.nD Cert.RefConvIdeal.τ).loc Cert.RefConvIdeal.main_arg3) = m' ((c.tc : Thread Cert.RefConvIdeal.nD Cert.RefConvIdeal.τ).loc Cert.RefConvIdeal.main_arg3)
          ∧ r.2.mem ((c.tc : Thread Cert.RefConvIdeal.nD Cert.RefConvIdeal.τ).loc Cert.RefConvIdeal.main_arg4) = m' ((c.tc : Thread Cert.RefConvIdeal.nD Cert.RefConvIdeal.τ).loc Cert.RefConvIdeal.main_arg4)
          ∧ r.2.mem ((c.tc : Thread Cert.RefConvIdeal.nD Cert.RefConvIdeal.τ).loc Cert.RefConvIdeal.main_arg5) = m' ((c.tc : Thread Cert.RefConvIdeal.nD Cert.RefConvIdeal.τ).loc Cert.RefConvIdeal.main_arg5)
          ∧ r.2.mem ((c.tc : Thread Cert.RefConvIdeal.nD Cert.RefConvIdeal.τ).loc Cert.RefConvIdeal.main_arg6) = m' ((c.tc : Thread Cert.RefConvIdeal.nD Cert.RefConvIdeal.τ).loc Cert.RefConvIdeal.main_arg6)
          ∧ r.2.mem ((c.tc : Thread Cert.RefConvIdeal.nD Cert.RefConvIdeal.τ).loc Cert.RefConvIdeal.main_arg7) = m' ((c.tc : Thread Cert.RefConvIdeal.nD Cert.RefConvIdeal.τ).loc Cert.RefConvIdeal.main_arg7))

def preserves_Mlp_MlpIdeal : Prop :=
  True

def algebraic_MlpIdeal_RefMlpIdeal_pre_finite_mlp [hMlpIdeal : Cert.MlpIdeal.Facts] [hRefMlpIdeal : Cert.RefMlpIdeal.Facts] [hPre_finite_mlp : Cert.Pre_finite_mlp.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.RefMlpIdeal.nD Cert.RefMlpIdeal.τ Cert.RefMlpIdeal.sig) → Buf (Elt Ideal) ℓ) (g' : Dev Cert.RefMlpIdeal.nD → PrngReg), Pre_MlpIdeal_finite_mlp m →
    (∀ c : Dev Cert.MlpIdeal.nD,
      m' ((c.tc : Thread Cert.RefMlpIdeal.nD Cert.RefMlpIdeal.τ).loc Cert.RefMlpIdeal.main_arg0) = m ((c.tc : Thread Cert.MlpIdeal.nD Cert.MlpIdeal.τ).loc Cert.MlpIdeal.main_arg0)
      ∧ m' ((c.tc : Thread Cert.RefMlpIdeal.nD Cert.RefMlpIdeal.τ).loc Cert.RefMlpIdeal.main_arg1) = m ((c.tc : Thread Cert.MlpIdeal.nD Cert.MlpIdeal.τ).loc Cert.MlpIdeal.main_arg1)
      ∧ m' ((c.tc : Thread Cert.RefMlpIdeal.nD Cert.RefMlpIdeal.τ).loc Cert.RefMlpIdeal.main_arg2) = m ((c.tc : Thread Cert.MlpIdeal.nD Cert.MlpIdeal.τ).loc Cert.MlpIdeal.main_arg2)
      ∧ m' ((c.tc : Thread Cert.RefMlpIdeal.nD Cert.RefMlpIdeal.τ).loc Cert.RefMlpIdeal.main_arg3) = m ((c.tc : Thread Cert.MlpIdeal.nD Cert.MlpIdeal.τ).loc Cert.MlpIdeal.main_arg3)
      ∧ m' ((c.tc : Thread Cert.RefMlpIdeal.nD Cert.RefMlpIdeal.τ).loc Cert.RefMlpIdeal.main_arg4) = m ((c.tc : Thread Cert.MlpIdeal.nD Cert.MlpIdeal.τ).loc Cert.MlpIdeal.main_arg4)
      ∧ m' ((c.tc : Thread Cert.RefMlpIdeal.nD Cert.RefMlpIdeal.τ).loc Cert.RefMlpIdeal.main_arg5) = m ((c.tc : Thread Cert.MlpIdeal.nD Cert.MlpIdeal.τ).loc Cert.MlpIdeal.main_arg5)
      ∧ m' ((c.tc : Thread Cert.RefMlpIdeal.nD Cert.RefMlpIdeal.τ).loc Cert.RefMlpIdeal.main_arg6) = m ((c.tc : Thread Cert.MlpIdeal.nD Cert.MlpIdeal.τ).loc Cert.MlpIdeal.main_arg6)
      ∧ m' ((c.tc : Thread Cert.RefMlpIdeal.nD Cert.RefMlpIdeal.τ).loc Cert.RefMlpIdeal.main_arg7) = m ((c.tc : Thread Cert.MlpIdeal.nD Cert.MlpIdeal.τ).loc Cert.MlpIdeal.main_arg7)) →
    ∃ (v0 : (c : Dev Cert.MlpIdeal.nD) → Buf (Elt Ideal) ((c.tc : Thread Cert.MlpIdeal.nD Cert.MlpIdeal.τ).loc Cert.MlpIdeal.main_v23_0)) (v1 : (c : Dev Cert.MlpIdeal.nD) → Buf (Elt Ideal) ((c.tc : Thread Cert.MlpIdeal.nD Cert.MlpIdeal.τ).loc Cert.MlpIdeal.main_v23_1)) (v2 : (c : Dev Cert.MlpIdeal.nD) → Buf (Elt Ideal) ((c.tc : Thread Cert.MlpIdeal.nD Cert.MlpIdeal.τ).loc Cert.MlpIdeal.main_v23_2)) (v3 : (c : Dev Cert.MlpIdeal.nD) → Buf (Elt Ideal) ((c.tc : Thread Cert.MlpIdeal.nD Cert.MlpIdeal.τ).loc Cert.MlpIdeal.main_v23_3)) (v4 : (c : Dev Cert.MlpIdeal.nD) → Buf (Elt Ideal) ((c.tc : Thread Cert.MlpIdeal.nD Cert.MlpIdeal.τ).loc Cert.MlpIdeal.main_v23_4)) (v5 : (c : Dev Cert.MlpIdeal.nD) → Buf (Elt Ideal) ((c.tc : Thread Cert.MlpIdeal.nD Cert.MlpIdeal.τ).loc Cert.MlpIdeal.main_v23_5)) (v6 : (c : Dev Cert.MlpIdeal.nD) → Buf (Elt Ideal) ((c.tc : Thread Cert.MlpIdeal.nD Cert.MlpIdeal.τ).loc Cert.MlpIdeal.main_v23_6)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v23_0) = v0 c
          ∧ r.2.mem ((c.tc : Thread Cert.MlpIdeal.nD Cert.MlpIdeal.τ).loc Cert.MlpIdeal.main_v23_1) = v1 c
          ∧ r.2.mem ((c.tc : Thread Cert.MlpIdeal.nD Cert.MlpIdeal.τ).loc Cert.MlpIdeal.main_v23_2) = v2 c
          ∧ r.2.mem ((c.tc : Thread Cert.MlpIdeal.nD Cert.MlpIdeal.τ).loc Cert.MlpIdeal.main_v23_3) = v3 c
          ∧ r.2.mem ((c.tc : Thread Cert.MlpIdeal.nD Cert.MlpIdeal.τ).loc Cert.MlpIdeal.main_v23_4) = v4 c
          ∧ r.2.mem ((c.tc : Thread Cert.MlpIdeal.nD Cert.MlpIdeal.τ).loc Cert.MlpIdeal.main_v23_5) = v5 c
          ∧ r.2.mem ((c.tc : Thread Cert.MlpIdeal.nD Cert.MlpIdeal.τ).loc Cert.MlpIdeal.main_v23_6) = v6 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
          ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
          ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6)
          ∧ r.2.mem ((c.tc : Thread Cert.MlpIdeal.nD Cert.MlpIdeal.τ).loc Cert.MlpIdeal.main_arg7) = m ((c.tc : Thread Cert.MlpIdeal.nD Cert.MlpIdeal.τ).loc Cert.MlpIdeal.main_arg7))
      ∧ θ_run (Cert.RefMlpIdeal.defs (F := Ideal)) (onTc (τ := Cert.RefMlpIdeal.τ) (Cert.RefMlpIdeal.main (F := Ideal))) ⟨m', fun _ => 0, g'⟩ (fun r => ∀ c : Dev Cert.RefMlpIdeal.nD,
          r.2.mem ((c.tc : Thread Cert.RefMlpIdeal.nD Cert.RefMlpIdeal.τ).loc Cert.RefMlpIdeal.main_v173) = v0 c
          ∧ r.2.mem ((c.tc : Thread Cert.RefMlpIdeal.nD Cert.RefMlpIdeal.τ).loc Cert.RefMlpIdeal.main_v174) = v1 c
          ∧ r.2.mem ((c.tc : Thread Cert.RefMlpIdeal.nD Cert.RefMlpIdeal.τ).loc Cert.RefMlpIdeal.main_v175) = v2 c
          ∧ r.2.mem ((c.tc : Thread Cert.RefMlpIdeal.nD Cert.RefMlpIdeal.τ).loc Cert.RefMlpIdeal.main_v176) = v3 c
          ∧ r.2.mem ((c.tc : Thread Cert.RefMlpIdeal.nD Cert.RefMlpIdeal.τ).loc Cert.RefMlpIdeal.main_v177) = v4 c
          ∧ r.2.mem ((c.tc : Thread Cert.RefMlpIdeal.nD Cert.RefMlpIdeal.τ).loc Cert.RefMlpIdeal.main_v123) = v5 c
          ∧ r.2.mem ((c.tc : Thread Cert.RefMlpIdeal.nD Cert.RefMlpIdeal.τ).loc Cert.RefMlpIdeal.main_v170) = v6 c
          ∧ r.2.mem ((c.tc : Thread Cert.RefMlpIdeal.nD Cert.RefMlpIdeal.τ).loc Cert.RefMlpIdeal.main_arg0) = m' ((c.tc : Thread Cert.RefMlpIdeal.nD Cert.RefMlpIdeal.τ).loc Cert.RefMlpIdeal.main_arg0)
          ∧ r.2.mem ((c.tc : Thread Cert.RefMlpIdeal.nD Cert.RefMlpIdeal.τ).loc Cert.RefMlpIdeal.main_arg1) = m' ((c.tc : Thread Cert.RefMlpIdeal.nD Cert.RefMlpIdeal.τ).loc Cert.RefMlpIdeal.main_arg1)
          ∧ r.2.mem ((c.tc : Thread Cert.RefMlpIdeal.nD Cert.RefMlpIdeal.τ).loc Cert.RefMlpIdeal.main_arg2) = m' ((c.tc : Thread Cert.RefMlpIdeal.nD Cert.RefMlpIdeal.τ).loc Cert.RefMlpIdeal.main_arg2)
          ∧ r.2.mem ((c.tc : Thread Cert.RefMlpIdeal.nD Cert.RefMlpIdeal.τ).loc Cert.RefMlpIdeal.main_arg3) = m' ((c.tc : Thread Cert.RefMlpIdeal.nD Cert.RefMlpIdeal.τ).loc Cert.RefMlpIdeal.main_arg3)
          ∧ r.2.mem ((c.tc : Thread Cert.RefMlpIdeal.nD Cert.RefMlpIdeal.τ).loc Cert.RefMlpIdeal.main_arg4) = m' ((c.tc : Thread Cert.RefMlpIdeal.nD Cert.RefMlpIdeal.τ).loc Cert.RefMlpIdeal.main_arg4)
          ∧ r.2.mem ((c.tc : Thread Cert.RefMlpIdeal.nD Cert.RefMlpIdeal.τ).loc Cert.RefMlpIdeal.main_arg5) = m' ((c.tc : Thread Cert.RefMlpIdeal.nD Cert.RefMlpIdeal.τ).loc Cert.RefMlpIdeal.main_arg5)
          ∧ r.2.mem ((c.tc : Thread Cert.RefMlpIdeal.nD Cert.RefMlpIdeal.τ).loc Cert.RefMlpIdeal.main_arg6) = m' ((c.tc : Thread Cert.RefMlpIdeal.nD Cert.RefMlpIdeal.τ).loc Cert.RefMlpIdeal.main_arg6)
          ∧ r.2.mem ((c.tc : Thread Cert.RefMlpIdeal.nD Cert.RefMlpIdeal.τ).loc Cert.RefMlpIdeal.main_arg7) = m' ((c.tc : Thread Cert.RefMlpIdeal.nD Cert.RefMlpIdeal.τ).loc Cert.RefMlpIdeal.main_arg7))

def preserves_BwdMix_BwdMixIdeal : Prop :=
  True

def algebraic_BwdMixIdeal_RefMixIdeal_pre_finite_mix [hBwdMixIdeal : Cert.BwdMixIdeal.Facts] [hRefMixIdeal : Cert.RefMixIdeal.Facts] [hPre_finite_mix : Cert.Pre_finite_mix.Facts] : Prop :=
  ∀ (m : (ℓ : Loc Cert.BwdMixIdeal.nD Cert.BwdMixIdeal.τ Cert.BwdMixIdeal.sig) → Buf (Elt Ideal) ℓ) (g : Dev Cert.BwdMixIdeal.nD → PrngReg)
    (m' : (ℓ : Loc Cert.RefMixIdeal.nD Cert.RefMixIdeal.τ Cert.RefMixIdeal.sig) → Buf (Elt Ideal) ℓ) (g' : Dev Cert.RefMixIdeal.nD → PrngReg), Pre_BwdMixIdeal_finite_mix m →
    (∀ c : Dev Cert.BwdMixIdeal.nD,
      m' ((c.tc : Thread Cert.RefMixIdeal.nD Cert.RefMixIdeal.τ).loc Cert.RefMixIdeal.main_arg0) = m ((c.tc : Thread Cert.BwdMixIdeal.nD Cert.BwdMixIdeal.τ).loc Cert.BwdMixIdeal.main_arg0)
      ∧ m' ((c.tc : Thread Cert.RefMixIdeal.nD Cert.RefMixIdeal.τ).loc Cert.RefMixIdeal.main_arg1) = m ((c.tc : Thread Cert.BwdMixIdeal.nD Cert.BwdMixIdeal.τ).loc Cert.BwdMixIdeal.main_arg1)
      ∧ m' ((c.tc : Thread Cert.RefMixIdeal.nD Cert.RefMixIdeal.τ).loc Cert.RefMixIdeal.main_arg2) = m ((c.tc : Thread Cert.BwdMixIdeal.nD Cert.BwdMixIdeal.τ).loc Cert.BwdMixIdeal.main_arg2)
      ∧ m' ((c.tc : Thread Cert.RefMixIdeal.nD Cert.RefMixIdeal.τ).loc Cert.RefMixIdeal.main_arg3) = m ((c.tc : Thread Cert.BwdMixIdeal.nD Cert.BwdMixIdeal.τ).loc Cert.BwdMixIdeal.main_arg3)
      ∧ m' ((c.tc : Thread Cert.RefMixIdeal.nD Cert.RefMixIdeal.τ).loc Cert.RefMixIdeal.main_arg4) = m ((c.tc : Thread Cert.BwdMixIdeal.nD Cert.BwdMixIdeal.τ).loc Cert.BwdMixIdeal.main_arg4)
      ∧ m' ((c.tc : Thread Cert.RefMixIdeal.nD Cert.RefMixIdeal.τ).loc Cert.RefMixIdeal.main_arg5) = m ((c.tc : Thread Cert.BwdMixIdeal.nD Cert.BwdMixIdeal.τ).loc Cert.BwdMixIdeal.main_arg5)
      ∧ m' ((c.tc : Thread Cert.RefMixIdeal.nD Cert.RefMixIdeal.τ).loc Cert.RefMixIdeal.main_arg6) = m ((c.tc : Thread Cert.BwdMixIdeal.nD Cert.BwdMixIdeal.τ).loc Cert.BwdMixIdeal.main_arg6)
      ∧ m' ((c.tc : Thread Cert.RefMixIdeal.nD Cert.RefMixIdeal.τ).loc Cert.RefMixIdeal.main_arg7) = m ((c.tc : Thread Cert.BwdMixIdeal.nD Cert.BwdMixIdeal.τ).loc Cert.BwdMixIdeal.main_arg7)
      ∧ m' ((c.tc : Thread Cert.RefMixIdeal.nD Cert.RefMixIdeal.τ).loc Cert.RefMixIdeal.main_arg8) = m ((c.tc : Thread Cert.BwdMixIdeal.nD Cert.BwdMixIdeal.τ).loc Cert.BwdMixIdeal.main_arg8)
      ∧ m' ((c.tc : Thread Cert.RefMixIdeal.nD Cert.RefMixIdeal.τ).loc Cert.RefMixIdeal.main_arg9) = m ((c.tc : Thread Cert.BwdMixIdeal.nD Cert.BwdMixIdeal.τ).loc Cert.BwdMixIdeal.main_arg9)
      ∧ m' ((c.tc : Thread Cert.RefMixIdeal.nD Cert.RefMixIdeal.τ).loc Cert.RefMixIdeal.main_arg10) = m ((c.tc : Thread Cert.BwdMixIdeal.nD Cert.BwdMixIdeal.τ).loc Cert.BwdMixIdeal.main_arg10)) →
    ∃ (v0 : (c : Dev Cert.BwdMixIdeal.nD) → Buf (Elt Ideal) ((c.tc : Thread Cert.BwdMixIdeal.nD Cert.BwdMixIdeal.τ).loc Cert.BwdMixIdeal.main_v43_0)) (v1 : (c : Dev Cert.BwdMixIdeal.nD) → Buf (Elt Ideal) ((c.tc : Thread Cert.BwdMixIdeal.nD Cert.BwdMixIdeal.τ).loc Cert.BwdMixIdeal.main_v43_1)) (v2 : (c : Dev Cert.BwdMixIdeal.nD) → Buf (Elt Ideal) ((c.tc : Thread Cert.BwdMixIdeal.nD Cert.BwdMixIdeal.τ).loc Cert.BwdMixIdeal.main_v43_2)) (v3 : (c : Dev Cert.BwdMixIdeal.nD) → Buf (Elt Ideal) ((c.tc : Thread Cert.BwdMixIdeal.nD Cert.BwdMixIdeal.τ).loc Cert.BwdMixIdeal.main_v43_3)) (v4 : (c : Dev Cert.BwdMixIdeal.nD) → Buf (Elt Ideal) ((c.tc : Thread Cert.BwdMixIdeal.nD Cert.BwdMixIdeal.τ).loc Cert.BwdMixIdeal.main_v43_4)) (v5 : (c : Dev Cert.BwdMixIdeal.nD) → Buf (Elt Ideal) ((c.tc : Thread Cert.BwdMixIdeal.nD Cert.BwdMixIdeal.τ).loc Cert.BwdMixIdeal.main_v43_5)),
      θ_run (Cert.BwdMixIdeal.defs (F := Ideal)) (onTc (τ := Cert.BwdMixIdeal.τ) (Cert.BwdMixIdeal.main (F := Ideal))) ⟨m, fun _ => 0, g⟩ (fun r => ∀ c : Dev Cert.BwdMixIdeal.nD,
          r.2.mem ((c.tc : Thread Cert.BwdMixIdeal.nD Cert.BwdMixIdeal.τ).loc Cert.BwdMixIdeal.main_v43_0) = v0 c
          ∧ r.2.mem ((c.tc : Thread Cert.BwdMixIdeal.nD Cert.BwdMixIdeal.τ).loc Cert.BwdMixIdeal.main_v43_1) = v1 c
          ∧ r.2.mem ((c.tc : Thread Cert.BwdMixIdeal.nD Cert.BwdMixIdeal.τ).loc Cert.BwdMixIdeal.main_v43_2) = v2 c
          ∧ r.2.mem ((c.tc : Thread Cert.BwdMixIdeal.nD Cert.BwdMixIdeal.τ).loc Cert.BwdMixIdeal.main_v43_3) = v3 c
          ∧ r.2.mem ((c.tc : Thread Cert.BwdMixIdeal.nD Cert.BwdMixIdeal.τ).loc Cert.BwdMixIdeal.main_v43_4) = v4 c
          ∧ r.2.mem ((c.tc : Thread Cert.BwdMixIdeal.nD Cert.BwdMixIdeal.τ).loc Cert.BwdMixIdeal.main_v43_5) = v5 c
          ∧ r.2.mem ((c.tc : Thread Cert.BwdMixIdeal.nD Cert.BwdMixIdeal.τ).loc Cert.BwdMixIdeal.main_arg0) = m ((c.tc : Thread Cert.BwdMixIdeal.nD Cert.BwdMixIdeal.τ).loc Cert.BwdMixIdeal.main_arg0)
          ∧ r.2.mem ((c.tc : Thread Cert.BwdMixIdeal.nD Cert.BwdMixIdeal.τ).loc Cert.BwdMixIdeal.main_arg1) = m ((c.tc : Thread Cert.BwdMixIdeal.nD Cert.BwdMixIdeal.τ).loc Cert.BwdMixIdeal.main_arg1)
          ∧ r.2.mem ((c.tc : Thread Cert.BwdMixIdeal.nD Cert.BwdMixIdeal.τ).loc Cert.BwdMixIdeal.main_arg2) = m ((c.tc : Thread Cert.BwdMixIdeal.nD Cert.BwdMixIdeal.τ).loc Cert.BwdMixIdeal.main_arg2)
          ∧ r.2.mem ((c.tc : Thread Cert.BwdMixIdeal.nD Cert.BwdMixIdeal.τ).loc Cert.BwdMixIdeal.main_arg3) = m ((c.tc : Thread Cert.BwdMixIdeal.nD Cert.BwdMixIdeal.τ).loc Cert.BwdMixIdeal.main_arg3)
          ∧ r.2.mem ((c.tc : Thread Cert.BwdMixIdeal.nD Cert.BwdMixIdeal.τ).loc Cert.BwdMixIdeal.main_arg4) = m ((c.tc : Thread Cert.BwdMixIdeal.nD Cert.BwdMixIdeal.τ).loc Cert.BwdMixIdeal.main_arg4)
          ∧ r.2.mem ((c.tc : Thread Cert.BwdMixIdeal.nD Cert.BwdMixIdeal.τ).loc Cert.BwdMixIdeal.main_arg5) = m ((c.tc : Thread Cert.BwdMixIdeal.nD Cert.BwdMixIdeal.τ).loc Cert.BwdMixIdeal.main_arg5)
          ∧ r.2.mem ((c.tc : Thread Cert.BwdMixIdeal.nD Cert.BwdMixIdeal.τ).loc Cert.BwdMixIdeal.main_arg6) = m ((c.tc : Thread Cert.BwdMixIdeal.nD Cert.BwdMixIdeal.τ).loc Cert.BwdMixIdeal.main_arg6)
          ∧ r.2.mem ((c.tc : Thread Cert.BwdMixIdeal.nD Cert.BwdMixIdeal.τ).loc Cert.BwdMixIdeal.main_arg7) = m ((c.tc : Thread Cert.BwdMixIdeal.nD Cert.BwdMixIdeal.τ).loc Cert.BwdMixIdeal.main_arg7)
          ∧ r.2.mem ((c.tc : Thread Cert.BwdMixIdeal.nD Cert.BwdMixIdeal.τ).loc Cert.BwdMixIdeal.main_arg8) = m ((c.tc : Thread Cert.BwdMixIdeal.nD Cert.BwdMixIdeal.τ).loc Cert.BwdMixIdeal.main_arg8)
          ∧ r.2.mem ((c.tc : Thread Cert.BwdMixIdeal.nD Cert.BwdMixIdeal.τ).loc Cert.BwdMixIdeal.main_arg9) = m ((c.tc : Thread Cert.BwdMixIdeal.nD Cert.BwdMixIdeal.τ).loc Cert.BwdMixIdeal.main_arg9)
          ∧ r.2.mem ((c.tc : Thread Cert.BwdMixIdeal.nD Cert.BwdMixIdeal.τ).loc Cert.BwdMixIdeal.main_arg10) = m ((c.tc : Thread Cert.BwdMixIdeal.nD Cert.BwdMixIdeal.τ).loc Cert.BwdMixIdeal.main_arg10))
      ∧ θ_run (Cert.RefMixIdeal.defs (F := Ideal)) (onTc (τ := Cert.RefMixIdeal.τ) (Cert.RefMixIdeal.main (F := Ideal))) ⟨m', fun _ => 0, g'⟩ (fun r => ∀ c : Dev Cert.RefMixIdeal.nD,
          r.2.mem ((c.tc : Thread Cert.RefMixIdeal.nD Cert.RefMixIdeal.τ).loc Cert.RefMixIdeal.main_v150) = v0 c
          ∧ r.2.mem ((c.tc : Thread Cert.RefMixIdeal.nD Cert.RefMixIdeal.τ).loc Cert.RefMixIdeal.main_v151) = v1 c
          ∧ r.2.mem ((c.tc : Thread Cert.RefMixIdeal.nD Cert.RefMixIdeal.τ).loc Cert.RefMixIdeal.main_v152) = v2 c
          ∧ r.2.mem ((c.tc : Thread Cert.RefMixIdeal.nD Cert.RefMixIdeal.τ).loc Cert.RefMixIdeal.main_v132) = v3 c
          ∧ r.2.mem ((c.tc : Thread Cert.RefMixIdeal.nD Cert.RefMixIdeal.τ).loc Cert.RefMixIdeal.main_v128) = v4 c
          ∧ r.2.mem ((c.tc : Thread Cert.RefMixIdeal.nD Cert.RefMixIdeal.τ).loc Cert.RefMixIdeal.main_v148) = v5 c
          ∧ r.2.mem ((c.tc : Thread Cert.RefMixIdeal.nD Cert.RefMixIdeal.τ).loc Cert.RefMixIdeal.main_arg0) = m' ((c.tc : Thread Cert.RefMixIdeal.nD Cert.RefMixIdeal.τ).loc Cert.RefMixIdeal.main_arg0)
          ∧ r.2.mem ((c.tc : Thread Cert.RefMixIdeal.nD Cert.RefMixIdeal.τ).loc Cert.RefMixIdeal.main_arg1) = m' ((c.tc : Thread Cert.RefMixIdeal.nD Cert.RefMixIdeal.τ).loc Cert.RefMixIdeal.main_arg1)
          ∧ r.2.mem ((c.tc : Thread Cert.RefMixIdeal.nD Cert.RefMixIdeal.τ).loc Cert.RefMixIdeal.main_arg2) = m' ((c.tc : Thread Cert.RefMixIdeal.nD Cert.RefMixIdeal.τ).loc Cert.RefMixIdeal.main_arg2)
          ∧ r.2.mem ((c.tc : Thread Cert.RefMixIdeal.nD Cert.RefMixIdeal.τ).loc Cert.RefMixIdeal.main_arg3) = m' ((c.tc : Thread Cert.RefMixIdeal.nD Cert.RefMixIdeal.τ).loc Cert.RefMixIdeal.main_arg3)
          ∧ r.2.mem ((c.tc : Thread Cert.RefMixIdeal.nD Cert.RefMixIdeal.τ).loc Cert.RefMixIdeal.main_arg4) = m' ((c.tc : Thread Cert.RefMixIdeal.nD Cert.RefMixIdeal.τ).loc Cert.RefMixIdeal.main_arg4)
          ∧ r.2.mem ((c.tc : Thread Cert.RefMixIdeal.nD Cert.RefMixIdeal.τ).loc Cert.RefMixIdeal.main_arg5) = m' ((c.tc : Thread Cert.RefMixIdeal.nD Cert.RefMixIdeal.τ).loc Cert.RefMixIdeal.main_arg5)
          ∧ r.2.mem ((c.tc : Thread Cert.RefMixIdeal.nD Cert.RefMixIdeal.τ).loc Cert.RefMixIdeal.main_arg6) = m' ((c.tc : Thread Cert.RefMixIdeal.nD Cert.RefMixIdeal.τ).loc Cert.RefMixIdeal.main_arg6)
          ∧ r.2.mem ((c.tc : Thread Cert.RefMixIdeal.nD Cert.RefMixIdeal.τ).loc Cert.RefMixIdeal.main_arg7) = m' ((c.tc : Thread Cert.RefMixIdeal.nD Cert.RefMixIdeal.τ).loc Cert.RefMixIdeal.main_arg7)
          ∧ r.2.mem ((c.tc : Thread Cert.RefMixIdeal.nD Cert.RefMixIdeal.τ).loc Cert.RefMixIdeal.main_arg8) = m' ((c.tc : Thread Cert.RefMixIdeal.nD Cert.RefMixIdeal.τ).loc Cert.RefMixIdeal.main_arg8)
          ∧ r.2.mem ((c.tc : Thread Cert.RefMixIdeal.nD Cert.RefMixIdeal.τ).loc Cert.RefMixIdeal.main_arg9) = m' ((c.tc : Thread Cert.RefMixIdeal.nD Cert.RefMixIdeal.τ).loc Cert.RefMixIdeal.main_arg9)
          ∧ r.2.mem ((c.tc : Thread Cert.RefMixIdeal.nD Cert.RefMixIdeal.τ).loc Cert.RefMixIdeal.main_arg10) = m' ((c.tc : Thread Cert.RefMixIdeal.nD Cert.RefMixIdeal.τ).loc Cert.RefMixIdeal.main_arg10))

def preserves_FwdIn_FwdInIdeal : Prop :=
  True

def algebraic_FwdInIdeal_RefFwdIdeal [hFwdInIdeal : Cert.FwdInIdeal.Facts] [hRefFwdIdeal : Cert.RefFwdIdeal.Facts] : Prop :=
  ∀ (m : (ℓ : Loc Cert.FwdInIdeal.nD Cert.FwdInIdeal.τ Cert.FwdInIdeal.sig) → Buf (Elt Ideal) ℓ) (g : Dev Cert.FwdInIdeal.nD → PrngReg)
    (m' : (ℓ : Loc Cert.RefFwdIdeal.nD Cert.RefFwdIdeal.τ Cert.RefFwdIdeal.sig) → Buf (Elt Ideal) ℓ) (g' : Dev Cert.RefFwdIdeal.nD → PrngReg), Pre_FwdInIdeal m →
    (∀ c : Dev Cert.FwdInIdeal.nD,
      m' ((c.tc : Thread Cert.RefFwdIdeal.nD Cert.RefFwdIdeal.τ).loc Cert.RefFwdIdeal.main_arg0) = m ((c.tc : Thread Cert.FwdInIdeal.nD Cert.FwdInIdeal.τ).loc Cert.FwdInIdeal.main_arg0)
      ∧ m' ((c.tc : Thread Cert.RefFwdIdeal.nD Cert.RefFwdIdeal.τ).loc Cert.RefFwdIdeal.main_arg1) = m ((c.tc : Thread Cert.FwdInIdeal.nD Cert.FwdInIdeal.τ).loc Cert.FwdInIdeal.main_arg1)
      ∧ m' ((c.tc : Thread Cert.RefFwdIdeal.nD Cert.RefFwdIdeal.τ).loc Cert.RefFwdIdeal.main_arg2) = m ((c.tc : Thread Cert.FwdInIdeal.nD Cert.FwdInIdeal.τ).loc Cert.FwdInIdeal.main_arg2)
      ∧ m' ((c.tc : Thread Cert.RefFwdIdeal.nD Cert.RefFwdIdeal.τ).loc Cert.RefFwdIdeal.main_arg3) = m ((c.tc : Thread Cert.FwdInIdeal.nD Cert.FwdInIdeal.τ).loc Cert.FwdInIdeal.main_arg3)) →
    ∃ (v0 : (c : Dev Cert.FwdInIdeal.nD) → Buf (Elt Ideal) ((c.tc : Thread Cert.FwdInIdeal.nD Cert.FwdInIdeal.τ).loc Cert.FwdInIdeal.main_v5_0)) (v1 : (c : Dev Cert.FwdInIdeal.nD) → Buf (Elt Ideal) ((c.tc : Thread Cert.FwdInIdeal.nD Cert.FwdInIdeal.τ).loc Cert.FwdInIdeal.main_v5_1)) (v2 : (c : Dev Cert.FwdInIdeal.nD) → Buf (Elt Ideal) ((c.tc : Thread Cert.FwdInIdeal.nD Cert.FwdInIdeal.τ).loc Cert.FwdInIdeal.main_v5_2)) (v3 : (c : Dev Cert.FwdInIdeal.nD) → Buf (Elt Ideal) ((c.tc : Thread Cert.FwdInIdeal.nD Cert.FwdInIdeal.τ).loc Cert.FwdInIdeal.main_v5_3)),
      θ_run (Cert.FwdInIdeal.defs (F := Ideal)) (onTc (τ := Cert.FwdInIdeal.τ) (Cert.FwdInIdeal.main (F := Ideal))) ⟨m, fun _ => 0, g⟩ (fun r => ∀ c : Dev Cert.FwdInIdeal.nD,
          r.2.mem ((c.tc : Thread Cert.FwdInIdeal.nD Cert.FwdInIdeal.τ).loc Cert.FwdInIdeal.main_v5_0) = v0 c
          ∧ r.2.mem ((c.tc : Thread Cert.FwdInIdeal.nD Cert.FwdInIdeal.τ).loc Cert.FwdInIdeal.main_v5_1) = v1 c
          ∧ r.2.mem ((c.tc : Thread Cert.FwdInIdeal.nD Cert.FwdInIdeal.τ).loc Cert.FwdInIdeal.main_v5_2) = v2 c
          ∧ r.2.mem ((c.tc : Thread Cert.FwdInIdeal.nD Cert.FwdInIdeal.τ).loc Cert.FwdInIdeal.main_v5_3) = v3 c
          ∧ r.2.mem ((c.tc : Thread Cert.FwdInIdeal.nD Cert.FwdInIdeal.τ).loc Cert.FwdInIdeal.main_arg0) = m ((c.tc : Thread Cert.FwdInIdeal.nD Cert.FwdInIdeal.τ).loc Cert.FwdInIdeal.main_arg0)
          ∧ r.2.mem ((c.tc : Thread Cert.FwdInIdeal.nD Cert.FwdInIdeal.τ).loc Cert.FwdInIdeal.main_arg1) = m ((c.tc : Thread Cert.FwdInIdeal.nD Cert.FwdInIdeal.τ).loc Cert.FwdInIdeal.main_arg1)
          ∧ r.2.mem ((c.tc : Thread Cert.FwdInIdeal.nD Cert.FwdInIdeal.τ).loc Cert.FwdInIdeal.main_arg2) = m ((c.tc : Thread Cert.FwdInIdeal.nD Cert.FwdInIdeal.τ).loc Cert.FwdInIdeal.main_arg2)
          ∧ r.2.mem ((c.tc : Thread Cert.FwdInIdeal.nD Cert.FwdInIdeal.τ).loc Cert.FwdInIdeal.main_arg3) = m ((c.tc : Thread Cert.FwdInIdeal.nD Cert.FwdInIdeal.τ).loc Cert.FwdInIdeal.main_arg3))
      ∧ θ_run (Cert.RefFwdIdeal.defs (F := Ideal)) (onTc (τ := Cert.RefFwdIdeal.τ) (Cert.RefFwdIdeal.main (F := Ideal))) ⟨m', fun _ => 0, g'⟩ (fun r => ∀ c : Dev Cert.RefFwdIdeal.nD,
          r.2.mem ((c.tc : Thread Cert.RefFwdIdeal.nD Cert.RefFwdIdeal.τ).loc Cert.RefFwdIdeal.main_v21) = v0 c
          ∧ r.2.mem ((c.tc : Thread Cert.RefFwdIdeal.nD Cert.RefFwdIdeal.τ).loc Cert.RefFwdIdeal.main_v22) = v1 c
          ∧ r.2.mem ((c.tc : Thread Cert.RefFwdIdeal.nD Cert.RefFwdIdeal.τ).loc Cert.RefFwdIdeal.main_v29) = v2 c
          ∧ r.2.mem ((c.tc : Thread Cert.RefFwdIdeal.nD Cert.RefFwdIdeal.τ).loc Cert.RefFwdIdeal.main_v30) = v3 c
          ∧ r.2.mem ((c.tc : Thread Cert.RefFwdIdeal.nD Cert.RefFwdIdeal.τ).loc Cert.RefFwdIdeal.main_arg0) = m' ((c.tc : Thread Cert.RefFwdIdeal.nD Cert.RefFwdIdeal.τ).loc Cert.RefFwdIdeal.main_arg0)
          ∧ r.2.mem ((c.tc : Thread Cert.RefFwdIdeal.nD Cert.RefFwdIdeal.τ).loc Cert.RefFwdIdeal.main_arg1) = m' ((c.tc : Thread Cert.RefFwdIdeal.nD Cert.RefFwdIdeal.τ).loc Cert.RefFwdIdeal.main_arg1)
          ∧ r.2.mem ((c.tc : Thread Cert.RefFwdIdeal.nD Cert.RefFwdIdeal.τ).loc Cert.RefFwdIdeal.main_arg2) = m' ((c.tc : Thread Cert.RefFwdIdeal.nD Cert.RefFwdIdeal.τ).loc Cert.RefFwdIdeal.main_arg2)
          ∧ r.2.mem ((c.tc : Thread Cert.RefFwdIdeal.nD Cert.RefFwdIdeal.τ).loc Cert.RefFwdIdeal.main_arg3) = m' ((c.tc : Thread Cert.RefFwdIdeal.nD Cert.RefFwdIdeal.τ).loc Cert.RefFwdIdeal.main_arg3))

def preserves_WGrad_WGradIdeal : Prop :=
  True

def algebraic_WGradIdeal_RefWgIdeal [hWGradIdeal : Cert.WGradIdeal.Facts] [hRefWgIdeal : Cert.RefWgIdeal.Facts] : Prop :=
  ∀ (m : (ℓ : Loc Cert.WGradIdeal.nD Cert.WGradIdeal.τ Cert.WGradIdeal.sig) → Buf (Elt Ideal) ℓ) (g : Dev Cert.WGradIdeal.nD → PrngReg)
    (m' : (ℓ : Loc Cert.RefWgIdeal.nD Cert.RefWgIdeal.τ Cert.RefWgIdeal.sig) → Buf (Elt Ideal) ℓ) (g' : Dev Cert.RefWgIdeal.nD → PrngReg), Pre_WGradIdeal m →
    (∀ c : Dev Cert.WGradIdeal.nD,
      m' ((c.tc : Thread Cert.RefWgIdeal.nD Cert.RefWgIdeal.τ).loc Cert.RefWgIdeal.main_arg0) = m ((c.tc : Thread Cert.WGradIdeal.nD Cert.WGradIdeal.τ).loc Cert.WGradIdeal.main_arg0)
      ∧ m' ((c.tc : Thread Cert.RefWgIdeal.nD Cert.RefWgIdeal.τ).loc Cert.RefWgIdeal.main_arg1) = m ((c.tc : Thread Cert.WGradIdeal.nD Cert.WGradIdeal.τ).loc Cert.WGradIdeal.main_arg1)) →
    ∃ (v0 : (c : Dev Cert.WGradIdeal.nD) → Buf (Elt Ideal) ((c.tc : Thread Cert.WGradIdeal.nD Cert.WGradIdeal.τ).loc Cert.WGradIdeal.main_v2)),
      θ_run (Cert.WGradIdeal.defs (F := Ideal)) (onTc (τ := Cert.WGradIdeal.τ) (Cert.WGradIdeal.main (F := Ideal))) ⟨m, fun _ => 0, g⟩ (fun r => ∀ c : Dev Cert.WGradIdeal.nD,
          r.2.mem ((c.tc : Thread Cert.WGradIdeal.nD Cert.WGradIdeal.τ).loc Cert.WGradIdeal.main_v2) = v0 c
          ∧ r.2.mem ((c.tc : Thread Cert.WGradIdeal.nD Cert.WGradIdeal.τ).loc Cert.WGradIdeal.main_arg0) = m ((c.tc : Thread Cert.WGradIdeal.nD Cert.WGradIdeal.τ).loc Cert.WGradIdeal.main_arg0)
          ∧ r.2.mem ((c.tc : Thread Cert.WGradIdeal.nD Cert.WGradIdeal.τ).loc Cert.WGradIdeal.main_arg1) = m ((c.tc : Thread Cert.WGradIdeal.nD Cert.WGradIdeal.τ).loc Cert.WGradIdeal.main_arg1))
      ∧ θ_run (Cert.RefWgIdeal.defs (F := Ideal)) (onTc (τ := Cert.RefWgIdeal.τ) (Cert.RefWgIdeal.main (F := Ideal))) ⟨m', fun _ => 0, g'⟩ (fun r => ∀ c : Dev Cert.RefWgIdeal.nD,
          r.2.mem ((c.tc : Thread Cert.RefWgIdeal.nD Cert.RefWgIdeal.τ).loc Cert.RefWgIdeal.main_v1) = v0 c
          ∧ r.2.mem ((c.tc : Thread Cert.RefWgIdeal.nD Cert.RefWgIdeal.τ).loc Cert.RefWgIdeal.main_arg0) = m' ((c.tc : Thread Cert.RefWgIdeal.nD Cert.RefWgIdeal.τ).loc Cert.RefWgIdeal.main_arg0)
          ∧ r.2.mem ((c.tc : Thread Cert.RefWgIdeal.nD Cert.RefWgIdeal.τ).loc Cert.RefWgIdeal.main_arg1) = m' ((c.tc : Thread Cert.RefWgIdeal.nD Cert.RefWgIdeal.τ).loc Cert.RefWgIdeal.main_arg1))

def preserves_WGradIn_WGradInIdeal : Prop :=
  True

def algebraic_WGradInIdeal_RefWiIdeal [hWGradInIdeal : Cert.WGradInIdeal.Facts] [hRefWiIdeal : Cert.RefWiIdeal.Facts] : Prop :=
  ∀ (m : (ℓ : Loc Cert.WGradInIdeal.nD Cert.WGradInIdeal.τ Cert.WGradInIdeal.sig) → Buf (Elt Ideal) ℓ) (g : Dev Cert.WGradInIdeal.nD → PrngReg)
    (m' : (ℓ : Loc Cert.RefWiIdeal.nD Cert.RefWiIdeal.τ Cert.RefWiIdeal.sig) → Buf (Elt Ideal) ℓ) (g' : Dev Cert.RefWiIdeal.nD → PrngReg), Pre_WGradInIdeal m →
    (∀ c : Dev Cert.WGradInIdeal.nD,
      m' ((c.tc : Thread Cert.RefWiIdeal.nD Cert.RefWiIdeal.τ).loc Cert.RefWiIdeal.main_arg0) = m ((c.tc : Thread Cert.WGradInIdeal.nD Cert.WGradInIdeal.τ).loc Cert.WGradInIdeal.main_arg0)
      ∧ m' ((c.tc : Thread Cert.RefWiIdeal.nD Cert.RefWiIdeal.τ).loc Cert.RefWiIdeal.main_arg1) = m ((c.tc : Thread Cert.WGradInIdeal.nD Cert.WGradInIdeal.τ).loc Cert.WGradInIdeal.main_arg1)
      ∧ m' ((c.tc : Thread Cert.RefWiIdeal.nD Cert.RefWiIdeal.τ).loc Cert.RefWiIdeal.main_arg2) = m ((c.tc : Thread Cert.WGradInIdeal.nD Cert.WGradInIdeal.τ).loc Cert.WGradInIdeal.main_arg2)) →
    ∃ (v0 : (c : Dev Cert.WGradInIdeal.nD) → Buf (Elt Ideal) ((c.tc : Thread Cert.WGradInIdeal.nD Cert.WGradInIdeal.τ).loc Cert.WGradInIdeal.main_v3)),
      θ_run (Cert.WGradInIdeal.defs (F := Ideal)) (onTc (τ := Cert.WGradInIdeal.τ) (Cert.WGradInIdeal.main (F := Ideal))) ⟨m, fun _ => 0, g⟩ (fun r => ∀ c : Dev Cert.WGradInIdeal.nD,
          r.2.mem ((c.tc : Thread Cert.WGradInIdeal.nD Cert.WGradInIdeal.τ).loc Cert.WGradInIdeal.main_v3) = v0 c
          ∧ r.2.mem ((c.tc : Thread Cert.WGradInIdeal.nD Cert.WGradInIdeal.τ).loc Cert.WGradInIdeal.main_arg0) = m ((c.tc : Thread Cert.WGradInIdeal.nD Cert.WGradInIdeal.τ).loc Cert.WGradInIdeal.main_arg0)
          ∧ r.2.mem ((c.tc : Thread Cert.WGradInIdeal.nD Cert.WGradInIdeal.τ).loc Cert.WGradInIdeal.main_arg1) = m ((c.tc : Thread Cert.WGradInIdeal.nD Cert.WGradInIdeal.τ).loc Cert.WGradInIdeal.main_arg1)
          ∧ r.2.mem ((c.tc : Thread Cert.WGradInIdeal.nD Cert.WGradInIdeal.τ).loc Cert.WGradInIdeal.main_arg2) = m ((c.tc : Thread Cert.WGradInIdeal.nD Cert.WGradInIdeal.τ).loc Cert.WGradInIdeal.main_arg2))
      ∧ θ_run (Cert.RefWiIdeal.defs (F := Ideal)) (onTc (τ := Cert.RefWiIdeal.τ) (Cert.RefWiIdeal.main (F := Ideal))) ⟨m', fun _ => 0, g'⟩ (fun r => ∀ c : Dev Cert.RefWiIdeal.nD,
          r.2.mem ((c.tc : Thread Cert.RefWiIdeal.nD Cert.RefWiIdeal.τ).loc Cert.RefWiIdeal.main_v4) = v0 c
          ∧ r.2.mem ((c.tc : Thread Cert.RefWiIdeal.nD Cert.RefWiIdeal.τ).loc Cert.RefWiIdeal.main_arg0) = m' ((c.tc : Thread Cert.RefWiIdeal.nD Cert.RefWiIdeal.τ).loc Cert.RefWiIdeal.main_arg0)
          ∧ r.2.mem ((c.tc : Thread Cert.RefWiIdeal.nD Cert.RefWiIdeal.τ).loc Cert.RefWiIdeal.main_arg1) = m' ((c.tc : Thread Cert.RefWiIdeal.nD Cert.RefWiIdeal.τ).loc Cert.RefWiIdeal.main_arg1)
          ∧ r.2.mem ((c.tc : Thread Cert.RefWiIdeal.nD Cert.RefWiIdeal.τ).loc Cert.RefWiIdeal.main_arg2) = m' ((c.tc : Thread Cert.RefWiIdeal.nD Cert.RefWiIdeal.τ).loc Cert.RefWiIdeal.main_arg2))

def Claim : Prop :=
  ∃ (hBwdIn : Cert.BwdIn.Facts) (hBwdInIdeal : Cert.BwdInIdeal.Facts) (hRefInIdeal : Cert.RefInIdeal.Facts) (hBwdConv : Cert.BwdConv.Facts) (hBwdConvIdeal : Cert.BwdConvIdeal.Facts) (hRefConvIdeal : Cert.RefConvIdeal.Facts) (hMlp : Cert.Mlp.Facts) (hMlpIdeal : Cert.MlpIdeal.Facts) (hRefMlpIdeal : Cert.RefMlpIdeal.Facts) (hBwdMix : Cert.BwdMix.Facts) (hBwdMixIdeal : Cert.BwdMixIdeal.Facts) (hRefMixIdeal : Cert.RefMixIdeal.Facts) (hFwdIn : Cert.FwdIn.Facts) (hFwdInIdeal : Cert.FwdInIdeal.Facts) (hRefFwdIdeal : Cert.RefFwdIdeal.Facts) (hWGrad : Cert.WGrad.Facts) (hWGradIdeal : Cert.WGradIdeal.Facts) (hRefWgIdeal : Cert.RefWgIdeal.Facts) (hWGradIn : Cert.WGradIn.Facts) (hWGradInIdeal : Cert.WGradInIdeal.Facts) (hRefWiIdeal : Cert.RefWiIdeal.Facts) (hPre_finite_in : Cert.Pre_finite_in.Facts) (hPre_finite_mlp : Cert.Pre_finite_mlp.Facts) (hPre_finite_mix : Cert.Pre_finite_mix.Facts),
    quiescent_BwdIn (hBwdIn := hBwdIn)
    ∧ quiescent_BwdInIdeal (hBwdInIdeal := hBwdInIdeal)
    ∧ quiescent_BwdInIdeal_pre_finite_in (hBwdInIdeal := hBwdInIdeal) (hPre_finite_in := hPre_finite_in)
    ∧ quiescent_RefInIdeal (hRefInIdeal := hRefInIdeal)
    ∧ quiescent_RefInIdeal_pre_finite_in (hRefInIdeal := hRefInIdeal) (hPre_finite_in := hPre_finite_in)
    ∧ quiescent_BwdConv (hBwdConv := hBwdConv)
    ∧ quiescent_BwdConvIdeal (hBwdConvIdeal := hBwdConvIdeal)
    ∧ quiescent_RefConvIdeal (hRefConvIdeal := hRefConvIdeal)
    ∧ quiescent_Mlp (hMlp := hMlp)
    ∧ quiescent_MlpIdeal (hMlpIdeal := hMlpIdeal)
    ∧ quiescent_MlpIdeal_pre_finite_mlp (hMlpIdeal := hMlpIdeal) (hPre_finite_mlp := hPre_finite_mlp)
    ∧ quiescent_RefMlpIdeal (hRefMlpIdeal := hRefMlpIdeal)
    ∧ quiescent_RefMlpIdeal_pre_finite_mlp (hRefMlpIdeal := hRefMlpIdeal) (hPre_finite_mlp := hPre_finite_mlp)
    ∧ quiescent_BwdMix (hBwdMix := hBwdMix)
    ∧ quiescent_BwdMixIdeal (hBwdMixIdeal := hBwdMixIdeal)
    ∧ quiescent_BwdMixIdeal_pre_finite_mix (hBwdMixIdeal := hBwdMixIdeal) (hPre_finite_mix := hPre_finite_mix)
    ∧ quiescent_RefMixIdeal (hRefMixIdeal := hRefMixIdeal)
    ∧ quiescent_RefMixIdeal_pre_finite_mix (hRefMixIdeal := hRefMixIdeal) (hPre_finite_mix := hPre_finite_mix)
    ∧ quiescent_FwdIn (hFwdIn := hFwdIn)
    ∧ quiescent_FwdInIdeal (hFwdInIdeal := hFwdInIdeal)
    ∧ quiescent_RefFwdIdeal (hRefFwdIdeal := hRefFwdIdeal)
    ∧ quiescent_WGrad (hWGrad := hWGrad)
    ∧ quiescent_WGradIdeal (hWGradIdeal := hWGradIdeal)
    ∧ quiescent_RefWgIdeal (hRefWgIdeal := hRefWgIdeal)
    ∧ quiescent_WGradIn (hWGradIn := hWGradIn)
    ∧ quiescent_WGradInIdeal (hWGradInIdeal := hWGradInIdeal)
    ∧ quiescent_RefWiIdeal (hRefWiIdeal := hRefWiIdeal)
    ∧ preserves_BwdIn_BwdInIdeal
    ∧ algebraic_BwdInIdeal_RefInIdeal_pre_finite_in (hBwdInIdeal := hBwdInIdeal) (hRefInIdeal := hRefInIdeal) (hPre_finite_in := hPre_finite_in)
    ∧ preserves_BwdConv_BwdConvIdeal
    ∧ algebraic_BwdConvIdeal_RefConvIdeal (hBwdConvIdeal := hBwdConvIdeal) (hRefConvIdeal := hRefConvIdeal)
    ∧ preserves_Mlp_MlpIdeal
    ∧ algebraic_MlpIdeal_RefMlpIdeal_pre_finite_mlp (hMlpIdeal := hMlpIdeal) (hRefMlpIdeal := hRefMlpIdeal) (hPre_finite_mlp := hPre_finite_mlp)
    ∧ preserves_BwdMix_BwdMixIdeal
    ∧ algebraic_BwdMixIdeal_RefMixIdeal_pre_finite_mix (hBwdMixIdeal := hBwdMixIdeal) (hRefMixIdeal := hRefMixIdeal) (hPre_finite_mix := hPre_finite_mix)
    ∧ preserves_FwdIn_FwdInIdeal
    ∧ algebraic_FwdInIdeal_RefFwdIdeal (hFwdInIdeal := hFwdInIdeal) (hRefFwdIdeal := hRefFwdIdeal)
    ∧ preserves_WGrad_WGradIdeal
    ∧ algebraic_WGradIdeal_RefWgIdeal (hWGradIdeal := hWGradIdeal) (hRefWgIdeal := hRefWgIdeal)
    ∧ preserves_WGradIn_WGradInIdeal
    ∧ algebraic_WGradInIdeal_RefWiIdeal (hWGradInIdeal := hWGradInIdeal) (hRefWiIdeal := hRefWiIdeal)
-- ==== Pre_finite_in.lean ====
abbrev S8192x1024 : Shape := ⟨2, ![8192, 1024]⟩
abbrev S1024 : Shape := ⟨1, ![1024]⟩
abbrev S1024x7168 : Shape := ⟨2, ![1024, 7168]⟩
abbrev S8192x7168 : Shape := ⟨2, ![8192, 7168]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x7168 : S_.BroadcastsInDim S1024x7168 (![] : Fin 0 → Fin S1024x7168.rank)
  reducesTo_S1024x7168_S_d0_1 : S1024x7168.ReducesTo [0, 1] S_
  bcast_S_S8192x7168 : S_.BroadcastsInDim S8192x7168 (![] : Fin 0 → Fin S8192x7168.rank)
  reducesTo_S8192x7168_S_d0_1 : S8192x7168.ReducesTo [0, 1] S_

variable [Facts]

def fn_part1 {F : FTy → Type} [FloatOps F] (main_v13 : IVec S_ 1) (main_v16 : IVec S8192x7168 1) : IVec S_ 1 :=
  let main_c_5 : IVec S_ 1 := constantI S_ 1 1#1
  let main_v17 : IVec S_ 1 := (fun x v => Host.reduce IntOp.andi x v reducesTo_S8192x7168_S_d0_1 h_S_) main_v16 main_c_5
  let main_v18 : IVec S_ 1 := andi main_v13 main_v17
  main_v18

def fn {F : FTy → Type} [FloatOps F] (main_arg0 : FVec F S8192x1024 .f32) (main_arg1 : FVec F S1024 .f32) (main_arg2 : FVec F S1024x7168 .f32) (main_arg3 : FVec F S8192x7168 .f32) (main_arg4 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x7168 .f32 := Host.absf main_arg2
  let main_cst_2 : FVec F S_ .f32 := constant S_ .f32 0x7F800000#32
  let main_v10 : FVec F S1024x7168 .f32 := broadcastInDim S1024x7168 ![] bcast_S_S1024x7168 main_cst_2
  let main_v11 : IVec S1024x7168 1 := cmpf .olt main_v9 main_v10
  let main_c_3 : IVec S_ 1 := constantI S_ 1 1#1
  let main_v12 : IVec S_ 1 := (fun x v => Host.reduce IntOp.andi x v reducesTo_S1024x7168_S_d0_1 h_S_) main_v11 main_c_3
  let main_v13 : IVec S_ 1 := andi main_v8 main_v12
  let main_v14 : FVec F S8192x7168 .f32 := Host.absf main_arg3
  let main_cst_4 : FVec F S_ .f32 := constant S_ .f32 0x7F800000#32
  let main_v15 : FVec F S8192x7168 .f32 := broadcastInDim S8192x7168 ![] bcast_S_S8192x7168 main_cst_4
  let main_v16 : IVec S8192x7168 1 := cmpf .olt main_v14 main_v15
  fn_part1 (F := F) main_v13 main_v16
-- ==== Pre_finite_mix.lean ====
abbrev S8192x1024 : Shape := ⟨2, ![8192, 1024]⟩
abbrev S1024 : Shape := ⟨1, ![1024]⟩
abbrev S1024x1024 : Shape := ⟨2, ![1024, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_arg9 : FVec F S1024x1024 .f32) (main_arg10 : FVec F S8192x1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x1024 .f32 := Host.absf main_arg9
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S8192x1024 .f32 := Host.absf main_arg10
  let main_cst_8 : FVec F S_ .f32 := constant S_ .f32 0x7F800000#32
  let main_v25 : FVec F S8192x1024 .f32 := broadcastInDim S8192x1024 ![] bcast_S_S8192x1024 main_cst_8
  let main_v26 : IVec S8192x1024 1 := cmpf .olt main_v24 main_v25
  let main_c_9 : IVec S_ 1 := constantI S_ 1 1#1
  let main_v27 : IVec S_ 1 := (fun x v => Host.reduce IntOp.andi x v reducesTo_S8192x1024_S_d0_1 h_S_) main_v26 main_c_9
  let main_v28 : IVec S_ 1 := andi main_v23 main_v27
  main_v28

def fn {F : FTy → Type} [FloatOps F] (main_arg0 : FVec F S8192x1024 .f32) (main_arg1 : FVec F S8192x1024 .f32) (main_arg2 : FVec F S8192x1024 .f32) (main_arg3 : FVec F S8192x1024 .f32) (main_arg4 : FVec F S8192x1024 .f32) (main_arg5 : FVec F S1024 .f32) (main_arg6 : FVec F S1024 .f32) (main_arg7 : FVec F S1024x1024 .f32) (main_arg8 : FVec F S1024x1024 .f32) (main_arg9 : FVec F S1024x1024 .f32) (main_arg10 : FVec F S8192x1024 .f32) : IVec S_ 1 :=
  let main_v0 : FVec F S8192x1024 .f32 := Host.absf main_arg4
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024 .f32 := Host.absf main_arg5
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024 .f32 := Host.absf main_arg6
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg8
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg9 main_arg10 main_v13 main_v16
-- ==== Pre_finite_mlp.lean ====
abbrev S8192x1024 : Shape := ⟨2, ![8192, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x4096 : S_.BroadcastsInDim S1024x4096 (![] : Fin 0 → Fin S1024x4096.rank)
  reducesTo_S1024x4096_S_d0_1 : S1024x4096.ReducesTo [0, 1] S_
  bcast_S_S4096x1024 : S_.BroadcastsInDim S4096x1024 (![] : Fin 0 → Fin S4096x1024.rank)
  reducesTo_S4096x1024_S_d0_1 : S4096x1024.ReducesTo [0, 1] S_

variable [Facts]

def fn_part2 {F : FTy → Type} [FloatOps F] (main_arg7 : FVec F S8192x1024 .f32) (main_v33 : IVec S_ 1) : IVec S_ 1 :=
  let main_v34 : FVec F S8192x1024 .f32 := Host.absf main_arg7
  let main_cst_12 : FVec F S_ .f32 := constant S_ .f32 0x7F800000#32
  let main_v35 : FVec F S8192x1024 .f32 := broadcastInDim S8192x1024 ![] bcast_S_S8192x1024 main_cst_12
  let main_v36 : IVec S8192x1024 1 := cmpf .olt main_v34 main_v35
  let main_c_13 : IVec S_ 1 := constantI S_ 1 1#1
  let main_v37 : IVec S_ 1 := (fun x v => Host.reduce IntOp.andi x v reducesTo_S8192x1024_S_d0_1 h_S_) main_v36 main_c_13
  let main_v38 : IVec S_ 1 := andi main_v33 main_v37
  main_v38

def fn_part1 {F : FTy → Type} [FloatOps F] (main_arg4 : FVec F S1024x4096 .f32) (main_arg5 : FVec F S4096x1024 .f32) (main_arg6 : FVec F S1024 .f32) (main_arg7 : FVec F S8192x1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x4096 .f32 := Host.absf main_arg4
  let main_cst_6 : FVec F S_ .f32 := constant S_ .f32 0x7F800000#32
  let main_v20 : FVec F S1024x4096 .f32 := broadcastInDim S1024x4096 ![] bcast_S_S1024x4096 main_cst_6
  let main_v21 : IVec S1024x4096 1 := cmpf .olt main_v19 main_v20
  let main_c_7 : IVec S_ 1 := constantI S_ 1 1#1
  let main_v22 : IVec S_ 1 := (fun x v => Host.reduce IntOp.andi x v reducesTo_S1024x4096_S_d0_1 h_S_) main_v21 main_c_7
  let main_v23 : IVec S_ 1 := andi main_v18 main_v22
  let main_v24 : FVec F S4096x1024 .f32 := Host.absf main_arg5
  let main_cst_8 : FVec F S_ .f32 := constant S_ .f32 0x7F800000#32
  let main_v25 : FVec F S4096x1024 .f32 := broadcastInDim S4096x1024 ![] bcast_S_S4096x1024 main_cst_8
  let main_v26 : IVec S4096x1024 1 := cmpf .olt main_v24 main_v25
  let main_c_9 : IVec S_ 1 := constantI S_ 1 1#1
  let main_v27 : IVec S_ 1 := (fun x v => Host.reduce IntOp.andi x v reducesTo_S4096x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_v33

def fn {F : FTy → Type} [FloatOps F] (main_arg0 : FVec F S8192x1024 .f32) (main_arg1 : FVec F S8192x1024 .f32) (main_arg2 : FVec F S1024 .f32) (main_arg3 : FVec F S1024 .f32) (main_arg4 : FVec F S1024x4096 .f32) (main_arg5 : FVec F S4096x1024 .f32) (main_arg6 : FVec F S1024 .f32) (main_arg7 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_arg7 main_v13 main_v16
-- ==== BwdIn.lean ====
abbrev S8192x1024 : Shape := ⟨2, ![8192, 1024]⟩
abbrev S1024 : Shape := ⟨1, ![1024]⟩
abbrev S1024x7168 : Shape := ⟨2, ![1024, 7168]⟩
abbrev S8192x7168 : Shape := ⟨2, ![8192, 7168]⟩
abbrev S7168x1024 : Shape := ⟨2, ![7168, 1024]⟩
abbrev S8x896x1024 : Shape := ⟨3, ![8, 896, 1024]⟩
abbrev S8192x2048 : Shape := ⟨2, ![8192, 2048]⟩
abbrev S8192x3072 : Shape := ⟨2, ![8192, 3072]⟩
abbrev S8192x4096 : Shape := ⟨2, ![8192, 4096]⟩
abbrev S1x1024 : Shape := ⟨2, ![1, 1024]⟩
abbrev S8x1024 : Shape := ⟨2, ![8, 1024]⟩
abbrev S512x3072 : Shape := ⟨2, ![512, 3072]⟩
abbrev S512x4096 : Shape := ⟨2, ![512, 4096]⟩
abbrev S512x1024 : Shape := ⟨2, ![512, 1024]⟩
abbrev S8 : Shape := ⟨1, ![8]⟩
abbrev S1 : Shape := ⟨1, ![1]⟩
abbrev S_ : Shape := ⟨0, ![]⟩
abbrev S896x1024 : Shape := ⟨2, ![896, 1024]⟩
abbrev S1x896x1024 : Shape := ⟨3, ![1, 896, 1024]⟩
abbrev S1024x1024 : Shape := ⟨2, ![1024, 1024]⟩
abbrev S4096x1024 : Shape := ⟨2, ![4096, 1024]⟩
abbrev S512x2048 : Shape := ⟨2, ![512, 2048]⟩
abbrev S2048x1024 : Shape := ⟨2, ![2048, 1024]⟩
abbrev S512 : Shape := ⟨1, ![512]⟩
abbrev S512x1 : Shape := ⟨2, ![512, 1]⟩

abbrev nBuf : Space → Nat
  | .hbm => 17
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x7168, .f32⟩
  | .hbm, ⟨3, _⟩ => ⟨S8192x7168, .f32⟩
  | .hbm, ⟨4, _⟩ => ⟨S8192x1024, .f32⟩
  | .hbm, ⟨5, _⟩ => ⟨S7168x1024, .f32⟩
  | .hbm, ⟨6, _⟩ => ⟨S7168x1024, .bf16⟩
  | .hbm, ⟨7, _⟩ => ⟨S8x896x1024, .bf16⟩
  | .hbm, ⟨8, _⟩ => ⟨S8192x1024, .f32⟩
  | .hbm, ⟨9, _⟩ => ⟨S8192x2048, .f32⟩
  | .hbm, ⟨10, _⟩ => ⟨S8192x3072, .f32⟩
  | .hbm, ⟨11, _⟩ => ⟨S8192x3072, .bf16⟩
  | .hbm, ⟨12, _⟩ => ⟨S8192x4096, .f32⟩
  | .hbm, ⟨13, _⟩ => ⟨S8192x4096, .bf16⟩
  | .hbm, ⟨14, _⟩ => ⟨S1x1024, .f32⟩
  | .hbm, ⟨15, _⟩ => ⟨S8192x1024, .f32⟩
  | .hbm, ⟨16, _⟩ => ⟨S8x1024, .f32⟩
  | .local _ .vmem, ⟨0, _⟩ => ⟨S512x3072, .bf16⟩
  | .local _ .vmem, ⟨1, _⟩ => ⟨S512x3072, .bf16⟩
  | .local _ .vmem, ⟨2, _⟩ => ⟨S512x4096, .bf16⟩
  | .local _ .vmem, ⟨3, _⟩ => ⟨S512x4096, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S8x1024, .f32⟩
  | .local _ .vmem, ⟨12, _⟩ => ⟨S7168x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10_0 : Ref sig .tc := ⟨.hbm, 15, rfl⟩
abbrev main_v10_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== RefInIdeal.lean ====
abbrev S8192x1024 : Shape := ⟨2, ![8192, 1024]⟩
abbrev S1024 : Shape := ⟨1, ![1024]⟩
abbrev S1024x7168 : Shape := ⟨2, ![1024, 7168]⟩
abbrev S8192x7168 : Shape := ⟨2, ![8192, 7168]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S7168x1024 : Shape := ⟨2, ![7168, 1024]⟩
abbrev S7x1024 : Shape := ⟨2, ![7, 1024]⟩
abbrev S8x1024 : Shape := ⟨2, ![8, 1024]⟩

abbrev nBuf : Space → Nat
  | .hbm => 59
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x7168, .f32⟩
  | .hbm, ⟨3, _⟩ => ⟨S8192x7168, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x7168, .f32⟩
  | .hbm, ⟨26, _⟩ => ⟨S7168x1024, .f32⟩
  | .hbm, ⟨27, _⟩ => ⟨S1024x7168, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S1024, .f32⟩
  | .hbm, ⟨37, _⟩ => ⟨S8192x1024, .f32⟩
  | .hbm, ⟨38, _⟩ => ⟨S_, .f32⟩
  | .hbm, ⟨39, _⟩ => ⟨S8192, .f32⟩
  | .hbm, ⟨40, _⟩ => ⟨S8192x1, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1, .f32⟩
  | .hbm, ⟨45, _⟩ => ⟨S_, .f32⟩
  | .hbm, ⟨46, _⟩ => ⟨S8192x1, .f32⟩
  | .hbm, ⟨47, _⟩ => ⟨S8192x1, .f32⟩
  | .hbm, ⟨48, _⟩ => ⟨S_, .f32⟩
  | .hbm, ⟨49, _⟩ => ⟨S8192, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S1x1024, .f32⟩
  | .hbm, ⟨56, _⟩ => ⟨S_, .f32⟩
  | .hbm, ⟨57, _⟩ => ⟨S7x1024, .f32⟩
  | .hbm, ⟨58, _⟩ => ⟨S8x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_8 : Ref sig .tc := ⟨.hbm, 56, rfl⟩
abbrev main_v42 : Ref sig .tc := ⟨.hbm, 57, rfl⟩
abbrev main_v43 : Ref sig .tc := ⟨.hbm, 58, rfl⟩

abbrev nD : Nat := 1
abbrev τ : Topo := Topo.v7x

variable {F : FTy → Type} [FloatOps F]
-- ==== BwdConv.lean ====
abbrev S8192x1024 : Shape := ⟨2, ![8192, 1024]⟩
abbrev S3x1024 : Shape := ⟨2, ![3, 1024]⟩
abbrev S31x1024 : Shape := ⟨2, ![31, 1024]⟩
abbrev S_ : Shape := ⟨0, ![]⟩
abbrev S8192x7168 : Shape := ⟨2, ![8192, 7168]⟩
abbrev S8192x4096 : Shape := ⟨2, ![8192, 4096]⟩
abbrev S40x1024 : Shape := ⟨2, ![40, 1024]⟩
abbrev S256x1024 : Shape := ⟨2, ![256, 1024]⟩
abbrev S16x1024 : Shape := ⟨2, ![16, 1024]⟩
abbrev S256x4096 : Shape := ⟨2, ![256, 4096]⟩
abbrev S3x8x1024 : Shape := ⟨3, ![3, 8, 1024]⟩
abbrev S31x8x1024 : Shape := ⟨3, ![31, 8, 1024]⟩
abbrev S1x1024 : Shape := ⟨2, ![1, 1024]⟩
abbrev S8x1024 : Shape := ⟨2, ![8, 1024]⟩
abbrev S1x8x1024 : Shape := ⟨3, ![1, 8, 1024]⟩
abbrev S16x128 : Shape := ⟨2, ![16, 128]⟩
abbrev S80x128 : Shape := ⟨2, ![80, 128]⟩
abbrev S96x128 : Shape := ⟨2, ![96, 128]⟩
abbrev S64x128 : Shape := ⟨2, ![64, 128]⟩
abbrev S8x8x128 : Shape := ⟨3, ![8, 8, 128]⟩
abbrev S12x8x128 : Shape := ⟨3, ![12, 8, 128]⟩
abbrev S1x8x128 : Shape := ⟨3, ![1, 8, 128]⟩
abbrev S8x128 : Shape := ⟨2, ![8, 128]⟩
abbrev S1024 : Shape := ⟨1, ![1024]⟩

abbrev nBuf : Space → Nat
  | .hbm => 24
  | .vmem => 35
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S3x1024, .f32⟩
  | .hbm, ⟨5, _⟩ => ⟨S31x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S_, .f32⟩
  | .hbm, ⟨12, _⟩ => ⟨S8192x1024, .f32⟩
  | .hbm, ⟨13, _⟩ => ⟨S8192x1024, .f32⟩
  | .hbm, ⟨14, _⟩ => ⟨S_, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S_, .f32⟩
  | .hbm, ⟨19, _⟩ => ⟨S8192x1024, .f32⟩
  | .hbm, ⟨20, _⟩ => ⟨S8192x7168, .f32⟩
  | .hbm, ⟨21, _⟩ => ⟨S8192x7168, .bf16⟩
  | .hbm, ⟨22, _⟩ => ⟨S8192x4096, .bf16⟩
  | .hbm, ⟨23, _⟩ => ⟨S40x1024, .f32⟩
  | .local _ .vmem, ⟨0, _⟩ => ⟨S256x1024, .f32⟩
  | .local _ .vmem, ⟨1, _⟩ => ⟨S256x1024, .f32⟩
  | .local _ .vmem, ⟨2, _⟩ => ⟨S16x1024, .f32⟩
  | .local _ .vmem, ⟨3, _⟩ => ⟨S16x1024, .f32⟩
  | .local _ .vmem, ⟨4, _⟩ => ⟨S16x1024, .f32⟩
  | .local _ .vmem, ⟨5, _⟩ => ⟨S16x1024, .f32⟩
  | .local _ .vmem, ⟨6, _⟩ => ⟨S256x1024, .f32⟩
  | .local _ .vmem, ⟨7, _⟩ => ⟨S256x1024, .f32⟩
  | .local _ .vmem, ⟨8, _⟩ => ⟨S16x1024, .f32⟩
  | .local _ .vmem, ⟨9, _⟩ => ⟨S16x1024, .f32⟩
  | .local _ .vmem, ⟨10, _⟩ => ⟨S16x1024, .f32⟩
  | .local _ .vmem, ⟨11, _⟩ => ⟨S16x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .bf16⟩
  | .local _ .vmem, ⟨17, _⟩ => ⟨S256x1024, .bf16⟩
  | .local _ .vmem, ⟨18, _⟩ => ⟨S256x1024, .bf16⟩
  | .local _ .vmem, ⟨19, _⟩ => ⟨S256x1024, .bf16⟩
  | .local _ .vmem, ⟨20, _⟩ => ⟨S256x1024, .bf16⟩
  | .local _ .vmem, ⟨21, _⟩ => ⟨S256x1024, .bf16⟩
  | .local _ .vmem, ⟨22, _⟩ => ⟨S256x1024, .bf16⟩
  | .local _ .vmem, ⟨23, _⟩ => ⟨S256x1024, .bf16⟩
  | .local _ .vmem, ⟨24, _⟩ => ⟨S3x1024, .f32⟩
  | .local _ .vmem, ⟨25, _⟩ => ⟨S31x1024, .f32⟩
  | .local _ .vmem, ⟨26, _⟩ => ⟨S256x4096, .bf16⟩
  | .local _ .vmem, ⟨27, _⟩ => ⟨S256x4096, .bf16⟩
  | .local _ .vmem, ⟨28, _⟩ => ⟨S40x1024, .f32⟩
  | .local _ .vmem, ⟨29, _⟩ => ⟨S256x1024, .f32⟩
  | .local _ .vmem, ⟨30, _⟩ => ⟨S256x1024, .f32⟩
  | .local _ .vmem, ⟨31, _⟩ => ⟨S3x8x1024, .f32⟩
  | .local _ .vmem, ⟨32, _⟩ => ⟨S31x8x1024, .f32⟩
  | .local _ .vmem, ⟨33, _⟩ => ⟨S3x8x1024, .f32⟩
  | .local _ .vmem, ⟨34, _⟩ => ⟨S31x8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11_0 : Ref sig .tc := ⟨.hbm, 22, rfl⟩
abbrev main_v11_1 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg13_0 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_scratch0 : Ref sig .tc := ⟨.vmem, 29, rfl⟩
abbrev cc0_scratch1 : Ref sig .tc := ⟨.vmem, 30, rfl⟩
abbrev cc0_scratch2 : Ref sig .tc := ⟨.vmem, 31, rfl⟩
abbrev cc0_scratch3 : Ref sig .tc := ⟨.vmem, 32, rfl⟩
abbrev cc0_scratch4 : Ref sig .tc := ⟨.vmem, 33, rfl⟩
abbrev cc0_scratch5 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem13_0 : DmaSem sig := 25
abbrev cc0_sem14_0 : DmaSem sig := 26
abbrev cc0_sem14_1 : DmaSem sig := 27
abbrev cc0_sem15_0 : DmaSem sig := 28

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_5 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_9 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_10 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_11 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S3x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S31x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S256x4096 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S40x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== RefConvIdeal.lean ====
abbrev S8192x1024 : Shape := ⟨2, ![8192, 1024]⟩
abbrev S3x1024 : Shape := ⟨2, ![3, 1024]⟩
abbrev S31x1024 : Shape := ⟨2, ![31, 1024]⟩
abbrev S_ : Shape := ⟨0, ![]⟩
abbrev S1x1024 : Shape := ⟨2, ![1, 1024]⟩
abbrev S8194x1024 : Shape := ⟨2, ![8194, 1024]⟩
abbrev S1024 : Shape := ⟨1, ![1024]⟩
abbrev S15x1024 : Shape := ⟨2, ![15, 1024]⟩
abbrev S8222x1024 : Shape := ⟨2, ![8222, 1024]⟩
abbrev S40x1024 : Shape := ⟨2, ![40, 1024]⟩
abbrev S8192x4096 : Shape := ⟨2, ![8192, 4096]⟩

abbrev nBuf : Space → Nat
  | .hbm => 816
  | .vmem => 0
  | .smem => 0
  | _ => 0

abbrev hbmTy0_0 (i : Nat) : BufTy := match i % 128 with
  | 0 => ⟨S8192x1024, .f32⟩
  | 1 => ⟨S8192x1024, .f32⟩
  | 2 => ⟨S8192x1024, .f32⟩
  | 3 => ⟨S8192x1024, .f32⟩
  | 4 => ⟨S3x1024, .f32⟩
  | 5 => ⟨S31x1024, .f32⟩
  | 6 => ⟨S8192x1024, .f32⟩
  | 7 => ⟨S8192x1024, .f32⟩
  | 8 => ⟨S8192x1024, .f32⟩
  | 9 => ⟨S_, .f32⟩
  | 10 => ⟨S1x1024, .f32⟩
  | 11 => ⟨S8194x1024, .f32⟩
  | 12 => ⟨S_, .f32⟩
  | 13 => ⟨S1x1024, .f32⟩
  | 14 => ⟨S_, .f32⟩
  | 15 => ⟨S1x1024, .f32⟩
  | 16 => ⟨S8192x1024, .f32⟩
  | 17 => ⟨S1x1024, .f32⟩
  | 18 => ⟨S1024, .f32⟩
  | 19 => ⟨S1x1024, .f32⟩
  | 20 => ⟨S8192x1024, .f32⟩
  | 21 => ⟨S8192x1024, .f32⟩
  | 22 => ⟨S8192x1024, .f32⟩
  | 23 => ⟨S1x1024, .f32⟩
  | 24 => ⟨S1024, .f32⟩
  | 25 => ⟨S1x1024, .f32⟩
  | 26 => ⟨S8192x1024, .f32⟩
  | 27 => ⟨S8192x1024, .f32⟩
  | 28 => ⟨S8192x1024, .f32⟩
  | 29 => ⟨S8192x1024, .f32⟩
  | 30 => ⟨S1x1024, .f32⟩
  | 31 => ⟨S1024, .f32⟩
  | 32 => ⟨S1x1024, .f32⟩
  | 33 => ⟨S8192x1024, .f32⟩
  | 34 => ⟨S8192x1024, .f32⟩
  | 35 => ⟨S8192x1024, .f32⟩
  | 36 => ⟨S_, .f32⟩
  | 37 => ⟨S8192x1024, .f32⟩
  | 38 => ⟨S8192x1024, .f32⟩
  | 39 => ⟨S8192x1024, .f32⟩
  | 40 => ⟨S8192x1024, .f32⟩
  | 41 => ⟨S_, .f32⟩
  | 42 => ⟨S8192x1024, .f32⟩
  | 43 => ⟨S8192x1024, .f32⟩
  | 44 => ⟨S_, .f32⟩
  | 45 => ⟨S8192x1024, .f32⟩
  | 46 => ⟨S8192x1024, .f32⟩
  | 47 => ⟨S_, .f32⟩
  | 48 => ⟨S8192x1024, .f32⟩
  | 49 => ⟨S8192x1024, .f32⟩
  | 50 => ⟨S8192x1024, .f32⟩
  | 51 => ⟨S8192x1024, .f32⟩
  | 52 => ⟨S_, .f32⟩
  | 53 => ⟨S15x1024, .f32⟩
  | 54 => ⟨S8222x1024, .f32⟩
  | 55 => ⟨S_, .f32⟩
  | 56 => ⟨S15x1024, .f32⟩
  | 57 => ⟨S_, .f32⟩
  | 58 => ⟨S15x1024, .f32⟩
  | 59 => ⟨S8192x1024, .f32⟩
  | 60 => ⟨S1x1024, .f32⟩
  | 61 => ⟨S1024, .f32⟩
  | 62 => ⟨S1x1024, .f32⟩
  | 63 => ⟨S8192x1024, .f32⟩
  | 64 => ⟨S8192x1024, .f32⟩
  | 65 => ⟨S8192x1024, .f32⟩
  | 66 => ⟨S1x1024, .f32⟩
  | 67 => ⟨S1024, .f32⟩
  | 68 => ⟨S1x1024, .f32⟩
  | 69 => ⟨S8192x1024, .f32⟩
  | 70 => ⟨S8192x1024, .f32⟩
  | 71 => ⟨S8192x1024, .f32⟩
  | 72 => ⟨S8192x1024, .f32⟩
  | 73 => ⟨S1x1024, .f32⟩
  | 74 => ⟨S1024, .f32⟩
  | 75 => ⟨S1x1024, .f32⟩
  | 76 => ⟨S8192x1024, .f32⟩
  | 77 => ⟨S8192x1024, .f32⟩
  | 78 => ⟨S8192x1024, .f32⟩
  | 79 => ⟨S8192x1024, .f32⟩
  | 80 => ⟨S1x1024, .f32⟩
  | 81 => ⟨S1024, .f32⟩
  | 82 => ⟨S1x1024, .f32⟩
  | 83 => ⟨S8192x1024, .f32⟩
  | 84 => ⟨S8192x1024, .f32⟩
  | 85 => ⟨S8192x1024, .f32⟩
  | 86 => ⟨S8192x1024, .f32⟩
  | 87 => ⟨S1x1024, .f32⟩
  | 88 => ⟨S1024, .f32⟩
  | 89 => ⟨S1x1024, .f32⟩
  | 90 => ⟨S8192x1024, .f32⟩
  | 91 => ⟨S8192x1024, .f32⟩
  | 92 => ⟨S8192x1024, .f32⟩
  | 93 => ⟨S8192x1024, .f32⟩
  | 94 => ⟨S1x1024, .f32⟩
  | 95 => ⟨S1024, .f32⟩
  | 96 => ⟨S1x1024, .f32⟩
  | 97 => ⟨S8192x1024, .f32⟩
  | 98 => ⟨S8192x1024, .f32⟩
  | 99 => ⟨S8192x1024, .f32⟩
  | 100 => ⟨S8192x1024, .f32⟩
  | 101 => ⟨S1x1024, .f32⟩
  | 102 => ⟨S1024, .f32⟩
  | 103 => ⟨S1x1024, .f32⟩
  | 104 => ⟨S8192x1024, .f32⟩
  | 105 => ⟨S8192x1024, .f32⟩
  | 106 => ⟨S8192x1024, .f32⟩
  | 107 => ⟨S8192x1024, .f32⟩
  | 108 => ⟨S1x1024, .f32⟩
  | 109 => ⟨S1024, .f32⟩
  | 110 => ⟨S1x1024, .f32⟩
  | 111 => ⟨S8192x1024, .f32⟩
  | 112 => ⟨S8192x1024, .f32⟩
  | 113 => ⟨S8192x1024, .f32⟩
  | 114 => ⟨S8192x1024, .f32⟩
  | 115 => ⟨S1x1024, .f32⟩
  | 116 => ⟨S1024, .f32⟩
  | 117 => ⟨S1x1024, .f32⟩
  | 118 => ⟨S8192x1024, .f32⟩
  | 119 => ⟨S8192x1024, .f32⟩
  | 120 => ⟨S8192x1024, .f32⟩
  | 121 => ⟨S8192x1024, .f32⟩
  | 122 => ⟨S1x1024, .f32⟩
  | 123 => ⟨S1024, .f32⟩
  | 124 => ⟨S1x1024, .f32⟩
  | 125 => ⟨S8192x1024, .f32⟩
  | 126 => ⟨S8192x1024, .f32⟩
  | 127 => ⟨S8192x1024, .f32⟩
  | _ => ⟨S8192x1024, .f32⟩

abbrev hbmTy0_1 (i : Nat) : BufTy := match i % 128 with
  | 0 => ⟨S8192x1024, .f32⟩
  | 1 => ⟨S1x1024, .f32⟩
  | 2 => ⟨S1024, .f32⟩
  | 3 => ⟨S1x1024, .f32⟩
  | 4 => ⟨S8192x1024, .f32⟩
  | 5 => ⟨S8192x1024, .f32⟩
  | 6 => ⟨S8192x1024, .f32⟩
  | 7 => ⟨S8192x1024, .f32⟩
  | 8 => ⟨S1x1024, .f32⟩
  | 9 => ⟨S1024, .f32⟩
  | 10 => ⟨S1x1024, .f32⟩
  | 11 => ⟨S8192x1024, .f32⟩
  | 12 => ⟨S8192x1024, .f32⟩
  | 13 => ⟨S8192x1024, .f32⟩
  | 14 => ⟨S8192x1024, .f32⟩
  | 15 => ⟨S1x1024, .f32⟩
  | 16 => ⟨S1024, .f32⟩
  | 17 => ⟨S1x1024, .f32⟩
  | 18 => ⟨S8192x1024, .f32⟩
  | 19 => ⟨S8192x1024, .f32⟩
  | 20 => ⟨S8192x1024, .f32⟩
  | 21 => ⟨S8192x1024, .f32⟩
  | 22 => ⟨S1x1024, .f32⟩
  | 23 => ⟨S1024, .f32⟩
  | 24 => ⟨S1x1024, .f32⟩
  | 25 => ⟨S8192x1024, .f32⟩
  | 26 => ⟨S8192x1024, .f32⟩
  | 27 => ⟨S8192x1024, .f32⟩
  | 28 => ⟨S8192x1024, .f32⟩
  | 29 => ⟨S1x1024, .f32⟩
  | 30 => ⟨S1024, .f32⟩
  | 31 => ⟨S1x1024, .f32⟩
  | 32 => ⟨S8192x1024, .f32⟩
  | 33 => ⟨S8192x1024, .f32⟩
  | 34 => ⟨S8192x1024, .f32⟩
  | 35 => ⟨S8192x1024, .f32⟩
  | 36 => ⟨S1x1024, .f32⟩
  | 37 => ⟨S1024, .f32⟩
  | 38 => ⟨S1x1024, .f32⟩
  | 39 => ⟨S8192x1024, .f32⟩
  | 40 => ⟨S8192x1024, .f32⟩
  | 41 => ⟨S8192x1024, .f32⟩
  | 42 => ⟨S8192x1024, .f32⟩
  | 43 => ⟨S1x1024, .f32⟩
  | 44 => ⟨S1024, .f32⟩
  | 45 => ⟨S1x1024, .f32⟩
  | 46 => ⟨S8192x1024, .f32⟩
  | 47 => ⟨S8192x1024, .f32⟩
  | 48 => ⟨S8192x1024, .f32⟩
  | 49 => ⟨S8192x1024, .f32⟩
  | 50 => ⟨S1x1024, .f32⟩
  | 51 => ⟨S1024, .f32⟩
  | 52 => ⟨S1x1024, .f32⟩
  | 53 => ⟨S8192x1024, .f32⟩
  | 54 => ⟨S8192x1024, .f32⟩
  | 55 => ⟨S8192x1024, .f32⟩
  | 56 => ⟨S8192x1024, .f32⟩
  | 57 => ⟨S1x1024, .f32⟩
  | 58 => ⟨S1024, .f32⟩
  | 59 => ⟨S1x1024, .f32⟩
  | 60 => ⟨S8192x1024, .f32⟩
  | 61 => ⟨S8192x1024, .f32⟩
  | 62 => ⟨S8192x1024, .f32⟩
  | 63 => ⟨S8192x1024, .f32⟩
  | 64 => ⟨S1x1024, .f32⟩
  | 65 => ⟨S1024, .f32⟩
  | 66 => ⟨S1x1024, .f32⟩
  | 67 => ⟨S8192x1024, .f32⟩
  | 68 => ⟨S8192x1024, .f32⟩
  | 69 => ⟨S8192x1024, .f32⟩
  | 70 => ⟨S8192x1024, .f32⟩
  | 71 => ⟨S1x1024, .f32⟩
  | 72 => ⟨S1024, .f32⟩
  | 73 => ⟨S1x1024, .f32⟩
  | 74 => ⟨S8192x1024, .f32⟩
  | 75 => ⟨S8192x1024, .f32⟩
  | 76 => ⟨S8192x1024, .f32⟩
  | 77 => ⟨S8192x1024, .f32⟩
  | 78 => ⟨S1x1024, .f32⟩
  | 79 => ⟨S1024, .f32⟩
  | 80 => ⟨S1x1024, .f32⟩
  | 81 => ⟨S8192x1024, .f32⟩
  | 82 => ⟨S8192x1024, .f32⟩
  | 83 => ⟨S8192x1024, .f32⟩
  | 84 => ⟨S8192x1024, .f32⟩
  | 85 => ⟨S1x1024, .f32⟩
  | 86 => ⟨S1024, .f32⟩
  | 87 => ⟨S1x1024, .f32⟩
  | 88 => ⟨S8192x1024, .f32⟩
  | 89 => ⟨S8192x1024, .f32⟩
  | 90 => ⟨S8192x1024, .f32⟩
  | 91 => ⟨S8192x1024, .f32⟩
  | 92 => ⟨S1x1024, .f32⟩
  | 93 => ⟨S1024, .f32⟩
  | 94 => ⟨S1x1024, .f32⟩
  | 95 => ⟨S8192x1024, .f32⟩
  | 96 => ⟨S8192x1024, .f32⟩
  | 97 => ⟨S8192x1024, .f32⟩
  | 98 => ⟨S8192x1024, .f32⟩
  | 99 => ⟨S1x1024, .f32⟩
  | 100 => ⟨S1024, .f32⟩
  | 101 => ⟨S1x1024, .f32⟩
  | 102 => ⟨S8192x1024, .f32⟩
  | 103 => ⟨S8192x1024, .f32⟩
  | 104 => ⟨S8192x1024, .f32⟩
  | 105 => ⟨S8192x1024, .f32⟩
  | 106 => ⟨S1x1024, .f32⟩
  | 107 => ⟨S1024, .f32⟩
  | 108 => ⟨S1x1024, .f32⟩
  | 109 => ⟨S8192x1024, .f32⟩
  | 110 => ⟨S8192x1024, .f32⟩
  | 111 => ⟨S8192x1024, .f32⟩
  | 112 => ⟨S8192x1024, .f32⟩
  | 113 => ⟨S1x1024, .f32⟩
  | 114 => ⟨S1024, .f32⟩
  | 115 => ⟨S1x1024, .f32⟩
  | 116 => ⟨S8192x1024, .f32⟩
  | 117 => ⟨S8192x1024, .f32⟩
  | 118 => ⟨S8192x1024, .f32⟩
  | 119 => ⟨S8192x1024, .f32⟩
  | 120 => ⟨S1x1024, .f32⟩
  | 121 => ⟨S1024, .f32⟩
  | 122 => ⟨S1x1024, .f32⟩
  | 123 => ⟨S8192x1024, .f32⟩
  | 124 => ⟨S8192x1024, .f32⟩
  | 125 => ⟨S8192x1024, .f32⟩
  | 126 => ⟨S8192x1024, .f32⟩
  | 127 => ⟨S1x1024, .f32⟩
  | _ => ⟨S8192x1024, .f32⟩

abbrev hbmTy0_2 (i : Nat) : BufTy := match i % 128 with
  | 0 => ⟨S1024, .f32⟩
  | 1 => ⟨S1x1024, .f32⟩
  | 2 => ⟨S8192x1024, .f32⟩
  | 3 => ⟨S8192x1024, .f32⟩
  | 4 => ⟨S8192x1024, .f32⟩
  | 5 => ⟨S8192x1024, .f32⟩
  | 6 => ⟨S1x1024, .f32⟩
  | 7 => ⟨S1024, .f32⟩
  | 8 => ⟨S1x1024, .f32⟩
  | 9 => ⟨S8192x1024, .f32⟩
  | 10 => ⟨S8192x1024, .f32⟩
  | 11 => ⟨S8192x1024, .f32⟩
  | 12 => ⟨S8192x1024, .f32⟩
  | 13 => ⟨S1x1024, .f32⟩
  | 14 => ⟨S1024, .f32⟩
  | 15 => ⟨S1x1024, .f32⟩
  | 16 => ⟨S8192x1024, .f32⟩
  | 17 => ⟨S8192x1024, .f32⟩
  | 18 => ⟨S8192x1024, .f32⟩
  | 19 => ⟨S_, .f32⟩
  | 20 => ⟨S8192x1024, .f32⟩
  | 21 => ⟨S8192x1024, .f32⟩
  | 22 => ⟨S8192x1024, .f32⟩
  | 23 => ⟨S8192x1024, .f32⟩
  | 24 => ⟨S8192x1024, .f32⟩
  | 25 => ⟨S_, .f32⟩
  | 26 => ⟨S1024, .f32⟩
  | 27 => ⟨S1x1024, .f32⟩
  | 28 => ⟨S8192x1024, .f32⟩
  | 29 => ⟨S8192x1024, .f32⟩
  | 30 => ⟨S_, .f32⟩
  | 31 => ⟨S1024, .f32⟩
  | 32 => ⟨S1x1024, .f32⟩
  | 33 => ⟨S_, .f32⟩
  | 34 => ⟨S31x1024, .f32⟩
  | 35 => ⟨S_, .f32⟩
  | 36 => ⟨S8222x1024, .f32⟩
  | 37 => ⟨S8192x1024, .f32⟩
  | 38 => ⟨S_, .f32⟩
  | 39 => ⟨S1024, .f32⟩
  | 40 => ⟨S1x1024, .f32⟩
  | 41 => ⟨S8192x1024, .f32⟩
  | 42 => ⟨S8192x1024, .f32⟩
  | 43 => ⟨S_, .f32⟩
  | 44 => ⟨S1024, .f32⟩
  | 45 => ⟨S1x1024, .f32⟩
  | 46 => ⟨S_, .f32⟩
  | 47 => ⟨S31x1024, .f32⟩
  | 48 => ⟨S31x1024, .f32⟩
  | 49 => ⟨S_, .f32⟩
  | 50 => ⟨S8222x1024, .f32⟩
  | 51 => ⟨S8222x1024, .f32⟩
  | 52 => ⟨S8192x1024, .f32⟩
  | 53 => ⟨S_, .f32⟩
  | 54 => ⟨S1024, .f32⟩
  | 55 => ⟨S1x1024, .f32⟩
  | 56 => ⟨S8192x1024, .f32⟩
  | 57 => ⟨S8192x1024, .f32⟩
  | 58 => ⟨S_, .f32⟩
  | 59 => ⟨S1024, .f32⟩
  | 60 => ⟨S1x1024, .f32⟩
  | 61 => ⟨S_, .f32⟩
  | 62 => ⟨S31x1024, .f32⟩
  | 63 => ⟨S31x1024, .f32⟩
  | 64 => ⟨S_, .f32⟩
  | 65 => ⟨S8222x1024, .f32⟩
  | 66 => ⟨S8222x1024, .f32⟩
  | 67 => ⟨S8192x1024, .f32⟩
  | 68 => ⟨S_, .f32⟩
  | 69 => ⟨S1024, .f32⟩
  | 70 => ⟨S1x1024, .f32⟩
  | 71 => ⟨S8192x1024, .f32⟩
  | 72 => ⟨S8192x1024, .f32⟩
  | 73 => ⟨S_, .f32⟩
  | 74 => ⟨S1024, .f32⟩
  | 75 => ⟨S1x1024, .f32⟩
  | 76 => ⟨S_, .f32⟩
  | 77 => ⟨S31x1024, .f32⟩
  | 78 => ⟨S31x1024, .f32⟩
  | 79 => ⟨S_, .f32⟩
  | 80 => ⟨S8222x1024, .f32⟩
  | 81 => ⟨S8222x1024, .f32⟩
  | 82 => ⟨S8192x1024, .f32⟩
  | 83 => ⟨S_, .f32⟩
  | 84 => ⟨S1024, .f32⟩
  | 85 => ⟨S1x1024, .f32⟩
  | 86 => ⟨S8192x1024, .f32⟩
  | 87 => ⟨S8192x1024, .f32⟩
  | 88 => ⟨S_, .f32⟩
  | 89 => ⟨S1024, .f32⟩
  | 90 => ⟨S1x1024, .f32⟩
  | 91 => ⟨S_, .f32⟩
  | 92 => ⟨S31x1024, .f32⟩
  | 93 => ⟨S31x1024, .f32⟩
  | 94 => ⟨S_, .f32⟩
  | 95 => ⟨S8222x1024, .f32⟩
  | 96 => ⟨S8222x1024, .f32⟩
  | 97 => ⟨S8192x1024, .f32⟩
  | 98 => ⟨S_, .f32⟩
  | 99 => ⟨S1024, .f32⟩
  | 100 => ⟨S1x1024, .f32⟩
  | 101 => ⟨S8192x1024, .f32⟩
  | 102 => ⟨S8192x1024, .f32⟩
  | 103 => ⟨S_, .f32⟩
  | 104 => ⟨S1024, .f32⟩
  | 105 => ⟨S1x1024, .f32⟩
  | 106 => ⟨S_, .f32⟩
  | 107 => ⟨S31x1024, .f32⟩
  | 108 => ⟨S31x1024, .f32⟩
  | 109 => ⟨S_, .f32⟩
  | 110 => ⟨S8222x1024, .f32⟩
  | 111 => ⟨S8222x1024, .f32⟩
  | 112 => ⟨S8192x1024, .f32⟩
  | 113 => ⟨S_, .f32⟩
  | 114 => ⟨S1024, .f32⟩
  | 115 => ⟨S1x1024, .f32⟩
  | 116 => ⟨S8192x1024, .f32⟩
  | 117 => ⟨S8192x1024, .f32⟩
  | 118 => ⟨S_, .f32⟩
  | 119 => ⟨S1024, .f32⟩
  | 120 => ⟨S1x1024, .f32⟩
  | 121 => ⟨S_, .f32⟩
  | 122 => ⟨S31x1024, .f32⟩
  | 123 => ⟨S31x1024, .f32⟩
  | 124 => ⟨S_, .f32⟩
  | 125 => ⟨S8222x1024, .f32⟩
  | 126 => ⟨S8222x1024, .f32⟩
  | 127 => ⟨S8192x1024, .f32⟩
  | _ => ⟨S8192x1024, .f32⟩

abbrev hbmTy0_3 (i : Nat) : BufTy := match i % 128 with
  | 0 => ⟨S_, .f32⟩
  | 1 => ⟨S1024, .f32⟩
  | 2 => ⟨S1x1024, .f32⟩
  | 3 => ⟨S8192x1024, .f32⟩
  | 4 => ⟨S8192x1024, .f32⟩
  | 5 => ⟨S_, .f32⟩
  | 6 => ⟨S1024, .f32⟩
  | 7 => ⟨S1x1024, .f32⟩
  | 8 => ⟨S_, .f32⟩
  | 9 => ⟨S31x1024, .f32⟩
  | 10 => ⟨S31x1024, .f32⟩
  | 11 => ⟨S_, .f32⟩
  | 12 => ⟨S8222x1024, .f32⟩
  | 13 => ⟨S8222x1024, .f32⟩
  | 14 => ⟨S8192x1024, .f32⟩
  | 15 => ⟨S_, .f32⟩
  | 16 => ⟨S1024, .f32⟩
  | 17 => ⟨S1x1024, .f32⟩
  | 18 => ⟨S8192x1024, .f32⟩
  | 19 => ⟨S8192x1024, .f32⟩
  | 20 => ⟨S_, .f32⟩
  | 21 => ⟨S1024, .f32⟩
  | 22 => ⟨S1x1024, .f32⟩
  | 23 => ⟨S_, .f32⟩
  | 24 => ⟨S31x1024, .f32⟩
  | 25 => ⟨S31x1024, .f32⟩
  | 26 => ⟨S_, .f32⟩
  | 27 => ⟨S8222x1024, .f32⟩
  | 28 => ⟨S8222x1024, .f32⟩
  | 29 => ⟨S8192x1024, .f32⟩
  | 30 => ⟨S_, .f32⟩
  | 31 => ⟨S1024, .f32⟩
  | 32 => ⟨S1x1024, .f32⟩
  | 33 => ⟨S8192x1024, .f32⟩
  | 34 => ⟨S8192x1024, .f32⟩
  | 35 => ⟨S_, .f32⟩
  | 36 => ⟨S1024, .f32⟩
  | 37 => ⟨S1x1024, .f32⟩
  | 38 => ⟨S_, .f32⟩
  | 39 => ⟨S31x1024, .f32⟩
  | 40 => ⟨S31x1024, .f32⟩
  | 41 => ⟨S_, .f32⟩
  | 42 => ⟨S8222x1024, .f32⟩
  | 43 => ⟨S8222x1024, .f32⟩
  | 44 => ⟨S8192x1024, .f32⟩
  | 45 => ⟨S_, .f32⟩
  | 46 => ⟨S1024, .f32⟩
  | 47 => ⟨S1x1024, .f32⟩
  | 48 => ⟨S8192x1024, .f32⟩
  | 49 => ⟨S8192x1024, .f32⟩
  | 50 => ⟨S_, .f32⟩
  | 51 => ⟨S1024, .f32⟩
  | 52 => ⟨S1x1024, .f32⟩
  | 53 => ⟨S_, .f32⟩
  | 54 => ⟨S31x1024, .f32⟩
  | 55 => ⟨S31x1024, .f32⟩
  | 56 => ⟨S_, .f32⟩
  | 57 => ⟨S8222x1024, .f32⟩
  | 58 => ⟨S8222x1024, .f32⟩
  | 59 => ⟨S8192x1024, .f32⟩
  | 60 => ⟨S_, .f32⟩
  | 61 => ⟨S1024, .f32⟩
  | 62 => ⟨S1x1024, .f32⟩
  | 63 => ⟨S8192x1024, .f32⟩
  | 64 => ⟨S8192x1024, .f32⟩
  | 65 => ⟨S_, .f32⟩
  | 66 => ⟨S1024, .f32⟩
  | 67 => ⟨S1x1024, .f32⟩
  | 68 => ⟨S_, .f32⟩
  | 69 => ⟨S31x1024, .f32⟩
  | 70 => ⟨S31x1024, .f32⟩
  | 71 => ⟨S_, .f32⟩
  | 72 => ⟨S8222x1024, .f32⟩
  | 73 => ⟨S8222x1024, .f32⟩
  | 74 => ⟨S8192x1024, .f32⟩
  | 75 => ⟨S_, .f32⟩
  | 76 => ⟨S1024, .f32⟩
  | 77 => ⟨S1x1024, .f32⟩
  | 78 => ⟨S8192x1024, .f32⟩
  | 79 => ⟨S8192x1024, .f32⟩
  | 80 => ⟨S_, .f32⟩
  | 81 => ⟨S1024, .f32⟩
  | 82 => ⟨S1x1024, .f32⟩
  | 83 => ⟨S_, .f32⟩
  | 84 => ⟨S31x1024, .f32⟩
  | 85 => ⟨S31x1024, .f32⟩
  | 86 => ⟨S_, .f32⟩
  | 87 => ⟨S8222x1024, .f32⟩
  | 88 => ⟨S8222x1024, .f32⟩
  | 89 => ⟨S8192x1024, .f32⟩
  | 90 => ⟨S_, .f32⟩
  | 91 => ⟨S1024, .f32⟩
  | 92 => ⟨S1x1024, .f32⟩
  | 93 => ⟨S8192x1024, .f32⟩
  | 94 => ⟨S8192x1024, .f32⟩
  | 95 => ⟨S_, .f32⟩
  | 96 => ⟨S1024, .f32⟩
  | 97 => ⟨S1x1024, .f32⟩
  | 98 => ⟨S_, .f32⟩
  | 99 => ⟨S31x1024, .f32⟩
  | 100 => ⟨S31x1024, .f32⟩
  | 101 => ⟨S_, .f32⟩
  | 102 => ⟨S8222x1024, .f32⟩
  | 103 => ⟨S8222x1024, .f32⟩
  | 104 => ⟨S8192x1024, .f32⟩
  | 105 => ⟨S_, .f32⟩
  | 106 => ⟨S1024, .f32⟩
  | 107 => ⟨S1x1024, .f32⟩
  | 108 => ⟨S8192x1024, .f32⟩
  | 109 => ⟨S8192x1024, .f32⟩
  | 110 => ⟨S_, .f32⟩
  | 111 => ⟨S1024, .f32⟩
  | 112 => ⟨S1x1024, .f32⟩
  | 113 => ⟨S_, .f32⟩
  | 114 => ⟨S31x1024, .f32⟩
  | 115 => ⟨S31x1024, .f32⟩
  | 116 => ⟨S_, .f32⟩
  | 117 => ⟨S8222x1024, .f32⟩
  | 118 => ⟨S8222x1024, .f32⟩
  | 119 => ⟨S8192x1024, .f32⟩
  | 120 => ⟨S_, .f32⟩
  | 121 => ⟨S1024, .f32⟩
  | 122 => ⟨S1x1024, .f32⟩
  | 123 => ⟨S8192x1024, .f32⟩
  | 124 => ⟨S8192x1024, .f32⟩
  | 125 => ⟨S_, .f32⟩
  | 126 => ⟨S1024, .f32⟩
  | 127 => ⟨S1x1024, .f32⟩
  | _ => ⟨S8192x1024, .f32⟩

abbrev hbmTy0_4 (i : Nat) : BufTy := match i % 128 with
  | 0 => ⟨S_, .f32⟩
  | 1 => ⟨S31x1024, .f32⟩
  | 2 => ⟨S31x1024, .f32⟩
  | 3 => ⟨S_, .f32⟩
  | 4 => ⟨S8222x1024, .f32⟩
  | 5 => ⟨S8222x1024, .f32⟩
  | 6 => ⟨S8192x1024, .f32⟩
  | 7 => ⟨S_, .f32⟩
  | 8 => ⟨S1024, .f32⟩
  | 9 => ⟨S1x1024, .f32⟩
  | 10 => ⟨S8192x1024, .f32⟩
  | 11 => ⟨S8192x1024, .f32⟩
  | 12 => ⟨S_, .f32⟩
  | 13 => ⟨S1024, .f32⟩
  | 14 => ⟨S1x1024, .f32⟩
  | 15 => ⟨S_, .f32⟩
  | 16 => ⟨S31x1024, .f32⟩
  | 17 => ⟨S31x1024, .f32⟩
  | 18 => ⟨S_, .f32⟩
  | 19 => ⟨S8222x1024, .f32⟩
  | 20 => ⟨S8222x1024, .f32⟩
  | 21 => ⟨S8192x1024, .f32⟩
  | 22 => ⟨S_, .f32⟩
  | 23 => ⟨S1024, .f32⟩
  | 24 => ⟨S1x1024, .f32⟩
  | 25 => ⟨S8192x1024, .f32⟩
  | 26 => ⟨S8192x1024, .f32⟩
  | 27 => ⟨S_, .f32⟩
  | 28 => ⟨S1024, .f32⟩
  | 29 => ⟨S1x1024, .f32⟩
  | 30 => ⟨S_, .f32⟩
  | 31 => ⟨S31x1024, .f32⟩
  | 32 => ⟨S31x1024, .f32⟩
  | 33 => ⟨S_, .f32⟩
  | 34 => ⟨S8222x1024, .f32⟩
  | 35 => ⟨S8222x1024, .f32⟩
  | 36 => ⟨S8192x1024, .f32⟩
  | 37 => ⟨S_, .f32⟩
  | 38 => ⟨S1024, .f32⟩
  | 39 => ⟨S1x1024, .f32⟩
  | 40 => ⟨S8192x1024, .f32⟩
  | 41 => ⟨S8192x1024, .f32⟩
  | 42 => ⟨S_, .f32⟩
  | 43 => ⟨S1024, .f32⟩
  | 44 => ⟨S1x1024, .f32⟩
  | 45 => ⟨S_, .f32⟩
  | 46 => ⟨S31x1024, .f32⟩
  | 47 => ⟨S31x1024, .f32⟩
  | 48 => ⟨S_, .f32⟩
  | 49 => ⟨S8222x1024, .f32⟩
  | 50 => ⟨S8222x1024, .f32⟩
  | 51 => ⟨S8192x1024, .f32⟩
  | 52 => ⟨S_, .f32⟩
  | 53 => ⟨S1024, .f32⟩
  | 54 => ⟨S1x1024, .f32⟩
  | 55 => ⟨S8192x1024, .f32⟩
  | 56 => ⟨S8192x1024, .f32⟩
  | 57 => ⟨S_, .f32⟩
  | 58 => ⟨S1024, .f32⟩
  | 59 => ⟨S1x1024, .f32⟩
  | 60 => ⟨S_, .f32⟩
  | 61 => ⟨S31x1024, .f32⟩
  | 62 => ⟨S31x1024, .f32⟩
  | 63 => ⟨S_, .f32⟩
  | 64 => ⟨S8222x1024, .f32⟩
  | 65 => ⟨S8222x1024, .f32⟩
  | 66 => ⟨S8192x1024, .f32⟩
  | 67 => ⟨S_, .f32⟩
  | 68 => ⟨S1024, .f32⟩
  | 69 => ⟨S1x1024, .f32⟩
  | 70 => ⟨S8192x1024, .f32⟩
  | 71 => ⟨S8192x1024, .f32⟩
  | 72 => ⟨S_, .f32⟩
  | 73 => ⟨S1024, .f32⟩
  | 74 => ⟨S1x1024, .f32⟩
  | 75 => ⟨S_, .f32⟩
  | 76 => ⟨S31x1024, .f32⟩
  | 77 => ⟨S31x1024, .f32⟩
  | 78 => ⟨S_, .f32⟩
  | 79 => ⟨S8222x1024, .f32⟩
  | 80 => ⟨S8222x1024, .f32⟩
  | 81 => ⟨S8192x1024, .f32⟩
  | 82 => ⟨S_, .f32⟩
  | 83 => ⟨S1024, .f32⟩
  | 84 => ⟨S1x1024, .f32⟩
  | 85 => ⟨S8192x1024, .f32⟩
  | 86 => ⟨S8192x1024, .f32⟩
  | 87 => ⟨S_, .f32⟩
  | 88 => ⟨S1024, .f32⟩
  | 89 => ⟨S1x1024, .f32⟩
  | 90 => ⟨S_, .f32⟩
  | 91 => ⟨S31x1024, .f32⟩
  | 92 => ⟨S31x1024, .f32⟩
  | 93 => ⟨S_, .f32⟩
  | 94 => ⟨S8222x1024, .f32⟩
  | 95 => ⟨S8222x1024, .f32⟩
  | 96 => ⟨S8192x1024, .f32⟩
  | 97 => ⟨S_, .f32⟩
  | 98 => ⟨S1024, .f32⟩
  | 99 => ⟨S1x1024, .f32⟩
  | 100 => ⟨S8192x1024, .f32⟩
  | 101 => ⟨S8192x1024, .f32⟩
  | 102 => ⟨S_, .f32⟩
  | 103 => ⟨S1024, .f32⟩
  | 104 => ⟨S1x1024, .f32⟩
  | 105 => ⟨S_, .f32⟩
  | 106 => ⟨S31x1024, .f32⟩
  | 107 => ⟨S31x1024, .f32⟩
  | 108 => ⟨S_, .f32⟩
  | 109 => ⟨S8222x1024, .f32⟩
  | 110 => ⟨S8222x1024, .f32⟩
  | 111 => ⟨S8192x1024, .f32⟩
  | 112 => ⟨S_, .f32⟩
  | 113 => ⟨S1024, .f32⟩
  | 114 => ⟨S1x1024, .f32⟩
  | 115 => ⟨S8192x1024, .f32⟩
  | 116 => ⟨S8192x1024, .f32⟩
  | 117 => ⟨S_, .f32⟩
  | 118 => ⟨S1024, .f32⟩
  | 119 => ⟨S1x1024, .f32⟩
  | 120 => ⟨S_, .f32⟩
  | 121 => ⟨S31x1024, .f32⟩
  | 122 => ⟨S31x1024, .f32⟩
  | 123 => ⟨S_, .f32⟩
  | 124 => ⟨S8222x1024, .f32⟩
  | 125 => ⟨S8222x1024, .f32⟩
  | 126 => ⟨S8192x1024, .f32⟩
  | 127 => ⟨S_, .f32⟩
  | _ => ⟨S8192x1024, .f32⟩

abbrev hbmTy0_5 (i : Nat) : BufTy := match i % 128 with
  | 0 => ⟨S1024, .f32⟩
  | 1 => ⟨S1x1024, .f32⟩
  | 2 => ⟨S8192x1024, .f32⟩
  | 3 => ⟨S8192x1024, .f32⟩
  | 4 => ⟨S_, .f32⟩
  | 5 => ⟨S1024, .f32⟩
  | 6 => ⟨S1x1024, .f32⟩
  | 7 => ⟨S_, .f32⟩
  | 8 => ⟨S31x1024, .f32⟩
  | 9 => ⟨S31x1024, .f32⟩
  | 10 => ⟨S_, .f32⟩
  | 11 => ⟨S8222x1024, .f32⟩
  | 12 => ⟨S8222x1024, .f32⟩
  | 13 => ⟨S8192x1024, .f32⟩
  | 14 => ⟨S_, .f32⟩
  | 15 => ⟨S1024, .f32⟩
  | 16 => ⟨S1x1024, .f32⟩
  | 17 => ⟨S8192x1024, .f32⟩
  | 18 => ⟨S8192x1024, .f32⟩
  | 19 => ⟨S_, .f32⟩
  | 20 => ⟨S1024, .f32⟩
  | 21 => ⟨S1x1024, .f32⟩
  | 22 => ⟨S_, .f32⟩
  | 23 => ⟨S31x1024, .f32⟩
  | 24 => ⟨S31x1024, .f32⟩
  | 25 => ⟨S_, .f32⟩
  | 26 => ⟨S8222x1024, .f32⟩
  | 27 => ⟨S8222x1024, .f32⟩
  | 28 => ⟨S8192x1024, .f32⟩
  | 29 => ⟨S_, .f32⟩
  | 30 => ⟨S1024, .f32⟩
  | 31 => ⟨S1x1024, .f32⟩
  | 32 => ⟨S8192x1024, .f32⟩
  | 33 => ⟨S8192x1024, .f32⟩
  | 34 => ⟨S_, .f32⟩
  | 35 => ⟨S1024, .f32⟩
  | 36 => ⟨S1x1024, .f32⟩
  | 37 => ⟨S_, .f32⟩
  | 38 => ⟨S31x1024, .f32⟩
  | 39 => ⟨S31x1024, .f32⟩
  | 40 => ⟨S_, .f32⟩
  | 41 => ⟨S8222x1024, .f32⟩
  | 42 => ⟨S8222x1024, .f32⟩
  | 43 => ⟨S8192x1024, .f32⟩
  | 44 => ⟨S_, .f32⟩
  | 45 => ⟨S1024, .f32⟩
  | 46 => ⟨S1x1024, .f32⟩
  | 47 => ⟨S8192x1024, .f32⟩
  | 48 => ⟨S8192x1024, .f32⟩
  | 49 => ⟨S_, .f32⟩
  | 50 => ⟨S1024, .f32⟩
  | 51 => ⟨S1x1024, .f32⟩
  | 52 => ⟨S_, .f32⟩
  | 53 => ⟨S31x1024, .f32⟩
  | 54 => ⟨S31x1024, .f32⟩
  | 55 => ⟨S_, .f32⟩
  | 56 => ⟨S8222x1024, .f32⟩
  | 57 => ⟨S8222x1024, .f32⟩
  | 58 => ⟨S8192x1024, .f32⟩
  | 59 => ⟨S_, .f32⟩
  | 60 => ⟨S1024, .f32⟩
  | 61 => ⟨S1x1024, .f32⟩
  | 62 => ⟨S8192x1024, .f32⟩
  | 63 => ⟨S8192x1024, .f32⟩
  | 64 => ⟨S_, .f32⟩
  | 65 => ⟨S1024, .f32⟩
  | 66 => ⟨S1x1024, .f32⟩
  | 67 => ⟨S_, .f32⟩
  | 68 => ⟨S31x1024, .f32⟩
  | 69 => ⟨S31x1024, .f32⟩
  | 70 => ⟨S_, .f32⟩
  | 71 => ⟨S8222x1024, .f32⟩
  | 72 => ⟨S8222x1024, .f32⟩
  | 73 => ⟨S8192x1024, .f32⟩
  | 74 => ⟨S_, .f32⟩
  | 75 => ⟨S1024, .f32⟩
  | 76 => ⟨S1x1024, .f32⟩
  | 77 => ⟨S8192x1024, .f32⟩
  | 78 => ⟨S8192x1024, .f32⟩
  | 79 => ⟨S_, .f32⟩
  | 80 => ⟨S1024, .f32⟩
  | 81 => ⟨S1x1024, .f32⟩
  | 82 => ⟨S_, .f32⟩
  | 83 => ⟨S31x1024, .f32⟩
  | 84 => ⟨S31x1024, .f32⟩
  | 85 => ⟨S_, .f32⟩
  | 86 => ⟨S8222x1024, .f32⟩
  | 87 => ⟨S8222x1024, .f32⟩
  | 88 => ⟨S8192x1024, .f32⟩
  | 89 => ⟨S_, .f32⟩
  | 90 => ⟨S1024, .f32⟩
  | 91 => ⟨S1x1024, .f32⟩
  | 92 => ⟨S8192x1024, .f32⟩
  | 93 => ⟨S8192x1024, .f32⟩
  | 94 => ⟨S_, .f32⟩
  | 95 => ⟨S1024, .f32⟩
  | 96 => ⟨S1x1024, .f32⟩
  | 97 => ⟨S_, .f32⟩
  | 98 => ⟨S31x1024, .f32⟩
  | 99 => ⟨S31x1024, .f32⟩
  | 100 => ⟨S_, .f32⟩
  | 101 => ⟨S8222x1024, .f32⟩
  | 102 => ⟨S8222x1024, .f32⟩
  | 103 => ⟨S15x1024, .f32⟩
  | 104 => ⟨S8192x1024, .f32⟩
  | 105 => ⟨S15x1024, .f32⟩
  | 106 => ⟨S8192x1024, .f32⟩
  | 107 => ⟨S8192x1024, .f32⟩
  | 108 => ⟨S8192x1024, .f32⟩
  | 109 => ⟨S8192x1024, .f32⟩
  | 110 => ⟨S8192x1024, .f32⟩
  | 111 => ⟨S8192x1024, .f32⟩
  | 112 => ⟨S_, .f32⟩
  | 113 => ⟨S1024, .f32⟩
  | 114 => ⟨S1x1024, .f32⟩
  | 115 => ⟨S8192x1024, .f32⟩
  | 116 => ⟨S8192x1024, .f32⟩
  | 117 => ⟨S_, .f32⟩
  | 118 => ⟨S1024, .f32⟩
  | 119 => ⟨S1x1024, .f32⟩
  | 120 => ⟨S_, .f32⟩
  | 121 => ⟨S3x1024, .f32⟩
  | 122 => ⟨S_, .f32⟩
  | 123 => ⟨S8194x1024, .f32⟩
  | 124 => ⟨S8192x1024, .f32⟩
  | 125 => ⟨S_, .f32⟩
  | 126 => ⟨S1024, .f32⟩
  | 127 => ⟨S1x1024, .f32⟩
  | _ => ⟨S8192x1024, .f32⟩

abbrev hbmTy0_6 (i : Nat) : BufTy := match i % 128 with
  | 0 => ⟨S8192x1024, .f32⟩
  | 1 => ⟨S8192x1024, .f32⟩
  | 2 => ⟨S_, .f32⟩
  | 3 => ⟨S1024, .f32⟩
  | 4 => ⟨S1x1024, .f32⟩
  | 5 => ⟨S_, .f32⟩
  | 6 => ⟨S3x1024, .f32⟩
  | 7 => ⟨S3x1024, .f32⟩
  | 8 => ⟨S_, .f32⟩
  | 9 => ⟨S8194x1024, .f32⟩
  | 10 => ⟨S8194x1024, .f32⟩
  | 11 => ⟨S8192x1024, .f32⟩
  | 12 => ⟨S_, .f32⟩
  | 13 => ⟨S1024, .f32⟩
  | 14 => ⟨S1x1024, .f32⟩
  | 15 => ⟨S8192x1024, .f32⟩
  | 16 => ⟨S8192x1024, .f32⟩
  | 17 => ⟨S_, .f32⟩
  | 18 => ⟨S1024, .f32⟩
  | 19 => ⟨S1x1024, .f32⟩
  | 20 => ⟨S_, .f32⟩
  | 21 => ⟨S3x1024, .f32⟩
  | 22 => ⟨S3x1024, .f32⟩
  | 23 => ⟨S_, .f32⟩
  | 24 => ⟨S8194x1024, .f32⟩
  | 25 => ⟨S8194x1024, .f32⟩
  | 26 => ⟨S1x1024, .f32⟩
  | 27 => ⟨S8192x1024, .f32⟩
  | 28 => ⟨S1x1024, .f32⟩
  | 29 => ⟨S8192x1024, .f32⟩
  | 30 => ⟨S8192x1024, .f32⟩
  | 31 => ⟨S_, .f32⟩
  | 32 => ⟨S1x1024, .f32⟩
  | 33 => ⟨S_, .f32⟩
  | 34 => ⟨S1024, .f32⟩
  | 35 => ⟨S1x1024, .f32⟩
  | 36 => ⟨S_, .f32⟩
  | 37 => ⟨S1024, .f32⟩
  | 38 => ⟨S1x1024, .f32⟩
  | 39 => ⟨S_, .f32⟩
  | 40 => ⟨S1024, .f32⟩
  | 41 => ⟨S1x1024, .f32⟩
  | 42 => ⟨S_, .f32⟩
  | 43 => ⟨S1024, .f32⟩
  | 44 => ⟨S1x1024, .f32⟩
  | 45 => ⟨S40x1024, .f32⟩
  | 46 => ⟨S8192x4096, .f32⟩
  | 47 => ⟨S8192x4096, .bf16⟩
  | _ => ⟨S8192x1024, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_cst_1 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_2 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_3 : Ref sig .tc := ⟨.hbm, 41, rfl⟩
abbrev main_v29 : Ref sig .tc := ⟨.hbm, 42, rfl⟩
abbrev main_v30 : Ref sig .tc := ⟨.hbm, 43, rfl⟩
abbrev main_cst_4 : Ref sig .tc := ⟨.hbm, 44, rfl⟩
abbrev main_v31 : Ref sig .tc := ⟨.hbm, 45, rfl⟩
abbrev main_v32 : Ref sig .tc := ⟨.hbm, 46, rfl⟩
abbrev main_cst_5 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_6 : Ref sig .tc := ⟨.hbm, 52, rfl⟩
abbrev main_v37 : Ref sig .tc := ⟨.hbm, 53, rfl⟩
abbrev main_v38 : Ref sig .tc := ⟨.hbm, 54, rfl⟩
abbrev main_cst_7 : Ref sig .tc := ⟨.hbm, 55, rfl⟩
abbrev main_v39 : Ref sig .tc := ⟨.hbm, 56, rfl⟩
abbrev main_cst_8 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩
abbrev main_v112 : Ref sig .tc := ⟨.hbm, 130, rfl⟩
abbrev main_v113 : Ref sig .tc := ⟨.hbm, 131, rfl⟩
abbrev main_v114 : Ref sig .tc := ⟨.hbm, 132, rfl⟩
abbrev main_v115 : Ref sig .tc := ⟨.hbm, 133, rfl⟩
abbrev main_v116 : Ref sig .tc := ⟨.hbm, 134, rfl⟩
abbrev main_v117 : Ref sig .tc := ⟨.hbm, 135, rfl⟩
abbrev main_v118 : Ref sig .tc := ⟨.hbm, 136, rfl⟩
abbrev main_v119 : Ref sig .tc := ⟨.hbm, 137, rfl⟩
abbrev main_v120 : Ref sig .tc := ⟨.hbm, 138, rfl⟩
abbrev main_v121 : Ref sig .tc := ⟨.hbm, 139, rfl⟩
abbrev main_v122 : Ref sig .tc := ⟨.hbm, 140, rfl⟩
abbrev main_v123 : Ref sig .tc := ⟨.hbm, 141, rfl⟩
abbrev main_v124 : Ref sig .tc := ⟨.hbm, 142, rfl⟩
abbrev main_v125 : Ref sig .tc := ⟨.hbm, 143, rfl⟩
abbrev main_v126 : Ref sig .tc := ⟨.hbm, 144, rfl⟩
abbrev main_v127 : Ref sig .tc := ⟨.hbm, 145, rfl⟩
abbrev main_v128 : Ref sig .tc := ⟨.hbm, 146, rfl⟩
abbrev main_v129 : Ref sig .tc := ⟨.hbm, 147, rfl⟩
abbrev main_v130 : Ref sig .tc := ⟨.hbm, 148, rfl⟩
abbrev main_v131 : Ref sig .tc := ⟨.hbm, 149, rfl⟩
abbrev main_v132 : Ref sig .tc := ⟨.hbm, 150, rfl⟩
abbrev main_v133 : Ref sig .tc := ⟨.hbm, 151, rfl⟩
abbrev main_v134 : Ref sig .tc := ⟨.hbm, 152, rfl⟩
abbrev main_v135 : Ref sig .tc := ⟨.hbm, 153, rfl⟩
abbrev main_v136 : Ref sig .tc := ⟨.hbm, 154, rfl⟩
abbrev main_v137 : Ref sig .tc := ⟨.hbm, 155, rfl⟩
abbrev main_v138 : Ref sig .tc := ⟨.hbm, 156, rfl⟩
abbrev main_v139 : Ref sig .tc := ⟨.hbm, 157, rfl⟩
abbrev main_v140 : Ref sig .tc := ⟨.hbm, 158, rfl⟩
abbrev main_v141 : Ref sig .tc := ⟨.hbm, 159, rfl⟩
abbrev main_v142 : Ref sig .tc := ⟨.hbm, 160, rfl⟩
abbrev main_v143 : Ref sig .tc := ⟨.hbm, 161, rfl⟩
abbrev main_v144 : Ref sig .tc := ⟨.hbm, 162, rfl⟩
abbrev main_v145 : Ref sig .tc := ⟨.hbm, 163, rfl⟩
abbrev main_v146 : Ref sig .tc := ⟨.hbm, 164, rfl⟩
abbrev main_v147 : Ref sig .tc := ⟨.hbm, 165, rfl⟩
abbrev main_v148 : Ref sig .tc := ⟨.hbm, 166, rfl⟩
abbrev main_v149 : Ref sig .tc := ⟨.hbm, 167, rfl⟩
abbrev main_v150 : Ref sig .tc := ⟨.hbm, 168, rfl⟩
abbrev main_v151 : Ref sig .tc := ⟨.hbm, 169, rfl⟩
abbrev main_v152 : Ref sig .tc := ⟨.hbm, 170, rfl⟩
abbrev main_v153 : Ref sig .tc := ⟨.hbm, 171, rfl⟩
abbrev main_v154 : Ref sig .tc := ⟨.hbm, 172, rfl⟩
abbrev main_v155 : Ref sig .tc := ⟨.hbm, 173, rfl⟩
abbrev main_v156 : Ref sig .tc := ⟨.hbm, 174, rfl⟩
abbrev main_v157 : Ref sig .tc := ⟨.hbm, 175, rfl⟩
abbrev main_v158 : Ref sig .tc := ⟨.hbm, 176, rfl⟩
abbrev main_v159 : Ref sig .tc := ⟨.hbm, 177, rfl⟩
abbrev main_v160 : Ref sig .tc := ⟨.hbm, 178, rfl⟩
abbrev main_v161 : Ref sig .tc := ⟨.hbm, 179, rfl⟩
abbrev main_v162 : Ref sig .tc := ⟨.hbm, 180, rfl⟩
abbrev main_v163 : Ref sig .tc := ⟨.hbm, 181, rfl⟩
abbrev main_v164 : Ref sig .tc := ⟨.hbm, 182, rfl⟩
abbrev main_v165 : Ref sig .tc := ⟨.hbm, 183, rfl⟩
abbrev main_v166 : Ref sig .tc := ⟨.hbm, 184, rfl⟩
abbrev main_v167 : Ref sig .tc := ⟨.hbm, 185, rfl⟩
abbrev main_v168 : Ref sig .tc := ⟨.hbm, 186, rfl⟩
abbrev main_v169 : Ref sig .tc := ⟨.hbm, 187, rfl⟩
abbrev main_v170 : Ref sig .tc := ⟨.hbm, 188, rfl⟩
abbrev main_v171 : Ref sig .tc := ⟨.hbm, 189, rfl⟩
abbrev main_v172 : Ref sig .tc := ⟨.hbm, 190, rfl⟩
abbrev main_v173 : Ref sig .tc := ⟨.hbm, 191, rfl⟩
abbrev main_v174 : Ref sig .tc := ⟨.hbm, 192, rfl⟩
abbrev main_v175 : Ref sig .tc := ⟨.hbm, 193, rfl⟩
abbrev main_v176 : Ref sig .tc := ⟨.hbm, 194, rfl⟩
abbrev main_v177 : Ref sig .tc := ⟨.hbm, 195, rfl⟩
abbrev main_v178 : Ref sig .tc := ⟨.hbm, 196, rfl⟩
abbrev main_v179 : Ref sig .tc := ⟨.hbm, 197, rfl⟩
abbrev main_v180 : Ref sig .tc := ⟨.hbm, 198, rfl⟩
abbrev main_v181 : Ref sig .tc := ⟨.hbm, 199, rfl⟩
abbrev main_v182 : Ref sig .tc := ⟨.hbm, 200, rfl⟩
abbrev main_v183 : Ref sig .tc := ⟨.hbm, 201, rfl⟩
abbrev main_v184 : Ref sig .tc := ⟨.hbm, 202, rfl⟩
abbrev main_v185 : Ref sig .tc := ⟨.hbm, 203, rfl⟩
abbrev main_v186 : Ref sig .tc := ⟨.hbm, 204, rfl⟩
abbrev main_v187 : Ref sig .tc := ⟨.hbm, 205, rfl⟩
abbrev main_v188 : Ref sig .tc := ⟨.hbm, 206, rfl⟩
abbrev main_v189 : Ref sig .tc := ⟨.hbm, 207, rfl⟩
abbrev main_v190 : Ref sig .tc := ⟨.hbm, 208, rfl⟩
abbrev main_v191 : Ref sig .tc := ⟨.hbm, 209, rfl⟩
abbrev main_v192 : Ref sig .tc := ⟨.hbm, 210, rfl⟩
abbrev main_v193 : Ref sig .tc := ⟨.hbm, 211, rfl⟩
abbrev main_v194 : Ref sig .tc := ⟨.hbm, 212, rfl⟩
abbrev main_v195 : Ref sig .tc := ⟨.hbm, 213, rfl⟩
abbrev main_v196 : Ref sig .tc := ⟨.hbm, 214, rfl⟩
abbrev main_v197 : Ref sig .tc := ⟨.hbm, 215, rfl⟩
abbrev main_v198 : Ref sig .tc := ⟨.hbm, 216, rfl⟩
abbrev main_v199 : Ref sig .tc := ⟨.hbm, 217, rfl⟩
abbrev main_v200 : Ref sig .tc := ⟨.hbm, 218, rfl⟩
abbrev main_v201 : Ref sig .tc := ⟨.hbm, 219, rfl⟩
abbrev main_v202 : Ref sig .tc := ⟨.hbm, 220, rfl⟩
abbrev main_v203 : Ref sig .tc := ⟨.hbm, 221, rfl⟩
abbrev main_v204 : Ref sig .tc := ⟨.hbm, 222, rfl⟩
abbrev main_v205 : Ref sig .tc := ⟨.hbm, 223, rfl⟩
abbrev main_v206 : Ref sig .tc := ⟨.hbm, 224, rfl⟩
abbrev main_v207 : Ref sig .tc := ⟨.hbm, 225, rfl⟩
abbrev main_v208 : Ref sig .tc := ⟨.hbm, 226, rfl⟩
abbrev main_v209 : Ref sig .tc := ⟨.hbm, 227, rfl⟩
abbrev main_v210 : Ref sig .tc := ⟨.hbm, 228, rfl⟩
abbrev main_v211 : Ref sig .tc := ⟨.hbm, 229, rfl⟩
abbrev main_v212 : Ref sig .tc := ⟨.hbm, 230, rfl⟩
abbrev main_v213 : Ref sig .tc := ⟨.hbm, 231, rfl⟩
abbrev main_v214 : Ref sig .tc := ⟨.hbm, 232, rfl⟩
abbrev main_v215 : Ref sig .tc := ⟨.hbm, 233, rfl⟩
abbrev main_v216 : Ref sig .tc := ⟨.hbm, 234, rfl⟩
abbrev main_v217 : Ref sig .tc := ⟨.hbm, 235, rfl⟩
abbrev main_v218 : Ref sig .tc := ⟨.hbm, 236, rfl⟩
abbrev main_v219 : Ref sig .tc := ⟨.hbm, 237, rfl⟩
abbrev main_v220 : Ref sig .tc := ⟨.hbm, 238, rfl⟩
abbrev main_v221 : Ref sig .tc := ⟨.hbm, 239, rfl⟩
abbrev main_v222 : Ref sig .tc := ⟨.hbm, 240, rfl⟩
abbrev main_v223 : Ref sig .tc := ⟨.hbm, 241, rfl⟩
abbrev main_v224 : Ref sig .tc := ⟨.hbm, 242, rfl⟩
abbrev main_v225 : Ref sig .tc := ⟨.hbm, 243, rfl⟩
abbrev main_v226 : Ref sig .tc := ⟨.hbm, 244, rfl⟩
abbrev main_v227 : Ref sig .tc := ⟨.hbm, 245, rfl⟩
abbrev main_v228 : Ref sig .tc := ⟨.hbm, 246, rfl⟩
abbrev main_v229 : Ref sig .tc := ⟨.hbm, 247, rfl⟩
abbrev main_v230 : Ref sig .tc := ⟨.hbm, 248, rfl⟩
abbrev main_v231 : Ref sig .tc := ⟨.hbm, 249, rfl⟩
abbrev main_v232 : Ref sig .tc := ⟨.hbm, 250, rfl⟩
abbrev main_v233 : Ref sig .tc := ⟨.hbm, 251, rfl⟩
abbrev main_v234 : Ref sig .tc := ⟨.hbm, 252, rfl⟩
abbrev main_v235 : Ref sig .tc := ⟨.hbm, 253, rfl⟩
abbrev main_v236 : Ref sig .tc := ⟨.hbm, 254, rfl⟩
abbrev main_v237 : Ref sig .tc := ⟨.hbm, 255, rfl⟩
abbrev main_v238 : Ref sig .tc := ⟨.hbm, 256, rfl⟩
abbrev main_v239 : Ref sig .tc := ⟨.hbm, 257, rfl⟩
abbrev main_v240 : Ref sig .tc := ⟨.hbm, 258, rfl⟩
abbrev main_v241 : Ref sig .tc := ⟨.hbm, 259, rfl⟩
abbrev main_v242 : Ref sig .tc := ⟨.hbm, 260, rfl⟩
abbrev main_v243 : Ref sig .tc := ⟨.hbm, 261, rfl⟩
abbrev main_v244 : Ref sig .tc := ⟨.hbm, 262, rfl⟩
abbrev main_v245 : Ref sig .tc := ⟨.hbm, 263, rfl⟩
abbrev main_v246 : Ref sig .tc := ⟨.hbm, 264, rfl⟩
abbrev main_v247 : Ref sig .tc := ⟨.hbm, 265, rfl⟩
abbrev main_v248 : Ref sig .tc := ⟨.hbm, 266, rfl⟩
abbrev main_v249 : Ref sig .tc := ⟨.hbm, 267, rfl⟩
abbrev main_v250 : Ref sig .tc := ⟨.hbm, 268, rfl⟩
abbrev main_v251 : Ref sig .tc := ⟨.hbm, 269, rfl⟩
abbrev main_v252 : Ref sig .tc := ⟨.hbm, 270, rfl⟩
abbrev main_v253 : Ref sig .tc := ⟨.hbm, 271, rfl⟩
abbrev main_v254 : Ref sig .tc := ⟨.hbm, 272, rfl⟩
abbrev main_v255 : Ref sig .tc := ⟨.hbm, 273, rfl⟩
abbrev main_v256 : Ref sig .tc := ⟨.hbm, 274, rfl⟩
abbrev main_cst_9 : Ref sig .tc := ⟨.hbm, 275, rfl⟩
abbrev main_v257 : Ref sig .tc := ⟨.hbm, 276, rfl⟩
abbrev main_v258 : Ref sig .tc := ⟨.hbm, 277, rfl⟩
abbrev main_v259 : Ref sig .tc := ⟨.hbm, 278, rfl⟩
abbrev main_v260 : Ref sig .tc := ⟨.hbm, 279, rfl⟩
abbrev main_v261 : Ref sig .tc := ⟨.hbm, 280, rfl⟩
abbrev main_cst_10 : Ref sig .tc := ⟨.hbm, 281, rfl⟩
abbrev main_v262 : Ref sig .tc := ⟨.hbm, 282, rfl⟩
abbrev main_v263 : Ref sig .tc := ⟨.hbm, 283, rfl⟩
abbrev main_v264 : Ref sig .tc := ⟨.hbm, 284, rfl⟩
abbrev main_v265 : Ref sig .tc := ⟨.hbm, 285, rfl⟩
abbrev main_cst_11 : Ref sig .tc := ⟨.hbm, 286, rfl⟩
abbrev main_v266 : Ref sig .tc := ⟨.hbm, 287, rfl⟩
abbrev main_v267 : Ref sig .tc := ⟨.hbm, 288, rfl⟩
abbrev main_cst_12 : Ref sig .tc := ⟨.hbm, 289, rfl⟩
abbrev main_v268 : Ref sig .tc := ⟨.hbm, 290, rfl⟩
abbrev main_cst_13 : Ref sig .tc := ⟨.hbm, 291, rfl⟩
abbrev main_v269 : Ref sig .tc := ⟨.hbm, 292, rfl⟩
abbrev main_v270 : Ref sig .tc := ⟨.hbm, 293, rfl⟩
abbrev main_cst_14 : Ref sig .tc := ⟨.hbm, 294, rfl⟩
abbrev main_v271 : Ref sig .tc := ⟨.hbm, 295, rfl⟩
abbrev main_v272 : Ref sig .tc := ⟨.hbm, 296, rfl⟩
abbrev main_v273 : Ref sig .tc := ⟨.hbm, 297, rfl⟩
abbrev main_v274 : Ref sig .tc := ⟨.hbm, 298, rfl⟩
abbrev main_cst_15 : Ref sig .tc := ⟨.hbm, 299, rfl⟩
abbrev main_v275 : Ref sig .tc := ⟨.hbm, 300, rfl⟩
abbrev main_v276 : Ref sig .tc := ⟨.hbm, 301, rfl⟩
abbrev main_cst_16 : Ref sig .tc := ⟨.hbm, 302, rfl⟩
abbrev main_v277 : Ref sig .tc := ⟨.hbm, 303, rfl⟩
abbrev main_v278 : Ref sig .tc := ⟨.hbm, 304, rfl⟩
abbrev main_cst_17 : Ref sig .tc := ⟨.hbm, 305, rfl⟩
abbrev main_v279 : Ref sig .tc := ⟨.hbm, 306, rfl⟩
abbrev main_v280 : Ref sig .tc := ⟨.hbm, 307, rfl⟩
abbrev main_v281 : Ref sig .tc := ⟨.hbm, 308, rfl⟩
abbrev main_cst_18 : Ref sig .tc := ⟨.hbm, 309, rfl⟩
abbrev main_v282 : Ref sig .tc := ⟨.hbm, 310, rfl⟩
abbrev main_v283 : Ref sig .tc := ⟨.hbm, 311, rfl⟩
abbrev main_v284 : Ref sig .tc := ⟨.hbm, 312, rfl⟩
abbrev main_v285 : Ref sig .tc := ⟨.hbm, 313, rfl⟩
abbrev main_cst_19 : Ref sig .tc := ⟨.hbm, 314, rfl⟩
abbrev main_v286 : Ref sig .tc := ⟨.hbm, 315, rfl⟩
abbrev main_v287 : Ref sig .tc := ⟨.hbm, 316, rfl⟩
abbrev main_cst_20 : Ref sig .tc := ⟨.hbm, 317, rfl⟩
abbrev main_v288 : Ref sig .tc := ⟨.hbm, 318, rfl⟩
abbrev main_v289 : Ref sig .tc := ⟨.hbm, 319, rfl⟩
abbrev main_cst_21 : Ref sig .tc := ⟨.hbm, 320, rfl⟩
abbrev main_v290 : Ref sig .tc := ⟨.hbm, 321, rfl⟩
abbrev main_v291 : Ref sig .tc := ⟨.hbm, 322, rfl⟩
abbrev main_v292 : Ref sig .tc := ⟨.hbm, 323, rfl⟩
abbrev main_cst_22 : Ref sig .tc := ⟨.hbm, 324, rfl⟩
abbrev main_v293 : Ref sig .tc := ⟨.hbm, 325, rfl⟩
abbrev main_v294 : Ref sig .tc := ⟨.hbm, 326, rfl⟩
abbrev main_v295 : Ref sig .tc := ⟨.hbm, 327, rfl⟩
abbrev main_v296 : Ref sig .tc := ⟨.hbm, 328, rfl⟩
abbrev main_cst_23 : Ref sig .tc := ⟨.hbm, 329, rfl⟩
abbrev main_v297 : Ref sig .tc := ⟨.hbm, 330, rfl⟩
abbrev main_v298 : Ref sig .tc := ⟨.hbm, 331, rfl⟩
abbrev main_cst_24 : Ref sig .tc := ⟨.hbm, 332, rfl⟩
abbrev main_v299 : Ref sig .tc := ⟨.hbm, 333, rfl⟩
abbrev main_v300 : Ref sig .tc := ⟨.hbm, 334, rfl⟩
abbrev main_cst_25 : Ref sig .tc := ⟨.hbm, 335, rfl⟩
abbrev main_v301 : Ref sig .tc := ⟨.hbm, 336, rfl⟩
abbrev main_v302 : Ref sig .tc := ⟨.hbm, 337, rfl⟩
abbrev main_v303 : Ref sig .tc := ⟨.hbm, 338, rfl⟩
abbrev main_cst_26 : Ref sig .tc := ⟨.hbm, 339, rfl⟩
abbrev main_v304 : Ref sig .tc := ⟨.hbm, 340, rfl⟩
abbrev main_v305 : Ref sig .tc := ⟨.hbm, 341, rfl⟩
abbrev main_v306 : Ref sig .tc := ⟨.hbm, 342, rfl⟩
abbrev main_v307 : Ref sig .tc := ⟨.hbm, 343, rfl⟩
abbrev main_cst_27 : Ref sig .tc := ⟨.hbm, 344, rfl⟩
abbrev main_v308 : Ref sig .tc := ⟨.hbm, 345, rfl⟩
abbrev main_v309 : Ref sig .tc := ⟨.hbm, 346, rfl⟩
abbrev main_cst_28 : Ref sig .tc := ⟨.hbm, 347, rfl⟩
abbrev main_v310 : Ref sig .tc := ⟨.hbm, 348, rfl⟩
abbrev main_v311 : Ref sig .tc := ⟨.hbm, 349, rfl⟩
abbrev main_cst_29 : Ref sig .tc := ⟨.hbm, 350, rfl⟩
abbrev main_v312 : Ref sig .tc := ⟨.hbm, 351, rfl⟩
abbrev main_v313 : Ref sig .tc := ⟨.hbm, 352, rfl⟩
abbrev main_v314 : Ref sig .tc := ⟨.hbm, 353, rfl⟩
abbrev main_cst_30 : Ref sig .tc := ⟨.hbm, 354, rfl⟩
abbrev main_v315 : Ref sig .tc := ⟨.hbm, 355, rfl⟩
abbrev main_v316 : Ref sig .tc := ⟨.hbm, 356, rfl⟩
abbrev main_v317 : Ref sig .tc := ⟨.hbm, 357, rfl⟩
abbrev main_v318 : Ref sig .tc := ⟨.hbm, 358, rfl⟩
abbrev main_cst_31 : Ref sig .tc := ⟨.hbm, 359, rfl⟩
abbrev main_v319 : Ref sig .tc := ⟨.hbm, 360, rfl⟩
abbrev main_v320 : Ref sig .tc := ⟨.hbm, 361, rfl⟩
abbrev main_cst_32 : Ref sig .tc := ⟨.hbm, 362, rfl⟩
abbrev main_v321 : Ref sig .tc := ⟨.hbm, 363, rfl⟩
abbrev main_v322 : Ref sig .tc := ⟨.hbm, 364, rfl⟩
abbrev main_cst_33 : Ref sig .tc := ⟨.hbm, 365, rfl⟩
abbrev main_v323 : Ref sig .tc := ⟨.hbm, 366, rfl⟩
abbrev main_v324 : Ref sig .tc := ⟨.hbm, 367, rfl⟩
abbrev main_v325 : Ref sig .tc := ⟨.hbm, 368, rfl⟩
abbrev main_cst_34 : Ref sig .tc := ⟨.hbm, 369, rfl⟩
abbrev main_v326 : Ref sig .tc := ⟨.hbm, 370, rfl⟩
abbrev main_v327 : Ref sig .tc := ⟨.hbm, 371, rfl⟩
abbrev main_v328 : Ref sig .tc := ⟨.hbm, 372, rfl⟩
abbrev main_v329 : Ref sig .tc := ⟨.hbm, 373, rfl⟩
abbrev main_cst_35 : Ref sig .tc := ⟨.hbm, 374, rfl⟩
abbrev main_v330 : Ref sig .tc := ⟨.hbm, 375, rfl⟩
abbrev main_v331 : Ref sig .tc := ⟨.hbm, 376, rfl⟩
abbrev main_cst_36 : Ref sig .tc := ⟨.hbm, 377, rfl⟩
abbrev main_v332 : Ref sig .tc := ⟨.hbm, 378, rfl⟩
abbrev main_v333 : Ref sig .tc := ⟨.hbm, 379, rfl⟩
abbrev main_cst_37 : Ref sig .tc := ⟨.hbm, 380, rfl⟩
abbrev main_v334 : Ref sig .tc := ⟨.hbm, 381, rfl⟩
abbrev main_v335 : Ref sig .tc := ⟨.hbm, 382, rfl⟩
abbrev main_v336 : Ref sig .tc := ⟨.hbm, 383, rfl⟩
abbrev main_cst_38 : Ref sig .tc := ⟨.hbm, 384, rfl⟩
abbrev main_v337 : Ref sig .tc := ⟨.hbm, 385, rfl⟩
abbrev main_v338 : Ref sig .tc := ⟨.hbm, 386, rfl⟩
abbrev main_v339 : Ref sig .tc := ⟨.hbm, 387, rfl⟩
abbrev main_v340 : Ref sig .tc := ⟨.hbm, 388, rfl⟩
abbrev main_cst_39 : Ref sig .tc := ⟨.hbm, 389, rfl⟩
abbrev main_v341 : Ref sig .tc := ⟨.hbm, 390, rfl⟩
abbrev main_v342 : Ref sig .tc := ⟨.hbm, 391, rfl⟩
abbrev main_cst_40 : Ref sig .tc := ⟨.hbm, 392, rfl⟩
abbrev main_v343 : Ref sig .tc := ⟨.hbm, 393, rfl⟩
abbrev main_v344 : Ref sig .tc := ⟨.hbm, 394, rfl⟩
abbrev main_cst_41 : Ref sig .tc := ⟨.hbm, 395, rfl⟩
abbrev main_v345 : Ref sig .tc := ⟨.hbm, 396, rfl⟩
abbrev main_v346 : Ref sig .tc := ⟨.hbm, 397, rfl⟩
abbrev main_v347 : Ref sig .tc := ⟨.hbm, 398, rfl⟩
abbrev main_cst_42 : Ref sig .tc := ⟨.hbm, 399, rfl⟩
abbrev main_v348 : Ref sig .tc := ⟨.hbm, 400, rfl⟩
abbrev main_v349 : Ref sig .tc := ⟨.hbm, 401, rfl⟩
abbrev main_v350 : Ref sig .tc := ⟨.hbm, 402, rfl⟩
abbrev main_v351 : Ref sig .tc := ⟨.hbm, 403, rfl⟩
abbrev main_cst_43 : Ref sig .tc := ⟨.hbm, 404, rfl⟩
abbrev main_v352 : Ref sig .tc := ⟨.hbm, 405, rfl⟩
abbrev main_v353 : Ref sig .tc := ⟨.hbm, 406, rfl⟩
abbrev main_cst_44 : Ref sig .tc := ⟨.hbm, 407, rfl⟩
abbrev main_v354 : Ref sig .tc := ⟨.hbm, 408, rfl⟩
abbrev main_v355 : Ref sig .tc := ⟨.hbm, 409, rfl⟩
abbrev main_cst_45 : Ref sig .tc := ⟨.hbm, 410, rfl⟩
abbrev main_v356 : Ref sig .tc := ⟨.hbm, 411, rfl⟩
abbrev main_v357 : Ref sig .tc := ⟨.hbm, 412, rfl⟩
abbrev main_v358 : Ref sig .tc := ⟨.hbm, 413, rfl⟩
abbrev main_cst_46 : Ref sig .tc := ⟨.hbm, 414, rfl⟩
abbrev main_v359 : Ref sig .tc := ⟨.hbm, 415, rfl⟩
abbrev main_v360 : Ref sig .tc := ⟨.hbm, 416, rfl⟩
abbrev main_v361 : Ref sig .tc := ⟨.hbm, 417, rfl⟩
abbrev main_v362 : Ref sig .tc := ⟨.hbm, 418, rfl⟩
abbrev main_cst_47 : Ref sig .tc := ⟨.hbm, 419, rfl⟩
abbrev main_v363 : Ref sig .tc := ⟨.hbm, 420, rfl⟩
abbrev main_v364 : Ref sig .tc := ⟨.hbm, 421, rfl⟩
abbrev main_cst_48 : Ref sig .tc := ⟨.hbm, 422, rfl⟩
abbrev main_v365 : Ref sig .tc := ⟨.hbm, 423, rfl⟩
abbrev main_v366 : Ref sig .tc := ⟨.hbm, 424, rfl⟩
abbrev main_cst_49 : Ref sig .tc := ⟨.hbm, 425, rfl⟩
abbrev main_v367 : Ref sig .tc := ⟨.hbm, 426, rfl⟩
abbrev main_v368 : Ref sig .tc := ⟨.hbm, 427, rfl⟩
abbrev main_v369 : Ref sig .tc := ⟨.hbm, 428, rfl⟩
abbrev main_cst_50 : Ref sig .tc := ⟨.hbm, 429, rfl⟩
abbrev main_v370 : Ref sig .tc := ⟨.hbm, 430, rfl⟩
abbrev main_v371 : Ref sig .tc := ⟨.hbm, 431, rfl⟩
abbrev main_v372 : Ref sig .tc := ⟨.hbm, 432, rfl⟩
abbrev main_v373 : Ref sig .tc := ⟨.hbm, 433, rfl⟩
abbrev main_cst_51 : Ref sig .tc := ⟨.hbm, 434, rfl⟩
abbrev main_v374 : Ref sig .tc := ⟨.hbm, 435, rfl⟩
abbrev main_v375 : Ref sig .tc := ⟨.hbm, 436, rfl⟩
abbrev main_cst_52 : Ref sig .tc := ⟨.hbm, 437, rfl⟩
abbrev main_v376 : Ref sig .tc := ⟨.hbm, 438, rfl⟩
abbrev main_v377 : Ref sig .tc := ⟨.hbm, 439, rfl⟩
abbrev main_cst_53 : Ref sig .tc := ⟨.hbm, 440, rfl⟩
abbrev main_v378 : Ref sig .tc := ⟨.hbm, 441, rfl⟩
abbrev main_v379 : Ref sig .tc := ⟨.hbm, 442, rfl⟩
abbrev main_v380 : Ref sig .tc := ⟨.hbm, 443, rfl⟩
abbrev main_cst_54 : Ref sig .tc := ⟨.hbm, 444, rfl⟩
abbrev main_v381 : Ref sig .tc := ⟨.hbm, 445, rfl⟩
abbrev main_v382 : Ref sig .tc := ⟨.hbm, 446, rfl⟩
abbrev main_v383 : Ref sig .tc := ⟨.hbm, 447, rfl⟩
abbrev main_v384 : Ref sig .tc := ⟨.hbm, 448, rfl⟩
abbrev main_cst_55 : Ref sig .tc := ⟨.hbm, 449, rfl⟩
abbrev main_v385 : Ref sig .tc := ⟨.hbm, 450, rfl⟩
abbrev main_v386 : Ref sig .tc := ⟨.hbm, 451, rfl⟩
abbrev main_cst_56 : Ref sig .tc := ⟨.hbm, 452, rfl⟩
abbrev main_v387 : Ref sig .tc := ⟨.hbm, 453, rfl⟩
abbrev main_v388 : Ref sig .tc := ⟨.hbm, 454, rfl⟩
abbrev main_cst_57 : Ref sig .tc := ⟨.hbm, 455, rfl⟩
abbrev main_v389 : Ref sig .tc := ⟨.hbm, 456, rfl⟩
abbrev main_v390 : Ref sig .tc := ⟨.hbm, 457, rfl⟩
abbrev main_v391 : Ref sig .tc := ⟨.hbm, 458, rfl⟩
abbrev main_cst_58 : Ref sig .tc := ⟨.hbm, 459, rfl⟩
abbrev main_v392 : Ref sig .tc := ⟨.hbm, 460, rfl⟩
abbrev main_v393 : Ref sig .tc := ⟨.hbm, 461, rfl⟩
abbrev main_v394 : Ref sig .tc := ⟨.hbm, 462, rfl⟩
abbrev main_v395 : Ref sig .tc := ⟨.hbm, 463, rfl⟩
abbrev main_cst_59 : Ref sig .tc := ⟨.hbm, 464, rfl⟩
abbrev main_v396 : Ref sig .tc := ⟨.hbm, 465, rfl⟩
abbrev main_v397 : Ref sig .tc := ⟨.hbm, 466, rfl⟩
abbrev main_cst_60 : Ref sig .tc := ⟨.hbm, 467, rfl⟩
abbrev main_v398 : Ref sig .tc := ⟨.hbm, 468, rfl⟩
abbrev main_v399 : Ref sig .tc := ⟨.hbm, 469, rfl⟩
abbrev main_cst_61 : Ref sig .tc := ⟨.hbm, 470, rfl⟩
abbrev main_v400 : Ref sig .tc := ⟨.hbm, 471, rfl⟩
abbrev main_v401 : Ref sig .tc := ⟨.hbm, 472, rfl⟩
abbrev main_v402 : Ref sig .tc := ⟨.hbm, 473, rfl⟩
abbrev main_cst_62 : Ref sig .tc := ⟨.hbm, 474, rfl⟩
abbrev main_v403 : Ref sig .tc := ⟨.hbm, 475, rfl⟩
abbrev main_v404 : Ref sig .tc := ⟨.hbm, 476, rfl⟩
abbrev main_v405 : Ref sig .tc := ⟨.hbm, 477, rfl⟩
abbrev main_v406 : Ref sig .tc := ⟨.hbm, 478, rfl⟩
abbrev main_cst_63 : Ref sig .tc := ⟨.hbm, 479, rfl⟩
abbrev main_v407 : Ref sig .tc := ⟨.hbm, 480, rfl⟩
abbrev main_v408 : Ref sig .tc := ⟨.hbm, 481, rfl⟩
abbrev main_cst_64 : Ref sig .tc := ⟨.hbm, 482, rfl⟩
abbrev main_v409 : Ref sig .tc := ⟨.hbm, 483, rfl⟩
abbrev main_v410 : Ref sig .tc := ⟨.hbm, 484, rfl⟩
abbrev main_cst_65 : Ref sig .tc := ⟨.hbm, 485, rfl⟩
abbrev main_v411 : Ref sig .tc := ⟨.hbm, 486, rfl⟩
abbrev main_v412 : Ref sig .tc := ⟨.hbm, 487, rfl⟩
abbrev main_v413 : Ref sig .tc := ⟨.hbm, 488, rfl⟩
abbrev main_cst_66 : Ref sig .tc := ⟨.hbm, 489, rfl⟩
abbrev main_v414 : Ref sig .tc := ⟨.hbm, 490, rfl⟩
abbrev main_v415 : Ref sig .tc := ⟨.hbm, 491, rfl⟩
abbrev main_v416 : Ref sig .tc := ⟨.hbm, 492, rfl⟩
abbrev main_v417 : Ref sig .tc := ⟨.hbm, 493, rfl⟩
abbrev main_cst_67 : Ref sig .tc := ⟨.hbm, 494, rfl⟩
abbrev main_v418 : Ref sig .tc := ⟨.hbm, 495, rfl⟩
abbrev main_v419 : Ref sig .tc := ⟨.hbm, 496, rfl⟩
abbrev main_cst_68 : Ref sig .tc := ⟨.hbm, 497, rfl⟩
abbrev main_v420 : Ref sig .tc := ⟨.hbm, 498, rfl⟩
abbrev main_v421 : Ref sig .tc := ⟨.hbm, 499, rfl⟩
abbrev main_cst_69 : Ref sig .tc := ⟨.hbm, 500, rfl⟩
abbrev main_v422 : Ref sig .tc := ⟨.hbm, 501, rfl⟩
abbrev main_v423 : Ref sig .tc := ⟨.hbm, 502, rfl⟩
abbrev main_v424 : Ref sig .tc := ⟨.hbm, 503, rfl⟩
abbrev main_cst_70 : Ref sig .tc := ⟨.hbm, 504, rfl⟩
abbrev main_v425 : Ref sig .tc := ⟨.hbm, 505, rfl⟩
abbrev main_v426 : Ref sig .tc := ⟨.hbm, 506, rfl⟩
abbrev main_v427 : Ref sig .tc := ⟨.hbm, 507, rfl⟩
abbrev main_v428 : Ref sig .tc := ⟨.hbm, 508, rfl⟩
abbrev main_cst_71 : Ref sig .tc := ⟨.hbm, 509, rfl⟩
abbrev main_v429 : Ref sig .tc := ⟨.hbm, 510, rfl⟩
abbrev main_v430 : Ref sig .tc := ⟨.hbm, 511, rfl⟩
abbrev main_cst_72 : Ref sig .tc := ⟨.hbm, 512, rfl⟩
abbrev main_v431 : Ref sig .tc := ⟨.hbm, 513, rfl⟩
abbrev main_v432 : Ref sig .tc := ⟨.hbm, 514, rfl⟩
abbrev main_cst_73 : Ref sig .tc := ⟨.hbm, 515, rfl⟩
abbrev main_v433 : Ref sig .tc := ⟨.hbm, 516, rfl⟩
abbrev main_v434 : Ref sig .tc := ⟨.hbm, 517, rfl⟩
abbrev main_v435 : Ref sig .tc := ⟨.hbm, 518, rfl⟩
abbrev main_cst_74 : Ref sig .tc := ⟨.hbm, 519, rfl⟩
abbrev main_v436 : Ref sig .tc := ⟨.hbm, 520, rfl⟩
abbrev main_v437 : Ref sig .tc := ⟨.hbm, 521, rfl⟩
abbrev main_v438 : Ref sig .tc := ⟨.hbm, 522, rfl⟩
abbrev main_v439 : Ref sig .tc := ⟨.hbm, 523, rfl⟩
abbrev main_cst_75 : Ref sig .tc := ⟨.hbm, 524, rfl⟩
abbrev main_v440 : Ref sig .tc := ⟨.hbm, 525, rfl⟩
abbrev main_v441 : Ref sig .tc := ⟨.hbm, 526, rfl⟩
abbrev main_cst_76 : Ref sig .tc := ⟨.hbm, 527, rfl⟩
abbrev main_v442 : Ref sig .tc := ⟨.hbm, 528, rfl⟩
abbrev main_v443 : Ref sig .tc := ⟨.hbm, 529, rfl⟩
abbrev main_cst_77 : Ref sig .tc := ⟨.hbm, 530, rfl⟩
abbrev main_v444 : Ref sig .tc := ⟨.hbm, 531, rfl⟩
abbrev main_v445 : Ref sig .tc := ⟨.hbm, 532, rfl⟩
abbrev main_v446 : Ref sig .tc := ⟨.hbm, 533, rfl⟩
abbrev main_cst_78 : Ref sig .tc := ⟨.hbm, 534, rfl⟩
abbrev main_v447 : Ref sig .tc := ⟨.hbm, 535, rfl⟩
abbrev main_v448 : Ref sig .tc := ⟨.hbm, 536, rfl⟩
abbrev main_v449 : Ref sig .tc := ⟨.hbm, 537, rfl⟩
abbrev main_v450 : Ref sig .tc := ⟨.hbm, 538, rfl⟩
abbrev main_cst_79 : Ref sig .tc := ⟨.hbm, 539, rfl⟩
abbrev main_v451 : Ref sig .tc := ⟨.hbm, 540, rfl⟩
abbrev main_v452 : Ref sig .tc := ⟨.hbm, 541, rfl⟩
abbrev main_cst_80 : Ref sig .tc := ⟨.hbm, 542, rfl⟩
abbrev main_v453 : Ref sig .tc := ⟨.hbm, 543, rfl⟩
abbrev main_v454 : Ref sig .tc := ⟨.hbm, 544, rfl⟩
abbrev main_cst_81 : Ref sig .tc := ⟨.hbm, 545, rfl⟩
abbrev main_v455 : Ref sig .tc := ⟨.hbm, 546, rfl⟩
abbrev main_v456 : Ref sig .tc := ⟨.hbm, 547, rfl⟩
abbrev main_v457 : Ref sig .tc := ⟨.hbm, 548, rfl⟩
abbrev main_cst_82 : Ref sig .tc := ⟨.hbm, 549, rfl⟩
abbrev main_v458 : Ref sig .tc := ⟨.hbm, 550, rfl⟩
abbrev main_v459 : Ref sig .tc := ⟨.hbm, 551, rfl⟩
abbrev main_v460 : Ref sig .tc := ⟨.hbm, 552, rfl⟩
abbrev main_v461 : Ref sig .tc := ⟨.hbm, 553, rfl⟩
abbrev main_cst_83 : Ref sig .tc := ⟨.hbm, 554, rfl⟩
abbrev main_v462 : Ref sig .tc := ⟨.hbm, 555, rfl⟩
abbrev main_v463 : Ref sig .tc := ⟨.hbm, 556, rfl⟩
abbrev main_cst_84 : Ref sig .tc := ⟨.hbm, 557, rfl⟩
abbrev main_v464 : Ref sig .tc := ⟨.hbm, 558, rfl⟩
abbrev main_v465 : Ref sig .tc := ⟨.hbm, 559, rfl⟩
abbrev main_cst_85 : Ref sig .tc := ⟨.hbm, 560, rfl⟩
abbrev main_v466 : Ref sig .tc := ⟨.hbm, 561, rfl⟩
abbrev main_v467 : Ref sig .tc := ⟨.hbm, 562, rfl⟩
abbrev main_v468 : Ref sig .tc := ⟨.hbm, 563, rfl⟩
abbrev main_cst_86 : Ref sig .tc := ⟨.hbm, 564, rfl⟩
abbrev main_v469 : Ref sig .tc := ⟨.hbm, 565, rfl⟩
abbrev main_v470 : Ref sig .tc := ⟨.hbm, 566, rfl⟩
abbrev main_v471 : Ref sig .tc := ⟨.hbm, 567, rfl⟩
abbrev main_v472 : Ref sig .tc := ⟨.hbm, 568, rfl⟩
abbrev main_cst_87 : Ref sig .tc := ⟨.hbm, 569, rfl⟩
abbrev main_v473 : Ref sig .tc := ⟨.hbm, 570, rfl⟩
abbrev main_v474 : Ref sig .tc := ⟨.hbm, 571, rfl⟩
abbrev main_cst_88 : Ref sig .tc := ⟨.hbm, 572, rfl⟩
abbrev main_v475 : Ref sig .tc := ⟨.hbm, 573, rfl⟩
abbrev main_v476 : Ref sig .tc := ⟨.hbm, 574, rfl⟩
abbrev main_cst_89 : Ref sig .tc := ⟨.hbm, 575, rfl⟩
abbrev main_v477 : Ref sig .tc := ⟨.hbm, 576, rfl⟩
abbrev main_v478 : Ref sig .tc := ⟨.hbm, 577, rfl⟩
abbrev main_v479 : Ref sig .tc := ⟨.hbm, 578, rfl⟩
abbrev main_cst_90 : Ref sig .tc := ⟨.hbm, 579, rfl⟩
abbrev main_v480 : Ref sig .tc := ⟨.hbm, 580, rfl⟩
abbrev main_v481 : Ref sig .tc := ⟨.hbm, 581, rfl⟩
abbrev main_v482 : Ref sig .tc := ⟨.hbm, 582, rfl⟩
abbrev main_v483 : Ref sig .tc := ⟨.hbm, 583, rfl⟩
abbrev main_cst_91 : Ref sig .tc := ⟨.hbm, 584, rfl⟩
abbrev main_v484 : Ref sig .tc := ⟨.hbm, 585, rfl⟩
abbrev main_v485 : Ref sig .tc := ⟨.hbm, 586, rfl⟩
abbrev main_cst_92 : Ref sig .tc := ⟨.hbm, 587, rfl⟩
abbrev main_v486 : Ref sig .tc := ⟨.hbm, 588, rfl⟩
abbrev main_v487 : Ref sig .tc := ⟨.hbm, 589, rfl⟩
abbrev main_cst_93 : Ref sig .tc := ⟨.hbm, 590, rfl⟩
abbrev main_v488 : Ref sig .tc := ⟨.hbm, 591, rfl⟩
abbrev main_v489 : Ref sig .tc := ⟨.hbm, 592, rfl⟩
abbrev main_v490 : Ref sig .tc := ⟨.hbm, 593, rfl⟩
abbrev main_cst_94 : Ref sig .tc := ⟨.hbm, 594, rfl⟩
abbrev main_v491 : Ref sig .tc := ⟨.hbm, 595, rfl⟩
abbrev main_v492 : Ref sig .tc := ⟨.hbm, 596, rfl⟩
abbrev main_v493 : Ref sig .tc := ⟨.hbm, 597, rfl⟩
abbrev main_v494 : Ref sig .tc := ⟨.hbm, 598, rfl⟩
abbrev main_cst_95 : Ref sig .tc := ⟨.hbm, 599, rfl⟩
abbrev main_v495 : Ref sig .tc := ⟨.hbm, 600, rfl⟩
abbrev main_v496 : Ref sig .tc := ⟨.hbm, 601, rfl⟩
abbrev main_cst_96 : Ref sig .tc := ⟨.hbm, 602, rfl⟩
abbrev main_v497 : Ref sig .tc := ⟨.hbm, 603, rfl⟩
abbrev main_v498 : Ref sig .tc := ⟨.hbm, 604, rfl⟩
abbrev main_cst_97 : Ref sig .tc := ⟨.hbm, 605, rfl⟩
abbrev main_v499 : Ref sig .tc := ⟨.hbm, 606, rfl⟩
abbrev main_v500 : Ref sig .tc := ⟨.hbm, 607, rfl⟩
abbrev main_v501 : Ref sig .tc := ⟨.hbm, 608, rfl⟩
abbrev main_cst_98 : Ref sig .tc := ⟨.hbm, 609, rfl⟩
abbrev main_v502 : Ref sig .tc := ⟨.hbm, 610, rfl⟩
abbrev main_v503 : Ref sig .tc := ⟨.hbm, 611, rfl⟩
abbrev main_v504 : Ref sig .tc := ⟨.hbm, 612, rfl⟩
abbrev main_v505 : Ref sig .tc := ⟨.hbm, 613, rfl⟩
abbrev main_cst_99 : Ref sig .tc := ⟨.hbm, 614, rfl⟩
abbrev main_v506 : Ref sig .tc := ⟨.hbm, 615, rfl⟩
abbrev main_v507 : Ref sig .tc := ⟨.hbm, 616, rfl⟩
abbrev main_cst_100 : Ref sig .tc := ⟨.hbm, 617, rfl⟩
abbrev main_v508 : Ref sig .tc := ⟨.hbm, 618, rfl⟩
abbrev main_v509 : Ref sig .tc := ⟨.hbm, 619, rfl⟩
abbrev main_cst_101 : Ref sig .tc := ⟨.hbm, 620, rfl⟩
abbrev main_v510 : Ref sig .tc := ⟨.hbm, 621, rfl⟩
abbrev main_v511 : Ref sig .tc := ⟨.hbm, 622, rfl⟩
abbrev main_v512 : Ref sig .tc := ⟨.hbm, 623, rfl⟩
abbrev main_cst_102 : Ref sig .tc := ⟨.hbm, 624, rfl⟩
abbrev main_v513 : Ref sig .tc := ⟨.hbm, 625, rfl⟩
abbrev main_v514 : Ref sig .tc := ⟨.hbm, 626, rfl⟩
abbrev main_v515 : Ref sig .tc := ⟨.hbm, 627, rfl⟩
abbrev main_v516 : Ref sig .tc := ⟨.hbm, 628, rfl⟩
abbrev main_cst_103 : Ref sig .tc := ⟨.hbm, 629, rfl⟩
abbrev main_v517 : Ref sig .tc := ⟨.hbm, 630, rfl⟩
abbrev main_v518 : Ref sig .tc := ⟨.hbm, 631, rfl⟩
abbrev main_cst_104 : Ref sig .tc := ⟨.hbm, 632, rfl⟩
abbrev main_v519 : Ref sig .tc := ⟨.hbm, 633, rfl⟩
abbrev main_v520 : Ref sig .tc := ⟨.hbm, 634, rfl⟩
abbrev main_cst_105 : Ref sig .tc := ⟨.hbm, 635, rfl⟩
abbrev main_v521 : Ref sig .tc := ⟨.hbm, 636, rfl⟩
abbrev main_v522 : Ref sig .tc := ⟨.hbm, 637, rfl⟩
abbrev main_v523 : Ref sig .tc := ⟨.hbm, 638, rfl⟩
abbrev main_cst_106 : Ref sig .tc := ⟨.hbm, 639, rfl⟩
abbrev main_v524 : Ref sig .tc := ⟨.hbm, 640, rfl⟩
abbrev main_v525 : Ref sig .tc := ⟨.hbm, 641, rfl⟩
abbrev main_v526 : Ref sig .tc := ⟨.hbm, 642, rfl⟩
abbrev main_v527 : Ref sig .tc := ⟨.hbm, 643, rfl⟩
abbrev main_cst_107 : Ref sig .tc := ⟨.hbm, 644, rfl⟩
abbrev main_v528 : Ref sig .tc := ⟨.hbm, 645, rfl⟩
abbrev main_v529 : Ref sig .tc := ⟨.hbm, 646, rfl⟩
abbrev main_cst_108 : Ref sig .tc := ⟨.hbm, 647, rfl⟩
abbrev main_v530 : Ref sig .tc := ⟨.hbm, 648, rfl⟩
abbrev main_v531 : Ref sig .tc := ⟨.hbm, 649, rfl⟩
abbrev main_cst_109 : Ref sig .tc := ⟨.hbm, 650, rfl⟩
abbrev main_v532 : Ref sig .tc := ⟨.hbm, 651, rfl⟩
abbrev main_v533 : Ref sig .tc := ⟨.hbm, 652, rfl⟩
abbrev main_v534 : Ref sig .tc := ⟨.hbm, 653, rfl⟩
abbrev main_cst_110 : Ref sig .tc := ⟨.hbm, 654, rfl⟩
abbrev main_v535 : Ref sig .tc := ⟨.hbm, 655, rfl⟩
abbrev main_v536 : Ref sig .tc := ⟨.hbm, 656, rfl⟩
abbrev main_v537 : Ref sig .tc := ⟨.hbm, 657, rfl⟩
abbrev main_v538 : Ref sig .tc := ⟨.hbm, 658, rfl⟩
abbrev main_cst_111 : Ref sig .tc := ⟨.hbm, 659, rfl⟩
abbrev main_v539 : Ref sig .tc := ⟨.hbm, 660, rfl⟩
abbrev main_v540 : Ref sig .tc := ⟨.hbm, 661, rfl⟩
abbrev main_cst_112 : Ref sig .tc := ⟨.hbm, 662, rfl⟩
abbrev main_v541 : Ref sig .tc := ⟨.hbm, 663, rfl⟩
abbrev main_v542 : Ref sig .tc := ⟨.hbm, 664, rfl⟩
abbrev main_cst_113 : Ref sig .tc := ⟨.hbm, 665, rfl⟩
abbrev main_v543 : Ref sig .tc := ⟨.hbm, 666, rfl⟩
abbrev main_v544 : Ref sig .tc := ⟨.hbm, 667, rfl⟩
abbrev main_v545 : Ref sig .tc := ⟨.hbm, 668, rfl⟩
abbrev main_cst_114 : Ref sig .tc := ⟨.hbm, 669, rfl⟩
abbrev main_v546 : Ref sig .tc := ⟨.hbm, 670, rfl⟩
abbrev main_v547 : Ref sig .tc := ⟨.hbm, 671, rfl⟩
abbrev main_v548 : Ref sig .tc := ⟨.hbm, 672, rfl⟩
abbrev main_v549 : Ref sig .tc := ⟨.hbm, 673, rfl⟩
abbrev main_cst_115 : Ref sig .tc := ⟨.hbm, 674, rfl⟩
abbrev main_v550 : Ref sig .tc := ⟨.hbm, 675, rfl⟩
abbrev main_v551 : Ref sig .tc := ⟨.hbm, 676, rfl⟩
abbrev main_cst_116 : Ref sig .tc := ⟨.hbm, 677, rfl⟩
abbrev main_v552 : Ref sig .tc := ⟨.hbm, 678, rfl⟩
abbrev main_v553 : Ref sig .tc := ⟨.hbm, 679, rfl⟩
abbrev main_cst_117 : Ref sig .tc := ⟨.hbm, 680, rfl⟩
abbrev main_v554 : Ref sig .tc := ⟨.hbm, 681, rfl⟩
abbrev main_v555 : Ref sig .tc := ⟨.hbm, 682, rfl⟩
abbrev main_v556 : Ref sig .tc := ⟨.hbm, 683, rfl⟩
abbrev main_cst_118 : Ref sig .tc := ⟨.hbm, 684, rfl⟩
abbrev main_v557 : Ref sig .tc := ⟨.hbm, 685, rfl⟩
abbrev main_v558 : Ref sig .tc := ⟨.hbm, 686, rfl⟩
abbrev main_v559 : Ref sig .tc := ⟨.hbm, 687, rfl⟩
abbrev main_v560 : Ref sig .tc := ⟨.hbm, 688, rfl⟩
abbrev main_cst_119 : Ref sig .tc := ⟨.hbm, 689, rfl⟩
abbrev main_v561 : Ref sig .tc := ⟨.hbm, 690, rfl⟩
abbrev main_v562 : Ref sig .tc := ⟨.hbm, 691, rfl⟩
abbrev main_cst_120 : Ref sig .tc := ⟨.hbm, 692, rfl⟩
abbrev main_v563 : Ref sig .tc := ⟨.hbm, 693, rfl⟩
abbrev main_v564 : Ref sig .tc := ⟨.hbm, 694, rfl⟩
abbrev main_cst_121 : Ref sig .tc := ⟨.hbm, 695, rfl⟩
abbrev main_v565 : Ref sig .tc := ⟨.hbm, 696, rfl⟩
abbrev main_v566 : Ref sig .tc := ⟨.hbm, 697, rfl⟩
abbrev main_v567 : Ref sig .tc := ⟨.hbm, 698, rfl⟩
abbrev main_cst_122 : Ref sig .tc := ⟨.hbm, 699, rfl⟩
abbrev main_v568 : Ref sig .tc := ⟨.hbm, 700, rfl⟩
abbrev main_v569 : Ref sig .tc := ⟨.hbm, 701, rfl⟩
abbrev main_v570 : Ref sig .tc := ⟨.hbm, 702, rfl⟩
abbrev main_v571 : Ref sig .tc := ⟨.hbm, 703, rfl⟩
abbrev main_cst_123 : Ref sig .tc := ⟨.hbm, 704, rfl⟩
abbrev main_v572 : Ref sig .tc := ⟨.hbm, 705, rfl⟩
abbrev main_v573 : Ref sig .tc := ⟨.hbm, 706, rfl⟩
abbrev main_cst_124 : Ref sig .tc := ⟨.hbm, 707, rfl⟩
abbrev main_v574 : Ref sig .tc := ⟨.hbm, 708, rfl⟩
abbrev main_v575 : Ref sig .tc := ⟨.hbm, 709, rfl⟩
abbrev main_cst_125 : Ref sig .tc := ⟨.hbm, 710, rfl⟩
abbrev main_v576 : Ref sig .tc := ⟨.hbm, 711, rfl⟩
abbrev main_v577 : Ref sig .tc := ⟨.hbm, 712, rfl⟩
abbrev main_v578 : Ref sig .tc := ⟨.hbm, 713, rfl⟩
abbrev main_cst_126 : Ref sig .tc := ⟨.hbm, 714, rfl⟩
abbrev main_v579 : Ref sig .tc := ⟨.hbm, 715, rfl⟩
abbrev main_v580 : Ref sig .tc := ⟨.hbm, 716, rfl⟩
abbrev main_v581 : Ref sig .tc := ⟨.hbm, 717, rfl⟩
abbrev main_v582 : Ref sig .tc := ⟨.hbm, 718, rfl⟩
abbrev main_cst_127 : Ref sig .tc := ⟨.hbm, 719, rfl⟩
abbrev main_v583 : Ref sig .tc := ⟨.hbm, 720, rfl⟩
abbrev main_v584 : Ref sig .tc := ⟨.hbm, 721, rfl⟩
abbrev main_cst_128 : Ref sig .tc := ⟨.hbm, 722, rfl⟩
abbrev main_v585 : Ref sig .tc := ⟨.hbm, 723, rfl⟩
abbrev main_v586 : Ref sig .tc := ⟨.hbm, 724, rfl⟩
abbrev main_cst_129 : Ref sig .tc := ⟨.hbm, 725, rfl⟩
abbrev main_v587 : Ref sig .tc := ⟨.hbm, 726, rfl⟩
abbrev main_v588 : Ref sig .tc := ⟨.hbm, 727, rfl⟩
abbrev main_v589 : Ref sig .tc := ⟨.hbm, 728, rfl⟩
abbrev main_cst_130 : Ref sig .tc := ⟨.hbm, 729, rfl⟩
abbrev main_v590 : Ref sig .tc := ⟨.hbm, 730, rfl⟩
abbrev main_v591 : Ref sig .tc := ⟨.hbm, 731, rfl⟩
abbrev main_v592 : Ref sig .tc := ⟨.hbm, 732, rfl⟩
abbrev main_v593 : Ref sig .tc := ⟨.hbm, 733, rfl⟩
abbrev main_cst_131 : Ref sig .tc := ⟨.hbm, 734, rfl⟩
abbrev main_v594 : Ref sig .tc := ⟨.hbm, 735, rfl⟩
abbrev main_v595 : Ref sig .tc := ⟨.hbm, 736, rfl⟩
abbrev main_cst_132 : Ref sig .tc := ⟨.hbm, 737, rfl⟩
abbrev main_v596 : Ref sig .tc := ⟨.hbm, 738, rfl⟩
abbrev main_v597 : Ref sig .tc := ⟨.hbm, 739, rfl⟩
abbrev main_cst_133 : Ref sig .tc := ⟨.hbm, 740, rfl⟩
abbrev main_v598 : Ref sig .tc := ⟨.hbm, 741, rfl⟩
abbrev main_v599 : Ref sig .tc := ⟨.hbm, 742, rfl⟩
abbrev main_v600 : Ref sig .tc := ⟨.hbm, 743, rfl⟩
abbrev main_v601 : Ref sig .tc := ⟨.hbm, 744, rfl⟩
abbrev main_v602 : Ref sig .tc := ⟨.hbm, 745, rfl⟩
abbrev main_v603 : Ref sig .tc := ⟨.hbm, 746, rfl⟩
abbrev main_v604 : Ref sig .tc := ⟨.hbm, 747, rfl⟩
abbrev main_v605 : Ref sig .tc := ⟨.hbm, 748, rfl⟩
abbrev main_v606 : Ref sig .tc := ⟨.hbm, 749, rfl⟩
abbrev main_v607 : Ref sig .tc := ⟨.hbm, 750, rfl⟩
abbrev main_v608 : Ref sig .tc := ⟨.hbm, 751, rfl⟩
abbrev main_cst_134 : Ref sig .tc := ⟨.hbm, 752, rfl⟩
abbrev main_v609 : Ref sig .tc := ⟨.hbm, 753, rfl⟩
abbrev main_v610 : Ref sig .tc := ⟨.hbm, 754, rfl⟩
abbrev main_v611 : Ref sig .tc := ⟨.hbm, 755, rfl⟩
abbrev main_v612 : Ref sig .tc := ⟨.hbm, 756, rfl⟩
abbrev main_cst_135 : Ref sig .tc := ⟨.hbm, 757, rfl⟩
abbrev main_v613 : Ref sig .tc := ⟨.hbm, 758, rfl⟩
abbrev main_v614 : Ref sig .tc := ⟨.hbm, 759, rfl⟩
abbrev main_cst_136 : Ref sig .tc := ⟨.hbm, 760, rfl⟩
abbrev main_v615 : Ref sig .tc := ⟨.hbm, 761, rfl⟩
abbrev main_cst_137 : Ref sig .tc := ⟨.hbm, 762, rfl⟩
abbrev main_v616 : Ref sig .tc := ⟨.hbm, 763, rfl⟩
abbrev main_v617 : Ref sig .tc := ⟨.hbm, 764, rfl⟩
abbrev main_cst_138 : Ref sig .tc := ⟨.hbm, 765, rfl⟩
abbrev main_v618 : Ref sig .tc := ⟨.hbm, 766, rfl⟩
abbrev main_v619 : Ref sig .tc := ⟨.hbm, 767, rfl⟩
abbrev main_v620 : Ref sig .tc := ⟨.hbm, 768, rfl⟩
abbrev main_v621 : Ref sig .tc := ⟨.hbm, 769, rfl⟩
abbrev main_cst_139 : Ref sig .tc := ⟨.hbm, 770, rfl⟩
abbrev main_v622 : Ref sig .tc := ⟨.hbm, 771, rfl⟩
abbrev main_v623 : Ref sig .tc := ⟨.hbm, 772, rfl⟩
abbrev main_cst_140 : Ref sig .tc := ⟨.hbm, 773, rfl⟩
abbrev main_v624 : Ref sig .tc := ⟨.hbm, 774, rfl⟩
abbrev main_v625 : Ref sig .tc := ⟨.hbm, 775, rfl⟩
abbrev main_cst_141 : Ref sig .tc := ⟨.hbm, 776, rfl⟩
abbrev main_v626 : Ref sig .tc := ⟨.hbm, 777, rfl⟩
abbrev main_v627 : Ref sig .tc := ⟨.hbm, 778, rfl⟩
abbrev main_v628 : Ref sig .tc := ⟨.hbm, 779, rfl⟩
abbrev main_cst_142 : Ref sig .tc := ⟨.hbm, 780, rfl⟩
abbrev main_v629 : Ref sig .tc := ⟨.hbm, 781, rfl⟩
abbrev main_v630 : Ref sig .tc := ⟨.hbm, 782, rfl⟩
abbrev main_v631 : Ref sig .tc := ⟨.hbm, 783, rfl⟩
abbrev main_v632 : Ref sig .tc := ⟨.hbm, 784, rfl⟩
abbrev main_cst_143 : Ref sig .tc := ⟨.hbm, 785, rfl⟩
abbrev main_v633 : Ref sig .tc := ⟨.hbm, 786, rfl⟩
abbrev main_v634 : Ref sig .tc := ⟨.hbm, 787, rfl⟩
abbrev main_cst_144 : Ref sig .tc := ⟨.hbm, 788, rfl⟩
abbrev main_v635 : Ref sig .tc := ⟨.hbm, 789, rfl⟩
abbrev main_v636 : Ref sig .tc := ⟨.hbm, 790, rfl⟩
abbrev main_cst_145 : Ref sig .tc := ⟨.hbm, 791, rfl⟩
abbrev main_v637 : Ref sig .tc := ⟨.hbm, 792, rfl⟩
abbrev main_v638 : Ref sig .tc := ⟨.hbm, 793, rfl⟩
abbrev main_v639 : Ref sig .tc := ⟨.hbm, 794, rfl⟩
abbrev main_v640 : Ref sig .tc := ⟨.hbm, 795, rfl⟩
abbrev main_v641 : Ref sig .tc := ⟨.hbm, 796, rfl⟩
abbrev main_v642 : Ref sig .tc := ⟨.hbm, 797, rfl⟩
abbrev main_v643 : Ref sig .tc := ⟨.hbm, 798, rfl⟩
abbrev main_cst_146 : Ref sig .tc := ⟨.hbm, 799, rfl⟩
abbrev main_v644 : Ref sig .tc := ⟨.hbm, 800, rfl⟩
abbrev main_cst_147 : Ref sig .tc := ⟨.hbm, 801, rfl⟩
abbrev main_v645 : Ref sig .tc := ⟨.hbm, 802, rfl⟩
abbrev main_v646 : Ref sig .tc := ⟨.hbm, 803, rfl⟩
abbrev main_cst_148 : Ref sig .tc := ⟨.hbm, 804, rfl⟩
abbrev main_v647 : Ref sig .tc := ⟨.hbm, 805, rfl⟩
abbrev main_v648 : Ref sig .tc := ⟨.hbm, 806, rfl⟩
abbrev main_cst_149 : Ref sig .tc := ⟨.hbm, 807, rfl⟩
abbrev main_v649 : Ref sig .tc := ⟨.hbm, 808, rfl⟩
abbrev main_v650 : Ref sig .tc := ⟨.hbm, 809, rfl⟩
abbrev main_cst_150 : Ref sig .tc := ⟨.hbm, 810, rfl⟩
abbrev main_v651 : Ref sig .tc := ⟨.hbm, 811, rfl⟩
abbrev main_v652 : Ref sig .tc := ⟨.hbm, 812, rfl⟩
abbrev main_v653 : Ref sig .tc := ⟨.hbm, 813, rfl⟩
abbrev main_v654 : Ref sig .tc := ⟨.hbm, 814, rfl⟩
abbrev main_v655 : Ref sig .tc := ⟨.hbm, 815, rfl⟩

abbrev nD : Nat := 1
abbrev τ : Topo := Topo.v7x

variable {F : FTy → Type} [FloatOps F]
-- ==== Mlp.lean ====
abbrev S8192x1024 : Shape := ⟨2, ![8192, 1024]⟩
abbrev S1024 : Shape := ⟨1, ![1024]⟩
abbrev S1024x4096 : Shape := ⟨2, ![1024, 4096]⟩
abbrev S4096x1024 : Shape := ⟨2, ![4096, 1024]⟩
abbrev S8x512x1024 : Shape := ⟨3, ![8, 512, 1024]⟩
abbrev S8x1024x1024 : Shape := ⟨3, ![8, 1024, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x4096 : Shape := ⟨2, ![8192, 4096]⟩
abbrev S8x1024 : Shape := ⟨2, ![8, 1024]⟩
abbrev S256x1024 : Shape := ⟨2, ![256, 1024]⟩
abbrev S256x4096 : Shape := ⟨2, ![256, 4096]⟩
abbrev S16 : Shape := ⟨1, ![16]⟩
abbrev S1 : Shape := ⟨1, ![1]⟩
abbrev S512x1024 : Shape := ⟨2, ![512, 1024]⟩
abbrev S1x512x1024 : Shape := ⟨3, ![1, 512, 1024]⟩
abbrev S256 : Shape := ⟨1, ![256]⟩
abbrev S256x1 : Shape := ⟨2, ![256, 1]⟩
abbrev S1024x1024 : Shape := ⟨2, ![1024, 1024]⟩

abbrev nBuf : Space → Nat
  | .hbm => 41
  | .vmem => 25
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S1024, .f32⟩
  | .hbm, ⟨4, _⟩ => ⟨S1024x4096, .f32⟩
  | .hbm, ⟨5, _⟩ => ⟨S4096x1024, .f32⟩
  | .hbm, ⟨6, _⟩ => ⟨S1024, .f32⟩
  | .hbm, ⟨7, _⟩ => ⟨S8192x1024, .f32⟩
  | .hbm, ⟨8, _⟩ => ⟨S4096x1024, .f32⟩
  | .hbm, ⟨9, _⟩ => ⟨S4096x1024, .bf16⟩
  | .hbm, ⟨10, _⟩ => ⟨S8x512x1024, .bf16⟩
  | .hbm, ⟨11, _⟩ => ⟨S4096x1024, .bf16⟩
  | .hbm, ⟨12, _⟩ => ⟨S8x512x1024, .bf16⟩
  | .hbm, ⟨13, _⟩ => ⟨S8x1024x1024, .bf16⟩
  | .hbm, ⟨14, _⟩ => ⟨S8192x1024, .f32⟩
  | .hbm, ⟨15, _⟩ => ⟨S_, .f32⟩
  | .hbm, ⟨16, _⟩ => ⟨S8192, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1, .f32⟩
  | .hbm, ⟨25, _⟩ => ⟨S8192x1024, .f32⟩
  | .hbm, ⟨26, _⟩ => ⟨S8192x1024, .f32⟩
  | .hbm, ⟨27, _⟩ => ⟨S1x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S1x1024, .f32⟩
  | .hbm, ⟨32, _⟩ => ⟨S1x1024, .f32⟩
  | .hbm, ⟨33, _⟩ => ⟨S1x1024, .f32⟩
  | .hbm, ⟨34, _⟩ => ⟨S8192x4096, .bf16⟩
  | .hbm, ⟨35, _⟩ => ⟨S8192x4096, .bf16⟩
  | .hbm, ⟨36, _⟩ => ⟨S8192x1024, .bf16⟩
  | .hbm, ⟨37, _⟩ => ⟨S8192x1024, .bf16⟩
  | .hbm, ⟨38, _⟩ => ⟨S8192x1024, .bf16⟩
  | .hbm, ⟨39, _⟩ => ⟨S8192x1024, .f32⟩
  | .hbm, ⟨40, _⟩ => ⟨S8x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S256x4096, .bf16⟩
  | .local _ .vmem, ⟨10, _⟩ => ⟨S256x4096, .bf16⟩
  | .local _ .vmem, ⟨11, _⟩ => ⟨S256x4096, .bf16⟩
  | .local _ .vmem, ⟨12, _⟩ => ⟨S256x4096, .bf16⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | .local _ .vmem, ⟨16, _⟩ => ⟨S256x1024, .bf16⟩
  | .local _ .vmem, ⟨17, _⟩ => ⟨S256x1024, .bf16⟩
  | .local _ .vmem, ⟨18, _⟩ => ⟨S256x1024, .bf16⟩
  | .local _ .vmem, ⟨19, _⟩ => ⟨S256x1024, .f32⟩
  | .local _ .vmem, ⟨20, _⟩ => ⟨S256x1024, .f32⟩
  | .local _ .vmem, ⟨21, _⟩ => ⟨S8x1024, .f32⟩
  | .local _ .vmem, ⟨22, _⟩ => ⟨S4096x1024, .bf16⟩
  | .local _ .vmem, ⟨23, _⟩ => ⟨S4096x1024, .bf16⟩
  | .local _ .vmem, ⟨24, _⟩ => ⟨S256x4096, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23_0 : Ref sig .tc := ⟨.hbm, 34, rfl⟩
abbrev main_v23_1 : Ref sig .tc := ⟨.hbm, 35, rfl⟩
abbrev main_v23_2 : Ref sig .tc := ⟨.hbm, 36, rfl⟩
abbrev main_v23_3 : Ref sig .tc := ⟨.hbm, 37, rfl⟩
abbrev main_v23_4 : Ref sig .tc := ⟨.hbm, 38, rfl⟩
abbrev main_v23_5 : Ref sig .tc := ⟨.hbm, 39, rfl⟩
abbrev main_v23_6 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S8x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== RefMlpIdeal.lean ====
abbrev S8192x1024 : Shape := ⟨2, ![8192, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x4096 : Shape := ⟨2, ![8192, 4096]⟩
abbrev S8x1024 : Shape := ⟨2, ![8, 1024]⟩

abbrev nBuf : Space → Nat
  | .hbm => 234
  | .vmem => 0
  | .smem => 0
  | _ => 0

abbrev hbmTy0_0 (i : Nat) : BufTy := match i % 128 with
  | 0 => ⟨S8192x1024, .f32⟩
  | 1 => ⟨S8192x1024, .f32⟩
  | 2 => ⟨S1024, .f32⟩
  | 3 => ⟨S1024, .f32⟩
  | 4 => ⟨S1024x4096, .f32⟩
  | 5 => ⟨S4096x1024, .f32⟩
  | 6 => ⟨S1024, .f32⟩
  | 7 => ⟨S8192x1024, .f32⟩
  | 8 => ⟨S8192x1024, .f32⟩
  | 9 => ⟨S_, .f32⟩
  | 10 => ⟨S8192, .f32⟩
  | 11 => ⟨S8192x1, .f32⟩
  | 12 => ⟨S_, .f32⟩
  | 13 => ⟨S8192x1, .f32⟩
  | 14 => ⟨S8192x1, .f32⟩
  | 15 => ⟨S_, .f32⟩
  | 16 => ⟨S8192x1, .f32⟩
  | 17 => ⟨S8192x1, .f32⟩
  | 18 => ⟨S8192x1, .f32⟩
  | 19 => ⟨S8192x1, .f32⟩
  | 20 => ⟨S_, .f32⟩
  | 21 => ⟨S8192x1, .f32⟩
  | 22 => ⟨S8192x1, .f32⟩
  | 23 => ⟨S8192x1024, .f32⟩
  | 24 => ⟨S8192x1024, .f32⟩
  | 25 => ⟨S1x1024, .f32⟩
  | 26 => ⟨S8192x1024, .f32⟩
  | 27 => ⟨S8192x1024, .f32⟩
  | 28 => ⟨S8192x1024, .f32⟩
  | 29 => ⟨S8192x1024, .f32⟩
  | 30 => ⟨S_, .f32⟩
  | 31 => ⟨S8192, .f32⟩
  | 32 => ⟨S8192x1, .f32⟩
  | 33 => ⟨S_, .f32⟩
  | 34 => ⟨S8192x1, .f32⟩
  | 35 => ⟨S8192x1, .f32⟩
  | 36 => ⟨S_, .f32⟩
  | 37 => ⟨S8192x1, .f32⟩
  | 38 => ⟨S8192x1, .f32⟩
  | 39 => ⟨S8192x1, .f32⟩
  | 40 => ⟨S8192x1, .f32⟩
  | 41 => ⟨S_, .f32⟩
  | 42 => ⟨S8192x1, .f32⟩
  | 43 => ⟨S8192x1, .f32⟩
  | 44 => ⟨S8192x1024, .f32⟩
  | 45 => ⟨S8192x1024, .f32⟩
  | 46 => ⟨S1x1024, .f32⟩
  | 47 => ⟨S8192x1024, .f32⟩
  | 48 => ⟨S8192x1024, .f32⟩
  | 49 => ⟨S8192x4096, .f32⟩
  | 50 => ⟨S_, .f32⟩
  | 51 => ⟨S8192x4096, .f32⟩
  | 52 => ⟨S8192x4096, .f32⟩
  | 53 => ⟨S_, .f32⟩
  | 54 => ⟨S8192x4096, .f32⟩
  | 55 => ⟨S8192x4096, .i1⟩
  | 56 => ⟨S_, .f32⟩
  | 57 => ⟨S8192x4096, .f32⟩
  | 58 => ⟨S8192x4096, .f32⟩
  | 59 => ⟨S_, .f32⟩
  | 60 => ⟨S8192x4096, .f32⟩
  | 61 => ⟨S8192x4096, .f32⟩
  | 62 => ⟨S8192x1024, .f32⟩
  | 63 => ⟨S8192x1024, .f32⟩
  | 64 => ⟨S_, .f32⟩
  | 65 => ⟨S8192, .f32⟩
  | 66 => ⟨S8192x1, .f32⟩
  | 67 => ⟨S_, .f32⟩
  | 68 => ⟨S8192x1, .f32⟩
  | 69 => ⟨S8192x1, .f32⟩
  | 70 => ⟨S_, .f32⟩
  | 71 => ⟨S8192x1, .f32⟩
  | 72 => ⟨S8192x1, .f32⟩
  | 73 => ⟨S8192x1, .f32⟩
  | 74 => ⟨S8192x1, .f32⟩
  | 75 => ⟨S_, .f32⟩
  | 76 => ⟨S8192x1, .f32⟩
  | 77 => ⟨S8192x1, .f32⟩
  | 78 => ⟨S8192x1024, .f32⟩
  | 79 => ⟨S8192x1024, .f32⟩
  | 80 => ⟨S1x1024, .f32⟩
  | 81 => ⟨S8192x1024, .f32⟩
  | 82 => ⟨S8192x1024, .f32⟩
  | 83 => ⟨S8192x1024, .f32⟩
  | 84 => ⟨S8192x1024, .f32⟩
  | 85 => ⟨S8192x1024, .f32⟩
  | 86 => ⟨S_, .f32⟩
  | 87 => ⟨S8192x1024, .f32⟩
  | 88 => ⟨S8192x1024, .f32⟩
  | 89 => ⟨S_, .f32⟩
  | 90 => ⟨S8192, .f32⟩
  | 91 => ⟨S_, .f32⟩
  | 92 => ⟨S8192, .f32⟩
  | 93 => ⟨S8192, .f32⟩
  | 94 => ⟨S_, .f32⟩
  | 95 => ⟨S_, .f32⟩
  | 96 => ⟨S_, .f32⟩
  | 97 => ⟨S_, .f32⟩
  | 98 => ⟨S_, .f32⟩
  | 99 => ⟨S_, .f32⟩
  | 100 => ⟨S_, .f32⟩
  | 101 => ⟨S8192, .f32⟩
  | 102 => ⟨S_, .f32⟩
  | 103 => ⟨S8192, .f32⟩
  | 104 => ⟨S8192, .f32⟩
  | 105 => ⟨S8192x1024, .f32⟩
  | 106 => ⟨S8192x1024, .f32⟩
  | 107 => ⟨S8192x1024, .f32⟩
  | 108 => ⟨S_, .f32⟩
  | 109 => ⟨S1024, .f32⟩
  | 110 => ⟨S1x1024, .f32⟩
  | 111 => ⟨S8192x1024, .f32⟩
  | 112 => ⟨S8192x1024, .f32⟩
  | 113 => ⟨S_, .f32⟩
  | 114 => ⟨S1024, .f32⟩
  | 115 => ⟨S8192x1024, .f32⟩
  | 116 => ⟨S_, .f32⟩
  | 117 => ⟨S8192, .f32⟩
  | 118 => ⟨S8192x1, .f32⟩
  | 119 => ⟨S8192x1024, .f32⟩
  | 120 => ⟨S8192x1024, .f32⟩
  | 121 => ⟨S8192x1, .f32⟩
  | 122 => ⟨S_, .f32⟩
  | 123 => ⟨S8192x1, .f32⟩
  | 124 => ⟨S8192x1, .f32⟩
  | 125 => ⟨S_, .f32⟩
  | 126 => ⟨S8192, .f32⟩
  | 127 => ⟨S8192x1024, .f32⟩
  | _ => ⟨S8192x1024, .f32⟩

abbrev hbmTy0_1 (i : Nat) : BufTy := match i % 128 with
  | 0 => ⟨S8192x1024, .f32⟩
  | 1 => ⟨S8192x1024, .f32⟩
  | 2 => ⟨S8192x1024, .f32⟩
  | 3 => ⟨S8192x1024, .f32⟩
  | 4 => ⟨S1024x4096, .f32⟩
  | 5 => ⟨S4096x1024, .f32⟩
  | 6 => ⟨S8192x4096, .f32⟩
  | 7 => ⟨S8192x4096, .f32⟩
  | 8 => ⟨S_, .f32⟩
  | 9 => ⟨S8192x4096, .f32⟩
  | 10 => ⟨S8192x4096, .f32⟩
  | 11 => ⟨S4096x1024, .f32⟩
  | 12 => ⟨S1024x4096, .f32⟩
  | 13 => ⟨S8192x1024, .f32⟩
  | 14 => ⟨S8192x1024, .f32⟩
  | 15 => ⟨S_, .f32⟩
  | 16 => ⟨S1024, .f32⟩
  | 17 => ⟨S1x1024, .f32⟩
  | 18 => ⟨S8192x1024, .f32⟩
  | 19 => ⟨S8192x1024, .f32⟩
  | 20 => ⟨S_, .f32⟩
  | 21 => ⟨S1024, .f32⟩
  | 22 => ⟨S8192x1024, .f32⟩
  | 23 => ⟨S_, .f32⟩
  | 24 => ⟨S8192, .f32⟩
  | 25 => ⟨S8192x1, .f32⟩
  | 26 => ⟨S8192x1024, .f32⟩
  | 27 => ⟨S8192x1024, .f32⟩
  | 28 => ⟨S8192x1, .f32⟩
  | 29 => ⟨S_, .f32⟩
  | 30 => ⟨S8192x1, .f32⟩
  | 31 => ⟨S8192x1, .f32⟩
  | 32 => ⟨S_, .f32⟩
  | 33 => ⟨S8192, .f32⟩
  | 34 => ⟨S8192x1024, .f32⟩
  | 35 => ⟨S8192x1024, .f32⟩
  | 36 => ⟨S8192x1024, .f32⟩
  | 37 => ⟨S8192x1024, .f32⟩
  | 38 => ⟨S8192x1024, .f32⟩
  | 39 => ⟨S8192x1024, .f32⟩
  | 40 => ⟨S8192x1024, .f32⟩
  | 41 => ⟨S_, .f32⟩
  | 42 => ⟨S1024, .f32⟩
  | 43 => ⟨S1x1024, .f32⟩
  | 44 => ⟨S8192x1024, .f32⟩
  | 45 => ⟨S8192x1024, .f32⟩
  | 46 => ⟨S_, .f32⟩
  | 47 => ⟨S1024, .f32⟩
  | 48 => ⟨S8192x1024, .f32⟩
  | 49 => ⟨S_, .f32⟩
  | 50 => ⟨S8192, .f32⟩
  | 51 => ⟨S8192x1, .f32⟩
  | 52 => ⟨S8192x1024, .f32⟩
  | 53 => ⟨S8192x1024, .f32⟩
  | 54 => ⟨S8192x1, .f32⟩
  | 55 => ⟨S_, .f32⟩
  | 56 => ⟨S8192x1, .f32⟩
  | 57 => ⟨S8192x1, .f32⟩
  | 58 => ⟨S_, .f32⟩
  | 59 => ⟨S8192, .f32⟩
  | 60 => ⟨S8192x1024, .f32⟩
  | 61 => ⟨S8192x1024, .f32⟩
  | 62 => ⟨S8192x1024, .f32⟩
  | 63 => ⟨S8192x1024, .f32⟩
  | 64 => ⟨S8192x1024, .f32⟩
  | 65 => ⟨S8192x1024, .f32⟩
  | 66 => ⟨S_, .f32⟩
  | 67 => ⟨S8192, .f32⟩
  | 68 => ⟨S8192x1, .f32⟩
  | 69 => ⟨S_, .f32⟩
  | 70 => ⟨S8192x1, .f32⟩
  | 71 => ⟨S8192x1, .f32⟩
  | 72 => ⟨S_, .f32⟩
  | 73 => ⟨S8192x1, .f32⟩
  | 74 => ⟨S8192x1, .f32⟩
  | 75 => ⟨S8192x1, .f32⟩
  | 76 => ⟨S8192x1024, .f32⟩
  | 77 => ⟨S8192x1024, .f32⟩
  | 78 => ⟨S1x1024, .f32⟩
  | 79 => ⟨S8192x1024, .f32⟩
  | 80 => ⟨S8192x1024, .f32⟩
  | 81 => ⟨S8192x1024, .f32⟩
  | 82 => ⟨S_, .f32⟩
  | 83 => ⟨S1024, .f32⟩
  | 84 => ⟨S8192x1024, .f32⟩
  | 85 => ⟨S8192x1024, .f32⟩
  | 86 => ⟨S_, .f32⟩
  | 87 => ⟨S1024, .f32⟩
  | 88 => ⟨S1x1024, .f32⟩
  | 89 => ⟨S1x1024, .f32⟩
  | 90 => ⟨S1x1024, .f32⟩
  | 91 => ⟨S1x1024, .f32⟩
  | 92 => ⟨S1x1024, .f32⟩
  | 93 => ⟨S1x1024, .f32⟩
  | 94 => ⟨S1x1024, .f32⟩
  | 95 => ⟨S1x1024, .f32⟩
  | 96 => ⟨S8x1024, .f32⟩
  | 97 => ⟨S_, .f32⟩
  | 98 => ⟨S8192x4096, .f32⟩
  | 99 => ⟨S8192x4096, .f32⟩
  | 100 => ⟨S8192x4096, .f32⟩
  | 101 => ⟨S8192x4096, .bf16⟩
  | 102 => ⟨S8192x4096, .bf16⟩
  | 103 => ⟨S8192x1024, .bf16⟩
  | 104 => ⟨S8192x1024, .bf16⟩
  | 105 => ⟨S8192x1024, .bf16⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_cst_4 : Ref sig .tc := ⟨.hbm, 33, rfl⟩
abbrev main_v20 : Ref sig .tc := ⟨.hbm, 34, rfl⟩
abbrev main_v21 : Ref sig .tc := ⟨.hbm, 35, rfl⟩
abbrev main_cst_5 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_6 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_call0_cst : Ref sig .tc := ⟨.hbm, 50, rfl⟩
abbrev main_call0_v0 : Ref sig .tc := ⟨.hbm, 51, rfl⟩
abbrev main_v34 : Ref sig .tc := ⟨.hbm, 52, rfl⟩
abbrev main_cst_7 : Ref sig .tc := ⟨.hbm, 53, rfl⟩
abbrev main_v35 : Ref sig .tc := ⟨.hbm, 54, rfl⟩
abbrev main_v36 : Ref sig .tc := ⟨.hbm, 55, rfl⟩
abbrev main_cst_8 : Ref sig .tc := ⟨.hbm, 56, rfl⟩
abbrev main_v37 : Ref sig .tc := ⟨.hbm, 57, rfl⟩
abbrev main_v38 : Ref sig .tc := ⟨.hbm, 58, rfl⟩
abbrev main_cst_9 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_10 : Ref sig .tc := ⟨.hbm, 64, rfl⟩
abbrev main_v43 : Ref sig .tc := ⟨.hbm, 65, rfl⟩
abbrev main_v44 : Ref sig .tc := ⟨.hbm, 66, rfl⟩
abbrev main_cst_11 : Ref sig .tc := ⟨.hbm, 67, rfl⟩
abbrev main_v45 : Ref sig .tc := ⟨.hbm, 68, rfl⟩
abbrev main_v46 : Ref sig .tc := ⟨.hbm, 69, rfl⟩
abbrev main_cst_12 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_cst_13 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_cst_14 : Ref sig .tc := ⟨.hbm, 86, rfl⟩
abbrev main_v61 : Ref sig .tc := ⟨.hbm, 87, rfl⟩
abbrev main_v62 : Ref sig .tc := ⟨.hbm, 88, rfl⟩
abbrev main_cst_15 : Ref sig .tc := ⟨.hbm, 89, rfl⟩
abbrev main_v63 : Ref sig .tc := ⟨.hbm, 90, rfl⟩
abbrev main_cst_16 : Ref sig .tc := ⟨.hbm, 91, rfl⟩
abbrev main_v64 : Ref sig .tc := ⟨.hbm, 92, rfl⟩
abbrev main_v65 : Ref sig .tc := ⟨.hbm, 93, rfl⟩
abbrev main_cst_17 : Ref sig .tc := ⟨.hbm, 94, rfl⟩
abbrev main_v66 : Ref sig .tc := ⟨.hbm, 95, rfl⟩
abbrev main_cst_18 : Ref sig .tc := ⟨.hbm, 96, rfl⟩
abbrev main_v67 : Ref sig .tc := ⟨.hbm, 97, rfl⟩
abbrev main_cst_19 : Ref sig .tc := ⟨.hbm, 98, rfl⟩
abbrev main_cst_20 : Ref sig .tc := ⟨.hbm, 99, rfl⟩
abbrev main_v68 : Ref sig .tc := ⟨.hbm, 100, rfl⟩
abbrev main_v69 : Ref sig .tc := ⟨.hbm, 101, rfl⟩
abbrev main_cst_21 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_cst_22 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_cst_23 : Ref sig .tc := ⟨.hbm, 113, rfl⟩
abbrev main_v79 : Ref sig .tc := ⟨.hbm, 114, rfl⟩
abbrev main_v80 : Ref sig .tc := ⟨.hbm, 115, rfl⟩
abbrev main_cst_24 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_cst_25 : Ref sig .tc := ⟨.hbm, 122, rfl⟩
abbrev main_v86 : Ref sig .tc := ⟨.hbm, 123, rfl⟩
abbrev main_v87 : Ref sig .tc := ⟨.hbm, 124, rfl⟩
abbrev main_cst_26 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_cst_27 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_cst_28 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_cst_29 : Ref sig .tc := ⟨.hbm, 148, rfl⟩
abbrev main_v108 : Ref sig .tc := ⟨.hbm, 149, rfl⟩
abbrev main_v109 : Ref sig .tc := ⟨.hbm, 150, rfl⟩
abbrev main_cst_30 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_cst_31 : Ref sig .tc := ⟨.hbm, 157, rfl⟩
abbrev main_v115 : Ref sig .tc := ⟨.hbm, 158, rfl⟩
abbrev main_v116 : Ref sig .tc := ⟨.hbm, 159, rfl⟩
abbrev main_cst_32 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_cst_33 : Ref sig .tc := ⟨.hbm, 169, rfl⟩
abbrev main_v125 : Ref sig .tc := ⟨.hbm, 170, rfl⟩
abbrev main_v126 : Ref sig .tc := ⟨.hbm, 171, rfl⟩
abbrev main_v127 : Ref sig .tc := ⟨.hbm, 172, rfl⟩
abbrev main_v128 : Ref sig .tc := ⟨.hbm, 173, rfl⟩
abbrev main_cst_34 : Ref sig .tc := ⟨.hbm, 174, rfl⟩
abbrev main_v129 : Ref sig .tc := ⟨.hbm, 175, rfl⟩
abbrev main_v130 : Ref sig .tc := ⟨.hbm, 176, rfl⟩
abbrev main_cst_35 : Ref sig .tc := ⟨.hbm, 177, rfl⟩
abbrev main_v131 : Ref sig .tc := ⟨.hbm, 178, rfl⟩
abbrev main_v132 : Ref sig .tc := ⟨.hbm, 179, rfl⟩
abbrev main_v133 : Ref sig .tc := ⟨.hbm, 180, rfl⟩
abbrev main_v134 : Ref sig .tc := ⟨.hbm, 181, rfl⟩
abbrev main_v135 : Ref sig .tc := ⟨.hbm, 182, rfl⟩
abbrev main_cst_36 : Ref sig .tc := ⟨.hbm, 183, rfl⟩
abbrev main_v136 : Ref sig .tc := ⟨.hbm, 184, rfl⟩
abbrev main_v137 : Ref sig .tc := ⟨.hbm, 185, rfl⟩
abbrev main_cst_37 : Ref sig .tc := ⟨.hbm, 186, rfl⟩
abbrev main_v138 : Ref sig .tc := ⟨.hbm, 187, rfl⟩
abbrev main_v139 : Ref sig .tc := ⟨.hbm, 188, rfl⟩
abbrev main_v140 : Ref sig .tc := ⟨.hbm, 189, rfl⟩
abbrev main_v141 : Ref sig .tc := ⟨.hbm, 190, rfl⟩
abbrev main_v142 : Ref sig .tc := ⟨.hbm, 191, rfl⟩
abbrev main_v143 : Ref sig .tc := ⟨.hbm, 192, rfl⟩
abbrev main_v144 : Ref sig .tc := ⟨.hbm, 193, rfl⟩
abbrev main_cst_38 : Ref sig .tc := ⟨.hbm, 194, rfl⟩
abbrev main_v145 : Ref sig .tc := ⟨.hbm, 195, rfl⟩
abbrev main_v146 : Ref sig .tc := ⟨.hbm, 196, rfl⟩
abbrev main_cst_39 : Ref sig .tc := ⟨.hbm, 197, rfl⟩
abbrev main_v147 : Ref sig .tc := ⟨.hbm, 198, rfl⟩
abbrev main_v148 : Ref sig .tc := ⟨.hbm, 199, rfl⟩
abbrev main_cst_40 : Ref sig .tc := ⟨.hbm, 200, rfl⟩
abbrev main_v149 : Ref sig .tc := ⟨.hbm, 201, rfl⟩
abbrev main_v150 : Ref sig .tc := ⟨.hbm, 202, rfl⟩
abbrev main_v151 : Ref sig .tc := ⟨.hbm, 203, rfl⟩
abbrev main_v152 : Ref sig .tc := ⟨.hbm, 204, rfl⟩
abbrev main_v153 : Ref sig .tc := ⟨.hbm, 205, rfl⟩
abbrev main_v154 : Ref sig .tc := ⟨.hbm, 206, rfl⟩
abbrev main_v155 : Ref sig .tc := ⟨.hbm, 207, rfl⟩
abbrev main_v156 : Ref sig .tc := ⟨.hbm, 208, rfl⟩
abbrev main_v157 : Ref sig .tc := ⟨.hbm, 209, rfl⟩
abbrev main_cst_41 : Ref sig .tc := ⟨.hbm, 210, rfl⟩
abbrev main_v158 : Ref sig .tc := ⟨.hbm, 211, rfl⟩
abbrev main_v159 : Ref sig .tc := ⟨.hbm, 212, rfl⟩
abbrev main_v160 : Ref sig .tc := ⟨.hbm, 213, rfl⟩
abbrev main_cst_42 : Ref sig .tc := ⟨.hbm, 214, rfl⟩
abbrev main_v161 : Ref sig .tc := ⟨.hbm, 215, rfl⟩
abbrev main_v162 : Ref sig .tc := ⟨.hbm, 216, rfl⟩
abbrev main_v163 : Ref sig .tc := ⟨.hbm, 217, rfl⟩
abbrev main_v164 : Ref sig .tc := ⟨.hbm, 218, rfl⟩
abbrev main_v165 : Ref sig .tc := ⟨.hbm, 219, rfl⟩
abbrev main_v166 : Ref sig .tc := ⟨.hbm, 220, rfl⟩
abbrev main_v167 : Ref sig .tc := ⟨.hbm, 221, rfl⟩
abbrev main_v168 : Ref sig .tc := ⟨.hbm, 222, rfl⟩
abbrev main_v169 : Ref sig .tc := ⟨.hbm, 223, rfl⟩
abbrev main_v170 : Ref sig .tc := ⟨.hbm, 224, rfl⟩
abbrev main_call1_cst : Ref sig .tc := ⟨.hbm, 225, rfl⟩
abbrev main_call1_v0 : Ref sig .tc := ⟨.hbm, 226, rfl⟩
abbrev main_v171 : Ref sig .tc := ⟨.hbm, 227, rfl⟩
abbrev main_v172 : Ref sig .tc := ⟨.hbm, 228, rfl⟩
abbrev main_v173 : Ref sig .tc := ⟨.hbm, 229, rfl⟩
abbrev main_v174 : Ref sig .tc := ⟨.hbm, 230, rfl⟩
abbrev main_v175 : Ref sig .tc := ⟨.hbm, 231, rfl⟩
abbrev main_v176 : Ref sig .tc := ⟨.hbm, 232, rfl⟩
abbrev main_v177 : Ref sig .tc := ⟨.hbm, 233, rfl⟩

abbrev nD : Nat := 1
abbrev τ : Topo := Topo.v7x

variable {F : FTy → Type} [FloatOps F]
-- ==== BwdMix.lean ====
abbrev S8192x1024 : Shape := ⟨2, ![8192, 1024]⟩
abbrev S1024 : Shape := ⟨1, ![1024]⟩
abbrev S1024x1024 : Shape := ⟨2, ![1024, 1024]⟩
abbrev S_ : Shape := ⟨0, ![]⟩
abbrev S8192x4096 : Shape := ⟨2, ![8192, 4096]⟩
abbrev S8192x7168 : Shape := ⟨2, ![8192, 7168]⟩
abbrev S8x128x1024 : Shape := ⟨3, ![8, 128, 1024]⟩
abbrev S8x384x1024 : Shape := ⟨3, ![8, 384, 1024]⟩
abbrev S8192 : Shape := ⟨1, ![8192]⟩
abbrev S8192x1 : Shape := ⟨2, ![8192, 1]⟩
abbrev S1x1024 : Shape := ⟨2, ![1, 1024]⟩
abbrev S8192x3072 : Shape := ⟨2, ![8192, 3072]⟩
abbrev S8x1024 : Shape := ⟨2, ![8, 1024]⟩
abbrev S512x1024 : Shape := ⟨2, ![512, 1024]⟩
abbrev S512x3072 : Shape := ⟨2, ![512, 3072]⟩
abbrev S24 : Shape := ⟨1, ![24]⟩
abbrev S1 : Shape := ⟨1, ![1]⟩
abbrev S128x1024 : Shape := ⟨2, ![128, 1024]⟩
abbrev S1x128x1024 : Shape := ⟨3, ![1, 128, 1024]⟩
abbrev S512 : Shape := ⟨1, ![512]⟩
abbrev S512x1 : Shape := ⟨2, ![512, 1]⟩

abbrev nBuf : Space → Nat
  | .hbm => 74
  | .vmem => 32
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S1024, .f32⟩
  | .hbm, ⟨6, _⟩ => ⟨S1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S8192x1024, .f32⟩
  | .hbm, ⟨11, _⟩ => ⟨S_, .f32⟩
  | .hbm, ⟨12, _⟩ => ⟨S8192x4096, .f32⟩
  | .hbm, ⟨13, _⟩ => ⟨S8192x7168, .f32⟩
  | .hbm, ⟨14, _⟩ => ⟨S8192x7168, .bf16⟩
  | .hbm, ⟨15, _⟩ => ⟨S1024x1024, .bf16⟩
  | .hbm, ⟨16, _⟩ => ⟨S8x128x1024, .bf16⟩
  | .hbm, ⟨17, _⟩ => ⟨S1024x1024, .bf16⟩
  | .hbm, ⟨18, _⟩ => ⟨S8x128x1024, .bf16⟩
  | .hbm, ⟨19, _⟩ => ⟨S1024x1024, .bf16⟩
  | .hbm, ⟨20, _⟩ => ⟨S8x128x1024, .bf16⟩
  | .hbm, ⟨21, _⟩ => ⟨S8x384x1024, .bf16⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S8192, .f32⟩
  | .hbm, ⟨26, _⟩ => ⟨S8192x1, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S8192, .f32⟩
  | .hbm, ⟨35, _⟩ => ⟨S8192x1, .f32⟩
  | .hbm, ⟨36, _⟩ => ⟨S_, .f32⟩
  | .hbm, ⟨37, _⟩ => ⟨S8192x1, .f32⟩
  | .hbm, ⟨38, _⟩ => ⟨S8192x1, .f32⟩
  | .hbm, ⟨39, _⟩ => ⟨S8192x1024, .f32⟩
  | .hbm, ⟨40, _⟩ => ⟨S8192x1024, .f32⟩
  | .hbm, ⟨41, _⟩ => ⟨S_, .f32⟩
  | .hbm, ⟨42, _⟩ => ⟨S8192x1, .f32⟩
  | .hbm, ⟨43, _⟩ => ⟨S8192x1, .f32⟩
  | .hbm, ⟨44, _⟩ => ⟨S8192x1, .f32⟩
  | .hbm, ⟨45, _⟩ => ⟨S8192x1024, .f32⟩
  | .hbm, ⟨46, _⟩ => ⟨S8192x1024, .f32⟩
  | .hbm, ⟨47, _⟩ => ⟨S1x1024, .f32⟩
  | .hbm, ⟨48, _⟩ => ⟨S8192x1024, .f32⟩
  | .hbm, ⟨49, _⟩ => ⟨S8192x1024, .f32⟩
  | .hbm, ⟨50, _⟩ => ⟨S1x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S_, .f32⟩
  | .hbm, ⟨56, _⟩ => ⟨S8192x1024, .f32⟩
  | .hbm, ⟨57, _⟩ => ⟨S8192x1024, .f32⟩
  | .hbm, ⟨58, _⟩ => ⟨S_, .f32⟩
  | .hbm, ⟨59, _⟩ => ⟨S8192x1024, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S8192x1024, .bf16⟩
  | .hbm, ⟨64, _⟩ => ⟨S8192x1024, .bf16⟩
  | .hbm, ⟨65, _⟩ => ⟨S8192x1024, .bf16⟩
  | .hbm, ⟨66, _⟩ => ⟨S1x1024, .f32⟩
  | .hbm, ⟨67, _⟩ => ⟨S1x1024, .f32⟩
  | .hbm, ⟨68, _⟩ => ⟨S8192x3072, .bf16⟩
  | .hbm, ⟨69, _⟩ => ⟨S8192x1024, .bf16⟩
  | .hbm, ⟨70, _⟩ => ⟨S8192x1024, .bf16⟩
  | .hbm, ⟨71, _⟩ => ⟨S8192x1024, .f32⟩
  | .hbm, ⟨72, _⟩ => ⟨S8192x1024, .f32⟩
  | .hbm, ⟨73, _⟩ => ⟨S8x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S1x1024, .f32⟩
  | .local _ .vmem, ⟨17, _⟩ => ⟨S1x1024, .f32⟩
  | .local _ .vmem, ⟨18, _⟩ => ⟨S512x3072, .bf16⟩
  | .local _ .vmem, ⟨19, _⟩ => ⟨S512x3072, .bf16⟩
  | .local _ .vmem, ⟨20, _⟩ => ⟨S512x1024, .bf16⟩
  | .local _ .vmem, ⟨21, _⟩ => ⟨S512x1024, .bf16⟩
  | .local _ .vmem, ⟨22, _⟩ => ⟨S512x1024, .bf16⟩
  | .local _ .vmem, ⟨23, _⟩ => ⟨S512x1024, .bf16⟩
  | .local _ .vmem, ⟨24, _⟩ => ⟨S512x1024, .f32⟩
  | .local _ .vmem, ⟨25, _⟩ => ⟨S512x1024, .f32⟩
  | .local _ .vmem, ⟨26, _⟩ => ⟨S512x1024, .f32⟩
  | .local _ .vmem, ⟨27, _⟩ => ⟨S512x1024, .f32⟩
  | .local _ .vmem, ⟨28, _⟩ => ⟨S8x1024, .f32⟩
  | .local _ .vmem, ⟨29, _⟩ => ⟨S1024x1024, .bf16⟩
  | .local _ .vmem, ⟨30, _⟩ => ⟨S1024x1024, .bf16⟩
  | .local _ .vmem, ⟨31, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 53 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | _ => false

abbrev sig : RefSig :=
  ofTc nBuf bufTy 0 53 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_0 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_2 : Ref sig .tc := ⟨.hbm, 33, rfl⟩
abbrev main_v19 : Ref sig .tc := ⟨.hbm, 34, rfl⟩
abbrev main_v20 : Ref sig .tc := ⟨.hbm, 35, rfl⟩
abbrev main_cst_3 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_4 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_call0_v0 : Ref sig .tc := ⟨.hbm, 53, rfl⟩
abbrev main_call0_v1 : Ref sig .tc := ⟨.hbm, 54, rfl⟩
abbrev main_call0_cst : Ref sig .tc := ⟨.hbm, 55, rfl⟩
abbrev main_call0_v2 : Ref sig .tc := ⟨.hbm, 56, rfl⟩
abbrev main_call0_v3 : Ref sig .tc := ⟨.hbm, 57, rfl⟩
abbrev main_call0_cst_0 : Ref sig .tc := ⟨.hbm, 58, rfl⟩
abbrev main_call0_v4 : Ref sig .tc := ⟨.hbm, 59, rfl⟩
abbrev main_call0_v5 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43_0 : Ref sig .tc := ⟨.hbm, 68, rfl⟩
abbrev main_v43_1 : Ref sig .tc := ⟨.hbm, 69, rfl⟩
abbrev main_v43_2 : Ref sig .tc := ⟨.hbm, 70, rfl⟩
abbrev main_v43_3 : Ref sig .tc := ⟨.hbm, 71, rfl⟩
abbrev main_v43_4 : Ref sig .tc := ⟨.hbm, 72, rfl⟩
abbrev main_v43_5 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_scratch0 : Ref sig .tc := ⟨.vmem, 29, rfl⟩
abbrev cc0_scratch1 : Ref sig .tc := ⟨.vmem, 30, rfl⟩
abbrev cc0_scratch2 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_5 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x3072 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S8x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== RefMixIdeal.lean ====
abbrev S8192x1024 : Shape := ⟨2, ![8192, 1024]⟩
abbrev S1024 : Shape := ⟨1, ![1024]⟩
abbrev S1024x1024 : Shape := ⟨2, ![1024, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8x1024 : Shape := ⟨2, ![8, 1024]⟩
abbrev S8192x3072 : Shape := ⟨2, ![8192, 3072]⟩

abbrev nBuf : Space → Nat
  | .hbm => 222
  | .vmem => 0
  | .smem => 0
  | _ => 0

abbrev hbmTy0_0 (i : Nat) : BufTy := match i % 128 with
  | 0 => ⟨S8192x1024, .f32⟩
  | 1 => ⟨S8192x1024, .f32⟩
  | 2 => ⟨S8192x1024, .f32⟩
  | 3 => ⟨S8192x1024, .f32⟩
  | 4 => ⟨S8192x1024, .f32⟩
  | 5 => ⟨S1024, .f32⟩
  | 6 => ⟨S1024, .f32⟩
  | 7 => ⟨S1024x1024, .f32⟩
  | 8 => ⟨S1024x1024, .f32⟩
  | 9 => ⟨S1024x1024, .f32⟩
  | 10 => ⟨S8192x1024, .f32⟩
  | 11 => ⟨S8192x1024, .f32⟩
  | 12 => ⟨S8192x1024, .f32⟩
  | 13 => ⟨S_, .f32⟩
  | 14 => ⟨S8192, .f32⟩
  | 15 => ⟨S8192x1, .f32⟩
  | 16 => ⟨S_, .f32⟩
  | 17 => ⟨S8192x1, .f32⟩
  | 18 => ⟨S8192x1, .f32⟩
  | 19 => ⟨S8192x1024, .f32⟩
  | 20 => ⟨S8192x1024, .f32⟩
  | 21 => ⟨S8192x1024, .f32⟩
  | 22 => ⟨S_, .f32⟩
  | 23 => ⟨S8192, .f32⟩
  | 24 => ⟨S8192x1, .f32⟩
  | 25 => ⟨S_, .f32⟩
  | 26 => ⟨S8192x1, .f32⟩
  | 27 => ⟨S8192x1, .f32⟩
  | 28 => ⟨S8192x1024, .f32⟩
  | 29 => ⟨S8192x1024, .f32⟩
  | 30 => ⟨S_, .f32⟩
  | 31 => ⟨S8192x1, .f32⟩
  | 32 => ⟨S8192x1, .f32⟩
  | 33 => ⟨S8192x1, .f32⟩
  | 34 => ⟨S8192x1024, .f32⟩
  | 35 => ⟨S8192x1024, .f32⟩
  | 36 => ⟨S1x1024, .f32⟩
  | 37 => ⟨S8192x1024, .f32⟩
  | 38 => ⟨S8192x1024, .f32⟩
  | 39 => ⟨S1x1024, .f32⟩
  | 40 => ⟨S8192x1024, .f32⟩
  | 41 => ⟨S8192x1024, .f32⟩
  | 42 => ⟨S8192x1024, .f32⟩
  | 43 => ⟨S8192x1024, .f32⟩
  | 44 => ⟨S_, .f32⟩
  | 45 => ⟨S8192x1024, .f32⟩
  | 46 => ⟨S8192x1024, .f32⟩
  | 47 => ⟨S_, .f32⟩
  | 48 => ⟨S8192x1024, .f32⟩
  | 49 => ⟨S8192x1024, .f32⟩
  | 50 => ⟨S8192x1024, .f32⟩
  | 51 => ⟨S8192x1024, .f32⟩
  | 52 => ⟨S8192x1024, .f32⟩
  | 53 => ⟨S8192x1024, .f32⟩
  | 54 => ⟨S_, .f32⟩
  | 55 => ⟨S8192x1024, .f32⟩
  | 56 => ⟨S8192x1024, .f32⟩
  | 57 => ⟨S_, .f32⟩
  | 58 => ⟨S8192x1024, .f32⟩
  | 59 => ⟨S8192x1024, .f32⟩
  | 60 => ⟨S_, .f32⟩
  | 61 => ⟨S8192x1024, .f32⟩
  | 62 => ⟨S8192x1024, .f32⟩
  | 63 => ⟨S8192x1024, .f32⟩
  | 64 => ⟨S8192x1024, .f32⟩
  | 65 => ⟨S8192x1024, .f32⟩
  | 66 => ⟨S8192x1024, .f32⟩
  | 67 => ⟨S_, .f32⟩
  | 68 => ⟨S8192x1024, .f32⟩
  | 69 => ⟨S8192x1024, .f32⟩
  | 70 => ⟨S_, .f32⟩
  | 71 => ⟨S8192x1024, .f32⟩
  | 72 => ⟨S8192x1024, .f32⟩
  | 73 => ⟨S_, .f32⟩
  | 74 => ⟨S8192x1024, .f32⟩
  | 75 => ⟨S8192x1024, .f32⟩
  | 76 => ⟨S8192x1024, .f32⟩
  | 77 => ⟨S8192x1024, .f32⟩
  | 78 => ⟨S8192x1024, .f32⟩
  | 79 => ⟨S8192x1024, .f32⟩
  | 80 => ⟨S1024x1024, .f32⟩
  | 81 => ⟨S1024x1024, .f32⟩
  | 82 => ⟨S8192x1024, .f32⟩
  | 83 => ⟨S8192x1024, .f32⟩
  | 84 => ⟨S8192x1024, .f32⟩
  | 85 => ⟨S8192x1024, .f32⟩
  | 86 => ⟨S8192x1024, .f32⟩
  | 87 => ⟨S8192x1024, .f32⟩
  | 88 => ⟨S8192x1024, .f32⟩
  | 89 => ⟨S8192x1024, .f32⟩
  | 90 => ⟨S8192x1024, .f32⟩
  | 91 => ⟨S_, .f32⟩
  | 92 => ⟨S8192, .f32⟩
  | 93 => ⟨S8192x1, .f32⟩
  | 94 => ⟨S_, .f32⟩
  | 95 => ⟨S8192x1, .f32⟩
  | 96 => ⟨S8192x1, .f32⟩
  | 97 => ⟨S8192x1024, .f32⟩
  | 98 => ⟨S8192x1024, .f32⟩
  | 99 => ⟨S8192x1024, .f32⟩
  | 100 => ⟨S_, .f32⟩
  | 101 => ⟨S8192x1024, .f32⟩
  | 102 => ⟨S8192x1024, .f32⟩
  | 103 => ⟨S_, .f32⟩
  | 104 => ⟨S8192, .f32⟩
  | 105 => ⟨S8192x1, .f32⟩
  | 106 => ⟨S_, .f32⟩
  | 107 => ⟨S8192x1, .f32⟩
  | 108 => ⟨S8192x1, .f32⟩
  | 109 => ⟨S8192x1024, .f32⟩
  | 110 => ⟨S8192x1024, .f32⟩
  | 111 => ⟨S_, .f32⟩
  | 112 => ⟨S8192x1, .f32⟩
  | 113 => ⟨S8192x1, .f32⟩
  | 114 => ⟨S8192x1, .f32⟩
  | 115 => ⟨S8192x1, .f32⟩
  | 116 => ⟨S_, .f32⟩
  | 117 => ⟨S8192x1, .f32⟩
  | 118 => ⟨S8192x1, .f32⟩
  | 119 => ⟨S8192x1024, .f32⟩
  | 120 => ⟨S8192x1024, .f32⟩
  | 121 => ⟨S1x1024, .f32⟩
  | 122 => ⟨S8192x1024, .f32⟩
  | 123 => ⟨S8192x1024, .f32⟩
  | 124 => ⟨S1x1024, .f32⟩
  | 125 => ⟨S8192x1024, .f32⟩
  | 126 => ⟨S8192x1024, .f32⟩
  | 127 => ⟨S8192x1024, .f32⟩
  | _ => ⟨S8192x1024, .f32⟩

abbrev hbmTy0_1 (i : Nat) : BufTy := match i % 128 with
  | 0 => ⟨S8192x1024, .f32⟩
  | 1 => ⟨S_, .f32⟩
  | 2 => ⟨S8192x1024, .f32⟩
  | 3 => ⟨S8192x1024, .f32⟩
  | 4 => ⟨S_, .f32⟩
  | 5 => ⟨S8192x1024, .f32⟩
  | 6 => ⟨S8192x1024, .f32⟩
  | 7 => ⟨S_, .f32⟩
  | 8 => ⟨S8192x1024, .f32⟩
  | 9 => ⟨S8192x1024, .f32⟩
  | 10 => ⟨S8192x1024, .f32⟩
  | 11 => ⟨S8192x1024, .f32⟩
  | 12 => ⟨S8192x1024, .f32⟩
  | 13 => ⟨S1024x1024, .f32⟩
  | 14 => ⟨S1024x1024, .f32⟩
  | 15 => ⟨S8192x1024, .f32⟩
  | 16 => ⟨S8192x1024, .f32⟩
  | 17 => ⟨S8192x1024, .f32⟩
  | 18 => ⟨S8192x1024, .f32⟩
  | 19 => ⟨S8192x1024, .f32⟩
  | 20 => ⟨S_, .f32⟩
  | 21 => ⟨S1024, .f32⟩
  | 22 => ⟨S1x1024, .f32⟩
  | 23 => ⟨S_, .f32⟩
  | 24 => ⟨S1024, .f32⟩
  | 25 => ⟨S8192x1024, .f32⟩
  | 26 => ⟨S_, .f32⟩
  | 27 => ⟨S1024, .f32⟩
  | 28 => ⟨S1x1024, .f32⟩
  | 29 => ⟨S8192x1024, .f32⟩
  | 30 => ⟨S8192x1024, .f32⟩
  | 31 => ⟨S_, .f32⟩
  | 32 => ⟨S1024, .f32⟩
  | 33 => ⟨S8192x1024, .f32⟩
  | 34 => ⟨S_, .f32⟩
  | 35 => ⟨S8192, .f32⟩
  | 36 => ⟨S8192x1, .f32⟩
  | 37 => ⟨S8192x1024, .f32⟩
  | 38 => ⟨S8192x1024, .f32⟩
  | 39 => ⟨S8192x1, .f32⟩
  | 40 => ⟨S8192x1024, .f32⟩
  | 41 => ⟨S_, .f32⟩
  | 42 => ⟨S8192, .f32⟩
  | 43 => ⟨S8192x1, .f32⟩
  | 44 => ⟨S_, .f32⟩
  | 45 => ⟨S8192x1, .f32⟩
  | 46 => ⟨S8192x1, .f32⟩
  | 47 => ⟨S_, .f32⟩
  | 48 => ⟨S8192, .f32⟩
  | 49 => ⟨S8192x1024, .f32⟩
  | 50 => ⟨S8192x1024, .f32⟩
  | 51 => ⟨S8192x1024, .f32⟩
  | 52 => ⟨S_, .f32⟩
  | 53 => ⟨S8192, .f32⟩
  | 54 => ⟨S8192x1, .f32⟩
  | 55 => ⟨S8192x1024, .f32⟩
  | 56 => ⟨S8192x1, .f32⟩
  | 57 => ⟨S_, .f32⟩
  | 58 => ⟨S8192x1, .f32⟩
  | 59 => ⟨S8192x1, .f32⟩
  | 60 => ⟨S_, .f32⟩
  | 61 => ⟨S8192, .f32⟩
  | 62 => ⟨S8192x1024, .f32⟩
  | 63 => ⟨S8192x1024, .f32⟩
  | 64 => ⟨S1024x1024, .f32⟩
  | 65 => ⟨S1024x1024, .f32⟩
  | 66 => ⟨S8192x1024, .f32⟩
  | 67 => ⟨S8192x1024, .f32⟩
  | 68 => ⟨S8192x1024, .f32⟩
  | 69 => ⟨S_, .f32⟩
  | 70 => ⟨S1024, .f32⟩
  | 71 => ⟨S_, .f32⟩
  | 72 => ⟨S1024, .f32⟩
  | 73 => ⟨S_, .f32⟩
  | 74 => ⟨S1024, .f32⟩
  | 75 => ⟨S_, .f32⟩
  | 76 => ⟨S1024, .f32⟩
  | 77 => ⟨S_, .f32⟩
  | 78 => ⟨S1024, .f32⟩
  | 79 => ⟨S_, .f32⟩
  | 80 => ⟨S1024, .f32⟩
  | 81 => ⟨S1x1024, .f32⟩
  | 82 => ⟨S1x1024, .f32⟩
  | 83 => ⟨S1x1024, .f32⟩
  | 84 => ⟨S1x1024, .f32⟩
  | 85 => ⟨S1x1024, .f32⟩
  | 86 => ⟨S1x1024, .f32⟩
  | 87 => ⟨S1x1024, .f32⟩
  | 88 => ⟨S1x1024, .f32⟩
  | 89 => ⟨S8x1024, .f32⟩
  | 90 => ⟨S8192x3072, .f32⟩
  | 91 => ⟨S8192x3072, .bf16⟩
  | 92 => ⟨S8192x1024, .bf16⟩
  | 93 => ⟨S8192x1024, .bf16⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_cst_0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst_1 : Ref sig .tc := ⟨.hbm, 22, rfl⟩
abbrev main_v9 : Ref sig .tc := ⟨.hbm, 23, rfl⟩
abbrev main_v10 : Ref sig .tc := ⟨.hbm, 24, rfl⟩
abbrev main_cst_2 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_3 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_call0_v0 : Ref sig .tc := ⟨.hbm, 42, rfl⟩
abbrev main_call0_v1 : Ref sig .tc := ⟨.hbm, 43, rfl⟩
abbrev main_call0_cst : Ref sig .tc := ⟨.hbm, 44, rfl⟩
abbrev main_call0_v2 : Ref sig .tc := ⟨.hbm, 45, rfl⟩
abbrev main_call0_v3 : Ref sig .tc := ⟨.hbm, 46, rfl⟩
abbrev main_call0_cst_0 : Ref sig .tc := ⟨.hbm, 47, rfl⟩
abbrev main_call0_v4 : Ref sig .tc := ⟨.hbm, 48, rfl⟩
abbrev main_call0_v5 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_cst_4 : Ref sig .tc := ⟨.hbm, 54, rfl⟩
abbrev main_v30 : Ref sig .tc := ⟨.hbm, 55, rfl⟩
abbrev main_v31 : Ref sig .tc := ⟨.hbm, 56, rfl⟩
abbrev main_cst_5 : Ref sig .tc := ⟨.hbm, 57, rfl⟩
abbrev main_v32 : Ref sig .tc := ⟨.hbm, 58, rfl⟩
abbrev main_v33 : Ref sig .tc := ⟨.hbm, 59, rfl⟩
abbrev main_cst_6 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_7 : Ref sig .tc := ⟨.hbm, 67, rfl⟩
abbrev main_v40 : Ref sig .tc := ⟨.hbm, 68, rfl⟩
abbrev main_v41 : Ref sig .tc := ⟨.hbm, 69, rfl⟩
abbrev main_cst_8 : Ref sig .tc := ⟨.hbm, 70, rfl⟩
abbrev main_v42 : Ref sig .tc := ⟨.hbm, 71, rfl⟩
abbrev main_v43 : Ref sig .tc := ⟨.hbm, 72, rfl⟩
abbrev main_cst_9 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_cst_10 : Ref sig .tc := ⟨.hbm, 91, rfl⟩
abbrev main_v61 : Ref sig .tc := ⟨.hbm, 92, rfl⟩
abbrev main_v62 : Ref sig .tc := ⟨.hbm, 93, rfl⟩
abbrev main_cst_11 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_cst_12 : Ref sig .tc := ⟨.hbm, 100, rfl⟩
abbrev main_v68 : Ref sig .tc := ⟨.hbm, 101, rfl⟩
abbrev main_v69 : Ref sig .tc := ⟨.hbm, 102, rfl⟩
abbrev main_cst_13 : Ref sig .tc := ⟨.hbm, 103, rfl⟩
abbrev main_v70 : Ref sig .tc := ⟨.hbm, 104, rfl⟩
abbrev main_v71 : Ref sig .tc := ⟨.hbm, 105, rfl⟩
abbrev main_cst_14 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_cst_15 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_cst_16 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_call1_v0 : Ref sig .tc := ⟨.hbm, 127, rfl⟩
abbrev main_call1_v1 : Ref sig .tc := ⟨.hbm, 128, rfl⟩
abbrev main_call1_cst : Ref sig .tc := ⟨.hbm, 129, rfl⟩
abbrev main_call1_v2 : Ref sig .tc := ⟨.hbm, 130, rfl⟩
abbrev main_call1_v3 : Ref sig .tc := ⟨.hbm, 131, rfl⟩
abbrev main_call1_cst_0 : Ref sig .tc := ⟨.hbm, 132, rfl⟩
abbrev main_call1_v4 : Ref sig .tc := ⟨.hbm, 133, rfl⟩
abbrev main_v90_2 : Ref sig .tc := ⟨.hbm, 134, rfl⟩
abbrev main_call1_cst_1 : Ref sig .tc := ⟨.hbm, 135, rfl⟩
abbrev main_call1_v6 : Ref sig .tc := ⟨.hbm, 136, rfl⟩
abbrev main_call1_v7 : Ref sig .tc := ⟨.hbm, 137, rfl⟩
abbrev main_v90_1 : Ref sig .tc := ⟨.hbm, 138, rfl⟩
abbrev main_v90_0 : Ref sig .tc := ⟨.hbm, 139, rfl⟩
abbrev main_v91 : Ref sig .tc := ⟨.hbm, 140, rfl⟩
abbrev main_v92 : Ref sig .tc := ⟨.hbm, 141, rfl⟩
abbrev main_v93 : Ref sig .tc := ⟨.hbm, 142, rfl⟩
abbrev main_v94 : Ref sig .tc := ⟨.hbm, 143, rfl⟩
abbrev main_call2_v0 : Ref sig .tc := ⟨.hbm, 144, rfl⟩
abbrev main_call2_v1 : Ref sig .tc := ⟨.hbm, 145, rfl⟩
abbrev main_call2_v2 : Ref sig .tc := ⟨.hbm, 146, rfl⟩
abbrev main_v95 : Ref sig .tc := ⟨.hbm, 147, rfl⟩
abbrev main_cst_17 : Ref sig .tc := ⟨.hbm, 148, rfl⟩
abbrev main_v96 : Ref sig .tc := ⟨.hbm, 149, rfl⟩
abbrev main_v97 : Ref sig .tc := ⟨.hbm, 150, rfl⟩
abbrev main_cst_18 : Ref sig .tc := ⟨.hbm, 151, rfl⟩
abbrev main_v98 : Ref sig .tc := ⟨.hbm, 152, rfl⟩
abbrev main_v99 : Ref sig .tc := ⟨.hbm, 153, rfl⟩
abbrev main_cst_19 : Ref sig .tc := ⟨.hbm, 154, rfl⟩
abbrev main_v100 : Ref sig .tc := ⟨.hbm, 155, rfl⟩
abbrev main_v101 : Ref sig .tc := ⟨.hbm, 156, rfl⟩
abbrev main_v102 : Ref sig .tc := ⟨.hbm, 157, rfl⟩
abbrev main_v103 : Ref sig .tc := ⟨.hbm, 158, rfl⟩
abbrev main_cst_20 : Ref sig .tc := ⟨.hbm, 159, rfl⟩
abbrev main_v104 : Ref sig .tc := ⟨.hbm, 160, rfl⟩
abbrev main_v105 : Ref sig .tc := ⟨.hbm, 161, rfl⟩
abbrev main_cst_21 : Ref sig .tc := ⟨.hbm, 162, rfl⟩
abbrev main_v106 : Ref sig .tc := ⟨.hbm, 163, rfl⟩
abbrev main_v107 : Ref sig .tc := ⟨.hbm, 164, rfl⟩
abbrev main_v108 : Ref sig .tc := ⟨.hbm, 165, rfl⟩
abbrev main_v109 : Ref sig .tc := ⟨.hbm, 166, rfl⟩
abbrev main_v110 : Ref sig .tc := ⟨.hbm, 167, rfl⟩
abbrev main_v111 : Ref sig .tc := ⟨.hbm, 168, rfl⟩
abbrev main_cst_22 : Ref sig .tc := ⟨.hbm, 169, rfl⟩
abbrev main_v112 : Ref sig .tc := ⟨.hbm, 170, rfl⟩
abbrev main_v113 : Ref sig .tc := ⟨.hbm, 171, rfl⟩
abbrev main_cst_23 : Ref sig .tc := ⟨.hbm, 172, rfl⟩
abbrev main_v114 : Ref sig .tc := ⟨.hbm, 173, rfl⟩
abbrev main_v115 : Ref sig .tc := ⟨.hbm, 174, rfl⟩
abbrev main_cst_24 : Ref sig .tc := ⟨.hbm, 175, rfl⟩
abbrev main_v116 : Ref sig .tc := ⟨.hbm, 176, rfl⟩
abbrev main_v117 : Ref sig .tc := ⟨.hbm, 177, rfl⟩
abbrev main_v118 : Ref sig .tc := ⟨.hbm, 178, rfl⟩
abbrev main_v119 : Ref sig .tc := ⟨.hbm, 179, rfl⟩
abbrev main_cst_25 : Ref sig .tc := ⟨.hbm, 180, rfl⟩
abbrev main_v120 : Ref sig .tc := ⟨.hbm, 181, rfl⟩
abbrev main_v121 : Ref sig .tc := ⟨.hbm, 182, rfl⟩
abbrev main_v122 : Ref sig .tc := ⟨.hbm, 183, rfl⟩
abbrev main_v123 : Ref sig .tc := ⟨.hbm, 184, rfl⟩
abbrev main_cst_26 : Ref sig .tc := ⟨.hbm, 185, rfl⟩
abbrev main_v124 : Ref sig .tc := ⟨.hbm, 186, rfl⟩
abbrev main_v125 : Ref sig .tc := ⟨.hbm, 187, rfl⟩
abbrev main_cst_27 : Ref sig .tc := ⟨.hbm, 188, rfl⟩
abbrev main_v126 : Ref sig .tc := ⟨.hbm, 189, rfl⟩
abbrev main_v127 : Ref sig .tc := ⟨.hbm, 190, rfl⟩
abbrev main_v128 : Ref sig .tc := ⟨.hbm, 191, rfl⟩
abbrev main_v129 : Ref sig .tc := ⟨.hbm, 192, rfl⟩
abbrev main_v130 : Ref sig .tc := ⟨.hbm, 193, rfl⟩
abbrev main_v131 : Ref sig .tc := ⟨.hbm, 194, rfl⟩
abbrev main_v132 : Ref sig .tc := ⟨.hbm, 195, rfl⟩
abbrev main_v133 : Ref sig .tc := ⟨.hbm, 196, rfl⟩
abbrev main_cst_28 : Ref sig .tc := ⟨.hbm, 197, rfl⟩
abbrev main_v134 : Ref sig .tc := ⟨.hbm, 198, rfl⟩
abbrev main_cst_29 : Ref sig .tc := ⟨.hbm, 199, rfl⟩
abbrev main_v135 : Ref sig .tc := ⟨.hbm, 200, rfl⟩
abbrev main_cst_30 : Ref sig .tc := ⟨.hbm, 201, rfl⟩
abbrev main_v136 : Ref sig .tc := ⟨.hbm, 202, rfl⟩
abbrev main_cst_31 : Ref sig .tc := ⟨.hbm, 203, rfl⟩
abbrev main_v137 : Ref sig .tc := ⟨.hbm, 204, rfl⟩
abbrev main_cst_32 : Ref sig .tc := ⟨.hbm, 205, rfl⟩
abbrev main_v138 : Ref sig .tc := ⟨.hbm, 206, rfl⟩
abbrev main_cst_33 : Ref sig .tc := ⟨.hbm, 207, rfl⟩
abbrev main_v139 : Ref sig .tc := ⟨.hbm, 208, rfl⟩
abbrev main_v140 : Ref sig .tc := ⟨.hbm, 209, rfl⟩
abbrev main_v141 : Ref sig .tc := ⟨.hbm, 210, rfl⟩
abbrev main_v142 : Ref sig .tc := ⟨.hbm, 211, rfl⟩
abbrev main_v143 : Ref sig .tc := ⟨.hbm, 212, rfl⟩
abbrev main_v144 : Ref sig .tc := ⟨.hbm, 213, rfl⟩
abbrev main_v145 : Ref sig .tc := ⟨.hbm, 214, rfl⟩
abbrev main_v146 : Ref sig .tc := ⟨.hbm, 215, rfl⟩
abbrev main_v147 : Ref sig .tc := ⟨.hbm, 216, rfl⟩
abbrev main_v148 : Ref sig .tc := ⟨.hbm, 217, rfl⟩
abbrev main_v149 : Ref sig .tc := ⟨.hbm, 218, rfl⟩
abbrev main_v150 : Ref sig .tc := ⟨.hbm, 219, rfl⟩
abbrev main_v151 : Ref sig .tc := ⟨.hbm, 220, rfl⟩
abbrev main_v152 : Ref sig .tc := ⟨.hbm, 221, rfl⟩

abbrev nD : Nat := 1
abbrev τ : Topo := Topo.v7x

variable {F : FTy → Type} [FloatOps F]
-- ==== FwdIn.lean ====
abbrev S8192x1024 : Shape := ⟨2, ![8192, 1024]⟩
abbrev S1024 : Shape := ⟨1, ![1024]⟩
abbrev S1024x7168 : Shape := ⟨2, ![1024, 7168]⟩
abbrev S7168 : Shape := ⟨1, ![7168]⟩
abbrev S7168x1024 : Shape := ⟨2, ![7168, 1024]⟩
abbrev S8x896x1024 : Shape := ⟨3, ![8, 896, 1024]⟩
abbrev S1x1024 : Shape := ⟨2, ![1, 1024]⟩
abbrev S1x7168 : Shape := ⟨2, ![1, 7168]⟩
abbrev S8192x7168 : Shape := ⟨2, ![8192, 7168]⟩
abbrev S512x1024 : Shape := ⟨2, ![512, 1024]⟩
abbrev S512x7168 : Shape := ⟨2, ![512, 7168]⟩
abbrev S8 : Shape := ⟨1, ![8]⟩
abbrev S1 : Shape := ⟨1, ![1]⟩
abbrev S_ : Shape := ⟨0, ![]⟩
abbrev S896x1024 : Shape := ⟨2, ![896, 1024]⟩
abbrev S1x896x1024 : Shape := ⟨3, ![1, 896, 1024]⟩
abbrev S512 : Shape := ⟨1, ![512]⟩
abbrev S512x1 : Shape := ⟨2, ![512, 1]⟩
abbrev S1024x1024 : Shape := ⟨2, ![1024, 1024]⟩

abbrev nBuf : Space → Nat
  | .hbm => 13
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x7168, .f32⟩
  | .hbm, ⟨3, _⟩ => ⟨S7168, .f32⟩
  | .hbm, ⟨4, _⟩ => ⟨S7168x1024, .f32⟩
  | .hbm, ⟨5, _⟩ => ⟨S7168x1024, .bf16⟩
  | .hbm, ⟨6, _⟩ => ⟨S8x896x1024, .bf16⟩
  | .hbm, ⟨7, _⟩ => ⟨S1x1024, .f32⟩
  | .hbm, ⟨8, _⟩ => ⟨S1x7168, .f32⟩
  | .hbm, ⟨9, _⟩ => ⟨S8192x7168, .bf16⟩
  | .hbm, ⟨10, _⟩ => ⟨S8192x1024, .f32⟩
  | .hbm, ⟨11, _⟩ => ⟨S8192x1024, .f32⟩
  | .hbm, ⟨12, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x7168, .f32⟩
  | .local _ .vmem, ⟨4, _⟩ => ⟨S512x7168, .bf16⟩
  | .local _ .vmem, ⟨5, _⟩ => ⟨S512x7168, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S7168x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v5_2 : Ref sig .tc := ⟨.hbm, 11, rfl⟩
abbrev main_v5_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x7168 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x7168 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== RefFwdIdeal.lean ====
abbrev S8192x1024 : Shape := ⟨2, ![8192, 1024]⟩
abbrev S1024 : Shape := ⟨1, ![1024]⟩
abbrev S1024x7168 : Shape := ⟨2, ![1024, 7168]⟩
abbrev S7168 : Shape := ⟨1, ![7168]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x7168 : Shape := ⟨2, ![8192, 7168]⟩
abbrev S1x7168 : Shape := ⟨2, ![1, 7168]⟩

abbrev nBuf : Space → Nat
  | .hbm => 40
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x7168, .f32⟩
  | .hbm, ⟨3, _⟩ => ⟨S7168, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S1x1024, .f32⟩
  | .hbm, ⟨18, _⟩ => ⟨S8192x1024, .f32⟩
  | .hbm, ⟨19, _⟩ => ⟨S8192x1024, .f32⟩
  | .hbm, ⟨20, _⟩ => ⟨S8192x7168, .f32⟩
  | .hbm, ⟨21, _⟩ => ⟨S1x7168, .f32⟩
  | .hbm, ⟨22, _⟩ => ⟨S8192x7168, .f32⟩
  | .hbm, ⟨23, _⟩ => ⟨S8192x7168, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x7168, .bf16⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_2 : Ref sig .tc := ⟨.hbm, 32, rfl⟩
abbrev main_v25 : Ref sig .tc := ⟨.hbm, 33, rfl⟩
abbrev main_v26 : Ref sig .tc := ⟨.hbm, 34, rfl⟩
abbrev main_cst_3 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩

abbrev nD : Nat := 1
abbrev τ : Topo := Topo.v7x

variable {F : FTy → Type} [FloatOps F]
-- ==== WGrad.lean ====
abbrev S8192x4096 : Shape := ⟨2, ![8192, 4096]⟩
abbrev S8192x1024 : Shape := ⟨2, ![8192, 1024]⟩
abbrev S4096x1024 : Shape := ⟨2, ![4096, 1024]⟩
abbrev S2048x1024 : Shape := ⟨2, ![2048, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x4096, .f32⟩
  | .hbm, ⟨1, _⟩ => ⟨S8192x1024, .f32⟩
  | .hbm, ⟨2, _⟩ => ⟨S8192x4096, .bf16⟩
  | .hbm, ⟨3, _⟩ => ⟨S8192x1024, .bf16⟩
  | .hbm, ⟨4, _⟩ => ⟨S4096x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== RefWgIdeal.lean ====
abbrev S8192x4096 : Shape := ⟨2, ![8192, 4096]⟩
abbrev S8192x1024 : Shape := ⟨2, ![8192, 1024]⟩
abbrev S4096x1024 : Shape := ⟨2, ![4096, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x1024, .f32⟩
  | .hbm, ⟨2, _⟩ => ⟨S4096x1024, .f32⟩
  | .hbm, ⟨3, _⟩ => ⟨S4096x1024, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== WGradIn.lean ====
abbrev S8192x3072 : Shape := ⟨2, ![8192, 3072]⟩
abbrev S8192x4096 : Shape := ⟨2, ![8192, 4096]⟩
abbrev S8192x1024 : Shape := ⟨2, ![8192, 1024]⟩
abbrev S7168x1024 : Shape := ⟨2, ![7168, 1024]⟩
abbrev S2048x1024 : Shape := ⟨2, ![2048, 1024]⟩
abbrev S1024x1024 : Shape := ⟨2, ![1024, 1024]⟩

abbrev nBuf : Space → Nat
  | .hbm => 7
  | .vmem => 9
  | .smem => 0
  | _ => 0

abbrev bufTy : (tb : Table) → Fin (tcTables nBuf tb) → BufTy
  | .hbm, ⟨0, _⟩ => ⟨S8192x3072, .f32⟩
  | .hbm, ⟨1, _⟩ => ⟨S8192x4096, .f32⟩
  | .hbm, ⟨2, _⟩ => ⟨S8192x1024, .f32⟩
  | .hbm, ⟨3, _⟩ => ⟨S8192x3072, .bf16⟩
  | .hbm, ⟨4, _⟩ => ⟨S8192x4096, .bf16⟩
  | .hbm, ⟨5, _⟩ => ⟨S8192x1024, .bf16⟩
  | .hbm, ⟨6, _⟩ => ⟨S7168x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S2048x1024, .bf16⟩
  | .local _ .vmem, ⟨5, _⟩ => ⟨S2048x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | _, _ => ⟨S8192x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![7, 4], ![false, false]⟩

def k0_cond4 (i : grid0.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_6 : BitVec 32 := 0#32
  let v16 : BitVec 1 := Scalar.cmpi .ne v15 c0_i32_6
  v16

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c5_i32 : BitVec 32 := 5#32
  let v1 : BitVec 1 := Scalar.cmpi .sge arg0 c5_i32
  let v2 : BitVec 1 := Scalar.ori v0 v1
  let c3_i32 : BitVec 32 := 3#32
  let v3 : BitVec 32 := Scalar.select v2 arg1 c3_i32
  let c5_i32_0 : BitVec 32 := 5#32
  let v4 : BitVec 1 := Scalar.cmpi .sge arg0 c5_i32_0
  let c4_i32 : BitVec 32 := 4#32
  let v5 : BitVec 32 := Scalar.subi arg0 c4_i32
  let c0_i32_1 : BitVec 32 := 0#32
  let v6 : BitVec 32 := Scalar.select v4 v5 c0_i32_1
  let c0_i32_2 : BitVec 32 := 0#32
  ![v3.toNat, v6.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c5_i32 : BitVec 32 := 5#32
  let v1 : BitVec 1 := Scalar.cmpi .sge arg0 c5_i32
  let v2 : BitVec 1 := Scalar.ori v0 v1
  let c0_i32_0 : BitVec 32 := 0#32
  let v3 : BitVec 1 := Scalar.cmpi .eq arg0 c0_i32_0
  let c0_i32_1 : BitVec 32 := 0#32
  let c3_i32 : BitVec 32 := 3#32
  let v4 : BitVec 32 := Scalar.select v3 c0_i32_1 c3_i32
  let v5 : BitVec 32 := Scalar.select v2 v4 arg1
  let c1_i32 : BitVec 32 := 1#32
  let v6 : BitVec 32 := Scalar.subi arg0 c1_i32
  let c0_i32_2 : BitVec 32 := 0#32
  let c3_i32_3 : BitVec 32 := 3#32
  let v7 : BitVec 32 := Scalar.maxsi c0_i32_2 v6
  let v8 : BitVec 32 := Scalar.minsi c3_i32_3 v7
  let c0_i32_4 : BitVec 32 := 0#32
  ![v5.toNat, v8.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== RefWiIdeal.lean ====
abbrev S8192x3072 : Shape := ⟨2, ![8192, 3072]⟩
abbrev S8192x4096 : Shape := ⟨2, ![8192, 4096]⟩
abbrev S8192x1024 : Shape := ⟨2, ![8192, 1024]⟩
abbrev S8192x2048 : Shape := ⟨2, ![8192, 2048]⟩
abbrev S8192x7168 : Shape := ⟨2, ![8192, 7168]⟩
abbrev S7168x1024 : Shape := ⟨2, ![7168, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x3072, .f32⟩
  | .hbm, ⟨1, _⟩ => ⟨S8192x4096, .f32⟩
  | .hbm, ⟨2, _⟩ => ⟨S8192x1024, .f32⟩
  | .hbm, ⟨3, _⟩ => ⟨S8192x1024, .f32⟩
  | .hbm, ⟨4, _⟩ => ⟨S8192x2048, .f32⟩
  | .hbm, ⟨5, _⟩ => ⟨S8192x7168, .f32⟩
  | .hbm, ⟨6, _⟩ => ⟨S7168x1024, .f32⟩
  | .hbm, ⟨7, _⟩ => ⟨S7168x1024, .bf16⟩
  | _, _ => ⟨S8192x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Proof.Common.lean ====
module

public import Idealize.ShloMosaic.Lib.VecWindow
public import Idealize.ShloMosaic.Lib.Tactic

@[expose] public section

/-! Loads after writes, on a memory of any program. -/

noncomputable section

namespace Cert.Common

open Idealize.ShloMosaic TcCoe

variable {sig : RefSig} {F : FTy → Type} [FloatOps F]

/-- A load after writes that leave `x` reads `x`'s window. -/
theorem readCov_window [∀ e, Nonempty (Elt F e)] {sp : Space} {s : Shape} {e : EltTy} (v : View sig .tc sp s e) (L) (x : s.Idx → Elt F e)
    (h : ∀ f, v.read (Elt F) (v.writes (Elt F) f L) = x) {off size : Fin s.rank → ℕ} (inb : ∀ a, off a + size a ≤ s.size a) :
    v.readCov L (Rect.unit off size inb).toLoadRect = VecWindow.window x off size inb := by
  funext j; exact congrFun (h _) _

/-- A load beside the newest write reads what was there before it. -/
theorem readCov_skip [∀ e, Nonempty (Elt F e)] {sp : Space} {s : Shape} {e : EltTy} (v : View sig .tc sp s e) {off size off' size' : Fin s.rank → ℕ}
    (inb : ∀ a, off a + size a ≤ s.size a) (inb' : ∀ a, off' a + size' a ≤ s.size a) (p) (L) (a : Fin s.rank) (ha : off' a + size' a ≤ off a ∨ off a + size a ≤ off' a) :
    v.readCov (Val := Elt F) (⟨Rect.unit off size inb, p⟩ :: L) (Rect.unit off' size' inb').toLoadRect = v.readCov L (Rect.unit off' size' inb').toLoadRect :=
  (funext fun j => congrFun (View.read_writes_cons_put v _ inb p L rfl) _ : v.readCov (Val := Elt F) (⟨Rect.unit off size inb, p⟩ :: L) (Rect.unit off' size' inb').toLoadRect
      = VecWindow.window (VecWindow.put (v.read (Elt F) (v.writes (Elt F) v.junk L)) off size p) off' size' inb').trans
    (VecWindow.window_put_of_disjoint _ off size off' size' inb' p a ha)

/-- A whole load after writes that leave `x` reads `x`. -/
theorem readCov_whole [∀ e, Nonempty (Elt F e)] {sp : Space} {n0 n1 : Nat} {e : EltTy} (v : View sig .tc sp ⟨2, ![n0, n1]⟩ e) (L) (x : (⟨2, ![n0, n1]⟩ : Shape).Idx → Elt F e)
    (h : ∀ f, v.read (Elt F) (v.writes (Elt F) f L) = x) (inb : ∀ a, (![0, 0] : Fin 2 → ℕ) a + (![n0, n1] : Fin 2 → ℕ) a ≤ (⟨2, ![n0, n1]⟩ : Shape).size a) :
    v.readCov L (Rect.unit (s := ⟨2, ![n0, n1]⟩) ![0, 0] ![n0, n1] inb).toLoadRect = x := by
  funext j
  refine (congrFun (h _) _).trans (congrArg x (funext fun a => Fin.ext ?_))
  match a with
  | 0 => show 0 + 1 * (j 0).val = (j 0).val; omega
  | 1 => show 0 + 1 * (j 1).val = (j 1).val; omega

end Cert.Common
-- ==== Proof.BwdIn.Base.lean ====
module

public import proofs.«01_k».proof.Proof.Gen.BwdInIdeal.Frame
public import proofs.«01_k».proof.Proof.Gen.BwdInIdeal.Skeleton
public import Idealize.ShloMosaic.Lib.Pipeline.FrameBody
public import Idealize.ShloMosaic.Lib.Ring
public import Idealize.ShloMosaic.Lib.Tactic
public import Idealize.ShloMosaic.Lib.Transfers
public import Idealize.ShloMosaic.Lib.WordCmp
public import proofs.«01_k».proof.Proof.Common
public import Idealize.ShloMosaic.Lib.Pipeline.ValueKit.Tiles

@[expose] public section

set_option maxRecDepth 16384

noncomputable section

namespace Cert.BwdIn.Hand

open Cert.BwdInIdeal Cert.BwdInIdeal.Gen
open Idealize.ShloMosaic TcCoe Tactic
open Idealize.SL RA BI BIBase Laws ProofMode Sem
open Pipeline (Dat BodyObligation)

variable {F : FTy → Type} [FloatOps F]

local notation "𝕄" => MT nD τ sig Unit (Elt F) ℕ (Pipeline.UD sig nD τ) ℕ

abbrev cond0_0 (i : grid0.Coords) : Prop := (Scalar.cmpi .ne (Scalar.extui (Scalar.cmpi .eq (BitVec.ofNat 32 (i 0).val) 0#32)) 0#32) = 1#1
abbrev scM : Memref sig .tc .vmem S7168x1024 .bf16 := Memref.whole cc0_scratch0
abbrev hbM : Memref sig .tc .hbm S8x896x1024 .bf16 := Memref.whole main_v2

abbrev hbPt (c : Dev nD) {sp : Space} {S : Shape} {e : EltTy} (M : Memref sig .tc sp S e) (f : Buf (Elt F) (M.view.loc (c : Thread nD τ))) : sProp 𝕄 :=
  M.view.loc (c : Thread nD τ) ↦{fullShare} f

/-- The slab entry that row `r`, column `k` of the assembled weight is: row `r % 896` of slab `r / 896`. -/
def slabIdx (y : S7168x1024.Idx) : S8x896x1024.Idx := fun a => match a with
  | 0 => ⟨(y 0).val / 896, by have h : (y 0).val < 7168 := (y 0).isLt; show _ < 8; omega⟩
  | 1 => ⟨(y 0).val % 896, by show _ < 896; omega⟩
  | 2 => ⟨(y 1).val, (y 1).isLt⟩

/-- The weight the eight staged copies leave in the scratch: rows `896·d + r` are row `r` of slab `d`. -/
def scr (sl : Vec F S8x896x1024 .bf16) : Vec F S7168x1024 .bf16 := fun y => sl (slabIdx y)

/-- A copy of slab `d` reads the slab's entries. -/
theorem slab_read (d : ℕ) (hd : d < 8) (inb : ∀ a, (![d, 0, 0] : Fin 3 → ℕ) a + S1x896x1024.size a ≤ S8x896x1024.size a) (pf : ∀ a, (Rect.unit (s := S8x896x1024) ![d, 0, 0] S1x896x1024.size inb).stride a = 1)
    (sl : Vec F S8x896x1024 .bf16) (off : ℕ) (ho : off = 896 * d) (ib : ∀ a, (![off, 0] : Fin 2 → ℕ) a + S896x1024.size a ≤ S7168x1024.size a) (x : S896x1024.Idx) :
    View.read (Elt F) ((hbM.slice (Rect.unit (s := S8x896x1024) ![d, 0, 0] S1x896x1024.size inb) pf).squeeze S896x1024 squeezes_S1x896x1024_S896x1024).view sl x
      = scr sl ((Rect.unit (s := S7168x1024) ![off, 0] S896x1024.size ib).emb x) := by
  subst ho
  have e : Shape.reshapeEquiv (s := S1x896x1024) (s' := S896x1024) squeezes_S1x896x1024_S896x1024.numel_eq x = (fun a => match a with
      | 0 => ⟨0, by show 0 < 1; omega⟩
      | 1 => x 0
      | 2 => x 1 : S1x896x1024.Idx) := by
    refine Shape.reshapeEquiv_eq_of_rowMajor _ ?_
    rw [Shape.rowMajor_val_two, Shape.rowMajor_val_three]
    show (0 * 896 + (x 0).val) * 1024 + (x 1).val = (x 0).val * 1024 + (x 1).val
    omega
  show sl ((Rect.unit (s := S8x896x1024) ![d, 0, 0] S1x896x1024.size inb).emb (Shape.reshapeEquiv _ x)) = _
  rw [e]
  unfold scr
  have h0 : (x 0).val < 896 := (x 0).isLt
  refine congrArg sl (funext fun a => Fin.ext ?_)
  match a with
  | 0 => show d + 1 * 0 = (896 * d + 1 * (x 0).val) / 896; omega
  | 1 => show 0 + 1 * (x 0).val = (896 * d + 1 * (x 0).val) % 896; omega
  | 2 => show 0 + 1 * (x 1).val = 0 + 1 * (x 1).val; rfl

/-- Eight row blocks that hold the assembled weight's own rows leave it, whatever was there. -/
theorem read_pieces (sl : Vec F S8x896x1024 .bf16) (p0 p1 p2 p3 p4 p5 p6 p7 : S896x1024.Idx → Elt F .bf16)
    (h0 : ∀ x, p0 x = scr sl ((Rect.unit (s := S7168x1024) ![0, 0] S896x1024.size inb_S7168x1024_S896x1024_0_0).emb x))
    (h1 : ∀ x, p1 x = scr sl ((Rect.unit (s := S7168x1024) ![896, 0] S896x1024.size inb_S7168x1024_S896x1024_896_0).emb x))
    (h2 : ∀ x, p2 x = scr sl ((Rect.unit (s := S7168x1024) ![1792, 0] S896x1024.size inb_S7168x1024_S896x1024_1792_0).emb x))
    (h3 : ∀ x, p3 x = scr sl ((Rect.unit (s := S7168x1024) ![2688, 0] S896x1024.size inb_S7168x1024_S896x1024_2688_0).emb x))
    (h4 : ∀ x, p4 x = scr sl ((Rect.unit (s := S7168x1024) ![3584, 0] S896x1024.size inb_S7168x1024_S896x1024_3584_0).emb x))
    (h5 : ∀ x, p5 x = scr sl ((Rect.unit (s := S7168x1024) ![4480, 0] S896x1024.size inb_S7168x1024_S896x1024_4480_0).emb x))
    (h6 : ∀ x, p6 x = scr sl ((Rect.unit (s := S7168x1024) ![5376, 0] S896x1024.size inb_S7168x1024_S896x1024_5376_0).emb x))
    (h7 : ∀ x, p7 x = scr sl ((Rect.unit (s := S7168x1024) ![6272, 0] S896x1024.size inb_S7168x1024_S896x1024_6272_0).emb x))
    (f : scM.view.ty.Contents (Elt F)) :
    scM.view.read (Elt F) (scM.view.writes (Elt F) f [⟨Rect.unit ![6272, 0] S896x1024.size inb_S7168x1024_S896x1024_6272_0, p7⟩, ⟨Rect.unit ![5376, 0] S896x1024.size inb_S7168x1024_S896x1024_5376_0, p6⟩, ⟨Rect.unit ![4480, 0] S896x1024.size inb_S7168x1024_S896x1024_4480_0, p5⟩, ⟨Rect.unit ![3584, 0] S896x1024.size inb_S7168x1024_S896x1024_3584_0, p4⟩, ⟨Rect.unit ![2688, 0] S896x1024.size inb_S7168x1024_S896x1024_2688_0, p3⟩, ⟨Rect.unit ![1792, 0] S896x1024.size inb_S7168x1024_S896x1024_1792_0, p2⟩, ⟨Rect.unit ![896, 0] S896x1024.size inb_S7168x1024_S896x1024_896_0, p1⟩, ⟨Rect.unit ![0, 0] S896x1024.size inb_S7168x1024_S896x1024_0_0, p0⟩]) = scr sl := by
  funext y
  refine (View.read_writes_apply_eq_canon _ _ _ _ ?hc).trans (View.canon_eq_of_allAt _ y _ ?hc ?_)
  · exact View.cover_of_tiled (s := S7168x1024) _ S896x1024.size rfl y
  intro p hp x hx
  subst hx
  simp only [List.mem_cons, List.not_mem_nil, or_false] at hp
  rcases hp with rfl | rfl | rfl | rfl | rfl | rfl | rfl | rfl
  · exact h7 x
  · exact h6 x
  · exact h5 x
  · exact h4 x
  · exact h3 x
  · exact h2 x
  · exact h1 x
  · exact h0 x

/-- The first product of a block: the gradient's first 1024 columns against the weight's first 1024 rows. -/
def gA (x1 : Vec F S512x3072 .bf16) (w : Vec F S7168x1024 .bf16) : FVec F S512x1024 .f32 :=
  k0_pay3 (VecWindow.window x1 ![0, 0] S512x1024.size inb_S512x3072_S512x1024_0_0) (VecWindow.window w ![0, 0] S1024x1024.size inb_S7168x1024_S1024x1024_0_0)

/-- What a point stores to the gradient's block. -/
def gxBlk (x1 : Vec F S512x3072 .bf16) (x2 : Vec F S512x4096 .bf16) (x3 : Vec F S512x1024 .f32) (x4 : Vec F S512x1024 .f32) (x5 : Vec F S1x1024 .f32) (w : Vec F S7168x1024 .bf16) : Vec F S512x1024 .f32 :=
  k0_pay1 x3 (k0_pay5 x3) x4
    (k0_pay7 (gA x1 w) x2 (VecWindow.window w ![1024, 0] S4096x1024.size inb_S7168x1024_S4096x1024_1024_0)
      (VecWindow.window x1 ![0, 1024] S512x2048.size inb_S512x3072_S512x2048_0_1024) (VecWindow.window w ![5120, 0] S2048x1024.size inb_S7168x1024_S2048x1024_5120_0) x5)
    (k0_pay8 (gA x1 w) x2 (VecWindow.window w ![1024, 0] S4096x1024.size inb_S7168x1024_S4096x1024_1024_0)
      (VecWindow.window x1 ![0, 1024] S512x2048.size inb_S512x3072_S512x2048_0_1024) (VecWindow.window w ![5120, 0] S2048x1024.size inb_S7168x1024_S2048x1024_5120_0) x3 x5)

/-- What a point leaves in the carried block: its row zero grows by the block's column sums. -/
def rowBlk (x1 : Vec F S512x3072 .bf16) (x2 : Vec F S512x4096 .bf16) (x3 : Vec F S512x1024 .f32) (w : Vec F S7168x1024 .bf16) (old : Vec F S8x1024 .f32) : Vec F S8x1024 .f32 :=
  VecWindow.put old ![0, 0] S1x1024.size
    (k0_pay6 (gA x1 w) x2 (VecWindow.window w ![1024, 0] S4096x1024.size inb_S7168x1024_S4096x1024_1024_0)
      (VecWindow.window x1 ![0, 1024] S512x2048.size inb_S512x3072_S512x2048_0_1024) (VecWindow.window w ![5120, 0] S2048x1024.size inb_S7168x1024_S2048x1024_5120_0) x3
      (VecWindow.window old ![0, 0] S1x1024.size inb_S8x1024_S1x1024_0_0))

end Cert.BwdIn.Hand

end
-- ==== Proof.BwdIn.Run.lean ====
module

public import proofs.«01_k».proof.Proof.BwdIn.Base

@[expose] public section

set_option maxRecDepth 16384

noncomputable section

namespace Cert.BwdIn.Hand

open Cert.BwdInIdeal Cert.BwdInIdeal.Gen
open Idealize.ShloMosaic TcCoe Tactic
open Idealize.SL RA BI BIBase Laws ProofMode Sem
open Pipeline (Dat BodyObligation)

variable {F : FTy → Type} [FloatOps F]

local notation "𝕄" => MT nD τ sig Unit (Elt F) ℕ (Pipeline.UD sig nD τ) ℕ

set_option maxHeartbeats 4000000 in
/-- A point after the first: the weight is already staged, the carried block grows, the gradient's block is stored. -/
theorem runB (c : Dev nD) (i : grid0.Coords) (arg1 : Memref sig .tc .vmem S512x3072 .bf16) (harg1 : arg1.IsWhole) (arg2 : Memref sig .tc .vmem S512x4096 .bf16) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1x1024 .f32) (harg5 : arg5.IsWhole)
    (arg7 : Memref sig .tc .vmem S512x1024 .f32) (harg7 : arg7.IsWhole) (arg8 : Memref sig .tc .vmem S8x1024 .f32) (harg8 : arg8.IsWhole)
    (x1 : Vec F S512x3072 .bf16) (x2 : Vec F S512x4096 .bf16) (x3 : Vec F S512x1024 .f32) (x4 : Vec F S512x1024 .f32) (x5 : Vec F S1x1024 .f32) (x8 : Vec F S8x1024 .f32) (w : Vec F S7168x1024 .bf16)
    (hc : ¬ cond0_0 i)
    (K : PUnit → sProp 𝕄) :
    iprop(owns c.tc arg1 fullShare x1 ∗ owns c.tc arg2 fullShare x2 ∗ owns c.tc arg3 fullShare x3 ∗ owns c.tc arg4 fullShare x4 ∗ owns c.tc arg5 fullShare x5
        ∗ (∃ d, owns c.tc arg7 fullShare d) ∗ owns c.tc arg8 fullShare x8 ∗ owns c.tc scM fullShare w
        ∗ (iprop(owns c.tc arg1 fullShare x1 ∗ owns c.tc arg2 fullShare x2 ∗ owns c.tc arg3 fullShare x3 ∗ owns c.tc arg4 fullShare x4 ∗ owns c.tc arg5 fullShare x5
        ∗ owns c.tc arg7 fullShare (gxBlk x1 x2 x3 x4 x5 w) ∗ owns c.tc arg8 fullShare (rowBlk x1 x2 x3 w x8) ∗ owns c.tc scM fullShare w) -∗ K ⟨⟩))
      ⊢ wp frame (wpE (defs₀ (F := F)) Variants.none c none) Set.univ
          (cc0_bwd_in i arg1 harg1 arg2 harg2 arg3 harg3 arg4 harg4 arg5 harg5 hbM (Memref.isWhole_whole _) arg7 harg7 arg8 harg8 scM (Memref.isWhole_whole _) cc0_scratch1) K := by
  simp only [cc0_bwd_in_eq_skeleton]; unfold cc0_bwd_in_skel
  simp only [k0_part3_eq_skeleton, k0_part4_eq_skeleton, k0_part1_eq_skeleton, k0_part2_eq_skeleton]
  unfold owns
  iintro ⟨⟨%f1, %hf1, H1⟩, ⟨%f2, %hf2, H2⟩, ⟨%f3, %hf3, H3⟩, ⟨%f4, %hf4, H4⟩, ⟨%f5, %hf5, H5⟩, ⟨%d7, %f7, -, H7⟩, ⟨%f8, %hf8, H8⟩, ⟨%fs, %hfs, HS⟩, Hk⟩
  subst hf1 hf2 hf3 hf4 hf5 hf8 hfs
  sl_exec (disch := first | sl_exact hc)
  sl_step
  iapply Hk
  isplitl [H1]; · iexists _; isplitr; swap; iexact H1; ipureintro; rfl
  isplitl [H2]; · iexists _; isplitr; swap; iexact H2; ipureintro; rfl
  isplitl [H3]; · iexists _; isplitr; swap; iexact H3; ipureintro; rfl
  isplitl [H4]; · iexists _; isplitr; swap; iexact H4; ipureintro; rfl
  isplitl [H5]; · iexists _; isplitr; swap; iexact H5; ipureintro; rfl
  isplitl [H7]; · iexists _; isplitr; swap; iexact H7; ipureintro; rw [View.read_writes_full]; delta runB.sl.r_1 runB.sl.r_2 runB.sl.r_3 runB.sl.r_4 runB.sl.r_5; delta runB.sl.r; (repeat rw [View.readAt_full]); rfl
  isplitl [H8]; · iexists _; isplitr; swap; iexact H8; ipureintro; rw [View.read_writes_cons_put _ _ _ _ _ rfl]; delta runB.sl.r; (repeat rw [View.readAt_full]); rfl
  iexists _; isplitr; swap; iexact HS; ipureintro; rfl

end Cert.BwdIn.Hand

end
-- ==== Proof.BwdIn.RunA.lean ====
module

public import proofs.«01_k».proof.Proof.BwdIn.Base

@[expose] public section

set_option maxRecDepth 16384

noncomputable section

namespace Cert.BwdIn.Hand

open Cert.BwdInIdeal Cert.BwdInIdeal.Gen
open Idealize.ShloMosaic TcCoe Tactic
open Cert.Common
open Idealize.SL RA BI BIBase Laws ProofMode Sem
open Pipeline (Dat BodyObligation)

variable {F : FTy → Type} [FloatOps F]

local notation "𝕄" => MT nD τ sig Unit (Elt F) ℕ (Pipeline.UD sig nD τ) ℕ

set_option sl_exec.dmaWindow true in
set_option sl_exec.dmaWindowSet true in
set_option sl_exec.dmaWindowLent true in
set_option maxHeartbeats 4000000 in
/-- The first point: the eight copies stage the weight, the carried block starts at zero, and the point goes on as every other. -/
theorem runA (c : Dev nD) (i : grid0.Coords) (arg1 : Memref sig .tc .vmem S512x3072 .bf16) (harg1 : arg1.IsWhole) (arg2 : Memref sig .tc .vmem S512x4096 .bf16) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1x1024 .f32) (harg5 : arg5.IsWhole)
    (arg7 : Memref sig .tc .vmem S512x1024 .f32) (harg7 : arg7.IsWhole) (arg8 : Memref sig .tc .vmem S8x1024 .f32) (harg8 : arg8.IsWhole)
    (x1 : Vec F S512x3072 .bf16) (x2 : Vec F S512x4096 .bf16) (x3 : Vec F S512x1024 .f32) (x4 : Vec F S512x1024 .f32) (x5 : Vec F S1x1024 .f32) (sl : Vec F S8x896x1024 .bf16) (W : Waits sig Unit)
    (hc : cond0_0 i)
    (K : PUnit → sProp 𝕄) :
    iprop(owns c.tc arg1 fullShare x1 ∗ owns c.tc arg2 fullShare x2 ∗ owns c.tc arg3 fullShare x3 ∗ owns c.tc arg4 fullShare x4 ∗ owns c.tc arg5 fullShare x5
        ∗ (∃ d, owns c.tc arg7 fullShare d) ∗ (∃ d, owns c.tc arg8 fullShare d) ∗ (∃ d, owns c.tc scM fullShare d) ∗ semVal (c.tc, SemLoc.dma 12) 0 ∗ semVal (c.tc, SemLoc.dma 13) 0 ∗ semVal (c.tc, SemLoc.dma 14) 0 ∗ semVal (c.tc, SemLoc.dma 15) 0 ∗ semVal (c.tc, SemLoc.dma 16) 0 ∗ semVal (c.tc, SemLoc.dma 17) 0 ∗ semVal (c.tc, SemLoc.dma 18) 0 ∗ semVal (c.tc, SemLoc.dma 19) 0 ∗ hbPt c hbM sl ∗ owes c.tc 0 W
        ∗ (iprop(owns c.tc arg1 fullShare x1 ∗ owns c.tc arg2 fullShare x2 ∗ owns c.tc arg3 fullShare x3 ∗ owns c.tc arg4 fullShare x4 ∗ owns c.tc arg5 fullShare x5
        ∗ owns c.tc arg7 fullShare (gxBlk x1 x2 x3 x4 x5 (scr sl)) ∗ owns c.tc arg8 fullShare (rowBlk x1 x2 x3 (scr sl) k0_pay2) ∗ owns c.tc scM fullShare (scr sl) ∗ semVal (c.tc, SemLoc.dma 12) 0 ∗ semVal (c.tc, SemLoc.dma 13) 0 ∗ semVal (c.tc, SemLoc.dma 14) 0 ∗ semVal (c.tc, SemLoc.dma 15) 0 ∗ semVal (c.tc, SemLoc.dma 16) 0 ∗ semVal (c.tc, SemLoc.dma 17) 0 ∗ semVal (c.tc, SemLoc.dma 18) 0 ∗ semVal (c.tc, SemLoc.dma 19) 0 ∗ hbPt c hbM sl ∗ (∃ W', owes c.tc 0 W')) -∗ K ⟨⟩))
      ⊢ wp frame (wpE (defs₀ (F := F)) Variants.none c none) Set.univ
          (cc0_bwd_in i arg1 harg1 arg2 harg2 arg3 harg3 arg4 harg4 arg5 harg5 hbM (Memref.isWhole_whole _) arg7 harg7 arg8 harg8 scM (Memref.isWhole_whole _) cc0_scratch1) K := by
  simp only [cc0_bwd_in_eq_skeleton]; unfold cc0_bwd_in_skel
  simp only [k0_part3_eq_skeleton, k0_part4_eq_skeleton, k0_part1_eq_skeleton, k0_part2_eq_skeleton]
  unfold owns
  iintro ⟨⟨%f1, %hf1, H1⟩, ⟨%f2, %hf2, H2⟩, ⟨%f3, %hf3, H3⟩, ⟨%f4, %hf4, H4⟩, ⟨%f5, %hf5, H5⟩, ⟨%d7, %f7, -, H7⟩, ⟨%d8, %f8, -, H8⟩, ⟨%ds, %fs, -, HS⟩, Hq0, Hq1, Hq2, Hq3, Hq4, Hq5, Hq6, Hq7, Hh, HW, Hk⟩
  subst hf1 hf2 hf3 hf4 hf5
  sl_exec (disch := first | sl_exact hc)
  sl_step
  have hs := read_pieces sl (runA.sl.dma0 sl) (runA.sl.dma0_1 sl) (runA.sl.dma0_2 sl) (runA.sl.dma0_3 sl) (runA.sl.dma0_4 sl) (runA.sl.dma0_5 sl) (runA.sl.dma0_6 sl) (runA.sl.dma0_7 sl)
    (fun x => slab_read 0 (by omega) _ _ sl _ rfl _ x)
    (fun x => slab_read 1 (by omega) _ _ sl _ rfl _ x)
    (fun x => slab_read 2 (by omega) _ _ sl _ rfl _ x)
    (fun x => slab_read 3 (by omega) _ _ sl _ rfl _ x)
    (fun x => slab_read 4 (by omega) _ _ sl _ rfl _ x)
    (fun x => slab_read 5 (by omega) _ _ sl _ rfl _ x)
    (fun x => slab_read 6 (by omega) _ _ sl _ rfl _ x)
    (fun x => slab_read 7 (by omega) _ _ sl _ rfl _ x)
  have h11 : runA.sl.v11 c sl = VecWindow.window (scr sl) ![0, 0] S1024x1024.size inb_S7168x1024_S1024x1024_0_0 := by
    delta runA.sl.v11
    exact readCov_window _ _ _ hs _
  have h15 : runA.sl.v15 c sl = VecWindow.window (scr sl) ![1024, 0] S4096x1024.size inb_S7168x1024_S4096x1024_1024_0 := by
    delta runA.sl.v15
    exact readCov_window _ _ _ hs _
  have h20 : runA.sl.v20 c sl = VecWindow.window (scr sl) ![5120, 0] S2048x1024.size inb_S7168x1024_S2048x1024_5120_0 := by
    delta runA.sl.v20
    exact readCov_window _ _ _ hs _
  have h32 : runA.sl.v32 (F := F) c arg8 = VecWindow.window (k0_pay2 (F := F)) ![0, 0] S1x1024.size inb_S8x1024_S1x1024_0_0 := by
    delta runA.sl.v32 runA.sl.H8_1
    funext j; exact congrFun (View.read_writes_full _ _ _ _ _) _
  iapply Hk
  isplitl [H1]; · iexists _; isplitr; swap; iexact H1; ipureintro; rfl
  isplitl [H2]; · iexists _; isplitr; swap; iexact H2; ipureintro; rfl
  isplitl [H3]; · iexists _; isplitr; swap; iexact H3; ipureintro; rfl
  isplitl [H4]; · iexists _; isplitr; swap; iexact H4; ipureintro; rfl
  isplitl [H5]; · iexists _; isplitr; swap; iexact H5; ipureintro; rfl
  isplitl [H7]
  · iexists _; isplitr; swap; iexact H7; ipureintro; rw [View.read_writes_full]; delta runA.sl.r_1 runA.sl.r_2 runA.sl.r_3 runA.sl.r_4 runA.sl.r_5; delta runA.sl.r; (repeat rw [View.readAt_full]); rw [h11, h15, h20]; rfl
  isplitl [H8]
  · iexists _; isplitr; swap; iexact H8; ipureintro; rw [View.read_writes_cons_put _ _ _ _ _ rfl]; delta runA.sl.r; (repeat rw [View.readAt_full]); rw [h11, h15, h20, h32]; delta runA.sl.H8_1; rw [View.read_writes_full]; rfl
  isplitl [HS]
  · iexists _; isplitr; swap; iexact HS; ipureintro; exact hs _
  iframe Hq0 Hq1 Hq2 Hq3 Hq4 Hq5 Hq6 Hq7 Hh
  iexists _; iexact HW

end Cert.BwdIn.Hand

end
-- ==== Proof.BwdIn.Body.lean ====
module

public import proofs.«01_k».proof.Proof.BwdIn.Run
public import proofs.«01_k».proof.Proof.BwdIn.RunA
public import proofs.«01_k».proof.Proof.Gen.BwdInIdeal.Points
public import Idealize.ShloMosaic.Lib.Pipeline.Frame

@[expose] public section

set_option maxRecDepth 16384

noncomputable section

namespace Cert.BwdIn.Hand

open Cert.BwdInIdeal Cert.BwdInIdeal.Gen
open Idealize.ShloMosaic TcCoe Tactic
open Idealize.SL RA BI BIBase Laws ProofMode Sem
open Pipeline (Dat BodyObligation)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The kernel's own counters and the operand its copies read -/

/-- The eight counters of the kernel's own copies. -/
abbrev osem0 : Fin 8 → SemLoc sig := fun j => (![SemLoc.dma 12, SemLoc.dma 13, SemLoc.dma 14, SemLoc.dma 15, SemLoc.dma 16, SemLoc.dma 17, SemLoc.dma 18, SemLoc.dma 19] : Fin 8 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal (c.tc, SemLoc.dma 12) 0 ∗ semVal (c.tc, SemLoc.dma 13) 0 ∗ semVal (c.tc, SemLoc.dma 14) 0 ∗ semVal (c.tc, SemLoc.dma 15) 0
          ∗ semVal (c.tc, SemLoc.dma 16) 0 ∗ semVal (c.tc, SemLoc.dma 17) 0 ∗ semVal (c.tc, SemLoc.dma 18) 0 ∗ semVal (c.tc, SemLoc.dma 19) 0) := by
  rw [Pipeline.ownSems0_eq_of_list c osem0 [0, 1, 2, 3, 4, 5, 6, 7] (by decide) (by decide)]; rfl
/-- The weight's slabs, left in the array's own memory. -/
def H0 : Finset (Ref sig .tc) := {main_v2}
theorem H0_sub : H0 ⊆ Pipeline.restRefs sig spec0 := by decide
theorem hbmPts0_eq (c : Dev nD) :
    (bigSep H0 (fun b => (c.tc.loc b) ↦{fullShare} V m c b) : sProp 𝕄) = iprop(hbPt c hbM (V m c main_v2)) := by
  rw [BI.bigSep_eq_bigSepL_of_eq [main_v2] (by decide) (by decide)]; rfl

/-- What the invariant says of everything but the scratch. -/
def Rst (c : Dev nD) : sProp 𝕄 :=
  iprop((∃ r, prngReg c r)
    ∗ iprop(semVal (c.tc, SemLoc.dma 12) 0 ∗ semVal (c.tc, SemLoc.dma 13) 0 ∗ semVal (c.tc, SemLoc.dma 14) 0 ∗ semVal (c.tc, SemLoc.dma 15) 0
          ∗ semVal (c.tc, SemLoc.dma 16) 0 ∗ semVal (c.tc, SemLoc.dma 17) 0 ∗ semVal (c.tc, SemLoc.dma 18) 0 ∗ semVal (c.tc, SemLoc.dma 19) 0)
    ∗ iprop(hbPt c hbM (V m c main_v2)))

theorem PhiD0_eq (c : Dev nD) :
    (Pipeline.ΦD osem0 spec0 H0 (V m) c : sProp 𝕄) = iprop(iprop(∃ d, owns c.tc scM fullShare d) ∗ Rst m c) := by
  rw [Pipeline.ΦD_eq, scopedRest0_eq, ownSems00_eq, hbmPts0_eq]; unfold Rst; simp only [scM, owns_whole]; try rfl

/-! ## The proof data -/

/-- The assembled weight. -/
def wt (c : Dev nD) : Vec F S7168x1024 .bf16 := scr (V m c main_v2)

/-- The carried block after point `n`. -/
def acc (c : Dev nD) : (n : ℕ) → n < cfg0.N → Vec F S8x1024 .f32
  | 0, h => rowBlk (iblk m c 0 ⟨0, h⟩) (iblk m c 1 ⟨0, h⟩) (iblk m c 2 ⟨0, h⟩) (wt m c) k0_pay2
  | n + 1, h => rowBlk (iblk m c 0 ⟨n + 1, h⟩) (iblk m c 1 ⟨n + 1, h⟩) (iblk m c 2 ⟨n + 1, h⟩) (wt m c) (acc c n (Nat.lt_of_succ_lt h))

/-- The invariant before point `n`: the scratch at anything at first, at the assembled weight after. -/
def PhiS (c : Dev nD) : ℕ → sProp 𝕄
  | 0 => Pipeline.ΦD osem0 spec0 H0 (V m) c
  | _ + 1 => iprop(owns c.tc scM fullShare (wt m c) ∗ Rst m c)

/-- The proof data: the inputs stay, the gradient's block and the carried block are what a point leaves. -/
def dats (_ : Fin 1) (c : Dev nD) : Dat τ (Elt F) Unit ℕ (Pipeline.UD sig nD τ) ℕ cfg0 c where
  A w := V m c (Pipeline.arrRef spec0 w)
  after w t := match w with
    | 0 => iblk m c 0 t
    | 1 => iblk m c 1 t
    | 2 => iblk m c 2 t
    | 3 => iblk m c 3 t
    | 4 => iblk m c 4 t
    | 5 => gxBlk (iblk m c 0 t) (iblk m c 1 t) (iblk m c 2 t) (iblk m c 3 t) (iblk m c 4 t) (wt m c)
    | 6 => acc m c t.val t.isLt
  Φ t := PhiS m c t.val
  q _ := fullShare
  owed _ := 0

theorem A_eq (c : Dev nD) (w : Fin cfg0.W) : (dats m 0 c).A w = V m c (Pipeline.arrRef spec0 w) := by dsimp only [dats]

theorem before0_0 (c : Dev nD) (t : Fin cfg0.N) (d) : (dats m 0 c).before 0 t d = iblk m c 0 t :=
  ((dats m 0 c).before_in_eq_fetched 0 rfl (fun _ => rfl) (fun _ _ _ => rfl) (fun t => rfl) t d).trans rfl
theorem before0_1 (c : Dev nD) (t : Fin cfg0.N) (d) : (dats m 0 c).before 1 t d = iblk m c 1 t :=
  ((dats m 0 c).before_in_eq_fetched 1 rfl (fun _ => rfl) (fun _ _ _ => rfl) (fun t => rfl) t d).trans rfl
theorem before0_2 (c : Dev nD) (t : Fin cfg0.N) (d) : (dats m 0 c).before 2 t d = iblk m c 2 t :=
  ((dats m 0 c).before_in_eq_fetched 2 rfl (fun _ => rfl) (fun _ _ _ => rfl) (fun t => rfl) t d).trans rfl
theorem before0_3 (c : Dev nD) (t : Fin cfg0.N) (d) : (dats m 0 c).before 3 t d = iblk m c 3 t :=
  ((dats m 0 c).before_in_eq_fetched 3 rfl (fun _ => rfl) (fun _ _ _ => rfl) (fun t => rfl) t d).trans rfl
theorem before0_4 (c : Dev nD) (t : Fin cfg0.N) (d) : (dats m 0 c).before 4 t d = iblk m c 4 t :=
  ((dats m 0 c).before_in_eq_fetched 4 rfl (fun _ => rfl) (fun _ _ _ => rfl) (fun t => rfl) t d).trans rfl

/-- After the first point the carried block's buffer holds what the point before left. -/
theorem before0_6 (c : Dev nD) (n : ℕ) (h : n + 1 < cfg0.N) (d) :
    (dats m 0 c).before 6 ⟨n + 1, h⟩ d = acc m c n (Nat.lt_of_succ_lt h) := by
  have hN : n + 1 < 16 := lt_of_lt_of_eq h (show cfg0.N = 16 from N_0)
  rw [Dat.before_out_kept _ 6 rfl ⟨n + 1, h⟩ (Nat.succ_ne_zero n) (Bool.eq_false_iff.mpr fun hf => by have := (flush0_6 _).mp hf; dsimp only at this; omega)
    (fun _ => rfl) (fun _ _ => rfl)]
  rfl

theorem hcond0 (t : Fin cfg0.N) : cond0_0 (grid0.coords t) ↔ t.val = 0 := by
  have hN : t.val < 16 := lt_of_lt_of_eq t.isLt (show cfg0.N = 16 from N_0)
  have e0 : (grid0.coords t 0).val = t.val / 1 % 16 := Pipeline.Grid.coords_val t 0 (by decide) rfl
  simp only [cond0_0, e0]
  have e1 : t.val / 1 % 16 = t.val := by omega
  rw [e1]
  exact (by decide : ∀ n : Fin 16, Scalar.cmpi .ne (Scalar.extui (Scalar.cmpi .eq (BitVec.ofNat 32 n.val) 0#32)) 0#32 = 1#1 ↔ n.val = 0) ⟨t.val, hN⟩

/-! ## The body obligation -/

def bodyPre (c : Dev nD) (t : Fin cfg0.N) : sProp 𝕄 :=
  iprop((dats m 0 c).Φ t.castSucc ∗ (dats m 0 c).owesAt () t.castSucc
    ∗ (∃ d, owns c.tc (st0_0 t) fullShare ((dats m 0 c).before 0 t d))
    ∗ (∃ d, owns c.tc (st0_1 t) fullShare ((dats m 0 c).before 1 t d))
    ∗ (∃ d, owns c.tc (st0_2 t) fullShare ((dats m 0 c).before 2 t d))
    ∗ (∃ d, owns c.tc (st0_3 t) fullShare ((dats m 0 c).before 3 t d))
    ∗ (∃ d, owns c.tc (st0_4 t) fullShare ((dats m 0 c).before 4 t d))
    ∗ (∃ d, owns c.tc (st0_5 t) fullShare ((dats m 0 c).before 5 t d))
    ∗ (∃ d, owns c.tc (st0_6 t) fullShare ((dats m 0 c).before 6 t d)))
def bodyPost (c : Dev nD) (t : Fin cfg0.N) : sProp 𝕄 :=
  iprop((dats m 0 c).Φ t.succ ∗ (dats m 0 c).owesAt () t.succ
    ∗ owns c.tc (st0_0 t) fullShare ((dats m 0 c).after 0 t)
    ∗ owns c.tc (st0_1 t) fullShare ((dats m 0 c).after 1 t)
    ∗ owns c.tc (st0_2 t) fullShare ((dats m 0 c).after 2 t)
    ∗ owns c.tc (st0_3 t) fullShare ((dats m 0 c).after 3 t)
    ∗ owns c.tc (st0_4 t) fullShare ((dats m 0 c).after 4 t)
    ∗ owns c.tc (st0_5 t) fullShare ((dats m 0 c).after 5 t)
    ∗ owns c.tc (st0_6 t) fullShare ((dats m 0 c).after 6 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  unfold Dat.owesAt Pipeline.owesWithin
  rw [show (dats m 0 c).owed t.castSucc = 0 from rfl]
  obtain ⟨n, hn⟩ := t
  cases n with
  | zero =>
    rw [show (dats m 0 c).Φ (Fin.castSucc ⟨0, hn⟩) = Pipeline.ΦD osem0 spec0 H0 (V m) c from rfl, PhiD0_eq,
      show (dats m 0 c).Φ (Fin.succ ⟨0, hn⟩) = iprop(owns c.tc scM fullShare (wt m c) ∗ Rst m c) from rfl]
    unfold Rst
    iintro ⟨⟨HS, Hg, ⟨Hq0, Hq1, Hq2, Hq3, Hq4, Hq5, Hq6, Hq7⟩, Hh⟩, ⟨%W, %hW, HO⟩, ⟨%d0, H0⟩, ⟨%d1, H1⟩, ⟨%d2, H2⟩, ⟨%d3, H3⟩, ⟨%d4, H4⟩, ⟨%d5, H5⟩, ⟨%d6, H6⟩⟩
    iapply (runA c (grid0.coords ⟨0, hn⟩) _ _ _ _ _ _ _ _ _ _ _ _ _ _ _ _ _ _ _ (V m c main_v2) W ((hcond0 ⟨0, hn⟩).mpr rfl) _)
    iframe H0 H1 H2 H3 H4
    isplitl [H5]; · iexists _; iexact H5
    isplitl [H6]; · iexists _; iexact H6
    isplitl [HS]; · iexact HS
    iframe Hq0 Hq1 Hq2 Hq3 Hq4 Hq5 Hq6 Hq7 Hh HO
    iintro ⟨H0, H1, H2, H3, H4, H5, H6, HS, Hq0, Hq1, Hq2, Hq3, Hq4, Hq5, Hq6, Hq7, Hh, ⟨%W', HO⟩⟩
    isplitl [HS Hg Hq0 Hq1 Hq2 Hq3 Hq4 Hq5 Hq6 Hq7 Hh]
    · isplitl [HS]; · iexact HS
      iframe Hg Hq0 Hq1 Hq2 Hq3 Hq4 Hq5 Hq6 Hq7 Hh
    isplitl [HO]
    · iexists W'; isplitr; · ipureintro; exact fun _ _ => Or.inl trivial
      iexact HO
    iframe H0 H1 H2 H3 H4 H5
    iexact H6
  | succ n =>
    simp only [before0_6]
    rw [show (dats m 0 c).Φ (Fin.castSucc ⟨n + 1, hn⟩) = iprop(owns c.tc scM fullShare (wt m c) ∗ Rst m c) from rfl,
      show (dats m 0 c).Φ (Fin.succ ⟨n + 1, hn⟩) = iprop(owns c.tc scM fullShare (wt m c) ∗ Rst m c) from rfl]
    iintro ⟨⟨HS, HR⟩, HO, ⟨%d0, H0⟩, ⟨%d1, H1⟩, ⟨%d2, H2⟩, ⟨%d3, H3⟩, ⟨%d4, H4⟩, ⟨%d5, H5⟩, ⟨%d6, H6⟩⟩
    iapply (runB c (grid0.coords ⟨n + 1, hn⟩) _ _ _ _ _ _ _ _ _ _ _ _ _ _ _ _ _ _ _ _ (wt m c) (fun h => absurd ((hcond0 ⟨n + 1, hn⟩).mp h) (Nat.succ_ne_zero n)) _)
    iframe H0 H1 H2 H3 H4
    isplitl [H5]; · iexists _; iexact H5
    iframe H6 HS
    iintro ⟨H0, H1, H2, H3, H4, H5, H6, HS⟩
    isplitl [HS HR]
    · isplitl [HS]; · iexact HS
      iexact HR
    iframe HO H0 H1 H2 H3 H4 H5
    iexact H6

/-- The body table's row at the point is the body. -/
theorem defs₀_row (t : Fin cfg0.N) : defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) Variants.none () Set.univ := fun t => by
  rw [bigSep_W0, bigSep_W0, defs₀_row]
  exact triple_restated (sound_body m c t) rfl .rfl fun _ => .rfl

/-! ## The launch -/

theorem hmainD (𝒱₀ : Variants) :
    Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

theorem hout (c : Dev nD) : (dats m 0 c).Φ (Fin.last cfg0.N) ⊢ Pipeline.ΦD osem0 spec0 H0 (V m) c := by
  have hN : cfg0.N = 15 + 1 := N_0
  rw [show (dats m 0 c).Φ (Fin.last cfg0.N) = PhiS m c cfg0.N from rfl, hN, PhiD0_eq]
  show iprop(owns c.tc scM fullShare (wt m c) ∗ Rst m c) ⊢ _
  iintro ⟨HS, HR⟩
  isplitl [HS]; · iexists _; iexact HS
  iexact HR

set_option backward.isDefEq.respectTransparency.types false in
/-- The run: every array a window stages ends as the proof data say, every other as the region found it, and every counter at zero. -/
theorem run_main :
    θ_run defs (onTc (τ := τ) (main (F := F))) (s₀ m ρ)
      (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmainD m Variants.none) (hA := A_eq m)
    (hin := fun _ => .rfl) (hout := hout m) (hQ' := fun _ h => h)

variable {m ρ}

/-- The arguments end as they were launched. -/
theorem args_kept {r : PUnit × MemSt nD τ sig (Elt F)} (h : Pipeline.FramePost cfgs (dats m) 0 (V m) r) (c : Dev nD) :
    r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4) :=
  ⟨((h c).1 2).trans (((dats m 0 c).arrAt_in 2 rfl _).trans ((A_eq m c 2).trans (V_main_arg0 m c))),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).1 3).trans (((dats m 0 c).arrAt_in 3 rfl _).trans ((A_eq m c 3).trans (V_main_arg4 m c)))⟩

end Cert.BwdIn.Hand

end
-- ==== Proof.BwdIn.Frames.lean ====
module

public import proofs.«01_k».proof.Defs
public import proofs.«01_k».proof.Proof.BwdIn.Body
public import proofs.«01_k».proof.Proof.Gen.BwdIn
public import proofs.«01_k».proof.Proof.Gen.BwdInIdeal

@[expose] public section

noncomputable section

namespace Cert.BwdIn.Hand

open Idealize.ShloMosaic Idealize.ShloMosaic.TcCoe Idealize.SL.Sem

/-- At any float operations: the program runs, keeps its arguments, and ends with every counter at zero. -/
theorem frame_any {F : FTy → Type} [FloatOps F] (m : (ℓ : Loc Cert.BwdInIdeal.nD Cert.BwdInIdeal.τ Cert.BwdInIdeal.sig) → Buf (Elt F) ℓ) (ρ : Dev Cert.BwdInIdeal.nD → PrngReg) :
    θ_run (Cert.BwdInIdeal.defs (F := F)) (onTc (τ := Cert.BwdInIdeal.τ) (Cert.BwdInIdeal.main (F := F))) ⟨m, fun _ => 0, ρ⟩ (fun r => (∀ c : Dev Cert.BwdInIdeal.nD,
      r.2.mem (c.tc.loc Cert.BwdInIdeal.main_arg0) = m (c.tc.loc Cert.BwdInIdeal.main_arg0)
      ∧ r.2.mem (c.tc.loc Cert.BwdInIdeal.main_arg1) = m (c.tc.loc Cert.BwdInIdeal.main_arg1)
      ∧ r.2.mem (c.tc.loc Cert.BwdInIdeal.main_arg2) = m (c.tc.loc Cert.BwdInIdeal.main_arg2)
      ∧ r.2.mem (c.tc.loc Cert.BwdInIdeal.main_arg3) = m (c.tc.loc Cert.BwdInIdeal.main_arg3)
      ∧ r.2.mem (c.tc.loc Cert.BwdInIdeal.main_arg4) = m (c.tc.loc Cert.BwdInIdeal.main_arg4))
      ∧ r.2.sem = fun _ => 0) :=
  (θ_run Cert.BwdInIdeal.defs _ _).mono (fun _ h => ⟨fun c => args_kept h.1 c, h.2⟩) (run_main m ρ)

/-- The idealized program runs, keeps its arguments, and ends with every counter at zero. -/
theorem frame_ideal : Cert.quiescent_BwdInIdeal (hBwdInIdeal := Cert.BwdInIdeal.Gen.facts) := fun m ρ _ => frame_any m ρ

/-- The kernel as it is compiled is the same program over words: the same run. -/
theorem frame_kernel : Cert.quiescent_BwdIn (hBwdIn := Cert.BwdIn.Gen.facts) := by
  intro m ρ _
  have h := frame_any (F := Bits) m ρ
  have hd : (Cert.BwdIn.defs (F := Bits)) = Cert.BwdInIdeal.defs (F := Bits) := by sl_kernel_rfl
  have hm : Cert.BwdIn.main (F := Bits) = Cert.BwdInIdeal.main (F := Bits) := by sl_kernel_rfl
  rw [hd, hm]
  exact h

end Cert.BwdIn.Hand

end
-- ==== Proof.BwdIn.Blocks.lean ====
module

public import proofs.«01_k».proof.Proof.BwdIn.Base
public import Idealize.ShloMosaic.Lib.Pointwise

@[expose] public section

set_option maxRecDepth 16384

noncomputable section

namespace Cert.BwdIn.Hand

open Cert.BwdInIdeal Cert.BwdInIdeal.Gen
open Idealize.ShloMosaic Idealize.ShloMosaic.TcCoe

/-- The mean square of a row plus the small constant, as extended reals. -/
def msq {n : ℕ} (x : Vec Ideal ⟨2, ![n, 1024]⟩ .f32) (p : Fin n) : EReal :=
  Ideal.div (∑ k : Fin 1024, x (ix2 p k) * x (ix2 p k)) (Ideal.ofBits .f32 0x44800000#32) + Ideal.ofBits .f32 0x358637BD#32

/-- A block's gradient at the normalised rows: three partial products. -/
def dhB (x1 : Vec Ideal S512x3072 .bf16) (x2 : Vec Ideal S512x4096 .bf16) (w : Vec Ideal S7168x1024 .bf16) (p : Fin 512) (d : Fin 1024) : EReal :=
  (∑ k : Fin 1024, x1 (ix2 p ⟨k.val, by omega⟩) * w (ix2 ⟨k.val, by omega⟩ d)
    + ∑ k : Fin 4096, x2 (ix2 p k) * w (ix2 ⟨1024 + k.val, by omega⟩ d))
    + ∑ k : Fin 2048, x1 (ix2 p ⟨1024 + k.val, by omega⟩) * w (ix2 ⟨5120 + k.val, by omega⟩ d)

/-- A window's entry is the array's entry at the offset position. -/
theorem emb_at {a b m n o0 o1 : ℕ} (h : ∀ q, (![o0, o1] : Fin 2 → ℕ) q + (![m, n] : Fin 2 → ℕ) q ≤ (⟨2, ![a, b]⟩ : Shape).size q) (i : Fin m) (j : Fin n)
    (h0 : o0 + i.val < a) (h1 : o1 + j.val < b) :
    (Rect.unit (s := ⟨2, ![a, b]⟩) ![o0, o1] ![m, n] h).emb (ix2 i j : (⟨2, ![m, n]⟩ : Shape).Idx) = ix2 ⟨o0 + i.val, h0⟩ ⟨o1 + j.val, h1⟩ := by
  funext q
  refine Fin.ext ?_
  match q with
  | 0 => show o0 + 1 * i.val = o0 + i.val; omega
  | 1 => show o1 + 1 * j.val = o1 + j.val; omega

theorem pay4_at (x1 : Vec Ideal S512x3072 .bf16) (x2 : Vec Ideal S512x4096 .bf16) (w : Vec Ideal S7168x1024 .bf16) (p : Fin 512) (d : Fin 1024) :
    k0_pay4 (gA x1 w) x2 (VecWindow.window w ![1024, 0] S4096x1024.size inb_S7168x1024_S4096x1024_1024_0)
      (VecWindow.window x1 ![0, 1024] S512x2048.size inb_S512x3072_S512x2048_0_1024) (VecWindow.window w ![5120, 0] S2048x1024.size inb_S7168x1024_S2048x1024_5120_0) (ix2 p d)
      = dhB x1 x2 w p d := by
  pointwise [k0_pay4, gA, k0_pay3, dhB, VecWindow.window]
  refine congr (congrArg _ (congr (congrArg _ ?_) ?_)) ?_
  · refine Finset.sum_congr rfl fun k _ => ?_
    rw [emb_at _ p k (by omega) (by omega), emb_at _ k d (by omega) (by omega)]
    simp only [Nat.zero_add]
  · refine Finset.sum_congr rfl fun k _ => ?_
    rw [emb_at _ k d (by omega) (by omega)]
    simp only [Nat.zero_add]
  · refine Finset.sum_congr rfl fun k _ => ?_
    rw [emb_at _ p k (by omega) (by omega), emb_at _ k d (by omega) (by omega)]
    simp only [Nat.zero_add]

theorem pay5_at (x3 : Vec Ideal S512x1024 .f32) (p : Fin 512) (q : Fin 1) : k0_pay5 x3 (ix2 p q) = Ideal.rsqrt (msq x3 p) := by
  pointwise [k0_pay5, msq]

/-- A point's block of the gradient, entry by entry. -/
theorem gxBlk_at (x1 : Vec Ideal S512x3072 .bf16) (x2 : Vec Ideal S512x4096 .bf16) (x3 x4 : Vec Ideal S512x1024 .f32) (x5 : Vec Ideal S1x1024 .f32) (w : Vec Ideal S7168x1024 .bf16) (p : Fin 512) (d : Fin 1024) :
    gxBlk x1 x2 x3 x4 x5 w (ix2 p d)
      = x4 (ix2 p d) + (Ideal.rsqrt (msq x3 p) * (dhB x1 x2 w p d * x5 (ix2 0 d))
        - x3 (ix2 p d) * (Ideal.rsqrt (msq x3 p) * Ideal.rsqrt (msq x3 p) * Ideal.rsqrt (msq x3 p))
          * Ideal.div (∑ k : Fin 1024, dhB x1 x2 w p k * x5 (ix2 0 k) * x3 (ix2 p k)) (Ideal.ofBits .f32 0x44800000#32)) := by
  unfold gxBlk k0_pay8 k0_pay7
  have hP := pay4_at x1 x2 w
  generalize k0_pay4 (F := Ideal) _ _ _ _ _ = P at hP ⊢
  pointwise [k0_pay1]
  simp only [hP, pay5_at]

/-- A point's step of the carried block: row zero grows by the block's column sums. -/
theorem rowBlk_at (x1 : Vec Ideal S512x3072 .bf16) (x2 : Vec Ideal S512x4096 .bf16) (x3 : Vec Ideal S512x1024 .f32) (w : Vec Ideal S7168x1024 .bf16) (old : Vec Ideal S8x1024 .f32) (a : Fin 8) (d : Fin 1024) :
    rowBlk x1 x2 x3 w old (ix2 a d)
      = if a.val = 0 then old (ix2 a d) + ∑ p : Fin 512, dhB x1 x2 w p d * x3 (ix2 p d) * Ideal.rsqrt (msq x3 p) else old (ix2 a d) := by
  unfold rowBlk k0_pay6
  have hP := pay4_at x1 x2 w
  generalize k0_pay4 (F := Ideal) _ _ _ _ _ = P at hP ⊢
  have hc : ∀ q : Fin 1024, (addf (shapeCast S1x1024 (VecWindow.window old ![0, 0] S1x1024.size inb_S8x1024_S1x1024_0_0) shapeCasts_S1x1024_S1x1024)
      (shapeCast S1x1024 (multiReduction .add [0] S1024 (mulf (mulf P x3) (broadcastTo S512x1024 (k0_pay5 x3) broadcasts_S512x1_S512x1024)) 0x00000000#32 reduces_S512x1024_S1024 (.inl rfl) rfl) shapeCasts_S1024_S1x1024) : FVec Ideal S1x1024 .f32) (ix2 0 q)
      = old (ix2 0 q) + ∑ p : Fin 512, dhB x1 x2 w p q * x3 (ix2 p q) * Ideal.rsqrt (msq x3 p) := by
    intro q
    pointwise [VecWindow.window]
    rw [emb_at _ 0 q (by omega) (by omega)]
    simp only [hP, pay5_at]
    congr 1
    refine congrArg old ?_
    funext r; refine Fin.ext ?_
    match r with
    | 0 => rfl
    | 1 => show 0 + q.val = q.val; omega
  unfold VecWindow.put
  by_cases ha : a.val = 0
  · have hb : ∀ r : Fin 2, (![0, 0] : Fin 2 → ℕ) r ≤ ((ix2 a d : S8x1024.Idx) r).val ∧ ((ix2 a d : S8x1024.Idx) r).val < (![0, 0] : Fin 2 → ℕ) r + S1x1024.size r := by
      intro r
      match r with
      | 0 => exact ⟨Nat.zero_le _, by show a.val < 0 + 1; omega⟩
      | 1 => exact ⟨Nat.zero_le _, by show d.val < 0 + 1024; omega⟩
    rw [dif_pos hb, if_pos ha]
    have e : (Rect.unitLocal (s := S8x1024) (off := ![0, 0]) (size := S1x1024.size) (ix2 a d) hb) = (ix2 0 d : S1x1024.Idx) := by
      funext r; refine Fin.ext ?_
      match r with
      | 0 => show a.val - 0 = 0; omega
      | 1 => show d.val - 0 = d.val; omega
    have ea : a = 0 := Fin.ext ha
    subst ea
    exact (congrArg _ e).trans (hc d)
  · rw [dif_neg (fun h => ha (by have := (h 0).2; have h2 : a.val < 0 + 1 := this; omega)), if_neg ha]

end Cert.BwdIn.Hand

end
-- ==== Proof.BwdIn.Host.lean ====
module

public import proofs.«01_k».proof.Proof.BwdIn.Blocks
public import proofs.«01_k».proof.Proof.BwdIn.Body
public import Idealize.ShloMosaic.Lib.StableHlo.ReadAt
public import Idealize.ShloMosaic.Lib.Pipeline.ValueKit

@[expose] public section

set_option maxRecDepth 16384

noncomputable section

namespace Cert.BwdIn.Hand

open Cert.BwdInIdeal Cert.BwdInIdeal.Gen
open Idealize.ShloMosaic TcCoe Tactic
open Idealize.SL Idealize.SL.Sem

variable (m : (ℓ : Loc nD τ sig) → Buf (Elt Ideal) ℓ) (c : Dev nD)

/-- The four arguments the values depend on, and the gradient that is added. -/
abbrev aX : Vec Ideal S8192x1024 .f32 := m (c.tc.loc main_arg0)
abbrev aG : Vec Ideal S1024 .f32 := m (c.tc.loc main_arg1)
abbrev aW : Vec Ideal S1024x7168 .f32 := m (c.tc.loc main_arg2)
abbrev aC : Vec Ideal S8192x7168 .f32 := m (c.tc.loc main_arg3)
abbrev aD : Vec Ideal S8192x1024 .f32 := m (c.tc.loc main_arg4)

/-- The staged columns of the gradient of the projection: its first 1024 columns, then its last 2048. -/
theorem dpa_lo (s : Fin 8192) (k : Fin 1024) : V m c main_v6 (ix2 s ⟨k.val, by omega⟩) = aC m c (ix2 s ⟨k.val, by omega⟩) := by
  unfold V
  after_reads_at
  after_reads_simp
  pointwise []

theorem dpa_hi (s : Fin 8192) (k : Fin 2048) : V m c main_v6 (ix2 s ⟨1024 + k.val, by omega⟩) = aC m c (ix2 s ⟨5120 + k.val, by omega⟩) := by
  unfold V
  after_reads_at
  after_reads_simp
  pointwise []

theorem dpb_at (s : Fin 8192) (k : Fin 4096) : V m c main_v8 (ix2 s k) = aC m c (ix2 s ⟨1024 + k.val, by omega⟩) := by
  unfold V
  after_reads_at

theorem g_at (d : Fin 1024) : V m c main_v9 (ix2 0 d) = aG m c (ix1 d) := by
  unfold V
  after_reads_at

theorem slab_at (a : Fin 8) (r : Fin 896) (d : Fin 1024) : V m c main_v2 (ix3 a r d) = aW m c (ix2 d ⟨a.val * 896 + r.val, by omega⟩) := by
  unfold V
  after_reads_at

/-- The assembled weight is the weight matrix, transposed. -/
theorem wt_at (n : Fin 7168) (d : Fin 1024) : wt m c (ix2 n d) = aW m c (ix2 d n) := by
  show V m c main_v2 (slabIdx (ix2 n d)) = _
  have e : slabIdx (ix2 n d) = ix3 ⟨n.val / 896, by omega⟩ ⟨n.val % 896, by omega⟩ d := by
    funext r; refine Fin.ext ?_
    match r with
    | 0 => rfl
    | 1 => rfl
    | 2 => rfl
  rw [e, slab_at]
  refine congrArg (fun q => aW m c (ix2 d q)) (Fin.ext ?_)
  show n.val / 896 * 896 + n.val % 896 = n.val
  omega

/-- The row of the arrays that row `p` of point `t`'s block is. -/
abbrev row (t : Fin cfg0.N) (p : Fin 512) : Fin 8192 := ⟨t.val * 512 + p.val, by have h : t.val < 16 := t.isLt; omega⟩

theorem e0 : ∀ t : Fin cfg0.N, win0_0.index t = ![t.val, 0] := by decide +kernel
theorem e1 : ∀ t : Fin cfg0.N, win0_1.index t = ![t.val, 0] := by decide +kernel
theorem e2 : ∀ t : Fin cfg0.N, win0_2.index t = ![t.val, 0] := by decide +kernel
theorem e3 : ∀ t : Fin cfg0.N, win0_3.index t = ![t.val, 0] := by decide +kernel
theorem e4 : ∀ t : Fin cfg0.N, win0_4.index t = ![0, 0] := by decide +kernel
theorem e5 : ∀ t : Fin cfg0.N, win0_5.index t = ![t.val, 0] := by decide +kernel

theorem emb5 (t : Fin cfg0.N) (p : Fin 512) (d : Fin 1024) : (win0_5.blk t).view.emb (ix2 p d) = (ix2 (row t p) d : S8192x1024.Idx) := by blk_ext [e5]

theorem b0_at (t : Fin cfg0.N) (p : Fin 512) (k : Fin 3072) : iblk m c 0 t (ix2 p k) = V m c main_v6 (ix2 (row t p) k) := by
  blk_simp [iblk]
  refine congrArg _ ?_
  blk_ext [e0]
theorem b1_at (t : Fin cfg0.N) (p : Fin 512) (k : Fin 4096) : iblk m c 1 t (ix2 p k) = V m c main_v8 (ix2 (row t p) k) := by
  blk_simp [iblk]
  refine congrArg _ ?_
  blk_ext [e1]
theorem b2_at (t : Fin cfg0.N) (p : Fin 512) (k : Fin 1024) : iblk m c 2 t (ix2 p k) = aX m c (ix2 (row t p) k) := by
  blk_simp [iblk]
  rw [V_main_arg0]
  refine congrArg _ ?_
  blk_ext [e2]
theorem b3_at (t : Fin cfg0.N) (p : Fin 512) (k : Fin 1024) : iblk m c 3 t (ix2 p k) = aD m c (ix2 (row t p) k) := by
  blk_simp [iblk]
  rw [V_main_arg4]
  refine congrArg _ ?_
  blk_ext [e3]
theorem b4_at (t : Fin cfg0.N) (k : Fin 1024) : iblk m c 4 t (ix2 0 k) = aG m c (ix1 k) := by
  refine Eq.trans ?_ (g_at m c k)
  blk_simp [iblk]
  refine congrArg _ ?_
  blk_ext [e4]

/-- The gradient at the normalised rows: the projection's gradient times the weight, transposed. -/
def dhA (s : Fin 8192) (d : Fin 1024) : EReal := ∑ k : Fin 7168, aC m c (ix2 s k) * aW m c (ix2 d k)

theorem dh_eq (t : Fin cfg0.N) (p : Fin 512) (d : Fin 1024) :
    dhB (iblk m c 0 t) (iblk m c 1 t) (wt m c) p d = dhA m c (row t p) d := by
  unfold dhB dhA
  simp only [b0_at, b1_at, wt_at]
  have l0 : ∀ k : Fin 1024, V m c main_v6 (ix2 (row t p) ⟨k.val, by omega⟩) = aC m c (ix2 (row t p) ⟨k.val, by omega⟩) := dpa_lo m c (row t p)
  have l1 : ∀ k : Fin 2048, V m c main_v6 (ix2 (row t p) ⟨1024 + k.val, by omega⟩) = aC m c (ix2 (row t p) ⟨5120 + k.val, by omega⟩) := dpa_hi m c (row t p)
  have l2 : ∀ k : Fin 4096, V m c main_v8 (ix2 (row t p) k) = aC m c (ix2 (row t p) ⟨1024 + k.val, by omega⟩) := dpb_at m c (row t p)
  generalize V m c main_v6 = f6 at l0 l1 ⊢
  generalize V m c main_v8 = f8 at l2 ⊢
  simp only [l0, l1, l2]
  have h := Fin.sum_univ_add (a := 1024) (b := 6144) (fun k : Fin (1024 + 6144) => aC m c (ix2 (row t p) (k : Fin 7168)) * aW m c (ix2 d (k : Fin 7168)))
  have h2 := Fin.sum_univ_add (a := 4096) (b := 2048) (fun k : Fin (4096 + 2048) => aC m c (ix2 (row t p) ⟨1024 + k.val, by omega⟩) * aW m c (ix2 d ⟨1024 + k.val, by omega⟩))
  refine Eq.trans ?_ h.symm
  rw [add_assoc]
  refine congrArg₂ _ rfl ?_
  refine Eq.trans (congrArg₂ _ rfl ?_) h2.symm
  refine Finset.sum_congr rfl fun k _ => ?_
  have e : (⟨5120 + k.val, by omega⟩ : Fin 7168) = ⟨1024 + (Fin.natAdd 4096 k).val, by have := (Fin.natAdd 4096 k).isLt; omega⟩ := Fin.ext (by simp only [Fin.natAdd]; omega)
  rw [e]

theorem msq_eq (t : Fin cfg0.N) (p : Fin 512) : msq (n := 512) (iblk m c 2 t) p = msq (n := 8192) (aX m c) (row t p) := by
  unfold msq
  simp only [b2_at]

end Cert.BwdIn.Hand

end
-- ==== Proof.BwdIn.Algebra.lean ====
module

public import Idealize.ShloMosaic.Lib.Pointwise
public import Idealize.ShloMosaic.Lib.ReduceAll

@[expose] public section

noncomputable section

namespace Cert.RealRms

open Idealize.ShloMosaic

/-- The width of a row, as the constant both programs divide by. -/
theorem width_real : Ideal.ofBits .f32 0x44800000#32 = ((1024 : ℝ) : EReal) := by
  simp [Ideal.ofBits, Ideal.ieee, -EReal.coe_mul, -EReal.coe_neg]; norm_num

/-- The factor one half of the derivative, negated. -/
theorem half_real : Ideal.ofBits .f32 0xBF000000#32 = ((-(1 / 2) : ℝ) : EReal) := by
  simp [Ideal.ofBits, Ideal.ieee, -EReal.coe_mul, -EReal.coe_neg]; norm_num

/-- The small constant under the root is a positive real number. -/
theorem eps_real : ∃ e : ℝ, 0 < e ∧ Ideal.ofBits .f32 0x358637BD#32 = (e : EReal) := by
  refine ⟨(8796093 : ℝ) * (2 : ℝ) ^ (-43 : ℤ), by positivity, ?_⟩
  simp [Ideal.ofBits, Ideal.ieee, -EReal.coe_mul, -EReal.coe_neg]

theorem div_real (a b : ℝ) (hb : b ≠ 0) : Ideal.div (a : EReal) (b : EReal) = ((a / b : ℝ) : EReal) := by
  unfold Ideal.div
  rw [if_neg (by exact_mod_cast hb), ← EReal.coe_inv, ← EReal.coe_mul, div_eq_mul_inv]

theorem rsqrt_real (v : ℝ) (hv : 0 < v) : Ideal.rsqrt (v : EReal) = (((Real.sqrt v)⁻¹ : ℝ) : EReal) := by
  show (if v < 0 then ⊥ else if v = 0 then ⊤ else (((Real.sqrt v)⁻¹ : ℝ) : EReal)) = _
  rw [if_neg (not_lt.2 hv.le), if_neg hv.ne']

theorem sum_real {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- The closed form of the norm's gradient is the chain rule's, at real entries. -/
theorem grad_eq (D : EReal) (u q S v : ℝ) (hv : 0 < v) :
    D + (Ideal.rsqrt (v : EReal) * (q : EReal) - (u : EReal) * (Ideal.rsqrt (v : EReal) * Ideal.rsqrt (v : EReal) * Ideal.rsqrt (v : EReal)) * Ideal.div (S : EReal) ((1024 : ℝ) : EReal))
      = D + (q : EReal) * Ideal.rsqrt (v : EReal)
        + (u : EReal) * Ideal.div ((S : EReal) * (((-(1 / 2) : ℝ) : EReal) * Ideal.div (Ideal.rsqrt (v : EReal)) (v : EReal))) ((1024 : ℝ) : EReal)
        + Ideal.div ((S : EReal) * (((-(1 / 2) : ℝ) : EReal) * Ideal.div (Ideal.rsqrt (v : EReal)) (v : EReal))) ((1024 : ℝ) : EReal) * (u : EReal) := by
  have h0 : (1024 : ℝ) ≠ 0 := by norm_num
  rw [rsqrt_real v hv, div_real _ _ hv.ne']
  simp only [← EReal.coe_mul, div_real _ _ h0]
  rw [add_assoc, add_assoc]
  refine congrArg (D + ·) ?_
  simp only [← EReal.coe_mul, ← EReal.coe_sub, ← EReal.coe_add]
  refine congrArg _ ?_
  have hs : Real.sqrt v * Real.sqrt v = v := Real.mul_self_sqrt hv.le
  have hp : 0 < Real.sqrt v := Real.sqrt_pos.2 hv
  generalize Real.sqrt v = r at hs hp
  subst hs
  field_simp
  ring

/-- An extended real whose size is below infinity is a real number. -/
theorem real_of_size (y : EReal) (h : max y (-y) < ⊤) : ∃ r : ℝ, y = (r : EReal) := by
  induction y using EReal.rec with
  | bot => simp at h
  | coe r => exact ⟨r, rfl⟩
  | top => simp at h

/-- The pattern of infinity denotes it. -/
theorem inf_top : Ideal.ofBits .f32 0x7F800000#32 = ⊤ := by
  simp [Ideal.ofBits, Ideal.ieee]

/-- An array all of whose entries compare below infinity in size has real entries. -/
theorem real_of_below {s : Shape} (x : FVec Ideal s .f32) (ax : List (Fin s.rank)) (h : s.ReducesTo ax ⟨0, ![]⟩) (hb : (⟨0, ![]⟩ : Shape).BroadcastsInDim s (![] : Fin 0 → Fin s.rank)) (hu : 0 < (⟨0, ![]⟩ : Shape).numel)
    (j : (⟨0, ![]⟩ : Shape).Idx)
    (e : Host.reduce IntOp.andi (cmpf .olt (Host.absf x) (broadcastInDim s ![] hb (constant ⟨0, ![]⟩ .f32 0x7F800000#32))) (constantI ⟨0, ![]⟩ 1 1#1) h hu j = 1#1) (i : s.Idx) : ∃ r : ℝ, x i = (r : EReal) := by
  haveI : Subsingleton (⟨0, ![]⟩ : Shape).Idx := ⟨fun a b => funext fun q => q.elim0⟩
  have hi := Host.reduce_andi_all _ _ h hu j e i
  refine real_of_size _ ?_
  have hi' : (cmpf .olt (Host.absf x) (broadcastInDim s ![] hb (constant (F := Ideal) ⟨0, ![]⟩ .f32 0x7F800000#32))) i = BitVec.ofBool (decide (max (x i) (-(x i)) < Ideal.ofBits .f32 0x7F800000#32)) := rfl
  rw [hi', inf_top] at hi
  by_contra hn
  rw [decide_eq_false hn] at hi
  exact absurd hi (by decide)

end Cert.RealRms

end
-- ==== Proof.BwdIn.Value.lean ====
module

public import proofs.«01_k».proof.Defs
public import proofs.«01_k».proof.Proof.BwdIn.Host
public import proofs.«01_k».proof.Proof.BwdIn.Frames
public import proofs.«01_k».proof.Proof.Gen.RefInIdeal
public import proofs.«01_k».proof.Proof.Gen.RefInIdeal.Run
public import proofs.«01_k».proof.Proof.Gen.RefInIdeal.Read
public import proofs.«01_k».proof.Proof.Gen.Pre_finite_in
public import proofs.«01_k».proof.Proof.BwdIn.Algebra

@[expose] public section

set_option maxRecDepth 16384

noncomputable section

namespace Cert.ValueIn

open Cert.RefInIdeal.Read
open Cert.BwdInIdeal Cert.BwdInIdeal.Gen Cert.BwdIn.Hand
open Idealize.ShloMosaic TcCoe Tactic
open Idealize.SL Idealize.SL.Sem

variable (m : (ℓ : Loc nD τ sig) → Buf (Elt Ideal) ℓ) (c : Dev nD)

/-- What the kernel leaves as the gradient of the input, entry by entry. -/
def gxAt (s : Fin 8192) (d : Fin 1024) : EReal :=
  aD m c (ix2 s d) + (Ideal.rsqrt (msq (n := 8192) (aX m c) s) * (dhA m c s d * aG m c (ix1 d))
    - aX m c (ix2 s d) * (Ideal.rsqrt (msq (n := 8192) (aX m c) s) * Ideal.rsqrt (msq (n := 8192) (aX m c) s) * Ideal.rsqrt (msq (n := 8192) (aX m c) s))
      * Ideal.div (∑ k : Fin 1024, dhA m c s k * aG m c (ix1 k) * aX m c (ix2 s k)) (Ideal.ofBits .f32 0x44800000#32))

/-- One token's term of the gain's gradient. -/
def gainAt (s : Fin 8192) (d : Fin 1024) : EReal := dhA m c s d * aX m c (ix2 s d) * Ideal.rsqrt (msq (n := 8192) (aX m c) s)

/-- The gradient's array at the end of the run. -/
theorem final_gx : (dats m 0 c).arrAt 5 cfg0.N = (fun i => gxAt m c (i 0) (i 1) : Vec Ideal S8192x1024 .f32) := by
  refine (dats m 0 c).arrAt_eq_of_covers 5 _ (by decide +kernel) fun t hf y => ?_
  blk_simp
  obtain ⟨p, d, rfl⟩ : ∃ (p : Fin 512) (d : Fin 1024), y = ix2 p d := ⟨y 0, y 1, eq_ix2 y⟩
  refine Eq.trans ?_ (congrArg (fun i : S8192x1024.Idx => gxAt m c (i 0) (i 1)) (emb5 t p d)).symm
  show gxBlk (iblk m c 0 t) (iblk m c 1 t) (iblk m c 2 t) (iblk m c 3 t) (iblk m c 4 t) (wt m c) (ix2 p d) = _
  rw [gxBlk_at]
  have hm := msq_eq m c t p
  have hd := dh_eq m c t p
  have h2 := b2_at m c t p
  have h3 := b3_at m c t p
  have h4 := b4_at m c t
  unfold gxAt
  simp only [hm, hd, h2, h3, h4]
  rfl

/-- The carried block after point `n`. -/
theorem acc_at : ∀ (n : ℕ) (h : n < cfg0.N) (a : Fin 8) (d : Fin 1024), acc m c n h (ix2 a d)
    = if a.val = 0 then ∑ t ∈ Finset.range (n + 1), (if ht : t < 16 then ∑ p : Fin 512, gainAt m c (row ⟨t, ht⟩ p) d else 0) else 0
  | 0, h, a, d => by
    unfold acc
    rw [rowBlk_at]
    have hz : (k0_pay2 (F := Ideal)) (ix2 a d) = 0 := by pointwise [k0_pay2]
    rw [hz, Finset.sum_range_one, dif_pos (by omega)]
    simp only [dh_eq, msq_eq, b2_at, zero_add]
    rfl
  | n + 1, h, a, d => by
    unfold acc
    rw [rowBlk_at, acc_at n (Nat.lt_of_succ_lt h) a d, Finset.sum_range_succ _ (n + 1), dif_pos (show n + 1 < 16 from h)]
    simp only [dh_eq, msq_eq, b2_at]
    split <;> rfl

/-- The tokens' terms, block by block, are all of them. -/
theorem sum_rows (f : Fin 8192 → EReal) :
    ∑ t ∈ Finset.range 16, (if ht : t < 16 then ∑ p : Fin 512, f (row ⟨t, ht⟩ p) else 0) = ∑ s : Fin 8192, f s := by
  rw [Finset.sum_range]
  simp only [Fin.isLt, dif_pos]
  rw [← Fintype.sum_prod_type']
  refine (Fintype.sum_equiv (finProdFinEquiv (m := 16) (n := 512)) _ f fun x => congrArg f (Fin.ext ?_))
  show x.1.val * 512 + x.2.val = x.2.val + 512 * x.1.val
  omega

theorem final_small : (dats m 0 c).arrAt 6 cfg0.N = (fun i => if (i 0).val = 0 then ∑ s : Fin 8192, gainAt m c s (i 1) else 0 : Vec Ideal S8x1024 .f32) := by
  refine (dats m 0 c).arrAt_eq_of_after_last 6 (⟨15, by decide⟩ : Fin cfg0.N) (by decide +kernel) _ fun y => ?_
  blk_simp
  obtain ⟨a, d, rfl⟩ : ∃ (a : Fin 8) (d : Fin 1024), y = ix2 a d := ⟨y 0, y 1, eq_ix2 y⟩
  refine (acc_at m c 15 (by decide) a d).trans ?_
  rw [sum_rows (fun s => gainAt m c s d)]
  rfl

/-- The reference's input gradient, entry by entry. -/
theorem ref_gx (x : Vec Ideal S8192x1024 .f32) (g : Vec Ideal S1024 .f32) (w : Vec Ideal S1024x7168 .f32) (ct : Vec Ideal S8192x7168 .f32) (dx : Vec Ideal S8192x1024 .f32) (s : Fin 8192) (d : Fin 1024) :
    val_main_v40 (F := Ideal) x g w ct dx (ix2 s d)
      = (dx (ix2 s d) + (∑ k : Fin 7168, ct (ix2 s k) * w (ix2 d k)) * g (ix1 d) * Ideal.rsqrt (msq (n := 8192) x s)
        + x (ix2 s d) * Ideal.div ((∑ k : Fin 1024, x (ix2 s k) * ((∑ l : Fin 7168, ct (ix2 s l) * w (ix2 k l)) * g (ix1 k)))
            * (Ideal.ofBits .f32 0xBF000000#32 * Ideal.div (Ideal.rsqrt (msq (n := 8192) x s)) (msq (n := 8192) x s))) (Ideal.ofBits .f32 0x44800000#32))
        + Ideal.div ((∑ k : Fin 1024, x (ix2 s k) * ((∑ l : Fin 7168, ct (ix2 s l) * w (ix2 k l)) * g (ix1 k)))
            * (Ideal.ofBits .f32 0xBF000000#32 * Ideal.div (Ideal.rsqrt (msq (n := 8192) x s)) (msq (n := 8192) x s))) (Ideal.ofBits .f32 0x44800000#32) * x (ix2 s d) := by
  pointwise [val_main_v40, val_main_v39, val_main_v38, val_main_v37, val_main_v36, val_main_v35, val_main_v34, val_main_v33, val_main_v32, val_main_v31, val_main_v30, val_main_v29, val_main_v28, val_main_v27, val_main_v26, val_main_v24, val_main_v23, val_main_v19, val_main_v13, val_main_v10, val_main_v9, val_main_v8, val_main_v7, val_main_v6, val_main_v5, val_main_v4, val_main_v3, val_main_v2, val_main_v1, val_main_v0, val_main_cst, val_main_cst_0, val_main_cst_1, val_main_cst_2, val_main_cst_5, val_main_cst_6, val_main_cst_7, msq]
  simp only [Finset.univ_unique, Finset.sum_singleton]

/-- The reference's gain gradient, padded by seven zero rows, entry by entry. -/
theorem ref_small (x : Vec Ideal S8192x1024 .f32) (w : Vec Ideal S1024x7168 .f32) (ct : Vec Ideal S8192x7168 .f32) (a : Fin 8) (d : Fin 1024) :
    val_main_v43 (F := Ideal) x w ct (ix2 a d)
      = if a.val = 0 then ∑ s : Fin 8192, x (ix2 s d) * Ideal.rsqrt (msq (n := 8192) x s) * ∑ k : Fin 7168, ct (ix2 s k) * w (ix2 d k) else 0 := by
  pointwise [val_main_v43, val_main_v42, val_main_v41, val_main_v25, val_main_v22, val_main_v21, val_main_v20, val_main_v19, val_main_v12, val_main_v11, val_main_v7, val_main_v6, val_main_v5, val_main_v4, val_main_v3, val_main_v2, val_main_v1, val_main_v0, val_main_cst, val_main_cst_0, val_main_cst_1, val_main_cst_3, val_main_cst_4, val_main_cst_8, msq]
  simp only [Finset.univ_unique, Finset.sum_singleton, Nat.lt_one_iff]
  split <;> rfl

/-- The programs' four finite arguments have real entries. -/
theorem reals (h : Cert.Pre_BwdInIdeal_finite_in (hPre_finite_in := Cert.Pre_finite_in.Gen.facts) m) :
    (∀ i, ∃ r : ℝ, aX m c i = (r : EReal)) ∧ (∀ i, ∃ r : ℝ, aG m c i = (r : EReal)) ∧ (∀ i, ∃ r : ℝ, aW m c i = (r : EReal)) ∧ (∀ i, ∃ r : ℝ, aC m c i = (r : EReal)) := by
  have h1 := congrFun (h c) ix0
  unfold Pre_finite_in.fn Pre_finite_in.fn_part1 at h1
  simp only [andi_apply] at h1
  obtain ⟨h2, e3⟩ := IntOp.andi_eq_one.1 h1
  obtain ⟨h2, e2⟩ := IntOp.andi_eq_one.1 h2
  obtain ⟨e0, e1⟩ := IntOp.andi_eq_one.1 h2
  exact ⟨RealRms.real_of_below _ _ _ _ _ _ e0, RealRms.real_of_below _ _ _ _ _ _ e1, RealRms.real_of_below _ _ _ _ _ _ e2, RealRms.real_of_below _ _ _ _ _ _ e3⟩

/-- At real entries the kernel's input gradient is the reference's. -/
theorem gx_eq (hx : ∀ i, ∃ r : ℝ, aX m c i = (r : EReal)) (hg : ∀ i, ∃ r : ℝ, aG m c i = (r : EReal)) (hw : ∀ i, ∃ r : ℝ, aW m c i = (r : EReal)) (hc : ∀ i, ∃ r : ℝ, aC m c i = (r : EReal))
    (s : Fin 8192) (d : Fin 1024) : gxAt m c s d = val_main_v40 (F := Ideal) (aX m c) (aG m c) (aW m c) (aC m c) (aD m c) (ix2 s d) := by
  choose x hx using hx
  choose g hg using hg
  choose w hw using hw
  choose t ht using hc
  obtain ⟨e, he, hee⟩ := RealRms.eps_real
  have hdh : ∀ k, dhA m c s k = ((∑ l : Fin 7168, t (ix2 s l) * w (ix2 k l) : ℝ) : EReal) := by
    intro k
    unfold dhA
    rw [← RealRms.sum_real]
    exact Finset.sum_congr rfl fun l _ => by rw [ht, hw, EReal.coe_mul]
  have hms : msq (n := 8192) (aX m c) s = (((∑ k : Fin 1024, x (ix2 s k) * x (ix2 s k)) / 1024 + e : ℝ) : EReal) := by
    unfold msq
    rw [hee, RealRms.width_real, EReal.coe_add, ← RealRms.div_real _ _ (by norm_num), ← RealRms.sum_real]
    simp only [hx, EReal.coe_mul]
  have hv : 0 < (∑ k : Fin 1024, x (ix2 s k) * x (ix2 s k)) / 1024 + e :=
    add_pos_of_nonneg_of_pos (div_nonneg (Finset.sum_nonneg fun k _ => mul_self_nonneg _) (by norm_num)) he
  have hS : (∑ k : Fin 1024, dhA m c s k * aG m c (ix1 k) * aX m c (ix2 s k)) = ((∑ k : Fin 1024, (∑ l : Fin 7168, t (ix2 s l) * w (ix2 k l)) * g (ix1 k) * x (ix2 s k) : ℝ) : EReal) := by
    rw [← RealRms.sum_real]
    exact Finset.sum_congr rfl fun k _ => by rw [hdh, hg, hx, EReal.coe_mul, EReal.coe_mul]
  have hS' : (∑ k : Fin 1024, aX m c (ix2 s k) * (dhA m c s k * aG m c (ix1 k))) = ((∑ k : Fin 1024, (∑ l : Fin 7168, t (ix2 s l) * w (ix2 k l)) * g (ix1 k) * x (ix2 s k) : ℝ) : EReal) := by
    rw [← hS]
    exact Finset.sum_congr rfl fun k _ => mul_comm _ _
  rw [ref_gx]
  change _ = aD m c (ix2 s d) + dhA m c s d * aG m c (ix1 d) * Ideal.rsqrt (msq (n := 8192) (aX m c) s)
        + aX m c (ix2 s d) * Ideal.div ((∑ k : Fin 1024, aX m c (ix2 s k) * (dhA m c s k * aG m c (ix1 k)))
            * (Ideal.ofBits .f32 0xBF000000#32 * Ideal.div (Ideal.rsqrt (msq (n := 8192) (aX m c) s)) (msq (n := 8192) (aX m c) s))) (Ideal.ofBits .f32 0x44800000#32)
        + Ideal.div ((∑ k : Fin 1024, aX m c (ix2 s k) * (dhA m c s k * aG m c (ix1 k)))
            * (Ideal.ofBits .f32 0xBF000000#32 * Ideal.div (Ideal.rsqrt (msq (n := 8192) (aX m c) s)) (msq (n := 8192) (aX m c) s))) (Ideal.ofBits .f32 0x44800000#32) * aX m c (ix2 s d)
  unfold gxAt
  rw [hS, hS', hms, RealRms.width_real, RealRms.half_real, hdh, hg, hx, ← EReal.coe_mul]
  exact RealRms.grad_eq _ _ _ _ _ hv

/-- The gain's gradient is the reference's, whatever the entries. -/
theorem small_eq (a : Fin 8) (d : Fin 1024) : (if a.val = 0 then ∑ s : Fin 8192, gainAt m c s d else 0)
    = val_main_v43 (F := Ideal) (aX m c) (aW m c) (aC m c) (ix2 a d) := by
  rw [ref_small]
  refine if_congr Iff.rfl (Finset.sum_congr rfl fun s _ => ?_) rfl
  unfold gainAt dhA
  rw [mul_assoc, mul_comm]

/-- The two programs end with the same gradients, at finite arguments. -/
theorem algebraic : Cert.algebraic_BwdInIdeal_RefInIdeal_pre_finite_in (hBwdInIdeal := Cert.BwdInIdeal.Gen.facts) (hRefInIdeal := Cert.RefInIdeal.Gen.facts) (hPre_finite_in := Cert.Pre_finite_in.Gen.facts) := by
  intro m ρ m' ρ' hpre hag
  refine ⟨fun c => (dats m 0 c).arrAt 5 cfg0.N, fun c => (dats m 0 c).arrAt 6 cfg0.N,
    (θ_run Cert.BwdInIdeal.defs _ _).mono (fun _ h c => ⟨(h.1 c).1 5, (h.1 c).1 6, args_kept h.1 c⟩) (run_main m ρ), ?_⟩
  refine (θ_run Cert.RefInIdeal.defs _ _).mono (fun _ h c => ?_) (RefInIdeal.Value.run m' ρ')
  obtain ⟨h0, h1, hr⟩ := h c
  obtain ⟨e0, e1, e2, e3, e4⟩ := hag c
  obtain ⟨hx, hg, hw, hc⟩ := reals m c hpre
  refine ⟨h0.trans ?_, h1.trans ?_, hr⟩
  · rw [val_main_v40_eq, e0, e1, e2, e3, e4]
    refine Eq.trans ?_ (final_gx m c).symm
    funext i
    exact ((congrArg _ (eq_ix2 i)).trans (gx_eq m c hx hg hw hc (i 0) (i 1)).symm)
  · rw [val_main_v43_eq, e0, e2, e3]
    refine Eq.trans ?_ (final_small m c).symm
    funext i
    exact ((congrArg _ (eq_ix2 i)).trans (small_eq m c (i 0) (i 1)).symm)

end Cert.ValueIn

end
-- ==== Proof.BwdConv.Struct.lean ====
module

public import proofs.«01_k».proof.Defs
public import proofs.«01_k».proof.Proof.Gen.BwdConvIdeal

@[expose] public section

set_option maxRecDepth 16384

noncomputable section

namespace Cert.BwdConvIdeal.Loops

open Idealize.ShloMosaic TcCoe Tactic
open Idealize.SL Idealize.SL.Sem
open Cert.BwdConvIdeal Facts₀ Facts

attribute [local instance] Cert.BwdConvIdeal.Gen.facts

variable {F : FTy → Type} [FloatOps F]

/-- The rows of `n` taps, eight sublanes each, over all channels. -/
abbrev TS (n : ℕ) : Shape := ⟨3, ![n, 8, 1024]⟩

/-- The filter of `n` taps. -/
abbrev WS (n : ℕ) : Shape := ⟨2, ![n, 1024]⟩

/-- Tap `k`'s eight rows over the lane block `c` lie in the taps. -/
theorem tap_inb {n : ℕ} (k : Fin n) (c : Fin 8) :
    ∀ a, (![k.val, 0, 128 * c.val] : Fin 3 → ℕ) a + S1x8x128.size a ≤ (TS n).size a := by
  intro a
  have hk := k.isLt
  have hc := c.isLt
  fin_cases a
  · show k.val + 1 ≤ n; omega
  · show 0 + 8 ≤ 8; omega
  · show 128 * c.val + 128 ≤ 1024; omega

/-- Tap `k`'s eight rows over all channels lie in the taps. -/
theorem tapAll_inb {n : ℕ} (k : Fin n) :
    ∀ a, (![k.val, 0, 0] : Fin 3 → ℕ) a + S1x8x1024.size a ≤ (TS n).size a := by
  intro a
  have hk := k.isLt
  fin_cases a
  · show k.val + 1 ≤ n; omega
  · show 0 + 8 ≤ 8; omega
  · show 0 + 1024 ≤ 1024; omega

/-- Row `k` lies in a matrix of `n` rows. -/
theorem row_inb {n : ℕ} (k : ℕ) (hk : k < n) :
    ∀ a, (![k, 0] : Fin 2 → ℕ) a + S1x1024.size a ≤ (WS n).size a := by
  intro a
  fin_cases a
  · show k + 1 ≤ n; omega
  · show 0 + 1024 ≤ 1024; omega

/-- The block of 64 rows `r` and 128 lanes `c` lies in the tile. -/
theorem blk_inb (r : Fin 4) (c : Fin 8) :
    ∀ a, (![64 * r.val, 128 * c.val] : Fin 2 → ℕ) a + S64x128.size a ≤ S256x1024.size a := by
  intro a
  have hr := r.isLt
  have hc := c.isLt
  fin_cases a
  · show 64 * r.val + 64 ≤ 256; omega
  · show 128 * c.val + 128 ≤ 1024; omega

/-- The first 80 rows of lane block `c`. -/
theorem lo_inb (c : Fin 8) :
    ∀ a, (![0, 128 * c.val] : Fin 2 → ℕ) a + S80x128.size a ≤ S256x1024.size a := by
  intro a
  have hc := c.isLt
  fin_cases a
  · show 0 + 80 ≤ 256; omega
  · show 128 * c.val + 128 ≤ 1024; omega

/-- The last 80 rows of lane block `c`. -/
theorem hi_inb (c : Fin 8) :
    ∀ a, (![176, 128 * c.val] : Fin 2 → ℕ) a + S80x128.size a ≤ S256x1024.size a := by
  intro a
  have hc := c.isLt
  fin_cases a
  · show 176 + 80 ≤ 256; omega
  · show 128 * c.val + 128 ≤ 1024; omega

/-- 96 rows from row `48` or row `112` of lane block `c`. -/
theorem mid_inb (o : ℕ) (ho : o ≤ 160) (c : Fin 8) :
    ∀ a, (![o, 128 * c.val] : Fin 2 → ℕ) a + S96x128.size a ≤ S256x1024.size a := by
  intro a
  have hc := c.isLt
  fin_cases a
  · show o + 96 ≤ 256; omega
  · show 128 * c.val + 128 ≤ 1024; omega

/-- Lane block `c` of the rows of a neighbouring tile. -/
theorem edge_slices (c : Fin 8) : S16x1024.Slices ![0, 128 * c.val] S16x128 := by
  refine ⟨rfl, fun a => ?_⟩
  have hc := c.isLt
  fin_cases a
  · show 0 + 16 ≤ 16; omega
  · show 128 * c.val + 128 ≤ 1024; omega

/-- Eight of the twelve groups of rows, from group `m`. -/
theorem win_slices (m : Fin 4) : S12x8x128.Slices ![m.val, 0, 0] S8x8x128 := by
  refine ⟨rfl, fun a => ?_⟩
  have hm := m.isLt
  fin_cases a
  · show m.val + 8 ≤ 12; omega
  · show 0 + 8 ≤ 8; omega
  · show 0 + 128 ≤ 128; omega

/-- One tap: the input's gradient takes the shifted rows times the weight, the tap's gradient the
sum of the shifted rows times the input. -/
def tapStep {n : ℕ} (wb acc : Memref sig .tc .vmem (TS n) .f32) (c : Fin 8)
    (sh : FVec F S12x8x128 .f32) (u du : FVec F S8x8x128 .f32) (k : Fin n) (m : Fin 4) :
    Prog (TpuEff nD τ sig (Elt F) Λ₀ .tc) (FVec F S8x8x128 .f32) := do
  let w : Vec F S1x8x128 .f32 ← Prog.lift (.load wb (Rect.unit (s := TS n) ![k.val, 0, 128 * c.val] S1x8x128.size (tap_inb k c)).toLoadRect (View.loadsAt_vmem h_S1x8x128))
  let g : Vec F S1x8x128 .f32 ← Prog.lift (.load acc (Rect.unit (s := TS n) ![k.val, 0, 128 * c.val] S1x8x128.size (tap_inb k c)).toLoadRect (View.loadsAt_vmem h_S1x8x128))
  let _g : Vec F S1x8x128 .f32 ← Prog.lift (.load acc (Rect.unit (s := TS n) ![k.val, 0, 128 * c.val] S1x8x128.size (tap_inb k c)).toLoadRect (View.loadsAt_vmem h_S1x8x128))
  Prog.lift (.store acc (Rect.unit (s := TS n) ![k.val, 0, 128 * c.val] S1x8x128.size (tap_inb k c))
    (shapeCast S1x8x128 (addf (shapeCast S8x128 g shapeCasts_S1x8x128_S8x128)
      (multiReduction .add [0] S8x128 (mulf (extractStridedSlice S8x8x128 ![m.val, 0, 0] sh (win_slices m)) u) 0x00000000#32 reduces_S8x8x128_S8x128 (.inl rfl) rfl)) shapeCasts_S8x128_S1x8x128)
    Finset.univ (View.stores_vmem_bits_univ h_S1x8x128 rfl) (.inl rfl))
  pure (addf du (mulf (extractStridedSlice S8x8x128 ![m.val, 0, 0] sh (win_slices m))
    (broadcastTo S8x8x128 (shapeCast S1x8x128 (shapeCast S8x128 w shapeCasts_S1x8x128_S8x128) shapeCasts_S8x128_S1x8x128) broadcasts_S1x8x128_S8x8x128)))

/-- The taps of one phase, one after another. -/
def tapsRun {n : ℕ} (wb acc : Memref sig .tc .vmem (TS n) .f32) (c : Fin 8)
    (sh : FVec F S12x8x128 .f32) (u : FVec F S8x8x128 .f32) :
    List (Fin n × Fin 4) → FVec F S8x8x128 .f32 → Prog (TpuEff nD τ sig (Elt F) Λ₀ .tc) (FVec F S8x8x128 .f32)
  | [], du => pure du
  | t :: ts, du => do
    let du' ← tapStep wb acc c sh u du t.1 t.2
    tapsRun wb acc c sh u ts du'

/-- The window rotated by phase `b`, in groups of eight rows. -/
def phase (blk : FVec F S96x128 .f32) : ℕ → FVec F S12x8x128 .f32
  | 0 => shapeCast S12x8x128 blk shapeCasts_S96x128_S12x8x128
  | b + 1 => shapeCast S12x8x128 (dynamicRotate 0 (BitVec.ofNat 32 (95 - b)) none blk rotates_S96x128_d0) shapeCasts_S96x128_S12x8x128

/-- The phases, one after another. -/
def phasesRun {n : ℕ} (wb acc : Memref sig .tc .vmem (TS n) .f32) (c : Fin 8)
    (blk : FVec F S96x128 .f32) (u : FVec F S8x8x128 .f32) :
    List (ℕ × List (Fin n × Fin 4)) → FVec F S8x8x128 .f32 → Prog (TpuEff nD τ sig (Elt F) Λ₀ .tc) (FVec F S8x8x128 .f32)
  | [], du => pure du
  | p :: ps, du => do
    let du' ← tapsRun wb acc c (phase blk p.1) u p.2 du
    phasesRun wb acc c blk u ps du'

/-- The window of 96 rows around row block `r`: 16 rows before it and 16 after it, those past the
tile's ends out of the neighbouring tiles. -/
def window (dv : Memref sig .tc .vmem S256x1024 .f32) (pv nx : Vec F S16x1024 .f32) (r : Fin 4)
    (c : Fin 8) : Prog (TpuEff nD τ sig (Elt F) Λ₀ .tc) (FVec F S96x128 .f32) :=
  match r with
  | 0 => do
    let x : Vec F S80x128 .f32 ← Prog.lift (.load dv (Rect.unit (s := S256x1024) ![0, 128 * c.val] S80x128.size (lo_inb c)).toLoadRect (View.loadsAt_vmem h_S80x128))
    pure (concatenate S96x128 0 [⟨S16x128, extractStridedSlice S16x128 ![0, 128 * c.val] pv (edge_slices c)⟩, ⟨S80x128, x⟩] concatenates_S16x128_S80x128_S96x128_d0)
  | 1 => do
    let x : Vec F S96x128 .f32 ← Prog.lift (.load dv (Rect.unit (s := S256x1024) ![48, 128 * c.val] S96x128.size (mid_inb 48 (by decide) c)).toLoadRect (View.loadsAt_vmem h_S96x128))
    pure x
  | 2 => do
    let x : Vec F S96x128 .f32 ← Prog.lift (.load dv (Rect.unit (s := S256x1024) ![112, 128 * c.val] S96x128.size (mid_inb 112 (by decide) c)).toLoadRect (View.loadsAt_vmem h_S96x128))
    pure x
  | 3 => do
    let x : Vec F S80x128 .f32 ← Prog.lift (.load dv (Rect.unit (s := S256x1024) ![176, 128 * c.val] S80x128.size (hi_inb c)).toLoadRect (View.loadsAt_vmem h_S80x128))
    pure (concatenate S96x128 0 [⟨S80x128, x⟩, ⟨S16x128, extractStridedSlice S16x128 ![0, 128 * c.val] nx (edge_slices c)⟩] concatenates_S80x128_S16x128_S96x128_d0)

/-- One block of 64 rows and 128 lanes: all taps. -/
def block {n : ℕ} (ps : List (ℕ × List (Fin n × Fin 4))) (dv : Memref sig .tc .vmem S256x1024 .f32)
    (pv nx : Vec F S16x1024 .f32) (ur : Memref sig .tc .vmem S256x1024 .f32)
    (wb acc : Memref sig .tc .vmem (TS n) .f32) (dst : Memref sig .tc .vmem S256x1024 .f32)
    (r : Fin 4) (c : Fin 8) : Prog (TpuEff nD τ sig (Elt F) Λ₀ .tc) PUnit := do
  let blk ← window dv pv nx r c
  let u : Vec F S64x128 .f32 ← Prog.lift (.load ur (Rect.unit (s := S256x1024) ![64 * r.val, 128 * c.val] S64x128.size (blk_inb r c)).toLoadRect (View.loadsAt_vmem h_S64x128))
  let du ← phasesRun wb acc c blk (shapeCast S8x8x128 (shapeCast S64x128 u shapeCasts_S64x128_S64x128) shapeCasts_S64x128_S8x8x128) ps (broadcast S8x8x128 (Scalar.ofBits .f32 0x00000000#32))
  let _d : Vec F S64x128 .f32 ← Prog.lift (.load dst (Rect.unit (s := S256x1024) ![64 * r.val, 128 * c.val] S64x128.size (blk_inb r c)).toLoadRect (View.loadsAt_vmem h_S64x128))
  Prog.lift (.store dst (Rect.unit (s := S256x1024) ![64 * r.val, 128 * c.val] S64x128.size (blk_inb r c))
    (shapeCast S64x128 (shapeCast S64x128 du shapeCasts_S8x8x128_S64x128) shapeCasts_S64x128_S64x128)
    Finset.univ (View.stores_vmem_bits_univ h_S64x128 rfl) (.inl rfl))

/-- The blocks, one after another. -/
def blocksRun {n : ℕ} (ps : List (ℕ × List (Fin n × Fin 4))) (dv : Memref sig .tc .vmem S256x1024 .f32)
    (pv nx : Vec F S16x1024 .f32) (ur : Memref sig .tc .vmem S256x1024 .f32)
    (wb acc : Memref sig .tc .vmem (TS n) .f32) (dst : Memref sig .tc .vmem S256x1024 .f32) :
    List (Fin 4 × Fin 8) → Prog (TpuEff nD τ sig (Elt F) Λ₀ .tc) PUnit
  | [] => pure ⟨⟩
  | b :: bs => do
    block ps dv pv nx ur wb acc dst b.1 b.2
    blocksRun ps dv pv nx ur wb acc dst bs

/-- The blocks in the order the kernel takes them. -/
def blocks : List (Fin 4 × Fin 8) :=
  [(0, 0), (0, 1), (0, 2), (0, 3), (0, 4), (0, 5), (0, 6), (0, 7),
   (1, 0), (1, 1), (1, 2), (1, 3), (1, 4), (1, 5), (1, 6), (1, 7),
   (2, 0), (2, 1), (2, 2), (2, 3), (2, 4), (2, 5), (2, 6), (2, 7),
   (3, 0), (3, 1), (3, 2), (3, 3), (3, 4), (3, 5), (3, 6), (3, 7)]

/-- The short filter's taps by phase: tap `k` of phase `b` from group `m` reads row `8 m + b`, which is `17 - k`. -/
def phasesA : List (ℕ × List (Fin 3 × Fin 4)) := [(0, [(1, 2)]), (1, [(0, 2)]), (7, [(2, 1)])]

/-- The long filter's taps by phase: row `8 m + b` is `31 - k`. -/
def phasesB : List (ℕ × List (Fin 31 × Fin 4)) :=
  [(0, [(7, 3), (15, 2), (23, 1)]),
   (1, [(6, 3), (14, 2), (22, 1), (30, 0)]),
   (2, [(5, 3), (13, 2), (21, 1), (29, 0)]),
   (3, [(4, 3), (12, 2), (20, 1), (28, 0)]),
   (4, [(3, 3), (11, 2), (19, 1), (27, 0)]),
   (5, [(2, 3), (10, 2), (18, 1), (26, 0)]),
   (6, [(1, 3), (9, 2), (17, 1), (25, 0)]),
   (7, [(0, 3), (8, 2), (16, 1), (24, 0)])]

/-- One convolution's tile: the rows around it, then all blocks. -/
def conv {n : ℕ} (ps : List (ℕ × List (Fin n × Fin 4))) (arg0 : BitVec 32)
    (dv : Memref sig .tc .vmem S256x1024 .f32) (pr nr : Memref sig .tc .vmem S16x1024 .f32)
    (ur : Memref sig .tc .vmem S256x1024 .f32)
    (wb acc : Memref sig .tc .vmem (TS n) .f32) (dst : Memref sig .tc .vmem S256x1024 .f32) :
    Prog (TpuEff nD τ sig (Elt F) Λ₀ .tc) PUnit := do
  let p : Vec F S16x1024 .f32 ← Prog.lift (.load pr (Rect.unit (s := S16x1024) ![0, 0] S16x1024.size inb_S16x1024_S16x1024_0_0).toLoadRect (View.loadsAt_vmem h_S16x1024))
  let q : Vec F S16x1024 .f32 ← Prog.lift (.load nr (Rect.unit (s := S16x1024) ![0, 0] S16x1024.size inb_S16x1024_S16x1024_0_0).toLoadRect (View.loadsAt_vmem h_S16x1024))
  blocksRun ps dv
    (Scalar.select (Scalar.cmpi .sgt arg0 0#32) p (broadcast S16x1024 (Scalar.ofBits .f32 0x00000000#32)))
    (Scalar.select (Scalar.cmpi .slt arg0 31#32) q (broadcast S16x1024 (Scalar.ofBits .f32 0x00000000#32)))
    ur wb acc dst blocks

/-- The weights spread over eight sublanes, tap by tap. -/
def spread {n : ℕ} (w : Memref sig .tc .vmem (WS n) .f32) (wb : Memref sig .tc .vmem (TS n) .f32) :
    List (Fin n) → Prog (TpuEff nD τ sig (Elt F) Λ₀ .tc) PUnit
  | [] => pure ⟨⟩
  | k :: ks => do
    let x : Vec F S1x1024 .f32 ← Prog.lift (.load w (Rect.unit (s := WS n) ![k.val, 0] S1x1024.size (row_inb k.val k.isLt)).toLoadRect (View.loadsAt_vmem h_S1x1024))
    let _y : Vec F S1x8x1024 .f32 ← Prog.lift (.load wb (Rect.unit (s := TS n) ![k.val, 0, 0] S1x8x1024.size (tapAll_inb k)).toLoadRect (View.loadsAt_vmem h_S1x8x1024))
    Prog.lift (.store wb (Rect.unit (s := TS n) ![k.val, 0, 0] S1x8x1024.size (tapAll_inb k))
      (shapeCast S1x8x1024 (broadcastTo S8x1024 (shapeCast S1x1024 x shapeCasts_S1x1024_S1x1024) broadcasts_S1x1024_S8x1024) shapeCasts_S8x1024_S1x8x1024)
      Finset.univ (View.stores_vmem_bits_univ h_S1x8x1024 rfl) (.inl rfl))
    spread w wb ks

/-- What the first point does before its tile. -/
def start (arg13 : Memref sig .tc .vmem S3x1024 .f32) (arg14 : Memref sig .tc .vmem S31x1024 .f32)
    (arg16 : Memref sig .tc .vmem S40x1024 .f32) (arg19 : Memref sig .tc .vmem S3x8x1024 .f32)
    (arg20 : Memref sig .tc .vmem S31x8x1024 .f32) (arg21 : Memref sig .tc .vmem S3x8x1024 .f32)
    (arg22 : Memref sig .tc .vmem S31x8x1024 .f32) : Prog (TpuEff nD τ sig (Elt F) Λ₀ .tc) PUnit := do
  spread (n := 3) arg13 arg19 [0, 1, 2]
  spread (n := 31) arg14 arg20 [0, 1, 2, 3, 4, 5, 6, 7, 8, 9, 10, 11, 12, 13, 14, 15, 16, 17, 18, 19, 20, 21, 22, 23, 24, 25, 26, 27, 28, 29, 30]
  let _a : Vec F S40x1024 .f32 ← Prog.lift (.load arg16 (Rect.unit (s := S40x1024) ![0, 0] S40x1024.size inb_S40x1024_S40x1024_0_0).toLoadRect (View.loadsAt_vmem h_S40x1024))
  Prog.lift (.store arg16 (Rect.unit (s := S40x1024) ![0, 0] S40x1024.size inb_S40x1024_S40x1024_0_0) (broadcast S40x1024 (Scalar.ofBits .f32 0x00000000#32) : FVec F S40x1024 .f32) Finset.univ (View.stores_vmem_bits_univ h_S40x1024 rfl) (.inl rfl))
  let _b : Vec F S3x8x1024 .f32 ← Prog.lift (.load arg21 (Rect.unit (s := S3x8x1024) ![0, 0, 0] S3x8x1024.size inb_S3x8x1024_S3x8x1024_0_0_0).toLoadRect (View.loadsAt_vmem h_S3x8x1024))
  Prog.lift (.store arg21 (Rect.unit (s := S3x8x1024) ![0, 0, 0] S3x8x1024.size inb_S3x8x1024_S3x8x1024_0_0_0) (shapeCast S3x8x1024 (broadcast S3x8x1024 (Scalar.ofBits .f32 0x00000000#32) : FVec F S3x8x1024 .f32) shapeCasts_S3x8x1024_S3x8x1024) Finset.univ (View.stores_vmem_bits_univ h_S3x8x1024 rfl) (.inl rfl))
  let _c : Vec F S31x8x1024 .f32 ← Prog.lift (.load arg22 (Rect.unit (s := S31x8x1024) ![0, 0, 0] S31x8x1024.size inb_S31x8x1024_S31x8x1024_0_0_0).toLoadRect (View.loadsAt_vmem h_S31x8x1024))
  Prog.lift (.store arg22 (Rect.unit (s := S31x8x1024) ![0, 0, 0] S31x8x1024.size inb_S31x8x1024_S31x8x1024_0_0_0) (shapeCast S31x8x1024 (broadcast S31x8x1024 (Scalar.ofBits .f32 0x00000000#32) : FVec F S31x8x1024 .f32) shapeCasts_S31x8x1024_S31x8x1024) Finset.univ (View.stores_vmem_bits_univ h_S31x8x1024 rfl) (.inl rfl))
  pure ⟨⟩

/-- Row `q` of the small results takes the column sums of `d`. -/
def addRow (sm : Memref sig .tc .vmem S40x1024 .f32) (q : ℕ) (hq : q < 40) (d : FVec F S256x1024 .f32) :
    Prog (TpuEff nD τ sig (Elt F) Λ₀ .tc) PUnit := do
  let x : Vec F S1x1024 .f32 ← Prog.lift (.load sm (Rect.unit (s := S40x1024) ![q, 0] S1x1024.size (row_inb q hq)).toLoadRect (View.loadsAt_vmem h_S1x1024))
  let _y : Vec F S1x1024 .f32 ← Prog.lift (.load sm (Rect.unit (s := S40x1024) ![q, 0] S1x1024.size (row_inb q hq)).toLoadRect (View.loadsAt_vmem h_S1x1024))
  Prog.lift (.store sm (Rect.unit (s := S40x1024) ![q, 0] S1x1024.size (row_inb q hq))
    (addf (shapeCast S1x1024 x shapeCasts_S1x1024_S1x1024) (shapeCast S1x1024 (multiReduction .add [0] S1024 d 0x00000000#32 reduces_S256x1024_S1024 (.inl rfl) rfl) shapeCasts_S1024_S1x1024))
    Finset.univ (View.stores_vmem_bits_univ h_S1x1024 rfl) (.inl rfl))

/-- The tile's gates: the four gradients of the projection's pieces and their column sums. -/
def gates (arg9 arg10 arg11 arg12 : Memref sig .tc .vmem S256x1024 .bf16)
    (arg15 : Memref sig .tc .vmem S256x4096 .bf16) (harg15 : arg15.IsWhole)
    (arg16 : Memref sig .tc .vmem S40x1024 .f32) (arg17 arg18 : Memref sig .tc .vmem S256x1024 .f32) :
    Prog (TpuEff nD τ sig (Elt F) Λ₀ .tc) PUnit := do
  let dp : Vec F S256x1024 .f32 ← Prog.lift (.load arg17 (Rect.unit (s := S256x1024) ![0, 0] S256x1024.size inb_S256x1024_S256x1024_0_0).toLoadRect (View.loadsAt_vmem h_S256x1024))
  let ha : Vec F S256x1024 .bf16 ← Prog.lift (.load arg10 (Rect.unit (s := S256x1024) ![0, 0] S256x1024.size inb_S256x1024_S256x1024_0_0).toLoadRect (View.loadsAt_vmem h_S256x1024))
  have dcg : FVec F S256x1024 .f32 := mulf dp (extf .f32 (shapeCast S256x1024 ha shapeCasts_S256x1024_S256x1024) bitsLt_bf16_f32)
  let cg : Vec F S256x1024 .bf16 ← Prog.lift (.load arg9 (Rect.unit (s := S256x1024) ![0, 0] S256x1024.size inb_S256x1024_S256x1024_0_0).toLoadRect (View.loadsAt_vmem h_S256x1024))
  have dha : FVec F S256x1024 .f32 := mulf dp (extf .f32 (shapeCast S256x1024 cg shapeCasts_S256x1024_S256x1024) bitsLt_bf16_f32)
  let du : Vec F S256x1024 .f32 ← Prog.lift (.load arg18 (Rect.unit (s := S256x1024) ![0, 0] S256x1024.size inb_S256x1024_S256x1024_0_0).toLoadRect (View.loadsAt_vmem h_S256x1024))
  let g : Vec F S256x1024 .bf16 ← Prog.lift (.load arg12 (Rect.unit (s := S256x1024) ![0, 0] S256x1024.size inb_S256x1024_S256x1024_0_0).toLoadRect (View.loadsAt_vmem h_S256x1024))
  have sg : FVec F S256x1024 .f32 := logistic (extf .f32 (shapeCast S256x1024 g shapeCasts_S256x1024_S256x1024) bitsLt_bf16_f32)
  have da : FVec F S256x1024 .f32 := mulf du sg
  let a : Vec F S256x1024 .bf16 ← Prog.lift (.load arg11 (Rect.unit (s := S256x1024) ![0, 0] S256x1024.size inb_S256x1024_S256x1024_0_0).toLoadRect (View.loadsAt_vmem h_S256x1024))
  have dg : FVec F S256x1024 .f32 := mulf (mulf (mulf du (extf .f32 (shapeCast S256x1024 a shapeCasts_S256x1024_S256x1024) bitsLt_bf16_f32)) sg) (subf (broadcast S256x1024 (Scalar.ofBits .f32 0x3F800000#32)) sg)
  let _p : Vec F S256x1024 .bf16 ← Prog.lift (.load arg15 (Rect.unit (s := S256x4096) ![0, 0] S256x1024.size inb_S256x4096_S256x1024_0_0).toLoadRect (View.loadsAt_vmem h_S256x1024))
  Prog.lift (.store arg15 (Rect.unit (s := S256x4096) ![0, 0] S256x1024.size inb_S256x4096_S256x1024_0_0) (truncf .bf16 dcg bitsLt_bf16_f32) Finset.univ (View.stores_vmem h_S256x1024 (harg15.storeExact_slice rfl _ packedbf16_S256x4096_S256x1024_0_0) (fun _ => rfl)) (.inl rfl))
  let _q : Vec F S256x1024 .bf16 ← Prog.lift (.load arg15 (Rect.unit (s := S256x4096) ![0, 1024] S256x1024.size inb_S256x4096_S256x1024_0_1024).toLoadRect (View.loadsAt_vmem h_S256x1024))
  Prog.lift (.store arg15 (Rect.unit (s := S256x4096) ![0, 1024] S256x1024.size inb_S256x4096_S256x1024_0_1024) (truncf .bf16 dha bitsLt_bf16_f32) Finset.univ (View.stores_vmem h_S256x1024 (harg15.storeExact_slice rfl _ packedbf16_S256x4096_S256x1024_0_1024) (fun _ => rfl)) (.inl rfl))
  let _s : Vec F S256x1024 .bf16 ← Prog.lift (.load arg15 (Rect.unit (s := S256x4096) ![0, 2048] S256x1024.size inb_S256x4096_S256x1024_0_2048).toLoadRect (View.loadsAt_vmem h_S256x1024))
  Prog.lift (.store arg15 (Rect.unit (s := S256x4096) ![0, 2048] S256x1024.size inb_S256x4096_S256x1024_0_2048) (truncf .bf16 da bitsLt_bf16_f32) Finset.univ (View.stores_vmem h_S256x1024 (harg15.storeExact_slice rfl _ packedbf16_S256x4096_S256x1024_0_2048) (fun _ => rfl)) (.inl rfl))
  let _t : Vec F S256x1024 .bf16 ← Prog.lift (.load arg15 (Rect.unit (s := S256x4096) ![0, 3072] S256x1024.size inb_S256x4096_S256x1024_0_3072).toLoadRect (View.loadsAt_vmem h_S256x1024))
  Prog.lift (.store arg15 (Rect.unit (s := S256x4096) ![0, 3072] S256x1024.size inb_S256x4096_S256x1024_0_3072) (truncf .bf16 dg bitsLt_bf16_f32) Finset.univ (View.stores_vmem h_S256x1024 (harg15.storeExact_slice rfl _ packedbf16_S256x4096_S256x1024_0_3072) (fun _ => rfl)) (.inl rfl))
  addRow arg16 3 (by decide) dcg
  addRow arg16 4 (by decide) dha
  addRow arg16 5 (by decide) da
  addRow arg16 6 (by decide) dg

/-- The sublane sums of the taps' gradients go into the small results, from row `o`. -/
def collect {n : ℕ} (acc : Memref sig .tc .vmem (TS n) .f32) (sm : Memref sig .tc .vmem S40x1024 .f32)
    (o : ℕ) (ho : o + n ≤ 40) : List (Fin n) → Prog (TpuEff nD τ sig (Elt F) Λ₀ .tc) PUnit
  | [] => pure ⟨⟩
  | k :: ks => do
    let x : Vec F S1x8x1024 .f32 ← Prog.lift (.load acc (Rect.unit (s := TS n) ![k.val, 0, 0] S1x8x1024.size (tapAll_inb k)).toLoadRect (View.loadsAt_vmem h_S1x8x1024))
    let _y : Vec F S1x1024 .f32 ← Prog.lift (.load sm (Rect.unit (s := S40x1024) ![o + k.val, 0] S1x1024.size (row_inb (o + k.val) (by have := k.isLt; omega))).toLoadRect (View.loadsAt_vmem h_S1x1024))
    Prog.lift (.store sm (Rect.unit (s := S40x1024) ![o + k.val, 0] S1x1024.size (row_inb (o + k.val) (by have := k.isLt; omega)))
      (shapeCast S1x1024 (multiReduction .add [0] S1024 (shapeCast S8x1024 x shapeCasts_S1x8x1024_S8x1024) 0x00000000#32 reduces_S8x1024_S1024 (.inl rfl) rfl) shapeCasts_S1024_S1x1024)
      Finset.univ (View.stores_vmem_bits_univ h_S1x1024 rfl) (.inl rfl))
    collect acc sm o ho ks

/-- What the last point does after its tile. -/
def finish (arg16 : Memref sig .tc .vmem S40x1024 .f32) (arg21 : Memref sig .tc .vmem S3x8x1024 .f32)
    (arg22 : Memref sig .tc .vmem S31x8x1024 .f32) : Prog (TpuEff nD τ sig (Elt F) Λ₀ .tc) PUnit := do
  collect (n := 3) arg21 arg16 0 (by decide) [0, 1, 2]
  collect (n := 31) arg22 arg16 8 (by decide) [0, 1, 2, 3, 4, 5, 6, 7, 8, 9, 10, 11, 12, 13, 14, 15, 16, 17, 18, 19, 20, 21, 22, 23, 24, 25, 26, 27, 28, 29, 30]

end Cert.BwdConvIdeal.Loops

end
-- ==== Proof.BwdConv.Steps.lean ====
module

public import proofs.«01_k».proof.Proof.BwdConv.Struct
public import proofs.«01_k».proof.Proof.Gen.BwdConvIdeal.Points
public import proofs.«01_k».proof.Proof.Gen.BwdConvIdeal.Launch
public import Idealize.ShloMosaic.Lib.Pipeline.FrameBody
public import Idealize.ShloMosaic.Lib.Tactic
public import Idealize.ShloMosaic.Lib.VecWindow

@[expose] public section

set_option maxRecDepth 16384

noncomputable section

namespace Cert.BwdConvIdeal.Loops

open Cert.BwdConvIdeal Cert.BwdConvIdeal.Gen
open Idealize.ShloMosaic TcCoe Tactic
open Idealize.SL RA BI BIBase Laws ProofMode Sem
open Pipeline (Dat BodyObligation)

attribute [local instance] Cert.BwdConvIdeal.Gen.facts

variable {F : FTy → Type} [FloatOps F]

local notation "𝕄" => MT nD τ sig Unit (Elt F) ℕ (UR sig nD τ) ℕ

/-- The program's weakest precondition. -/
abbrev W {α : Type} (c : Dev nD) (p : Prog (TpuEff nD τ sig (Elt F) Λ₀ .tc) α) (K : α → sProp 𝕄) : sProp 𝕄 :=
  wp frame (wpE (defs₀ (F := F)) Variants.none c.tc none) Set.univ p K

/-- One text after another. -/
theorem W_bind {α β : Type} (c : Dev nD) (p : Prog (TpuEff nD τ sig (Elt F) Λ₀ .tc) α) (k : α → Prog (TpuEff nD τ sig (Elt F) Λ₀ .tc) β)
    (K : β → sProp 𝕄) : W c (p >>= k) K = W c p (fun x => W c (k x) K) := wp_bind _ _ _ p k K

/-- A load reads its window of what the buffer holds. -/
theorem load_win {s : Shape} {e : EltTy} {α : Type} (c : Dev nD) (M : Memref sig .tc .vmem s e) (x : Vec F s e)
    (off size : Fin s.rank → ℕ) (inb : ∀ a, off a + size a ≤ s.size a) (h) (k : Vec F ⟨s.rank, size⟩ e → Prog (TpuEff nD τ sig (Elt F) Λ₀ .tc) α) (K : α → sProp 𝕄) :
    iprop(owns c.tc M fullShare x ∗ (owns c.tc M fullShare x -∗ W c (k (VecWindow.window x off size inb)) K))
      ⊢ W c (Prog.lift (.load M (Rect.unit (s := s) off size inb).toLoadRect h) >>= k) K := by
  unfold owns W
  show _ ⊢ wp _ _ _ (Prog.op (.load M (Rect.unit (s := s) off size inb).toLoadRect h) k) K
  iintro ⟨⟨%f, %hf, H⟩, Hk⟩
  subst hf
  sl_step
  iapply Hk
  iexists _; isplitr; swap; iexact H; ipureintro; rfl

/-- A store puts its piece into what the buffer holds. -/
theorem store_put {s : Shape} {e : EltTy} {α : Type} (c : Dev nD) (M : Memref sig .tc .vmem s e) (x : Vec F s e)
    (off size : Fin s.rank → ℕ) (inb : ∀ a, off a + size a ≤ s.size a) (w : Vec F ⟨s.rank, size⟩ e) (h h') (k : PUnit → Prog (TpuEff nD τ sig (Elt F) Λ₀ .tc) α) (K : α → sProp 𝕄) :
    iprop(owns c.tc M fullShare x ∗ (owns c.tc M fullShare (VecWindow.put x off size w) -∗ W c (k ⟨⟩) K))
      ⊢ W c (Prog.lift (.store M (Rect.unit (s := s) off size inb) w Finset.univ h h') >>= k) K := by
  unfold owns W
  show _ ⊢ wp _ _ _ (Prog.op (.store M (Rect.unit (s := s) off size inb) w Finset.univ h h') k) K
  iintro ⟨⟨%f, %hf, H⟩, Hk⟩
  subst hf
  sl_step
  iapply Hk
  iexists _; isplitr; swap; iexact H; ipureintro; exact View.read_writes_cons_put M.view f inb w [] rfl

/-- A returned value. -/
theorem pure_run {α : Type} (c : Dev nD) (a : α) (K : α → sProp 𝕄) : K a ⊢ W c (pure a : Prog (TpuEff nD τ sig (Elt F) Λ₀ .tc) α) K := by
  unfold W
  show _ ⊢ wp _ _ _ (Prog.ret a) K
  iintro H
  sl_step
  iexact H

/-- A store that ends the text. -/
theorem store_end {s : Shape} {e : EltTy} (c : Dev nD) (M : Memref sig .tc .vmem s e) (x : Vec F s e)
    (off size : Fin s.rank → ℕ) (inb : ∀ a, off a + size a ≤ s.size a) (w : Vec F ⟨s.rank, size⟩ e) (h h') (K : PUnit → sProp 𝕄) :
    iprop(owns c.tc M fullShare x ∗ (owns c.tc M fullShare (VecWindow.put x off size w) -∗ K ⟨⟩))
      ⊢ W c (Prog.lift (.store M (Rect.unit (s := s) off size inb) w Finset.univ h h')) K := by
  rw [← Prog.bind_pure (Prog.lift _)]
  iintro ⟨H, Hk⟩
  iapply store_put; isplitl [H]; · iexact H
  iintro H
  iapply pure_run
  iapply Hk
  iexact H

/-- A window of the whole is the whole. -/
theorem window_whole {s : Shape} {α : Type} (x : s.Idx → α) (off : Fin s.rank → ℕ) (inb : ∀ a, off a + s.size a ≤ s.size a) :
    VecWindow.window x off s.size inb = x := by
  funext y
  refine congrArg x (funext fun a => Fin.ext ?_)
  show off a + 1 * (y a).val = (y a).val
  have := inb a
  omega

/-- A put of the whole is the piece. -/
theorem put_whole {s : Shape} {α : Type} (x : s.Idx → α) (off : Fin s.rank → ℕ) (inb : ∀ a, off a + s.size a ≤ s.size a) (w : s.Idx → α) :
    VecWindow.put x off s.size w = w := by
  have h := VecWindow.window_put_same x off s.size inb w
  rwa [window_whole] at h

end Cert.BwdConvIdeal.Loops

end
-- ==== Proof.BwdConv.Tiles.lean ====
module

public import proofs.«01_k».proof.Proof.BwdConv.Steps

@[expose] public section

set_option maxRecDepth 16384

noncomputable section

namespace Cert.BwdConvIdeal.Loops

open Cert.BwdConvIdeal Cert.BwdConvIdeal.Gen
open Idealize.ShloMosaic TcCoe Tactic
open Idealize.SL RA BI BIBase Laws ProofMode Sem
open Pipeline (Dat BodyObligation)

attribute [local instance] Cert.BwdConvIdeal.Gen.facts

variable {F : FTy → Type} [FloatOps F]

local notation "𝕄" => MT nD τ sig Unit (Elt F) ℕ (UR sig nD τ) ℕ

/-- A tap's accumulator after a block's rows. -/
def tapAcc {n : ℕ} (G : Vec F (TS n) .f32) (c : Fin 8) (sh : FVec F S12x8x128 .f32) (u : FVec F S8x8x128 .f32) (k : Fin n) (m : Fin 4) : Vec F (TS n) .f32 :=
  VecWindow.put G ![k.val, 0, 128 * c.val] S1x8x128.size
    (shapeCast S1x8x128 (addf (shapeCast S8x128 (VecWindow.window G ![k.val, 0, 128 * c.val] S1x8x128.size (tap_inb k c)) shapeCasts_S1x8x128_S8x128)
      (multiReduction .add [0] S8x128 (mulf (extractStridedSlice S8x8x128 ![m.val, 0, 0] sh (win_slices m)) u) 0x00000000#32 reduces_S8x8x128_S8x128 (.inl rfl) rfl)) shapeCasts_S8x128_S1x8x128)

/-- The input's gradient after a tap. -/
def tapDu {n : ℕ} (X : Vec F (TS n) .f32) (c : Fin 8) (sh : FVec F S12x8x128 .f32) (du : FVec F S8x8x128 .f32) (k : Fin n) (m : Fin 4) : FVec F S8x8x128 .f32 :=
  addf du (mulf (extractStridedSlice S8x8x128 ![m.val, 0, 0] sh (win_slices m))
    (broadcastTo S8x8x128 (shapeCast S1x8x128 (shapeCast S8x128 (VecWindow.window X ![k.val, 0, 128 * c.val] S1x8x128.size (tap_inb k c)) shapeCasts_S1x8x128_S8x128) shapeCasts_S8x128_S1x8x128) broadcasts_S1x8x128_S8x8x128))

/-- The accumulators and the input's gradient after the taps of a phase. -/
def tapsVal {n : ℕ} (X : Vec F (TS n) .f32) (c : Fin 8) (sh : FVec F S12x8x128 .f32) (u : FVec F S8x8x128 .f32) :
    List (Fin n × Fin 4) → Vec F (TS n) .f32 × FVec F S8x8x128 .f32 → Vec F (TS n) .f32 × FVec F S8x8x128 .f32
  | [], p => p
  | t :: ts, p => tapsVal X c sh u ts (tapAcc p.1 c sh u t.1 t.2, tapDu X c sh p.2 t.1 t.2)

/-- The accumulators and the input's gradient after the phases. -/
def phasesVal {n : ℕ} (X : Vec F (TS n) .f32) (c : Fin 8) (blk : FVec F S96x128 .f32) (u : FVec F S8x8x128 .f32) :
    List (ℕ × List (Fin n × Fin 4)) → Vec F (TS n) .f32 × FVec F S8x8x128 .f32 → Vec F (TS n) .f32 × FVec F S8x8x128 .f32
  | [], p => p
  | q :: qs, p => phasesVal X c blk u qs (tapsVal X c (phase blk q.1) u q.2 p)

/-- The window around a block, of the tile and its neighbours' rows. -/
def winVal (x : Vec F S256x1024 .f32) (pv nx : Vec F S16x1024 .f32) (r : Fin 4) (c : Fin 8) : FVec F S96x128 .f32 :=
  match r with
  | 0 => concatenate S96x128 0 [⟨S16x128, extractStridedSlice S16x128 ![0, 128 * c.val] pv (edge_slices c)⟩, ⟨S80x128, VecWindow.window x ![0, 128 * c.val] S80x128.size (lo_inb c)⟩] concatenates_S16x128_S80x128_S96x128_d0
  | 1 => VecWindow.window x ![48, 128 * c.val] S96x128.size (mid_inb 48 (by decide) c)
  | 2 => VecWindow.window x ![112, 128 * c.val] S96x128.size (mid_inb 112 (by decide) c)
  | 3 => concatenate S96x128 0 [⟨S80x128, VecWindow.window x ![176, 128 * c.val] S80x128.size (hi_inb c)⟩, ⟨S16x128, extractStridedSlice S16x128 ![0, 128 * c.val] nx (edge_slices c)⟩] concatenates_S80x128_S16x128_S96x128_d0

/-- A block's input in groups of eight rows. -/
def uVal (y : Vec F S256x1024 .f32) (r : Fin 4) (c : Fin 8) : FVec F S8x8x128 .f32 :=
  shapeCast S8x8x128 (shapeCast S64x128 (VecWindow.window y ![64 * r.val, 128 * c.val] S64x128.size (blk_inb r c)) shapeCasts_S64x128_S64x128) shapeCasts_S64x128_S8x8x128

/-- What a block's phases leave, from the accumulators `G`. -/
def blkVal {n : ℕ} (ps : List (ℕ × List (Fin n × Fin 4))) (x : Vec F S256x1024 .f32) (pv nx : Vec F S16x1024 .f32)
    (y : Vec F S256x1024 .f32) (X G : Vec F (TS n) .f32) (r : Fin 4) (c : Fin 8) : Vec F (TS n) .f32 × FVec F S8x8x128 .f32 :=
  phasesVal X c (winVal x pv nx r c) (uVal y r c) ps (G, broadcast S8x8x128 (Scalar.ofBits .f32 0x00000000#32))

/-- The accumulators and the tile's gradient after a block. -/
def blockVal {n : ℕ} (ps : List (ℕ × List (Fin n × Fin 4))) (x : Vec F S256x1024 .f32) (pv nx : Vec F S16x1024 .f32)
    (y : Vec F S256x1024 .f32) (X : Vec F (TS n) .f32) (r : Fin 4) (c : Fin 8) (p : Vec F (TS n) .f32 × Vec F S256x1024 .f32) :
    Vec F (TS n) .f32 × Vec F S256x1024 .f32 :=
  ((blkVal ps x pv nx y X p.1 r c).1,
    VecWindow.put p.2 ![64 * r.val, 128 * c.val] S64x128.size
      (shapeCast S64x128 (shapeCast S64x128 (blkVal ps x pv nx y X p.1 r c).2 shapeCasts_S8x8x128_S64x128) shapeCasts_S64x128_S64x128))

/-- The accumulators and the tile's gradient after the blocks. -/
def blocksVal {n : ℕ} (ps : List (ℕ × List (Fin n × Fin 4))) (x : Vec F S256x1024 .f32) (pv nx : Vec F S16x1024 .f32)
    (y : Vec F S256x1024 .f32) (X : Vec F (TS n) .f32) :
    List (Fin 4 × Fin 8) → Vec F (TS n) .f32 × Vec F S256x1024 .f32 → Vec F (TS n) .f32 × Vec F S256x1024 .f32
  | [], p => p
  | b :: bs, p => blocksVal ps x pv nx y X bs (blockVal ps x pv nx y X b.1 b.2 p)

/-- Neighbouring rows, or zeros past the ends. -/
def edge (b : BitVec 1) (p : Vec F S16x1024 .f32) : Vec F S16x1024 .f32 :=
  Scalar.select b p (broadcast S16x1024 (Scalar.ofBits .f32 0x00000000#32))

/-- The spread weights. -/
def spreadVal {n : ℕ} (w : Vec F (WS n) .f32) : List (Fin n) → Vec F (TS n) .f32 → Vec F (TS n) .f32
  | [], X => X
  | k :: ks, X => spreadVal w ks (VecWindow.put X ![k.val, 0, 0] S1x8x1024.size
      (shapeCast S1x8x1024 (broadcastTo S8x1024 (shapeCast S1x1024 (VecWindow.window w ![k.val, 0] S1x1024.size (row_inb k.val k.isLt)) shapeCasts_S1x1024_S1x1024) broadcasts_S1x1024_S8x1024) shapeCasts_S8x1024_S1x8x1024))

/-- The small results after row `q` took the column sums of `d`. -/
def addRowVal (S : Vec F S40x1024 .f32) (q : ℕ) (hq : q < 40) (d : FVec F S256x1024 .f32) : Vec F S40x1024 .f32 :=
  VecWindow.put S ![q, 0] S1x1024.size
    (addf (shapeCast S1x1024 (VecWindow.window S ![q, 0] S1x1024.size (row_inb q hq)) shapeCasts_S1x1024_S1x1024) (shapeCast S1x1024 (multiReduction .add [0] S1024 d 0x00000000#32 reduces_S256x1024_S1024 (.inl rfl) rfl) shapeCasts_S1024_S1x1024))

/-- The small results after the taps' sums went in. -/
def collectVal {n : ℕ} (G : Vec F (TS n) .f32) (o : ℕ) : List (Fin n) → Vec F S40x1024 .f32 → Vec F S40x1024 .f32
  | [], S => S
  | k :: ks, S => collectVal G o ks (VecWindow.put S ![o + k.val, 0] S1x1024.size
      (shapeCast S1x1024 (multiReduction .add [0] S1024 (shapeCast S8x1024 (VecWindow.window G ![k.val, 0, 0] S1x8x1024.size (tapAll_inb k)) shapeCasts_S1x8x1024_S8x1024) 0x00000000#32 reduces_S8x1024_S1024 (.inl rfl) rfl) shapeCasts_S1024_S1x1024))

/-- The gradients of the projection's pieces. -/
def gateC (dp : Vec F S256x1024 .f32) (z : Vec F S256x1024 .bf16) : FVec F S256x1024 .f32 :=
  mulf dp (extf .f32 (shapeCast S256x1024 z shapeCasts_S256x1024_S256x1024) bitsLt_bf16_f32)
/-- The gate. -/
def sgm (g : Vec F S256x1024 .bf16) : FVec F S256x1024 .f32 := logistic (extf .f32 (shapeCast S256x1024 g shapeCasts_S256x1024_S256x1024) bitsLt_bf16_f32)
/-- The gradient of the gate's argument. -/
def gateG (du : Vec F S256x1024 .f32) (a g : Vec F S256x1024 .bf16) : FVec F S256x1024 .f32 :=
  mulf (mulf (mulf du (extf .f32 (shapeCast S256x1024 a shapeCasts_S256x1024_S256x1024) bitsLt_bf16_f32)) (sgm g)) (subf (broadcast S256x1024 (Scalar.ofBits .f32 0x3F800000#32)) (sgm g))

/-- The tile of the projection's gradient. -/
def projVal (dp du : Vec F S256x1024 .f32) (cg ha a g : Vec F S256x1024 .bf16) (P : Vec F S256x4096 .bf16) : Vec F S256x4096 .bf16 :=
  VecWindow.put (VecWindow.put (VecWindow.put (VecWindow.put P ![0, 0] S256x1024.size (truncf .bf16 (gateC dp ha) bitsLt_bf16_f32))
    ![0, 1024] S256x1024.size (truncf .bf16 (gateC dp cg) bitsLt_bf16_f32))
    ![0, 2048] S256x1024.size (truncf .bf16 (mulf du (sgm g)) bitsLt_bf16_f32))
    ![0, 3072] S256x1024.size (truncf .bf16 (gateG du a g) bitsLt_bf16_f32)

/-- The small results after a tile. -/
def rowsVal (dp du : Vec F S256x1024 .f32) (cg ha a g : Vec F S256x1024 .bf16) (S : Vec F S40x1024 .f32) : Vec F S40x1024 .f32 :=
  addRowVal (addRowVal (addRowVal (addRowVal S 3 (by decide) (gateC dp ha)) 4 (by decide) (gateC dp cg)) 5 (by decide) (mulf du (sgm g))) 6 (by decide) (gateG du a g)

theorem tapStep_run {n : ℕ} (d : Dev nD) (wb acc : Memref sig .tc .vmem (TS n) .f32) (c : Fin 8)
    (sh : FVec F S12x8x128 .f32) (u du : FVec F S8x8x128 .f32) (k : Fin n) (m : Fin 4) (X G : Vec F (TS n) .f32) (K : FVec F S8x8x128 .f32 → sProp 𝕄) :
    iprop(owns (d : Thread nD τ) wb fullShare X ∗ owns (d : Thread nD τ) acc fullShare G
        ∗ (iprop(owns (d : Thread nD τ) wb fullShare X ∗ owns (d : Thread nD τ) acc fullShare (tapAcc G c sh u k m)) -∗ K (tapDu X c sh du k m)))
      ⊢ W d (tapStep wb acc c sh u du k m) K := by
  unfold tapStep tapDu tapAcc
  iintro ⟨HX, HG, Hk⟩
  iapply load_win; isplitl [HX]; · iexact HX
  iintro HX
  iapply load_win; isplitl [HG]; · iexact HG
  iintro HG
  iapply load_win; isplitl [HG]; · iexact HG
  iintro HG
  iapply store_put; isplitl [HG]; · iexact HG
  iintro HG
  iapply pure_run
  iapply Hk
  isplitl [HX]; · iexact HX
  iexact HG

theorem tapsRun_run {n : ℕ} (d : Dev nD) (wb acc : Memref sig .tc .vmem (TS n) .f32) (c : Fin 8)
    (sh : FVec F S12x8x128 .f32) (u : FVec F S8x8x128 .f32) (X : Vec F (TS n) .f32) (K : FVec F S8x8x128 .f32 → sProp 𝕄)
    (ts : List (Fin n × Fin 4)) (G : Vec F (TS n) .f32) (du : FVec F S8x8x128 .f32) :
    iprop(owns (d : Thread nD τ) wb fullShare X ∗ owns (d : Thread nD τ) acc fullShare G
        ∗ (iprop(owns (d : Thread nD τ) wb fullShare X ∗ owns (d : Thread nD τ) acc fullShare (tapsVal X c sh u ts (G, du)).1) -∗ K (tapsVal X c sh u ts (G, du)).2))
      ⊢ W d (tapsRun wb acc c sh u ts du) K := by
  induction ts generalizing G du with
  | nil =>
    dsimp only [tapsVal, phasesVal]
    iintro ⟨HX, HG, Hk⟩
    iapply pure_run
    iapply Hk
    isplitl [HX]; · iexact HX
    iexact HG
  | cons t ts ih =>
    unfold tapsRun
    rw [W_bind]
    iintro ⟨HX, HG, Hk⟩
    iapply tapStep_run; isplitl [HX]; · iexact HX
    isplitl [HG]; · iexact HG
    iintro ⟨HX, HG⟩
    iapply ih; isplitl [HX]; · iexact HX
    isplitl [HG]; · iexact HG
    iexact Hk

theorem phasesRun_run {n : ℕ} (d : Dev nD) (wb acc : Memref sig .tc .vmem (TS n) .f32) (c : Fin 8)
    (blk : FVec F S96x128 .f32) (u : FVec F S8x8x128 .f32) (X : Vec F (TS n) .f32) (K : FVec F S8x8x128 .f32 → sProp 𝕄)
    (ps : List (ℕ × List (Fin n × Fin 4))) (G : Vec F (TS n) .f32) (du : FVec F S8x8x128 .f32) :
    iprop(owns (d : Thread nD τ) wb fullShare X ∗ owns (d : Thread nD τ) acc fullShare G
        ∗ (iprop(owns (d : Thread nD τ) wb fullShare X ∗ owns (d : Thread nD τ) acc fullShare (phasesVal X c blk u ps (G, du)).1) -∗ K (phasesVal X c blk u ps (G, du)).2))
      ⊢ W d (phasesRun wb acc c blk u ps du) K := by
  induction ps generalizing G du with
  | nil =>
    dsimp only [tapsVal, phasesVal]
    iintro ⟨HX, HG, Hk⟩
    iapply pure_run
    iapply Hk
    isplitl [HX]; · iexact HX
    iexact HG
  | cons p ps ih =>
    unfold phasesRun
    rw [W_bind]
    iintro ⟨HX, HG, Hk⟩
    iapply tapsRun_run; isplitl [HX]; · iexact HX
    isplitl [HG]; · iexact HG
    iintro ⟨HX, HG⟩
    iapply ih; isplitl [HX]; · iexact HX
    isplitl [HG]; · iexact HG
    iexact Hk

theorem window_run (d : Dev nD) (dv : Memref sig .tc .vmem S256x1024 .f32) (pv nx : Vec F S16x1024 .f32) (r : Fin 4) (c : Fin 8)
    (x : Vec F S256x1024 .f32) (K : FVec F S96x128 .f32 → sProp 𝕄) :
    iprop(owns (d : Thread nD τ) dv fullShare x ∗ (owns (d : Thread nD τ) dv fullShare x -∗ K (winVal x pv nx r c)))
      ⊢ W d (window dv pv nx r c) K := by
  match r with
  | 0 | 1 | 2 | 3 =>
    dsimp only [winVal]
    iintro ⟨HX, Hk⟩
    iapply load_win; isplitl [HX]; · iexact HX
    iintro HX
    iapply pure_run
    iapply Hk
    iexact HX

theorem block_run {n : ℕ} (d : Dev nD) (ps : List (ℕ × List (Fin n × Fin 4))) (dv : Memref sig .tc .vmem S256x1024 .f32)
    (pv nx : Vec F S16x1024 .f32) (ur : Memref sig .tc .vmem S256x1024 .f32)
    (wb acc : Memref sig .tc .vmem (TS n) .f32) (dst : Memref sig .tc .vmem S256x1024 .f32) (r : Fin 4) (c : Fin 8)
    (x y : Vec F S256x1024 .f32) (X : Vec F (TS n) .f32) (p : Vec F (TS n) .f32 × Vec F S256x1024 .f32) (K : PUnit → sProp 𝕄) :
    iprop(owns (d : Thread nD τ) dv fullShare x ∗ owns (d : Thread nD τ) ur fullShare y ∗ owns (d : Thread nD τ) wb fullShare X
        ∗ owns (d : Thread nD τ) acc fullShare p.1 ∗ owns (d : Thread nD τ) dst fullShare p.2
        ∗ (iprop(owns (d : Thread nD τ) dv fullShare x ∗ owns (d : Thread nD τ) ur fullShare y ∗ owns (d : Thread nD τ) wb fullShare X
          ∗ owns (d : Thread nD τ) acc fullShare (blockVal ps x pv nx y X r c p).1 ∗ owns (d : Thread nD τ) dst fullShare (blockVal ps x pv nx y X r c p).2) -∗ K ⟨⟩))
      ⊢ W d (block ps dv pv nx ur wb acc dst r c) K := by
  unfold block
  rw [W_bind]
  iintro ⟨Hx, Hy, HX, HG, HD, Hk⟩
  iapply window_run; isplitl [Hx]; · iexact Hx
  iintro Hx
  iapply load_win; isplitl [Hy]; · iexact Hy
  iintro Hy
  rw [W_bind]
  iapply phasesRun_run; isplitl [HX]; · iexact HX
  isplitl [HG]; · iexact HG
  iintro ⟨HX, HG⟩
  iapply load_win; isplitl [HD]; · iexact HD
  iintro HD
  iapply store_end; isplitl [HD]; · iexact HD
  iintro HD
  iapply Hk
  isplitl [Hx]; · iexact Hx
  isplitl [Hy]; · iexact Hy
  isplitl [HX]; · iexact HX
  isplitl [HG]; · iexact HG
  iexact HD

theorem blocksRun_run {n : ℕ} (d : Dev nD) (ps : List (ℕ × List (Fin n × Fin 4))) (dv : Memref sig .tc .vmem S256x1024 .f32)
    (pv nx : Vec F S16x1024 .f32) (ur : Memref sig .tc .vmem S256x1024 .f32)
    (wb acc : Memref sig .tc .vmem (TS n) .f32) (dst : Memref sig .tc .vmem S256x1024 .f32)
    (x y : Vec F S256x1024 .f32) (X : Vec F (TS n) .f32) (K : PUnit → sProp 𝕄)
    (bs : List (Fin 4 × Fin 8)) (p : Vec F (TS n) .f32 × Vec F S256x1024 .f32) :
    iprop(owns (d : Thread nD τ) dv fullShare x ∗ owns (d : Thread nD τ) ur fullShare y ∗ owns (d : Thread nD τ) wb fullShare X
        ∗ owns (d : Thread nD τ) acc fullShare p.1 ∗ owns (d : Thread nD τ) dst fullShare p.2
        ∗ (iprop(owns (d : Thread nD τ) dv fullShare x ∗ owns (d : Thread nD τ) ur fullShare y ∗ owns (d : Thread nD τ) wb fullShare X
          ∗ owns (d : Thread nD τ) acc fullShare (blocksVal ps x pv nx y X bs p).1 ∗ owns (d : Thread nD τ) dst fullShare (blocksVal ps x pv nx y X bs p).2) -∗ K ⟨⟩))
      ⊢ W d (blocksRun ps dv pv nx ur wb acc dst bs) K := by
  induction bs generalizing p with
  | nil =>
    iintro ⟨Hx, Hy, HX, HG, HD, Hk⟩
    iapply pure_run
    iapply Hk
    isplitl [Hx]; · iexact Hx
    isplitl [Hy]; · iexact Hy
    isplitl [HX]; · iexact HX
    isplitl [HG]; · iexact HG
    iexact HD
  | cons b bs ih =>
    unfold blocksRun
    rw [W_bind]
    iintro ⟨Hx, Hy, HX, HG, HD, Hk⟩
    iapply block_run; isplitl [Hx]; · iexact Hx
    isplitl [Hy]; · iexact Hy
    isplitl [HX]; · iexact HX
    isplitl [HG]; · iexact HG
    isplitl [HD]; · iexact HD
    iintro ⟨Hx, Hy, HX, HG, HD⟩
    iapply ih; isplitl [Hx]; · iexact Hx
    isplitl [Hy]; · iexact Hy
    isplitl [HX]; · iexact HX
    isplitl [HG]; · iexact HG
    isplitl [HD]; · iexact HD
    iexact Hk

theorem conv_run {n : ℕ} (d : Dev nD) (ps : List (ℕ × List (Fin n × Fin 4))) (a0 : BitVec 32) (dv : Memref sig .tc .vmem S256x1024 .f32)
    (pr nr : Memref sig .tc .vmem S16x1024 .f32) (ur : Memref sig .tc .vmem S256x1024 .f32)
    (wb acc : Memref sig .tc .vmem (TS n) .f32) (dst : Memref sig .tc .vmem S256x1024 .f32)
    (x y : Vec F S256x1024 .f32) (xp xn : Vec F S16x1024 .f32) (X : Vec F (TS n) .f32) (K : PUnit → sProp 𝕄)
    (p : Vec F (TS n) .f32 × Vec F S256x1024 .f32) :
    iprop(owns (d : Thread nD τ) dv fullShare x ∗ owns (d : Thread nD τ) pr fullShare xp ∗ owns (d : Thread nD τ) nr fullShare xn
        ∗ owns (d : Thread nD τ) ur fullShare y ∗ owns (d : Thread nD τ) wb fullShare X
        ∗ owns (d : Thread nD τ) acc fullShare p.1 ∗ owns (d : Thread nD τ) dst fullShare p.2
        ∗ (iprop(owns (d : Thread nD τ) dv fullShare x ∗ owns (d : Thread nD τ) pr fullShare xp ∗ owns (d : Thread nD τ) nr fullShare xn
          ∗ owns (d : Thread nD τ) ur fullShare y ∗ owns (d : Thread nD τ) wb fullShare X
          ∗ owns (d : Thread nD τ) acc fullShare (blocksVal ps x (edge (Scalar.cmpi .sgt a0 0#32) xp) (edge (Scalar.cmpi .slt a0 31#32) xn) y X blocks p).1
          ∗ owns (d : Thread nD τ) dst fullShare (blocksVal ps x (edge (Scalar.cmpi .sgt a0 0#32) xp) (edge (Scalar.cmpi .slt a0 31#32) xn) y X blocks p).2) -∗ K ⟨⟩))
      ⊢ W d (conv ps a0 dv pr nr ur wb acc dst) K := by
  unfold conv
  iintro ⟨Hx, Hp, Hn, Hy, HX, HG, HD, Hk⟩
  iapply load_win; isplitl [Hp]; · iexact Hp
  iintro Hp
  iapply load_win; isplitl [Hn]; · iexact Hn
  iintro Hn
  rw [window_whole (s := S16x1024), window_whole (s := S16x1024)]
  iapply blocksRun_run; isplitl [Hx]; · iexact Hx
  isplitl [Hy]; · iexact Hy
  isplitl [HX]; · iexact HX
  isplitl [HG]; · iexact HG
  isplitl [HD]; · iexact HD
  iintro ⟨Hx, Hy, HX, HG, HD⟩
  iapply Hk
  isplitl [Hx]; · iexact Hx
  isplitl [Hp]; · iexact Hp
  isplitl [Hn]; · iexact Hn
  isplitl [Hy]; · iexact Hy
  isplitl [HX]; · iexact HX
  isplitl [HG]; · iexact HG
  iexact HD

end Cert.BwdConvIdeal.Loops

end
-- ==== Proof.BwdConv.Indep.lean ====
module

public import proofs.«01_k».proof.Proof.BwdConv.Tiles
public import Idealize.ShloMosaic.Lib.Pipeline.Value

@[expose] public section

set_option maxRecDepth 16384

noncomputable section

namespace Cert.BwdConvIdeal.Loops

open Cert.BwdConvIdeal Cert.BwdConvIdeal.Gen
open Idealize.ShloMosaic TcCoe Tactic
open Idealize.SL RA BI BIBase Laws ProofMode Sem
open Pipeline (Dat BodyObligation)

attribute [local instance] Cert.BwdConvIdeal.Gen.facts

variable {F : FTy → Type} [FloatOps F]

local notation "𝕄" => MT nD τ sig Unit (Elt F) ℕ (UR sig nD τ) ℕ

/-- The input's gradient after the taps of a phase, alone. -/
def duTaps {n : ℕ} (X : Vec F (TS n) .f32) (c : Fin 8) (sh : FVec F S12x8x128 .f32) :
    List (Fin n × Fin 4) → FVec F S8x8x128 .f32 → FVec F S8x8x128 .f32
  | [], du => du
  | t :: ts, du => duTaps X c sh ts (tapDu X c sh du t.1 t.2)

/-- The input's gradient after the phases, alone. -/
def duPhases {n : ℕ} (X : Vec F (TS n) .f32) (c : Fin 8) (blk : FVec F S96x128 .f32) :
    List (ℕ × List (Fin n × Fin 4)) → FVec F S8x8x128 .f32 → FVec F S8x8x128 .f32
  | [], du => du
  | q :: qs, du => duPhases X c blk qs (duTaps X c (phase blk q.1) q.2 du)

theorem tapsVal_snd {n : ℕ} (X : Vec F (TS n) .f32) (c : Fin 8) (sh : FVec F S12x8x128 .f32) (u : FVec F S8x8x128 .f32)
    (ts : List (Fin n × Fin 4)) (p : Vec F (TS n) .f32 × FVec F S8x8x128 .f32) :
    (tapsVal X c sh u ts p).2 = duTaps X c sh ts p.2 := by
  induction ts generalizing p with
  | nil => rfl
  | cons t ts ih => exact ih _

theorem phasesVal_snd {n : ℕ} (X : Vec F (TS n) .f32) (c : Fin 8) (blk : FVec F S96x128 .f32) (u : FVec F S8x8x128 .f32)
    (ps : List (ℕ × List (Fin n × Fin 4))) (p : Vec F (TS n) .f32 × FVec F S8x8x128 .f32) :
    (phasesVal X c blk u ps p).2 = duPhases X c blk ps p.2 := by
  induction ps generalizing p with
  | nil => rfl
  | cons q qs ih => exact (ih _).trans (congrArg (duPhases X c blk qs) (tapsVal_snd ..))

/-- The row block of a tile's entry. -/
def rOf (j : S256x1024.Idx) : Fin 4 := ⟨(j 0).val / 64, by have h : (j 0).val < 256 := (j 0).isLt; omega⟩
/-- The lane block of a tile's entry. -/
def cOf (j : S256x1024.Idx) : Fin 8 := ⟨(j 1).val / 128, by have h : (j 1).val < 1024 := (j 1).isLt; omega⟩
/-- The entry inside its block. -/
def inBlk (j : S256x1024.Idx) : S64x128.Idx := fun a => match a with
  | 0 => ⟨(j 0).val % 64, by show _ < 64; omega⟩
  | 1 => ⟨(j 1).val % 128, by show _ < 128; omega⟩

/-- The tile's gradient, entry by entry. -/
def dpT {n : ℕ} (ps : List (ℕ × List (Fin n × Fin 4))) (x : Vec F S256x1024 .f32) (pv nx : Vec F S16x1024 .f32) (X : Vec F (TS n) .f32) :
    Vec F S256x1024 .f32 := fun j =>
  shapeCast S64x128 (shapeCast S64x128 (duPhases X (cOf j) (winVal x pv nx (rOf j) (cOf j)) ps (broadcast S8x8x128 (Scalar.ofBits .f32 0x00000000#32)) : FVec F S8x8x128 .f32) shapeCasts_S8x8x128_S64x128) shapeCasts_S64x128_S64x128 (inBlk j)

theorem blocksVal_snd_apply {n : ℕ} (ps : List (ℕ × List (Fin n × Fin 4))) (x : Vec F S256x1024 .f32) (pv nx : Vec F S16x1024 .f32)
    (y : Vec F S256x1024 .f32) (X : Vec F (TS n) .f32) (bs : List (Fin 4 × Fin 8)) (p : Vec F (TS n) .f32 × Vec F S256x1024 .f32) (j : S256x1024.Idx) :
    (blocksVal ps x pv nx y X bs p).2 j = if (rOf j, cOf j) ∈ bs then dpT ps x pv nx X j else p.2 j := by
  induction bs generalizing p with
  | nil => rfl
  | cons b bs ih =>
    refine (ih _).trans ?_
    by_cases h : (rOf j, cOf j) ∈ bs
    · rw [if_pos h, if_pos (List.mem_cons_of_mem _ h)]
    rw [if_neg h]
    have h0 : (j 0).val < 256 := (j 0).isLt
    have h1 : (j 1).val < 1024 := (j 1).isLt
    by_cases hb : (rOf j, cOf j) = b
    · rw [if_pos (by rw [hb]; exact List.mem_cons_self)]
      subst hb
      show VecWindow.put p.2 _ _ _ j = _
      unfold VecWindow.put
      rw [dif_pos]
      swap
      · intro a
        fin_cases a
        · show 64 * ((j 0).val / 64) ≤ (j 0).val ∧ (j 0).val < 64 * ((j 0).val / 64) + 64; omega
        · show 128 * ((j 1).val / 128) ≤ (j 1).val ∧ (j 1).val < 128 * ((j 1).val / 128) + 128; omega
      unfold dpT blkVal
      rw [phasesVal_snd]
      refine congrArg _ (funext fun a => Fin.ext ?_)
      fin_cases a
      · show (j 0).val - 64 * ((j 0).val / 64) = (j 0).val % 64; omega
      · show (j 1).val - 128 * ((j 1).val / 128) = (j 1).val % 128; omega
    · rw [if_neg (by simp only [List.mem_cons, not_or]; exact ⟨hb, h⟩)]
      show VecWindow.put p.2 _ _ _ j = _
      unfold VecWindow.put
      rw [dif_neg]
      intro ha
      apply hb
      have a0 : 64 * b.1.val ≤ (j 0).val ∧ (j 0).val < 64 * b.1.val + 64 := ha 0
      have a1 : 128 * b.2.val ≤ (j 1).val ∧ (j 1).val < 128 * b.2.val + 128 := ha 1
      refine Prod.ext (Fin.ext ?_) (Fin.ext ?_)
      · show (j 0).val / 64 = b.1.val; omega
      · show (j 1).val / 128 = b.2.val; omega

theorem mem_blocks : ∀ (r : Fin 4) (c : Fin 8), (r, c) ∈ blocks := by decide

/-- Whatever the tile's gradient buffer held, the blocks leave the tile's gradient. -/
theorem blocksVal_snd {n : ℕ} (ps : List (ℕ × List (Fin n × Fin 4))) (x : Vec F S256x1024 .f32) (pv nx : Vec F S16x1024 .f32)
    (y : Vec F S256x1024 .f32) (X : Vec F (TS n) .f32) (p : Vec F (TS n) .f32 × Vec F S256x1024 .f32) :
    (blocksVal ps x pv nx y X blocks p).2 = dpT ps x pv nx X := by
  funext j
  rw [blocksVal_snd_apply, if_pos (mem_blocks _ _)]

/-- The accumulators after the blocks, alone. -/
def accBlocks {n : ℕ} (ps : List (ℕ × List (Fin n × Fin 4))) (x : Vec F S256x1024 .f32) (pv nx : Vec F S16x1024 .f32)
    (y : Vec F S256x1024 .f32) (X : Vec F (TS n) .f32) : List (Fin 4 × Fin 8) → Vec F (TS n) .f32 → Vec F (TS n) .f32
  | [], G => G
  | b :: bs, G => accBlocks ps x pv nx y X bs (blkVal ps x pv nx y X G b.1 b.2).1

theorem blocksVal_fst {n : ℕ} (ps : List (ℕ × List (Fin n × Fin 4))) (x : Vec F S256x1024 .f32) (pv nx : Vec F S16x1024 .f32)
    (y : Vec F S256x1024 .f32) (X : Vec F (TS n) .f32) (bs : List (Fin 4 × Fin 8)) (p : Vec F (TS n) .f32 × Vec F S256x1024 .f32) :
    (blocksVal ps x pv nx y X bs p).1 = accBlocks ps x pv nx y X bs p.1 := by
  induction bs generalizing p with
  | nil => rfl
  | cons b bs ih => exact ih _

/-- The spread weights: each tap's row on every sublane. -/
def spr {n : ℕ} (w : Vec F (WS n) .f32) : Vec F (TS n) .f32 := fun j => w (fun a => match a with
  | 0 => j 0
  | 1 => j 2)

/-- The tap of an entry. -/
def tOf {n : ℕ} (j : (TS n).Idx) : Fin n := j 0

/-- A row on every sublane, read back. -/
theorem row_spread (v : FVec F S1x1024 .f32) (z : S1x8x1024.Idx) :
    shapeCast S1x8x1024 (broadcastTo S8x1024 (shapeCast S1x1024 v shapeCasts_S1x1024_S1x1024) broadcasts_S1x1024_S8x1024) shapeCasts_S8x1024_S1x8x1024 z
      = v (fun a => match a with
        | 0 => ⟨0, by decide⟩
        | 1 => ⟨(z 2).val, (z 2).isLt⟩) := by
  have h1 : (z 1).val < 8 := (z 1).isLt
  have h2 : (z 2).val < 1024 := (z 2).isLt
  have h0 : (z 0).val < 1 := (z 0).isLt
  let p : S8x1024.Idx := fun a => match a with
    | 0 => ⟨(z 1).val, h1⟩
    | 1 => ⟨(z 2).val, h2⟩
  let q : S1x1024.Idx := fun a => match a with
    | 0 => ⟨0, by decide⟩
    | 1 => ⟨(z 2).val, h2⟩
  refine (shapeCast_apply _ _ _ p ?_).trans ((broadcastTo_apply _ _ _ q ?_).trans (shapeCast_apply _ _ _ q rfl))
  · rw [Shape.rowMajor_val_two, Shape.rowMajor_val_three]
    show (z 1).val * 1024 + (z 2).val = ((z 0).val * 8 + (z 1).val) * 1024 + (z 2).val
    omega
  · intro a; fin_cases a
    · exact (if_pos rfl).symm
    · exact (if_neg (by decide)).symm

theorem spreadVal_apply {n : ℕ} (w : Vec F (WS n) .f32) (ks : List (Fin n)) (X : Vec F (TS n) .f32) (j : (TS n).Idx) :
    spreadVal w ks X j = if tOf j ∈ ks then spr w j else X j := by
  induction ks generalizing X with
  | nil => rfl
  | cons k ks ih =>
    refine (ih _).trans ?_
    by_cases h : tOf j ∈ ks
    · rw [if_pos h, if_pos (List.mem_cons_of_mem _ h)]
    rw [if_neg h]
    have h1 : (j 1).val < 8 := (j 1).isLt
    have h2 : (j 2).val < 1024 := (j 2).isLt
    by_cases hk : tOf j = k
    · rw [if_pos (by rw [hk]; exact List.mem_cons_self)]
      unfold VecWindow.put
      rw [dif_pos]
      swap
      · intro a
        have e : (j 0).val = k.val := congrArg Fin.val hk
        fin_cases a
        · show k.val ≤ (j 0).val ∧ (j 0).val < k.val + 1; omega
        · show 0 ≤ (j 1).val ∧ (j 1).val < 0 + 8; omega
        · show 0 ≤ (j 2).val ∧ (j 2).val < 0 + 1024; omega
      refine (row_spread _ _).trans ?_
      show w _ = w _
      refine congrArg w (funext fun a => Fin.ext ?_)
      have e : (j 0).val = k.val := congrArg Fin.val hk
      fin_cases a
      · show k.val + 1 * 0 = (j 0).val; omega
      · show 0 + 1 * ((j 2).val - 0) = (j 2).val; omega
    · rw [if_neg (by simp only [List.mem_cons, not_or]; exact ⟨hk, h⟩)]
      unfold VecWindow.put
      rw [dif_neg]
      intro ha
      apply hk
      have a0 : k.val ≤ (j 0).val ∧ (j 0).val < k.val + 1 := ha 0
      have e : (tOf j).val = (j 0).val := rfl
      exact Fin.ext (by omega)

theorem spread3 (w : Vec F S3x1024 .f32) (X : Vec F S3x8x1024 .f32) : spreadVal (n := 3) w [0, 1, 2] X = spr (n := 3) w := by
  funext j
  rw [spreadVal_apply, if_pos ((by decide : ∀ k : Fin 3, k ∈ ([0, 1, 2] : List (Fin 3))) _)]

/-- All taps of the long filter. -/
def all31 : List (Fin 31) := [0, 1, 2, 3, 4, 5, 6, 7, 8, 9, 10, 11, 12, 13, 14, 15, 16, 17, 18, 19, 20, 21, 22, 23, 24, 25, 26, 27, 28, 29, 30]

theorem spread31 (w : Vec F S31x1024 .f32) (X : Vec F S31x8x1024 .f32) : spreadVal (n := 31) w all31 X = spr (n := 31) w := by
  funext j
  rw [spreadVal_apply, if_pos ((by decide : ∀ k : Fin 31, k ∈ all31) _)]

/-- The tile's four pieces cover its buffer. -/
theorem projVal_any (dp du : Vec F S256x1024 .f32) (cg ha a g : Vec F S256x1024 .bf16) (P P' : Vec F S256x4096 .bf16) :
    projVal dp du cg ha a g P = projVal dp du cg ha a g P' := by
  funext j
  have h0 : (j 0).val < 256 := (j 0).isLt
  have h1 : (j 1).val < 4096 := (j 1).isLt
  unfold projVal VecWindow.put
  by_cases c3 : 3072 ≤ (j 1).val
  · have h : ∀ a, (![0, 3072] : Fin 2 → ℕ) a ≤ (j a).val ∧ (j a).val < (![0, 3072] : Fin 2 → ℕ) a + S256x1024.size a := by
      intro a; fin_cases a
      · show 0 ≤ (j 0).val ∧ (j 0).val < 0 + 256; omega
      · show 3072 ≤ (j 1).val ∧ (j 1).val < 3072 + 1024; omega
    rw [dif_pos h, dif_pos h]
  split
  · rfl
  by_cases c2 : 2048 ≤ (j 1).val
  · have h : ∀ a, (![0, 2048] : Fin 2 → ℕ) a ≤ (j a).val ∧ (j a).val < (![0, 2048] : Fin 2 → ℕ) a + S256x1024.size a := by
      intro a; fin_cases a
      · show 0 ≤ (j 0).val ∧ (j 0).val < 0 + 256; omega
      · show 2048 ≤ (j 1).val ∧ (j 1).val < 2048 + 1024; omega
    rw [dif_pos h, dif_pos h]
  split
  · rfl
  by_cases c1 : 1024 ≤ (j 1).val
  · have h : ∀ a, (![0, 1024] : Fin 2 → ℕ) a ≤ (j a).val ∧ (j a).val < (![0, 1024] : Fin 2 → ℕ) a + S256x1024.size a := by
      intro a; fin_cases a
      · show 0 ≤ (j 0).val ∧ (j 0).val < 0 + 256; omega
      · show 1024 ≤ (j 1).val ∧ (j 1).val < 1024 + 1024; omega
    rw [dif_pos h, dif_pos h]
  split
  · rfl
  have h : ∀ a, (![0, 0] : Fin 2 → ℕ) a ≤ (j a).val ∧ (j a).val < (![0, 0] : Fin 2 → ℕ) a + S256x1024.size a := by
    intro a; fin_cases a
    · show 0 ≤ (j 0).val ∧ (j 0).val < 0 + 256; omega
    · show 0 ≤ (j 1).val ∧ (j 1).val < 0 + 1024; omega
  rw [dif_pos h, dif_pos h]

end Cert.BwdConvIdeal.Loops

end
-- ==== Proof.BwdConv.LoopEq.lean ====
module

public import proofs.«01_k».proof.Proof.BwdConv.Struct
public import Idealize.ShloMosaic.Lib.Tactic

@[expose] public section

set_option maxRecDepth 65536
set_option maxHeartbeats 4000000

noncomputable section

namespace Cert.BwdConvIdeal.Loops

open Idealize.ShloMosaic TcCoe Tactic
open Idealize.SL Idealize.SL.Sem
open Cert.BwdConvIdeal Facts₀ Facts

attribute [local instance] Cert.BwdConvIdeal.Gen.facts

variable {F : FTy → Type} [FloatOps F]

/-- The first point starts the taps and the accumulators. -/
def first (i : grid0.Coords) (arg13 : Memref sig .tc .vmem S3x1024 .f32) (arg14 : Memref sig .tc .vmem S31x1024 .f32)
    (arg16 : Memref sig .tc .vmem S40x1024 .f32) (arg19 : Memref sig .tc .vmem S3x8x1024 .f32)
    (arg20 : Memref sig .tc .vmem S31x8x1024 .f32) (arg21 : Memref sig .tc .vmem S3x8x1024 .f32)
    (arg22 : Memref sig .tc .vmem S31x8x1024 .f32) : Prog (TpuEff nD τ sig (Elt F) Λ₀ .tc) PUnit :=
  if _h : Scalar.cmpi .ne (Scalar.extui (Scalar.cmpi .eq (BitVec.ofNat 32 (i 0).val) 0#32) : BitVec 32) 0#32 = 1#1 then
    start arg13 arg14 arg16 arg19 arg20 arg21 arg22
  else pure ⟨⟩

/-- The last point collects the taps' gradients. -/
def last (i : grid0.Coords) (arg16 : Memref sig .tc .vmem S40x1024 .f32)
    (arg21 : Memref sig .tc .vmem S3x8x1024 .f32)
    (arg22 : Memref sig .tc .vmem S31x8x1024 .f32) : Prog (TpuEff nD τ sig (Elt F) Λ₀ .tc) PUnit :=
  if _h : Scalar.cmpi .ne (Scalar.extui (Scalar.cmpi .eq (BitVec.ofNat 32 (i 0).val) 31#32) : BitVec 32) 0#32 = 1#1 then
    finish arg16 arg21 arg22
  else pure ⟨⟩

variable (i : grid0.Coords) (arg1 : Memref sig .tc .vmem S256x1024 .f32) (harg1 : arg1.IsWhole) (arg2 : Memref sig .tc .vmem S16x1024 .f32) (harg2 : arg2.IsWhole) (arg3 : Memref sig .tc .vmem S16x1024 .f32) (harg3 : arg3.IsWhole) (arg4 : Memref sig .tc .vmem S256x1024 .f32) (harg4 : arg4.IsWhole)
  (arg5 : Memref sig .tc .vmem S16x1024 .f32) (harg5 : arg5.IsWhole) (arg6 : Memref sig .tc .vmem S16x1024 .f32) (harg6 : arg6.IsWhole) (arg7 : Memref sig .tc .vmem S256x1024 .f32) (harg7 : arg7.IsWhole) (arg8 : Memref sig .tc .vmem S256x1024 .f32) (harg8 : arg8.IsWhole)
  (arg9 : Memref sig .tc .vmem S256x1024 .bf16) (harg9 : arg9.IsWhole) (arg10 : Memref sig .tc .vmem S256x1024 .bf16) (harg10 : arg10.IsWhole) (arg11 : Memref sig .tc .vmem S256x1024 .bf16) (harg11 : arg11.IsWhole) (arg12 : Memref sig .tc .vmem S256x1024 .bf16) (harg12 : arg12.IsWhole)
  (arg13 : Memref sig .tc .vmem S3x1024 .f32) (harg13 : arg13.IsWhole) (arg14 : Memref sig .tc .vmem S31x1024 .f32) (harg14 : arg14.IsWhole) (arg15 : Memref sig .tc .vmem S256x4096 .bf16) (harg15 : arg15.IsWhole) (arg16 : Memref sig .tc .vmem S40x1024 .f32) (harg16 : arg16.IsWhole)
  (arg17 : Memref sig .tc .vmem S256x1024 .f32) (harg17 : arg17.IsWhole) (arg18 : Memref sig .tc .vmem S256x1024 .f32) (harg18 : arg18.IsWhole) (arg19 : Memref sig .tc .vmem S3x8x1024 .f32) (harg19 : arg19.IsWhole) (arg20 : Memref sig .tc .vmem S31x8x1024 .f32) (harg20 : arg20.IsWhole)
  (arg21 : Memref sig .tc .vmem S3x8x1024 .f32) (harg21 : arg21.IsWhole) (arg22 : Memref sig .tc .vmem S31x8x1024 .f32) (harg22 : arg22.IsWhole)

/-- The kernel's body at one point, written with its loops. -/
def body :
    Prog (TpuEff nD τ sig (Elt F) Λ₀ .tc) PUnit := do
  first i arg13 arg14 arg16 arg19 arg20 arg21 arg22
  conv (n := 3) phasesA (BitVec.ofNat 32 (i 0).val) arg1 arg2 arg3 arg7 arg19 arg21 arg17
  conv (n := 31) phasesB (BitVec.ofNat 32 (i 0).val) arg4 arg5 arg6 arg8 arg20 arg22 arg18
  gates arg9 arg10 arg11 arg12 arg15 harg15 arg16 arg17 arg18
  last i arg16 arg21 arg22

/-- A choice followed by the same text is the choice between both followed by it. -/
theorem dite_bind {E : Type → Type*} {α β : Type} {c : Prop} [Decidable c] (p q : Prog E α) (k : α → Prog E β) :
    (if _h : c then p >>= k else q >>= k) = (if _h : c then p else q) >>= k := by
  split <;> rfl

/-- What the first cut of the printed body holds after the first point's start. -/
def part14Rest :
    Prog (TpuEff nD τ sig (Elt F) Λ₀ .tc) (Σ' (arg0 : BitVec 32) (v6 : Vec F S16x1024 .f32) (v10 : Vec F S16x1024 .f32) (v13 : FVec F S96x128 .f32) (v16 : FVec F S8x8x128 .f32) (v25 : FVec F S8x8x128 .f32) (v31 : FVec F S8x128 .f32), Vec F S1x8x128 .f32) := do
  let arg0 : BitVec 32 := BitVec.ofNat 32 (i 0).val
  let c0_i32_1 : BitVec 32 := 0#32
  let v3 : BitVec 1 := Scalar.cmpi .sgt arg0 c0_i32_1
  let c0 : Index := 0#32
  let c0_2 : Index := 0#32
  let v4 : Vec F S16x1024 .f32 ← Prog.lift (.load arg2 (Rect.unit (s := S16x1024) ![0, 0] S16x1024.size inb_S16x1024_S16x1024_0_0).toLoadRect (View.loadsAt_vmem h_S16x1024))
  have cst : F .f32 := Scalar.ofBits .f32 0x00000000#32
  have v5 : FVec F S16x1024 .f32 := broadcast S16x1024 cst
  have v6 : Vec F S16x1024 .f32 := Scalar.select v3 v4 v5
  let c31_i32 : BitVec 32 := 31#32
  let v7 : BitVec 1 := Scalar.cmpi .slt arg0 c31_i32
  let c0_3 : Index := 0#32
  let c0_4 : Index := 0#32
  let v8 : Vec F S16x1024 .f32 ← Prog.lift (.load arg3 (Rect.unit (s := S16x1024) ![0, 0] S16x1024.size inb_S16x1024_S16x1024_0_0).toLoadRect (View.loadsAt_vmem h_S16x1024))
  have cst_5 : F .f32 := Scalar.ofBits .f32 0x00000000#32
  have v9 : FVec F S16x1024 .f32 := broadcast S16x1024 cst_5
  have v10 : Vec F S16x1024 .f32 := Scalar.select v7 v8 v9
  have v11 : FVec F S16x128 .f32 := extractStridedSlice S16x128 ![0, 0] v6 slices_S16x1024_o0_0_S16x128
  let c0_6 : Index := 0#32
  let c0_7 : Index := 0#32
  let v12 : Vec F S80x128 .f32 ← Prog.lift (.load arg1 (Rect.unit (s := S256x1024) ![0, 0] S80x128.size inb_S256x1024_S80x128_0_0).toLoadRect (View.loadsAt_vmem h_S80x128))
  have v13 : FVec F S96x128 .f32 := concatenate S96x128 0 [⟨S16x128, v11⟩, ⟨S80x128, v12⟩] concatenates_S16x128_S80x128_S96x128_d0
  let c0_8 : Index := 0#32
  let c0_9 : Index := 0#32
  let v14 : Vec F S64x128 .f32 ← Prog.lift (.load arg7 (Rect.unit (s := S256x1024) ![0, 0] S64x128.size inb_S256x1024_S64x128_0_0).toLoadRect (View.loadsAt_vmem h_S64x128))
  have v15 : FVec F S64x128 .f32 := shapeCast S64x128 v14 shapeCasts_S64x128_S64x128
  have v16 : FVec F S8x8x128 .f32 := shapeCast S8x8x128 v15 shapeCasts_S64x128_S8x8x128
  have cst_10 : F .f32 := Scalar.ofBits .f32 0x00000000#32
  have v17 : FVec F S8x8x128 .f32 := broadcast S8x8x128 cst_10
  have v18 : FVec F S12x8x128 .f32 := shapeCast S12x8x128 v13 shapeCasts_S96x128_S12x8x128
  have v19 : FVec F S8x8x128 .f32 := extractStridedSlice S8x8x128 ![2, 0, 0] v18 slices_S12x8x128_o2_0_0_S8x8x128
  let c1 : Index := 1#32
  let c0_11 : Index := 0#32
  let c0_12 : Index := 0#32
  let v20 : Vec F S1x8x128 .f32 ← Prog.lift (.load arg19 (Rect.unit (s := S3x8x1024) ![1, 0, 0] S1x8x128.size inb_S3x8x1024_S1x8x128_1_0_0).toLoadRect (View.loadsAt_vmem h_S1x8x128))
  have v21 : FVec F S8x128 .f32 := shapeCast S8x128 v20 shapeCasts_S1x8x128_S8x128
  have v22 : FVec F S1x8x128 .f32 := shapeCast S1x8x128 v21 shapeCasts_S8x128_S1x8x128
  have v23 : FVec F S8x8x128 .f32 := broadcastTo S8x8x128 v22 broadcasts_S1x8x128_S8x8x128
  have v24 : FVec F S8x8x128 .f32 := mulf v19 v23
  have v25 : FVec F S8x8x128 .f32 := addf v17 v24
  let c1_13 : Index := 1#32
  let c0_14 : Index := 0#32
  let c0_15 : Index := 0#32
  let v26 : Vec F S1x8x128 .f32 ← Prog.lift (.load arg21 (Rect.unit (s := S3x8x1024) ![1, 0, 0] S1x8x128.size inb_S3x8x1024_S1x8x128_1_0_0).toLoadRect (View.loadsAt_vmem h_S1x8x128))
  have v27 : FVec F S8x128 .f32 := shapeCast S8x128 v26 shapeCasts_S1x8x128_S8x128
  have v28 : FVec F S8x8x128 .f32 := extractStridedSlice S8x8x128 ![2, 0, 0] v18 slices_S12x8x128_o2_0_0_S8x8x128
  have v29 : FVec F S8x8x128 .f32 := mulf v28 v16
  have cst_16 : FVec F S8x128 .f32 := constant S8x128 .f32 0x00000000#32
  have v30 : FVec F S8x128 .f32 := multiReduction .add [0] S8x128 v29 0x00000000#32 reduces_S8x8x128_S8x128 (.inl rfl) rfl
  have v31 : FVec F S8x128 .f32 := addf v27 v30
  let c1_17 : Index := 1#32
  let c0_18 : Index := 0#32
  let c0_19 : Index := 0#32
  let v32 : Vec F S1x8x128 .f32 ← Prog.lift (.load arg21 (Rect.unit (s := S3x8x1024) ![1, 0, 0] S1x8x128.size inb_S3x8x1024_S1x8x128_1_0_0).toLoadRect (View.loadsAt_vmem h_S1x8x128))
  pure ⟨arg0, v6, v10, v13, v16, v25, v31, v32⟩

/-- The first cut is the start and the rest. -/
theorem part14_eq :
    k0_part14 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 = first i arg13 arg14 arg16 arg19 arg20 arg21 arg22 >>= fun _ => part14Rest i arg1 arg2 arg3 arg7 arg19 arg21 :=
  (show k0_part14 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 = (if _h : Scalar.cmpi .ne (Scalar.extui (Scalar.cmpi .eq (BitVec.ofNat 32 (i 0).val) 0#32) : BitVec 32) 0#32 = 1#1 then
    start arg13 arg14 arg16 arg19 arg20 arg21 arg22 >>= fun _ => part14Rest i arg1 arg2 arg3 arg7 arg19 arg21 else (pure ⟨⟩ : Prog (TpuEff nD τ sig (Elt F) Λ₀ .tc) PUnit) >>= fun _ => part14Rest i arg1 arg2 arg3 arg7 arg19 arg21) by sl_kernel_rfl).trans
    (dite_bind _ _ _)

/-- The printed body is the one written with its loops. -/
theorem body_eq :
    cc0_bwd_conv (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 = body i arg1 arg2 arg3 arg4 arg5 arg6 arg7 arg8 arg9 arg10 arg11 arg12 arg13 arg14 arg15 harg15 arg16 arg17 arg18 arg19 arg20 arg21 arg22 := by
  unfold cc0_bwd_conv k0_part540
  rw [part14_eq, bind_assoc, bind_assoc]
  unfold body
  refine congrArg (Bind.bind _) (funext fun _ => ?_)
  sl_kernel_rfl

end Cert.BwdConvIdeal.Loops

end
-- ==== Proof.BwdConv.Core.lean ====
module

public import proofs.«01_k».proof.Proof.BwdConv.Indep
public import proofs.«01_k».proof.Proof.BwdConv.LoopEq

@[expose] public section

set_option maxRecDepth 16384

noncomputable section

namespace Cert.BwdConvIdeal.Loops

open Cert.BwdConvIdeal Cert.BwdConvIdeal.Gen
open Idealize.ShloMosaic TcCoe Tactic
open Idealize.SL RA BI BIBase Laws ProofMode Sem
open Pipeline (Dat BodyObligation)

attribute [local instance] Cert.BwdConvIdeal.Gen.facts

variable {F : FTy → Type} [FloatOps F]

local notation "𝕄" => MT nD τ sig Unit (Elt F) ℕ (UR sig nD τ) ℕ

/-- The weights spread by the first point. -/
theorem spread_run {n : ℕ} (d : Dev nD) (w : Memref sig .tc .vmem (WS n) .f32) (wb : Memref sig .tc .vmem (TS n) .f32)
    (x : Vec F (WS n) .f32) (K : PUnit → sProp 𝕄) (ks : List (Fin n)) (X : Vec F (TS n) .f32) :
    iprop(owns (d : Thread nD τ) w fullShare x ∗ owns (d : Thread nD τ) wb fullShare X
        ∗ (iprop(owns (d : Thread nD τ) w fullShare x ∗ owns (d : Thread nD τ) wb fullShare (spreadVal x ks X)) -∗ K ⟨⟩))
      ⊢ W d (spread w wb ks) K := by
  induction ks generalizing X with
  | nil =>
    dsimp only [spread, spreadVal]
    iintro ⟨Hw, Hb, Hk⟩
    iapply pure_run
    iapply Hk
    iframe
  | cons k ks ih =>
    dsimp only [spread, spreadVal]
    iintro ⟨Hw, Hb, Hk⟩
    iapply load_win; isplitl [Hw]; · iexact Hw
    iintro Hw
    iapply load_win; isplitl [Hb]; · iexact Hb
    iintro Hb
    iapply store_put; isplitl [Hb]; · iexact Hb
    iintro Hb
    iapply ih
    iframe

/-- One row of the small results. -/
theorem addRow_run (d : Dev nD) (sm : Memref sig .tc .vmem S40x1024 .f32) (q : ℕ) (hq : q < 40) (v : FVec F S256x1024 .f32)
    (S : Vec F S40x1024 .f32) (K : PUnit → sProp 𝕄) :
    iprop(owns (d : Thread nD τ) sm fullShare S
        ∗ (owns (d : Thread nD τ) sm fullShare (addRowVal S q hq v) -∗ K ⟨⟩))
      ⊢ W d (addRow sm q hq v) K := by
  unfold addRow addRowVal
  iintro ⟨H, Hk⟩
  iapply load_win; isplitl [H]; · iexact H
  iintro H
  iapply load_win; isplitl [H]; · iexact H
  iintro H
  iapply store_end; isplitl [H]; · iexact H
  iexact Hk

/-- The taps' sums go into the small results. -/
theorem collect_run {n : ℕ} (d : Dev nD) (acc : Memref sig .tc .vmem (TS n) .f32) (sm : Memref sig .tc .vmem S40x1024 .f32)
    (o : ℕ) (ho : o + n ≤ 40) (G : Vec F (TS n) .f32) (K : PUnit → sProp 𝕄) (ks : List (Fin n)) (S : Vec F S40x1024 .f32) :
    iprop(owns (d : Thread nD τ) acc fullShare G ∗ owns (d : Thread nD τ) sm fullShare S
        ∗ (iprop(owns (d : Thread nD τ) acc fullShare G ∗ owns (d : Thread nD τ) sm fullShare (collectVal G o ks S)) -∗ K ⟨⟩))
      ⊢ W d (collect acc sm o ho ks) K := by
  induction ks generalizing S with
  | nil =>
    dsimp only [collect, collectVal]
    iintro ⟨Hw, Hb, Hk⟩
    iapply pure_run
    iapply Hk
    iframe
  | cons k ks ih =>
    dsimp only [collect, collectVal]
    iintro ⟨Hw, Hb, Hk⟩
    iapply load_win; isplitl [Hw]; · iexact Hw
    iintro Hw
    iapply load_win; isplitl [Hb]; · iexact Hb
    iintro Hb
    iapply store_put; isplitl [Hb]; · iexact Hb
    iintro Hb
    iapply ih
    iframe

/-- A load of a whole buffer. -/
theorem load_whole {s : Shape} {e : EltTy} {α : Type} (c : Dev nD) (M : Memref sig .tc .vmem s e) (x : Vec F s e)
    (off : Fin s.rank → ℕ) (inb : ∀ a, off a + s.size a ≤ s.size a) (h) (k : Vec F s e → Prog (TpuEff nD τ sig (Elt F) Λ₀ .tc) α) (K : α → sProp 𝕄) :
    iprop(owns c.tc M fullShare x ∗ (owns c.tc M fullShare x -∗ W c (k x) K))
      ⊢ W c (Prog.lift (.load M (Rect.unit (s := s) off s.size inb).toLoadRect h) >>= k) K := by
  have hl := load_win c M x off s.size inb h k K
  rw [window_whole] at hl
  exact hl

/-- A store over a whole buffer. -/
theorem store_whole {s : Shape} {e : EltTy} {α : Type} (c : Dev nD) (M : Memref sig .tc .vmem s e) (x : Vec F s e)
    (off : Fin s.rank → ℕ) (inb : ∀ a, off a + s.size a ≤ s.size a) (w : Vec F s e) (h h') (k : PUnit → Prog (TpuEff nD τ sig (Elt F) Λ₀ .tc) α) (K : α → sProp 𝕄) :
    iprop(owns c.tc M fullShare x ∗ (owns c.tc M fullShare w -∗ W c (k ⟨⟩) K))
      ⊢ W c (Prog.lift (.store M (Rect.unit (s := s) off s.size inb) w Finset.univ h h') >>= k) K := by
  have hl := store_put c M x off s.size inb w h h' k K
  rw [put_whole x off inb] at hl
  exact hl

/-- The gates' part of a point. -/
theorem gates_run (d : Dev nD) (arg9 arg10 arg11 arg12 : Memref sig .tc .vmem S256x1024 .bf16)
    (arg15 : Memref sig .tc .vmem S256x4096 .bf16) (harg15 : arg15.IsWhole)
    (arg16 : Memref sig .tc .vmem S40x1024 .f32) (arg17 arg18 : Memref sig .tc .vmem S256x1024 .f32)
    (cg ha a g : Vec F S256x1024 .bf16) (P : Vec F S256x4096 .bf16) (S : Vec F S40x1024 .f32) (dp du : Vec F S256x1024 .f32) (K : PUnit → sProp 𝕄) :
    iprop(owns (d : Thread nD τ) arg9 fullShare cg
        ∗ owns (d : Thread nD τ) arg10 fullShare ha
        ∗ owns (d : Thread nD τ) arg11 fullShare a
        ∗ owns (d : Thread nD τ) arg12 fullShare g
        ∗ owns (d : Thread nD τ) arg15 fullShare P
        ∗ owns (d : Thread nD τ) arg16 fullShare S
        ∗ owns (d : Thread nD τ) arg17 fullShare dp
        ∗ owns (d : Thread nD τ) arg18 fullShare du
        ∗ (iprop(owns (d : Thread nD τ) arg9 fullShare cg
        ∗ owns (d : Thread nD τ) arg10 fullShare ha
        ∗ owns (d : Thread nD τ) arg11 fullShare a
        ∗ owns (d : Thread nD τ) arg12 fullShare g
        ∗ owns (d : Thread nD τ) arg15 fullShare (projVal dp du cg ha a g P)
        ∗ owns (d : Thread nD τ) arg16 fullShare (rowsVal dp du cg ha a g S)
        ∗ owns (d : Thread nD τ) arg17 fullShare dp
        ∗ owns (d : Thread nD τ) arg18 fullShare du) -∗ K ⟨⟩))
      ⊢ W d (gates arg9 arg10 arg11 arg12 arg15 harg15 arg16 arg17 arg18) K := by
  unfold gates projVal rowsVal gateC gateG sgm
  iintro ⟨H9, H10, H11, H12, H15, H16, H17, H18, Hk⟩
  iapply load_whole; isplitl [H17]; · iexact H17
  iintro H17
  iapply load_whole; isplitl [H10]; · iexact H10
  iintro H10
  iapply load_whole; isplitl [H9]; · iexact H9
  iintro H9
  iapply load_whole; isplitl [H18]; · iexact H18
  iintro H18
  iapply load_whole; isplitl [H12]; · iexact H12
  iintro H12
  iapply load_whole; isplitl [H11]; · iexact H11
  iintro H11
  iapply load_win; isplitl [H15]; · iexact H15
  iintro H15
  iapply store_put; isplitl [H15]; · iexact H15
  iintro H15
  iapply load_win; isplitl [H15]; · iexact H15
  iintro H15
  iapply store_put; isplitl [H15]; · iexact H15
  iintro H15
  iapply load_win; isplitl [H15]; · iexact H15
  iintro H15
  iapply store_put; isplitl [H15]; · iexact H15
  iintro H15
  iapply load_win; isplitl [H15]; · iexact H15
  iintro H15
  iapply store_put; isplitl [H15]; · iexact H15
  iintro H15
  rw [W_bind]
  iapply addRow_run; isplitl [H16]; · iexact H16
  iintro H16
  rw [W_bind]
  iapply addRow_run; isplitl [H16]; · iexact H16
  iintro H16
  rw [W_bind]
  iapply addRow_run; isplitl [H16]; · iexact H16
  iintro H16
  iapply addRow_run; isplitl [H16]; · iexact H16
  iintro H16
  iapply Hk
  iframe

/-- Zero accumulators. -/
def zA : Vec F S3x8x1024 .f32 := shapeCast S3x8x1024 (broadcast S3x8x1024 (Scalar.ofBits .f32 0x00000000#32) : FVec F S3x8x1024 .f32) shapeCasts_S3x8x1024_S3x8x1024
/-- Zero accumulators of the long filter. -/
def zB : Vec F S31x8x1024 .f32 := shapeCast S31x8x1024 (broadcast S31x8x1024 (Scalar.ofBits .f32 0x00000000#32) : FVec F S31x8x1024 .f32) shapeCasts_S31x8x1024_S31x8x1024
/-- Zero small results. -/
def zS : Vec F S40x1024 .f32 := broadcast S40x1024 (Scalar.ofBits .f32 0x00000000#32)

/-- The first point's start. -/
theorem start_run (d : Dev nD) (arg13 : Memref sig .tc .vmem S3x1024 .f32) (arg14 : Memref sig .tc .vmem S31x1024 .f32)
    (arg16 : Memref sig .tc .vmem S40x1024 .f32) (arg19 : Memref sig .tc .vmem S3x8x1024 .f32)
    (arg20 : Memref sig .tc .vmem S31x8x1024 .f32) (arg21 : Memref sig .tc .vmem S3x8x1024 .f32)
    (arg22 : Memref sig .tc .vmem S31x8x1024 .f32) (wa : Vec F S3x1024 .f32) (wb : Vec F S31x1024 .f32) (S : Vec F S40x1024 .f32)
    (XA GA : Vec F S3x8x1024 .f32) (XB GB : Vec F S31x8x1024 .f32) (K : PUnit → sProp 𝕄) :
    iprop(owns (d : Thread nD τ) arg13 fullShare wa
        ∗ owns (d : Thread nD τ) arg14 fullShare wb
        ∗ owns (d : Thread nD τ) arg16 fullShare S
        ∗ owns (d : Thread nD τ) arg19 fullShare XA
        ∗ owns (d : Thread nD τ) arg20 fullShare XB
        ∗ owns (d : Thread nD τ) arg21 fullShare GA
        ∗ owns (d : Thread nD τ) arg22 fullShare GB
        ∗ (iprop(owns (d : Thread nD τ) arg13 fullShare wa
        ∗ owns (d : Thread nD τ) arg14 fullShare wb
        ∗ owns (d : Thread nD τ) arg16 fullShare zS
        ∗ owns (d : Thread nD τ) arg19 fullShare (spr (n := 3) wa)
        ∗ owns (d : Thread nD τ) arg20 fullShare (spr (n := 31) wb)
        ∗ owns (d : Thread nD τ) arg21 fullShare zA
        ∗ owns (d : Thread nD τ) arg22 fullShare zB) -∗ K ⟨⟩))
      ⊢ W d (start arg13 arg14 arg16 arg19 arg20 arg21 arg22) K := by
  rw [← spread3 wa XA, ← spread31 wb XB]
  unfold start zS zA zB all31
  iintro ⟨H13, H14, H16, H19, H20, H21, H22, Hk⟩
  rw [W_bind]
  iapply (spread_run (n := 3)); isplitl [H13]; · iexact H13
  isplitl [H19]; · iexact H19
  iintro ⟨H13, H19⟩
  rw [W_bind]
  iapply (spread_run (n := 31)); isplitl [H14]; · iexact H14
  isplitl [H20]; · iexact H20
  iintro ⟨H14, H20⟩
  iapply load_whole; isplitl [H16]; · iexact H16
  iintro H16
  iapply store_whole; isplitl [H16]; · iexact H16
  iintro H16
  iapply load_whole; isplitl [H21]; · iexact H21
  iintro H21
  iapply store_whole; isplitl [H21]; · iexact H21
  iintro H21
  iapply load_whole; isplitl [H22]; · iexact H22
  iintro H22
  iapply store_whole; isplitl [H22]; · iexact H22
  iintro H22
  iapply pure_run
  iapply Hk
  iframe

/-- The last point's end. -/
theorem finish_run (d : Dev nD)
    (arg16 : Memref sig .tc .vmem S40x1024 .f32) (arg21 : Memref sig .tc .vmem S3x8x1024 .f32)
    (arg22 : Memref sig .tc .vmem S31x8x1024 .f32) (S : Vec F S40x1024 .f32) (GA : Vec F S3x8x1024 .f32) (GB : Vec F S31x8x1024 .f32) (K : PUnit → sProp 𝕄) :
    iprop(owns (d : Thread nD τ) arg16 fullShare S
        ∗ owns (d : Thread nD τ) arg21 fullShare GA
        ∗ owns (d : Thread nD τ) arg22 fullShare GB
        ∗ (iprop(owns (d : Thread nD τ) arg16 fullShare (collectVal (n := 31) GB 8 all31 (collectVal (n := 3) GA 0 [0, 1, 2] S))
        ∗ owns (d : Thread nD τ) arg21 fullShare GA
        ∗ owns (d : Thread nD τ) arg22 fullShare GB) -∗ K ⟨⟩))
      ⊢ W d (finish arg16 arg21 arg22) K := by
  unfold finish all31
  iintro ⟨H16, H21, H22, Hk⟩
  rw [W_bind]
  iapply (collect_run (n := 3)); isplitl [H21]; · iexact H21
  isplitl [H16]; · iexact H16
  iintro ⟨H21, H16⟩
  iapply (collect_run (n := 31)); isplitl [H22]; · iexact H22
  isplitl [H16]; · iexact H16
  iintro ⟨H22, H16⟩
  iapply Hk
  iframe

/-- The rows before a tile, zero before the first. -/
def lo (a0 : BitVec 32) (p : Vec F S16x1024 .f32) : Vec F S16x1024 .f32 := edge (Scalar.cmpi .sgt a0 0#32) p
/-- The rows after a tile, zero after the last. -/
def hi (a0 : BitVec 32) (p : Vec F S16x1024 .f32) : Vec F S16x1024 .f32 := edge (Scalar.cmpi .slt a0 31#32) p

/-- The tile of the projection's gradient. -/
def projT (dp du : Vec F S256x1024 .f32) (cg ha a g : Vec F S256x1024 .bf16) : Vec F S256x4096 .bf16 :=
  projVal dp du cg ha a g (broadcast S256x4096 (Scalar.ofBits .bf16 0x0000#16))

/-- The body between the first point's start and the last point's end. -/
theorem core_run (d : Dev nD) (a0 : BitVec 32) (arg1 : Memref sig .tc .vmem S256x1024 .f32) (arg2 : Memref sig .tc .vmem S16x1024 .f32) (arg3 : Memref sig .tc .vmem S16x1024 .f32) (arg4 : Memref sig .tc .vmem S256x1024 .f32) (arg5 : Memref sig .tc .vmem S16x1024 .f32) (arg6 : Memref sig .tc .vmem S16x1024 .f32) (arg7 : Memref sig .tc .vmem S256x1024 .f32) (arg8 : Memref sig .tc .vmem S256x1024 .f32) (arg9 : Memref sig .tc .vmem S256x1024 .bf16) (arg10 : Memref sig .tc .vmem S256x1024 .bf16) (arg11 : Memref sig .tc .vmem S256x1024 .bf16) (arg12 : Memref sig .tc .vmem S256x1024 .bf16) (arg15 : Memref sig .tc .vmem S256x4096 .bf16) (harg15 : arg15.IsWhole) (arg16 : Memref sig .tc .vmem S40x1024 .f32) (arg17 arg18 : Memref sig .tc .vmem S256x1024 .f32) (arg19 : Memref sig .tc .vmem S3x8x1024 .f32) (arg20 : Memref sig .tc .vmem S31x8x1024 .f32) (arg21 : Memref sig .tc .vmem S3x8x1024 .f32) (arg22 : Memref sig .tc .vmem S31x8x1024 .f32)
    (x1 : Vec F S256x1024 .f32) (x2 : Vec F S16x1024 .f32) (x3 : Vec F S16x1024 .f32) (x4 : Vec F S256x1024 .f32) (x5 : Vec F S16x1024 .f32) (x6 : Vec F S16x1024 .f32) (y7 : Vec F S256x1024 .f32) (y8 : Vec F S256x1024 .f32) (cg : Vec F S256x1024 .bf16) (ha : Vec F S256x1024 .bf16) (a : Vec F S256x1024 .bf16) (g : Vec F S256x1024 .bf16) (P : Vec F S256x4096 .bf16) (S : Vec F S40x1024 .f32) (e17 e18 : Vec F S256x1024 .f32) (XA GA : Vec F S3x8x1024 .f32) (XB GB : Vec F S31x8x1024 .f32)
    (q : Prog (TpuEff nD τ sig (Elt F) Λ₀ .tc) PUnit) (K : PUnit → sProp 𝕄) :
    iprop(owns (d : Thread nD τ) arg1 fullShare x1
        ∗ owns (d : Thread nD τ) arg2 fullShare x2
        ∗ owns (d : Thread nD τ) arg3 fullShare x3
        ∗ owns (d : Thread nD τ) arg4 fullShare x4
        ∗ owns (d : Thread nD τ) arg5 fullShare x5
        ∗ owns (d : Thread nD τ) arg6 fullShare x6
        ∗ owns (d : Thread nD τ) arg7 fullShare y7
        ∗ owns (d : Thread nD τ) arg8 fullShare y8
        ∗ owns (d : Thread nD τ) arg9 fullShare cg
        ∗ owns (d : Thread nD τ) arg10 fullShare ha
        ∗ owns (d : Thread nD τ) arg11 fullShare a
        ∗ owns (d : Thread nD τ) arg12 fullShare g
        ∗ owns (d : Thread nD τ) arg15 fullShare P
        ∗ owns (d : Thread nD τ) arg16 fullShare S
        ∗ owns (d : Thread nD τ) arg17 fullShare e17
        ∗ owns (d : Thread nD τ) arg18 fullShare e18
        ∗ owns (d : Thread nD τ) arg19 fullShare XA
        ∗ owns (d : Thread nD τ) arg20 fullShare XB
        ∗ owns (d : Thread nD τ) arg21 fullShare GA
        ∗ owns (d : Thread nD τ) arg22 fullShare GB
        ∗ (iprop(owns (d : Thread nD τ) arg1 fullShare x1
        ∗ owns (d : Thread nD τ) arg2 fullShare x2
        ∗ owns (d : Thread nD τ) arg3 fullShare x3
        ∗ owns (d : Thread nD τ) arg4 fullShare x4
        ∗ owns (d : Thread nD τ) arg5 fullShare x5
        ∗ owns (d : Thread nD τ) arg6 fullShare x6
        ∗ owns (d : Thread nD τ) arg7 fullShare y7
        ∗ owns (d : Thread nD τ) arg8 fullShare y8
        ∗ owns (d : Thread nD τ) arg9 fullShare cg
        ∗ owns (d : Thread nD τ) arg10 fullShare ha
        ∗ owns (d : Thread nD τ) arg11 fullShare a
        ∗ owns (d : Thread nD τ) arg12 fullShare g
        ∗ owns (d : Thread nD τ) arg15 fullShare (projT (dpT phasesA x1 (lo a0 x2) (hi a0 x3) XA) (dpT phasesB x4 (lo a0 x5) (hi a0 x6) XB) cg ha a g)
        ∗ owns (d : Thread nD τ) arg16 fullShare (rowsVal (dpT phasesA x1 (lo a0 x2) (hi a0 x3) XA) (dpT phasesB x4 (lo a0 x5) (hi a0 x6) XB) cg ha a g S)
        ∗ owns (d : Thread nD τ) arg17 fullShare (dpT phasesA x1 (lo a0 x2) (hi a0 x3) XA)
        ∗ owns (d : Thread nD τ) arg18 fullShare (dpT phasesB x4 (lo a0 x5) (hi a0 x6) XB)
        ∗ owns (d : Thread nD τ) arg19 fullShare XA
        ∗ owns (d : Thread nD τ) arg20 fullShare XB
        ∗ owns (d : Thread nD τ) arg21 fullShare (accBlocks phasesA x1 (lo a0 x2) (hi a0 x3) y7 XA blocks GA)
        ∗ owns (d : Thread nD τ) arg22 fullShare (accBlocks phasesB x4 (lo a0 x5) (hi a0 x6) y8 XB blocks GB)) -∗ W d q K))
      ⊢ W d (conv (n := 3) phasesA a0 arg1 arg2 arg3 arg7 arg19 arg21 arg17 >>= fun _ =>
          conv (n := 31) phasesB a0 arg4 arg5 arg6 arg8 arg20 arg22 arg18 >>= fun _ =>
          gates arg9 arg10 arg11 arg12 arg15 harg15 arg16 arg17 arg18 >>= fun _ => q) K := by
  unfold projT lo hi
  rw [projVal_any _ _ cg ha a g (broadcast S256x4096 (Scalar.ofBits .bf16 0x0000#16)) P]
  iintro ⟨H1, H2, H3, H4, H5, H6, H7, H8, H9, H10, H11, H12, H15, H16, H17, H18, H19, H20, H21, H22, Hk⟩
  rw [W_bind]
  iapply (conv_run (n := 3) d phasesA a0 arg1 arg2 arg3 arg7 arg19 arg21 arg17 x1 y7 x2 x3 XA _ (GA, e17))
  rw [blocksVal_fst, blocksVal_snd]
  isplitl [H1]; · iexact H1
  isplitl [H2]; · iexact H2
  isplitl [H3]; · iexact H3
  isplitl [H7]; · iexact H7
  isplitl [H19]; · iexact H19
  isplitl [H21]; · iexact H21
  isplitl [H17]; · iexact H17
  iintro ⟨H1, H2, H3, H7, H19, H21, H17⟩
  rw [W_bind]
  iapply (conv_run (n := 31) d phasesB a0 arg4 arg5 arg6 arg8 arg20 arg22 arg18 x4 y8 x5 x6 XB _ (GB, e18))
  rw [blocksVal_fst, blocksVal_snd]
  isplitl [H4]; · iexact H4
  isplitl [H5]; · iexact H5
  isplitl [H6]; · iexact H6
  isplitl [H8]; · iexact H8
  isplitl [H20]; · iexact H20
  isplitl [H22]; · iexact H22
  isplitl [H18]; · iexact H18
  iintro ⟨H4, H5, H6, H8, H20, H22, H18⟩
  rw [W_bind]
  iapply gates_run
  isplitl [H9]; · iexact H9
  isplitl [H10]; · iexact H10
  isplitl [H11]; · iexact H11
  isplitl [H12]; · iexact H12
  isplitl [H15]; · iexact H15
  isplitl [H16]; · iexact H16
  isplitl [H17]; · iexact H17
  isplitl [H18]; · iexact H18
  iintro ⟨H9, H10, H11, H12, H15, H16, H17, H18⟩
  iapply Hk
  iframe

/-- At another point nothing is started. -/
theorem first_neg {i : grid0.Coords} (h : (i 0).val ≠ 0) (arg13 : Memref sig .tc .vmem S3x1024 .f32) (arg14 : Memref sig .tc .vmem S31x1024 .f32)
    (arg16 : Memref sig .tc .vmem S40x1024 .f32) (arg19 : Memref sig .tc .vmem S3x8x1024 .f32)
    (arg20 : Memref sig .tc .vmem S31x8x1024 .f32) (arg21 : Memref sig .tc .vmem S3x8x1024 .f32)
    (arg22 : Memref sig .tc .vmem S31x8x1024 .f32) : first (F := F) i arg13 arg14 arg16 arg19 arg20 arg21 arg22 = pure ⟨⟩ := by
  have hi : (i 0).val < 32 := (i 0).isLt
  unfold first
  generalize (i 0).val = k at h hi ⊢
  rw [dif_neg ((by decide : ∀ k < 32, k ≠ 0 → ¬ Scalar.cmpi .ne (Scalar.extui (Scalar.cmpi .eq (BitVec.ofNat 32 k) 0#32) : BitVec 32) 0#32 = 1#1) k hi h)]

theorem first_pos {i : grid0.Coords} (h : (i 0).val = 0) (arg13 : Memref sig .tc .vmem S3x1024 .f32) (arg14 : Memref sig .tc .vmem S31x1024 .f32)
    (arg16 : Memref sig .tc .vmem S40x1024 .f32) (arg19 : Memref sig .tc .vmem S3x8x1024 .f32)
    (arg20 : Memref sig .tc .vmem S31x8x1024 .f32) (arg21 : Memref sig .tc .vmem S3x8x1024 .f32)
    (arg22 : Memref sig .tc .vmem S31x8x1024 .f32) : first (F := F) i arg13 arg14 arg16 arg19 arg20 arg21 arg22 = start arg13 arg14 arg16 arg19 arg20 arg21 arg22 := by
  unfold first
  rw [h, dif_pos (by decide)]

theorem last_neg {i : grid0.Coords} (h : (i 0).val ≠ 31)
    (arg16 : Memref sig .tc .vmem S40x1024 .f32) (arg21 : Memref sig .tc .vmem S3x8x1024 .f32)
    (arg22 : Memref sig .tc .vmem S31x8x1024 .f32) : last (F := F) i arg16 arg21 arg22 = pure ⟨⟩ := by
  have hi : (i 0).val < 32 := (i 0).isLt
  unfold last
  generalize (i 0).val = k at h hi ⊢
  rw [dif_neg ((by decide : ∀ k < 32, k ≠ 31 → ¬ Scalar.cmpi .ne (Scalar.extui (Scalar.cmpi .eq (BitVec.ofNat 32 k) 31#32) : BitVec 32) 0#32 = 1#1) k hi h)]

theorem last_pos {i : grid0.Coords} (h : (i 0).val = 31)
    (arg16 : Memref sig .tc .vmem S40x1024 .f32) (arg21 : Memref sig .tc .vmem S3x8x1024 .f32)
    (arg22 : Memref sig .tc .vmem S31x8x1024 .f32) : last (F := F) i arg16 arg21 arg22 = finish arg16 arg21 arg22 := by
  unfold last
  rw [h, dif_pos (by decide)]

end Cert.BwdConvIdeal.Loops

end
-- ==== Proof.BwdConv.Points.lean ====
module

public import proofs.«01_k».proof.Proof.BwdConv.Core
public import proofs.«01_k».proof.Proof.Gen.BwdConvIdeal.Frame.Runs
public import Idealize.ShloMosaic.Lib.Claim

@[expose] public section

set_option maxRecDepth 16384

noncomputable section

namespace Cert.BwdConvIdeal.Loops

open Cert.BwdConvIdeal Cert.BwdConvIdeal.Gen
open Idealize.ShloMosaic TcCoe Tactic
open Idealize.SL RA BI BIBase Laws ProofMode Sem
open Pipeline (Dat BodyObligation)

attribute [local instance] Cert.BwdConvIdeal.Gen.facts

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The number of points. -/
theorem N32 : cfg0.N = 32 := N_0

/-- The point's number as the kernel reads it. -/
def pt (t : Fin cfg0.N) : BitVec 32 := BitVec.ofNat 32 (grid0.coords t 0).val

theorem coords_val : ∀ t : Fin cfg0.N, (grid0.coords t 0).val = t.val := by
  intro t
  have h : t.val < 32 := lt_of_lt_of_eq t.isLt N32
  have e : (grid0.coords t 0).val = t.val / 1 % 32 := Pipeline.Grid.coords_val t 0 (by decide) rfl
  omega

/-- The first point. -/
def t0 : Fin cfg0.N := ⟨0, by rw [N32]; decide⟩

/-- The spread weights. -/
def wA (c : Dev nD) : Vec F S3x8x1024 .f32 := spr (n := 3) (iblk m c 12 t0)
/-- The spread weights of the long filter. -/
def wB (c : Dev nD) : Vec F S31x8x1024 .f32 := spr (n := 31) (iblk m c 13 t0)

/-- A point's gradient of the short filter's input. -/
def dpAt (c : Dev nD) (t : Fin cfg0.N) : Vec F S256x1024 .f32 :=
  dpT (n := 3) phasesA (iblk m c 0 t) (lo (pt t) (iblk m c 1 t)) (hi (pt t) (iblk m c 2 t)) (wA m c)
/-- A point's gradient of the long filter's input. -/
def duAt (c : Dev nD) (t : Fin cfg0.N) : Vec F S256x1024 .f32 :=
  dpT (n := 31) phasesB (iblk m c 3 t) (lo (pt t) (iblk m c 4 t)) (hi (pt t) (iblk m c 5 t)) (wB m c)

/-- A point's step of the short filter's accumulators. -/
def stepA (c : Dev nD) (t : Fin cfg0.N) (G : Vec F S3x8x1024 .f32) : Vec F S3x8x1024 .f32 :=
  accBlocks (n := 3) phasesA (iblk m c 0 t) (lo (pt t) (iblk m c 1 t)) (hi (pt t) (iblk m c 2 t)) (iblk m c 6 t) (wA m c) blocks G
/-- A point's step of the long filter's accumulators. -/
def stepB (c : Dev nD) (t : Fin cfg0.N) (G : Vec F S31x8x1024 .f32) : Vec F S31x8x1024 .f32 :=
  accBlocks (n := 31) phasesB (iblk m c 3 t) (lo (pt t) (iblk m c 4 t)) (hi (pt t) (iblk m c 5 t)) (iblk m c 7 t) (wB m c) blocks G
/-- A point's step of the column sums. -/
def stepS (c : Dev nD) (t : Fin cfg0.N) (S : Vec F S40x1024 .f32) : Vec F S40x1024 .f32 :=
  rowsVal (dpAt m c t) (duAt m c t) (iblk m c 8 t) (iblk m c 9 t) (iblk m c 10 t) (iblk m c 11 t) S

/-- The short filter's accumulators after a point. -/
def gA (c : Dev nD) : (n : ℕ) → n < cfg0.N → Vec F S3x8x1024 .f32
  | 0, h => stepA m c ⟨0, h⟩ zA
  | n + 1, h => stepA m c ⟨n + 1, h⟩ (gA c n (Nat.lt_of_succ_lt h))
/-- The long filter's accumulators after a point. -/
def gB (c : Dev nD) : (n : ℕ) → n < cfg0.N → Vec F S31x8x1024 .f32
  | 0, h => stepB m c ⟨0, h⟩ zB
  | n + 1, h => stepB m c ⟨n + 1, h⟩ (gB c n (Nat.lt_of_succ_lt h))
/-- The column sums after a point. -/
def gS (c : Dev nD) : (n : ℕ) → n < cfg0.N → Vec F S40x1024 .f32
  | 0, h => stepS m c ⟨0, h⟩ zS
  | n + 1, h => stepS m c ⟨n + 1, h⟩ (gS c n (Nat.lt_of_succ_lt h))

theorem gA_pos (c : Dev nD) (t : Fin cfg0.N) (hz : t.val ≠ 0) :
    gA m c t.val t.isLt = stepA m c t (gA m c (t.val - 1) (Nat.lt_of_le_of_lt (Nat.sub_le _ _) t.isLt)) := by
  obtain ⟨n, hn⟩ := t
  cases n with
  | zero => exact absurd rfl hz
  | succ n => rfl
theorem gB_pos (c : Dev nD) (t : Fin cfg0.N) (hz : t.val ≠ 0) :
    gB m c t.val t.isLt = stepB m c t (gB m c (t.val - 1) (Nat.lt_of_le_of_lt (Nat.sub_le _ _) t.isLt)) := by
  obtain ⟨n, hn⟩ := t
  cases n with
  | zero => exact absurd rfl hz
  | succ n => rfl
theorem gS_pos (c : Dev nD) (t : Fin cfg0.N) (hz : t.val ≠ 0) :
    gS m c t.val t.isLt = stepS m c t (gS m c (t.val - 1) (Nat.lt_of_le_of_lt (Nat.sub_le _ _) t.isLt)) := by
  obtain ⟨n, hn⟩ := t
  cases n with
  | zero => exact absurd rfl hz
  | succ n => rfl

/-- The projection's gradient a point leaves. -/
def outP (c : Dev nD) (t : Fin cfg0.N) : Vec F S256x4096 .bf16 :=
  projT (dpAt m c t) (duAt m c t) (iblk m c 8 t) (iblk m c 9 t) (iblk m c 10 t) (iblk m c 11 t)

/-- The small results a point leaves. -/
def outS (c : Dev nD) (t : Fin cfg0.N) : Vec F S40x1024 .f32 :=
  if t.val = 31 then collectVal (n := 31) (gB m c t.val t.isLt) 8 all31 (collectVal (n := 3) (gA m c t.val t.isLt) 0 [0, 1, 2] (gS m c t.val t.isLt))
  else gS m c t.val t.isLt

/-- What the scratch holds before a point. -/
def PhiS (c : Dev nD) : (n : ℕ) → n ≤ cfg0.N → sProp 𝕄
  | 0, _ => Pipeline.ΦA spec0 c
  | n + 1, hn => iprop(iprop((∃ d, owns c.tc scM0_0 fullShare d) ∗ (∃ d, owns c.tc scM0_1 fullShare d) ∗ owns c.tc scM0_2 fullShare (wA m c) ∗ owns c.tc scM0_3 fullShare (wB m c) ∗ owns c.tc scM0_4 fullShare (gA m c n hn) ∗ owns c.tc scM0_5 fullShare (gB m c n hn)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop((∃ d, owns c.tc scM0_0 fullShare d) ∗ (∃ d, owns c.tc scM0_1 fullShare d) ∗ owns c.tc scM0_2 fullShare (wA m c) ∗ owns c.tc scM0_3 fullShare (wB m c) ∗ owns c.tc scM0_4 fullShare (gA m c n hn) ∗ owns c.tc scM0_5 fullShare (gB m c n hn)) ∗ (∃ r, prngReg c r)) := rfl

theorem PhiS_pos (c : Dev nD) (n : ℕ) (h : n ≤ cfg0.N) (hz : n ≠ 0) :
    PhiS m c n h = iprop(iprop((∃ d, owns c.tc scM0_0 fullShare d) ∗ (∃ d, owns c.tc scM0_1 fullShare d) ∗ owns c.tc scM0_2 fullShare (wA m c) ∗ owns c.tc scM0_3 fullShare (wB m c) ∗ owns c.tc scM0_4 fullShare (gA m c (n - 1) (by omega)) ∗ owns c.tc scM0_5 fullShare (gB m c (n - 1) (by omega))) ∗ (∃ r, prngReg c r)) := by
  cases n with
  | zero => exact absurd rfl hz
  | succ n => rfl

/-- The proof data of the run. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => outP m c t
    | ⟨15, _⟩ => outS m c t
    | ⟨_ + 16, h⟩ => absurd h (Nat.not_lt.2 (Nat.le_add_left _ _))
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem PhiS_castSucc (c : Dev nD) (t : Fin cfg0.N) : (dats m 0 c).Φ t.castSucc = PhiS m c t.val (le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = outP m c t := by dsimp only [dats]
theorem after0_15 (c : Dev nD) (t : Fin cfg0.N) : (dats m 0 c).after 15 t = outS m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_15 (c : Dev nD) (t : Fin cfg0.N) (h0 : t.val ≠ 0) (d) :
    (dats m 0 c).before 15 t d = gS m c (t.val - 1) (Nat.lt_of_le_of_lt (Nat.sub_le _ _) t.isLt) := by
  have hN : t.val < 32 := lt_of_lt_of_eq t.isLt N32
  rw [Dat.before_out_kept _ 15 rfl t (by omega) (Bool.eq_false_iff.mpr fun h => by have := (flush0_15 _).mp h; dsimp only at this; omega)
    (fun _ => rfl) (fun _ _ => rfl)]
  rw [after0_15]
  unfold outS
  exact if_neg (by show ¬(t.val - 1 = 31); omega)

/-- What the body is called with. -/
def bodyPre (c : Dev nD) (t : Fin cfg0.N) : sProp 𝕄 :=
  iprop((dats m 0 c).Φ t.castSucc ∗ (dats m 0 c).owesAt () t.castSucc
    ∗ (∃ d, owns c.tc (ms0_0 t) fullShare ((dats m 0 c).before 0 t d))
    ∗ (∃ d, owns c.tc (ms0_1 t) fullShare ((dats m 0 c).before 1 t d))
    ∗ (∃ d, owns c.tc (ms0_2 t) fullShare ((dats m 0 c).before 2 t d))
    ∗ (∃ d, owns c.tc (ms0_3 t) fullShare ((dats m 0 c).before 3 t d))
    ∗ (∃ d, owns c.tc (ms0_4 t) fullShare ((dats m 0 c).before 4 t d))
    ∗ (∃ d, owns c.tc (ms0_5 t) fullShare ((dats m 0 c).before 5 t d))
    ∗ (∃ d, owns c.tc (ms0_6 t) fullShare ((dats m 0 c).before 6 t d))
    ∗ (∃ d, owns c.tc (ms0_7 t) fullShare ((dats m 0 c).before 7 t d))
    ∗ (∃ d, owns c.tc (ms0_8 t) fullShare ((dats m 0 c).before 8 t d))
    ∗ (∃ d, owns c.tc (ms0_9 t) fullShare ((dats m 0 c).before 9 t d))
    ∗ (∃ d, owns c.tc (ms0_10 t) fullShare ((dats m 0 c).before 10 t d))
    ∗ (∃ d, owns c.tc (ms0_11 t) fullShare ((dats m 0 c).before 11 t d))
    ∗ (∃ d, owns c.tc (ms0_12 t) fullShare ((dats m 0 c).before 12 t d))
    ∗ (∃ d, owns c.tc (ms0_13 t) fullShare ((dats m 0 c).before 13 t d))
    ∗ (∃ d, owns c.tc (ms0_14 t) fullShare ((dats m 0 c).before 14 t d))
    ∗ (∃ d, owns c.tc (ms0_15 t) fullShare ((dats m 0 c).before 15 t d)))

/-- What the body returns. -/
def bodyPost (c : Dev nD) (t : Fin cfg0.N) : sProp 𝕄 :=
  iprop((dats m 0 c).Φ t.succ ∗ (dats m 0 c).owesAt () t.succ
    ∗ owns c.tc (ms0_0 t) fullShare ((dats m 0 c).after 0 t)
    ∗ owns c.tc (ms0_1 t) fullShare ((dats m 0 c).after 1 t)
    ∗ owns c.tc (ms0_2 t) fullShare ((dats m 0 c).after 2 t)
    ∗ owns c.tc (ms0_3 t) fullShare ((dats m 0 c).after 3 t)
    ∗ owns c.tc (ms0_4 t) fullShare ((dats m 0 c).after 4 t)
    ∗ owns c.tc (ms0_5 t) fullShare ((dats m 0 c).after 5 t)
    ∗ owns c.tc (ms0_6 t) fullShare ((dats m 0 c).after 6 t)
    ∗ owns c.tc (ms0_7 t) fullShare ((dats m 0 c).after 7 t)
    ∗ owns c.tc (ms0_8 t) fullShare ((dats m 0 c).after 8 t)
    ∗ owns c.tc (ms0_9 t) fullShare ((dats m 0 c).after 9 t)
    ∗ owns c.tc (ms0_10 t) fullShare ((dats m 0 c).after 10 t)
    ∗ owns c.tc (ms0_11 t) fullShare ((dats m 0 c).after 11 t)
    ∗ owns c.tc (ms0_12 t) fullShare ((dats m 0 c).after 12 t)
    ∗ owns c.tc (ms0_13 t) fullShare ((dats m 0 c).after 13 t)
    ∗ owns c.tc (ms0_14 t) fullShare ((dats m 0 c).after 14 t)
    ∗ owns c.tc (ms0_15 t) fullShare ((dats m 0 c).after 15 t))

set_option maxHeartbeats 1000000 in
theorem sound_body (c : Dev nD) (t : Fin cfg0.N) :
    bodyPre m c t ⊢ W c (bodyAt0 t) (fun _ => bodyPost m c t) := by
  unfold bodyPre bodyPost bodyAt0
  simp only [before0_0, before0_1, before0_2, before0_3, before0_4, before0_5, before0_6, before0_7, before0_8, before0_9, before0_10, before0_11, before0_12, before0_13]
  rw [show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15]
  rw [show (dats m 0 c).Φ t.succ = PhiS m c (t.val + 1) t.isLt from rfl, PhiS_succ]
  have hN : t.val < 32 := lt_of_lt_of_eq t.isLt N32
  rw [body_eq]
  unfold body
  by_cases hz : t.val = 0
  · rw [PhiS_castSucc m c t, PhiS_zero m c _ _ hz, PhiA0_eq]
    rw [first_pos (by rw [coords_val]; exact hz), last_neg (by rw [coords_val]; omega)]
    have ht : t = t0 := Fin.ext hz
    subst ht
    rw [show outS m c t0 = stepS m c t0 zS from if_neg (by decide)]
    iintro ⟨⟨⟨⟨%e0, HS0⟩, ⟨%e1, HS1⟩, ⟨%e2, HS2⟩, ⟨%e3, HS3⟩, ⟨%e4, HS4⟩, ⟨%e5, HS5⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
    rw [W_bind]
    iapply start_run
    iframe H12 H13 H15 HS2 HS3 HS4 HS5
    iintro ⟨H12, H13, H15, HS2, HS3, HS4, HS5⟩
    iapply core_run
    iframe H0 H1 H2 H3 H4 H5 H6 H7 H8 H9 H10 H11 H14 H15 HS0 HS1 HS2 HS3 HS4 HS5
    iintro ⟨H0, H1, H2, H3, H4, H5, H6, H7, H8, H9, H10, H11, H14, H15, HS0, HS1, HS2, HS3, HS4, HS5⟩
    iapply pure_run
    isplitl [HS0 HS1 HS2 HS3 HS4 HS5 Hg]
    · isplitl [HS0 HS1 HS2 HS3 HS4 HS5]
      · isplitl [HS0]; · iexists _; iexact HS0
        isplitl [HS1]; · iexists _; iexact HS1
        iframe HS2 HS3 HS4
        iexact HS5
      iexact Hg
    iframe Ho H0 H1 H2 H3 H4 H5 H6 H7 H8 H9 H10 H11 H12 H13 H14
    iexact H15

  by_cases hl : t.val = 31
  · rw [PhiS_castSucc m c t, PhiS_pos m c _ _ hz]
    rw [first_neg (by rw [coords_val]; exact hz), last_pos (by rw [coords_val]; omega)]
    simp only [before0_15 m c t hz]
    unfold outS
    rw [if_pos hl, gA_pos m c t hz, gB_pos m c t hz, gS_pos m c t hz]
    iintro ⟨⟨⟨⟨%e0, HS0⟩, ⟨%e1, HS1⟩, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
    rw [W_bind]
    iapply pure_run
    iapply core_run
    iframe H0 H1 H2 H3 H4 H5 H6 H7 H8 H9 H10 H11 H14 H15 HS0 HS1 HS2 HS3 HS4 HS5
    iintro ⟨H0, H1, H2, H3, H4, H5, H6, H7, H8, H9, H10, H11, H14, H15, HS0, HS1, HS2, HS3, HS4, HS5⟩
    iapply finish_run
    iframe H15 HS4 HS5
    iintro ⟨H15, HS4, HS5⟩
    isplitl [HS0 HS1 HS2 HS3 HS4 HS5 Hg]
    · isplitl [HS0 HS1 HS2 HS3 HS4 HS5]
      · isplitl [HS0]; · iexists _; iexact HS0
        isplitl [HS1]; · iexists _; iexact HS1
        iframe HS2 HS3 HS4
        iexact HS5
      iexact Hg
    iframe Ho H0 H1 H2 H3 H4 H5 H6 H7 H8 H9 H10 H11 H12 H13 H14
    iexact H15

  · rw [PhiS_castSucc m c t, PhiS_pos m c _ _ hz]
    rw [first_neg (by rw [coords_val]; exact hz), last_neg (by rw [coords_val]; omega)]
    simp only [before0_15 m c t hz]
    unfold outS
    rw [if_neg hl, gA_pos m c t hz, gB_pos m c t hz, gS_pos m c t hz]
    iintro ⟨⟨⟨⟨%e0, HS0⟩, ⟨%e1, HS1⟩, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
    rw [W_bind]
    iapply pure_run
    iapply core_run
    iframe H0 H1 H2 H3 H4 H5 H6 H7 H8 H9 H10 H11 H14 H15 HS0 HS1 HS2 HS3 HS4 HS5
    iintro ⟨H0, H1, H2, H3, H4, H5, H6, H7, H8, H9, H10, H11, H14, H15, HS0, HS1, HS2, HS3, HS4, HS5⟩
    iapply pure_run
    isplitl [HS0 HS1 HS2 HS3 HS4 HS5 Hg]
    · isplitl [HS0 HS1 HS2 HS3 HS4 HS5]
      · isplitl [HS0]; · iexists _; iexact HS0
        isplitl [HS1]; · iexists _; iexact HS1
        iframe HS2 HS3 HS4
        iexact HS5
      iexact Hg
    iframe Ho H0 H1 H2 H3 H4 H5 H6 H7 H8 H9 H10 H11 H12 H13 H14
    iexact H15

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  have ht : (Fin.last cfg0.N).val ≠ 0 := by rw [Fin.val_last, N32]; decide
  rw [show (dats m 0 c).Φ (Fin.last cfg0.N) = PhiS m c (Fin.last cfg0.N).val (Nat.le_of_lt_succ (Fin.last cfg0.N).isLt) from rfl, PhiS_pos m c _ _ ht, PhiA0_eq]
  iintro ⟨⟨HS0, HS1, HS2, HS3, HS4, HS5⟩, Hg⟩
  isplitl [HS0 HS1 HS2 HS3 HS4 HS5]
  · isplitl [HS0]
    · iexact HS0
    isplitl [HS1]
    · iexact HS1
    isplitl [HS2]
    · iexists _; iexact HS2
    isplitl [HS3]
    · iexists _; iexact HS3
    isplitl [HS4]
    · iexists _; iexact HS4
    iexists _; iexact HS5
  iexact Hg

set_option backward.isDefEq.respectTransparency.types false in
/-- The launch. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- The run without its counters. -/
theorem run_main : θ_run defs (onTc (τ := τ) (main (F := F))) (s₀ m ρ) (Pipeline.FramePost cfgs (dats m) 0 (V m)) :=
  (θ_run defs _ _).mono (fun _ h => h.1) (run_main_quiescent m ρ)

/-- The frame, over any values. -/
theorem frame_any : θ_run defs (onTc (τ := τ) (main (F := F))) ⟨m, fun _ => 0, ρ⟩ (fun r => (∀ c : Dev nD,
      r.2.mem (c.tc.loc main_arg0) = m (c.tc.loc main_arg0) ∧ r.2.mem (c.tc.loc main_arg1) = m (c.tc.loc main_arg1) ∧ r.2.mem (c.tc.loc main_arg2) = m (c.tc.loc main_arg2) ∧ r.2.mem (c.tc.loc main_arg3) = m (c.tc.loc main_arg3) ∧ r.2.mem (c.tc.loc main_arg4) = m (c.tc.loc main_arg4) ∧ r.2.mem (c.tc.loc main_arg5) = m (c.tc.loc main_arg5) ∧ r.2.mem (c.tc.loc main_arg6) = m (c.tc.loc main_arg6) ∧ r.2.mem (c.tc.loc main_arg7) = m (c.tc.loc main_arg7)) ∧ r.2.sem = fun _ => 0) :=
  θ_run_and (frame_of m ρ (dats m) (A_eq m) (run_main m ρ)) ((θ_run defs _ _).mono (fun _ h => h.2) (run_main_quiescent m ρ))

end Cert.BwdConvIdeal.Loops

end
-- ==== Proof.BwdConv.Frames.lean ====
module

public import proofs.«01_k».proof.Defs
public import proofs.«01_k».proof.Proof.Gen.BwdConv
public import proofs.«01_k».proof.Proof.Gen.BwdConvIdeal
public import proofs.«01_k».proof.Proof.BwdConv.Points

@[expose] public section

set_option maxRecDepth 16384

noncomputable section

namespace Cert.BwdConv.Hand

open Idealize.ShloMosaic TcCoe Tactic
open Idealize.SL Idealize.SL.Sem

/-- The idealized program keeps its arguments and ends with every counter at zero. -/
theorem frame_ideal : Cert.quiescent_BwdConvIdeal (hBwdConvIdeal := Cert.BwdConvIdeal.Gen.facts) := fun m ρ _ =>
  Cert.BwdConvIdeal.Loops.frame_any m ρ

set_option maxHeartbeats 4000000 in
/-- The convolutions' backward call keeps its arguments and ends with every counter at zero, in machine words: its text is the idealized program's. -/
theorem frame_kernel : Cert.quiescent_BwdConv (hBwdConv := Cert.BwdConv.Gen.facts) := fun m ρ _ => by
  have h := Cert.BwdConvIdeal.Loops.frame_any (F := Bits) m ρ
  have hd : Cert.BwdConv.defs (F := Bits) = Cert.BwdConvIdeal.defs (F := Bits) := by sl_kernel_rfl
  have hm : Cert.BwdConv.main (F := Bits) = Cert.BwdConvIdeal.main (F := Bits) := by sl_kernel_rfl
  rw [hd, hm]
  exact h

end Cert.BwdConv.Hand

end
-- ==== Proof.BwdConv.Entry.lean ====
module

public import proofs.«01_k».proof.Proof.BwdConv.Core
public import Idealize.ShloMosaic.Lib.KernelVsHost
public import Idealize.ShloMosaic.Lib.Pointwise

@[expose] public section

set_option maxRecDepth 16384

noncomputable section

namespace Cert.BwdConvIdeal.Loops

open Cert.BwdConvIdeal Cert.BwdConvIdeal.Gen
open Idealize.ShloMosaic TcCoe Tactic
open Idealize.SL RA BI BIBase Laws ProofMode Sem
open Pipeline (Dat BodyObligation)

attribute [local instance] Cert.BwdConvIdeal.Gen.facts

/-- A window's row, zero past its end. -/
def rowN (blk : FVec Ideal S96x128 .f32) (q : ℕ) (l : Fin 128) : EReal := if h : q < 96 then blk (ix2 ⟨q, h⟩ l) else 0

/-- A tile's row with its neighbours' rows around it, counted from the sixteenth row before the tile. -/
def ext (x : Vec Ideal S256x1024 .f32) (pv nx : Vec Ideal S16x1024 .f32) (q : ℕ) (d : Fin 1024) : EReal :=
  if h : q < 16 then pv (ix2 ⟨q, h⟩ d) else if h2 : q < 272 then x (ix2 ⟨q - 16, by omega⟩ d) else if h3 : q < 288 then nx (ix2 ⟨q - 272, by omega⟩ d) else 0

/-- A lane of a lane block. -/
abbrev lane (c : Fin 8) (l : Fin 128) : Fin 1024 := ⟨128 * c.val + l.val, by omega⟩

theorem phase_at (blk : FVec Ideal S96x128 .f32) (b : ℕ) (hb : b ≤ 7) (g : Fin 12) (s : Fin 8) (l : Fin 128) (h : 8 * g.val + s.val + b < 96) :
    phase blk b (ix3 g s l) = rowN blk (8 * g.val + s.val + b) l := by
  unfold rowN
  rw [dif_pos h]
  have e : ∀ (z : FVec Ideal S96x128 .f32), shapeCast S12x8x128 z shapeCasts_S96x128_S12x8x128 (ix3 g s l) = z (ix2 ⟨8 * g.val + s.val, by omega⟩ l) := fun z => by
    refine shapeCast_apply _ _ _ _ ?_
    rw [Shape.rowMajor_val_two, Shape.rowMajor_val_three]
    show (8 * g.val + s.val) * 128 + l.val = (g.val * 8 + s.val) * 128 + l.val
    omega
  cases b with
  | zero => exact e blk
  | succ b =>
    refine (e _).trans (dynamicRotate_apply _ _ _ _ _ _ fun q => ?_)
    have ht : (BitVec.ofNat 32 (95 - b)).toNat = 95 - b := by
      rw [BitVec.toNat_ofNat]; exact Nat.mod_eq_of_lt (by omega)
    match q with
    | 0 =>
      show 8 * g.val + s.val + (b + 1) = if (0 : Fin 2) = 0 then (8 * g.val + s.val + 96 - (BitVec.ofNat 32 (95 - b)).toNat % 96) % 96 else _
      rw [if_pos rfl, ht]; omega
    | 1 => exact (if_neg (show ¬((1 : Fin 2) = 0) by decide)).symm

theorem winVal_at (x : Vec Ideal S256x1024 .f32) (pv nx : Vec Ideal S16x1024 .f32) (r : Fin 4) (c : Fin 8) (i : Fin 96) (l : Fin 128) :
    winVal x pv nx r c (ix2 i l) = ext x pv nx (64 * r.val + i.val) (lane c l) := by
  have hmid : ∀ (o : ℕ) (ho : o ≤ 160) (e : 16 + o = 64 * r.val), VecWindow.window x ![o, 128 * c.val] S96x128.size (mid_inb o ho c) (ix2 i l) = ext x pv nx (64 * r.val + i.val) (lane c l) := by
    intro o ho e
    unfold ext
    rw [dif_neg (by omega), dif_pos (by omega)]
    refine congrArg x (funext fun a => Fin.ext ?_)
    match a with
    | 0 => show o + 1 * i.val = 64 * r.val + i.val - 16; omega
    | 1 => show 128 * c.val + 1 * l.val = 128 * c.val + l.val; omega
  match r with
  | 0 =>
    unfold ext
    by_cases h : i.val < 16
    · rw [dif_pos (show 64 * (0 : Fin 4).val + i.val < 16 by show 64 * 0 + i.val < 16; omega)]
      refine Eq.trans (concatenate_apply_piece (t := S96x128) 0 [⟨S16x128, extractStridedSlice S16x128 ![0, 128 * c.val] pv (edge_slices c)⟩, ⟨S80x128, VecWindow.window x ![0, 128 * c.val] S80x128.size (lo_inb c)⟩] concatenates_S16x128_S80x128_S96x128_d0 _ 0 (by simp) S16x128 _ rfl rfl 0 rfl (ix2 ⟨i.val, h⟩ l) ?_ ?_) ?_
      · intro b hb
        match b with
        | 0 => exact absurd rfl hb
        | 1 => rfl
      · show 0 + i.val = i.val; omega
      · refine extractStridedSlice_apply _ _ _ _ _ fun a => ?_
        match a with
        | 0 => show 64 * 0 + i.val = 0 + i.val; omega
        | 1 => rfl
    · rw [dif_neg (show ¬ 64 * (0 : Fin 4).val + i.val < 16 by show ¬ 64 * 0 + i.val < 16; omega), dif_pos (show 64 * (0 : Fin 4).val + i.val < 272 by show 64 * 0 + i.val < 272; omega)]
      refine Eq.trans (concatenate_apply_piece (t := S96x128) 0 [⟨S16x128, extractStridedSlice S16x128 ![0, 128 * c.val] pv (edge_slices c)⟩, ⟨S80x128, VecWindow.window x ![0, 128 * c.val] S80x128.size (lo_inb c)⟩] concatenates_S16x128_S80x128_S96x128_d0 _ 1 (by simp) S80x128 _ rfl rfl 16 rfl (ix2 ⟨i.val - 16, by omega⟩ l) ?_ ?_) ?_
      · intro b hb
        match b with
        | 0 => exact absurd rfl hb
        | 1 => rfl
      · show 16 + (i.val - 16) = i.val; omega
      · refine congrArg x (funext fun a => Fin.ext ?_)
        match a with
        | 0 => show 0 + 1 * (i.val - 16) = 64 * 0 + i.val - 16; omega
        | 1 => show 128 * c.val + 1 * l.val = 128 * c.val + l.val; omega
  | 1 => exact hmid 48 (by decide) rfl
  | 2 => exact hmid 112 (by decide) rfl
  | 3 =>
    have e3 : winVal x pv nx 3 c = concatenate S96x128 0 [⟨S80x128, VecWindow.window x ![176, 128 * c.val] S80x128.size (hi_inb c)⟩, ⟨S16x128, extractStridedSlice S16x128 ![0, 128 * c.val] nx (edge_slices c)⟩] concatenates_S80x128_S16x128_S96x128_d0 := rfl
    rw [e3]
    unfold ext
    rw [dif_neg (show ¬ 64 * (3 : Fin 4).val + i.val < 16 by show ¬ 64 * 3 + i.val < 16; omega)]
    by_cases h : i.val < 80
    · rw [dif_pos (show 64 * (3 : Fin 4).val + i.val < 272 by show 64 * 3 + i.val < 272; omega)]
      refine Eq.trans (concatenate_apply_piece (t := S96x128) 0 [⟨S80x128, VecWindow.window x ![176, 128 * c.val] S80x128.size (hi_inb c)⟩, ⟨S16x128, extractStridedSlice S16x128 ![0, 128 * c.val] nx (edge_slices c)⟩] concatenates_S80x128_S16x128_S96x128_d0 _ 0 (by simp) S80x128 _ rfl rfl 0 rfl (ix2 ⟨i.val, h⟩ l) ?_ ?_) ?_
      · intro b hb
        match b with
        | 0 => exact absurd rfl hb
        | 1 => rfl
      · show 0 + i.val = i.val; omega
      · refine congrArg x (funext fun a => Fin.ext ?_)
        match a with
        | 0 => show 176 + 1 * i.val = 64 * 3 + i.val - 16; omega
        | 1 => show 128 * c.val + 1 * l.val = 128 * c.val + l.val; omega
    · rw [dif_neg (show ¬ 64 * (3 : Fin 4).val + i.val < 272 by show ¬ 64 * 3 + i.val < 272; omega), dif_pos (show 64 * (3 : Fin 4).val + i.val < 288 by show 64 * 3 + i.val < 288; omega)]
      refine Eq.trans (concatenate_apply_piece (t := S96x128) 0 [⟨S80x128, VecWindow.window x ![176, 128 * c.val] S80x128.size (hi_inb c)⟩, ⟨S16x128, extractStridedSlice S16x128 ![0, 128 * c.val] nx (edge_slices c)⟩] concatenates_S80x128_S16x128_S96x128_d0 _ 1 (by simp) S16x128 _ rfl rfl 80 rfl (ix2 ⟨i.val - 80, by omega⟩ l) ?_ ?_) ?_
      · intro b hb
        match b with
        | 0 => exact absurd rfl hb
        | 1 => rfl
      · show 80 + (i.val - 80) = i.val; omega
      · refine extractStridedSlice_apply _ _ _ _ _ fun a => ?_
        match a with
        | 0 => show 64 * 3 + i.val - 272 = 0 + (i.val - 80); omega
        | 1 => rfl

theorem uVal_at (y : Vec Ideal S256x1024 .f32) (r : Fin 4) (c : Fin 8) (j s : Fin 8) (l : Fin 128) :
    uVal y r c (ix3 j s l) = y (ix2 ⟨64 * r.val + (8 * j.val + s.val), by omega⟩ (lane c l)) := by
  unfold uVal
  refine (shapeCast_apply _ _ _ (ix2 ⟨8 * j.val + s.val, by omega⟩ l) ?_).trans ((shapeCast_apply _ _ _ _ rfl).trans ?_)
  · rw [Shape.rowMajor_val_two, Shape.rowMajor_val_three]
    show (8 * j.val + s.val) * 128 + l.val = (j.val * 8 + s.val) * 128 + l.val
    omega
  · refine congrArg y (funext fun a => Fin.ext ?_)
    match a with
    | 0 => show 64 * r.val + 1 * (8 * j.val + s.val) = 64 * r.val + (8 * j.val + s.val); omega
    | 1 => show 128 * c.val + 1 * l.val = 128 * c.val + l.val; omega

/-- A slice of a phase's groups. -/
theorem slice_at (sh : FVec Ideal S12x8x128 .f32) (m : Fin 4) (j s : Fin 8) (l : Fin 128) :
    extractStridedSlice S8x8x128 ![m.val, 0, 0] sh (win_slices m) (ix3 j s l) = sh (ix3 ⟨m.val + j.val, by omega⟩ s l) := by
  refine extractStridedSlice_apply _ _ _ _ _ fun a => ?_
  match a with
  | 0 => rfl
  | 1 => show s.val = 0 + s.val; omega
  | 2 => show l.val = 0 + l.val; omega

variable {n : ℕ}

theorem tapDu_at (w : Vec Ideal (WS n) .f32) (c : Fin 8) (blk : FVec Ideal S96x128 .f32) (b : ℕ) (hb : b ≤ 7) (du : FVec Ideal S8x8x128 .f32) (k : Fin n) (m : Fin 4) (j s : Fin 8) (l : Fin 128) :
    tapDu (spr w) c (phase blk b) du k m (ix3 j s l) = du (ix3 j s l) + rowN blk (8 * j.val + s.val + (8 * m.val + b)) l * w (ix2 k (lane c l)) := by
  unfold tapDu
  show _ + _ * _ = _
  rw [slice_at, phase_at _ _ hb _ _ _ (by show 8 * (m.val + j.val) + s.val + b < 96; omega)]
  refine congrArg₂ (fun a b => du (ix3 j s l) + a * b) ?_ ?_
  · refine congrArg (fun q => rowN blk q l) ?_
    show 8 * (m.val + j.val) + s.val + b = _; omega
  · refine (broadcastTo_apply _ _ _ (ix3 (0 : Fin 1) s l) ?_).trans ((shapeCast_apply _ _ _ (ix2 s l) ?_).trans ((shapeCast_apply _ _ _ (ix3 (0 : Fin 1) s l) ?_).trans ?_))
    · intro a
      match a with
      | 0 => exact (if_pos rfl).symm
      | 1 => exact (if_neg (show ¬ (8 : ℕ) = 1 by decide)).symm
      | 2 => exact (if_neg (show ¬ (128 : ℕ) = 1 by decide)).symm
    · rw [Shape.rowMajor_val_two, Shape.rowMajor_val_three]
      show s.val * 128 + l.val = (0 * 8 + s.val) * 128 + l.val
      omega
    · rw [Shape.rowMajor_val_two, Shape.rowMajor_val_three]
      show (0 * 8 + s.val) * 128 + l.val = s.val * 128 + l.val
      omega
    · show w _ = w _
      refine congrArg w (funext fun a => Fin.ext ?_)
      match a with
      | 0 => show k.val + 1 * 0 = k.val; omega
      | 1 => show 128 * c.val + 1 * l.val = 128 * c.val + l.val; omega

/-- A lane inside its block. -/
abbrev inLane (d : Fin 1024) : Fin 128 := ⟨d.val % 128, by omega⟩

theorem tapAcc_at (G : Vec Ideal (TS n) .f32) (c : Fin 8) (blk : FVec Ideal S96x128 .f32) (b : ℕ) (hb : b ≤ 7) (u : FVec Ideal S8x8x128 .f32) (k : Fin n) (m : Fin 4) (k' : Fin n) (s : Fin 8) (d : Fin 1024) :
    tapAcc G c (phase blk b) u k m (ix3 k' s d)
      = if k' = k ∧ d.val / 128 = c.val then G (ix3 k' s d) + ∑ j : Fin 8, rowN blk (8 * j.val + s.val + (8 * m.val + b)) (inLane d) * u (ix3 j s (inLane d)) else G (ix3 k' s d) := by
  unfold tapAcc VecWindow.put
  by_cases h : k' = k ∧ d.val / 128 = c.val
  · obtain ⟨rfl, hd⟩ := h
    rw [if_pos ⟨rfl, hd⟩, dif_pos]
    swap
    · intro a
      match a with
      | 0 => show k'.val ≤ k'.val ∧ k'.val < k'.val + 1; omega
      | 1 => show 0 ≤ s.val ∧ s.val < 0 + 8; omega
      | 2 => show 128 * c.val ≤ d.val ∧ d.val < 128 * c.val + 128; omega
    refine (shapeCast_apply _ _ _ (ix2 s (inLane d)) ?_).trans ?_
    · rw [Shape.rowMajor_val_two, Shape.rowMajor_val_three]
      show s.val * 128 + d.val % 128 = ((k'.val - k'.val) * 8 + (s.val - 0)) * 128 + (d.val - 128 * c.val)
      omega
    show _ + _ = _
    refine congrArg₂ (· + ·) ?_ ?_
    · refine (shapeCast_apply _ _ _ (ix3 (0 : Fin 1) s (inLane d)) ?_).trans ?_
      · rw [Shape.rowMajor_val_two, Shape.rowMajor_val_three]
        show (0 * 8 + s.val) * 128 + d.val % 128 = s.val * 128 + d.val % 128
        omega
      · refine congrArg G (funext fun a => Fin.ext ?_)
        match a with
        | 0 => show k'.val + 1 * 0 = k'.val; omega
        | 1 => show 0 + 1 * s.val = s.val; omega
        | 2 => show 128 * c.val + 1 * (d.val % 128) = d.val; omega
    · refine (Ideal.multiReduction_add_single _ _ _ _ _ _).trans (Finset.sum_congr rfl fun (j : Fin 8) _ => ?_)
      have e : (reduces_S8x8x128_S8x128).lift (ix2 s (inLane d)) j = (ix3 j s (inLane d) : S8x8x128.Idx) := by
        funext a
        match a with
        | 0 => rfl
        | 1 => rfl
        | 2 => rfl
      rw [e]
      have hj : j.val < 8 := j.isLt
      show extractStridedSlice S8x8x128 ![m.val, 0, 0] (phase blk b) (win_slices m) (ix3 j s (inLane d)) * _ = _
      rw [slice_at, phase_at _ _ hb _ _ _ (by show 8 * (m.val + j.val) + s.val + b < 96; omega)]
      refine congrArg₂ (· * ·) (congrArg (fun q => rowN blk q (inLane d)) ?_) rfl
      show 8 * (m.val + j.val) + s.val + b = _; omega
  · rw [if_neg h, dif_neg]
    intro ha
    apply h
    have a0 : k.val ≤ k'.val ∧ k'.val < k.val + 1 := ha 0
    have a2 : 128 * c.val ≤ d.val ∧ d.val < 128 * c.val + 128 := ha 2
    exact ⟨Fin.ext (by omega), by omega⟩

end Cert.BwdConvIdeal.Loops

end
-- ==== Proof.BwdConv.Sums.lean ====
module

public import proofs.«01_k».proof.Proof.BwdConv.Entry

@[expose] public section

set_option maxRecDepth 16384

noncomputable section

namespace Cert.BwdConvIdeal.Loops

open Cert.BwdConvIdeal Cert.BwdConvIdeal.Gen
open Idealize.ShloMosaic TcCoe Tactic
open Idealize.SL RA BI BIBase Laws ProofMode Sem
open Pipeline (Dat BodyObligation)

attribute [local instance] Cert.BwdConvIdeal.Gen.facts

variable {n : ℕ}

/-- The taps of all phases in order: each with its phase, itself and its group. -/
def flat (ps : List (ℕ × List (Fin n × Fin 4))) : List (ℕ × Fin n × Fin 4) := ps.flatMap fun q => q.2.map fun t => (q.1, t)

/-- The phases cover each tap once, and tap `k` reads the row `o - k` below its own in the window. -/
structure Good (ps : List (ℕ × List (Fin n × Fin 4))) (o : ℕ) : Prop where
  low : ∀ q ∈ ps, q.1 ≤ 7
  off : ∀ t ∈ flat ps, 8 * t.2.2.val + t.1 = o - t.2.1.val
  perm : ((flat ps).map fun t => t.2.1).Perm (List.finRange n)
  top : o ≤ 32

theorem goodA : Good phasesA 17 := ⟨by decide, by decide, by decide, by decide⟩

theorem goodB : Good phasesB 31 := ⟨by decide, by decide, by decide +kernel, by decide⟩

/-- A sum over the phases' taps is the sum over the taps. -/
theorem flat_sum {ps : List (ℕ × List (Fin n × Fin 4))} {o : ℕ} (h : Good ps o) (f : ℕ → Fin n → EReal) :
    ((flat ps).map fun t => f (8 * t.2.2.val + t.1) t.2.1).sum = ∑ k : Fin n, f (o - k.val) k := by
  have e : ((flat ps).map fun t => f (8 * t.2.2.val + t.1) t.2.1) = ((flat ps).map fun t => t.2.1).map fun k => f (o - k.val) k := by
    rw [List.map_map]
    refine List.map_congr_left fun t ht => ?_
    show f (8 * t.2.2.val + t.1) t.2.1 = f (o - t.2.1.val) t.2.1
    rw [h.off t ht]
  rw [e, (h.perm.map _).sum_eq, Fin.sum_univ_def]

theorem duTaps_at (w : Vec Ideal (WS n) .f32) (c : Fin 8) (blk : FVec Ideal S96x128 .f32) (b : ℕ) (hb : b ≤ 7) (ts : List (Fin n × Fin 4)) (du : FVec Ideal S8x8x128 .f32) (j s : Fin 8) (l : Fin 128) :
    duTaps (spr w) c (phase blk b) ts du (ix3 j s l)
      = du (ix3 j s l) + (ts.map fun t => rowN blk (8 * j.val + s.val + (8 * t.2.val + b)) l * w (ix2 t.1 (lane c l))).sum := by
  induction ts generalizing du with
  | nil => exact (add_zero _).symm
  | cons t ts ih =>
    refine (ih _).trans ?_
    rw [tapDu_at _ _ _ _ hb, List.map_cons, List.sum_cons, add_assoc]

theorem duPhases_at (w : Vec Ideal (WS n) .f32) (c : Fin 8) (blk : FVec Ideal S96x128 .f32) (ps : List (ℕ × List (Fin n × Fin 4))) (hb : ∀ q ∈ ps, q.1 ≤ 7) (du : FVec Ideal S8x8x128 .f32) (j s : Fin 8) (l : Fin 128) :
    duPhases (spr w) c blk ps du (ix3 j s l)
      = du (ix3 j s l) + ((flat ps).map fun t => rowN blk (8 * j.val + s.val + (8 * t.2.2.val + t.1)) l * w (ix2 t.2.1 (lane c l))).sum := by
  induction ps generalizing du with
  | nil => exact (add_zero _).symm
  | cons q qs ih =>
    refine (ih (fun q' hq => hb q' (List.mem_cons_of_mem _ hq)) _).trans ?_
    rw [duTaps_at _ _ _ _ (hb q List.mem_cons_self)]
    unfold flat
    rw [List.flatMap_cons, List.map_append, List.sum_append, List.map_map, add_assoc]
    rfl

theorem zero_at {s : Shape} (j : s.Idx) : (broadcast s (Scalar.ofBits .f32 0x00000000#32) : FVec Ideal s .f32) j = (0 : EReal) := by
  show Ideal.ofBits .f32 0x00000000#32 = (0 : EReal)
  simp

/-- The window's row is the row of the tile with its neighbours' rows. -/
theorem rowN_win (x : Vec Ideal S256x1024 .f32) (pv nx : Vec Ideal S16x1024 .f32) (r : Fin 4) (c : Fin 8) (q : ℕ) (hq : q < 96) (l : Fin 128) :
    rowN (winVal x pv nx r c) q l = ext x pv nx (64 * r.val + q) (lane c l) := by
  unfold rowN
  rw [dif_pos hq]
  exact winVal_at x pv nx r c ⟨q, hq⟩ l

/-- The gradient of a tile's row: over the taps, the rows around it times the tap's weights. -/
theorem dpT_at {ps : List (ℕ × List (Fin n × Fin 4))} {o : ℕ} (h : Good ps o) (x : Vec Ideal S256x1024 .f32) (pv nx : Vec Ideal S16x1024 .f32) (w : Vec Ideal (WS n) .f32) (p : Fin 256) (d : Fin 1024) :
    dpT ps x pv nx (spr w) (ix2 p d) = ∑ k : Fin n, ext x pv nx (p.val + (o - k.val)) d * w (ix2 k d) := by
  have ht := h.top
  have e : dpT ps x pv nx (spr w) (ix2 p d) = duPhases (spr w) ⟨d.val / 128, by omega⟩ (winVal x pv nx ⟨p.val / 64, by omega⟩ ⟨d.val / 128, by omega⟩) ps (broadcast S8x8x128 (Scalar.ofBits .f32 0x00000000#32)) (ix3 (⟨p.val % 64 / 8, by omega⟩ : Fin 8) (⟨p.val % 8, by omega⟩ : Fin 8) (inLane d)) := by
    refine (shapeCast_apply _ _ _ _ rfl).trans (shapeCast_apply _ _ _ _ ?_)
    rw [Shape.rowMajor_val_two, Shape.rowMajor_val_three]
    show (p.val % 64 / 8 * 8 + p.val % 8) * 128 + d.val % 128 = p.val % 64 * 128 + d.val % 128
    omega
  rw [e, duPhases_at _ _ _ _ h.low, zero_at, zero_add, flat_sum h (fun q k => rowN (winVal x pv nx ⟨p.val / 64, by omega⟩ ⟨d.val / 128, by omega⟩) (8 * (p.val % 64 / 8) + p.val % 8 + q) (inLane d) * w (ix2 k (lane ⟨d.val / 128, by omega⟩ (inLane d))))]
  refine Finset.sum_congr rfl fun k _ => ?_
  have el : lane ⟨d.val / 128, by omega⟩ (inLane d) = d := Fin.ext (by show 128 * (d.val / 128) + d.val % 128 = d.val; omega)
  rw [rowN_win _ _ _ _ _ _ (by omega), el]
  refine congrArg (fun q => ext x pv nx q d * w (ix2 k d)) ?_
  show 64 * (p.val / 64) + (8 * (p.val % 64 / 8) + p.val % 8 + (o - k.val)) = _
  omega

/-- What a tap adds at a sublane of its row. -/
def tapSum (blk : FVec Ideal S96x128 .f32) (u : FVec Ideal S8x8x128 .f32) (s : Fin 8) (l : Fin 128) (q : ℕ) : EReal :=
  ∑ j : Fin 8, rowN blk (8 * j.val + s.val + q) l * u (ix3 j s l)

theorem tapAcc_add (G : Vec Ideal (TS n) .f32) (c : Fin 8) (blk : FVec Ideal S96x128 .f32) (b : ℕ) (hb : b ≤ 7) (u : FVec Ideal S8x8x128 .f32) (k : Fin n) (m : Fin 4) (k' : Fin n) (s : Fin 8) (d : Fin 1024) :
    tapAcc G c (phase blk b) u k m (ix3 k' s d) = G (ix3 k' s d) + if k' = k ∧ d.val / 128 = c.val then tapSum blk u s (inLane d) (8 * m.val + b) else 0 := by
  rw [tapAcc_at _ _ _ _ hb]
  split_ifs
  · rfl
  · exact (add_zero _).symm

theorem tapsAcc_at (X : Vec Ideal (TS n) .f32) (c : Fin 8) (blk : FVec Ideal S96x128 .f32) (b : ℕ) (hb : b ≤ 7) (u : FVec Ideal S8x8x128 .f32) (ts : List (Fin n × Fin 4)) (p : Vec Ideal (TS n) .f32 × FVec Ideal S8x8x128 .f32) (k : Fin n) (s : Fin 8) (d : Fin 1024) :
    (tapsVal X c (phase blk b) u ts p).1 (ix3 k s d)
      = p.1 (ix3 k s d) + (ts.map fun t => if k = t.1 ∧ d.val / 128 = c.val then tapSum blk u s (inLane d) (8 * t.2.val + b) else 0).sum := by
  induction ts generalizing p with
  | nil => exact (add_zero _).symm
  | cons t ts ih =>
    refine (ih _).trans ?_
    refine (congrArg (· + _) (tapAcc_add _ _ _ _ hb _ _ _ _ _ _)).trans ?_
    rw [List.map_cons, List.sum_cons, add_assoc]

theorem phasesAcc_at (X : Vec Ideal (TS n) .f32) (c : Fin 8) (blk : FVec Ideal S96x128 .f32) (u : FVec Ideal S8x8x128 .f32) (ps : List (ℕ × List (Fin n × Fin 4))) (hb : ∀ q ∈ ps, q.1 ≤ 7) (p : Vec Ideal (TS n) .f32 × FVec Ideal S8x8x128 .f32) (k : Fin n) (s : Fin 8) (d : Fin 1024) :
    (phasesVal X c blk u ps p).1 (ix3 k s d)
      = p.1 (ix3 k s d) + ((flat ps).map fun t => if k = t.2.1 ∧ d.val / 128 = c.val then tapSum blk u s (inLane d) (8 * t.2.2.val + t.1) else 0).sum := by
  induction ps generalizing p with
  | nil => exact (add_zero _).symm
  | cons q qs ih =>
    refine (ih (fun q' hq => hb q' (List.mem_cons_of_mem _ hq)) _).trans ?_
    rw [tapsAcc_at _ _ _ _ (hb q List.mem_cons_self)]
    unfold flat
    rw [List.flatMap_cons, List.map_append, List.sum_append, List.map_map, add_assoc]
    rfl

/-- What a block adds to a tap's sums at a sublane. -/
def rowSum (o : ℕ) (x : Vec Ideal S256x1024 .f32) (pv nx : Vec Ideal S16x1024 .f32) (y : Vec Ideal S256x1024 .f32) (k : Fin n) (s : Fin 8) (d : Fin 1024) (r : Fin 4) : EReal :=
  ∑ j : Fin 8, ext x pv nx (64 * r.val + (8 * j.val + s.val) + (o - k.val)) d * y (ix2 ⟨64 * r.val + (8 * j.val + s.val), by omega⟩ d)

theorem blkAcc_at {ps : List (ℕ × List (Fin n × Fin 4))} {o : ℕ} (h : Good ps o) (x : Vec Ideal S256x1024 .f32) (pv nx : Vec Ideal S16x1024 .f32) (y : Vec Ideal S256x1024 .f32) (X G : Vec Ideal (TS n) .f32) (r : Fin 4) (c : Fin 8) (k : Fin n) (s : Fin 8) (d : Fin 1024) :
    (blkVal ps x pv nx y X G r c).1 (ix3 k s d) = G (ix3 k s d) + if d.val / 128 = c.val then rowSum o x pv nx y k s d r else 0 := by
  have ht := h.top
  unfold blkVal
  rw [phasesAcc_at _ _ _ _ _ h.low, flat_sum h (fun q k' => if k = k' ∧ d.val / 128 = c.val then tapSum (winVal x pv nx r c) (uVal y r c) s (inLane d) q else 0)]
  refine congrArg (G (ix3 k s d) + ·) ?_
  rw [Finset.sum_eq_single k (fun k' _ hk => if_neg fun hc => hk hc.1.symm) (fun hk => absurd (Finset.mem_univ _) hk)]
  by_cases hc : d.val / 128 = c.val
  · rw [if_pos ⟨rfl, hc⟩, if_pos hc]
    refine Finset.sum_congr rfl fun j _ => ?_
    have el : lane c (inLane d) = d := Fin.ext (by show 128 * c.val + d.val % 128 = d.val; omega)
    rw [rowN_win _ _ _ _ _ _ (by omega), uVal_at, el]
    refine congrArg (fun q => ext x pv nx q d * _) ?_
    omega
  · rw [if_neg (fun hh => hc hh.2), if_neg hc]

theorem accBlocks_at {ps : List (ℕ × List (Fin n × Fin 4))} {o : ℕ} (h : Good ps o) (x : Vec Ideal S256x1024 .f32) (pv nx : Vec Ideal S16x1024 .f32) (y : Vec Ideal S256x1024 .f32) (X : Vec Ideal (TS n) .f32) (bs : List (Fin 4 × Fin 8)) (G : Vec Ideal (TS n) .f32) (k : Fin n) (s : Fin 8) (d : Fin 1024) :
    accBlocks ps x pv nx y X bs G (ix3 k s d) = G (ix3 k s d) + (bs.map fun b => if d.val / 128 = b.2.val then rowSum o x pv nx y k s d b.1 else 0).sum := by
  induction bs generalizing G with
  | nil => exact (add_zero _).symm
  | cons b bs ih =>
    refine (ih _).trans ?_
    rw [blkAcc_at h, List.map_cons, List.sum_cons, add_assoc]

theorem blocks_sum (f : Fin 4 × Fin 8 → EReal) : (blocks.map f).sum = ∑ r : Fin 4, ∑ c : Fin 8, f (r, c) := by
  have e : blocks = (List.finRange 4).flatMap fun r => (List.finRange 8).map fun c => (r, c) := by decide +kernel
  rw [e, List.map_flatMap]
  show (List.flatten (List.map _ _)).sum = _
  rw [List.sum_flatten, List.map_map, Fin.sum_univ_def]
  refine congrArg List.sum (List.map_congr_left fun r _ => ?_)
  show (List.map f (List.map (fun c => (r, c)) (List.finRange 8))).sum = _
  rw [List.map_map, Fin.sum_univ_def]
  rfl

/-- A tile's sums at a sublane: over its rows of that sublane, the rows around each times the row of the input. -/
theorem accTile_at {ps : List (ℕ × List (Fin n × Fin 4))} {o : ℕ} (h : Good ps o) (x : Vec Ideal S256x1024 .f32) (pv nx : Vec Ideal S16x1024 .f32) (y : Vec Ideal S256x1024 .f32) (X G : Vec Ideal (TS n) .f32) (k : Fin n) (s : Fin 8) (d : Fin 1024) :
    accBlocks ps x pv nx y X blocks G (ix3 k s d) = G (ix3 k s d) + ∑ r : Fin 4, rowSum o x pv nx y k s d r := by
  rw [accBlocks_at h, blocks_sum]
  refine congrArg (G (ix3 k s d) + ·) (Finset.sum_congr rfl fun r _ => ?_)
  rw [Finset.sum_eq_single (⟨d.val / 128, by omega⟩ : Fin 8) (fun c _ hc => if_neg fun e => hc (Fin.ext e.symm)) (fun hk => absurd (Finset.mem_univ _) hk)]
  exact if_pos rfl

end Cert.BwdConvIdeal.Loops

end
-- ==== Proof.BwdConv.RefSide.lean ====
module

public import proofs.«01_k».proof.Proof.Gen.RefConvIdeal
public import proofs.«01_k».proof.Proof.Gen.RefConvIdeal.Read
public import Idealize.ShloMosaic.Lib.KernelVsHost
public import Idealize.ShloMosaic.Lib.Pipeline.Value
public import Idealize.ShloMosaic.Lib.Pointwise

@[expose] public section

set_option maxRecDepth 16384

noncomputable section

namespace Cert.ValueConv

open Cert.RefConvIdeal Cert.RefConvIdeal.Gen Cert.RefConvIdeal.Read
open Idealize.ShloMosaic

/-- The shape of a matrix of channels. -/
abbrev MS (n : ℕ) : Shape := ⟨2, ![n, 1024]⟩

/-- An entry of a sequence, zero past its ends. -/
def at0 (v : Vec Ideal (MS 8192) .f32) (q : ℕ) (d : Fin 1024) : EReal := if h : q < 8192 then v (ix2 ⟨q, h⟩ d) else 0

/-- An entry of a sequence moved down by `p` rows, zero outside. -/
def zp (p : ℕ) (v : Vec Ideal (MS 8192) .f32) (q : ℕ) (d : Fin 1024) : EReal := if p ≤ q then at0 v (q - p) d else 0

theorem at0_val (v : Vec Ideal (MS 8192) .f32) (s : Fin 8192) (d : Fin 1024) : at0 v s.val d = v (ix2 s d) := dif_pos s.isLt

/-- The zero the reference's sums and pads start from. -/
abbrev zero0 : FVec Ideal S_ .f32 := constant S_ .f32 0x00000000#32

theorem zero0_at (i : S_.Idx) : zero0 i = (0 : EReal) := by
  show Ideal.ofBits .f32 0x00000000#32 = (0 : EReal)
  simp

variable {n N : ℕ}

/-- A tap's weights on every row. -/
def wRow (w : Vec Ideal (MS n) .f32) (k : Fin n) (hs : (MS n).Slices ![k.val, 0] S1x1024) : FVec Ideal S8192x1024 .f32 :=
  broadcastInDim S8192x1024 ![0, 1] bcast_S1x1024_S8192x1024_0_1 (broadcastInDim S1x1024 ![1] bcast_S1024_S1x1024_1 (shapeCast S1024 (extractStridedSlice S1x1024 ![k.val, 0] w hs) shapeCasts_S1x1024_S1024))

theorem wRow_at (w : Vec Ideal (MS n) .f32) (k : Fin n) (hs) (s : Fin 8192) (d : Fin 1024) : wRow w k hs (ix2 s d) = w (ix2 k d) := by
  unfold wRow
  refine (broadcastInDim_apply _ _ _ _ (ix2 (0 : Fin 1) d) fun a => ?_).trans ((broadcastInDim_apply _ _ _ _ (ix1 d) fun a => ?_).trans ((shapeCast_apply _ _ _ (ix2 (0 : Fin 1) d) ?_).trans (extractStridedSlice_apply _ _ _ _ _ fun a => ?_)))
  · match a with
    | 0 => exact (if_pos rfl).symm
    | 1 => exact (if_neg (show ¬ (1024 : ℕ) = 1 by decide)).symm
  · match a with
    | 0 => exact (if_neg (show ¬ (1024 : ℕ) = 1 by decide)).symm
  · rw [Shape.rowMajor_val_two, Shape.rowMajor_val_one]
    show 0 * 1024 + d.val = d.val
    omega
  · match a with
    | 0 => rfl
    | 1 => show d.val = 0 + d.val; omega

/-- A tap's share of the gradient of the padded input. -/
def gTap (N : ℕ) (dv : Vec Ideal (MS 8192) .f32) (w : Vec Ideal (MS n) .f32) (k : Fin n) (hs : (MS n).Slices ![k.val, 0] S1x1024)
    (hp : (MS 8192).Pads (![k.val, 0] : Fin 2 → Nat) ![n - 1 - k.val, 0] ![0, 0] (MS N)) : FVec Ideal (MS N) .f32 :=
  pad (MS N) ![k.val, 0] ![n - 1 - k.val, 0] ![0, 0] (mulf dv (wRow w k hs) : FVec Ideal S8192x1024 .f32) zero0 hp h_S_

theorem gTap_at (dv : Vec Ideal (MS 8192) .f32) (w : Vec Ideal (MS n) .f32) (k : Fin n) (hs) (hp) (q : Fin N) (d : Fin 1024) :
    gTap N dv w k hs hp (ix2 q d) = zp k.val dv q.val d * w (ix2 k d) := by
  unfold gTap zp at0
  by_cases h : k.val ≤ q.val ∧ q.val - k.val < 8192
  · rw [if_pos h.1, dif_pos h.2]
    refine (pad_apply_of_inside _ _ _ _ _ _ _ _ (ix2 ⟨q.val - k.val, h.2⟩ d) fun a => ?_).trans ?_
    · match a with
      | 0 => show q.val = k.val + (q.val - k.val) * (0 + 1); omega
      | 1 => show d.val = 0 + d.val * (0 + 1); omega
    · show dv _ * wRow w k hs _ = _
      rw [wRow_at]
  · have e : (if k.val ≤ q.val then (if h : q.val - k.val < 8192 then dv (ix2 ⟨q.val - k.val, h⟩ d) else 0) else (0 : EReal)) = 0 := by
      split_ifs with h1 h2
      · exact absurd ⟨h1, h2⟩ h
      · rfl
      · rfl
    rw [e, zero_mul]
    refine (pad_apply_of_not_inside _ _ _ _ _ _ _ _ (0 : Fin 2) fun ha => h ?_).trans (zero0_at _)
    obtain ⟨h1, _, h3⟩ := ha
    refine ⟨h1, ?_⟩
    have h4 : (q.val - k.val) / (0 + 1) < 8192 := h3
    omega

/-- A column sum the reference takes in two steps. -/
def colSum (z : FVec Ideal S8192x1024 .f32) : FVec Ideal S1x1024 .f32 :=
  broadcastInDim S1x1024 ![1] bcast_S1024_S1x1024_1 (Host.reduceAdd (shapeCast S1x1024 (Host.reduceAdd z zero0 reducesTo_S8192x1024_S1024_d0 h_S_) shapeCasts_S1024_S1x1024) zero0 reducesTo_S1x1024_S1024_d0 h_S_)

theorem colSum_at (z : FVec Ideal S8192x1024 .f32) (d : Fin 1024) : colSum z (ix2 0 d) = ∑ s : Fin 8192, z (ix2 s d) := by
  pointwise [colSum]
  simp only [Finset.univ_unique, Finset.sum_singleton]

/-- A column sum. -/
def colSum1 (z : FVec Ideal S8192x1024 .f32) : FVec Ideal S1x1024 .f32 :=
  broadcastInDim S1x1024 ![1] bcast_S1024_S1x1024_1 (Host.reduceAdd z zero0 reducesTo_S8192x1024_S1024_d0 h_S_)

theorem colSum1_at (z : FVec Ideal S8192x1024 .f32) (d : Fin 1024) : colSum1 z (ix2 0 d) = ∑ s : Fin 8192, z (ix2 s d) := by
  pointwise [colSum1]

/-- A tap's gradient, in its row. -/
def dwTap (up : Vec Ideal (MS N) .f32) (dv : Vec Ideal (MS 8192) .f32) (k : Fin n) (hs : (MS N).Slices ![k.val, 0] (MS 8192))
    (hp : (MS 1).Pads (![k.val, 0] : Fin 2 → Nat) ![n - 1 - k.val, 0] ![0, 0] (MS n)) : FVec Ideal (MS n) .f32 :=
  pad (MS n) ![k.val, 0] ![n - 1 - k.val, 0] ![0, 0] (colSum (mulf (extractStridedSlice S8192x1024 ![k.val, 0] up hs) dv)) zero0 hp h_S_

theorem dwTap_at (up : Vec Ideal (MS N) .f32) (dv : Vec Ideal (MS 8192) .f32) (k : Fin n) (hs) (hp) (q : Fin n) (d : Fin 1024) (hN : n + 8191 ≤ N) :
    dwTap up dv k hs hp (ix2 q d) = if q = k then ∑ s : Fin 8192, up (ix2 ⟨s.val + k.val, by omega⟩ d) * dv (ix2 s d) else 0 := by
  unfold dwTap
  by_cases h : q = k
  · subst h
    rw [if_pos rfl]
    refine (pad_apply_of_inside _ _ _ _ _ _ _ _ (ix2 (0 : Fin 1) d) fun a => ?_).trans ((colSum_at _ _).trans (Finset.sum_congr rfl fun s _ => ?_))
    · match a with
      | 0 => show q.val = q.val + 0 * (0 + 1); omega
      | 1 => show d.val = 0 + d.val * (0 + 1); omega
    · show extractStridedSlice S8192x1024 ![q.val, 0] up hs (ix2 s d) * dv (ix2 s d) = _
      refine congrArg (· * dv (ix2 s d)) (extractStridedSlice_apply _ _ _ _ _ fun a => ?_)
      match a with
      | 0 => show s.val + q.val = q.val + s.val; omega
      | 1 => show d.val = 0 + d.val; omega
  · rw [if_neg h]
    refine (pad_apply_of_not_inside _ _ _ _ _ _ _ _ (0 : Fin 2) fun ha => h (Fin.ext ?_)).trans (zero0_at _)
    obtain ⟨h1, _, h3⟩ := ha
    have h5 : k.val ≤ q.val := h1
    have h4 : (q.val - k.val) / (0 + 1) < 1 := h3
    omega

/-- Arrays added one after another. -/
def addsFrom {s : Shape} (f : Fin n → FVec Ideal s .f32) : List (Fin n) → FVec Ideal s .f32 → FVec Ideal s .f32
  | [], a => a
  | k :: ks, a => addsFrom f ks (addf a (f k))

theorem addsFrom_at {s : Shape} (f : Fin n → FVec Ideal s .f32) (ks : List (Fin n)) (a : FVec Ideal s .f32) (i : s.Idx) :
    addsFrom f ks a i = a i + (ks.map fun k => f k i).sum := by
  induction ks generalizing a with
  | nil => exact (add_zero _).symm
  | cons k ks ih =>
    refine (ih _).trans ?_
    show a i + f k i + _ = _
    rw [List.map_cons, List.sum_cons, add_assoc]

/-- Over a list of all taps, the sum over the taps. -/
theorem adds_sum {s : Shape} (f : Fin n → FVec Ideal s .f32) (k : Fin n) (ks : List (Fin n)) (h : (k :: ks).Perm (List.finRange n)) (i : s.Idx) :
    addsFrom f ks (f k) i = ∑ k : Fin n, f k i := by
  rw [addsFrom_at, Fin.sum_univ_def, ← (h.map fun k => f k i).sum_eq, List.map_cons, List.sum_cons]

theorem cast_self (v : Vec Ideal (MS 8192) .f32) (h : S8192x1024.ShapeCasts S8192x1024) : shapeCast S8192x1024 v h = v :=
  funext fun i => shapeCast_apply _ _ _ _ rfl

theorem sl3 : ∀ k : Fin 3, (MS 3).Slices ![k.val, 0] S1x1024 := by decide
theorem sl31 : ∀ k : Fin 31, (MS 31).Slices ![k.val, 0] S1x1024 := by decide
theorem us3 : ∀ k : Fin 3, (MS 8194).Slices ![k.val, 0] (MS 8192) := by decide
theorem us31 : ∀ k : Fin 31, (MS 8222).Slices ![k.val, 0] (MS 8192) := by decide
theorem pd3 : ∀ k : Fin 3, (MS 8192).Pads (![k.val, 0] : Fin 2 → Nat) ![3 - 1 - k.val, 0] ![0, 0] (MS 8194) := by decide
theorem pd31 : ∀ k : Fin 31, (MS 8192).Pads (![k.val, 0] : Fin 2 → Nat) ![31 - 1 - k.val, 0] ![0, 0] (MS 8222) := by decide
theorem pw3 : ∀ k : Fin 3, (MS 1).Pads (![k.val, 0] : Fin 2 → Nat) ![3 - 1 - k.val, 0] ![0, 0] (MS 3) := by decide
theorem pw31 : ∀ k : Fin 31, (MS 1).Pads (![k.val, 0] : Fin 2 → Nat) ![31 - 1 - k.val, 0] ![0, 0] (MS 31) := by decide

/-- The taps below the last, downwards. -/
def down31 : List (Fin 31) := [29, 28, 27, 26, 25, 24, 23, 22, 21, 20, 19, 18, 17, 16, 15, 14, 13, 12, 11, 10, 9, 8, 7, 6, 5, 4, 3, 2, 1, 0]

set_option maxHeartbeats 4000000 in
theorem v638_eq (x4 : Vec Ideal (MS 3) .f32) (x6 : Vec Ideal (MS 8192) .f32) :
    val_main_v638 (F := Ideal) x4 x6 = addsFrom (fun k => gTap 8194 (val_main_v606 (F := Ideal) x6) x4 k (sl3 k) (pd3 k)) [1, 0] (gTap 8194 (val_main_v607 (F := Ideal) x6) x4 2 (sl3 2) (pd3 2)) := rfl

set_option maxHeartbeats 4000000 in
theorem v636_eq (x0 x1 x6 : Vec Ideal (MS 8192) .f32) :
    val_main_v636 (F := Ideal) x0 x1 x6 = addsFrom (fun k => dwTap (val_main_v2 (F := Ideal) x0 x1) (val_main_v606 (F := Ideal) x6) k (us3 k) (pw3 k)) [1, 0] (dwTap (val_main_v2 (F := Ideal) x0 x1) (val_main_v607 (F := Ideal) x6) 2 (us3 2) (pw3 2)) := rfl

set_option maxHeartbeats 4000000 in
theorem v599_eq (x5 : Vec Ideal (MS 31) .f32) (x7 : Vec Ideal (MS 8192) .f32) :
    val_main_v599 (F := Ideal) x5 x7 = addsFrom (fun k => gTap 8222 (val_main_v259 (F := Ideal) x7) x5 k (sl31 k) (pd31 k)) down31 (gTap 8222 (val_main_v260 (F := Ideal) x7) x5 30 (sl31 30) (pd31 30)) := rfl

set_option maxHeartbeats 4000000 in
theorem v597_eq (x2 x3 x7 : Vec Ideal (MS 8192) .f32) :
    val_main_v597 (F := Ideal) x2 x3 x7 = addsFrom (fun k => dwTap (val_main_v38 (F := Ideal) x2 x3) (val_main_v259 (F := Ideal) x7) k (us31 k) (pw31 k)) down31 (dwTap (val_main_v38 (F := Ideal) x2 x3) (val_main_v260 (F := Ideal) x7) 30 (us31 30) (pw31 30)) := rfl

end Cert.ValueConv

end
-- ==== Proof.BwdConv.RefVal.lean ====
module

public import Idealize.ShloMosaic.Lib.IdealHost
public import proofs.«01_k».proof.Proof.BwdConv.RefSide

@[expose] public section

set_option maxRecDepth 16384

noncomputable section

namespace Cert.ValueConv

open Cert.RefConvIdeal Cert.RefConvIdeal.Gen Cert.RefConvIdeal.Read
open Idealize.ShloMosaic

variable {n : ℕ}

/-- The gradient of a convolution's input: over the taps, the rows around times the tap's weights. -/
def dS (o : ℕ) (v : Vec Ideal (MS 8192) .f32) (w : Vec Ideal (MS n) .f32) (s : Fin 8192) (d : Fin 1024) : EReal :=
  ∑ k : Fin n, zp 16 v (s.val + (o - k.val)) d * w (ix2 k d)

/-- The gradient of a convolution's weights: over the rows, the rows around times the input. -/
def wS (o : ℕ) (v u : Vec Ideal (MS 8192) .f32) (k : ℕ) (d : Fin 1024) : EReal :=
  ∑ r : Fin 8192, zp 16 v (r.val + (o - k)) d * u (ix2 r d)

section Spec

variable (xc xh xa xg : Vec Ideal (MS 8192) .f32) (wa : Vec Ideal (MS 3) .f32) (wb : Vec Ideal (MS 31) .f32) (va vb : Vec Ideal (MS 8192) .f32)

/-- The first convolution's input. -/
def inA : Vec Ideal (MS 8192) .f32 := fun i => xc i * xh i
/-- The second convolution's input. -/
def inB : Vec Ideal (MS 8192) .f32 := fun i => xa i * Ideal.logistic (xg i)
/-- The gradients of the four pieces of the projection. -/
def dcg (s : Fin 8192) (d : Fin 1024) : EReal := dS 17 va wa s d * xh (ix2 s d)
def dha (s : Fin 8192) (d : Fin 1024) : EReal := dS 17 va wa s d * xc (ix2 s d)
def dab (s : Fin 8192) (d : Fin 1024) : EReal := dS 31 vb wb s d * Ideal.logistic (xg (ix2 s d))
def dgb (s : Fin 8192) (d : Fin 1024) : EReal :=
  dS 31 vb wb s d * xa (ix2 s d) * Ideal.logistic (xg (ix2 s d)) * (1 - Ideal.logistic (xg (ix2 s d)))

/-- The gradient of the projection's four pieces, side by side. -/
def projAt (s : Fin 8192) (e : Fin 4096) : EReal :=
  if h : e.val < 1024 then dcg xh wa va s ⟨e.val, h⟩
  else if h : e.val < 2048 then dha xc wa va s ⟨e.val - 1024, by omega⟩
  else if h : e.val < 3072 then dab xg wb vb s ⟨e.val - 2048, by omega⟩
  else dgb xa xg wb vb s ⟨e.val - 3072, by omega⟩

/-- The small results: the weights' gradients, the column sums and two rows of zeros. -/
def smallAt (a : Fin 40) (d : Fin 1024) : EReal :=
  if a.val < 3 then wS 17 va (inA xc xh) a.val d
  else if a.val < 4 then ∑ s : Fin 8192, dcg xh wa va s d
  else if a.val < 5 then ∑ s : Fin 8192, dha xc wa va s d
  else if a.val < 6 then ∑ s : Fin 8192, dab xg wb vb s d
  else if a.val < 7 then ∑ s : Fin 8192, dgb xa xg wb vb s d
  else if a.val < 8 then 0
  else if a.val < 39 then wS 31 vb (inB xa xg) (a.val - 8) d
  else 0

end Spec

/-- The two ways of placing a row agree. -/
theorem zp_shift (v : Vec Ideal (MS 8192) .f32) (k s p : ℕ) (d : Fin 1024) (h : k ≤ 16 + p) : zp k v (s + p) d = zp 16 v (s + (16 + p - k)) d := by
  unfold zp
  by_cases h1 : k ≤ s + p
  · rw [if_pos h1, if_pos (by omega)]
    refine congrArg (fun q => at0 v q d) ?_
    omega
  · rw [if_neg h1, if_neg (by omega)]

/-- A placed entry times a number, as a sum over the rows. -/
theorem zp_mul (v : Vec Ideal (MS 8192) .f32) (p q : ℕ) (d : Fin 1024) (b : EReal) :
    zp p v q d * b = ∑ s : Fin 8192, if s.val + p = q then v (ix2 s d) * b else 0 := by
  unfold zp at0
  by_cases h : p ≤ q ∧ q - p < 8192
  · rw [if_pos h.1, dif_pos h.2, Finset.sum_eq_single (⟨q - p, h.2⟩ : Fin 8192)]
    · exact (if_pos (by show q - p + p = q; omega)).symm
    · intro s _ hs
      exact if_neg fun e => hs (Fin.ext (by show s.val = q - p; omega))
    · exact fun hk => absurd (Finset.mem_univ _) hk
  · rw [Finset.sum_eq_zero fun s _ => if_neg fun e => h ⟨by omega, by have := s.isLt; omega⟩]
    split_ifs with h1 h2
    · exact absurd ⟨h1, h2⟩ h
    · exact zero_mul _
    · exact zero_mul _

/-- A correlation read from either side. -/
theorem corr_swap (u v : Vec Ideal (MS 8192) .f32) (p k : ℕ) (d : Fin 1024) (h : k ≤ 16 + p) :
    ∑ s : Fin 8192, zp p u (s.val + k) d * v (ix2 s d) = wS (16 + p) v u k d := by
  unfold wS
  simp only [zp_mul]
  rw [Finset.sum_comm]
  refine Finset.sum_congr rfl fun r _ => Finset.sum_congr rfl fun s _ => ?_
  rw [mul_comm]
  refine if_congr ?_ rfl rfl
  constructor <;> intro e <;> omega

theorem one_bits : Ideal.ofBits .f32 0x3F800000#32 = (1 : EReal) := Idealize.ShloMosaic.Ideal.ofBits_one_f32

/-- An entry of a stack of blocks of rows, from its block. -/
theorem rowPiece {N : ℕ} (xs : List ((s : Shape) × (s.Idx → EReal))) (h : Shape.Concatenates (xs.map (·.1)) (MS N) 0) (q : Fin N) (d : Fin 1024) (k : ℕ) (hk : k < xs.length) (r : ℕ) (x : (MS r).Idx → EReal)
    (hxk : xs[k] = ⟨MS r, x⟩) (pre : ℕ) (hpre : (((xs.take k).map (·.1)).map fun s => if h : s.rank = 2 then s.size ((0 : Fin 2).cast h.symm) else 0).sum = pre) (i : Fin r) (ha : pre + i.val = q.val) :
    concatenate (MS N) 0 xs h (ix2 q d) = x (ix2 i d) := by
  refine concatenate_apply_piece 0 xs h (ix2 q d) k hk (MS r) x hxk rfl pre hpre (ix2 i d) (fun b hb => ?_) ha
  match b with
  | 0 => exact absurd rfl hb
  | 1 => rfl

/-- An entry of blocks of columns side by side, from its block. -/
theorem colPiece {N : ℕ} (xs : List ((s : Shape) × (s.Idx → EReal))) (h : Shape.Concatenates (xs.map (·.1)) (⟨2, ![8192, N]⟩) 1) (q : Fin 8192) (e : Fin N) (k : ℕ) (hk : k < xs.length) (r : ℕ) (x : (⟨2, ![8192, r]⟩ : Shape).Idx → EReal)
    (hxk : xs[k] = ⟨⟨2, ![8192, r]⟩, x⟩) (pre : ℕ) (hpre : (((xs.take k).map (·.1)).map fun s => if h : s.rank = 2 then s.size ((1 : Fin 2).cast h.symm) else 0).sum = pre) (i : Fin r) (ha : pre + i.val = e.val) :
    concatenate (⟨2, ![8192, N]⟩ : Shape) 1 xs h (ix2 q e) = x (ix2 q i) := by
  refine concatenate_apply_piece 1 xs h (ix2 q e) k hk _ x hxk rfl pre hpre (ix2 q i) (fun b hb => ?_) ha
  match b with
  | 0 => rfl
  | 1 => exact absurd rfl hb

/-- A sequence between two blocks of zeros. -/
theorem padded (p N : ℕ) (z : Vec Ideal (MS p) .f32) (hz : ∀ i, z i = (0 : EReal)) (u : Vec Ideal (MS 8192) .f32)
    (h) (hN : N = p + 8192 + p) (q : Fin N) (d : Fin 1024) :
    concatenate (MS N) 0 ([⟨MS p, z⟩, ⟨MS 8192, u⟩, ⟨MS p, z⟩] : List ((s : Shape) × (s.Idx → EReal))) h (ix2 q d) = zp p u q.val d := by
  unfold zp at0
  by_cases h1 : q.val < p
  · rw [if_neg (by omega)]
    exact Eq.trans (rowPiece _ _ _ _ 0 (by simp) p z rfl 0 rfl ⟨q.val, h1⟩ (by show 0 + q.val = q.val; omega)) (hz _)
  · rw [if_pos (by omega)]
    by_cases h2 : q.val - p < 8192
    · rw [dif_pos h2]
      exact rowPiece _ _ _ _ 1 (by simp) 8192 u rfl p (by simp) ⟨q.val - p, h2⟩ (by show p + (q.val - p) = q.val; omega)
    · rw [dif_neg h2]
      exact Eq.trans (rowPiece _ _ _ _ 2 (by simp) p z rfl (p + 8192) (by simp) ⟨q.val - (p + 8192), by omega⟩ (by show p + 8192 + (q.val - (p + 8192)) = q.val; omega)) (hz _)

theorem sig_at (x3 : Vec Ideal (MS 8192) .f32) (s : Fin 8192) (d : Fin 1024) : val_main_v32 (F := Ideal) x3 (ix2 s d) = Ideal.logistic (x3 (ix2 s d)) := by
  show Ideal.div (Ideal.ofBits .f32 0x3F800000#32) (Ideal.ofBits .f32 0x3F800000#32 + Ideal.exp (-(x3 (ix2 s d)))) = _
  rw [one_bits]
  rfl

theorem v36_eq (x2 x3 : Vec Ideal (MS 8192) .f32) : val_main_v36 (F := Ideal) x2 x3 = inB x2 x3 := by
  funext i
  obtain ⟨p, d, rfl⟩ : ∃ (p : Fin 8192) (d : Fin 1024), i = ix2 p d := ⟨i 0, i 1, eq_ix2 i⟩
  exact congrArg (x2 (ix2 p d) * ·) (sig_at x3 p d)

theorem upA_at (x0 x1 : Vec Ideal (MS 8192) .f32) (q : Fin 8194) (d : Fin 1024) : val_main_v2 (F := Ideal) x0 x1 (ix2 q d) = zp 1 (inA x0 x1) q.val d :=
  padded 1 8194 (val_main_v1 (F := Ideal)) (fun _ => zero0_at (fun b => b.elim0)) (inA x0 x1) _ rfl q d

theorem upB_at (x2 x3 : Vec Ideal (MS 8192) .f32) (q : Fin 8222) (d : Fin 1024) : val_main_v38 (F := Ideal) x2 x3 (ix2 q d) = zp 15 (inB x2 x3) q.val d := by
  rw [← v36_eq]
  exact padded 15 8222 (val_main_v37 (F := Ideal)) (fun _ => zero0_at (fun b => b.elim0)) (val_main_v36 (F := Ideal) x2 x3) _ rfl q d

theorem dpR_at (x4 : Vec Ideal (MS 3) .f32) (x6 : Vec Ideal (MS 8192) .f32) (s : Fin 8192) (d : Fin 1024) :
    val_main_v640 (F := Ideal) x4 x6 (ix2 s d) = dS 17 x6 x4 s d := by
  refine (extractStridedSlice_apply _ _ _ _ (ix2 (⟨s.val + 1, by omega⟩ : Fin 8194) d) fun a => ?_).trans ?_
  · match a with
    | 0 => show s.val + 1 = 1 + s.val; omega
    | 1 => show d.val = 0 + d.val; omega
  rw [v638_eq, show val_main_v606 (F := Ideal) x6 = x6 from cast_self x6 _, show val_main_v607 (F := Ideal) x6 = x6 from cast_self x6 _]
  rw [adds_sum (fun k => gTap 8194 x6 x4 k (sl3 k) (pd3 k)) 2 [1, 0] (by decide)]
  refine Finset.sum_congr rfl fun k _ => ?_
  rw [gTap_at, zp_shift _ _ s.val 1 _ (by omega)]

theorem duR_at (x5 : Vec Ideal (MS 31) .f32) (x7 : Vec Ideal (MS 8192) .f32) (s : Fin 8192) (d : Fin 1024) :
    val_main_v601 (F := Ideal) x5 x7 (ix2 s d) = dS 31 x7 x5 s d := by
  refine (extractStridedSlice_apply _ _ _ _ (ix2 (⟨s.val + 15, by omega⟩ : Fin 8222) d) fun a => ?_).trans ?_
  · match a with
    | 0 => show s.val + 15 = 15 + s.val; omega
    | 1 => show d.val = 0 + d.val; omega
  rw [v599_eq, show val_main_v259 (F := Ideal) x7 = x7 from cast_self x7 _, show val_main_v260 (F := Ideal) x7 = x7 from cast_self x7 _]
  rw [adds_sum (fun k => gTap 8222 x7 x5 k (sl31 k) (pd31 k)) 30 down31 (by decide)]
  refine Finset.sum_congr rfl fun k _ => ?_
  rw [gTap_at, zp_shift _ _ s.val 15 _ (by omega)]

theorem dwaR_at (x0 x1 x6 : Vec Ideal (MS 8192) .f32) (q : Fin 3) (d : Fin 1024) :
    val_main_v636 (F := Ideal) x0 x1 x6 (ix2 q d) = wS 17 x6 (inA x0 x1) q.val d := by
  rw [v636_eq, show val_main_v606 (F := Ideal) x6 = x6 from cast_self x6 _, show val_main_v607 (F := Ideal) x6 = x6 from cast_self x6 _]
  rw [adds_sum (fun k => dwTap (val_main_v2 (F := Ideal) x0 x1) x6 k (us3 k) (pw3 k)) 2 [1, 0] (by decide)]
  rw [Finset.sum_eq_single q (fun k _ hk => (dwTap_at _ _ _ _ _ _ _ (by omega)).trans (if_neg fun e => hk e.symm)) (fun hk => absurd (Finset.mem_univ _) hk), dwTap_at _ _ _ _ _ _ _ (by omega), if_pos rfl]
  rw [← corr_swap _ _ 1 _ _ (by omega)]
  exact Finset.sum_congr rfl fun s _ => by rw [upA_at]

theorem dwbR_at (x2 x3 x7 : Vec Ideal (MS 8192) .f32) (q : Fin 31) (d : Fin 1024) :
    val_main_v597 (F := Ideal) x2 x3 x7 (ix2 q d) = wS 31 x7 (inB x2 x3) q.val d := by
  rw [v597_eq, show val_main_v259 (F := Ideal) x7 = x7 from cast_self x7 _, show val_main_v260 (F := Ideal) x7 = x7 from cast_self x7 _]
  rw [adds_sum (fun k => dwTap (val_main_v38 (F := Ideal) x2 x3) x7 k (us31 k) (pw31 k)) 30 down31 (by decide)]
  rw [Finset.sum_eq_single q (fun k _ hk => (dwTap_at _ _ _ _ _ _ _ (by omega)).trans (if_neg fun e => hk e.symm)) (fun hk => absurd (Finset.mem_univ _) hk), dwTap_at _ _ _ _ _ _ _ (by omega), if_pos rfl]
  rw [← corr_swap _ _ 15 _ _ (by omega)]
  exact Finset.sum_congr rfl fun s _ => by rw [upB_at]

section Results

variable (x0 x1 x2 x3 : Vec Ideal (MS 8192) .f32) (x4 : Vec Ideal (MS 3) .f32) (x5 : Vec Ideal (MS 31) .f32) (x6 x7 : Vec Ideal (MS 8192) .f32)

theorem dcgR_at (s : Fin 8192) (d : Fin 1024) : val_main_v643 (F := Ideal) x1 x4 x6 (ix2 s d) = dcg x1 x4 x6 s d := by
  show val_main_v640 (F := Ideal) x4 x6 (ix2 s d) * x1 (ix2 s d) = _
  rw [dpR_at]; rfl

theorem dhaR_at (s : Fin 8192) (d : Fin 1024) : val_main_v642 (F := Ideal) x0 x4 x6 (ix2 s d) = dha x0 x4 x6 s d := by
  show x0 (ix2 s d) * val_main_v640 (F := Ideal) x4 x6 (ix2 s d) = _
  rw [dpR_at, mul_comm]; rfl

theorem dabR_at (s : Fin 8192) (d : Fin 1024) : val_main_v604 (F := Ideal) x3 x5 x7 (ix2 s d) = dab x3 x5 x7 s d := by
  show val_main_v601 (F := Ideal) x5 x7 (ix2 s d) * val_main_v32 (F := Ideal) x3 (ix2 s d) = _
  rw [duR_at, sig_at]; rfl

theorem dgbR_at (s : Fin 8192) (d : Fin 1024) : val_main_v605 (F := Ideal) x2 x3 x5 x7 (ix2 s d) = dgb x2 x3 x5 x7 s d := by
  show x2 (ix2 s d) * val_main_v601 (F := Ideal) x5 x7 (ix2 s d) * (val_main_v32 (F := Ideal) x3 (ix2 s d) * (Ideal.ofBits .f32 0x3F800000#32 - val_main_v32 (F := Ideal) x3 (ix2 s d))) = _
  rw [duR_at, sig_at, one_bits, mul_comm (x2 (ix2 s d)), ← mul_assoc]; rfl

theorem projR_at (s : Fin 8192) (e : Fin 4096) : val_main_v655 (F := Ideal) x0 x1 x2 x3 x4 x5 x6 x7 (ix2 s e) = projAt x0 x1 x2 x3 x4 x5 x6 x7 s e := by
  show val_main_v654 (F := Ideal) x0 x1 x2 x3 x4 x5 x6 x7 (ix2 s e) = _
  unfold val_main_v654 projAt
  split_ifs with h1 h2 h3
  · exact Eq.trans (colPiece _ _ _ _ 0 (by simp) 1024 _ rfl 0 rfl ⟨e.val, h1⟩ (by show 0 + e.val = e.val; omega)) (dcgR_at ..)
  · exact Eq.trans (colPiece _ _ _ _ 1 (by simp) 1024 _ rfl 1024 rfl ⟨e.val - 1024, by omega⟩ (by show 1024 + (e.val - 1024) = e.val; omega)) (dhaR_at ..)
  · exact Eq.trans (colPiece _ _ _ _ 2 (by simp) 1024 _ rfl 2048 rfl ⟨e.val - 2048, by omega⟩ (by show 2048 + (e.val - 2048) = e.val; omega)) (dabR_at ..)
  · exact Eq.trans (colPiece _ _ _ _ 3 (by simp) 1024 _ rfl 3072 rfl ⟨e.val - 3072, by omega⟩ (by show 3072 + (e.val - 3072) = e.val; omega)) (dgbR_at ..)

theorem smallR_at (a : Fin 40) (d : Fin 1024) : val_main_v653 (F := Ideal) x0 x1 x2 x3 x4 x5 x6 x7 (ix2 a d) = smallAt x0 x1 x2 x3 x4 x5 x6 x7 a d := by
  unfold val_main_v653 smallAt
  split_ifs with h1 h2 h3 h4 h5 h6 h7
  · exact Eq.trans (rowPiece _ _ _ _ 0 (by simp) 3 _ rfl 0 rfl ⟨a.val, h1⟩ (by show 0 + a.val = a.val; omega)) (dwaR_at ..)
  · refine Eq.trans (rowPiece _ _ _ _ 1 (by simp) 1 _ rfl 3 rfl (0 : Fin 1) (by show 3 + 0 = a.val; omega)) ((colSum1_at _ d).trans (Finset.sum_congr rfl fun s _ => ?_))
    exact dcgR_at ..
  · refine Eq.trans (rowPiece _ _ _ _ 2 (by simp) 1 _ rfl 4 rfl (0 : Fin 1) (by show 4 + 0 = a.val; omega)) ((colSum1_at _ d).trans (Finset.sum_congr rfl fun s _ => ?_))
    exact dhaR_at ..
  · refine Eq.trans (rowPiece _ _ _ _ 3 (by simp) 1 _ rfl 5 rfl (0 : Fin 1) (by show 5 + 0 = a.val; omega)) ((colSum1_at _ d).trans (Finset.sum_congr rfl fun s _ => ?_))
    exact dabR_at ..
  · refine Eq.trans (rowPiece _ _ _ _ 4 (by simp) 1 _ rfl 6 rfl (0 : Fin 1) (by show 6 + 0 = a.val; omega)) ((colSum1_at _ d).trans (Finset.sum_congr rfl fun s _ => ?_))
    exact dgbR_at ..
  · exact Eq.trans (rowPiece _ _ _ _ 5 (by simp) 1 _ rfl 7 rfl (0 : Fin 1) (by show 7 + 0 = a.val; omega)) (zero0_at (fun b => b.elim0))
  · exact Eq.trans (rowPiece _ _ _ _ 6 (by simp) 31 _ rfl 8 rfl ⟨a.val - 8, by omega⟩ (by show 8 + (a.val - 8) = a.val; omega)) (dwbR_at ..)
  · exact Eq.trans (rowPiece _ _ _ _ 7 (by simp) 1 _ rfl 39 rfl (0 : Fin 1) (by show 39 + 0 = a.val; omega)) (zero0_at (fun b => b.elim0))

end Results

end Cert.ValueConv

end
-- ==== Proof.BwdConv.Rows.lean ====
module

public import proofs.«01_k».proof.Proof.BwdConv.Sums
public import proofs.«01_k».proof.Proof.BwdConv.RefVal

@[expose] public section

set_option maxRecDepth 16384

noncomputable section

namespace Cert.BwdConvIdeal.Loops

open Cert.BwdConvIdeal Cert.BwdConvIdeal.Gen
open Cert.ValueConv (MS at0 zp)
open Idealize.ShloMosaic TcCoe Tactic

attribute [local instance] Cert.BwdConvIdeal.Gen.facts

variable {n : ℕ}

/-- A block with one row replaced, entry by entry. -/
theorem putRow_at {N : ℕ} (S : Vec Ideal (MS N) .f32) (q : ℕ) (w : Vec Ideal S1x1024 .f32) (a : Fin N) (d : Fin 1024) :
    VecWindow.put S ![q, 0] S1x1024.size w (ix2 a d) = if a.val = q then w (ix2 0 d) else S (ix2 a d) := by
  unfold VecWindow.put
  by_cases h : a.val = q
  · rw [if_pos h, dif_pos]
    swap
    · intro b
      match b with
      | 0 => show q ≤ a.val ∧ a.val < q + 1; omega
      | 1 => show 0 ≤ d.val ∧ d.val < 0 + 1024; omega
    refine congrArg w (funext fun b => Fin.ext ?_)
    match b with
    | 0 => show a.val - q = 0; omega
    | 1 => show d.val - 0 = d.val; omega
  · rw [if_neg h, dif_neg]
    intro hb
    have b0 : q ≤ a.val ∧ a.val < q + 1 := hb 0
    exact h (by omega)

/-- A row of the small results after it took a tile's column sums. -/
theorem addRow_at (S : Vec Ideal S40x1024 .f32) (q : ℕ) (hq : q < 40) (z : FVec Ideal S256x1024 .f32) (a : Fin 40) (d : Fin 1024) :
    addRowVal S q hq z (ix2 a d) = if a.val = q then S (ix2 a d) + ∑ p : Fin 256, z (ix2 p d) else S (ix2 a d) := by
  unfold addRowVal
  refine (putRow_at _ _ _ _ _).trans ?_
  by_cases h : a.val = q
  · rw [if_pos h, if_pos h]
    show _ + _ = _
    refine congrArg₂ (· + ·) ?_ ?_
    · refine (shapeCast_apply _ _ _ (ix2 (0 : Fin 1) d) rfl).trans ?_
      refine congrArg S (funext fun b => Fin.ext ?_)
      match b with
      | 0 => show q + 1 * 0 = a.val; omega
      | 1 => show 0 + 1 * d.val = d.val; omega
    · refine (shapeCast_apply _ _ _ (ix1 d) ?_).trans ?_
      · rw [Shape.rowMajor_val_two, Shape.rowMajor_val_one]
        show d.val = 0 * 1024 + d.val
        omega
      refine (Ideal.multiReduction_add_single _ _ _ _ _ _).trans (Finset.sum_congr rfl fun (p : Fin 256) _ => ?_)
      refine congrArg z (funext fun b => ?_)
      match b with
      | 0 => rfl
      | 1 => rfl
  · rw [if_neg h, if_neg h]

/-- A tap's sums over the sublanes, in its row. -/
theorem collect_step (G : Vec Ideal (TS n) .f32) (o : ℕ) (k : Fin n) (S : Vec Ideal S40x1024 .f32) (a : Fin 40) (d : Fin 1024) :
    VecWindow.put S ![o + k.val, 0] S1x1024.size
      (shapeCast S1x1024 (multiReduction .add [0] S1024 (shapeCast S8x1024 (VecWindow.window G ![k.val, 0, 0] S1x8x1024.size (tapAll_inb k)) shapeCasts_S1x8x1024_S8x1024 : FVec Ideal S8x1024 .f32) 0x00000000#32 reduces_S8x1024_S1024 (.inl rfl) rfl : FVec Ideal S1024 .f32) shapeCasts_S1024_S1x1024) (ix2 a d)
      = if a.val = o + k.val then ∑ s : Fin 8, G (ix3 k s d) else S (ix2 a d) := by
  refine (putRow_at (N := 40) S _ _ _ _).trans (if_congr Iff.rfl ?_ rfl)
  refine (shapeCast_apply _ _ _ (ix1 d) ?_).trans ?_
  · rw [Shape.rowMajor_val_two, Shape.rowMajor_val_one]
    show d.val = 0 * 1024 + d.val
    omega
  refine (Ideal.multiReduction_add_single _ _ _ _ _ _).trans (Finset.sum_congr rfl fun (s : Fin 8) _ => ?_)
  refine (shapeCast_apply _ _ _ (ix3 (0 : Fin 1) s d) ?_).trans ?_
  · rw [Shape.rowMajor_val_two, Shape.rowMajor_val_three]
    show (0 * 8 + s.val) * 1024 + d.val = s.val * 1024 + d.val
    omega
  refine congrArg G (funext fun b => Fin.ext ?_)
  match b with
  | 0 => show k.val + 1 * 0 = k.val; omega
  | 1 => show 0 + 1 * s.val = s.val; omega
  | 2 => show 0 + 1 * d.val = d.val; omega

/-- A row no listed tap owns stays. -/
theorem collect_other (G : Vec Ideal (TS n) .f32) (o : ℕ) (ks : List (Fin n)) (S : Vec Ideal S40x1024 .f32) (a : Fin 40) (d : Fin 1024)
    (h : ∀ k ∈ ks, a.val ≠ o + k.val) : collectVal G o ks S (ix2 a d) = S (ix2 a d) := by
  induction ks generalizing S with
  | nil => rfl
  | cons k ks ih =>
    unfold collectVal
    rw [ih _ fun q hq => h q (List.mem_cons_of_mem _ hq), collect_step, if_neg (h k List.mem_cons_self)]

/-- A listed tap's row takes the tap's sums. -/
theorem collect_own (G : Vec Ideal (TS n) .f32) (o : ℕ) (ks : List (Fin n)) (S : Vec Ideal S40x1024 .f32) (a : Fin 40) (d : Fin 1024) (k : Fin n)
    (hk : k ∈ ks) (ha : a.val = o + k.val) : collectVal G o ks S (ix2 a d) = ∑ s : Fin 8, G (ix3 k s d) := by
  induction ks generalizing S with
  | nil => exact absurd hk List.not_mem_nil
  | cons q ks ih =>
    unfold collectVal
    by_cases h : k ∈ ks
    · exact ih _ h
    · have e : k = q := (List.mem_cons.1 hk).resolve_right h
      subst e
      rw [collect_other, collect_step, if_pos ha]
      intro q hq e
      exact h ((Fin.ext (by omega) : k = q) ▸ hq)

/-- Neighbouring rows, entry by entry. -/
theorem lo_at (t : Fin 32) (pv : Vec Ideal S16x1024 .f32) (q : Fin 16) (d : Fin 1024) :
    lo (BitVec.ofNat 32 t.val) pv (ix2 q d) = if t.val = 0 then (0 : EReal) else pv (ix2 q d) := by
  have h : ∀ t : Fin 32, Scalar.cmpi .sgt (BitVec.ofNat 32 t.val) 0#32 = if t.val = 0 then 0#1 else 1#1 := by decide
  unfold lo edge
  rw [h]
  split_ifs with h0
  · exact zero_at (ix2 q d : S16x1024.Idx)
  · rfl

theorem hi_at (t : Fin 32) (nx : Vec Ideal S16x1024 .f32) (q : Fin 16) (d : Fin 1024) :
    hi (BitVec.ofNat 32 t.val) nx (ix2 q d) = if t.val = 31 then (0 : EReal) else nx (ix2 q d) := by
  have h : ∀ t : Fin 32, Scalar.cmpi .slt (BitVec.ofNat 32 t.val) 31#32 = if t.val = 31 then 0#1 else 1#1 := by decide
  unfold hi edge
  rw [h]
  split_ifs with h0
  · exact zero_at (ix2 q d : S16x1024.Idx)
  · rfl

/-- A tile with its neighbours' rows reads the whole sequence with zeros around it. -/
theorem ext_zp (v : Vec Ideal (MS 8192) .f32) (t : Fin 32) (x : Vec Ideal S256x1024 .f32) (pv nx : Vec Ideal S16x1024 .f32)
    (hx : ∀ (p : Fin 256) d, x (ix2 p d) = at0 v (256 * t.val + p.val) d)
    (hp : t.val ≠ 0 → ∀ (p : Fin 16) d, pv (ix2 p d) = at0 v (256 * t.val + p.val - 16) d)
    (hn : t.val ≠ 31 → ∀ (p : Fin 16) d, nx (ix2 p d) = at0 v (256 * t.val + 256 + p.val) d)
    (q : ℕ) (hq : q < 288) (d : Fin 1024) :
    ext x (lo (BitVec.ofNat 32 t.val) pv) (hi (BitVec.ofNat 32 t.val) nx) q d = zp 16 v (256 * t.val + q) d := by
  unfold ext zp
  split_ifs with h1 h2 h3 h4 h5
  · rw [lo_at, if_neg (by omega), hp (by omega)]
  · rw [lo_at, if_pos (by omega)]
  · rw [hx]
    refine congrArg (fun q => at0 v q d) ?_
    show 256 * t.val + (q - 16) = _; omega
  · omega
  · rw [hi_at]
    by_cases h : t.val = 31
    · rw [if_pos h]
      unfold at0
      rw [dif_neg (by omega)]
    · rw [if_neg h, hn h]
      refine congrArg (fun q => at0 v q d) ?_
      show 256 * t.val + 256 + (q - 272) = _; omega
  · omega

/-- The pieces of the projection's gradient, entry by entry. -/
theorem gateC_at (dp : Vec Ideal S256x1024 .f32) (z : Vec Ideal S256x1024 .bf16) (p : Fin 256) (d : Fin 1024) : gateC dp z (ix2 p d) = dp (ix2 p d) * z (ix2 p d) :=
  congrArg (dp (ix2 p d) * ·) (shapeCast_apply z _ _ _ rfl)

theorem sgm_at (g : Vec Ideal S256x1024 .bf16) (p : Fin 256) (d : Fin 1024) : sgm g (ix2 p d) = Ideal.logistic (g (ix2 p d)) :=
  congrArg Ideal.logistic (shapeCast_apply g _ _ _ rfl)

theorem gateG_at (du : Vec Ideal S256x1024 .f32) (a g : Vec Ideal S256x1024 .bf16) (p : Fin 256) (d : Fin 1024) :
    gateG du a g (ix2 p d) = du (ix2 p d) * a (ix2 p d) * Ideal.logistic (g (ix2 p d)) * (1 - Ideal.logistic (g (ix2 p d))) := by
  show du (ix2 p d) * shapeCast S256x1024 a _ (ix2 p d) * sgm g (ix2 p d) * (Ideal.ofBits .f32 0x3F800000#32 - sgm g (ix2 p d)) = _
  rw [sgm_at, shapeCast_apply a _ _ _ rfl, Cert.ValueConv.one_bits]

/-- A row block with a block of columns replaced, entry by entry. -/
theorem putCol_at (P : Vec Ideal S256x4096 .bf16) (o : ℕ) (w : Vec Ideal S256x1024 .bf16) (p : Fin 256) (e : Fin 4096) :
    VecWindow.put P ![0, o] S256x1024.size w (ix2 p e) = if h : o ≤ e.val ∧ e.val < o + 1024 then w (ix2 p ⟨e.val - o, by omega⟩) else P (ix2 p e) := by
  unfold VecWindow.put
  by_cases h : o ≤ e.val ∧ e.val < o + 1024
  · rw [dif_pos h, dif_pos]
    swap
    · intro b
      match b with
      | 0 => show 0 ≤ p.val ∧ p.val < 0 + 256; omega
      | 1 => show o ≤ e.val ∧ e.val < o + 1024; omega
    refine congrArg w (funext fun b => Fin.ext ?_)
    match b with
    | 0 => show p.val - 0 = p.val; omega
    | 1 => rfl
  · rw [dif_neg h, dif_neg]
    exact fun hb => h (hb 1)

theorem projT_at (dp du : Vec Ideal S256x1024 .f32) (cg ha a g : Vec Ideal S256x1024 .bf16) (p : Fin 256) (e : Fin 4096) :
    projT dp du cg ha a g (ix2 p e)
      = if h : e.val < 1024 then gateC dp ha (ix2 p ⟨e.val, h⟩)
        else if h : e.val < 2048 then gateC dp cg (ix2 p ⟨e.val - 1024, by omega⟩)
        else if h : e.val < 3072 then du (ix2 p ⟨e.val - 2048, by omega⟩) * sgm g (ix2 p ⟨e.val - 2048, by omega⟩)
        else gateG du a g (ix2 p ⟨e.val - 3072, by omega⟩) := by
  unfold projT projVal
  rw [putCol_at, putCol_at, putCol_at, putCol_at]
  have he := e.isLt
  split_ifs <;> first | omega | rfl

/-- What a tile adds to a row of column sums. -/
def rowAdd (dp du : Vec Ideal S256x1024 .f32) (cg ha a g : Vec Ideal S256x1024 .bf16) (r : ℕ) (p : Fin 256) (d : Fin 1024) : EReal :=
  if r = 3 then gateC dp ha (ix2 p d) else if r = 4 then gateC dp cg (ix2 p d)
  else if r = 5 then du (ix2 p d) * sgm g (ix2 p d) else if r = 6 then gateG du a g (ix2 p d) else 0

theorem rows_at (dp du : Vec Ideal S256x1024 .f32) (cg ha a g : Vec Ideal S256x1024 .bf16) (S : Vec Ideal S40x1024 .f32) (r : Fin 40) (d : Fin 1024) :
    rowsVal dp du cg ha a g S (ix2 r d) = S (ix2 r d) + ∑ p : Fin 256, rowAdd dp du cg ha a g r.val p d := by
  unfold rowsVal rowAdd
  simp only [addRow_at]
  split_ifs <;> first | omega | rfl | simp

/-- A sum over a range cut in pieces of equal length. -/
theorem cut_sum (a b N : ℕ) (hN : N = a * b) (f : ℕ → EReal) : ∑ x : Fin a, ∑ y : Fin b, f (b * x.val + y.val) = ∑ i : Fin N, f i.val := by
  subst hN
  rw [← Fintype.sum_prod_type' (fun (x : Fin a) (y : Fin b) => f (b * x.val + y.val))]
  refine Fintype.sum_equiv finProdFinEquiv _ _ fun x => congrArg f ?_
  simp only [finProdFinEquiv_apply_val]
  omega

/-- The order the kernel adds a tap's products in, sublane by sublane, covers the rows. -/
theorem rows_sum (f : ℕ → EReal) :
    ∑ s : Fin 8, ∑ t : Fin 32, ∑ r : Fin 4, ∑ j : Fin 8, f (256 * t.val + (64 * r.val + (8 * j.val + s.val))) = ∑ i : Fin 8192, f i.val := by
  rw [← cut_sum 32 256 8192 rfl f, Finset.sum_comm]
  refine Finset.sum_congr rfl fun t _ => ?_
  rw [← cut_sum 4 64 256 rfl fun q => f (256 * t.val + q), Finset.sum_comm]
  refine Finset.sum_congr rfl fun r _ => ?_
  rw [← cut_sum 8 8 64 rfl fun q => f (256 * t.val + (64 * r.val + q)), Finset.sum_comm]

end Cert.BwdConvIdeal.Loops

end
-- ==== Proof.BwdConv.Host.lean ====
module

public import proofs.«01_k».proof.Proof.BwdConv.Points
public import proofs.«01_k».proof.Proof.BwdConv.Rows
public import Idealize.ShloMosaic.Lib.StableHlo.ReadAt
public import Idealize.ShloMosaic.Lib.Pipeline.ValueKit
public import Idealize.ShloMosaic.Lib.Pipeline.Value

@[expose] public section

set_option maxRecDepth 16384

noncomputable section

namespace Cert.BwdConvIdeal.Loops

open Cert.BwdConvIdeal Cert.BwdConvIdeal.Gen
open Cert.ValueConv (MS at0 zp inA inB dS wS dcg dha dab dgb projAt smallAt)
open Idealize.ShloMosaic TcCoe Tactic
open Idealize.SL Idealize.SL.Sem

attribute [local instance] Cert.BwdConvIdeal.Gen.facts

variable (m : (ℓ : Loc nD τ sig) → Buf (Elt Ideal) ℓ) (c : Dev nD)

/-- The arguments. -/
abbrev aC : Vec Ideal (MS 8192) .f32 := m (c.tc.loc main_arg0)
abbrev aH : Vec Ideal (MS 8192) .f32 := m (c.tc.loc main_arg1)
abbrev aA : Vec Ideal (MS 8192) .f32 := m (c.tc.loc main_arg2)
abbrev aG : Vec Ideal (MS 8192) .f32 := m (c.tc.loc main_arg3)
abbrev kA : Vec Ideal (MS 3) .f32 := m (c.tc.loc main_arg4)
abbrev kB : Vec Ideal (MS 31) .f32 := m (c.tc.loc main_arg5)
abbrev aU : Vec Ideal (MS 8192) .f32 := m (c.tc.loc main_arg6)
abbrev aV : Vec Ideal (MS 8192) .f32 := m (c.tc.loc main_arg7)

/-- What the host prepares: the two filters' inputs and the four pieces side by side. -/
theorem inA_at (s : Fin 8192) (d : Fin 1024) : V m c main_v0 (ix2 s d) = inA (aC m c) (aH m c) (ix2 s d) := by
  unfold V
  after_reads_at
  rfl

theorem inB_at (s : Fin 8192) (d : Fin 1024) : V m c main_v7 (ix2 s d) = inB (aA m c) (aG m c) (ix2 s d) := by
  have h : V m c main_v7 (ix2 s d) = aA m c (ix2 s d) * Ideal.div (Ideal.ofBits .f32 0x3F800000#32) (Ideal.ofBits .f32 0x3F800000#32 + Ideal.exp (-(aG m c (ix2 s d)))) := by
    unfold V
    after_reads_at
  rw [h, Cert.ValueConv.one_bits]
  rfl

theorem pjC_at (s : Fin 8192) (d : Fin 1024) : V m c main_v10 (ix2 s ⟨1024 + d.val, by omega⟩) = aC m c (ix2 s d) := by
  unfold V
  after_reads_at
  after_reads_simp
theorem pjH_at (s : Fin 8192) (d : Fin 1024) : V m c main_v10 (ix2 s ⟨2048 + d.val, by omega⟩) = aH m c (ix2 s d) := by
  unfold V
  after_reads_at
  after_reads_simp
  pointwise []
  rw [dif_neg (by omega), dif_neg (by omega), dif_pos (by omega)]
  refine congrArg (fun q => aH m c (ix2 s q)) (Fin.ext ?_)
  show 2048 + d.val - 1024 - 1024 = d.val
  omega
theorem pjA_at (s : Fin 8192) (d : Fin 1024) : V m c main_v10 (ix2 s ⟨3072 + d.val, by omega⟩) = aA m c (ix2 s d) := by
  unfold V
  after_reads_at
  after_reads_simp
  pointwise []
  rw [dif_neg (by omega), dif_neg (by omega), dif_neg (by omega), dif_pos (by omega)]
  refine congrArg (fun q => aA m c (ix2 s q)) (Fin.ext ?_)
  show 3072 + d.val - 1024 - 1024 - 1024 = d.val
  omega
theorem pjG_at (s : Fin 8192) (d : Fin 1024) : V m c main_v10 (ix2 s ⟨4096 + d.val, by omega⟩) = aG m c (ix2 s d) := by
  unfold V
  after_reads_at
  after_reads_simp
  pointwise []
  rw [dif_neg (by omega), dif_neg (by omega), dif_neg (by omega), dif_neg (by omega), dif_pos (by omega)]
  refine congrArg (fun q => aG m c (ix2 s q)) (Fin.ext ?_)
  show 4096 + d.val - 1024 - 1024 - 1024 - 1024 = d.val
  omega

theorem lt32 (t : Fin cfg0.N) : t.val < 32 := lt_of_lt_of_eq t.isLt N32
/-- The row of the arrays a tile's row is. -/
abbrev row (t : Fin cfg0.N) (p : Fin 256) : Fin 8192 := ⟨t.val * 256 + p.val, by have h := lt32 t; omega⟩

theorem e0 : ∀ t : Fin cfg0.N, win0_0.index t = ![t.val, 0] := by decide +kernel
theorem e3 : ∀ t : Fin cfg0.N, win0_3.index t = ![t.val, 0] := by decide +kernel
theorem e6 : ∀ t : Fin cfg0.N, win0_6.index t = ![t.val, 0] := by decide +kernel
theorem e7 : ∀ t : Fin cfg0.N, win0_7.index t = ![t.val, 0] := by decide +kernel
theorem e8 : ∀ t : Fin cfg0.N, win0_8.index t = ![t.val, 1] := by decide +kernel
theorem e9 : ∀ t : Fin cfg0.N, win0_9.index t = ![t.val, 2] := by decide +kernel
theorem e10 : ∀ t : Fin cfg0.N, win0_10.index t = ![t.val, 3] := by decide +kernel
theorem e11 : ∀ t : Fin cfg0.N, win0_11.index t = ![t.val, 4] := by decide +kernel
theorem e12 : ∀ t : Fin cfg0.N, win0_12.index t = ![0, 0] := by decide +kernel
theorem e13 : ∀ t : Fin cfg0.N, win0_13.index t = ![0, 0] := by decide +kernel
theorem e14 : ∀ t : Fin cfg0.N, win0_14.index t = ![t.val, 0] := by decide +kernel
theorem e1 : ∀ t : Fin cfg0.N, win0_1.index t = ![16 * t.val - 1, 0] := by decide +kernel
theorem e4 : ∀ t : Fin cfg0.N, win0_4.index t = ![16 * t.val - 1, 0] := by decide +kernel
theorem e2 : ∀ t : Fin cfg0.N, win0_2.index t = ![min (16 * (t.val + 1)) 511, 0] := by decide +kernel
theorem e5 : ∀ t : Fin cfg0.N, win0_5.index t = ![min (16 * (t.val + 1)) 511, 0] := by decide +kernel
theorem emb14 (t : Fin cfg0.N) (p : Fin 256) (e : Fin 4096) : (win0_14.blk t).view.emb (ix2 p e) = (ix2 (row t p) e : S8192x4096.Idx) := by blk_ext [e14]

theorem b0_at (t : Fin cfg0.N) (p : Fin 256) (d : Fin 1024) : iblk m c 0 t (ix2 p d) = aU m c (ix2 (row t p) d) := by
  blk_simp [iblk]
  rw [V_main_arg6]
  refine congrArg _ ?_
  blk_ext [e0]
theorem b1_at (t : Fin cfg0.N) (h : t.val ≠ 0) (p : Fin 16) (d : Fin 1024) : iblk m c 1 t (ix2 p d) = aU m c (ix2 ⟨256 * t.val + p.val - 16, by have := lt32 t; omega⟩ d) := by
  blk_simp [iblk]
  rw [V_main_arg6]
  refine congrArg _ ?_
  blk_ext [e1]
theorem b2_at (t : Fin cfg0.N) (h : t.val ≠ 31) (p : Fin 16) (d : Fin 1024) : iblk m c 2 t (ix2 p d) = aU m c (ix2 ⟨256 * t.val + 256 + p.val, by have := lt32 t; omega⟩ d) := by
  have ht := lt32 t
  blk_simp [iblk]
  rw [V_main_arg6]
  refine congrArg _ ?_
  blk_ext [e2]
theorem b3_at (t : Fin cfg0.N) (p : Fin 256) (d : Fin 1024) : iblk m c 3 t (ix2 p d) = aV m c (ix2 (row t p) d) := by
  blk_simp [iblk]
  rw [V_main_arg7]
  refine congrArg _ ?_
  blk_ext [e3]
theorem b4_at (t : Fin cfg0.N) (h : t.val ≠ 0) (p : Fin 16) (d : Fin 1024) : iblk m c 4 t (ix2 p d) = aV m c (ix2 ⟨256 * t.val + p.val - 16, by have := lt32 t; omega⟩ d) := by
  blk_simp [iblk]
  rw [V_main_arg7]
  refine congrArg _ ?_
  blk_ext [e4]
theorem b5_at (t : Fin cfg0.N) (h : t.val ≠ 31) (p : Fin 16) (d : Fin 1024) : iblk m c 5 t (ix2 p d) = aV m c (ix2 ⟨256 * t.val + 256 + p.val, by have := lt32 t; omega⟩ d) := by
  have ht := lt32 t
  blk_simp [iblk]
  rw [V_main_arg7]
  refine congrArg _ ?_
  blk_ext [e5]
theorem b6_at (t : Fin cfg0.N) (p : Fin 256) (d : Fin 1024) : iblk m c 6 t (ix2 p d) = inA (aC m c) (aH m c) (ix2 (row t p) d) := by
  refine Eq.trans ?_ (inA_at m c (row t p) d)
  blk_simp [iblk]
  refine congrArg _ ?_
  blk_ext [e6]
theorem b7_at (t : Fin cfg0.N) (p : Fin 256) (d : Fin 1024) : iblk m c 7 t (ix2 p d) = inB (aA m c) (aG m c) (ix2 (row t p) d) := by
  refine Eq.trans ?_ (inB_at m c (row t p) d)
  blk_simp [iblk]
  refine congrArg _ ?_
  blk_ext [e7]
theorem b8_at (t : Fin cfg0.N) (p : Fin 256) (d : Fin 1024) : iblk m c 8 t (ix2 p d) = aC m c (ix2 (row t p) d) := by
  refine Eq.trans ?_ (pjC_at m c (row t p) d)
  blk_simp [iblk]
  refine congrArg _ ?_
  blk_ext [e8]
theorem b9_at (t : Fin cfg0.N) (p : Fin 256) (d : Fin 1024) : iblk m c 9 t (ix2 p d) = aH m c (ix2 (row t p) d) := by
  refine Eq.trans ?_ (pjH_at m c (row t p) d)
  blk_simp [iblk]
  refine congrArg _ ?_
  blk_ext [e9]
theorem b10_at (t : Fin cfg0.N) (p : Fin 256) (d : Fin 1024) : iblk m c 10 t (ix2 p d) = aA m c (ix2 (row t p) d) := by
  refine Eq.trans ?_ (pjA_at m c (row t p) d)
  blk_simp [iblk]
  refine congrArg _ ?_
  blk_ext [e10]
theorem b11_at (t : Fin cfg0.N) (p : Fin 256) (d : Fin 1024) : iblk m c 11 t (ix2 p d) = aG m c (ix2 (row t p) d) := by
  refine Eq.trans ?_ (pjG_at m c (row t p) d)
  blk_simp [iblk]
  refine congrArg _ ?_
  blk_ext [e11]
theorem b12_at (t : Fin cfg0.N) (k : Fin 3) (d : Fin 1024) : iblk m c 12 t (ix2 k d) = kA m c (ix2 k d) := by
  blk_simp [iblk]
  rw [V_main_arg4]
  refine congrArg _ ?_
  blk_ext [e12]
theorem b13_at (t : Fin cfg0.N) (k : Fin 31) (d : Fin 1024) : iblk m c 13 t (ix2 k d) = kB m c (ix2 k d) := by
  blk_simp [iblk]
  rw [V_main_arg5]
  refine congrArg _ ?_
  blk_ext [e13]

theorem pt_eq (t : Fin cfg0.N) : pt t = BitVec.ofNat 32 (⟨t.val, lt32 t⟩ : Fin 32).val := congrArg (BitVec.ofNat 32) (coords_val t)

/-- The tiles with their neighbours' rows read the whole sequences with zeros around them. -/
theorem extU_at (t : Fin cfg0.N) (q : ℕ) (hq : q < 288) (d : Fin 1024) :
    ext (iblk m c 0 t) (lo (pt t) (iblk m c 1 t)) (hi (pt t) (iblk m c 2 t)) q d = zp 16 (aU m c) (256 * t.val + q) d := by
  have ht := lt32 t
  rw [pt_eq]
  refine ext_zp (aU m c) ⟨t.val, ht⟩ _ _ _ (fun p d => ?_) (fun h p d => ?_) (fun h p d => ?_) q hq d
  · refine (b0_at m c t p d).trans ?_
    unfold at0
    rw [dif_pos (by show 256 * t.val + p.val < 8192; omega)]
    refine congrArg (fun q => aU m c (ix2 q d)) (Fin.ext ?_)
    show t.val * 256 + p.val = 256 * t.val + p.val; omega
  · have h : t.val ≠ 0 := h
    refine (b1_at m c t h p d).trans ?_
    unfold at0
    rw [dif_pos (by show 256 * t.val + p.val - 16 < 8192; omega)]
  · have h : t.val ≠ 31 := h
    refine (b2_at m c t h p d).trans ?_
    unfold at0
    rw [dif_pos (by show 256 * t.val + 256 + p.val < 8192; omega)]

theorem extV_at (t : Fin cfg0.N) (q : ℕ) (hq : q < 288) (d : Fin 1024) :
    ext (iblk m c 3 t) (lo (pt t) (iblk m c 4 t)) (hi (pt t) (iblk m c 5 t)) q d = zp 16 (aV m c) (256 * t.val + q) d := by
  have ht := lt32 t
  rw [pt_eq]
  refine ext_zp (aV m c) ⟨t.val, ht⟩ _ _ _ (fun p d => ?_) (fun h p d => ?_) (fun h p d => ?_) q hq d
  · refine (b3_at m c t p d).trans ?_
    unfold at0
    rw [dif_pos (by show 256 * t.val + p.val < 8192; omega)]
    refine congrArg (fun q => aV m c (ix2 q d)) (Fin.ext ?_)
    show t.val * 256 + p.val = 256 * t.val + p.val; omega
  · have h : t.val ≠ 0 := h
    refine (b4_at m c t h p d).trans ?_
    unfold at0
    rw [dif_pos (by show 256 * t.val + p.val - 16 < 8192; omega)]
  · have h : t.val ≠ 31 := h
    refine (b5_at m c t h p d).trans ?_
    unfold at0
    rw [dif_pos (by show 256 * t.val + 256 + p.val < 8192; omega)]

/-- A tile's gradients of the filters' inputs. -/
theorem dpAt_at (t : Fin cfg0.N) (p : Fin 256) (d : Fin 1024) : dpAt m c t (ix2 p d) = dS 17 (aU m c) (kA m c) (row t p) d := by
  unfold dpAt wA dS
  refine (dpT_at goodA _ _ _ _ p d).trans (Finset.sum_congr rfl fun k _ => ?_)
  rw [extU_at m c t _ (by omega), b12_at]
  refine congrArg (fun q => zp 16 (aU m c) q d * kA m c (ix2 k d)) ?_
  show 256 * t.val + (p.val + (17 - k.val)) = t.val * 256 + p.val + (17 - k.val); omega

theorem duAt_at (t : Fin cfg0.N) (p : Fin 256) (d : Fin 1024) : duAt m c t (ix2 p d) = dS 31 (aV m c) (kB m c) (row t p) d := by
  unfold duAt wB dS
  refine (dpT_at goodB _ _ _ _ p d).trans (Finset.sum_congr rfl fun k _ => ?_)
  rw [extV_at m c t _ (by omega), b13_at]
  refine congrArg (fun q => zp 16 (aV m c) q d * kB m c (ix2 k d)) ?_
  show 256 * t.val + (p.val + (31 - k.val)) = t.val * 256 + p.val + (31 - k.val); omega

/-- A product of a tap's sums, by its row's number. -/
def tapTerm (o : ℕ) (v u : Vec Ideal (MS 8192) .f32) (k : ℕ) (d : Fin 1024) (q : ℕ) : EReal := zp 16 v (q + (o - k)) d * at0 u q d

theorem sumA_at (t : Fin cfg0.N) (k : Fin 3) (s : Fin 8) (d : Fin 1024) (r : Fin 4) :
    rowSum 17 (iblk m c 0 t) (lo (pt t) (iblk m c 1 t)) (hi (pt t) (iblk m c 2 t)) (iblk m c 6 t) k s d r
      = ∑ j : Fin 8, tapTerm 17 (aU m c) (inA (aC m c) (aH m c)) k.val d (256 * t.val + (64 * r.val + (8 * j.val + s.val))) := by
  have ht := lt32 t
  unfold rowSum tapTerm
  refine Finset.sum_congr rfl fun j _ => ?_
  rw [extU_at m c t _ (by omega), b6_at]
  refine congrArg₂ (· * ·) (congrArg (fun q => zp 16 (aU m c) q d) (by omega)) ?_
  unfold at0
  rw [dif_pos (by omega)]
  refine congrArg (fun q => inA (aC m c) (aH m c) (ix2 q d)) (Fin.ext ?_)
  show t.val * 256 + (64 * r.val + (8 * j.val + s.val)) = 256 * t.val + (64 * r.val + (8 * j.val + s.val)); omega

theorem sumB_at (t : Fin cfg0.N) (k : Fin 31) (s : Fin 8) (d : Fin 1024) (r : Fin 4) :
    rowSum 31 (iblk m c 3 t) (lo (pt t) (iblk m c 4 t)) (hi (pt t) (iblk m c 5 t)) (iblk m c 7 t) k s d r
      = ∑ j : Fin 8, tapTerm 31 (aV m c) (inB (aA m c) (aG m c)) k.val d (256 * t.val + (64 * r.val + (8 * j.val + s.val))) := by
  have ht := lt32 t
  unfold rowSum tapTerm
  refine Finset.sum_congr rfl fun j _ => ?_
  rw [extV_at m c t _ (by omega), b7_at]
  refine congrArg₂ (· * ·) (congrArg (fun q => zp 16 (aV m c) q d) (by omega)) ?_
  unfold at0
  rw [dif_pos (by omega)]
  refine congrArg (fun q => inB (aA m c) (aG m c) (ix2 q d)) (Fin.ext ?_)
  show t.val * 256 + (64 * r.val + (8 * j.val + s.val)) = 256 * t.val + (64 * r.val + (8 * j.val + s.val)); omega

/-- The short filter's accumulators after a point. -/
theorem gA_at (k : Fin 3) (s : Fin 8) (d : Fin 1024) : ∀ (n : ℕ) (h : n < cfg0.N), gA m c n h (ix3 k s d)
    = ∑ t : Fin (n + 1), ∑ r : Fin 4, ∑ j : Fin 8, tapTerm 17 (aU m c) (inA (aC m c) (aH m c)) k.val d (256 * t.val + (64 * r.val + (8 * j.val + s.val)))
  | 0, h => by
    unfold gA stepA
    have hz : (zA (F := Ideal)) (ix3 k s d) = (0 : EReal) := (shapeCast_apply _ _ _ (ix3 k s d) rfl).trans (zero_at _)
    rw [accTile_at goodA, hz, zero_add, Fin.sum_univ_one]
    exact Finset.sum_congr rfl fun r _ => sumA_at m c ⟨0, h⟩ k s d r
  | n + 1, h => by
    unfold gA stepA
    rw [accTile_at goodA, gA_at k s d n (Nat.lt_of_succ_lt h), Fin.sum_univ_castSucc (n := n + 1)]
    exact congrArg₂ (· + ·) rfl (Finset.sum_congr rfl fun r _ => sumA_at m c ⟨n + 1, h⟩ k s d r)

/-- The long filter's accumulators after a point. -/
theorem gB_at (k : Fin 31) (s : Fin 8) (d : Fin 1024) : ∀ (n : ℕ) (h : n < cfg0.N), gB m c n h (ix3 k s d)
    = ∑ t : Fin (n + 1), ∑ r : Fin 4, ∑ j : Fin 8, tapTerm 31 (aV m c) (inB (aA m c) (aG m c)) k.val d (256 * t.val + (64 * r.val + (8 * j.val + s.val)))
  | 0, h => by
    unfold gB stepB
    have hz : (zB (F := Ideal)) (ix3 k s d) = (0 : EReal) := (shapeCast_apply _ _ _ (ix3 k s d) rfl).trans (zero_at _)
    rw [accTile_at goodB, hz, zero_add, Fin.sum_univ_one]
    exact Finset.sum_congr rfl fun r _ => sumB_at m c ⟨0, h⟩ k s d r
  | n + 1, h => by
    unfold gB stepB
    rw [accTile_at goodB, gB_at k s d n (Nat.lt_of_succ_lt h), Fin.sum_univ_castSucc (n := n + 1)]
    exact congrArg₂ (· + ·) rfl (Finset.sum_congr rfl fun r _ => sumB_at m c ⟨n + 1, h⟩ k s d r)

/-- A tap's products over all rows are the weight's gradient. -/
theorem tap_total (o : ℕ) (v u : Vec Ideal (MS 8192) .f32) (k : ℕ) (d : Fin 1024) :
    ∑ s : Fin 8, ∑ t : Fin (31 + 1), ∑ r : Fin 4, ∑ j : Fin 8, tapTerm o v u k d (256 * t.val + (64 * r.val + (8 * j.val + s.val))) = wS o v u k d := by
  refine (rows_sum (tapTerm o v u k d)).trans (Finset.sum_congr rfl fun r _ => ?_)
  unfold tapTerm
  rw [Cert.ValueConv.at0_val]

/-- What the rows of column sums collect. -/
def colTerm (r : ℕ) (s : Fin 8192) (d : Fin 1024) : EReal :=
  if r = 3 then dcg (aH m c) (kA m c) (aU m c) s d else if r = 4 then dha (aC m c) (kA m c) (aU m c) s d
  else if r = 5 then dab (aG m c) (kB m c) (aV m c) s d else if r = 6 then dgb (aA m c) (aG m c) (kB m c) (aV m c) s d else 0

theorem rowAdd_at (t : Fin cfg0.N) (r : ℕ) (p : Fin 256) (d : Fin 1024) :
    rowAdd (dpAt m c t) (duAt m c t) (iblk m c 8 t) (iblk m c 9 t) (iblk m c 10 t) (iblk m c 11 t) r p d = colTerm m c r (row t p) d := by
  unfold rowAdd colTerm dcg dha dab dgb
  rw [gateC_at, gateC_at, gateG_at, sgm_at, dpAt_at, duAt_at, b8_at, b9_at, b10_at, b11_at]

/-- The rows of column sums after a point. -/
theorem gS_at (r : Fin 40) (d : Fin 1024) : ∀ (n : ℕ) (h : n < cfg0.N), gS m c n h (ix2 r d)
    = ∑ t : Fin (n + 1), ∑ p : Fin 256, colTerm m c r.val ⟨t.val * 256 + p.val, by have := N32; omega⟩ d
  | 0, h => by
    unfold gS stepS
    rw [rows_at, show (zS (F := Ideal)) (ix2 r d) = (0 : EReal) from zero_at (ix2 r d : S40x1024.Idx), zero_add, Fin.sum_univ_one]
    exact Finset.sum_congr rfl fun p _ => rowAdd_at m c ⟨0, h⟩ r.val p d
  | n + 1, h => by
    unfold gS stepS
    rw [rows_at, gS_at r d n (Nat.lt_of_succ_lt h), Fin.sum_univ_castSucc (n := n + 1)]
    exact congrArg₂ (· + ·) rfl (Finset.sum_congr rfl fun p _ => rowAdd_at m c ⟨n + 1, h⟩ r.val p d)

theorem col_total (r : ℕ) (d : Fin 1024) :
    ∑ t : Fin (31 + 1), ∑ p : Fin 256, colTerm m c r ⟨t.val * 256 + p.val, by omega⟩ d = ∑ s : Fin 8192, colTerm m c r s d := by
  have h := cut_sum 32 256 8192 rfl fun q => if hq : q < 8192 then colTerm m c r ⟨q, hq⟩ d else 0
  refine Eq.trans ?_ (h.trans (Finset.sum_congr rfl fun s _ => dif_pos s.isLt))
  refine Finset.sum_congr rfl fun t _ => Finset.sum_congr rfl fun p _ => ?_
  rw [dif_pos (by have := t.isLt; have := p.isLt; omega)]
  refine congrArg (fun s => colTerm m c r s d) (Fin.ext ?_)
  show t.val * 256 + p.val = 256 * t.val + p.val; omega

/-- The projection's gradient the run leaves. -/
theorem final_proj : (dats m 0 c).arrAt 14 cfg0.N
    = (fun i => projAt (aC m c) (aH m c) (aA m c) (aG m c) (kA m c) (kB m c) (aU m c) (aV m c) (i 0) (i 1) : Vec Ideal S8192x4096 .bf16) := by
  refine (dats m 0 c).arrAt_eq_of_covers 14 _ (by decide +kernel) fun t hf y => ?_
  blk_simp
  obtain ⟨p, e, rfl⟩ : ∃ (p : Fin 256) (e : Fin 4096), y = ix2 p e := ⟨y 0, y 1, eq_ix2 y⟩
  refine Eq.trans ?_ (congrArg (fun i : S8192x4096.Idx => projAt (aC m c) (aH m c) (aA m c) (aG m c) (kA m c) (kB m c) (aU m c) (aV m c) (i 0) (i 1)) (emb14 t p e)).symm
  show outP m c t (ix2 p e) = projAt (aC m c) (aH m c) (aA m c) (aG m c) (kA m c) (kB m c) (aU m c) (aV m c) (row t p) e
  unfold outP projAt dcg dha dab dgb
  rw [projT_at]
  simp only [gateC_at, gateG_at, sgm_at, dpAt_at, duAt_at, b8_at, b9_at, b10_at, b11_at]

/-- The small results the run leaves. -/
theorem final_small : (dats m 0 c).arrAt 15 cfg0.N
    = (fun i => smallAt (aC m c) (aH m c) (aA m c) (aG m c) (kA m c) (kB m c) (aU m c) (aV m c) (i 0) (i 1) : Vec Ideal S40x1024 .f32) := by
  refine (dats m 0 c).arrAt_eq_of_after_last 15 (⟨31, by rw [N32]; decide⟩ : Fin cfg0.N) (by decide +kernel) _ fun y => ?_
  blk_simp
  obtain ⟨a, d, rfl⟩ : ∃ (a : Fin 40) (d : Fin 1024), y = ix2 a d := ⟨y 0, y 1, eq_ix2 y⟩
  show outS m c ⟨31, _⟩ (ix2 a d) = smallAt (aC m c) (aH m c) (aA m c) (aG m c) (kA m c) (kB m c) (aU m c) (aV m c) a d
  have hlt := a.isLt
  have hS : gS m c 31 (by rw [N32]; decide) (ix2 a d) = ∑ s : Fin 8192, colTerm m c a.val s d := (gS_at m c a d 31 _).trans (col_total m c a.val d)
  unfold outS
  rw [if_pos rfl]
  unfold smallAt
  by_cases h8 : 8 ≤ a.val ∧ a.val < 39
  · rw [collect_own _ _ _ _ _ _ (⟨a.val - 8, by omega⟩ : Fin 31) ((by decide : ∀ k : Fin 31, k ∈ all31) _) (by show a.val = 8 + (a.val - 8); omega)]
    rw [if_neg (by omega), if_neg (by omega), if_neg (by omega), if_neg (by omega), if_neg (by omega), if_neg (by omega), if_pos h8.2]
    refine Eq.trans (Finset.sum_congr rfl fun s _ => gB_at m c _ s d 31 _) ?_
    exact tap_total 31 _ _ (a.val - 8) d
  · rw [collect_other _ _ _ _ _ _ fun k _ => by have := k.isLt; omega]
    by_cases h3 : a.val < 3
    · rw [collect_own _ _ _ _ _ _ (⟨a.val, h3⟩ : Fin 3) ((by decide : ∀ k : Fin 3, k ∈ ([0, 1, 2] : List (Fin 3))) _) (by show a.val = 0 + a.val; omega), if_pos h3]
      refine Eq.trans (Finset.sum_congr rfl fun s _ => gA_at m c _ s d 31 _) ?_
      exact tap_total 17 _ _ a.val d
    · rw [collect_other _ _ _ _ _ _ fun k _ => by have := k.isLt; omega]
      refine hS.trans ?_
      unfold colTerm
      rw [if_neg h3]
      split_ifs <;> first | omega | with_reducible rfl | exact Finset.sum_const_zero

end Cert.BwdConvIdeal.Loops

end
-- ==== Proof.BwdConv.Value.lean ====
module

public import proofs.«01_k».proof.Proof.BwdConv.Host
public import proofs.«01_k».proof.Defs
public import Idealize.ShloMosaic.Lib.Quiescent

@[expose] public section

set_option maxRecDepth 16384

noncomputable section

namespace Cert.ValueConv

open Cert.BwdConvIdeal.Loops
open Idealize.ShloMosaic Idealize.ShloMosaic.TcCoe
open Idealize.SL Idealize.SL.Sem

/-- The reference runs and leaves no signal pending. -/
theorem frame_ref : Cert.quiescent_RefConvIdeal (hRefConvIdeal := Cert.RefConvIdeal.Gen.facts) :=
  fun m g _ => (θ_run Cert.RefConvIdeal.defs _ _).mono (fun r h => ⟨fun c => (h c).2.2, sem_eq_zero_of_no_sems (by decide) r.2⟩) (Cert.RefConvIdeal.Value.run m g)

/-- The two programs end with the same gradients, at every argument. -/
theorem algebraic : Cert.algebraic_BwdConvIdeal_RefConvIdeal (hBwdConvIdeal := Cert.BwdConvIdeal.Gen.facts) (hRefConvIdeal := Cert.RefConvIdeal.Gen.facts) := by
  intro m ρ m' ρ' _ hag
  refine ⟨fun c => (dats m 0 c).arrAt 14 Cert.BwdConvIdeal.cfg0.N, fun c => (dats m 0 c).arrAt 15 Cert.BwdConvIdeal.cfg0.N,
    (θ_run Cert.BwdConvIdeal.defs _ _).mono (fun _ h c => ⟨(h.1 c).1 14, (h.1 c).1 15, h.2 c⟩)
      (θ_run_and (run_main m ρ) (Cert.BwdConvIdeal.Gen.frame_of m ρ (dats m) (A_eq m) (run_main m ρ))), ?_⟩
  refine (θ_run Cert.RefConvIdeal.defs _ _).mono (fun _ h c => ?_) (Cert.RefConvIdeal.Value.run m' ρ')
  obtain ⟨h0, h1, hr⟩ := h c
  obtain ⟨e0, e1, e2, e3, e4, e5, e6, e7⟩ := hag c
  have k0 : StableHlo.launchContents m' c (Proc.tc.devRef Cert.RefConvIdeal.main_arg0) = aC m c := e0
  have k1 : StableHlo.launchContents m' c (Proc.tc.devRef Cert.RefConvIdeal.main_arg1) = aH m c := e1
  have k2 : StableHlo.launchContents m' c (Proc.tc.devRef Cert.RefConvIdeal.main_arg2) = aA m c := e2
  have k3 : StableHlo.launchContents m' c (Proc.tc.devRef Cert.RefConvIdeal.main_arg3) = aG m c := e3
  have k4 : StableHlo.launchContents m' c (Proc.tc.devRef Cert.RefConvIdeal.main_arg4) = kA m c := e4
  have k5 : StableHlo.launchContents m' c (Proc.tc.devRef Cert.RefConvIdeal.main_arg5) = kB m c := e5
  have k6 : StableHlo.launchContents m' c (Proc.tc.devRef Cert.RefConvIdeal.main_arg6) = aU m c := e6
  have k7 : StableHlo.launchContents m' c (Proc.tc.devRef Cert.RefConvIdeal.main_arg7) = aV m c := e7
  refine ⟨h0.trans ?_, h1.trans ?_, hr⟩
  · rw [Cert.RefConvIdeal.Read.val_main_v655_eq, k0, k1, k2, k3, k4, k5, k6, k7]
    refine Eq.trans ?_ (final_proj m c).symm
    funext i
    exact (congrArg _ (eq_ix2 i)).trans (projR_at _ _ _ _ _ _ _ _ (i 0) (i 1))
  · rw [Cert.RefConvIdeal.Read.val_main_v653_eq, k0, k1, k2, k3, k4, k5, k6, k7]
    refine Eq.trans ?_ (final_small m c).symm
    funext i
    exact (congrArg _ (eq_ix2 i)).trans (smallR_at _ _ _ _ _ _ _ _ (i 0) (i 1))

end Cert.ValueConv

end
-- ==== Proof.Mlp.Base.lean ====
module

public import proofs.«01_k».proof.Proof.Gen.MlpIdeal.Frame
public import proofs.«01_k».proof.Proof.Gen.MlpIdeal.Skeleton
public import Idealize.ShloMosaic.Lib.Pipeline.FrameBody
public import Idealize.ShloMosaic.Lib.Ring
public import Idealize.ShloMosaic.Lib.Tactic
public import Idealize.ShloMosaic.Lib.Transfers
public import Idealize.ShloMosaic.Lib.WordCmp
public import proofs.«01_k».proof.Proof.Common
public import Idealize.ShloMosaic.Lib.Pointwise.Index
public import Idealize.ShloMosaic.Lib.Pipeline.ValueKit.Tiles

@[expose] public section

set_option maxRecDepth 16384

noncomputable section

namespace Cert.Mlp.Hand

open Cert.MlpIdeal Cert.MlpIdeal.Gen
open Idealize.ShloMosaic TcCoe Tactic
open Idealize.SL RA BI BIBase Laws ProofMode Sem
open Pipeline (Dat BodyObligation)

variable {F : FTy → Type} [FloatOps F]

local notation "𝕄" => MT nD τ sig Unit (Elt F) ℕ (Pipeline.UD sig nD τ) ℕ

abbrev cond0_0 (i : grid0.Coords) : Prop := (Scalar.cmpi .ne (Scalar.extui (Scalar.cmpi .eq (BitVec.ofNat 32 (i 0).val) 0#32)) 0#32) = 1#1
/-- The scratch that holds the first weight. -/
abbrev s1M : Memref sig .tc .vmem S4096x1024 .bf16 := Memref.whole cc0_scratch0
/-- The scratch that holds the second weight. -/
abbrev s2M : Memref sig .tc .vmem S4096x1024 .bf16 := Memref.whole cc0_scratch1
/-- The scratch that holds the rectified products. -/
abbrev s3M : Memref sig .tc .vmem S256x4096 .f32 := Memref.whole cc0_scratch2
/-- The slabs. -/
abbrev hbM : Memref sig .tc .hbm S8x1024x1024 .bf16 := Memref.whole main_v5

abbrev hbPt (c : Dev nD) {sp : Space} {S : Shape} {e : EltTy} (M : Memref sig .tc sp S e) (f : Buf (Elt F) (M.view.loc (c : Thread nD τ))) : sProp 𝕄 :=
  M.view.loc (c : Thread nD τ) ↦{fullShare} f

/-- The slab entry at row `r`, column `k` of a weight that starts at row `o` of every slab: row `o + r % 512` of slab `r / 512`. -/
def slabIdx (o : Fin 513) (y : S4096x1024.Idx) : S8x1024x1024.Idx := fun a => match a with
  | 0 => ⟨(y 0).val / 512, by have h : (y 0).val < 4096 := (y 0).isLt; show _ < 8; omega⟩
  | 1 => ⟨o.val + (y 0).val % 512, by have h := o.isLt; show _ < 1024; omega⟩
  | 2 => ⟨(y 1).val, (y 1).isLt⟩

/-- The weight eight staged copies leave in a scratch: rows `512·d + r` are row `o + r` of slab `d`. -/
def scr (o : Fin 513) (sl : Vec F S8x1024x1024 .bf16) : Vec F S4096x1024 .bf16 := fun y => sl (slabIdx o y)

/-- A copy of rows `o` to `o + 512` of slab `d` reads the slab's entries. -/
theorem slab_read (o : Fin 513) (d : ℕ) (hd : d < 8) (o' : ℕ) (hoo : o' = o.val) (inb : ∀ a, (![d, o', 0] : Fin 3 → ℕ) a + S1x512x1024.size a ≤ S8x1024x1024.size a) (pf : ∀ a, (Rect.unit (s := S8x1024x1024) ![d, o', 0] S1x512x1024.size inb).stride a = 1)
    (sl : Vec F S8x1024x1024 .bf16) (off : ℕ) (ho : off = 512 * d) (ib : ∀ a, (![off, 0] : Fin 2 → ℕ) a + S512x1024.size a ≤ S4096x1024.size a) (x : S512x1024.Idx) :
    View.read (Elt F) ((hbM.slice (Rect.unit (s := S8x1024x1024) ![d, o', 0] S1x512x1024.size inb) pf).squeeze S512x1024 squeezes_S1x512x1024_S512x1024).view sl x
      = scr o sl ((Rect.unit (s := S4096x1024) ![off, 0] S512x1024.size ib).emb x) := by
  subst ho hoo
  have e : Shape.reshapeEquiv (s := S1x512x1024) (s' := S512x1024) squeezes_S1x512x1024_S512x1024.numel_eq x = (fun a => match a with
      | 0 => ⟨0, by show 0 < 1; omega⟩
      | 1 => x 0
      | 2 => x 1 : S1x512x1024.Idx) := by
    refine Shape.reshapeEquiv_eq_of_rowMajor _ ?_
    rw [Shape.rowMajor_val_two, Shape.rowMajor_val_three]
    show (0 * 512 + (x 0).val) * 1024 + (x 1).val = (x 0).val * 1024 + (x 1).val
    omega
  show sl ((Rect.unit (s := S8x1024x1024) ![d, o.val, 0] S1x512x1024.size inb).emb (Shape.reshapeEquiv _ x)) = _
  rw [e]
  unfold scr
  have h0 : (x 0).val < 512 := (x 0).isLt
  refine congrArg sl (funext fun a => Fin.ext ?_)
  match a with
  | 0 => show d + 1 * 0 = (512 * d + 1 * (x 0).val) / 512; omega
  | 1 => show o.val + 1 * (x 0).val = o.val + (512 * d + 1 * (x 0).val) % 512; omega
  | 2 => show 0 + 1 * (x 1).val = 0 + 1 * (x 1).val; rfl

/-- Eight row blocks that hold a vector's own rows leave that vector, whatever was there. -/
theorem read_pieces (M : Memref sig .tc .vmem S4096x1024 .bf16) (w : Vec F S4096x1024 .bf16) (p0 p1 p2 p3 p4 p5 p6 p7 : S512x1024.Idx → Elt F .bf16)
    (h0 : ∀ x, p0 x = w ((Rect.unit (s := S4096x1024) ![0, 0] S512x1024.size inb_S4096x1024_S512x1024_0_0).emb x))
    (h1 : ∀ x, p1 x = w ((Rect.unit (s := S4096x1024) ![512, 0] S512x1024.size inb_S4096x1024_S512x1024_512_0).emb x))
    (h2 : ∀ x, p2 x = w ((Rect.unit (s := S4096x1024) ![1024, 0] S512x1024.size inb_S4096x1024_S512x1024_1024_0).emb x))
    (h3 : ∀ x, p3 x = w ((Rect.unit (s := S4096x1024) ![1536, 0] S512x1024.size inb_S4096x1024_S512x1024_1536_0).emb x))
    (h4 : ∀ x, p4 x = w ((Rect.unit (s := S4096x1024) ![2048, 0] S512x1024.size inb_S4096x1024_S512x1024_2048_0).emb x))
    (h5 : ∀ x, p5 x = w ((Rect.unit (s := S4096x1024) ![2560, 0] S512x1024.size inb_S4096x1024_S512x1024_2560_0).emb x))
    (h6 : ∀ x, p6 x = w ((Rect.unit (s := S4096x1024) ![3072, 0] S512x1024.size inb_S4096x1024_S512x1024_3072_0).emb x))
    (h7 : ∀ x, p7 x = w ((Rect.unit (s := S4096x1024) ![3584, 0] S512x1024.size inb_S4096x1024_S512x1024_3584_0).emb x))
    (f : M.view.ty.Contents (Elt F)) :
    M.view.read (Elt F) (M.view.writes (Elt F) f [⟨Rect.unit ![3584, 0] S512x1024.size inb_S4096x1024_S512x1024_3584_0, p7⟩, ⟨Rect.unit ![3072, 0] S512x1024.size inb_S4096x1024_S512x1024_3072_0, p6⟩, ⟨Rect.unit ![2560, 0] S512x1024.size inb_S4096x1024_S512x1024_2560_0, p5⟩, ⟨Rect.unit ![2048, 0] S512x1024.size inb_S4096x1024_S512x1024_2048_0, p4⟩, ⟨Rect.unit ![1536, 0] S512x1024.size inb_S4096x1024_S512x1024_1536_0, p3⟩, ⟨Rect.unit ![1024, 0] S512x1024.size inb_S4096x1024_S512x1024_1024_0, p2⟩, ⟨Rect.unit ![512, 0] S512x1024.size inb_S4096x1024_S512x1024_512_0, p1⟩, ⟨Rect.unit ![0, 0] S512x1024.size inb_S4096x1024_S512x1024_0_0, p0⟩]) = w := by
  funext y
  refine (View.read_writes_apply_eq_canon _ _ _ _ ?hc).trans (View.canon_eq_of_allAt _ y _ ?hc ?_)
  · exact View.cover_of_tiled (s := S4096x1024) _ S512x1024.size rfl y
  intro p hp x hx
  subst hx
  simp only [List.mem_cons, List.not_mem_nil, or_false] at hp
  rcases hp with rfl | rfl | rfl | rfl | rfl | rfl | rfl | rfl
  · exact h7 x
  · exact h6 x
  · exact h5 x
  · exact h4 x
  · exact h3 x
  · exact h2 x
  · exact h1 x
  · exact h0 x

/-- Four column blocks side by side. -/
def cols4 {β : Type} (a0 a1 a2 a3 : S256x1024.Idx → β) : S256x4096.Idx → β := fun y =>
  if (y 1).val < 1024 then a0 (ix2 (y 0) ⟨(y 1).val % 1024, Nat.mod_lt _ (by decide)⟩)
  else if (y 1).val < 2048 then a1 (ix2 (y 0) ⟨(y 1).val % 1024, Nat.mod_lt _ (by decide)⟩)
  else if (y 1).val < 3072 then a2 (ix2 (y 0) ⟨(y 1).val % 1024, Nat.mod_lt _ (by decide)⟩)
  else a3 (ix2 (y 0) ⟨(y 1).val % 1024, Nat.mod_lt _ (by decide)⟩)

/-- Entry of column block 0. -/
theorem cols4_at0 {β : Type} (a0 a1 a2 a3 : S256x1024.Idx → β) (x : S256x1024.Idx) :
    cols4 a0 a1 a2 a3 ((Rect.unit (s := S256x4096) ![0, 0] S256x1024.size inb_S256x4096_S256x1024_0_0).emb x) = a0 x := by
  have h1 : (x 1).val < 1024 := (x 1).isLt
  have e : (((Rect.unit (s := S256x4096) ![0, 0] S256x1024.size inb_S256x4096_S256x1024_0_0).emb x) 1).val = 0 + 1 * (x 1).val := rfl
  unfold cols4
  rw [if_pos (by omega)]
  refine congrArg a0 (funext fun a => Fin.ext ?_)
  match a with
  | 0 => show 0 + 1 * (x 0).val = (x 0).val; omega
  | 1 => show (0 + 1 * (x 1).val) % 1024 = (x 1).val; omega

/-- Entry of column block 1. -/
theorem cols4_at1 {β : Type} (a0 a1 a2 a3 : S256x1024.Idx → β) (x : S256x1024.Idx) :
    cols4 a0 a1 a2 a3 ((Rect.unit (s := S256x4096) ![0, 1024] S256x1024.size inb_S256x4096_S256x1024_0_1024).emb x) = a1 x := by
  have h1 : (x 1).val < 1024 := (x 1).isLt
  have e : (((Rect.unit (s := S256x4096) ![0, 1024] S256x1024.size inb_S256x4096_S256x1024_0_1024).emb x) 1).val = 1024 + 1 * (x 1).val := rfl
  unfold cols4
  rw [if_neg (by omega), if_pos (by omega)]
  refine congrArg a1 (funext fun a => Fin.ext ?_)
  match a with
  | 0 => show 0 + 1 * (x 0).val = (x 0).val; omega
  | 1 => show (1024 + 1 * (x 1).val) % 1024 = (x 1).val; omega

/-- Entry of column block 2. -/
theorem cols4_at2 {β : Type} (a0 a1 a2 a3 : S256x1024.Idx → β) (x : S256x1024.Idx) :
    cols4 a0 a1 a2 a3 ((Rect.unit (s := S256x4096) ![0, 2048] S256x1024.size inb_S256x4096_S256x1024_0_2048).emb x) = a2 x := by
  have h1 : (x 1).val < 1024 := (x 1).isLt
  have e : (((Rect.unit (s := S256x4096) ![0, 2048] S256x1024.size inb_S256x4096_S256x1024_0_2048).emb x) 1).val = 2048 + 1 * (x 1).val := rfl
  unfold cols4
  rw [if_neg (by omega), if_neg (by omega), if_pos (by omega)]
  refine congrArg a2 (funext fun a => Fin.ext ?_)
  match a with
  | 0 => show 0 + 1 * (x 0).val = (x 0).val; omega
  | 1 => show (2048 + 1 * (x 1).val) % 1024 = (x 1).val; omega

/-- Entry of column block 3. -/
theorem cols4_at3 {β : Type} (a0 a1 a2 a3 : S256x1024.Idx → β) (x : S256x1024.Idx) :
    cols4 a0 a1 a2 a3 ((Rect.unit (s := S256x4096) ![0, 3072] S256x1024.size inb_S256x4096_S256x1024_0_3072).emb x) = a3 x := by
  have h1 : (x 1).val < 1024 := (x 1).isLt
  have e : (((Rect.unit (s := S256x4096) ![0, 3072] S256x1024.size inb_S256x4096_S256x1024_0_3072).emb x) 1).val = 3072 + 1 * (x 1).val := rfl
  unfold cols4
  rw [if_neg (by omega), if_neg (by omega), if_neg (by omega)]
  refine congrArg a3 (funext fun a => Fin.ext ?_)
  match a with
  | 0 => show 0 + 1 * (x 0).val = (x 0).val; omega
  | 1 => show (3072 + 1 * (x 1).val) % 1024 = (x 1).val; omega

/-- Four column blocks written side by side leave the blocks side by side. -/
theorem read_cols4 {e : EltTy} {sp : Space} (M : Memref sig .tc sp S256x4096 e) (a0 a1 a2 a3 : S256x1024.Idx → Elt F e) (f : M.view.ty.Contents (Elt F)) :
    M.view.read (Elt F) (M.view.writes (Elt F) f [⟨Rect.unit ![0, 3072] S256x1024.size inb_S256x4096_S256x1024_0_3072, a3⟩, ⟨Rect.unit ![0, 2048] S256x1024.size inb_S256x4096_S256x1024_0_2048, a2⟩, ⟨Rect.unit ![0, 1024] S256x1024.size inb_S256x4096_S256x1024_0_1024, a1⟩, ⟨Rect.unit ![0, 0] S256x1024.size inb_S256x4096_S256x1024_0_0, a0⟩]) = cols4 a0 a1 a2 a3 := by
  funext y
  refine (View.read_writes_apply_eq_canon _ _ _ _ ?hc).trans (View.canon_eq_of_allAt _ y _ ?hc ?_)
  · exact View.cover_of_tiled (s := S256x4096) _ S256x1024.size rfl y
  intro p hp x hx
  subst hx
  simp only [List.mem_cons, List.not_mem_nil, or_false] at hp
  rcases hp with rfl | rfl | rfl | rfl
  · exact (cols4_at3 a0 a1 a2 a3 x).symm
  · exact (cols4_at2 a0 a1 a2 a3 x).symm
  · exact (cols4_at1 a0 a1 a2 a3 x).symm
  · exact (cols4_at0 a0 a1 a2 a3 x).symm

/-! ## What a point computes -/

/-- Column block 0 of the rectified first product. -/
def rl0 (x1 : Vec F S256x1024 .f32) (gb : Vec F S1x1024 .f32) (w1 : Vec F S4096x1024 .bf16) : Vec F S256x1024 .f32 :=
  k0_pay8 (k0_pay7 x1 gb (VecWindow.window w1 ![0, 0] S1024x1024.size inb_S4096x1024_S1024x1024_0_0))

/-- Column block 1 of the rectified first product. -/
def rl1 (x1 : Vec F S256x1024 .f32) (gb : Vec F S1x1024 .f32) (w1 : Vec F S4096x1024 .bf16) : Vec F S256x1024 .f32 :=
  k0_pay11 (k0_pay6 x1 gb) (VecWindow.window w1 ![1024, 0] S1024x1024.size inb_S4096x1024_S1024x1024_1024_0)

/-- Column block 2 of the rectified first product. -/
def rl2 (x1 : Vec F S256x1024 .f32) (gb : Vec F S1x1024 .f32) (w1 : Vec F S4096x1024 .bf16) : Vec F S256x1024 .f32 :=
  k0_pay14 (k0_pay6 x1 gb) (VecWindow.window w1 ![2048, 0] S1024x1024.size inb_S4096x1024_S1024x1024_2048_0)

/-- Column block 3 of the rectified first product. -/
def rl3 (x1 : Vec F S256x1024 .f32) (gb : Vec F S1x1024 .f32) (w1 : Vec F S4096x1024 .bf16) : Vec F S256x1024 .f32 :=
  k0_pay17 (k0_pay16 (k0_pay6 x1 gb) (VecWindow.window w1 ![3072, 0] S1024x1024.size inb_S4096x1024_S1024x1024_3072_0))

/-- The squared rectified product of a block. -/
def fB (x1 : Vec F S256x1024 .f32) (gb : Vec F S1x1024 .f32) (w1 : Vec F S4096x1024 .bf16) : Vec F S256x4096 .bf16 :=
  cols4 (k0_pay9 (k0_pay7 x1 gb (VecWindow.window w1 ![0, 0] S1024x1024.size inb_S4096x1024_S1024x1024_0_0)))
    (k0_pay12 (k0_pay6 x1 gb) (VecWindow.window w1 ![1024, 0] S1024x1024.size inb_S4096x1024_S1024x1024_1024_0))
    (k0_pay15 (k0_pay6 x1 gb) (VecWindow.window w1 ![2048, 0] S1024x1024.size inb_S4096x1024_S1024x1024_2048_0))
    (k0_pay18 (k0_pay16 (k0_pay6 x1 gb) (VecWindow.window w1 ![3072, 0] S1024x1024.size inb_S4096x1024_S1024x1024_3072_0)))

/-- The gradient of the block's last sum. -/
def dyB (x1 tg : Vec F S256x1024 .f32) (gb gc : Vec F S1x1024 .f32) (w1 w2 : Vec F S4096x1024 .bf16) : FVec F S256x1024 .f32 :=
  k0_pay23 (k0_pay3 x1) (fB x1 gb w1) w2 gc tg

/-- The gradient of the second product. -/
def df2B (x1 tg : Vec F S256x1024 .f32) (gb gc : Vec F S1x1024 .f32) (w1 w2 : Vec F S4096x1024 .bf16) : Vec F S256x1024 .bf16 :=
  k0_pay26 (k0_pay19 (fB x1 gb w1) w2) (k0_pay20 (fB x1 gb w1) w2) (k0_pay21 gc) (dyB x1 tg gb gc w1 w2)

/-- The gradient of the first product. -/
def df1B (x1 tg : Vec F S256x1024 .f32) (gb gc : Vec F S1x1024 .f32) (w1 w2 : Vec F S4096x1024 .bf16) : Vec F S256x4096 .bf16 :=
  cols4 (k0_pay27 (k0_pay19 (fB x1 gb w1) w2) (k0_pay20 (fB x1 gb w1) w2) (k0_pay21 gc) (dyB x1 tg gb gc w1 w2) (VecWindow.window w2 ![0, 0] S1024x1024.size inb_S4096x1024_S1024x1024_0_0) (rl0 x1 gb w1))
    (k0_pay29 (k0_pay28 (k0_pay19 (fB x1 gb w1) w2) (k0_pay20 (fB x1 gb w1) w2) (k0_pay21 gc) (dyB x1 tg gb gc w1 w2) (VecWindow.window w2 ![1024, 0] S1024x1024.size inb_S4096x1024_S1024x1024_1024_0)) (rl1 x1 gb w1))
    (k0_pay30 (df2B x1 tg gb gc w1 w2) (VecWindow.window w2 ![2048, 0] S1024x1024.size inb_S4096x1024_S1024x1024_2048_0) (rl2 x1 gb w1))
    (k0_pay31 (df2B x1 tg gb gc w1 w2) (VecWindow.window w2 ![3072, 0] S1024x1024.size inb_S4096x1024_S1024x1024_3072_0) (rl3 x1 gb w1))

/-- The gradient of the block's rows. -/
def dx1B (x1 tg : Vec F S256x1024 .f32) (gb gc : Vec F S1x1024 .f32) (w1 w2 : Vec F S4096x1024 .bf16) : Vec F S256x1024 .f32 :=
  k0_pay36 (k0_pay3 x1) (k0_pay4 x1) (k0_pay5 gb) (dyB x1 tg gb gc w1 w2) (k0_pay32 (df1B x1 tg gb gc w1 w2) w1)

/-- The gradient of the rows the first norm took. -/
def dmixB (x1 mx tg : Vec F S256x1024 .f32) (ga gb gc : Vec F S1x1024 .f32) (w1 w2 : Vec F S4096x1024 .bf16) : Vec F S256x1024 .bf16 :=
  k0_pay1 (dx1B x1 tg gb gc w1 w2) mx (k0_pay37 mx) ga

/-- What a point leaves in the carried block: row three grows by the squared errors, rows zero, one and two by the gains' gradients. -/
def rowsB (x1 mx tg : Vec F S256x1024 .f32) (gb gc : Vec F S1x1024 .f32) (w1 w2 : Vec F S4096x1024 .bf16) (old : Vec F S8x1024 .f32) : Vec F S8x1024 .f32 :=
  VecWindow.put (VecWindow.put (VecWindow.put (VecWindow.put old ![3, 0] S1x1024.size (k0_pay24 (k0_pay3 x1) (fB x1 gb w1) w2 gc tg (VecWindow.window old ![3, 0] S1x1024.size inb_S8x1024_S1x1024_3_0)))
      ![0, 0] S1x1024.size (k0_pay25 (k0_pay19 (fB x1 gb w1) w2) (k0_pay20 (fB x1 gb w1) w2) (dyB x1 tg gb gc w1 w2) (VecWindow.window old ![0, 0] S1x1024.size inb_S8x1024_S1x1024_0_0)))
      ![1, 0] S1x1024.size (k0_pay35 (k0_pay4 x1) (k0_pay33 (VecWindow.window old ![1, 0] S1x1024.size inb_S8x1024_S1x1024_1_0)) (k0_pay34 (k0_pay3 x1) (df1B x1 tg gb gc w1 w2) w1)))
      ![2, 0] S1x1024.size (k0_pay38 (k0_pay3 x1) (k0_pay4 x1) (k0_pay5 gb) (dyB x1 tg gb gc w1 w2) (k0_pay32 (df1B x1 tg gb gc w1 w2) w1) mx (VecWindow.window old ![2, 0] S1x1024.size inb_S8x1024_S1x1024_2_0))

end Cert.Mlp.Hand

end
-- ==== Proof.Mlp.Run.lean ====
module

public import proofs.«01_k».proof.Proof.Mlp.Base

@[expose] public section

set_option maxRecDepth 16384

noncomputable section

namespace Cert.Mlp.Hand

open Cert.MlpIdeal Cert.MlpIdeal.Gen
open Idealize.ShloMosaic TcCoe Tactic
open Cert.Common
open Idealize.SL RA BI BIBase Laws ProofMode Sem
open Pipeline (Dat BodyObligation)

variable {F : FTy → Type} [FloatOps F]

local notation "𝕄" => MT nD τ sig Unit (Elt F) ℕ (Pipeline.UD sig nD τ) ℕ

set_option maxHeartbeats 8000000 in
/-- A point after the first: the weights are already staged, the carried block grows, the other blocks are stored. -/
theorem runB (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg8 : Memref sig .tc .vmem S256x4096 .bf16) (harg8 : arg8.IsWhole) (arg9 : Memref sig .tc .vmem S256x4096 .bf16) (harg9 : arg9.IsWhole) (arg10 : Memref sig .tc .vmem S256x1024 .bf16) (harg10 : arg10.IsWhole) (arg11 : Memref sig .tc .vmem S256x1024 .bf16) (harg11 : arg11.IsWhole) (arg12 : Memref sig .tc .vmem S256x1024 .bf16) (harg12 : arg12.IsWhole) (arg13 : Memref sig .tc .vmem S256x1024 .f32) (harg13 : arg13.IsWhole) (arg14 : Memref sig .tc .vmem S8x1024 .f32) (harg14 : arg14.IsWhole)
    (x1 mx tg : Vec F S256x1024 .f32) (ga gb gc : Vec F S1x1024 .f32) (x14 : Vec F S8x1024 .f32) (w1 w2 : Vec F S4096x1024 .bf16)
    (hc : ¬ cond0_0 i)
    (K : PUnit → sProp 𝕄) :
    iprop(owns c.tc arg1 fullShare x1 ∗ owns c.tc arg2 fullShare mx ∗ owns c.tc arg3 fullShare tg ∗ owns c.tc arg4 fullShare ga ∗ owns c.tc arg5 fullShare gb ∗ owns c.tc arg6 fullShare gc
        ∗ (∃ d, owns c.tc arg8 fullShare d) ∗ (∃ d, owns c.tc arg9 fullShare d) ∗ (∃ d, owns c.tc arg10 fullShare d) ∗ (∃ d, owns c.tc arg11 fullShare d) ∗ (∃ d, owns c.tc arg12 fullShare d) ∗ (∃ d, owns c.tc arg13 fullShare d) ∗ owns c.tc arg14 fullShare x14
        ∗ owns c.tc s1M fullShare w1 ∗ owns c.tc s2M fullShare w2 ∗ (∃ d, owns c.tc s3M fullShare d)
        ∗ (iprop(owns c.tc arg1 fullShare x1 ∗ owns c.tc arg2 fullShare mx ∗ owns c.tc arg3 fullShare tg ∗ owns c.tc arg4 fullShare ga ∗ owns c.tc arg5 fullShare gb ∗ owns c.tc arg6 fullShare gc
        ∗ owns c.tc arg8 fullShare (fB x1 gb w1) ∗ owns c.tc arg9 fullShare (df1B x1 tg gb gc w1 w2) ∗ owns c.tc arg10 fullShare (k0_pay6 x1 gb) ∗ owns c.tc arg11 fullShare (df2B x1 tg gb gc w1 w2) ∗ owns c.tc arg12 fullShare (dmixB x1 mx tg ga gb gc w1 w2) ∗ owns c.tc arg13 fullShare (dx1B x1 tg gb gc w1 w2) ∗ owns c.tc arg14 fullShare (rowsB x1 mx tg gb gc w1 w2 x14)
        ∗ owns c.tc s1M fullShare w1 ∗ owns c.tc s2M fullShare w2 ∗ (∃ d, owns c.tc s3M fullShare d)) -∗ K ⟨⟩))
      ⊢ wp frame (wpE (defs₀ (F := F)) Variants.none c none) Set.univ
          (cc0_mlp_fwd_bwd i arg1 harg1 arg2 harg2 arg3 harg3 arg4 harg4 arg5 harg5 arg6 harg6 hbM (Memref.isWhole_whole _) arg8 harg8 arg9 harg9 arg10 harg10 arg11 harg11 arg12 harg12 arg13 harg13 arg14 harg14 s1M (Memref.isWhole_whole _) s2M (Memref.isWhole_whole _) s3M (Memref.isWhole_whole _) cc0_scratch3) K := by
  simp only [cc0_mlp_fwd_bwd_eq_skeleton]; unfold cc0_mlp_fwd_bwd_skel
  simp only [k0_part5_eq_skeleton, k0_part6_eq_skeleton, k0_part7_eq_skeleton, k0_part8_eq_skeleton, k0_part9_eq_skeleton, k0_part10_eq_skeleton, k0_part11_eq_skeleton, k0_part1_eq_skeleton, k0_part2_eq_skeleton, k0_part3_eq_skeleton, k0_part4_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%f14, %hf14, H14⟩, ⟨%fs1, %hfs1, HS1⟩, ⟨%fs2, %hfs2, HS2⟩, ⟨%ds3, %fs3, -, HS3⟩, Hk⟩
  subst hf1 hf2 hf3 hf4 hf5 hf6 hf14 hfs1 hfs2
  sl_exec (disch := first | sl_exact hc)
  sl_step
  have hF : ∀ f, arg8.view.read (Elt F) (arg8.view.writes (Elt F) f (runB.sl.H8_4 c arg1 arg5 f1 f5 fs1)) = fB (View.read (Elt F) arg1.view f1) (View.read (Elt F) arg5.view f5) (View.read (Elt F) s1M.view fs1) := by
    intro f
    delta runB.sl.H8_4
    delta runB.sl.r_4 runB.sl.r_5
    delta runB.sl.r_3
    (repeat rw [View.readAt_full])
    exact read_cols4 arg8 _ _ _ _ f
  have hS : ∀ f, s3M.view.read (Elt F) (s3M.view.writes (Elt F) f (runB.sl.HS3_4 c arg1 arg5 f1 f5 fs1)) = cols4 (rl0 (View.read (Elt F) arg1.view f1) (View.read (Elt F) arg5.view f5) (View.read (Elt F) s1M.view fs1)) (rl1 (View.read (Elt F) arg1.view f1) (View.read (Elt F) arg5.view f5) (View.read (Elt F) s1M.view fs1)) (rl2 (View.read (Elt F) arg1.view f1) (View.read (Elt F) arg5.view f5) (View.read (Elt F) s1M.view fs1)) (rl3 (View.read (Elt F) arg1.view f1) (View.read (Elt F) arg5.view f5) (View.read (Elt F) s1M.view fs1)) := by
    intro f
    delta runB.sl.HS3_4
    delta runB.sl.r_4 runB.sl.r_5
    delta runB.sl.r_3
    (repeat rw [View.readAt_full])
    exact read_cols4 s3M _ _ _ _ f
  have e67 : runB.sl.v67 c arg1 arg5 arg8 f1 f5 fs1 = fB (View.read (Elt F) arg1.view f1) (View.read (Elt F) arg5.view f5) (View.read (Elt F) s1M.view fs1) := by
    delta runB.sl.v67
    exact readCov_whole arg8.view _ _ hF _
  have e126 : runB.sl.v126 c arg1 arg5 f1 f5 fs1 = rl0 (View.read (Elt F) arg1.view f1) (View.read (Elt F) arg5.view f5) (View.read (Elt F) s1M.view fs1) := by
    delta runB.sl.v126
    exact (readCov_window _ _ _ hS _).trans (funext fun j => cols4_at0 _ _ _ _ j)
  have e134 : runB.sl.v134 c arg1 arg5 f1 f5 fs1 = rl1 (View.read (Elt F) arg1.view f1) (View.read (Elt F) arg5.view f5) (View.read (Elt F) s1M.view fs1) := by
    delta runB.sl.v134
    exact (readCov_window _ _ _ hS _).trans (funext fun j => cols4_at1 _ _ _ _ j)
  have e142 : runB.sl.v142 c arg1 arg5 f1 f5 fs1 = rl2 (View.read (Elt F) arg1.view f1) (View.read (Elt F) arg5.view f5) (View.read (Elt F) s1M.view fs1) := by
    delta runB.sl.v142
    exact (readCov_window _ _ _ hS _).trans (funext fun j => cols4_at2 _ _ _ _ j)
  have e150 : runB.sl.v150 c arg1 arg5 f1 f5 fs1 = rl3 (View.read (Elt F) arg1.view f1) (View.read (Elt F) arg5.view f5) (View.read (Elt F) s1M.view fs1) := by
    delta runB.sl.v150
    exact (readCov_window _ _ _ hS _).trans (funext fun j => cols4_at3 _ _ _ _ j)
  have e9 : runB.sl.r_9 c arg1 arg3 arg5 arg6 arg8 f1 f3 f5 f6 fs1 fs2 = dyB (View.read (Elt F) arg1.view f1) (View.read (Elt F) arg3.view f3) (View.read (Elt F) arg5.view f5) (View.read (Elt F) arg6.view f6) (View.read (Elt F) s1M.view fs1) (View.read (Elt F) s2M.view fs2) := by
    delta runB.sl.r_9
    delta runB.sl.r
    rw [e67]
    (repeat rw [View.readAt_full])
    rfl
  have e10 : runB.sl.r_10 c arg1 arg3 arg5 arg6 arg8 f1 f3 f5 f6 fs1 fs2 = df2B (View.read (Elt F) arg1.view f1) (View.read (Elt F) arg3.view f3) (View.read (Elt F) arg5.view f5) (View.read (Elt F) arg6.view f6) (View.read (Elt F) s1M.view fs1) (View.read (Elt F) s2M.view fs2) := by
    delta runB.sl.r_10
    delta runB.sl.r_6 runB.sl.r_7 runB.sl.r_8
    rw [e67, e9]
    (repeat rw [View.readAt_full])
    rfl
  have hD : ∀ f, arg9.view.read (Elt F) (arg9.view.writes (Elt F) f (runB.sl.H9_4 c arg1 arg3 arg5 arg6 arg8 f1 f3 f5 f6 fs1 fs2)) = df1B (View.read (Elt F) arg1.view f1) (View.read (Elt F) arg3.view f3) (View.read (Elt F) arg5.view f5) (View.read (Elt F) arg6.view f6) (View.read (Elt F) s1M.view fs1) (View.read (Elt F) s2M.view fs2) := by
    intro f
    delta runB.sl.H9_4
    delta runB.sl.r_11
    rw [e9, e10, e126, e134, e142, e150]
    delta runB.sl.r_6 runB.sl.r_7 runB.sl.r_8
    rw [e67]
    (repeat rw [View.readAt_full])
    exact read_cols4 arg9 _ _ _ _ f
  have e156 : runB.sl.v156 c arg1 arg3 arg5 arg6 arg8 arg9 f1 f3 f5 f6 fs1 fs2 = df1B (View.read (Elt F) arg1.view f1) (View.read (Elt F) arg3.view f3) (View.read (Elt F) arg5.view f5) (View.read (Elt F) arg6.view f6) (View.read (Elt F) s1M.view fs1) (View.read (Elt F) s2M.view fs2) := by
    delta runB.sl.v156
    exact readCov_whole arg9.view _ _ hD _
  have e12 : runB.sl.r_12 c arg1 arg3 arg5 arg6 arg8 arg9 f1 f3 f5 f6 fs1 fs2 = k0_pay32 (df1B (View.read (Elt F) arg1.view f1) (View.read (Elt F) arg3.view f3) (View.read (Elt F) arg5.view f5) (View.read (Elt F) arg6.view f6) (View.read (Elt F) s1M.view fs1) (View.read (Elt F) s2M.view fs2)) (View.read (Elt F) s1M.view fs1) := by
    delta runB.sl.r_12
    rw [e156]
    (repeat rw [View.readAt_full])
  have e15 : runB.sl.r_15 c arg1 arg3 arg5 arg6 arg8 arg9 f1 f3 f5 f6 fs1 fs2 = dx1B (View.read (Elt F) arg1.view f1) (View.read (Elt F) arg3.view f3) (View.read (Elt F) arg5.view f5) (View.read (Elt F) arg6.view f6) (View.read (Elt F) s1M.view fs1) (View.read (Elt F) s2M.view fs2) := by
    delta runB.sl.r_15
    delta runB.sl.r runB.sl.r_1 runB.sl.r_2
    rw [e9, e12]
    (repeat rw [View.readAt_full])
    rfl
  iapply Hk
  isplitl [H1]; · iexists _; isplitr; swap; iexact H1; ipureintro; rfl
  isplitl [H2]; · iexists _; isplitr; swap; iexact H2; ipureintro; rfl
  isplitl [H3]; · iexists _; isplitr; swap; iexact H3; ipureintro; rfl
  isplitl [H4]; · iexists _; isplitr; swap; iexact H4; ipureintro; rfl
  isplitl [H5]; · iexists _; isplitr; swap; iexact H5; ipureintro; rfl
  isplitl [H6]; · iexists _; isplitr; swap; iexact H6; ipureintro; rfl
  isplitl [H8]
  · iexists _; isplitr; swap; iexact H8; ipureintro; exact hF _
  isplitl [H9]
  · iexists _; isplitr; swap; iexact H9; ipureintro; exact hD _
  isplitl [H10]
  · iexists _; isplitr; swap; iexact H10; ipureintro; rw [View.read_writes_full]; (repeat rw [View.readAt_full]); try rfl
  isplitl [H11]
  · iexists _; isplitr; swap; iexact H11; ipureintro; rw [View.read_writes_full]; delta runB.sl.r_6 runB.sl.r_7 runB.sl.r_8; rw [e67, e9]; (repeat rw [View.readAt_full]); try rfl
  isplitl [H12]
  · iexists _; isplitr; swap; iexact H12; ipureintro; rw [View.read_writes_full]; rw [e15]; delta runB.sl.r_16 runB.sl.r_17; (repeat rw [View.readAt_full]); try rfl
  isplitl [H13]
  · iexists _; isplitr; swap; iexact H13; ipureintro; rw [View.read_writes_full]; delta runB.sl.r runB.sl.r_1 runB.sl.r_2; rw [e9, e12]; (repeat rw [View.readAt_full]); try rfl
  isplitl [H14]
  · iexists _; isplitr; swap; iexact H14; ipureintro; (repeat rw [View.read_writes_cons_put _ _ _ _ _ rfl]); delta runB.sl.r_18 runB.sl.r_13 runB.sl.r_14; rw [e9, e12, e67, e156]; delta runB.sl.r_6 runB.sl.r_7 runB.sl.r runB.sl.r_1 runB.sl.r_2 runB.sl.v97 runB.sl.v160 runB.sl.v196; rw [e67]; (repeat rw [View.readAt_full]); try rfl
  isplitl [HS1]
  · iexists _; isplitr; swap; iexact HS1; ipureintro; rfl
  isplitl [HS2]
  · iexists _; isplitr; swap; iexact HS2; ipureintro; rfl
  iexists _, _; isplitr; swap; iexact HS3; ipureintro; rfl

end Cert.Mlp.Hand

end
-- ==== Proof.Mlp.RunA.lean ====
module

public import proofs.«01_k».proof.Proof.Mlp.Base

@[expose] public section

set_option maxRecDepth 16384

noncomputable section

namespace Cert.Mlp.Hand

open Cert.MlpIdeal Cert.MlpIdeal.Gen
open Idealize.ShloMosaic TcCoe Tactic
open Cert.Common
open Idealize.SL RA BI BIBase Laws ProofMode Sem
open Pipeline (Dat BodyObligation)

variable {F : FTy → Type} [FloatOps F]

local notation "𝕄" => MT nD τ sig Unit (Elt F) ℕ (Pipeline.UD sig nD τ) ℕ

set_option sl_exec.dmaWindow true in
set_option sl_exec.dmaWindowSet true in
set_option sl_exec.dmaWindowLent true in
set_option maxHeartbeats 8000000 in
/-- The first point: the sixteen copies stage the two weights, the carried block starts at zero, and the point goes on as every other. -/
theorem runA (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg8 : Memref sig .tc .vmem S256x4096 .bf16) (harg8 : arg8.IsWhole) (arg9 : Memref sig .tc .vmem S256x4096 .bf16) (harg9 : arg9.IsWhole) (arg10 : Memref sig .tc .vmem S256x1024 .bf16) (harg10 : arg10.IsWhole) (arg11 : Memref sig .tc .vmem S256x1024 .bf16) (harg11 : arg11.IsWhole) (arg12 : Memref sig .tc .vmem S256x1024 .bf16) (harg12 : arg12.IsWhole) (arg13 : Memref sig .tc .vmem S256x1024 .f32) (harg13 : arg13.IsWhole) (arg14 : Memref sig .tc .vmem S8x1024 .f32) (harg14 : arg14.IsWhole)
    (x1 mx tg : Vec F S256x1024 .f32) (ga gb gc : Vec F S1x1024 .f32) (sl : Vec F S8x1024x1024 .bf16) (W : Waits sig Unit)
    (hc : cond0_0 i)
    (K : PUnit → sProp 𝕄) :
    iprop(owns c.tc arg1 fullShare x1 ∗ owns c.tc arg2 fullShare mx ∗ owns c.tc arg3 fullShare tg ∗ owns c.tc arg4 fullShare ga ∗ owns c.tc arg5 fullShare gb ∗ owns c.tc arg6 fullShare gc
        ∗ (∃ d, owns c.tc arg8 fullShare d) ∗ (∃ d, owns c.tc arg9 fullShare d) ∗ (∃ d, owns c.tc arg10 fullShare d) ∗ (∃ d, owns c.tc arg11 fullShare d) ∗ (∃ d, owns c.tc arg12 fullShare d) ∗ (∃ d, owns c.tc arg13 fullShare d) ∗ (∃ d, owns c.tc arg14 fullShare d)
        ∗ (∃ d, owns c.tc s1M fullShare d) ∗ (∃ d, owns c.tc s2M fullShare d) ∗ (∃ d, owns c.tc s3M fullShare d) ∗ semVal (c.tc, SemLoc.dma 22) 0 ∗ semVal (c.tc, SemLoc.dma 23) 0 ∗ semVal (c.tc, SemLoc.dma 24) 0 ∗ semVal (c.tc, SemLoc.dma 25) 0 ∗ semVal (c.tc, SemLoc.dma 26) 0 ∗ semVal (c.tc, SemLoc.dma 27) 0 ∗ semVal (c.tc, SemLoc.dma 28) 0 ∗ semVal (c.tc, SemLoc.dma 29) 0 ∗ semVal (c.tc, SemLoc.dma 30) 0 ∗ semVal (c.tc, SemLoc.dma 31) 0 ∗ semVal (c.tc, SemLoc.dma 32) 0 ∗ semVal (c.tc, SemLoc.dma 33) 0 ∗ semVal (c.tc, SemLoc.dma 34) 0 ∗ semVal (c.tc, SemLoc.dma 35) 0 ∗ semVal (c.tc, SemLoc.dma 36) 0 ∗ semVal (c.tc, SemLoc.dma 37) 0 ∗ hbPt c hbM sl ∗ owes c.tc 0 W
        ∗ (iprop(owns c.tc arg1 fullShare x1 ∗ owns c.tc arg2 fullShare mx ∗ owns c.tc arg3 fullShare tg ∗ owns c.tc arg4 fullShare ga ∗ owns c.tc arg5 fullShare gb ∗ owns c.tc arg6 fullShare gc
        ∗ owns c.tc arg8 fullShare (fB x1 gb (scr 0 sl)) ∗ owns c.tc arg9 fullShare (df1B x1 tg gb gc (scr 0 sl) (scr 512 sl)) ∗ owns c.tc arg10 fullShare (k0_pay6 x1 gb) ∗ owns c.tc arg11 fullShare (df2B x1 tg gb gc (scr 0 sl) (scr 512 sl)) ∗ owns c.tc arg12 fullShare (dmixB x1 mx tg ga gb gc (scr 0 sl) (scr 512 sl)) ∗ owns c.tc arg13 fullShare (dx1B x1 tg gb gc (scr 0 sl) (scr 512 sl)) ∗ owns c.tc arg14 fullShare (rowsB x1 mx tg gb gc (scr 0 sl) (scr 512 sl) k0_pay2)
        ∗ owns c.tc s1M fullShare (scr 0 sl) ∗ owns c.tc s2M fullShare (scr 512 sl) ∗ (∃ d, owns c.tc s3M fullShare d) ∗ semVal (c.tc, SemLoc.dma 22) 0 ∗ semVal (c.tc, SemLoc.dma 23) 0 ∗ semVal (c.tc, SemLoc.dma 24) 0 ∗ semVal (c.tc, SemLoc.dma 25) 0 ∗ semVal (c.tc, SemLoc.dma 26) 0 ∗ semVal (c.tc, SemLoc.dma 27) 0 ∗ semVal (c.tc, SemLoc.dma 28) 0 ∗ semVal (c.tc, SemLoc.dma 29) 0 ∗ semVal (c.tc, SemLoc.dma 30) 0 ∗ semVal (c.tc, SemLoc.dma 31) 0 ∗ semVal (c.tc, SemLoc.dma 32) 0 ∗ semVal (c.tc, SemLoc.dma 33) 0 ∗ semVal (c.tc, SemLoc.dma 34) 0 ∗ semVal (c.tc, SemLoc.dma 35) 0 ∗ semVal (c.tc, SemLoc.dma 36) 0 ∗ semVal (c.tc, SemLoc.dma 37) 0 ∗ hbPt c hbM sl ∗ (∃ W', owes c.tc 0 W')) -∗ K ⟨⟩))
      ⊢ wp frame (wpE (defs₀ (F := F)) Variants.none c none) Set.univ
          (cc0_mlp_fwd_bwd i arg1 harg1 arg2 harg2 arg3 harg3 arg4 harg4 arg5 harg5 arg6 harg6 hbM (Memref.isWhole_whole _) arg8 harg8 arg9 harg9 arg10 harg10 arg11 harg11 arg12 harg12 arg13 harg13 arg14 harg14 s1M (Memref.isWhole_whole _) s2M (Memref.isWhole_whole _) s3M (Memref.isWhole_whole _) cc0_scratch3) K := by
  simp only [cc0_mlp_fwd_bwd_eq_skeleton]; unfold cc0_mlp_fwd_bwd_skel
  simp only [k0_part5_eq_skeleton, k0_part6_eq_skeleton, k0_part7_eq_skeleton, k0_part8_eq_skeleton, k0_part9_eq_skeleton, k0_part10_eq_skeleton, k0_part11_eq_skeleton, k0_part1_eq_skeleton, k0_part2_eq_skeleton, k0_part3_eq_skeleton, k0_part4_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%ds1, %fs1, -, HS1⟩, ⟨%ds2, %fs2, -, HS2⟩, ⟨%ds3, %fs3, -, HS3⟩, Hq0, Hq1, Hq2, Hq3, Hq4, Hq5, Hq6, Hq7, Hq8, Hq9, Hq10, Hq11, Hq12, Hq13, Hq14, Hq15, Hh, HW, Hk⟩
  subst hf1 hf2 hf3 hf4 hf5 hf6
  sl_exec (disch := first | sl_exact hc)
  sl_step
  have hs1 := read_pieces s1M (scr 0 sl) (runA.sl.dma0 sl) (runA.sl.dma0_1 sl) (runA.sl.dma0_2 sl) (runA.sl.dma0_3 sl) (runA.sl.dma0_4 sl) (runA.sl.dma0_5 sl) (runA.sl.dma0_6 sl) (runA.sl.dma0_7 sl)
    (fun x => slab_read 0 0 (by omega) _ rfl _ _ sl _ rfl _ x)
    (fun x => slab_read 0 1 (by omega) _ rfl _ _ sl _ rfl _ x)
    (fun x => slab_read 0 2 (by omega) _ rfl _ _ sl _ rfl _ x)
    (fun x => slab_read 0 3 (by omega) _ rfl _ _ sl _ rfl _ x)
    (fun x => slab_read 0 4 (by omega) _ rfl _ _ sl _ rfl _ x)
    (fun x => slab_read 0 5 (by omega) _ rfl _ _ sl _ rfl _ x)
    (fun x => slab_read 0 6 (by omega) _ rfl _ _ sl _ rfl _ x)
    (fun x => slab_read 0 7 (by omega) _ rfl _ _ sl _ rfl _ x)
  have hs2 := read_pieces s2M (scr 512 sl) (runA.sl.dma0_8 sl) (runA.sl.dma0_9 sl) (runA.sl.dma0_10 sl) (runA.sl.dma0_11 sl) (runA.sl.dma0_12 sl) (runA.sl.dma0_13 sl) (runA.sl.dma0_14 sl) (runA.sl.dma0_15 sl)
    (fun x => slab_read 512 0 (by omega) _ rfl _ _ sl _ rfl _ x)
    (fun x => slab_read 512 1 (by omega) _ rfl _ _ sl _ rfl _ x)
    (fun x => slab_read 512 2 (by omega) _ rfl _ _ sl _ rfl _ x)
    (fun x => slab_read 512 3 (by omega) _ rfl _ _ sl _ rfl _ x)
    (fun x => slab_read 512 4 (by omega) _ rfl _ _ sl _ rfl _ x)
    (fun x => slab_read 512 5 (by omega) _ rfl _ _ sl _ rfl _ x)
    (fun x => slab_read 512 6 (by omega) _ rfl _ _ sl _ rfl _ x)
    (fun x => slab_read 512 7 (by omega) _ rfl _ _ sl _ rfl _ x)
  have h27 : runA.sl.v27 c sl = VecWindow.window (scr 0 sl) ![0, 0] S1024x1024.size inb_S4096x1024_S1024x1024_0_0 := by
    delta runA.sl.v27
    exact readCov_window _ _ _ hs1 _
  have h37 : runA.sl.v37 c sl = VecWindow.window (scr 0 sl) ![1024, 0] S1024x1024.size inb_S4096x1024_S1024x1024_1024_0 := by
    delta runA.sl.v37
    exact readCov_window _ _ _ hs1 _
  have h47 : runA.sl.v47 c sl = VecWindow.window (scr 0 sl) ![2048, 0] S1024x1024.size inb_S4096x1024_S1024x1024_2048_0 := by
    delta runA.sl.v47
    exact readCov_window _ _ _ hs1 _
  have h57 : runA.sl.v57 c sl = VecWindow.window (scr 0 sl) ![3072, 0] S1024x1024.size inb_S4096x1024_S1024x1024_3072_0 := by
    delta runA.sl.v57
    exact readCov_window _ _ _ hs1 _
  have h124 : runA.sl.v124 c sl = VecWindow.window (scr 512 sl) ![0, 0] S1024x1024.size inb_S4096x1024_S1024x1024_0_0 := by
    delta runA.sl.v124
    exact readCov_window _ _ _ hs2 _
  have h132 : runA.sl.v132 c sl = VecWindow.window (scr 512 sl) ![1024, 0] S1024x1024.size inb_S4096x1024_S1024x1024_1024_0 := by
    delta runA.sl.v132
    exact readCov_window _ _ _ hs2 _
  have h140 : runA.sl.v140 c sl = VecWindow.window (scr 512 sl) ![2048, 0] S1024x1024.size inb_S4096x1024_S1024x1024_2048_0 := by
    delta runA.sl.v140
    exact readCov_window _ _ _ hs2 _
  have h148 : runA.sl.v148 c sl = VecWindow.window (scr 512 sl) ![3072, 0] S1024x1024.size inb_S4096x1024_S1024x1024_3072_0 := by
    delta runA.sl.v148
    exact readCov_window _ _ _ hs2 _
  have h69 : runA.sl.v69 c sl = scr 512 sl := by
    delta runA.sl.v69
    exact readCov_whole _ _ _ hs2 _
  have h158 : runA.sl.v158 c sl = scr 0 sl := by
    delta runA.sl.v158
    exact readCov_whole _ _ _ hs1 _
  have e90 : runA.sl.v90 (F := F) c arg14 = VecWindow.window (k0_pay2 (F := F)) ![3, 0] S1x1024.size inb_S8x1024_S1x1024_3_0 := by
    delta runA.sl.v90
    delta runA.sl.H14_1
    funext j; exact congrFun (View.read_writes_full _ _ _ _ _) _
  have e97 : runA.sl.v97 c arg1 arg3 arg5 arg6 arg8 arg14 sl f1 f3 f5 f6 = VecWindow.window (k0_pay2 (F := F)) ![0, 0] S1x1024.size inb_S8x1024_S1x1024_0_0 := by
    delta runA.sl.v97
    delta runA.sl.H14_2
    rw [readCov_skip _ _ _ _ _ 0 (by decide)]
    delta runA.sl.H14_1
    funext j; exact congrFun (View.read_writes_full _ _ _ _ _) _
  have e160 : runA.sl.v160 c arg1 arg3 arg5 arg6 arg8 arg14 sl f1 f3 f5 f6 = VecWindow.window (k0_pay2 (F := F)) ![1, 0] S1x1024.size inb_S8x1024_S1x1024_1_0 := by
    delta runA.sl.v160
    delta runA.sl.H14_3
    rw [readCov_skip _ _ _ _ _ 0 (by decide)]
    delta runA.sl.H14_2
    rw [readCov_skip _ _ _ _ _ 0 (by decide)]
    delta runA.sl.H14_1
    funext j; exact congrFun (View.read_writes_full _ _ _ _ _) _
  have e196 : runA.sl.v196 c arg1 arg3 arg5 arg6 arg8 arg9 arg14 sl f1 f3 f5 f6 = VecWindow.window (k0_pay2 (F := F)) ![2, 0] S1x1024.size inb_S8x1024_S1x1024_2_0 := by
    delta runA.sl.v196
    delta runA.sl.H14_4
    rw [readCov_skip _ _ _ _ _ 0 (by decide)]
    delta runA.sl.H14_3
    rw [readCov_skip _ _ _ _ _ 0 (by decide)]
    delta runA.sl.H14_2
    rw [readCov_skip _ _ _ _ _ 0 (by decide)]
    delta runA.sl.H14_1
    funext j; exact congrFun (View.read_writes_full _ _ _ _ _) _
  have hF : ∀ f, arg8.view.read (Elt F) (arg8.view.writes (Elt F) f (runA.sl.H8_4 c arg1 arg5 sl f1 f5)) = fB (View.read (Elt F) arg1.view f1) (View.read (Elt F) arg5.view f5) (scr 0 sl) := by
    intro f
    delta runA.sl.H8_4
    delta runA.sl.r_4 runA.sl.r_5
    delta runA.sl.r_3
    (repeat rw [View.readAt_full])
    rw [h27, h37, h47, h57]; exact read_cols4 arg8 _ _ _ _ f
  have hS : ∀ f, s3M.view.read (Elt F) (s3M.view.writes (Elt F) f (runA.sl.HS3_4 c arg1 arg5 sl f1 f5)) = cols4 (rl0 (View.read (Elt F) arg1.view f1) (View.read (Elt F) arg5.view f5) (scr 0 sl)) (rl1 (View.read (Elt F) arg1.view f1) (View.read (Elt F) arg5.view f5) (scr 0 sl)) (rl2 (View.read (Elt F) arg1.view f1) (View.read (Elt F) arg5.view f5) (scr 0 sl)) (rl3 (View.read (Elt F) arg1.view f1) (View.read (Elt F) arg5.view f5) (scr 0 sl)) := by
    intro f
    delta runA.sl.HS3_4
    delta runA.sl.r_4 runA.sl.r_5
    delta runA.sl.r_3
    (repeat rw [View.readAt_full])
    rw [h27, h37, h47, h57]; exact read_cols4 s3M _ _ _ _ f
  have e67 : runA.sl.v67 c arg1 arg5 arg8 sl f1 f5 = fB (View.read (Elt F) arg1.view f1) (View.read (Elt F) arg5.view f5) (scr 0 sl) := by
    delta runA.sl.v67
    exact readCov_whole arg8.view _ _ hF _
  have e126 : runA.sl.v126 c arg1 arg5 sl f1 f5 = rl0 (View.read (Elt F) arg1.view f1) (View.read (Elt F) arg5.view f5) (scr 0 sl) := by
    delta runA.sl.v126
    exact (readCov_window _ _ _ hS _).trans (funext fun j => cols4_at0 _ _ _ _ j)
  have e134 : runA.sl.v134 c arg1 arg5 sl f1 f5 = rl1 (View.read (Elt F) arg1.view f1) (View.read (Elt F) arg5.view f5) (scr 0 sl) := by
    delta runA.sl.v134
    exact (readCov_window _ _ _ hS _).trans (funext fun j => cols4_at1 _ _ _ _ j)
  have e142 : runA.sl.v142 c arg1 arg5 sl f1 f5 = rl2 (View.read (Elt F) arg1.view f1) (View.read (Elt F) arg5.view f5) (scr 0 sl) := by
    delta runA.sl.v142
    exact (readCov_window _ _ _ hS _).trans (funext fun j => cols4_at2 _ _ _ _ j)
  have e150 : runA.sl.v150 c arg1 arg5 sl f1 f5 = rl3 (View.read (Elt F) arg1.view f1) (View.read (Elt F) arg5.view f5) (scr 0 sl) := by
    delta runA.sl.v150
    exact (readCov_window _ _ _ hS _).trans (funext fun j => cols4_at3 _ _ _ _ j)
  have e9 : runA.sl.r_9 c arg1 arg3 arg5 arg6 arg8 sl f1 f3 f5 f6 = dyB (View.read (Elt F) arg1.view f1) (View.read (Elt F) arg3.view f3) (View.read (Elt F) arg5.view f5) (View.read (Elt F) arg6.view f6) (scr 0 sl) (scr 512 sl) := by
    delta runA.sl.r_9
    delta runA.sl.r
    rw [e67, h69]
    (repeat rw [View.readAt_full])
    rfl
  have e10 : runA.sl.r_10 c arg1 arg3 arg5 arg6 arg8 sl f1 f3 f5 f6 = df2B (View.read (Elt F) arg1.view f1) (View.read (Elt F) arg3.view f3) (View.read (Elt F) arg5.view f5) (View.read (Elt F) arg6.view f6) (scr 0 sl) (scr 512 sl) := by
    delta runA.sl.r_10
    delta runA.sl.r_6 runA.sl.r_7 runA.sl.r_8
    rw [e67, e9, h69]
    (repeat rw [View.readAt_full])
    rfl
  have hD : ∀ f, arg9.view.read (Elt F) (arg9.view.writes (Elt F) f (runA.sl.H9_4 c arg1 arg3 arg5 arg6 arg8 sl f1 f3 f5 f6)) = df1B (View.read (Elt F) arg1.view f1) (View.read (Elt F) arg3.view f3) (View.read (Elt F) arg5.view f5) (View.read (Elt F) arg6.view f6) (scr 0 sl) (scr 512 sl) := by
    intro f
    delta runA.sl.H9_4
    delta runA.sl.r_11
    rw [e9, e10, e126, e134, e142, e150]
    delta runA.sl.r_6 runA.sl.r_7 runA.sl.r_8
    rw [e67, h69, h124, h132, h140, h148]
    (repeat rw [View.readAt_full])
    exact read_cols4 arg9 _ _ _ _ f
  have e156 : runA.sl.v156 c arg1 arg3 arg5 arg6 arg8 arg9 sl f1 f3 f5 f6 = df1B (View.read (Elt F) arg1.view f1) (View.read (Elt F) arg3.view f3) (View.read (Elt F) arg5.view f5) (View.read (Elt F) arg6.view f6) (scr 0 sl) (scr 512 sl) := by
    delta runA.sl.v156
    exact readCov_whole arg9.view _ _ hD _
  have e12 : runA.sl.r_12 c arg1 arg3 arg5 arg6 arg8 arg9 sl f1 f3 f5 f6 = k0_pay32 (df1B (View.read (Elt F) arg1.view f1) (View.read (Elt F) arg3.view f3) (View.read (Elt F) arg5.view f5) (View.read (Elt F) arg6.view f6) (scr 0 sl) (scr 512 sl)) (scr 0 sl) := by
    delta runA.sl.r_12
    rw [e156, h158]
    (repeat rw [View.readAt_full])
  have e15 : runA.sl.r_15 c arg1 arg3 arg5 arg6 arg8 arg9 sl f1 f3 f5 f6 = dx1B (View.read (Elt F) arg1.view f1) (View.read (Elt F) arg3.view f3) (View.read (Elt F) arg5.view f5) (View.read (Elt F) arg6.view f6) (scr 0 sl) (scr 512 sl) := by
    delta runA.sl.r_15
    delta runA.sl.r runA.sl.r_1 runA.sl.r_2
    rw [e9, e12]
    (repeat rw [View.readAt_full])
    rfl
  iapply Hk
  isplitl [H1]; · iexists _; isplitr; swap; iexact H1; ipureintro; rfl
  isplitl [H2]; · iexists _; isplitr; swap; iexact H2; ipureintro; rfl
  isplitl [H3]; · iexists _; isplitr; swap; iexact H3; ipureintro; rfl
  isplitl [H4]; · iexists _; isplitr; swap; iexact H4; ipureintro; rfl
  isplitl [H5]; · iexists _; isplitr; swap; iexact H5; ipureintro; rfl
  isplitl [H6]; · iexists _; isplitr; swap; iexact H6; ipureintro; rfl
  isplitl [H8]
  · iexists _; isplitr; swap; iexact H8; ipureintro; exact hF _
  isplitl [H9]
  · iexists _; isplitr; swap; iexact H9; ipureintro; exact hD _
  isplitl [H10]
  · iexists _; isplitr; swap; iexact H10; ipureintro; rw [View.read_writes_full]; (repeat rw [View.readAt_full]); try rfl
  isplitl [H11]
  · iexists _; isplitr; swap; iexact H11; ipureintro; rw [View.read_writes_full]; delta runA.sl.r_6 runA.sl.r_7 runA.sl.r_8; rw [e67, e9, h69]; (repeat rw [View.readAt_full]); try rfl
  isplitl [H12]
  · iexists _; isplitr; swap; iexact H12; ipureintro; rw [View.read_writes_full]; rw [e15]; delta runA.sl.r_16 runA.sl.r_17; (repeat rw [View.readAt_full]); try rfl
  isplitl [H13]
  · iexists _; isplitr; swap; iexact H13; ipureintro; rw [View.read_writes_full]; delta runA.sl.r runA.sl.r_1 runA.sl.r_2; rw [e9, e12]; (repeat rw [View.readAt_full]); try rfl
  isplitl [H14]
  · iexists _; isplitr; swap; iexact H14; ipureintro; delta runA.sl.H14_4 runA.sl.H14_3; delta runA.sl.H14_2; delta runA.sl.H14_1; iterate 4 rw [View.read_writes_cons_put _ _ _ _ _ rfl]
    rw [View.read_writes_full]; delta runA.sl.r_18 runA.sl.r_13 runA.sl.r_14; rw [e9, e12, e67, e156, h69, h158, e90, e97, e160, e196]; delta runA.sl.r_6 runA.sl.r_7 runA.sl.r runA.sl.r_1 runA.sl.r_2; rw [e67, h69]; (repeat rw [View.readAt_full]); try rfl
  isplitl [HS1]
  · iexists _; isplitr; swap; iexact HS1; ipureintro; exact hs1 _
  isplitl [HS2]
  · iexists _; isplitr; swap; iexact HS2; ipureintro; exact hs2 _
  isplitl [HS3]
  · iexists _, _; isplitr; swap; iexact HS3; ipureintro; rfl
  iframe Hq0 Hq1 Hq2 Hq3 Hq4 Hq5 Hq6 Hq7 Hq8 Hq9 Hq10 Hq11 Hq12 Hq13 Hq14 Hq15 Hh
  iexists _; iexact HW
end Cert.Mlp.Hand

end
-- ==== Proof.Mlp.Body.lean ====
module

public import proofs.«01_k».proof.Proof.Mlp.Run
public import proofs.«01_k».proof.Proof.Mlp.RunA
public import proofs.«01_k».proof.Proof.Gen.MlpIdeal.Points
public import Idealize.ShloMosaic.Lib.Pipeline.Frame

@[expose] public section

set_option maxRecDepth 16384

noncomputable section

namespace Cert.Mlp.Hand

open Cert.MlpIdeal Cert.MlpIdeal.Gen
open Idealize.ShloMosaic TcCoe Tactic
open Idealize.SL RA BI BIBase Laws ProofMode Sem
open Pipeline (Dat BodyObligation)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The kernel's own counters and the operand its copies read -/

/-- The sixteen counters of the kernel's own copies. -/
abbrev osem0 : Fin 16 → SemLoc sig := fun j => (![SemLoc.dma 22, SemLoc.dma 23, SemLoc.dma 24, SemLoc.dma 25, SemLoc.dma 26, SemLoc.dma 27, SemLoc.dma 28, SemLoc.dma 29, SemLoc.dma 30, SemLoc.dma 31, SemLoc.dma 32, SemLoc.dma 33, SemLoc.dma 34, SemLoc.dma 35, SemLoc.dma 36, SemLoc.dma 37] : Fin 16 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal (c.tc, SemLoc.dma 22) 0 ∗ semVal (c.tc, SemLoc.dma 23) 0 ∗ semVal (c.tc, SemLoc.dma 24) 0 ∗ semVal (c.tc, SemLoc.dma 25) 0 ∗ semVal (c.tc, SemLoc.dma 26) 0 ∗ semVal (c.tc, SemLoc.dma 27) 0 ∗ semVal (c.tc, SemLoc.dma 28) 0 ∗ semVal (c.tc, SemLoc.dma 29) 0 ∗ semVal (c.tc, SemLoc.dma 30) 0 ∗ semVal (c.tc, SemLoc.dma 31) 0 ∗ semVal (c.tc, SemLoc.dma 32) 0 ∗ semVal (c.tc, SemLoc.dma 33) 0 ∗ semVal (c.tc, SemLoc.dma 34) 0 ∗ semVal (c.tc, SemLoc.dma 35) 0 ∗ semVal (c.tc, SemLoc.dma 36) 0 ∗ semVal (c.tc, SemLoc.dma 37) 0) := by
  rw [Pipeline.ownSems0_eq_of_list c osem0 [0, 1, 2, 3, 4, 5, 6, 7, 8, 9, 10, 11, 12, 13, 14, 15] (by decide) (by decide)]; rfl
/-- The weights' slabs, left in the array's own memory. -/
def H0 : Finset (Ref sig .tc) := {main_v5}
theorem H0_sub : H0 ⊆ Pipeline.restRefs sig spec0 := by decide
theorem hbmPts0_eq (c : Dev nD) :
    (bigSep H0 (fun b => (c.tc.loc b) ↦{fullShare} V m c b) : sProp 𝕄) = iprop(hbPt c hbM (V m c main_v5)) := by
  rw [BI.bigSep_eq_bigSepL_of_eq [main_v5] (by decide) (by decide)]; rfl

/-- What the invariant says of everything but the two weight scratches. -/
def Rst (c : Dev nD) : sProp 𝕄 :=
  iprop((∃ d, owns c.tc s3M fullShare d) ∗ (∃ r, prngReg c r)
    ∗ iprop(semVal (c.tc, SemLoc.dma 22) 0 ∗ semVal (c.tc, SemLoc.dma 23) 0 ∗ semVal (c.tc, SemLoc.dma 24) 0 ∗ semVal (c.tc, SemLoc.dma 25) 0 ∗ semVal (c.tc, SemLoc.dma 26) 0 ∗ semVal (c.tc, SemLoc.dma 27) 0 ∗ semVal (c.tc, SemLoc.dma 28) 0 ∗ semVal (c.tc, SemLoc.dma 29) 0 ∗ semVal (c.tc, SemLoc.dma 30) 0 ∗ semVal (c.tc, SemLoc.dma 31) 0 ∗ semVal (c.tc, SemLoc.dma 32) 0 ∗ semVal (c.tc, SemLoc.dma 33) 0 ∗ semVal (c.tc, SemLoc.dma 34) 0 ∗ semVal (c.tc, SemLoc.dma 35) 0 ∗ semVal (c.tc, SemLoc.dma 36) 0 ∗ semVal (c.tc, SemLoc.dma 37) 0)
    ∗ iprop(hbPt c hbM (V m c main_v5)))

theorem PhiD0_eq (c : Dev nD) :
    (Pipeline.ΦD osem0 spec0 H0 (V m) c : sProp 𝕄) = iprop((∃ d, owns c.tc s1M fullShare d) ∗ (∃ d, owns c.tc s2M fullShare d) ∗ Rst m c) := by
  rw [Pipeline.ΦD_eq, scopedRest0_eq, ownSems00_eq, hbmPts0_eq]; unfold Rst; simp only [s1M, s2M, s3M, owns_whole]
  exact (equiv_iff.mp ⟨BI.sep_assoc, BI.sep_assoc'⟩).trans (congrArg _ (equiv_iff.mp ⟨BI.sep_assoc, BI.sep_assoc'⟩))

/-! ## The proof data -/

/-- The first weight. -/
def wt1 (c : Dev nD) : Vec F S4096x1024 .bf16 := scr 0 (V m c main_v5)
/-- The second weight. -/
def wt2 (c : Dev nD) : Vec F S4096x1024 .bf16 := scr 512 (V m c main_v5)

/-- The carried block after point `n`. -/
def acc (c : Dev nD) : (n : ℕ) → n < cfg0.N → Vec F S8x1024 .f32
  | 0, h => rowsB (iblk m c 0 ⟨0, h⟩) (iblk m c 1 ⟨0, h⟩) (iblk m c 2 ⟨0, h⟩) (iblk m c 4 ⟨0, h⟩) (iblk m c 5 ⟨0, h⟩) (wt1 m c) (wt2 m c) k0_pay2
  | n + 1, h => rowsB (iblk m c 0 ⟨n + 1, h⟩) (iblk m c 1 ⟨n + 1, h⟩) (iblk m c 2 ⟨n + 1, h⟩) (iblk m c 4 ⟨n + 1, h⟩) (iblk m c 5 ⟨n + 1, h⟩) (wt1 m c) (wt2 m c) (acc c n (Nat.lt_of_succ_lt h))

/-- The invariant before point `n`: the weight scratches at anything at first, at the weights after. -/
def PhiS (c : Dev nD) : ℕ → sProp 𝕄
  | 0 => Pipeline.ΦD osem0 spec0 H0 (V m) c
  | _ + 1 => iprop(owns c.tc s1M fullShare (wt1 m c) ∗ owns c.tc s2M fullShare (wt2 m c) ∗ Rst m c)

/-- The proof data: the inputs stay, the other blocks are what a point leaves. -/
def dats (_ : Fin 1) (c : Dev nD) : Dat τ (Elt F) Unit ℕ (Pipeline.UD sig nD τ) ℕ cfg0 c where
  A w := V m c (Pipeline.arrRef spec0 w)
  after w t := match w with
    | 0 => iblk m c 0 t
    | 1 => iblk m c 1 t
    | 2 => iblk m c 2 t
    | 3 => iblk m c 3 t
    | 4 => iblk m c 4 t
    | 5 => iblk m c 5 t
    | 6 => fB (iblk m c 0 t) (iblk m c 4 t) (wt1 m c)
    | 7 => df1B (iblk m c 0 t) (iblk m c 2 t) (iblk m c 4 t) (iblk m c 5 t) (wt1 m c) (wt2 m c)
    | 8 => k0_pay6 (iblk m c 0 t) (iblk m c 4 t)
    | 9 => df2B (iblk m c 0 t) (iblk m c 2 t) (iblk m c 4 t) (iblk m c 5 t) (wt1 m c) (wt2 m c)
    | 10 => dmixB (iblk m c 0 t) (iblk m c 1 t) (iblk m c 2 t) (iblk m c 3 t) (iblk m c 4 t) (iblk m c 5 t) (wt1 m c) (wt2 m c)
    | 11 => dx1B (iblk m c 0 t) (iblk m c 2 t) (iblk m c 4 t) (iblk m c 5 t) (wt1 m c) (wt2 m c)
    | 12 => acc m c t.val t.isLt
  Φ t := PhiS m c t.val
  q _ := fullShare
  owed _ := 0

theorem A_eq (c : Dev nD) (w : Fin cfg0.W) : (dats m 0 c).A w = V m c (Pipeline.arrRef spec0 w) := by dsimp only [dats]

theorem before0_0 (c : Dev nD) (t : Fin cfg0.N) (d) : (dats m 0 c).before 0 t d = iblk m c 0 t :=
  ((dats m 0 c).before_in_eq_fetched 0 rfl (fun _ => rfl) (fun _ _ _ => rfl) (fun t => rfl) t d).trans rfl
theorem before0_1 (c : Dev nD) (t : Fin cfg0.N) (d) : (dats m 0 c).before 1 t d = iblk m c 1 t :=
  ((dats m 0 c).before_in_eq_fetched 1 rfl (fun _ => rfl) (fun _ _ _ => rfl) (fun t => rfl) t d).trans rfl
theorem before0_2 (c : Dev nD) (t : Fin cfg0.N) (d) : (dats m 0 c).before 2 t d = iblk m c 2 t :=
  ((dats m 0 c).before_in_eq_fetched 2 rfl (fun _ => rfl) (fun _ _ _ => rfl) (fun t => rfl) t d).trans rfl
theorem before0_3 (c : Dev nD) (t : Fin cfg0.N) (d) : (dats m 0 c).before 3 t d = iblk m c 3 t :=
  ((dats m 0 c).before_in_eq_fetched 3 rfl (fun _ => rfl) (fun _ _ _ => rfl) (fun t => rfl) t d).trans rfl
theorem before0_4 (c : Dev nD) (t : Fin cfg0.N) (d) : (dats m 0 c).before 4 t d = iblk m c 4 t :=
  ((dats m 0 c).before_in_eq_fetched 4 rfl (fun _ => rfl) (fun _ _ _ => rfl) (fun t => rfl) t d).trans rfl
theorem before0_5 (c : Dev nD) (t : Fin cfg0.N) (d) : (dats m 0 c).before 5 t d = iblk m c 5 t :=
  ((dats m 0 c).before_in_eq_fetched 5 rfl (fun _ => rfl) (fun _ _ _ => rfl) (fun t => rfl) t d).trans rfl

/-- After the first point the carried block's buffer holds what the point before left. -/
theorem before0_12 (c : Dev nD) (n : ℕ) (h : n + 1 < cfg0.N) (d) :
    (dats m 0 c).before 12 ⟨n + 1, h⟩ d = acc m c n (Nat.lt_of_succ_lt h) := by
  have hN : n + 1 < 32 := lt_of_lt_of_eq h (show cfg0.N = 32 from N_0)
  rw [Dat.before_out_kept _ 12 rfl ⟨n + 1, h⟩ (Nat.succ_ne_zero n) (Bool.eq_false_iff.mpr fun hf => by have := (flush0_12 _).mp hf; dsimp only at this; omega)
    (fun _ => rfl) (fun _ _ => rfl)]
  rfl

theorem hcond0 (t : Fin cfg0.N) : cond0_0 (grid0.coords t) ↔ t.val = 0 := by
  have hN : t.val < 32 := lt_of_lt_of_eq t.isLt (show cfg0.N = 32 from N_0)
  have e0 : (grid0.coords t 0).val = t.val / 1 % 32 := Pipeline.Grid.coords_val t 0 (by decide) rfl
  simp only [cond0_0, e0]
  have e1 : t.val / 1 % 32 = t.val := by omega
  rw [e1]
  exact (by decide : ∀ n : Fin 32, Scalar.cmpi .ne (Scalar.extui (Scalar.cmpi .eq (BitVec.ofNat 32 n.val) 0#32)) 0#32 = 1#1 ↔ n.val = 0) ⟨t.val, hN⟩

/-! ## The body obligation -/

def bodyPre (c : Dev nD) (t : Fin cfg0.N) : sProp 𝕄 :=
  iprop((dats m 0 c).Φ t.castSucc ∗ (dats m 0 c).owesAt () t.castSucc
    ∗ (∃ d, owns c.tc (st0_0 t) fullShare ((dats m 0 c).before 0 t d))
    ∗ (∃ d, owns c.tc (st0_1 t) fullShare ((dats m 0 c).before 1 t d))
    ∗ (∃ d, owns c.tc (st0_2 t) fullShare ((dats m 0 c).before 2 t d))
    ∗ (∃ d, owns c.tc (st0_3 t) fullShare ((dats m 0 c).before 3 t d))
    ∗ (∃ d, owns c.tc (st0_4 t) fullShare ((dats m 0 c).before 4 t d))
    ∗ (∃ d, owns c.tc (st0_5 t) fullShare ((dats m 0 c).before 5 t d))
    ∗ (∃ d, owns c.tc (st0_6 t) fullShare ((dats m 0 c).before 6 t d))
    ∗ (∃ d, owns c.tc (st0_7 t) fullShare ((dats m 0 c).before 7 t d))
    ∗ (∃ d, owns c.tc (st0_8 t) fullShare ((dats m 0 c).before 8 t d))
    ∗ (∃ d, owns c.tc (st0_9 t) fullShare ((dats m 0 c).before 9 t d))
    ∗ (∃ d, owns c.tc (st0_10 t) fullShare ((dats m 0 c).before 10 t d))
    ∗ (∃ d, owns c.tc (st0_11 t) fullShare ((dats m 0 c).before 11 t d))
    ∗ (∃ d, owns c.tc (st0_12 t) fullShare ((dats m 0 c).before 12 t d)))
def bodyPost (c : Dev nD) (t : Fin cfg0.N) : sProp 𝕄 :=
  iprop((dats m 0 c).Φ t.succ ∗ (dats m 0 c).owesAt () t.succ
    ∗ owns c.tc (st0_0 t) fullShare ((dats m 0 c).after 0 t)
    ∗ owns c.tc (st0_1 t) fullShare ((dats m 0 c).after 1 t)
    ∗ owns c.tc (st0_2 t) fullShare ((dats m 0 c).after 2 t)
    ∗ owns c.tc (st0_3 t) fullShare ((dats m 0 c).after 3 t)
    ∗ owns c.tc (st0_4 t) fullShare ((dats m 0 c).after 4 t)
    ∗ owns c.tc (st0_5 t) fullShare ((dats m 0 c).after 5 t)
    ∗ owns c.tc (st0_6 t) fullShare ((dats m 0 c).after 6 t)
    ∗ owns c.tc (st0_7 t) fullShare ((dats m 0 c).after 7 t)
    ∗ owns c.tc (st0_8 t) fullShare ((dats m 0 c).after 8 t)
    ∗ owns c.tc (st0_9 t) fullShare ((dats m 0 c).after 9 t)
    ∗ owns c.tc (st0_10 t) fullShare ((dats m 0 c).after 10 t)
    ∗ owns c.tc (st0_11 t) fullShare ((dats m 0 c).after 11 t)
    ∗ owns c.tc (st0_12 t) fullShare ((dats m 0 c).after 12 t))

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  unfold Dat.owesAt Pipeline.owesWithin
  rw [show (dats m 0 c).owed t.castSucc = 0 from rfl]
  obtain ⟨n, hn⟩ := t
  cases n with
  | zero =>
    rw [show (dats m 0 c).Φ (Fin.castSucc ⟨0, hn⟩) = Pipeline.ΦD osem0 spec0 H0 (V m) c from rfl, PhiD0_eq,
      show (dats m 0 c).Φ (Fin.succ ⟨0, hn⟩) = iprop(owns c.tc s1M fullShare (wt1 m c) ∗ owns c.tc s2M fullShare (wt2 m c) ∗ Rst m c) from rfl]
    unfold Rst
    iintro ⟨⟨HS1, HS2, HS3, Hg, ⟨Hq0, Hq1, Hq2, Hq3, Hq4, Hq5, Hq6, Hq7, Hq8, Hq9, Hq10, Hq11, Hq12, Hq13, Hq14, Hq15⟩, Hh⟩, ⟨%W, %hW, HO⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply (runA c (grid0.coords ⟨0, hn⟩) _ _ _ _ _ _ _ _ _ _ _ _ _ _ _ _ _ _ _ _ _ _ _ _ _ _ _ _ _ _ _ _ (V m c main_v5) W ((hcond0 ⟨0, hn⟩).mpr rfl) _)
    iframe H0 H1 H2 H3 H4 H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    iframe HS1 HS2 HS3
    iframe Hq0 Hq1 Hq2 Hq3 Hq4 Hq5 Hq6 Hq7 Hq8 Hq9 Hq10 Hq11 Hq12 Hq13 Hq14 Hq15 Hh HO
    iintro ⟨H0, H1, H2, H3, H4, H5, H6, H7, H8, H9, H10, H11, H12, HS1, HS2, HS3, Hq0, Hq1, Hq2, Hq3, Hq4, Hq5, Hq6, Hq7, Hq8, Hq9, Hq10, Hq11, Hq12, Hq13, Hq14, Hq15, Hh, ⟨%W', HO⟩⟩
    isplitl [HS1 HS2 HS3 Hg Hq0 Hq1 Hq2 Hq3 Hq4 Hq5 Hq6 Hq7 Hq8 Hq9 Hq10 Hq11 Hq12 Hq13 Hq14 Hq15 Hh]
    · iframe HS1 HS2 HS3
      iframe Hg Hq0 Hq1 Hq2 Hq3 Hq4 Hq5 Hq6 Hq7 Hq8 Hq9 Hq10 Hq11 Hq12 Hq13 Hq14 Hq15 Hh
    isplitl [HO]
    · iexists W'; isplitr; · ipureintro; exact fun _ _ => Or.inl trivial
      iexact HO
    iframe H0 H1 H2 H3 H4 H5 H6 H7 H8 H9 H10 H11
    iexact H12
  | succ n =>
    simp only [before0_12]
    rw [show (dats m 0 c).Φ (Fin.castSucc ⟨n + 1, hn⟩) = iprop(owns c.tc s1M fullShare (wt1 m c) ∗ owns c.tc s2M fullShare (wt2 m c) ∗ Rst m c) from rfl,
      show (dats m 0 c).Φ (Fin.succ ⟨n + 1, hn⟩) = iprop(owns c.tc s1M fullShare (wt1 m c) ∗ owns c.tc s2M fullShare (wt2 m c) ∗ Rst m c) from rfl]
    unfold Rst
    iintro ⟨⟨HS1, HS2, HS3, HR⟩, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply (runB c (grid0.coords ⟨n + 1, hn⟩) _ _ _ _ _ _ _ _ _ _ _ _ _ _ _ _ _ _ _ _ _ _ _ _ _ _ _ _ _ _ _ _ _ (wt1 m c) (wt2 m c) (fun h => absurd ((hcond0 ⟨n + 1, hn⟩).mp h) (Nat.succ_ne_zero n)) _)
    iframe H0 H1 H2 H3 H4 H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    iframe H12 HS1 HS2 HS3
    iintro ⟨H0, H1, H2, H3, H4, H5, H6, H7, H8, H9, H10, H11, H12, HS1, HS2, HS3⟩
    isplitl [HS1 HS2 HS3 HR]
    · iframe HS1 HS2 HS3
      iexact HR
    iframe HO H0 H1 H2 H3 H4 H5 H6 H7 H8 H9 H10 H11
    iexact H12

/-- The body table's row at the point is the body. -/
theorem defs₀_row (t : Fin cfg0.N) : defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) Variants.none () Set.univ := fun t => by
  rw [bigSep_W0, bigSep_W0, defs₀_row]
  exact triple_restated (sound_body m c t) rfl .rfl fun _ => .rfl

/-! ## The launch -/

theorem hmainD (𝒱₀ : Variants) :
    Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

theorem hout (c : Dev nD) : (dats m 0 c).Φ (Fin.last cfg0.N) ⊢ Pipeline.ΦD osem0 spec0 H0 (V m) c := by
  have hN : cfg0.N = 31 + 1 := N_0
  rw [show (dats m 0 c).Φ (Fin.last cfg0.N) = PhiS m c cfg0.N from rfl, hN, PhiD0_eq]
  show iprop(owns c.tc s1M fullShare (wt1 m c) ∗ owns c.tc s2M fullShare (wt2 m c) ∗ Rst m c) ⊢ _
  iintro ⟨HS1, HS2, HR⟩
  isplitl [HS1]; · iexists _; iexact HS1
  isplitl [HS2]; · iexists _; iexact HS2
  iexact HR

set_option backward.isDefEq.respectTransparency.types false in
/-- The run: every array a window stages ends as the proof data say, every other as the region found it, and every counter at zero. -/
theorem run_main :
    θ_run defs (onTc (τ := τ) (main (F := F))) (s₀ m ρ)
      (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmainD m Variants.none) (hA := A_eq m)
    (hin := fun _ => .rfl) (hout := hout m) (hQ' := fun _ h => h)

/-- What a run that meets the frame says of the arguments. -/
theorem args_kept {r : PUnit × MemSt nD τ sig (Elt F)} (h : Pipeline.FramePost cfgs (dats m) 0 (V m) r) (c : Dev nD) :
r.2.mem (c.tc.loc main_arg0) = m (c.tc.loc main_arg0)
    ∧ r.2.mem (c.tc.loc main_arg1) = m (c.tc.loc main_arg1)
    ∧ r.2.mem (c.tc.loc main_arg2) = m (c.tc.loc main_arg2)
    ∧ r.2.mem (c.tc.loc main_arg3) = m (c.tc.loc main_arg3)
    ∧ r.2.mem (c.tc.loc main_arg4) = m (c.tc.loc main_arg4)
    ∧ r.2.mem (c.tc.loc main_arg5) = m (c.tc.loc main_arg5)
    ∧ r.2.mem (c.tc.loc main_arg6) = m (c.tc.loc main_arg6)
    ∧ r.2.mem (c.tc.loc main_arg7) = m (c.tc.loc main_arg7) :=
  ⟨((h c).2 main_arg0 (Pipeline.mem_restRefs_of main_arg0 (by decide) (by decide))).trans (V_main_arg0 m c),
    ((h c).1 1).trans (((dats m 0 c).arrAt_in 1 rfl _).trans ((A_eq m c 1).trans (V_main_arg1 m c))),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    ((h c).1 2).trans (((dats m 0 c).arrAt_in 2 rfl _).trans ((A_eq m c 2).trans (V_main_arg7 m c)))⟩

end Cert.Mlp.Hand

end
-- ==== Proof.Mlp.Frames.lean ====
module

public import proofs.«01_k».proof.Defs
public import proofs.«01_k».proof.Proof.Mlp.Body
public import proofs.«01_k».proof.Proof.Gen.Mlp
public import proofs.«01_k».proof.Proof.Gen.MlpIdeal

@[expose] public section

noncomputable section

namespace Cert.Mlp.Hand

open Idealize.ShloMosaic Idealize.ShloMosaic.TcCoe Idealize.SL.Sem

/-- At any float operations: the program runs, keeps its arguments, and ends with every counter at zero. -/
theorem frame_any {F : FTy → Type} [FloatOps F] (m : (ℓ : Loc Cert.MlpIdeal.nD Cert.MlpIdeal.τ Cert.MlpIdeal.sig) → Buf (Elt F) ℓ) (ρ : Dev Cert.MlpIdeal.nD → PrngReg) :
    θ_run (Cert.MlpIdeal.defs (F := F)) (onTc (τ := Cert.MlpIdeal.τ) (Cert.MlpIdeal.main (F := F))) ⟨m, fun _ => 0, ρ⟩ (fun r => (∀ c : Dev Cert.MlpIdeal.nD,
      r.2.mem (c.tc.loc Cert.MlpIdeal.main_arg0) = m (c.tc.loc Cert.MlpIdeal.main_arg0)
      ∧ r.2.mem (c.tc.loc Cert.MlpIdeal.main_arg1) = m (c.tc.loc Cert.MlpIdeal.main_arg1)
      ∧ r.2.mem (c.tc.loc Cert.MlpIdeal.main_arg2) = m (c.tc.loc Cert.MlpIdeal.main_arg2)
      ∧ r.2.mem (c.tc.loc Cert.MlpIdeal.main_arg3) = m (c.tc.loc Cert.MlpIdeal.main_arg3)
      ∧ r.2.mem (c.tc.loc Cert.MlpIdeal.main_arg4) = m (c.tc.loc Cert.MlpIdeal.main_arg4)
      ∧ r.2.mem (c.tc.loc Cert.MlpIdeal.main_arg5) = m (c.tc.loc Cert.MlpIdeal.main_arg5)
      ∧ r.2.mem (c.tc.loc Cert.MlpIdeal.main_arg6) = m (c.tc.loc Cert.MlpIdeal.main_arg6)
      ∧ r.2.mem (c.tc.loc Cert.MlpIdeal.main_arg7) = m (c.tc.loc Cert.MlpIdeal.main_arg7))
      ∧ r.2.sem = fun _ => 0) :=
  (θ_run Cert.MlpIdeal.defs _ _).mono (fun _ h => ⟨fun c => args_kept m h.1 c, h.2⟩) (run_main m ρ)

/-- The idealized program runs, keeps its arguments, and ends with every counter at zero. -/
theorem frame_ideal : Cert.quiescent_MlpIdeal (hMlpIdeal := Cert.MlpIdeal.Gen.facts) := fun m ρ _ => frame_any m ρ

set_option maxHeartbeats 4000000 in
/-- The kernel as it is compiled is the same program over words: the same run. -/
theorem frame_kernel : Cert.quiescent_Mlp (hMlp := Cert.Mlp.Gen.facts) := by
  intro m ρ _
  have h := frame_any (F := Bits) m ρ
  have hd : (Cert.Mlp.defs (F := Bits)) = Cert.MlpIdeal.defs (F := Bits) := by sl_kernel_rfl
  have hm : Cert.Mlp.main (F := Bits) = Cert.MlpIdeal.main (F := Bits) := by sl_kernel_rfl
  rw [hd, hm]
  exact h

end Cert.Mlp.Hand

end
-- ==== Proof.Mlp.Rows.lean ====
module

public import proofs.«01_k».proof.Proof.BwdIn.Algebra

@[expose] public section

noncomputable section

/-! One token's row of the block, forward and backward, over the extended reals: as the kernel computes it, and as the chain rule gives it. -/

namespace Cert.MlpRow

open Idealize.ShloMosaic

/-- The mean square of a row plus the small constant. -/
def ms (u : Fin 1024 → EReal) : EReal := Ideal.div (∑ k, u k * u k) (Ideal.ofBits .f32 0x44800000#32) + Ideal.ofBits .f32 0x358637BD#32
/-- The row's scale. -/
def rs (u : Fin 1024 → EReal) : EReal := Ideal.rsqrt (ms u)

/-- A norm's gradient in closed form. -/
def back (g u z : Fin 1024 → EReal) (d : Fin 1024) : EReal :=
  rs u * (z d * g d) - u d * (rs u * rs u * rs u) * Ideal.div (∑ k, z k * g k * u k) (Ideal.ofBits .f32 0x44800000#32)
/-- What the mean square passes back to every entry of the row. -/
def share (g u z : Fin 1024 → EReal) : EReal :=
  Ideal.div ((∑ k, u k * (z k * g k)) * (Ideal.ofBits .f32 0xBF000000#32 * Ideal.div (rs u) (ms u))) (Ideal.ofBits .f32 0x44800000#32)
/-- A norm's gradient by the chain rule. -/
def chain (g u z : Fin 1024 → EReal) (d : Fin 1024) : EReal := z d * g d * rs u + u d * share g u z + share g u z * u d

/-- A token's rows: the block's input, the mixer's output and the target. -/
structure Tok where
  x : Fin 1024 → EReal
  mx : Fin 1024 → EReal
  tg : Fin 1024 → EReal

/-- The gains and the weights. -/
structure Par where
  ga : Fin 1024 → EReal
  gb : Fin 1024 → EReal
  gc : Fin 1024 → EReal
  w1 : Fin 4096 → Fin 1024 → EReal
  w2 : Fin 4096 → Fin 1024 → EReal

variable (P : Par) (T : Tok)

/-- The normalised row. -/
def h2 (d : Fin 1024) : EReal := T.x d * rs T.x * P.gb d
/-- The first product. -/
def t (n : Fin 4096) : EReal := ∑ d, h2 P T d * P.w1 n d
/-- Its positive part. -/
def rl (n : Fin 4096) : EReal := max (t P T n) 0
/-- The square of the positive part. -/
def f (n : Fin 4096) : EReal := rl P T n * rl P T n
/-- The second product. -/
def f2 (d : Fin 1024) : EReal := ∑ n, f P T n * P.w2 n d
/-- The error of the block's output. -/
def err (d : Fin 1024) : EReal := T.x d + f2 P T d * rs (f2 P T) * P.gc d - T.tg d

/-- The output's gradient, as the kernel scales the error. -/
def dy (d : Fin 1024) : EReal := err P T d * Ideal.ofBits .f32 0x3A800000#32
/-- The second product's gradient. -/
def df2 : Fin 1024 → EReal := back P.gc (f2 P T) (dy P T)
/-- The first product's gradient. -/
def df1 (n : Fin 4096) : EReal := (∑ d, df2 P T d * P.w2 n d) * (Ideal.ofBits .f32 0x40000000#32 * rl P T n)
/-- The normalised row's gradient. -/
def dh2 (d : Fin 1024) : EReal := ∑ n, df1 P T n * P.w1 n d
/-- The input row's gradient. -/
def dx1 (d : Fin 1024) : EReal := dy P T d + back P.gb T.x (dh2 P T) d
/-- The mixer's output's gradient. -/
def dmix : Fin 1024 → EReal := back P.ga T.mx (dx1 P T)
/-- The token's term of row `a` of the sums: the three gains' gradients, the squared error, nothing. -/
def term (a : ℕ) (d : Fin 1024) : EReal :=
  if a = 2 then dx1 P T d * T.mx d * rs T.mx else if a = 1 then dh2 P T d * T.x d * rs T.x
  else if a = 0 then dy P T d * f2 P T d * rs (f2 P T) else if a = 3 then err P T d * err P T d else 0

/-- The output's gradient, as the chain rule scales the error. -/
def dyC (d : Fin 1024) : EReal :=
  Ideal.div (Ideal.ofBits .f32 0x3F000000#32 * Ideal.ofBits .f32 0x3F800000#32) (Ideal.ofBits .f32 0x44800000#32) * (Ideal.ofBits .f32 0x40000000#32 * err P T d)
def df2C : Fin 1024 → EReal := chain P.gc (f2 P T) (dyC P T)
/-- The first product's gradient passes where the product is positive. -/
def df1C (n : Fin 4096) : EReal := if 0 < t P T n then (∑ d, df2C P T d * P.w2 n d) * (Ideal.ofBits .f32 0x40000000#32 * rl P T n) else 0
def dh2C (d : Fin 1024) : EReal := ∑ n, df1C P T n * P.w1 n d
def dx1C (d : Fin 1024) : EReal := dyC P T d + chain P.gb T.x (dh2C P T) d
def dmixC : Fin 1024 → EReal := chain P.ga T.mx (dx1C P T)
def termC (a : ℕ) (d : Fin 1024) : EReal :=
  if a = 2 then T.mx d * rs T.mx * dx1C P T d else if a = 1 then T.x d * rs T.x * dh2C P T d
  else if a = 0 then f2 P T d * rs (f2 P T) * dyC P T d else if a = 3 then err P T d * err P T d else 0

/-! ## Real entries -/

/-- An extended real that is a real number. -/
def IsR (y : EReal) : Prop := ∃ r : ℝ, y = (r : EReal)

theorem IsR.add {a b : EReal} (ha : IsR a) (hb : IsR b) : IsR (a + b) := by
  obtain ⟨x, rfl⟩ := ha; obtain ⟨y, rfl⟩ := hb; exact ⟨x + y, by rw [EReal.coe_add]⟩
theorem IsR.mul {a b : EReal} (ha : IsR a) (hb : IsR b) : IsR (a * b) := by
  obtain ⟨x, rfl⟩ := ha; obtain ⟨y, rfl⟩ := hb; exact ⟨x * y, by rw [EReal.coe_mul]⟩
theorem IsR.sub {a b : EReal} (ha : IsR a) (hb : IsR b) : IsR (a - b) := by
  obtain ⟨x, rfl⟩ := ha; obtain ⟨y, rfl⟩ := hb; exact ⟨x - y, by rw [EReal.coe_sub]⟩
theorem IsR.zero : IsR 0 := ⟨0, EReal.coe_zero.symm⟩
theorem IsR.max {a : EReal} (ha : IsR a) : IsR (max a 0) := by
  rcases max_choice a 0 with h | h
  · rw [h]; exact ha
  · rw [h]; exact IsR.zero
theorem IsR.sum {n : ℕ} {u : Fin n → EReal} (h : ∀ k, IsR (u k)) : IsR (∑ k, u k) := by
  choose x hx using h
  exact ⟨∑ k, x k, by simp only [hx]; exact RealRms.sum_real _ _⟩
theorem IsR.width {a : EReal} (ha : IsR a) : IsR (Ideal.div a (Ideal.ofBits .f32 0x44800000#32)) := by
  obtain ⟨x, rfl⟩ := ha
  exact ⟨x / 1024, by rw [RealRms.width_real, RealRms.div_real _ _ (by norm_num)]⟩

theorem two_real : Ideal.ofBits .f32 0x40000000#32 = ((2 : ℝ) : EReal) := by
  simp [Ideal.ofBits, Ideal.ieee, -EReal.coe_mul, -EReal.coe_neg]; norm_num
theorem one_real : Ideal.ofBits .f32 0x3F800000#32 = ((1 : ℝ) : EReal) := by
  simp [Ideal.ofBits, Ideal.ieee, -EReal.coe_mul, -EReal.coe_neg]; norm_num
theorem hlf_real : Ideal.ofBits .f32 0x3F000000#32 = ((1 / 2 : ℝ) : EReal) := by
  simp [Ideal.ofBits, Ideal.ieee, -EReal.coe_mul, -EReal.coe_neg]; norm_num
theorem inv_real : Ideal.ofBits .f32 0x3A800000#32 = ((1 / 1024 : ℝ) : EReal) := by
  simp [Ideal.ofBits, Ideal.ieee, -EReal.coe_mul, -EReal.coe_neg]; norm_num

/-- A real row's mean square plus the small constant is a positive real number. -/
theorem ms_real {u : Fin 1024 → EReal} (h : ∀ k, IsR (u k)) : ∃ v : ℝ, 0 < v ∧ ms u = (v : EReal) := by
  choose x hx using h
  obtain ⟨e, he, hee⟩ := RealRms.eps_real
  refine ⟨(∑ k, x k * x k) / 1024 + e, add_pos_of_nonneg_of_pos (div_nonneg (Finset.sum_nonneg fun k _ => mul_self_nonneg _) (by norm_num)) he, ?_⟩
  unfold ms
  rw [hee, RealRms.width_real, EReal.coe_add, ← RealRms.div_real _ _ (by norm_num), ← RealRms.sum_real]
  simp only [hx, EReal.coe_mul]

theorem IsR.rs {u : Fin 1024 → EReal} (h : ∀ k, IsR (u k)) : IsR (rs u) := by
  obtain ⟨v, hv, e⟩ := ms_real h
  exact ⟨(Real.sqrt v)⁻¹, by unfold MlpRow.rs; rw [e, RealRms.rsqrt_real v hv]⟩

theorem IsR.back {g u z : Fin 1024 → EReal} (hg : ∀ k, IsR (g k)) (hu : ∀ k, IsR (u k)) (hz : ∀ k, IsR (z k)) (d : Fin 1024) : IsR (back g u z d) :=
  ((IsR.rs hu).mul ((hz d).mul (hg d))).sub (((hu d).mul (((IsR.rs hu).mul (IsR.rs hu)).mul (IsR.rs hu))).mul (IsR.sum fun k => ((hz k).mul (hg k)).mul (hu k)).width)

/-- At real entries the closed form is the chain rule's. -/
theorem back_eq {g u z : Fin 1024 → EReal} (hg : ∀ k, IsR (g k)) (hu : ∀ k, IsR (u k)) (hz : ∀ k, IsR (z k)) : back g u z = chain g u z := by
  funext d
  obtain ⟨v, hv, e⟩ := ms_real hu
  choose g' hg using hg
  choose u' hu using hu
  choose z' hz using hz
  have hS : (∑ k, z k * g k * u k) = ((∑ k, z' k * g' k * u' k : ℝ) : EReal) := by
    rw [← RealRms.sum_real]
    exact Finset.sum_congr rfl fun k _ => by rw [hg, hu, hz, EReal.coe_mul, EReal.coe_mul]
  have hS' : (∑ k, u k * (z k * g k)) = ((∑ k, z' k * g' k * u' k : ℝ) : EReal) := by
    rw [← hS]
    exact Finset.sum_congr rfl fun k _ => mul_comm _ _
  have h := RealRms.grad_eq 0 (u' d) (z' d * g' d) (∑ k, z' k * g' k * u' k) v hv
  simp only [zero_add] at h
  unfold back chain share MlpRow.rs
  rw [hS, hS', e, RealRms.width_real, RealRms.half_real, hg d, hu d, hz d, ← EReal.coe_mul]
  exact h

/-- All of a token's rows and of the parameters are real. -/
structure Fin' : Prop where
  x : ∀ k, IsR (T.x k)
  mx : ∀ k, IsR (T.mx k)
  tg : ∀ k, IsR (T.tg k)
  ga : ∀ k, IsR (P.ga k)
  gb : ∀ k, IsR (P.gb k)
  gc : ∀ k, IsR (P.gc k)
  w1 : ∀ n k, IsR (P.w1 n k)
  w2 : ∀ n k, IsR (P.w2 n k)

variable {P T} (H : Fin' P T)
include H

theorem h2_r (d : Fin 1024) : IsR (h2 P T d) := ((H.x d).mul (IsR.rs H.x)).mul (H.gb d)
theorem rl_r (n : Fin 4096) : IsR (rl P T n) := (IsR.sum fun d => (h2_r H d).mul (H.w1 n d)).max
theorem f2_r (d : Fin 1024) : IsR (f2 P T d) := IsR.sum fun n => ((rl_r H n).mul (rl_r H n)).mul (H.w2 n d)
theorem err_r (d : Fin 1024) : IsR (err P T d) := ((H.x d).add (((f2_r H d).mul (IsR.rs (f2_r H))).mul (H.gc d))).sub (H.tg d)
theorem dy_r (d : Fin 1024) : IsR (dy P T d) := (err_r H d).mul ⟨_, inv_real⟩
theorem df2_r (d : Fin 1024) : IsR (df2 P T d) := IsR.back H.gc (f2_r H) (dy_r H) d
theorem df1_r (n : Fin 4096) : IsR (df1 P T n) := (IsR.sum fun d => (df2_r H d).mul (H.w2 n d)).mul (IsR.mul ⟨_, two_real⟩ (rl_r H n))
theorem dh2_r (d : Fin 1024) : IsR (dh2 P T d) := IsR.sum fun n => (df1_r H n).mul (H.w1 n d)
theorem dx1_r (d : Fin 1024) : IsR (dx1 P T d) := (dy_r H d).add (IsR.back H.gb H.x (dh2_r H) d)

/-- The two scales of the error are one. -/
theorem dy_eq : dy P T = dyC P T := by
  funext d
  obtain ⟨e, he⟩ := err_r H d
  unfold dy dyC
  rw [he, inv_real, hlf_real, one_real, two_real, RealRms.width_real, ← EReal.coe_mul, ← EReal.coe_mul, ← EReal.coe_mul, RealRms.div_real _ _ (by norm_num), ← EReal.coe_mul]
  refine congrArg _ ?_
  ring

theorem df2_eq : df2 P T = df2C P T := by
  unfold df2 df2C
  rw [back_eq H.gc (f2_r H) (dy_r H), dy_eq H]

/-- Where the first product is not positive its positive part is zero, and so is the gradient. -/
theorem df1_eq : df1 P T = df1C P T := by
  funext n
  unfold df1 df1C
  rw [df2_eq H]
  by_cases h : 0 < t P T n
  · rw [if_pos h]
  · rw [if_neg h]
    have e : rl P T n = 0 := max_eq_right (not_lt.1 h)
    rw [e, mul_zero, mul_zero]

theorem dh2_eq : dh2 P T = dh2C P T := by
  funext d
  unfold dh2 dh2C
  rw [df1_eq H]

theorem dx1_eq : dx1 P T = dx1C P T := by
  funext d
  unfold dx1 dx1C
  rw [back_eq H.gb H.x (dh2_r H), dy_eq H, dh2_eq H]

theorem dmix_eq : dmix P T = dmixC P T := by
  unfold dmix dmixC
  rw [back_eq H.ga H.mx (dx1_r H), dx1_eq H]

theorem term_eq (a : ℕ) (d : Fin 1024) : term P T a d = termC P T a d := by
  unfold term termC
  rw [dx1_eq H, dh2_eq H, dy_eq H]
  refine if_congr Iff.rfl ?_ (if_congr Iff.rfl ?_ (if_congr Iff.rfl ?_ rfl)) <;> rw [mul_assoc, mul_comm]

end Cert.MlpRow

end
-- ==== Proof.Mlp.Blocks.lean ====
module

public import proofs.«01_k».proof.Proof.Mlp.Base
public import proofs.«01_k».proof.Proof.Mlp.Rows
public import Idealize.ShloMosaic.Lib.Pointwise

@[expose] public section

set_option maxRecDepth 16384

noncomputable section

namespace Cert.Mlp.Hand

open Cert.MlpIdeal Cert.MlpIdeal.Gen
open Idealize.ShloMosaic Idealize.ShloMosaic.TcCoe

/-- A window's entry is the array's entry at the offset position. -/
theorem emb_at {a b m n o0 o1 : ℕ} (h : ∀ q, (![o0, o1] : Fin 2 → ℕ) q + (![m, n] : Fin 2 → ℕ) q ≤ (⟨2, ![a, b]⟩ : Shape).size q) (i : Fin m) (j : Fin n)
    (h0 : o0 + i.val < a) (h1 : o1 + j.val < b) :
    (Rect.unit (s := ⟨2, ![a, b]⟩) ![o0, o1] ![m, n] h).emb (ix2 i j : (⟨2, ![m, n]⟩ : Shape).Idx) = ix2 ⟨o0 + i.val, h0⟩ ⟨o1 + j.val, h1⟩ := by
  funext q
  refine Fin.ext ?_
  match q with
  | 0 => show o0 + 1 * i.val = o0 + i.val; omega
  | 1 => show o1 + 1 * j.val = o1 + j.val; omega

/-- Row `p` of a block's three inputs. -/
def tokB (x1 mx tg : Vec Ideal S256x1024 .f32) (p : Fin 256) : MlpRow.Tok := ⟨fun k => x1 (ix2 p k), fun k => mx (ix2 p k), fun k => tg (ix2 p k)⟩
/-- The gains and the weights a point holds. -/
def parB (ga gb gc : Vec Ideal S1x1024 .f32) (w1 w2 : Vec Ideal S4096x1024 .bf16) : MlpRow.Par :=
  ⟨fun k => ga (ix2 0 k), fun k => gb (ix2 0 k), fun k => gc (ix2 0 k), fun n d => w1 (ix2 n d), fun n d => w2 (ix2 n d)⟩

variable (x1 mx tg : Vec Ideal S256x1024 .f32) (ga gb gc : Vec Ideal S1x1024 .f32) (w1 w2 : Vec Ideal S4096x1024 .bf16) (p : Fin 256)

theorem pay4_at (q : Fin 1) : k0_pay4 x1 (ix2 p q) = MlpRow.rs (tokB x1 mx tg p).x := by
  pointwise [k0_pay4, k0_pay3, MlpRow.rs, MlpRow.ms, tokB]

theorem pay6_at (d : Fin 1024) : k0_pay6 x1 gb (ix2 p d) = MlpRow.h2 (parB ga gb gc w1 w2) (tokB x1 mx tg p) d := by
  unfold k0_pay6
  have h4 := pay4_at x1 mx tg p
  generalize k0_pay4 x1 = R at h4 ⊢
  pointwise [k0_pay3, k0_pay5]
  simp only [h4]
  rfl

/-- A row of a block of the first weight. -/
theorem win_at (w : Vec Ideal S4096x1024 .bf16) (o : ℕ) (h : ∀ q, (![o, 0] : Fin 2 → ℕ) q + S1024x1024.size q ≤ S4096x1024.size q) (j k : Fin 1024) (ho : o + j.val < 4096) :
    VecWindow.window w ![o, 0] S1024x1024.size h (ix2 j k) = w (ix2 ⟨o + j.val, ho⟩ k) := by
  refine (congrArg w (emb_at h j k ho (by omega))).trans (congrArg w ?_)
  funext r; refine Fin.ext ?_
  match r with
  | 0 => rfl
  | 1 => show 0 + k.val = k.val; omega

/-- Column `n` of four blocks side by side. -/
theorem cols4_ix {β : Type} (a0 a1 a2 a3 : S256x1024.Idx → β) (g : Fin 4096 → β) (p : Fin 256)
    (h0 : ∀ j : Fin 1024, a0 (ix2 p j) = g ⟨j.val, by omega⟩) (h1 : ∀ j : Fin 1024, a1 (ix2 p j) = g ⟨1024 + j.val, by omega⟩)
    (h2 : ∀ j : Fin 1024, a2 (ix2 p j) = g ⟨2048 + j.val, by omega⟩) (h3 : ∀ j : Fin 1024, a3 (ix2 p j) = g ⟨3072 + j.val, by omega⟩) (n : Fin 4096) :
    cols4 a0 a1 a2 a3 (ix2 p n) = g n := by
  have hn := n.isLt
  show (if n.val < 1024 then a0 (ix2 p ⟨n.val % 1024, _⟩) else if n.val < 2048 then a1 (ix2 p ⟨n.val % 1024, _⟩) else if n.val < 3072 then a2 (ix2 p ⟨n.val % 1024, _⟩) else a3 (ix2 p ⟨n.val % 1024, _⟩)) = g n
  split
  · exact (h0 _).trans (congrArg g (Fin.ext (by show n.val % 1024 = n.val; omega)))
  split
  · exact (h1 _).trans (congrArg g (Fin.ext (by show 1024 + n.val % 1024 = n.val; omega)))
  split
  · exact (h2 _).trans (congrArg g (Fin.ext (by show 2048 + n.val % 1024 = n.val; omega)))
  · exact (h3 _).trans (congrArg g (Fin.ext (by show 3072 + n.val % 1024 = n.val; omega)))

/-- Column block 0 of the positive part. -/
theorem relu0_at (j : Fin 1024) : k0_pay7 x1 gb (VecWindow.window w1 ![0, 0] S1024x1024.size inb_S4096x1024_S1024x1024_0_0) (ix2 p j) = MlpRow.rl (parB ga gb gc w1 w2) (tokB x1 mx tg p) ⟨j.val, by omega⟩ := by
  unfold k0_pay7
  have h6 := pay6_at x1 mx tg ga gb gc w1 w2 p
  generalize k0_pay6 x1 gb = H at h6 ⊢
  have hw := fun a b => win_at w1 0 inb_S4096x1024_S1024x1024_0_0 a b (by omega)
  generalize VecWindow.window w1 ![0, 0] S1024x1024.size inb_S4096x1024_S1024x1024_0_0 = W at hw ⊢
  pointwise []
  simp only [h6, hw, Nat.zero_add]
  rfl

theorem rl0_at (j : Fin 1024) : rl0 x1 gb w1 (ix2 p j) = MlpRow.rl (parB ga gb gc w1 w2) (tokB x1 mx tg p) ⟨j.val, by omega⟩ := by
  refine Eq.trans ?_ (relu0_at x1 mx tg ga gb gc w1 w2 p j)
  unfold rl0 k0_pay8
  pointwise []

theorem sq0_at (j : Fin 1024) : k0_pay9 (k0_pay7 x1 gb (VecWindow.window w1 ![0, 0] S1024x1024.size inb_S4096x1024_S1024x1024_0_0)) (ix2 p j) = MlpRow.f (parB ga gb gc w1 w2) (tokB x1 mx tg p) ⟨j.val, by omega⟩ := by
  have h := relu0_at x1 mx tg ga gb gc w1 w2 p j
  unfold k0_pay9
  generalize k0_pay7 x1 gb (VecWindow.window w1 ![0, 0] S1024x1024.size inb_S4096x1024_S1024x1024_0_0) = H at h ⊢
  pointwise []
  simp only [h]
  rfl

/-- Column block 1 of the positive part. -/
theorem relu1_at (j : Fin 1024) : k0_pay10 (k0_pay6 x1 gb) (VecWindow.window w1 ![1024, 0] S1024x1024.size inb_S4096x1024_S1024x1024_1024_0) (ix2 p j) = MlpRow.rl (parB ga gb gc w1 w2) (tokB x1 mx tg p) ⟨1024 + j.val, by omega⟩ := by
  unfold k0_pay10
  have h6 := pay6_at x1 mx tg ga gb gc w1 w2 p
  generalize k0_pay6 x1 gb = H at h6 ⊢
  have hw := fun a b => win_at w1 1024 inb_S4096x1024_S1024x1024_1024_0 a b (by omega)
  generalize VecWindow.window w1 ![1024, 0] S1024x1024.size inb_S4096x1024_S1024x1024_1024_0 = W at hw ⊢
  pointwise []
  simp only [h6, hw]
  rfl

theorem rl1_at (j : Fin 1024) : rl1 x1 gb w1 (ix2 p j) = MlpRow.rl (parB ga gb gc w1 w2) (tokB x1 mx tg p) ⟨1024 + j.val, by omega⟩ := by
  refine Eq.trans ?_ (relu1_at x1 mx tg ga gb gc w1 w2 p j)
  unfold rl1 k0_pay11
  pointwise []

theorem sq1_at (j : Fin 1024) : k0_pay12 (k0_pay6 x1 gb) (VecWindow.window w1 ![1024, 0] S1024x1024.size inb_S4096x1024_S1024x1024_1024_0) (ix2 p j) = MlpRow.f (parB ga gb gc w1 w2) (tokB x1 mx tg p) ⟨1024 + j.val, by omega⟩ := by
  have h := relu1_at x1 mx tg ga gb gc w1 w2 p j
  unfold k0_pay12
  generalize k0_pay10 (k0_pay6 x1 gb) (VecWindow.window w1 ![1024, 0] S1024x1024.size inb_S4096x1024_S1024x1024_1024_0) = H at h ⊢
  pointwise []
  simp only [h]
  rfl

/-- Column block 2 of the positive part. -/
theorem relu2_at (j : Fin 1024) : k0_pay13 (k0_pay6 x1 gb) (VecWindow.window w1 ![2048, 0] S1024x1024.size inb_S4096x1024_S1024x1024_2048_0) (ix2 p j) = MlpRow.rl (parB ga gb gc w1 w2) (tokB x1 mx tg p) ⟨2048 + j.val, by omega⟩ := by
  unfold k0_pay13
  have h6 := pay6_at x1 mx tg ga gb gc w1 w2 p
  generalize k0_pay6 x1 gb = H at h6 ⊢
  have hw := fun a b => win_at w1 2048 inb_S4096x1024_S1024x1024_2048_0 a b (by omega)
  generalize VecWindow.window w1 ![2048, 0] S1024x1024.size inb_S4096x1024_S1024x1024_2048_0 = W at hw ⊢
  pointwise []
  simp only [h6, hw]
  rfl

theorem rl2_at (j : Fin 1024) : rl2 x1 gb w1 (ix2 p j) = MlpRow.rl (parB ga gb gc w1 w2) (tokB x1 mx tg p) ⟨2048 + j.val, by omega⟩ := by
  refine Eq.trans ?_ (relu2_at x1 mx tg ga gb gc w1 w2 p j)
  unfold rl2 k0_pay14
  pointwise []

theorem sq2_at (j : Fin 1024) : k0_pay15 (k0_pay6 x1 gb) (VecWindow.window w1 ![2048, 0] S1024x1024.size inb_S4096x1024_S1024x1024_2048_0) (ix2 p j) = MlpRow.f (parB ga gb gc w1 w2) (tokB x1 mx tg p) ⟨2048 + j.val, by omega⟩ := by
  have h := relu2_at x1 mx tg ga gb gc w1 w2 p j
  unfold k0_pay15
  generalize k0_pay13 (k0_pay6 x1 gb) (VecWindow.window w1 ![2048, 0] S1024x1024.size inb_S4096x1024_S1024x1024_2048_0) = H at h ⊢
  pointwise []
  simp only [h]
  rfl

/-- Column block 3 of the positive part. -/
theorem relu3_at (j : Fin 1024) : k0_pay16 (k0_pay6 x1 gb) (VecWindow.window w1 ![3072, 0] S1024x1024.size inb_S4096x1024_S1024x1024_3072_0) (ix2 p j) = MlpRow.rl (parB ga gb gc w1 w2) (tokB x1 mx tg p) ⟨3072 + j.val, by omega⟩ := by
  unfold k0_pay16
  have h6 := pay6_at x1 mx tg ga gb gc w1 w2 p
  generalize k0_pay6 x1 gb = H at h6 ⊢
  have hw := fun a b => win_at w1 3072 inb_S4096x1024_S1024x1024_3072_0 a b (by omega)
  generalize VecWindow.window w1 ![3072, 0] S1024x1024.size inb_S4096x1024_S1024x1024_3072_0 = W at hw ⊢
  pointwise []
  simp only [h6, hw]
  rfl

theorem rl3_at (j : Fin 1024) : rl3 x1 gb w1 (ix2 p j) = MlpRow.rl (parB ga gb gc w1 w2) (tokB x1 mx tg p) ⟨3072 + j.val, by omega⟩ := by
  refine Eq.trans ?_ (relu3_at x1 mx tg ga gb gc w1 w2 p j)
  unfold rl3 k0_pay17
  pointwise []

theorem sq3_at (j : Fin 1024) : k0_pay18 (k0_pay16 (k0_pay6 x1 gb) (VecWindow.window w1 ![3072, 0] S1024x1024.size inb_S4096x1024_S1024x1024_3072_0)) (ix2 p j) = MlpRow.f (parB ga gb gc w1 w2) (tokB x1 mx tg p) ⟨3072 + j.val, by omega⟩ := by
  have h := relu3_at x1 mx tg ga gb gc w1 w2 p j
  unfold k0_pay18
  generalize k0_pay16 (k0_pay6 x1 gb) (VecWindow.window w1 ![3072, 0] S1024x1024.size inb_S4096x1024_S1024x1024_3072_0) = H at h ⊢
  pointwise []
  simp only [h]
  rfl

theorem fB_at (n : Fin 4096) : fB x1 gb w1 (ix2 p n) = MlpRow.f (parB ga gb gc w1 w2) (tokB x1 mx tg p) n :=
  cols4_ix _ _ _ _ (MlpRow.f (parB ga gb gc w1 w2) (tokB x1 mx tg p)) p (sq0_at x1 mx tg ga gb gc w1 w2 p) (sq1_at x1 mx tg ga gb gc w1 w2 p) (sq2_at x1 mx tg ga gb gc w1 w2 p) (sq3_at x1 mx tg ga gb gc w1 w2 p) n

/-- The second product of a block. -/
theorem pay19_at (d : Fin 1024) : k0_pay19 (fB x1 gb w1) w2 (ix2 p d) = MlpRow.f2 (parB ga gb gc w1 w2) (tokB x1 mx tg p) d := by
  have hf := fB_at x1 mx tg ga gb gc w1 w2 p
  unfold k0_pay19
  generalize fB x1 gb w1 = H at hf ⊢
  pointwise []
  simp only [hf]
  rfl

theorem pay20_at (q : Fin 1) : k0_pay20 (fB x1 gb w1) w2 (ix2 p q) = MlpRow.rs (MlpRow.f2 (parB ga gb gc w1 w2) (tokB x1 mx tg p)) := by
  have hf := pay19_at x1 mx tg ga gb gc w1 w2 p
  unfold k0_pay20
  generalize k0_pay19 (fB x1 gb w1) w2 = H at hf ⊢
  pointwise []
  simp only [hf]
  rfl

theorem pay22_at (d : Fin 1024) : k0_pay22 (k0_pay3 x1) (fB x1 gb w1) w2 gc tg (ix2 p d) = MlpRow.err (parB ga gb gc w1 w2) (tokB x1 mx tg p) d := by
  have hf := pay19_at x1 mx tg ga gb gc w1 w2 p
  have hr := pay20_at x1 mx tg ga gb gc w1 w2 p
  unfold k0_pay22
  generalize k0_pay19 (fB x1 gb w1) w2 = H at hf ⊢
  generalize k0_pay20 (fB x1 gb w1) w2 = R at hr ⊢
  pointwise [k0_pay3, k0_pay21]
  simp only [hf, hr]
  rfl

theorem dyB_at (d : Fin 1024) : dyB x1 tg gb gc w1 w2 (ix2 p d) = MlpRow.dy (parB ga gb gc w1 w2) (tokB x1 mx tg p) d := by
  have h := pay22_at x1 mx tg ga gb gc w1 w2 p d
  unfold dyB k0_pay23
  generalize k0_pay22 (k0_pay3 x1) (fB x1 gb w1) w2 gc tg = H at h ⊢
  pointwise []
  simp only [h]
  rfl

theorem df2B_at (d : Fin 1024) : df2B x1 tg gb gc w1 w2 (ix2 p d) = MlpRow.df2 (parB ga gb gc w1 w2) (tokB x1 mx tg p) d := by
  have hf := pay19_at x1 mx tg ga gb gc w1 w2 p
  have hr := pay20_at x1 mx tg ga gb gc w1 w2 p
  have hy := dyB_at x1 mx tg ga gb gc w1 w2 p
  unfold df2B k0_pay26
  generalize k0_pay19 (fB x1 gb w1) w2 = H at hf ⊢
  generalize k0_pay20 (fB x1 gb w1) w2 = R at hr ⊢
  generalize dyB x1 tg gb gc w1 w2 = Y at hy ⊢
  pointwise [k0_pay21]
  simp only [hf, hr, hy]
  rfl

/-- Column block 0 of the first product's gradient. -/
theorem df1_0_at (j : Fin 1024) : k0_pay27 (k0_pay19 (fB x1 gb w1) w2) (k0_pay20 (fB x1 gb w1) w2) (k0_pay21 gc) (dyB x1 tg gb gc w1 w2) (VecWindow.window w2 ![0, 0] S1024x1024.size inb_S4096x1024_S1024x1024_0_0) (rl0 x1 gb w1) (ix2 p j) = MlpRow.df1 (parB ga gb gc w1 w2) (tokB x1 mx tg p) ⟨j.val, by omega⟩ := by
  have hd : ∀ d, df2B x1 tg gb gc w1 w2 (ix2 p d) = _ := df2B_at x1 mx tg ga gb gc w1 w2 p
  have hr := rl0_at x1 mx tg ga gb gc w1 w2 p j
  unfold k0_pay27
  change ∀ d, k0_pay26 (k0_pay19 (fB x1 gb w1) w2) (k0_pay20 (fB x1 gb w1) w2) (k0_pay21 gc) (dyB x1 tg gb gc w1 w2) (ix2 p d) = _ at hd
  generalize k0_pay26 (k0_pay19 (fB x1 gb w1) w2) (k0_pay20 (fB x1 gb w1) w2) (k0_pay21 gc) (dyB x1 tg gb gc w1 w2) = H at hd ⊢
  have hw := fun a b => win_at w2 0 inb_S4096x1024_S1024x1024_0_0 a b (by omega)
  generalize VecWindow.window w2 ![0, 0] S1024x1024.size inb_S4096x1024_S1024x1024_0_0 = W at hw ⊢
  generalize rl0 x1 gb w1 = R at hr ⊢
  pointwise []
  simp only [hd, hr, hw, Nat.zero_add]
  rfl

/-- Column block 1 of the first product's gradient. -/
theorem df1_1_at (j : Fin 1024) : k0_pay29 (k0_pay28 (k0_pay19 (fB x1 gb w1) w2) (k0_pay20 (fB x1 gb w1) w2) (k0_pay21 gc) (dyB x1 tg gb gc w1 w2) (VecWindow.window w2 ![1024, 0] S1024x1024.size inb_S4096x1024_S1024x1024_1024_0)) (rl1 x1 gb w1) (ix2 p j) = MlpRow.df1 (parB ga gb gc w1 w2) (tokB x1 mx tg p) ⟨1024 + j.val, by omega⟩ := by
  have hd : ∀ d, df2B x1 tg gb gc w1 w2 (ix2 p d) = _ := df2B_at x1 mx tg ga gb gc w1 w2 p
  have hr := rl1_at x1 mx tg ga gb gc w1 w2 p j
  unfold k0_pay29 k0_pay28
  change ∀ d, k0_pay26 (k0_pay19 (fB x1 gb w1) w2) (k0_pay20 (fB x1 gb w1) w2) (k0_pay21 gc) (dyB x1 tg gb gc w1 w2) (ix2 p d) = _ at hd
  generalize k0_pay26 (k0_pay19 (fB x1 gb w1) w2) (k0_pay20 (fB x1 gb w1) w2) (k0_pay21 gc) (dyB x1 tg gb gc w1 w2) = H at hd ⊢
  have hw := fun a b => win_at w2 1024 inb_S4096x1024_S1024x1024_1024_0 a b (by omega)
  generalize VecWindow.window w2 ![1024, 0] S1024x1024.size inb_S4096x1024_S1024x1024_1024_0 = W at hw ⊢
  generalize rl1 x1 gb w1 = R at hr ⊢
  pointwise []
  simp only [hd, hr, hw]
  rfl

/-- Column block 2 of the first product's gradient. -/
theorem df1_2_at (j : Fin 1024) : k0_pay30 (df2B x1 tg gb gc w1 w2) (VecWindow.window w2 ![2048, 0] S1024x1024.size inb_S4096x1024_S1024x1024_2048_0) (rl2 x1 gb w1) (ix2 p j) = MlpRow.df1 (parB ga gb gc w1 w2) (tokB x1 mx tg p) ⟨2048 + j.val, by omega⟩ := by
  have hd : ∀ d, df2B x1 tg gb gc w1 w2 (ix2 p d) = _ := df2B_at x1 mx tg ga gb gc w1 w2 p
  have hr := rl2_at x1 mx tg ga gb gc w1 w2 p j
  unfold k0_pay30
  skip
  generalize df2B x1 tg gb gc w1 w2 = H at hd ⊢
  have hw := fun a b => win_at w2 2048 inb_S4096x1024_S1024x1024_2048_0 a b (by omega)
  generalize VecWindow.window w2 ![2048, 0] S1024x1024.size inb_S4096x1024_S1024x1024_2048_0 = W at hw ⊢
  generalize rl2 x1 gb w1 = R at hr ⊢
  pointwise []
  simp only [hd, hr, hw]
  rfl

/-- Column block 3 of the first product's gradient. -/
theorem df1_3_at (j : Fin 1024) : k0_pay31 (df2B x1 tg gb gc w1 w2) (VecWindow.window w2 ![3072, 0] S1024x1024.size inb_S4096x1024_S1024x1024_3072_0) (rl3 x1 gb w1) (ix2 p j) = MlpRow.df1 (parB ga gb gc w1 w2) (tokB x1 mx tg p) ⟨3072 + j.val, by omega⟩ := by
  have hd : ∀ d, df2B x1 tg gb gc w1 w2 (ix2 p d) = _ := df2B_at x1 mx tg ga gb gc w1 w2 p
  have hr := rl3_at x1 mx tg ga gb gc w1 w2 p j
  unfold k0_pay31
  skip
  generalize df2B x1 tg gb gc w1 w2 = H at hd ⊢
  have hw := fun a b => win_at w2 3072 inb_S4096x1024_S1024x1024_3072_0 a b (by omega)
  generalize VecWindow.window w2 ![3072, 0] S1024x1024.size inb_S4096x1024_S1024x1024_3072_0 = W at hw ⊢
  generalize rl3 x1 gb w1 = R at hr ⊢
  pointwise []
  simp only [hd, hr, hw]
  rfl

theorem df1B_at (n : Fin 4096) : df1B x1 tg gb gc w1 w2 (ix2 p n) = MlpRow.df1 (parB ga gb gc w1 w2) (tokB x1 mx tg p) n :=
  cols4_ix _ _ _ _ (MlpRow.df1 (parB ga gb gc w1 w2) (tokB x1 mx tg p)) p (df1_0_at x1 mx tg ga gb gc w1 w2 p) (df1_1_at x1 mx tg ga gb gc w1 w2 p) (df1_2_at x1 mx tg ga gb gc w1 w2 p) (df1_3_at x1 mx tg ga gb gc w1 w2 p) n

theorem pay32_at (d : Fin 1024) : k0_pay32 (df1B x1 tg gb gc w1 w2) w1 (ix2 p d) = MlpRow.dh2 (parB ga gb gc w1 w2) (tokB x1 mx tg p) d := by
  have hf := df1B_at x1 mx tg ga gb gc w1 w2 p
  unfold k0_pay32
  generalize df1B x1 tg gb gc w1 w2 = H at hf ⊢
  pointwise []
  simp only [hf]
  rfl

theorem dx1B_at (d : Fin 1024) : dx1B x1 tg gb gc w1 w2 (ix2 p d) = MlpRow.dx1 (parB ga gb gc w1 w2) (tokB x1 mx tg p) d := by
  have hf := pay32_at x1 mx tg ga gb gc w1 w2 p
  have hr := pay4_at x1 mx tg p
  have hy := dyB_at x1 mx tg ga gb gc w1 w2 p
  unfold dx1B k0_pay36
  generalize k0_pay32 (df1B x1 tg gb gc w1 w2) w1 = H at hf ⊢
  generalize k0_pay4 x1 = R at hr ⊢
  generalize dyB x1 tg gb gc w1 w2 = Y at hy ⊢
  pointwise [k0_pay3, k0_pay5]
  simp only [hf, hr, hy]
  rfl

theorem pay37_at (q : Fin 1) : k0_pay37 mx (ix2 p q) = MlpRow.rs (tokB x1 mx tg p).mx := by
  pointwise [k0_pay37, MlpRow.rs, MlpRow.ms, tokB]

theorem dmixB_at (d : Fin 1024) : dmixB x1 mx tg ga gb gc w1 w2 (ix2 p d) = MlpRow.dmix (parB ga gb gc w1 w2) (tokB x1 mx tg p) d := by
  have hf := dx1B_at x1 mx tg ga gb gc w1 w2 p
  have hr := pay37_at x1 mx tg p
  unfold dmixB k0_pay1
  generalize dx1B x1 tg gb gc w1 w2 = H at hf ⊢
  generalize k0_pay37 mx = R at hr ⊢
  pointwise []
  simp only [hf, hr]
  rfl

/-! ## The carried block -/

/-- A row of the carried block. -/
theorem old_at (old : Vec Ideal S8x1024 .f32) (o : ℕ) (h : ∀ q, (![o, 0] : Fin 2 → ℕ) q + S1x1024.size q ≤ S8x1024.size q) (k : Fin 1024) (ho : o < 8) :
    VecWindow.window old ![o, 0] S1x1024.size h (ix2 0 k) = old (ix2 ⟨o, ho⟩ k) := by
  refine (congrArg old (emb_at h 0 k ho (by omega))).trans (congrArg old ?_)
  funext r; refine Fin.ext ?_
  match r with
  | 0 => rfl
  | 1 => show 0 + k.val = k.val; omega

/-- A block with row `o` replaced. -/
theorem put_at (old : Vec Ideal S8x1024 .f32) (o : ℕ) (v : Vec Ideal S1x1024 .f32) (a : Fin 8) (d : Fin 1024) :
    VecWindow.put old ![o, 0] S1x1024.size v (ix2 a d) = if a.val = o then v (ix2 0 d) else old (ix2 a d) := by
  unfold VecWindow.put
  by_cases ha : a.val = o
  · have hb : ∀ r : Fin 2, (![o, 0] : Fin 2 → ℕ) r ≤ ((ix2 a d : S8x1024.Idx) r).val ∧ ((ix2 a d : S8x1024.Idx) r).val < (![o, 0] : Fin 2 → ℕ) r + S1x1024.size r := by
      intro r
      match r with
      | 0 => exact ⟨by show o ≤ a.val; omega, by show a.val < o + 1; omega⟩
      | 1 => exact ⟨Nat.zero_le _, by show d.val < 0 + 1024; omega⟩
    rw [dif_pos hb, if_pos ha]
    refine congrArg v ?_
    funext r; refine Fin.ext ?_
    match r with
    | 0 => show a.val - o = 0; omega
    | 1 => show d.val - 0 = d.val; omega
  · rw [dif_neg (fun h => ha (by have h1 : o ≤ a.val := (h 0).1; have h2 : a.val < o + 1 := (h 0).2; omega)), if_neg ha]

variable (old : Vec Ideal S8x1024 .f32) (d : Fin 1024)

theorem row3_at (v : Vec Ideal S1x1024 .f32) : k0_pay24 (k0_pay3 x1) (fB x1 gb w1) w2 gc tg v (ix2 0 d)
    = v (ix2 0 d) + ∑ p : Fin 256, MlpRow.err (parB ga gb gc w1 w2) (tokB x1 mx tg p) d * MlpRow.err (parB ga gb gc w1 w2) (tokB x1 mx tg p) d := by
  have h := fun p => pay22_at x1 mx tg ga gb gc w1 w2 p
  unfold k0_pay24
  generalize k0_pay22 (k0_pay3 x1) (fB x1 gb w1) w2 gc tg = H at h ⊢
  pointwise []
  simp only [h]

theorem row0_at (v : Vec Ideal S1x1024 .f32) : k0_pay25 (k0_pay19 (fB x1 gb w1) w2) (k0_pay20 (fB x1 gb w1) w2) (dyB x1 tg gb gc w1 w2) v (ix2 0 d)
    = v (ix2 0 d) + ∑ p : Fin 256, MlpRow.dy (parB ga gb gc w1 w2) (tokB x1 mx tg p) d * MlpRow.f2 (parB ga gb gc w1 w2) (tokB x1 mx tg p) d * MlpRow.rs (MlpRow.f2 (parB ga gb gc w1 w2) (tokB x1 mx tg p)) := by
  have hf := fun p => pay19_at x1 mx tg ga gb gc w1 w2 p
  have hr := fun p => pay20_at x1 mx tg ga gb gc w1 w2 p
  have hy := fun p => dyB_at x1 mx tg ga gb gc w1 w2 p
  unfold k0_pay25
  generalize k0_pay19 (fB x1 gb w1) w2 = H at hf ⊢
  generalize k0_pay20 (fB x1 gb w1) w2 = R at hr ⊢
  generalize dyB x1 tg gb gc w1 w2 = Y at hy ⊢
  pointwise []
  simp only [hf, hr, hy]

theorem row1_at (v : Vec Ideal S1x1024 .f32) : k0_pay35 (k0_pay4 x1) (k0_pay33 v) (k0_pay34 (k0_pay3 x1) (df1B x1 tg gb gc w1 w2) w1) (ix2 0 d)
    = v (ix2 0 d) + ∑ p : Fin 256, MlpRow.dh2 (parB ga gb gc w1 w2) (tokB x1 mx tg p) d * (tokB x1 mx tg p).x d * MlpRow.rs (tokB x1 mx tg p).x := by
  have hf := fun p => pay32_at x1 mx tg ga gb gc w1 w2 p
  have hr := fun p => pay4_at x1 mx tg p
  unfold k0_pay35 k0_pay33 k0_pay34
  generalize k0_pay32 (df1B x1 tg gb gc w1 w2) w1 = H at hf ⊢
  generalize k0_pay4 x1 = R at hr ⊢
  pointwise [k0_pay3]
  simp only [hf, hr]
  rfl

theorem row2_at (v : Vec Ideal S1x1024 .f32) : k0_pay38 (k0_pay3 x1) (k0_pay4 x1) (k0_pay5 gb) (dyB x1 tg gb gc w1 w2) (k0_pay32 (df1B x1 tg gb gc w1 w2) w1) mx v (ix2 0 d)
    = v (ix2 0 d) + ∑ p : Fin 256, MlpRow.dx1 (parB ga gb gc w1 w2) (tokB x1 mx tg p) d * (tokB x1 mx tg p).mx d * MlpRow.rs (tokB x1 mx tg p).mx := by
  have hf : ∀ p d, dx1B x1 tg gb gc w1 w2 (ix2 p d) = _ := fun p => dx1B_at x1 mx tg ga gb gc w1 w2 p
  have hr := fun p => pay37_at x1 mx tg p
  unfold k0_pay38
  change ∀ p d, k0_pay36 (k0_pay3 x1) (k0_pay4 x1) (k0_pay5 gb) (dyB x1 tg gb gc w1 w2) (k0_pay32 (df1B x1 tg gb gc w1 w2) w1) (ix2 p d) = _ at hf
  generalize k0_pay36 (k0_pay3 x1) (k0_pay4 x1) (k0_pay5 gb) (dyB x1 tg gb gc w1 w2) (k0_pay32 (df1B x1 tg gb gc w1 w2) w1) = H at hf ⊢
  generalize k0_pay37 mx = R at hr ⊢
  pointwise []
  simp only [hf, hr]
  rfl

/-- A point's step of the carried block: every row grows by the block's terms. -/
theorem rowsB_at (a : Fin 8) : rowsB x1 mx tg gb gc w1 w2 old (ix2 a d) = old (ix2 a d) + ∑ p : Fin 256, MlpRow.term (parB ga gb gc w1 w2) (tokB x1 mx tg p) a.val d := by
  unfold rowsB MlpRow.term
  rw [put_at, put_at, put_at, put_at, row3_at x1 mx tg ga gb gc w1 w2, row0_at x1 mx tg ga gb gc w1 w2, row1_at x1 mx tg ga gb gc w1 w2, row2_at x1 mx tg ga gb gc w1 w2]
  rw [old_at old 3 _ d (by omega), old_at old 0 _ d (by omega), old_at old 1 _ d (by omega), old_at old 2 _ d (by omega)]
  by_cases h2 : a.val = 2
  · have e : a = ⟨2, by omega⟩ := Fin.ext h2
    simp only [if_pos h2]; rw [e]
  by_cases h1 : a.val = 1
  · have e : a = ⟨1, by omega⟩ := Fin.ext h1
    simp only [if_neg h2, if_pos h1]; rw [e]
  by_cases h0 : a.val = 0
  · have e : a = ⟨0, by omega⟩ := Fin.ext h0
    simp only [if_neg h2, if_neg h1, if_pos h0]; rw [e]
  by_cases h3 : a.val = 3
  · have e : a = ⟨3, by omega⟩ := Fin.ext h3
    simp only [if_neg h2, if_neg h1, if_neg h0, if_pos h3]; rw [e]
  · simp only [if_neg h2, if_neg h1, if_neg h0, if_neg h3, Finset.sum_const_zero, add_zero]

end Cert.Mlp.Hand

end
-- ==== Proof.Mlp.Host.lean ====
module

public import proofs.«01_k».proof.Proof.Mlp.Blocks
public import proofs.«01_k».proof.Proof.Mlp.Body
public import Idealize.ShloMosaic.Lib.StableHlo.ReadAt
public import Idealize.ShloMosaic.Lib.Pipeline.ValueKit

@[expose] public section

set_option maxRecDepth 16384

noncomputable section

/-! What the windows and the assembled weights hold, in terms of the program's arguments. -/

namespace Cert.Mlp.Hand

open Cert.MlpIdeal Cert.MlpIdeal.Gen
open Idealize.ShloMosaic TcCoe Tactic
open Idealize.SL Idealize.SL.Sem

variable (m : (ℓ : Loc nD τ sig) → Buf (Elt Ideal) ℓ) (c : Dev nD)

/-- The eight arguments. -/
abbrev aX : Vec Ideal S8192x1024 .f32 := m (c.tc.loc main_arg0)
abbrev aMx : Vec Ideal S8192x1024 .f32 := m (c.tc.loc main_arg1)
abbrev aGa : Vec Ideal S1024 .f32 := m (c.tc.loc main_arg2)
abbrev aGb : Vec Ideal S1024 .f32 := m (c.tc.loc main_arg3)
abbrev aW1 : Vec Ideal S1024x4096 .f32 := m (c.tc.loc main_arg4)
abbrev aW2 : Vec Ideal S4096x1024 .f32 := m (c.tc.loc main_arg5)
abbrev aGc : Vec Ideal S1024 .f32 := m (c.tc.loc main_arg6)
abbrev aTg : Vec Ideal S8192x1024 .f32 := m (c.tc.loc main_arg7)

end Cert.Mlp.Hand

namespace Cert.MlpRow

open Idealize.ShloMosaic

/-- Token `s`'s rows, read off the arguments: the block's input is the stream plus the normalised mixer's output. -/
def tokA (x mx : Vec Ideal ⟨2, ![8192, 1024]⟩ .f32) (ga : Vec Ideal ⟨1, ![1024]⟩ .f32) (tg : Vec Ideal ⟨2, ![8192, 1024]⟩ .f32) (s : Fin 8192) : Tok :=
  ⟨fun d => x (ix2 s d) + mx (ix2 s d) * rs (fun k => mx (ix2 s k)) * ga (ix1 d), fun k => mx (ix2 s k), fun k => tg (ix2 s k)⟩
/-- The gains and the weights, read off the arguments. -/
def parA (ga gb : Vec Ideal ⟨1, ![1024]⟩ .f32) (w1 : Vec Ideal ⟨2, ![1024, 4096]⟩ .f32) (w2 : Vec Ideal ⟨2, ![4096, 1024]⟩ .f32) (gc : Vec Ideal ⟨1, ![1024]⟩ .f32) : Par :=
  ⟨fun k => ga (ix1 k), fun k => gb (ix1 k), fun k => gc (ix1 k), fun n d => w1 (ix2 d n), fun n d => w2 (ix2 n d)⟩

end Cert.MlpRow

namespace Cert.Mlp.Hand

open Cert.MlpIdeal Cert.MlpIdeal.Gen
open Idealize.ShloMosaic TcCoe Tactic
open Idealize.SL Idealize.SL.Sem

variable (m : (ℓ : Loc nD τ sig) → Buf (Elt Ideal) ℓ) (c : Dev nD)

/-- The memory's token and its gains and weights. -/
abbrev tok (s : Fin 8192) : MlpRow.Tok := MlpRow.tokA (aX m c) (aMx m c) (aGa m c) (aTg m c) s
abbrev par : MlpRow.Par := MlpRow.parA (aGa m c) (aGb m c) (aW1 m c) (aW2 m c) (aGc m c)

/-- The block's input as the host prepares it. -/
theorem x1_at (s : Fin 8192) (d : Fin 1024) : V m c main_v19 (ix2 s d) = (tok m c s).x d := by
  unfold V
  after_reads_at
  pointwise [MlpRow.tokA, MlpRow.rs, MlpRow.ms]

theorem ga_at (d : Fin 1024) : V m c main_v20 (ix2 0 d) = aGa m c (ix1 d) := by
  unfold V
  after_reads_at
theorem gb_at (d : Fin 1024) : V m c main_v21 (ix2 0 d) = aGb m c (ix1 d) := by
  unfold V
  after_reads_at
theorem gc_at (d : Fin 1024) : V m c main_v22 (ix2 0 d) = aGc m c (ix1 d) := by
  unfold V
  after_reads_at

/-- A slab's first 512 rows are the first weight's columns, the other 512 the second weight's rows. -/
theorem slab_lo (a : Fin 8) (r : Fin 512) (d : Fin 1024) : V m c main_v5 (ix3 a ⟨r.val, by omega⟩ d) = aW1 m c (ix2 d ⟨a.val * 512 + r.val, by omega⟩) := by
  unfold V
  after_reads_at
theorem slab_hi (a : Fin 8) (r : Fin 512) (d : Fin 1024) : V m c main_v5 (ix3 a ⟨512 + r.val, by omega⟩ d) = aW2 m c (ix2 ⟨a.val * 512 + r.val, by omega⟩ d) := by
  unfold V
  after_reads_at

/-- The first assembled weight is the first weight, transposed. -/
theorem wt1_at (n : Fin 4096) (d : Fin 1024) : wt1 m c (ix2 n d) = aW1 m c (ix2 d n) := by
  show V m c main_v5 (slabIdx 0 (ix2 n d)) = _
  have e : slabIdx 0 (ix2 n d) = ix3 ⟨n.val / 512, by omega⟩ ⟨n.val % 512, by omega⟩ d := by
    funext r; refine Fin.ext ?_
    match r with
    | 0 => rfl
    | 1 => exact Nat.zero_add _
    | 2 => rfl
  rw [e]
  refine (slab_lo m c ⟨n.val / 512, by omega⟩ ⟨n.val % 512, by omega⟩ d).trans (congrArg (fun q => aW1 m c (ix2 d q)) (Fin.ext ?_))
  show n.val / 512 * 512 + n.val % 512 = n.val
  omega
/-- The second assembled weight is the second weight. -/
theorem wt2_at (n : Fin 4096) (d : Fin 1024) : wt2 m c (ix2 n d) = aW2 m c (ix2 n d) := by
  show V m c main_v5 (slabIdx 512 (ix2 n d)) = _
  have e : slabIdx 512 (ix2 n d) = ix3 ⟨n.val / 512, by omega⟩ ⟨512 + n.val % 512, by omega⟩ d := by
    funext r; refine Fin.ext ?_
    match r with
    | 0 => rfl
    | 1 => rfl
    | 2 => rfl
  rw [e]
  refine (slab_hi m c ⟨n.val / 512, by omega⟩ ⟨n.val % 512, by omega⟩ d).trans (congrArg (fun q => aW2 m c (ix2 q d)) (Fin.ext ?_))
  show n.val / 512 * 512 + n.val % 512 = n.val
  omega

/-- The row of the arrays that row `p` of point `t`'s block is. -/
abbrev row (t : Fin cfg0.N) (p : Fin 256) : Fin 8192 := ⟨t.val * 256 + p.val, by have h : t.val < 32 := t.isLt; omega⟩

theorem e0 : ∀ t : Fin cfg0.N, win0_0.index t = ![t.val, 0] := by decide +kernel
theorem e1 : ∀ t : Fin cfg0.N, win0_1.index t = ![t.val, 0] := by decide +kernel
theorem e2 : ∀ t : Fin cfg0.N, win0_2.index t = ![t.val, 0] := by decide +kernel
theorem e3 : ∀ t : Fin cfg0.N, win0_3.index t = ![0, 0] := by decide +kernel
theorem e4 : ∀ t : Fin cfg0.N, win0_4.index t = ![0, 0] := by decide +kernel
theorem e5 : ∀ t : Fin cfg0.N, win0_5.index t = ![0, 0] := by decide +kernel
theorem e6 : ∀ t : Fin cfg0.N, win0_6.index t = ![t.val, 0] := by decide +kernel
theorem e7 : ∀ t : Fin cfg0.N, win0_7.index t = ![t.val, 0] := by decide +kernel
theorem e8 : ∀ t : Fin cfg0.N, win0_8.index t = ![t.val, 0] := by decide +kernel
theorem e9 : ∀ t : Fin cfg0.N, win0_9.index t = ![t.val, 0] := by decide +kernel
theorem e10 : ∀ t : Fin cfg0.N, win0_10.index t = ![t.val, 0] := by decide +kernel
theorem e11 : ∀ t : Fin cfg0.N, win0_11.index t = ![t.val, 0] := by decide +kernel
theorem emb6 (t : Fin cfg0.N) (p : Fin 256) (d : Fin 4096) : (win0_6.blk t).view.emb (ix2 p d) = (ix2 (row t p) d : S8192x4096.Idx) := by blk_ext [e6]
theorem emb7 (t : Fin cfg0.N) (p : Fin 256) (d : Fin 4096) : (win0_7.blk t).view.emb (ix2 p d) = (ix2 (row t p) d : S8192x4096.Idx) := by blk_ext [e7]
theorem emb8 (t : Fin cfg0.N) (p : Fin 256) (d : Fin 1024) : (win0_8.blk t).view.emb (ix2 p d) = (ix2 (row t p) d : S8192x1024.Idx) := by blk_ext [e8]
theorem emb9 (t : Fin cfg0.N) (p : Fin 256) (d : Fin 1024) : (win0_9.blk t).view.emb (ix2 p d) = (ix2 (row t p) d : S8192x1024.Idx) := by blk_ext [e9]
theorem emb10 (t : Fin cfg0.N) (p : Fin 256) (d : Fin 1024) : (win0_10.blk t).view.emb (ix2 p d) = (ix2 (row t p) d : S8192x1024.Idx) := by blk_ext [e10]
theorem emb11 (t : Fin cfg0.N) (p : Fin 256) (d : Fin 1024) : (win0_11.blk t).view.emb (ix2 p d) = (ix2 (row t p) d : S8192x1024.Idx) := by blk_ext [e11]

theorem b0_at (t : Fin cfg0.N) (p : Fin 256) (k : Fin 1024) : iblk m c 0 t (ix2 p k) = (tok m c (row t p)).x k := by
  refine Eq.trans ?_ (x1_at m c (row t p) k)
  blk_simp [iblk]
  refine congrArg _ ?_
  blk_ext [e0]
theorem b1_at (t : Fin cfg0.N) (p : Fin 256) (k : Fin 1024) : iblk m c 1 t (ix2 p k) = aMx m c (ix2 (row t p) k) := by
  blk_simp [iblk]
  rw [V_main_arg1]
  refine congrArg _ ?_
  blk_ext [e1]
theorem b2_at (t : Fin cfg0.N) (p : Fin 256) (k : Fin 1024) : iblk m c 2 t (ix2 p k) = aTg m c (ix2 (row t p) k) := by
  blk_simp [iblk]
  rw [V_main_arg7]
  refine congrArg _ ?_
  blk_ext [e2]
theorem b3_at (t : Fin cfg0.N) (k : Fin 1024) : iblk m c 3 t (ix2 0 k) = aGa m c (ix1 k) := by
  refine Eq.trans ?_ (ga_at m c k)
  blk_simp [iblk]
  refine congrArg _ ?_
  blk_ext [e3]
theorem b4_at (t : Fin cfg0.N) (k : Fin 1024) : iblk m c 4 t (ix2 0 k) = aGb m c (ix1 k) := by
  refine Eq.trans ?_ (gb_at m c k)
  blk_simp [iblk]
  refine congrArg _ ?_
  blk_ext [e4]
theorem b5_at (t : Fin cfg0.N) (k : Fin 1024) : iblk m c 5 t (ix2 0 k) = aGc m c (ix1 k) := by
  refine Eq.trans ?_ (gc_at m c k)
  blk_simp [iblk]
  refine congrArg _ ?_
  blk_ext [e5]

/-- A point's token is the memory's. -/
theorem tok_eq (t : Fin cfg0.N) (p : Fin 256) : tokB (iblk m c 0 t) (iblk m c 1 t) (iblk m c 2 t) p = tok m c (row t p) := by
  unfold tokB
  simp only [b0_at, b1_at, b2_at]
  rfl
/-- A point's gains and weights are the memory's. -/
theorem par_eq (t : Fin cfg0.N) : parB (iblk m c 3 t) (iblk m c 4 t) (iblk m c 5 t) (wt1 m c) (wt2 m c) = par m c := by
  unfold parB
  simp only [b3_at, b4_at, b5_at, wt1_at, wt2_at]
  rfl

end Cert.Mlp.Hand

end
-- ==== Proof.Mlp.RefAt.lean ====
module

public import proofs.«01_k».proof.Proof.Mlp.Host
public import proofs.«01_k».proof.Proof.Gen.RefMlpIdeal.Read

@[expose] public section

set_option maxRecDepth 16384

noncomputable section

/-! The reference's values, entry by entry: every one is the chain rule's at its token. -/

namespace Cert.RefMlpAt

open Cert.RefMlpIdeal.Read
open Cert.RefMlpIdeal
open Idealize.ShloMosaic TcCoe Tactic

variable (x0 x1 : Vec Ideal S8192x1024 .f32) (x2 x3 : Vec Ideal S1024 .f32) (x4 : Vec Ideal S1024x4096 .f32) (x5 : Vec Ideal S4096x1024 .f32) (x6 : Vec Ideal S1024 .f32) (x7 : Vec Ideal S8192x1024 .f32)

theorem v6 (s : Fin 8192) : (val_main_v6 (F := Ideal) x1) (ix2 s 0) = MlpRow.ms (MlpRow.tokA x0 x1 x2 x7 s).mx := by
  pointwise [val_main_v0, val_main_v1, val_main_v2, val_main_v3, val_main_v4, val_main_v5, val_main_v6, val_main_cst, val_main_cst_0, val_main_cst_1]
  all_goals rfl

theorem v7 (s : Fin 8192) : (val_main_v7 (F := Ideal) x1) (ix2 s 0) = MlpRow.rs (MlpRow.tokA x0 x1 x2 x7 s).mx := by
  have h6 := v6 x0 x1 x2 x7
  pointwise [val_main_v7]
  simp only [h6]
  all_goals rfl

theorem v12 (s : Fin 8192) (d : Fin 1024) : (val_main_v12 (F := Ideal) x1) (ix2 s d) = (MlpRow.tokA x0 x1 x2 x7 s).mx d * MlpRow.rs (MlpRow.tokA x0 x1 x2 x7 s).mx := by
  have h7 := v7 x0 x1 x2 x7
  pointwise [val_main_v11, val_main_v12]
  simp only [h7]
  all_goals rfl

theorem v16 (s : Fin 8192) (d : Fin 1024) : (val_main_v16 (F := Ideal) x0 x1 x2) (ix2 s d) = (MlpRow.tokA x0 x1 x2 x7 s).x d := by
  have h12 := v12 x0 x1 x2 x7
  pointwise [val_main_v13, val_main_v14, val_main_v15, val_main_v16]
  simp only [h12]
  all_goals rfl

theorem v23 (s : Fin 8192) : (val_main_v23 (F := Ideal) x0 x1 x2) (ix2 s 0) = MlpRow.ms (MlpRow.tokA x0 x1 x2 x7 s).x := by
  have h16 := v16 x0 x1 x2 x7
  pointwise [val_main_v17, val_main_v18, val_main_v19, val_main_v20, val_main_v21, val_main_v22, val_main_v23, val_main_cst_3, val_main_cst_4, val_main_cst_5]
  simp only [h16]
  all_goals rfl

theorem v24 (s : Fin 8192) : (val_main_v24 (F := Ideal) x0 x1 x2) (ix2 s 0) = MlpRow.rs (MlpRow.tokA x0 x1 x2 x7 s).x := by
  have h23 := v23 x0 x1 x2 x7
  pointwise [val_main_v24]
  simp only [h23]
  all_goals rfl

theorem v29 (s : Fin 8192) (d : Fin 1024) : (val_main_v29 (F := Ideal) x0 x1 x2) (ix2 s d) = (MlpRow.tokA x0 x1 x2 x7 s).x d * MlpRow.rs (MlpRow.tokA x0 x1 x2 x7 s).x := by
  have h16 := v16 x0 x1 x2 x7
  have h24 := v24 x0 x1 x2 x7
  pointwise [val_main_v28, val_main_v29]
  simp only [h16, h24]
  all_goals rfl

theorem v32 (s : Fin 8192) (d : Fin 1024) : (val_main_v32 (F := Ideal) x0 x1 x2 x3) (ix2 s d) = MlpRow.h2 (MlpRow.parA x2 x3 x4 x5 x6) (MlpRow.tokA x0 x1 x2 x7 s) d := by
  have h29 := v29 x0 x1 x2 x7
  pointwise [val_main_v30, val_main_v31, val_main_v32]
  simp only [h29]
  all_goals rfl

theorem v33 (s : Fin 8192) (n : Fin 4096) : (val_main_v33 (F := Ideal) x0 x1 x2 x3 x4) (ix2 s n) = MlpRow.t (MlpRow.parA x2 x3 x4 x5 x6) (MlpRow.tokA x0 x1 x2 x7 s) n := by
  have h32 := v32 x0 x1 x2 x3 x4 x5 x6 x7
  pointwise [val_main_v33]
  simp only [h32]
  all_goals rfl

theorem v34 (s : Fin 8192) (n : Fin 4096) : (val_main_v34 (F := Ideal) x0 x1 x2 x3 x4) (ix2 s n) = MlpRow.rl (MlpRow.parA x2 x3 x4 x5 x6) (MlpRow.tokA x0 x1 x2 x7 s) n := by
  have h33 := v33 x0 x1 x2 x3 x4 x5 x6 x7
  pointwise [val_main_v34, val_main_call0_v0, val_main_call0_cst]
  simp only [h33]
  all_goals rfl

theorem v38 (s : Fin 8192) (n : Fin 4096) : (val_main_v38 (F := Ideal) x0 x1 x2 x3 x4) (ix2 s n) = MlpRow.f (MlpRow.parA x2 x3 x4 x5 x6) (MlpRow.tokA x0 x1 x2 x7 s) n := by
  have h34 := v34 x0 x1 x2 x3 x4 x5 x6 x7
  pointwise [val_main_v38]
  simp only [h34]
  all_goals rfl

theorem v41 (s : Fin 8192) (d : Fin 1024) : (val_main_v41 (F := Ideal) x0 x1 x2 x3 x4 x5) (ix2 s d) = MlpRow.f2 (MlpRow.parA x2 x3 x4 x5 x6) (MlpRow.tokA x0 x1 x2 x7 s) d := by
  have h38 := v38 x0 x1 x2 x3 x4 x5 x6 x7
  pointwise [val_main_v41]
  simp only [h38]
  all_goals rfl

theorem v48 (s : Fin 8192) : (val_main_v48 (F := Ideal) x0 x1 x2 x3 x4 x5) (ix2 s 0) = MlpRow.ms (MlpRow.f2 (MlpRow.parA x2 x3 x4 x5 x6) (MlpRow.tokA x0 x1 x2 x7 s)) := by
  have h41 := v41 x0 x1 x2 x3 x4 x5 x6 x7
  pointwise [val_main_v42, val_main_v43, val_main_v44, val_main_v45, val_main_v46, val_main_v47, val_main_v48, val_main_cst_10, val_main_cst_11, val_main_cst_12]
  simp only [h41]
  all_goals rfl

theorem v49 (s : Fin 8192) : (val_main_v49 (F := Ideal) x0 x1 x2 x3 x4 x5) (ix2 s 0) = MlpRow.rs (MlpRow.f2 (MlpRow.parA x2 x3 x4 x5 x6) (MlpRow.tokA x0 x1 x2 x7 s)) := by
  have h48 := v48 x0 x1 x2 x3 x4 x5 x6 x7
  pointwise [val_main_v49]
  simp only [h48]
  all_goals rfl

theorem v54 (s : Fin 8192) (d : Fin 1024) : (val_main_v54 (F := Ideal) x0 x1 x2 x3 x4 x5) (ix2 s d) = MlpRow.f2 (MlpRow.parA x2 x3 x4 x5 x6) (MlpRow.tokA x0 x1 x2 x7 s) d * MlpRow.rs (MlpRow.f2 (MlpRow.parA x2 x3 x4 x5 x6) (MlpRow.tokA x0 x1 x2 x7 s)) := by
  have h41 := v41 x0 x1 x2 x3 x4 x5 x6 x7
  have h49 := v49 x0 x1 x2 x3 x4 x5 x6 x7
  pointwise [val_main_v53, val_main_v54]
  simp only [h41, h49]
  all_goals rfl

theorem v59 (s : Fin 8192) (d : Fin 1024) : (val_main_v59 (F := Ideal) x0 x1 x2 x3 x4 x5 x6 x7) (ix2 s d) = MlpRow.err (MlpRow.parA x2 x3 x4 x5 x6) (MlpRow.tokA x0 x1 x2 x7 s) d := by
  have h16 := v16 x0 x1 x2 x7
  have h54 := v54 x0 x1 x2 x3 x4 x5 x6 x7
  pointwise [val_main_v55, val_main_v56, val_main_v57, val_main_v58, val_main_v59]
  simp only [h16, h54]
  all_goals rfl

theorem v73 (s : Fin 8192) (d : Fin 1024) : (val_main_v73 (F := Ideal) x0 x1 x2 x3 x4 x5 x6 x7) (ix2 s d) = MlpRow.dyC (MlpRow.parA x2 x3 x4 x5 x6) (MlpRow.tokA x0 x1 x2 x7 s) d := by
  have h59 := v59 x0 x1 x2 x3 x4 x5 x6 x7
  pointwise [val_main_v61, val_main_v62, val_main_v68, val_main_v69, val_main_v70, val_main_v71, val_main_v72, val_main_v73, val_main_cst_14, val_main_cst_19, val_main_cst_20, val_main_cst_21]
  simp only [h59]
  unfold MlpRow.dyC
  rw [MlpRow.one_real, EReal.coe_one, mul_one]

theorem v78 (s : Fin 8192) (d : Fin 1024) : (val_main_v78 (F := Ideal) x0 x1 x2 x3 x4 x5 x6 x7) (ix2 s d) = MlpRow.dyC (MlpRow.parA x2 x3 x4 x5 x6) (MlpRow.tokA x0 x1 x2 x7 s) d * (MlpRow.parA x2 x3 x4 x5 x6).gc d := by
  have h73 := v73 x0 x1 x2 x3 x4 x5 x6 x7
  pointwise [val_main_v55, val_main_v77, val_main_v78]
  simp only [h73]
  all_goals rfl

theorem v88 (s : Fin 8192) : (val_main_v88 (F := Ideal) x0 x1 x2 x3 x4 x5 x6 x7) (ix1 s) = MlpRow.share (MlpRow.parA x2 x3 x4 x5 x6).gc (MlpRow.f2 (MlpRow.parA x2 x3 x4 x5 x6) (MlpRow.tokA x0 x1 x2 x7 s)) (MlpRow.dyC (MlpRow.parA x2 x3 x4 x5 x6) (MlpRow.tokA x0 x1 x2 x7 s)) := by
  have h41 := v41 x0 x1 x2 x3 x4 x5 x6 x7
  have h48 := v48 x0 x1 x2 x3 x4 x5 x6 x7
  have h49 := v49 x0 x1 x2 x3 x4 x5 x6 x7
  have h78 := v78 x0 x1 x2 x3 x4 x5 x6 x7
  pointwise [val_main_v50, val_main_v51, val_main_v52, val_main_v80, val_main_v81, val_main_v82, val_main_v85, val_main_v86, val_main_v87, val_main_v88, val_main_cst_13, val_main_cst_24, val_main_cst_25, val_main_cst_26]
  simp only [Finset.univ_unique, Finset.sum_singleton, Fin.default_eq_zero]
  simp only [h41, h48, h49, h78]
  all_goals rfl

theorem v93 (s : Fin 8192) (d : Fin 1024) : (val_main_v93 (F := Ideal) x0 x1 x2 x3 x4 x5 x6 x7) (ix2 s d) = MlpRow.df2C (MlpRow.parA x2 x3 x4 x5 x6) (MlpRow.tokA x0 x1 x2 x7 s) d := by
  have h41 := v41 x0 x1 x2 x3 x4 x5 x6 x7
  have h49 := v49 x0 x1 x2 x3 x4 x5 x6 x7
  have h78 := v78 x0 x1 x2 x3 x4 x5 x6 x7
  have h88 := v88 x0 x1 x2 x3 x4 x5 x6 x7
  pointwise [val_main_v83, val_main_v84, val_main_v89, val_main_v90, val_main_v91, val_main_v92, val_main_v93]
  simp only [h41, h49, h78, h88]
  all_goals rfl

theorem v99 (s : Fin 8192) (n : Fin 4096) : (val_main_v99 (F := Ideal) x0 x1 x2 x3 x4 x5 x6 x7) (ix2 s n) = MlpRow.df1C (MlpRow.parA x2 x3 x4 x5 x6) (MlpRow.tokA x0 x1 x2 x7 s) n := by
  have h33 := v33 x0 x1 x2 x3 x4 x5 x6 x7
  have h34 := v34 x0 x1 x2 x3 x4 x5 x6 x7
  have h93 := v93 x0 x1 x2 x3 x4 x5 x6 x7
  pointwise [val_main_v35, val_main_v36, val_main_v39, val_main_v40, val_main_v96, val_main_v97, val_main_v98, val_main_v99, val_main_cst_7, val_main_cst_9, val_main_cst_27]
  simp only [h33, h34, h93]
  all_goals rfl

theorem v102 (s : Fin 8192) (d : Fin 1024) : (val_main_v102 (F := Ideal) x0 x1 x2 x3 x4 x5 x6 x7) (ix2 s d) = MlpRow.dh2C (MlpRow.parA x2 x3 x4 x5 x6) (MlpRow.tokA x0 x1 x2 x7 s) d := by
  have h99 := v99 x0 x1 x2 x3 x4 x5 x6 x7
  pointwise [val_main_v102]
  simp only [h99]
  all_goals rfl

theorem v107 (s : Fin 8192) (d : Fin 1024) : (val_main_v107 (F := Ideal) x0 x1 x2 x3 x4 x5 x6 x7) (ix2 s d) = MlpRow.dh2C (MlpRow.parA x2 x3 x4 x5 x6) (MlpRow.tokA x0 x1 x2 x7 s) d * (MlpRow.parA x2 x3 x4 x5 x6).gb d := by
  have h102 := v102 x0 x1 x2 x3 x4 x5 x6 x7
  pointwise [val_main_v30, val_main_v106, val_main_v107]
  simp only [h102]
  all_goals rfl

theorem v117 (s : Fin 8192) : (val_main_v117 (F := Ideal) x0 x1 x2 x3 x4 x5 x6 x7) (ix1 s) = MlpRow.share (MlpRow.parA x2 x3 x4 x5 x6).gb (MlpRow.tokA x0 x1 x2 x7 s).x (MlpRow.dh2C (MlpRow.parA x2 x3 x4 x5 x6) (MlpRow.tokA x0 x1 x2 x7 s)) := by
  have h16 := v16 x0 x1 x2 x7
  have h23 := v23 x0 x1 x2 x7
  have h24 := v24 x0 x1 x2 x7
  have h107 := v107 x0 x1 x2 x3 x4 x5 x6 x7
  pointwise [val_main_v25, val_main_v26, val_main_v27, val_main_v109, val_main_v110, val_main_v111, val_main_v114, val_main_v115, val_main_v116, val_main_v117, val_main_cst_6, val_main_cst_30, val_main_cst_31, val_main_cst_32]
  simp only [Finset.univ_unique, Finset.sum_singleton, Fin.default_eq_zero]
  simp only [h16, h23, h24, h107]
  all_goals rfl

theorem v123 (s : Fin 8192) (d : Fin 1024) : (val_main_v123 (F := Ideal) x0 x1 x2 x3 x4 x5 x6 x7) (ix2 s d) = MlpRow.dx1C (MlpRow.parA x2 x3 x4 x5 x6) (MlpRow.tokA x0 x1 x2 x7 s) d := by
  have h16 := v16 x0 x1 x2 x7
  have h24 := v24 x0 x1 x2 x7
  have h73 := v73 x0 x1 x2 x3 x4 x5 x6 x7
  have h107 := v107 x0 x1 x2 x3 x4 x5 x6 x7
  have h117 := v117 x0 x1 x2 x3 x4 x5 x6 x7
  pointwise [val_main_v112, val_main_v113, val_main_v118, val_main_v119, val_main_v120, val_main_v121, val_main_v122, val_main_v123]
  simp only [h16, h24, h73, h107, h117]
  all_goals rfl

theorem v128 (s : Fin 8192) (d : Fin 1024) : (val_main_v128 (F := Ideal) x0 x1 x2 x3 x4 x5 x6 x7) (ix2 s d) = MlpRow.dx1C (MlpRow.parA x2 x3 x4 x5 x6) (MlpRow.tokA x0 x1 x2 x7 s) d * (MlpRow.parA x2 x3 x4 x5 x6).ga d := by
  have h123 := v123 x0 x1 x2 x3 x4 x5 x6 x7
  pointwise [val_main_v13, val_main_v127, val_main_v128]
  simp only [h123]
  all_goals rfl

theorem v138 (s : Fin 8192) : (val_main_v138 (F := Ideal) x0 x1 x2 x3 x4 x5 x6 x7) (ix1 s) = MlpRow.share (MlpRow.parA x2 x3 x4 x5 x6).ga (MlpRow.tokA x0 x1 x2 x7 s).mx (MlpRow.dx1C (MlpRow.parA x2 x3 x4 x5 x6) (MlpRow.tokA x0 x1 x2 x7 s)) := by
  have h6 := v6 x0 x1 x2 x7
  have h7 := v7 x0 x1 x2 x7
  have h128 := v128 x0 x1 x2 x3 x4 x5 x6 x7
  pointwise [val_main_v8, val_main_v9, val_main_v10, val_main_v130, val_main_v131, val_main_v132, val_main_v135, val_main_v136, val_main_v137, val_main_v138, val_main_cst_2, val_main_cst_35, val_main_cst_36, val_main_cst_37]
  simp only [Finset.univ_unique, Finset.sum_singleton, Fin.default_eq_zero]
  simp only [h6, h7, h128]
  all_goals rfl

theorem v143 (s : Fin 8192) (d : Fin 1024) : (val_main_v143 (F := Ideal) x0 x1 x2 x3 x4 x5 x6 x7) (ix2 s d) = MlpRow.dmixC (MlpRow.parA x2 x3 x4 x5 x6) (MlpRow.tokA x0 x1 x2 x7 s) d := by
  have h7 := v7 x0 x1 x2 x7
  have h128 := v128 x0 x1 x2 x3 x4 x5 x6 x7
  have h138 := v138 x0 x1 x2 x3 x4 x5 x6 x7
  pointwise [val_main_v133, val_main_v134, val_main_v139, val_main_v140, val_main_v141, val_main_v142, val_main_v143]
  simp only [h7, h128, h138]
  all_goals rfl

/-! ## The sums over the tokens -/

theorem v79 (d : Fin 1024) : (val_main_v79 (F := Ideal) x0 x1 x2 x3 x4 x5 x6 x7) (ix1 d) = ∑ s : Fin 8192, MlpRow.termC (MlpRow.parA x2 x3 x4 x5 x6) (MlpRow.tokA x0 x1 x2 x7 s) 0 d := by
  have h54 := v54 x0 x1 x2 x3 x4 x5 x6 x7
  have h73 := v73 x0 x1 x2 x3 x4 x5 x6 x7
  pointwise [val_main_v74, val_main_v75, val_main_v76, val_main_v79, val_main_cst_22, val_main_cst_23]
  simp only [Finset.univ_unique, Finset.sum_singleton, Fin.default_eq_zero]
  simp only [h54, h73]
  all_goals rfl

theorem v108 (d : Fin 1024) : (val_main_v108 (F := Ideal) x0 x1 x2 x3 x4 x5 x6 x7) (ix1 d) = ∑ s : Fin 8192, MlpRow.termC (MlpRow.parA x2 x3 x4 x5 x6) (MlpRow.tokA x0 x1 x2 x7 s) 1 d := by
  have h29 := v29 x0 x1 x2 x7
  have h102 := v102 x0 x1 x2 x3 x4 x5 x6 x7
  pointwise [val_main_v103, val_main_v104, val_main_v105, val_main_v108, val_main_cst_28, val_main_cst_29]
  simp only [Finset.univ_unique, Finset.sum_singleton, Fin.default_eq_zero]
  simp only [h29, h102]
  all_goals rfl

theorem v129 (d : Fin 1024) : (val_main_v129 (F := Ideal) x0 x1 x2 x3 x4 x5 x6 x7) (ix1 d) = ∑ s : Fin 8192, MlpRow.termC (MlpRow.parA x2 x3 x4 x5 x6) (MlpRow.tokA x0 x1 x2 x7 s) 2 d := by
  have h12 := v12 x0 x1 x2 x7
  have h123 := v123 x0 x1 x2 x3 x4 x5 x6 x7
  pointwise [val_main_v124, val_main_v125, val_main_v126, val_main_v129, val_main_cst_33, val_main_cst_34]
  simp only [Finset.univ_unique, Finset.sum_singleton, Fin.default_eq_zero]
  simp only [h12, h123]
  all_goals rfl

theorem v151 (s : Fin 8192) : (val_main_v151 (F := Ideal) x0 x1 x2 x3 x4 x5) (ix2 s 0) = MlpRow.rs (MlpRow.f2 (MlpRow.parA x2 x3 x4 x5 x6) (MlpRow.tokA x0 x1 x2 x7 s)) := by
  have h41 := v41 x0 x1 x2 x3 x4 x5 x6 x7
  pointwise [val_main_v144, val_main_v145, val_main_v146, val_main_v147, val_main_v148, val_main_v149, val_main_v150, val_main_v151, val_main_cst_38, val_main_cst_39, val_main_cst_40]
  simp only [h41]
  all_goals rfl

theorem v159 (s : Fin 8192) (d : Fin 1024) : (val_main_v159 (F := Ideal) x0 x1 x2 x3 x4 x5 x6 x7) (ix2 s d) = MlpRow.err (MlpRow.parA x2 x3 x4 x5 x6) (MlpRow.tokA x0 x1 x2 x7 s) d := by
  have h16 := v16 x0 x1 x2 x7
  have h41 := v41 x0 x1 x2 x3 x4 x5 x6 x7
  have h151 := v151 x0 x1 x2 x3 x4 x5 x6 x7
  pointwise [val_main_v152, val_main_v153, val_main_v154, val_main_v155, val_main_v156, val_main_v157, val_main_v159]
  simp only [h16, h41, h151]
  all_goals rfl

theorem v161 (d : Fin 1024) : (val_main_v161 (F := Ideal) x0 x1 x2 x3 x4 x5 x6 x7) (ix1 d) = ∑ s : Fin 8192, MlpRow.termC (MlpRow.parA x2 x3 x4 x5 x6) (MlpRow.tokA x0 x1 x2 x7 s) 3 d := by
  have h159 := v159 x0 x1 x2 x3 x4 x5 x6 x7
  pointwise [val_main_v160, val_main_v161, val_main_cst_42]
  simp only [h159]
  all_goals rfl

/-- The eight rows of sums. -/
theorem v170 (a : Fin 8) (d : Fin 1024) : (val_main_v170 (F := Ideal) x0 x1 x2 x3 x4 x5 x6 x7) (ix2 a d) = ∑ s : Fin 8192, MlpRow.termC (MlpRow.parA x2 x3 x4 x5 x6) (MlpRow.tokA x0 x1 x2 x7 s) a.val d := by
  have h0 := v79 x0 x1 x2 x3 x4 x5 x6 x7 d
  have h1 := v108 x0 x1 x2 x3 x4 x5 x6 x7 d
  have h2 := v129 x0 x1 x2 x3 x4 x5 x6 x7 d
  have h3 := v161 x0 x1 x2 x3 x4 x5 x6 x7 d
  have hz : ∀ b : ℕ, 4 ≤ b → ∑ s : Fin 8192, MlpRow.termC (MlpRow.parA x2 x3 x4 x5 x6) (MlpRow.tokA x0 x1 x2 x7 s) b d = 0 := fun b hb => Finset.sum_eq_zero fun s _ => by
    unfold MlpRow.termC
    rw [if_neg (by omega), if_neg (by omega), if_neg (by omega), if_neg (by omega)]
  pointwise [val_main_v158, val_main_v162, val_main_v163, val_main_v164, val_main_v165, val_main_v166, val_main_v167, val_main_v168, val_main_v169, val_main_v170, val_main_cst_41]
  simp only [h0, h1, h2, h3, dite_eq_ite, ite_self]
  split
  · rw [show a.val = 0 by omega]
  split
  · rw [show a.val = 1 by omega]
  split
  · rw [show a.val = 2 by omega]
  split
  · rw [show a.val = 3 by omega]
  exact (hz _ (by omega)).symm

theorem v172 (s : Fin 8192) (n : Fin 4096) : (val_main_v172 (F := Ideal) x0 x1 x2 x3 x4) (ix2 s n) = MlpRow.f (MlpRow.parA x2 x3 x4 x5 x6) (MlpRow.tokA x0 x1 x2 x7 s) n := by
  have h33 := v33 x0 x1 x2 x3 x4 x5 x6 x7
  pointwise [val_main_v171, val_main_v172, val_main_call1_v0, val_main_call1_cst]
  simp only [h33]
  all_goals rfl

end Cert.RefMlpAt

end
-- ==== Proof.Mlp.Value.lean ====
module

public import proofs.«01_k».proof.Defs
public import proofs.«01_k».proof.Proof.Mlp.RefAt
public import proofs.«01_k».proof.Proof.Mlp.Frames
public import proofs.«01_k».proof.Proof.Gen.RefMlpIdeal
public import proofs.«01_k».proof.Proof.Gen.RefMlpIdeal.Run
public import proofs.«01_k».proof.Proof.Gen.Pre_finite_mlp
public import Idealize.ShloMosaic.Lib.Quiescent

@[expose] public section

set_option maxRecDepth 16384

noncomputable section

namespace Cert.ValueMlp

open Cert.RefMlpIdeal.Read
open Cert.MlpIdeal Cert.MlpIdeal.Gen Cert.Mlp.Hand
open Idealize.ShloMosaic TcCoe Tactic
open Idealize.SL Idealize.SL.Sem

/-- The reference runs, keeps its arguments and leaves no semaphore raised. -/
theorem frame_ref : Cert.quiescent_RefMlpIdeal (hRefMlpIdeal := Cert.RefMlpIdeal.Gen.facts) :=
  fun m g _ => (θ_run Cert.RefMlpIdeal.defs _ _).mono (fun r h => ⟨fun c => (h c).2.2.2.2.2.2.2, sem_eq_zero_of_no_sems (by decide) r.2⟩) (Cert.RefMlpIdeal.Value.run m g)

variable (m : (ℓ : Loc nD τ sig) → Buf (Elt Ideal) ℓ) (c : Dev nD)

/-! ## The arrays at the end of the run -/

theorem final_f : (dats m 0 c).arrAt 6 cfg0.N = (fun i => MlpRow.f (par m c) (tok m c (i 0)) (i 1) : Vec Ideal S8192x4096 .bf16) := by
  refine (dats m 0 c).arrAt_eq_of_covers 6 _ (by decide +kernel) fun t hf y => ?_
  blk_simp
  obtain ⟨p, d, rfl⟩ : ∃ (p : Fin 256) (d : Fin 4096), y = ix2 p d := ⟨y 0, y 1, eq_ix2 y⟩
  refine Eq.trans ?_ (congrArg (fun i : S8192x4096.Idx => MlpRow.f (par m c) (tok m c (i 0)) (i 1)) (emb6 t p d)).symm
  show (fB (iblk m c 0 t) (iblk m c 4 t) (wt1 m c)) (ix2 p d) = _
  rw [fB_at (iblk m c 0 t) (iblk m c 1 t) (iblk m c 2 t) (iblk m c 3 t) (iblk m c 4 t) (iblk m c 5 t) (wt1 m c) (wt2 m c) p d, tok_eq, par_eq]
  rfl

theorem final_df1 : (dats m 0 c).arrAt 7 cfg0.N = (fun i => MlpRow.df1 (par m c) (tok m c (i 0)) (i 1) : Vec Ideal S8192x4096 .bf16) := by
  refine (dats m 0 c).arrAt_eq_of_covers 7 _ (by decide +kernel) fun t hf y => ?_
  blk_simp
  obtain ⟨p, d, rfl⟩ : ∃ (p : Fin 256) (d : Fin 4096), y = ix2 p d := ⟨y 0, y 1, eq_ix2 y⟩
  refine Eq.trans ?_ (congrArg (fun i : S8192x4096.Idx => MlpRow.df1 (par m c) (tok m c (i 0)) (i 1)) (emb7 t p d)).symm
  show (df1B (iblk m c 0 t) (iblk m c 2 t) (iblk m c 4 t) (iblk m c 5 t) (wt1 m c) (wt2 m c)) (ix2 p d) = _
  rw [df1B_at (iblk m c 0 t) (iblk m c 1 t) (iblk m c 2 t) (iblk m c 3 t) (iblk m c 4 t) (iblk m c 5 t) (wt1 m c) (wt2 m c) p d, tok_eq, par_eq]
  rfl

theorem final_h2 : (dats m 0 c).arrAt 8 cfg0.N = (fun i => MlpRow.h2 (par m c) (tok m c (i 0)) (i 1) : Vec Ideal S8192x1024 .bf16) := by
  refine (dats m 0 c).arrAt_eq_of_covers 8 _ (by decide +kernel) fun t hf y => ?_
  blk_simp
  obtain ⟨p, d, rfl⟩ : ∃ (p : Fin 256) (d : Fin 1024), y = ix2 p d := ⟨y 0, y 1, eq_ix2 y⟩
  refine Eq.trans ?_ (congrArg (fun i : S8192x1024.Idx => MlpRow.h2 (par m c) (tok m c (i 0)) (i 1)) (emb8 t p d)).symm
  show (k0_pay6 (iblk m c 0 t) (iblk m c 4 t)) (ix2 p d) = _
  rw [pay6_at (iblk m c 0 t) (iblk m c 1 t) (iblk m c 2 t) (iblk m c 3 t) (iblk m c 4 t) (iblk m c 5 t) (wt1 m c) (wt2 m c) p d, tok_eq, par_eq]
  rfl

theorem final_df2 : (dats m 0 c).arrAt 9 cfg0.N = (fun i => MlpRow.df2 (par m c) (tok m c (i 0)) (i 1) : Vec Ideal S8192x1024 .bf16) := by
  refine (dats m 0 c).arrAt_eq_of_covers 9 _ (by decide +kernel) fun t hf y => ?_
  blk_simp
  obtain ⟨p, d, rfl⟩ : ∃ (p : Fin 256) (d : Fin 1024), y = ix2 p d := ⟨y 0, y 1, eq_ix2 y⟩
  refine Eq.trans ?_ (congrArg (fun i : S8192x1024.Idx => MlpRow.df2 (par m c) (tok m c (i 0)) (i 1)) (emb9 t p d)).symm
  show (df2B (iblk m c 0 t) (iblk m c 2 t) (iblk m c 4 t) (iblk m c 5 t) (wt1 m c) (wt2 m c)) (ix2 p d) = _
  rw [df2B_at (iblk m c 0 t) (iblk m c 1 t) (iblk m c 2 t) (iblk m c 3 t) (iblk m c 4 t) (iblk m c 5 t) (wt1 m c) (wt2 m c) p d, tok_eq, par_eq]
  rfl

theorem final_dmix : (dats m 0 c).arrAt 10 cfg0.N = (fun i => MlpRow.dmix (par m c) (tok m c (i 0)) (i 1) : Vec Ideal S8192x1024 .bf16) := by
  refine (dats m 0 c).arrAt_eq_of_covers 10 _ (by decide +kernel) fun t hf y => ?_
  blk_simp
  obtain ⟨p, d, rfl⟩ : ∃ (p : Fin 256) (d : Fin 1024), y = ix2 p d := ⟨y 0, y 1, eq_ix2 y⟩
  refine Eq.trans ?_ (congrArg (fun i : S8192x1024.Idx => MlpRow.dmix (par m c) (tok m c (i 0)) (i 1)) (emb10 t p d)).symm
  show (dmixB (iblk m c 0 t) (iblk m c 1 t) (iblk m c 2 t) (iblk m c 3 t) (iblk m c 4 t) (iblk m c 5 t) (wt1 m c) (wt2 m c)) (ix2 p d) = _
  rw [dmixB_at (iblk m c 0 t) (iblk m c 1 t) (iblk m c 2 t) (iblk m c 3 t) (iblk m c 4 t) (iblk m c 5 t) (wt1 m c) (wt2 m c) p d, tok_eq, par_eq]
  rfl

theorem final_dx1 : (dats m 0 c).arrAt 11 cfg0.N = (fun i => MlpRow.dx1 (par m c) (tok m c (i 0)) (i 1) : Vec Ideal S8192x1024 .f32) := by
  refine (dats m 0 c).arrAt_eq_of_covers 11 _ (by decide +kernel) fun t hf y => ?_
  blk_simp
  obtain ⟨p, d, rfl⟩ : ∃ (p : Fin 256) (d : Fin 1024), y = ix2 p d := ⟨y 0, y 1, eq_ix2 y⟩
  refine Eq.trans ?_ (congrArg (fun i : S8192x1024.Idx => MlpRow.dx1 (par m c) (tok m c (i 0)) (i 1)) (emb11 t p d)).symm
  show (dx1B (iblk m c 0 t) (iblk m c 2 t) (iblk m c 4 t) (iblk m c 5 t) (wt1 m c) (wt2 m c)) (ix2 p d) = _
  rw [dx1B_at (iblk m c 0 t) (iblk m c 1 t) (iblk m c 2 t) (iblk m c 3 t) (iblk m c 4 t) (iblk m c 5 t) (wt1 m c) (wt2 m c) p d, tok_eq, par_eq]
  rfl

/-- The carried block after point `n`. -/
theorem acc_at : ∀ (n : ℕ) (h : n < cfg0.N) (a : Fin 8) (d : Fin 1024), acc m c n h (ix2 a d)
    = ∑ t ∈ Finset.range (n + 1), (if ht : t < 32 then ∑ p : Fin 256, MlpRow.term (par m c) (tok m c (row ⟨t, ht⟩ p)) a.val d else 0)
  | 0, h, a, d => by
    unfold acc
    rw [rowsB_at (iblk m c 0 ⟨0, h⟩) (iblk m c 1 ⟨0, h⟩) (iblk m c 2 ⟨0, h⟩) (iblk m c 3 ⟨0, h⟩)]
    have hz : (k0_pay2 (F := Ideal)) (ix2 a d) = 0 := by pointwise [k0_pay2]
    rw [hz, Finset.sum_range_one, dif_pos (by omega), zero_add]
    simp only [tok_eq, par_eq]
  | n + 1, h, a, d => by
    unfold acc
    rw [rowsB_at (iblk m c 0 ⟨n + 1, h⟩) (iblk m c 1 ⟨n + 1, h⟩) (iblk m c 2 ⟨n + 1, h⟩) (iblk m c 3 ⟨n + 1, h⟩), acc_at n (Nat.lt_of_succ_lt h) a d, Finset.sum_range_succ _ (n + 1), dif_pos (show n + 1 < 32 from h)]
    simp only [tok_eq, par_eq]

/-- The tokens' terms, block by block, are all of them. -/
theorem sum_rows (f : Fin 8192 → EReal) :
    ∑ t ∈ Finset.range 32, (if ht : t < 32 then ∑ p : Fin 256, f (row ⟨t, ht⟩ p) else 0) = ∑ s : Fin 8192, f s := by
  rw [Finset.sum_range]
  simp only [Fin.isLt, dif_pos]
  rw [← Fintype.sum_prod_type']
  refine (Fintype.sum_equiv (finProdFinEquiv (m := 32) (n := 256)) _ f fun x => congrArg f (Fin.ext ?_))
  show x.1.val * 256 + x.2.val = x.2.val + 256 * x.1.val
  omega

theorem final_small : (dats m 0 c).arrAt 12 cfg0.N = (fun i => ∑ s : Fin 8192, MlpRow.term (par m c) (tok m c s) (i 0).val (i 1) : Vec Ideal S8x1024 .f32) := by
  refine (dats m 0 c).arrAt_eq_of_after_last 12 (⟨31, by decide⟩ : Fin cfg0.N) (by decide +kernel) _ fun y => ?_
  blk_simp
  obtain ⟨a, d, rfl⟩ : ∃ (a : Fin 8) (d : Fin 1024), y = ix2 a d := ⟨y 0, y 1, eq_ix2 y⟩
  refine (acc_at m c 31 (by decide) a d).trans ?_
  rw [sum_rows (fun s => MlpRow.term (par m c) (tok m c s) a.val d)]
  rfl

/-- The programs' eight finite arguments have real entries. -/
theorem reals (h : Cert.Pre_MlpIdeal_finite_mlp (hPre_finite_mlp := Cert.Pre_finite_mlp.Gen.facts) m) :
    (∀ i, ∃ r : ℝ, aX m c i = (r : EReal)) ∧ (∀ i, ∃ r : ℝ, aMx m c i = (r : EReal)) ∧ (∀ i, ∃ r : ℝ, aGa m c i = (r : EReal)) ∧ (∀ i, ∃ r : ℝ, aGb m c i = (r : EReal))
      ∧ (∀ i, ∃ r : ℝ, aW1 m c i = (r : EReal)) ∧ (∀ i, ∃ r : ℝ, aW2 m c i = (r : EReal)) ∧ (∀ i, ∃ r : ℝ, aGc m c i = (r : EReal)) ∧ (∀ i, ∃ r : ℝ, aTg m c i = (r : EReal)) := by
  have h1 := congrFun (h c) ix0
  unfold Pre_finite_mlp.fn Pre_finite_mlp.fn_part1 at h1
  simp only [andi_apply] at h1
  obtain ⟨h1, e7⟩ := IntOp.andi_eq_one.1 h1
  obtain ⟨h1, e6⟩ := IntOp.andi_eq_one.1 h1
  obtain ⟨h1, e5⟩ := IntOp.andi_eq_one.1 h1
  obtain ⟨h1, e4⟩ := IntOp.andi_eq_one.1 h1
  obtain ⟨h1, e3⟩ := IntOp.andi_eq_one.1 h1
  obtain ⟨h1, e2⟩ := IntOp.andi_eq_one.1 h1
  obtain ⟨e0, e1⟩ := IntOp.andi_eq_one.1 h1
  exact ⟨RealRms.real_of_below _ _ _ _ _ _ e0, RealRms.real_of_below _ _ _ _ _ _ e1, RealRms.real_of_below _ _ _ _ _ _ e2, RealRms.real_of_below _ _ _ _ _ _ e3,
    RealRms.real_of_below _ _ _ _ _ _ e4, RealRms.real_of_below _ _ _ _ _ _ e5, RealRms.real_of_below _ _ _ _ _ _ e6, RealRms.real_of_below _ _ _ _ _ _ e7⟩

/-- At finite arguments every token's rows are real. -/
theorem fin (h : Cert.Pre_MlpIdeal_finite_mlp (hPre_finite_mlp := Cert.Pre_finite_mlp.Gen.facts) m) (s : Fin 8192) : MlpRow.Fin' (par m c) (tok m c s) := by
  obtain ⟨h0, h1, h2, h3, h4, h5, h6, h7⟩ := reals m c h
  exact ⟨fun k => MlpRow.IsR.add (h0 _) (MlpRow.IsR.mul (MlpRow.IsR.mul (h1 _) (MlpRow.IsR.rs fun _ => h1 _)) (h2 _)), fun k => h1 _, fun k => h7 _,
    fun k => h2 _, fun k => h3 _, fun k => h6 _, fun n k => h4 _, fun n k => h5 _⟩

theorem ref_f : val_main_v173 (F := Ideal) (aX m c) (aMx m c) (aGa m c) (aGb m c) (aW1 m c) = (dats m 0 c).arrAt 6 cfg0.N := by
  refine Eq.trans ?_ (final_f m c).symm
  funext i
  refine (congrArg _ (eq_ix2 i)).trans ?_
  refine (RefMlpAt.v172 (aX m c) (aMx m c) (aGa m c) (aGb m c) (aW1 m c) (aW2 m c) (aGc m c) (aTg m c) (i 0) (i 1)).trans ?_
  rfl

theorem ref_df1 (h : Cert.Pre_MlpIdeal_finite_mlp (hPre_finite_mlp := Cert.Pre_finite_mlp.Gen.facts) m) : val_main_v174 (F := Ideal) (aX m c) (aMx m c) (aGa m c) (aGb m c) (aW1 m c) (aW2 m c) (aGc m c) (aTg m c) = (dats m 0 c).arrAt 7 cfg0.N := by
  refine Eq.trans ?_ (final_df1 m c).symm
  funext i
  refine (congrArg _ (eq_ix2 i)).trans ?_
  refine (RefMlpAt.v99 (aX m c) (aMx m c) (aGa m c) (aGb m c) (aW1 m c) (aW2 m c) (aGc m c) (aTg m c) (i 0) (i 1)).trans ?_
  exact (congrFun (MlpRow.df1_eq (fin m c h (i 0))) (i 1)).symm

theorem ref_h2 : val_main_v175 (F := Ideal) (aX m c) (aMx m c) (aGa m c) (aGb m c) = (dats m 0 c).arrAt 8 cfg0.N := by
  refine Eq.trans ?_ (final_h2 m c).symm
  funext i
  refine (congrArg _ (eq_ix2 i)).trans ?_
  refine (RefMlpAt.v32 (aX m c) (aMx m c) (aGa m c) (aGb m c) (aW1 m c) (aW2 m c) (aGc m c) (aTg m c) (i 0) (i 1)).trans ?_
  rfl

theorem ref_df2 (h : Cert.Pre_MlpIdeal_finite_mlp (hPre_finite_mlp := Cert.Pre_finite_mlp.Gen.facts) m) : val_main_v176 (F := Ideal) (aX m c) (aMx m c) (aGa m c) (aGb m c) (aW1 m c) (aW2 m c) (aGc m c) (aTg m c) = (dats m 0 c).arrAt 9 cfg0.N := by
  refine Eq.trans ?_ (final_df2 m c).symm
  funext i
  refine (congrArg _ (eq_ix2 i)).trans ?_
  refine (RefMlpAt.v93 (aX m c) (aMx m c) (aGa m c) (aGb m c) (aW1 m c) (aW2 m c) (aGc m c) (aTg m c) (i 0) (i 1)).trans ?_
  exact (congrFun (MlpRow.df2_eq (fin m c h (i 0))) (i 1)).symm

theorem ref_dmix (h : Cert.Pre_MlpIdeal_finite_mlp (hPre_finite_mlp := Cert.Pre_finite_mlp.Gen.facts) m) : val_main_v177 (F := Ideal) (aX m c) (aMx m c) (aGa m c) (aGb m c) (aW1 m c) (aW2 m c) (aGc m c) (aTg m c) = (dats m 0 c).arrAt 10 cfg0.N := by
  refine Eq.trans ?_ (final_dmix m c).symm
  funext i
  refine (congrArg _ (eq_ix2 i)).trans ?_
  refine (RefMlpAt.v143 (aX m c) (aMx m c) (aGa m c) (aGb m c) (aW1 m c) (aW2 m c) (aGc m c) (aTg m c) (i 0) (i 1)).trans ?_
  exact (congrFun (MlpRow.dmix_eq (fin m c h (i 0))) (i 1)).symm

theorem ref_dx1 (h : Cert.Pre_MlpIdeal_finite_mlp (hPre_finite_mlp := Cert.Pre_finite_mlp.Gen.facts) m) : val_main_v123 (F := Ideal) (aX m c) (aMx m c) (aGa m c) (aGb m c) (aW1 m c) (aW2 m c) (aGc m c) (aTg m c) = (dats m 0 c).arrAt 11 cfg0.N := by
  refine Eq.trans ?_ (final_dx1 m c).symm
  funext i
  refine (congrArg _ (eq_ix2 i)).trans ?_
  refine (RefMlpAt.v123 (aX m c) (aMx m c) (aGa m c) (aGb m c) (aW1 m c) (aW2 m c) (aGc m c) (aTg m c) (i 0) (i 1)).trans ?_
  exact (congrFun (MlpRow.dx1_eq (fin m c h (i 0))) (i 1)).symm

theorem ref_small (h : Cert.Pre_MlpIdeal_finite_mlp (hPre_finite_mlp := Cert.Pre_finite_mlp.Gen.facts) m) : val_main_v170 (F := Ideal) (aX m c) (aMx m c) (aGa m c) (aGb m c) (aW1 m c) (aW2 m c) (aGc m c) (aTg m c) = (dats m 0 c).arrAt 12 cfg0.N := by
  refine Eq.trans ?_ (final_small m c).symm
  funext i
  refine (congrArg _ (eq_ix2 i)).trans ?_
  refine (RefMlpAt.v170 (aX m c) (aMx m c) (aGa m c) (aGb m c) (aW1 m c) (aW2 m c) (aGc m c) (aTg m c) (i 0) (i 1)).trans ?_
  exact Finset.sum_congr rfl fun s _ => (MlpRow.term_eq (fin m c h s) (i 0).val (i 1)).symm

set_option maxHeartbeats 2000000 in
/-- The two programs end with the same saved rows and gradients, at finite arguments. -/
theorem algebraic : Cert.algebraic_MlpIdeal_RefMlpIdeal_pre_finite_mlp (hMlpIdeal := Cert.MlpIdeal.Gen.facts) (hRefMlpIdeal := Cert.RefMlpIdeal.Gen.facts) (hPre_finite_mlp := Cert.Pre_finite_mlp.Gen.facts) := by
  intro m ρ m' ρ' hpre hag
  refine ⟨fun c => (dats m 0 c).arrAt 6 cfg0.N, fun c => (dats m 0 c).arrAt 7 cfg0.N, fun c => (dats m 0 c).arrAt 8 cfg0.N, fun c => (dats m 0 c).arrAt 9 cfg0.N,
    fun c => (dats m 0 c).arrAt 10 cfg0.N, fun c => (dats m 0 c).arrAt 11 cfg0.N, fun c => (dats m 0 c).arrAt 12 cfg0.N,
    (θ_run Cert.MlpIdeal.defs _ _).mono (fun _ h c => ⟨(h.1 c).1 6, (h.1 c).1 7, (h.1 c).1 8, (h.1 c).1 9, (h.1 c).1 10, (h.1 c).1 11, (h.1 c).1 12, args_kept m h.1 c⟩) (run_main m ρ), ?_⟩
  refine (θ_run Cert.RefMlpIdeal.defs _ _).mono (fun _ h c => ?_) (RefMlpIdeal.Value.run m' ρ')
  obtain ⟨r0, r1, r2, r3, r4, r5, r6, hr⟩ := h c
  obtain ⟨e0, e1, e2, e3, e4, e5, e6, e7⟩ := hag c
  have k0 : StableHlo.launchContents m' c (Proc.tc.devRef Cert.RefMlpIdeal.main_arg0) = aX m c := e0
  have k1 : StableHlo.launchContents m' c (Proc.tc.devRef Cert.RefMlpIdeal.main_arg1) = aMx m c := e1
  have k2 : StableHlo.launchContents m' c (Proc.tc.devRef Cert.RefMlpIdeal.main_arg2) = aGa m c := e2
  have k3 : StableHlo.launchContents m' c (Proc.tc.devRef Cert.RefMlpIdeal.main_arg3) = aGb m c := e3
  have k4 : StableHlo.launchContents m' c (Proc.tc.devRef Cert.RefMlpIdeal.main_arg4) = aW1 m c := e4
  have k5 : StableHlo.launchContents m' c (Proc.tc.devRef Cert.RefMlpIdeal.main_arg5) = aW2 m c := e5
  have k6 : StableHlo.launchContents m' c (Proc.tc.devRef Cert.RefMlpIdeal.main_arg6) = aGc m c := e6
  have k7 : StableHlo.launchContents m' c (Proc.tc.devRef Cert.RefMlpIdeal.main_arg7) = aTg m c := e7
  refine ⟨r0.trans ?_, r1.trans ?_, r2.trans ?_, r3.trans ?_, r4.trans ?_, r5.trans ?_, r6.trans ?_, hr⟩
  · rw [val_main_v173_eq, k0, k1, k2, k3, k4]
    exact ref_f m c
  · rw [val_main_v174_eq, k0, k1, k2, k3, k4, k5, k6, k7]
    exact ref_df1 m c hpre
  · rw [val_main_v175_eq, k0, k1, k2, k3]
    exact ref_h2 m c
  · rw [val_main_v176_eq, k0, k1, k2, k3, k4, k5, k6, k7]
    exact ref_df2 m c hpre
  · rw [val_main_v177_eq, k0, k1, k2, k3, k4, k5, k6, k7]
    exact ref_dmix m c hpre
  · rw [val_main_v123_eq, k0, k1, k2, k3, k4, k5, k6, k7]
    exact ref_dx1 m c hpre
  · rw [val_main_v170_eq, k0, k1, k2, k3, k4, k5, k6, k7]
    exact ref_small m c hpre

end Cert.ValueMlp

end
-- ==== Proof.BwdMix.Base.lean ====
module

public import proofs.«01_k».proof.Proof.Gen.BwdMixIdeal.Frame
public import proofs.«01_k».proof.Proof.Gen.BwdMixIdeal.Skeleton
public import Idealize.ShloMosaic.Lib.Pipeline.FrameBody
public import Idealize.ShloMosaic.Lib.Ring
public import Idealize.ShloMosaic.Lib.Tactic
public import Idealize.ShloMosaic.Lib.Transfers
public import Idealize.ShloMosaic.Lib.WordCmp
public import proofs.«01_k».proof.Proof.Common
public import Idealize.ShloMosaic.Lib.Pointwise.Index
public import Idealize.ShloMosaic.Lib.Pipeline.ValueKit.Tiles

@[expose] public section

set_option maxRecDepth 16384

noncomputable section

namespace Cert.BwdMix.Hand

open Cert.BwdMixIdeal Cert.BwdMixIdeal.Gen
open Idealize.ShloMosaic TcCoe Tactic
open Idealize.SL RA BI BIBase Laws ProofMode Sem
open Pipeline (Dat BodyObligation)

variable {F : FTy → Type} [FloatOps F]

local notation "𝕄" => MT nD τ sig Unit (Elt F) ℕ (Pipeline.UD sig nD τ) ℕ

abbrev cond0_0 (i : grid0.Coords) : Prop := (Scalar.cmpi .ne (Scalar.extui (Scalar.cmpi .eq (BitVec.ofNat 32 (i 0).val) 0#32)) 0#32) = 1#1
/-- The scratch that holds the first branch's weight. -/
abbrev s1M : Memref sig .tc .vmem S1024x1024 .bf16 := Memref.whole cc0_scratch0
/-- The scratch that holds the second branch's weight. -/
abbrev s2M : Memref sig .tc .vmem S1024x1024 .bf16 := Memref.whole cc0_scratch1
/-- The scratch that holds the last weight. -/
abbrev s3M : Memref sig .tc .vmem S1024x1024 .bf16 := Memref.whole cc0_scratch2
/-- The slabs. -/
abbrev hbM : Memref sig .tc .hbm S8x384x1024 .bf16 := Memref.whole main_v9

abbrev hbPt (c : Dev nD) {sp : Space} {S : Shape} {e : EltTy} (M : Memref sig .tc sp S e) (f : Buf (Elt F) (M.view.loc (c : Thread nD τ))) : sProp 𝕄 :=
  M.view.loc (c : Thread nD τ) ↦{fullShare} f

/-- The slab entry at row `r`, column `k` of a weight that starts at row `o` of every slab: row `o + r % 128` of slab `r / 128`. -/
def slabIdx (o : Fin 257) (y : S1024x1024.Idx) : S8x384x1024.Idx := fun a => match a with
  | 0 => ⟨(y 0).val / 128, by have h : (y 0).val < 1024 := (y 0).isLt; show _ < 8; omega⟩
  | 1 => ⟨o.val + (y 0).val % 128, by have h := o.isLt; show _ < 384; omega⟩
  | 2 => ⟨(y 1).val, (y 1).isLt⟩

/-- The weight eight staged copies leave in a scratch: rows `128·d + r` are row `o + r` of slab `d`. -/
def scr (o : Fin 257) (sl : Vec F S8x384x1024 .bf16) : Vec F S1024x1024 .bf16 := fun y => sl (slabIdx o y)

/-- A copy of rows `o` to `o + 128` of slab `d` reads the slab's entries. -/
theorem slab_read (o : Fin 257) (d : ℕ) (hd : d < 8) (o' : ℕ) (hoo : o' = o.val) (inb : ∀ a, (![d, o', 0] : Fin 3 → ℕ) a + S1x128x1024.size a ≤ S8x384x1024.size a) (pf : ∀ a, (Rect.unit (s := S8x384x1024) ![d, o', 0] S1x128x1024.size inb).stride a = 1)
    (sl : Vec F S8x384x1024 .bf16) (off : ℕ) (ho : off = 128 * d) (ib : ∀ a, (![off, 0] : Fin 2 → ℕ) a + S128x1024.size a ≤ S1024x1024.size a) (x : S128x1024.Idx) :
    View.read (Elt F) ((hbM.slice (Rect.unit (s := S8x384x1024) ![d, o', 0] S1x128x1024.size inb) pf).squeeze S128x1024 squeezes_S1x128x1024_S128x1024).view sl x
      = scr o sl ((Rect.unit (s := S1024x1024) ![off, 0] S128x1024.size ib).emb x) := by
  subst ho hoo
  have e : Shape.reshapeEquiv (s := S1x128x1024) (s' := S128x1024) squeezes_S1x128x1024_S128x1024.numel_eq x = (fun a => match a with
      | 0 => ⟨0, by show 0 < 1; omega⟩
      | 1 => x 0
      | 2 => x 1 : S1x128x1024.Idx) := by
    refine Shape.reshapeEquiv_eq_of_rowMajor _ ?_
    rw [Shape.rowMajor_val_two, Shape.rowMajor_val_three]
    show (0 * 128 + (x 0).val) * 1024 + (x 1).val = (x 0).val * 1024 + (x 1).val
    omega
  show sl ((Rect.unit (s := S8x384x1024) ![d, o.val, 0] S1x128x1024.size inb).emb (Shape.reshapeEquiv _ x)) = _
  rw [e]
  unfold scr
  have h0 : (x 0).val < 128 := (x 0).isLt
  refine congrArg sl (funext fun a => Fin.ext ?_)
  match a with
  | 0 => show d + 1 * 0 = (128 * d + 1 * (x 0).val) / 128; omega
  | 1 => show o.val + 1 * (x 0).val = o.val + (128 * d + 1 * (x 0).val) % 128; omega
  | 2 => show 0 + 1 * (x 1).val = 0 + 1 * (x 1).val; rfl

/-- Eight row blocks that hold a vector's own rows leave that vector, whatever was there. -/
theorem read_pieces (M : Memref sig .tc .vmem S1024x1024 .bf16) (w : Vec F S1024x1024 .bf16) (p0 p1 p2 p3 p4 p5 p6 p7 : S128x1024.Idx → Elt F .bf16)
    (h0 : ∀ x, p0 x = w ((Rect.unit (s := S1024x1024) ![0, 0] S128x1024.size inb_S1024x1024_S128x1024_0_0).emb x))
    (h1 : ∀ x, p1 x = w ((Rect.unit (s := S1024x1024) ![128, 0] S128x1024.size inb_S1024x1024_S128x1024_128_0).emb x))
    (h2 : ∀ x, p2 x = w ((Rect.unit (s := S1024x1024) ![256, 0] S128x1024.size inb_S1024x1024_S128x1024_256_0).emb x))
    (h3 : ∀ x, p3 x = w ((Rect.unit (s := S1024x1024) ![384, 0] S128x1024.size inb_S1024x1024_S128x1024_384_0).emb x))
    (h4 : ∀ x, p4 x = w ((Rect.unit (s := S1024x1024) ![512, 0] S128x1024.size inb_S1024x1024_S128x1024_512_0).emb x))
    (h5 : ∀ x, p5 x = w ((Rect.unit (s := S1024x1024) ![640, 0] S128x1024.size inb_S1024x1024_S128x1024_640_0).emb x))
    (h6 : ∀ x, p6 x = w ((Rect.unit (s := S1024x1024) ![768, 0] S128x1024.size inb_S1024x1024_S128x1024_768_0).emb x))
    (h7 : ∀ x, p7 x = w ((Rect.unit (s := S1024x1024) ![896, 0] S128x1024.size inb_S1024x1024_S128x1024_896_0).emb x))
    (f : M.view.ty.Contents (Elt F)) :
    M.view.read (Elt F) (M.view.writes (Elt F) f [⟨Rect.unit ![896, 0] S128x1024.size inb_S1024x1024_S128x1024_896_0, p7⟩, ⟨Rect.unit ![768, 0] S128x1024.size inb_S1024x1024_S128x1024_768_0, p6⟩, ⟨Rect.unit ![640, 0] S128x1024.size inb_S1024x1024_S128x1024_640_0, p5⟩, ⟨Rect.unit ![512, 0] S128x1024.size inb_S1024x1024_S128x1024_512_0, p4⟩, ⟨Rect.unit ![384, 0] S128x1024.size inb_S1024x1024_S128x1024_384_0, p3⟩, ⟨Rect.unit ![256, 0] S128x1024.size inb_S1024x1024_S128x1024_256_0, p2⟩, ⟨Rect.unit ![128, 0] S128x1024.size inb_S1024x1024_S128x1024_128_0, p1⟩, ⟨Rect.unit ![0, 0] S128x1024.size inb_S1024x1024_S128x1024_0_0, p0⟩]) = w := by
  funext y
  refine (View.read_writes_apply_eq_canon _ _ _ _ ?hc).trans (View.canon_eq_of_allAt _ y _ ?hc ?_)
  · exact View.cover_of_tiled (s := S1024x1024) _ S128x1024.size rfl y
  intro p hp x hx
  subst hx
  simp only [List.mem_cons, List.not_mem_nil, or_false] at hp
  rcases hp with rfl | rfl | rfl | rfl | rfl | rfl | rfl | rfl
  · exact h7 x
  · exact h6 x
  · exact h5 x
  · exact h4 x
  · exact h3 x
  · exact h2 x
  · exact h1 x
  · exact h0 x

/-- Three column blocks side by side. -/
def cols3 {β : Type} (a0 a1 a2 : S512x1024.Idx → β) : S512x3072.Idx → β := fun y =>
  if (y 1).val < 1024 then a0 (ix2 (y 0) ⟨(y 1).val % 1024, Nat.mod_lt _ (by decide)⟩)
  else if (y 1).val < 2048 then a1 (ix2 (y 0) ⟨(y 1).val % 1024, Nat.mod_lt _ (by decide)⟩)
  else a2 (ix2 (y 0) ⟨(y 1).val % 1024, Nat.mod_lt _ (by decide)⟩)

/-- Entry of column block 0. -/
theorem cols3_at0 {β : Type} (a0 a1 a2 : S512x1024.Idx → β) (x : S512x1024.Idx) :
    cols3 a0 a1 a2 ((Rect.unit (s := S512x3072) ![0, 0] S512x1024.size inb_S512x3072_S512x1024_0_0).emb x) = a0 x := by
  have h1 : (x 1).val < 1024 := (x 1).isLt
  have e : (((Rect.unit (s := S512x3072) ![0, 0] S512x1024.size inb_S512x3072_S512x1024_0_0).emb x) 1).val = 0 + 1 * (x 1).val := rfl
  unfold cols3
  rw [if_pos (by omega)]
  refine congrArg a0 (funext fun a => Fin.ext ?_)
  match a with
  | 0 => show 0 + 1 * (x 0).val = (x 0).val; omega
  | 1 => show (0 + 1 * (x 1).val) % 1024 = (x 1).val; omega

/-- Entry of column block 1. -/
theorem cols3_at1 {β : Type} (a0 a1 a2 : S512x1024.Idx → β) (x : S512x1024.Idx) :
    cols3 a0 a1 a2 ((Rect.unit (s := S512x3072) ![0, 1024] S512x1024.size inb_S512x3072_S512x1024_0_1024).emb x) = a1 x := by
  have h1 : (x 1).val < 1024 := (x 1).isLt
  have e : (((Rect.unit (s := S512x3072) ![0, 1024] S512x1024.size inb_S512x3072_S512x1024_0_1024).emb x) 1).val = 1024 + 1 * (x 1).val := rfl
  unfold cols3
  rw [if_neg (by omega), if_pos (by omega)]
  refine congrArg a1 (funext fun a => Fin.ext ?_)
  match a with
  | 0 => show 0 + 1 * (x 0).val = (x 0).val; omega
  | 1 => show (1024 + 1 * (x 1).val) % 1024 = (x 1).val; omega

/-- Entry of column block 2. -/
theorem cols3_at2 {β : Type} (a0 a1 a2 : S512x1024.Idx → β) (x : S512x1024.Idx) :
    cols3 a0 a1 a2 ((Rect.unit (s := S512x3072) ![0, 2048] S512x1024.size inb_S512x3072_S512x1024_0_2048).emb x) = a2 x := by
  have h1 : (x 1).val < 1024 := (x 1).isLt
  have e : (((Rect.unit (s := S512x3072) ![0, 2048] S512x1024.size inb_S512x3072_S512x1024_0_2048).emb x) 1).val = 2048 + 1 * (x 1).val := rfl
  unfold cols3
  rw [if_neg (by omega), if_neg (by omega)]
  refine congrArg a2 (funext fun a => Fin.ext ?_)
  match a with
  | 0 => show 0 + 1 * (x 0).val = (x 0).val; omega
  | 1 => show (2048 + 1 * (x 1).val) % 1024 = (x 1).val; omega

/-- Three column blocks written side by side leave the blocks side by side. -/
theorem read_cols3 {e : EltTy} {sp : Space} (M : Memref sig .tc sp S512x3072 e) (a0 a1 a2 : S512x1024.Idx → Elt F e) (f : M.view.ty.Contents (Elt F)) :
    M.view.read (Elt F) (M.view.writes (Elt F) f [⟨Rect.unit ![0, 0] S512x1024.size inb_S512x3072_S512x1024_0_0, a0⟩, ⟨Rect.unit ![0, 2048] S512x1024.size inb_S512x3072_S512x1024_0_2048, a2⟩, ⟨Rect.unit ![0, 1024] S512x1024.size inb_S512x3072_S512x1024_0_1024, a1⟩]) = cols3 a0 a1 a2 := by
  funext y
  refine (View.read_writes_apply_eq_canon _ _ _ _ ?hc).trans (View.canon_eq_of_allAt _ y _ ?hc ?_)
  · exact View.cover_of_tiled (s := S512x3072) _ S512x1024.size rfl y
  intro p hp x hx
  subst hx
  simp only [List.mem_cons, List.not_mem_nil, or_false] at hp
  rcases hp with rfl | rfl | rfl
  · exact (cols3_at0 a0 a1 a2 x).symm
  · exact (cols3_at2 a0 a1 a2 x).symm
  · exact (cols3_at1 a0 a1 a2 x).symm

/-! ## What a point computes -/

/-- The gradient of the gates and of the two mixing weights. -/
def dpaB (dm : Vec F S512x1024 .bf16) (ya : Vec F S512x1024 .bf16) (yb : Vec F S512x1024 .bf16) (za : Vec F S512x1024 .bf16) (zb : Vec F S512x1024 .bf16) (va : Vec F S512x1024 .f32) (wa : Vec F S1024x1024 .bf16) (wo : Vec F S1024x1024 .bf16) : Vec F S512x3072 .bf16 :=
  cols3 (k0_pay17 (k0_pay3 dm wo) (k0_pay4 za) wa va) (k0_pay8 (k0_pay3 dm wo) za ya) (k0_pay9 (k0_pay3 dm wo) zb yb)

/-- The gradient of the first branch's product. -/
def dyaB (dm : Vec F S512x1024 .bf16) (za : Vec F S512x1024 .bf16) (wo : Vec F S1024x1024 .bf16) : Vec F S512x1024 .bf16 :=
  k0_pay14 (k0_pay3 dm wo) (k0_pay4 za)

/-- The gradient of the second branch's product. -/
def dybB (dm : Vec F S512x1024 .bf16) (zb : Vec F S512x1024 .bf16) (wo : Vec F S1024x1024 .bf16) : Vec F S512x1024 .bf16 :=
  k0_pay21 (k0_pay3 dm wo) (k0_pay5 zb)

/-- The gradient of the first branch's rows. -/
def dvaB (dm : Vec F S512x1024 .bf16) (bg : Vec F S512x1024 .bf16) (za : Vec F S512x1024 .bf16) (wa : Vec F S1024x1024 .bf16) (wo : Vec F S1024x1024 .bf16) : Vec F S512x1024 .f32 :=
  k0_pay19 (k0_pay3 dm wo) (k0_pay4 za) wa bg

/-- The gradient of the second branch's rows. -/
def dvbB (dm : Vec F S512x1024 .bf16) (zb : Vec F S512x1024 .bf16) (vb : Vec F S512x1024 .f32) (lg : Vec F S1x1024 .f32) (lb : Vec F S1x1024 .f32) (wb : Vec F S1024x1024 .bf16) (wo : Vec F S1024x1024 .bf16) : Vec F S512x1024 .f32 :=
  k0_pay32 (k0_pay22 (k0_pay3 dm wo) (k0_pay5 zb) wb) (k0_pay24 vb) (k0_pay25 vb) (k0_pay26 lg) (k0_pay27 vb lg lb) (k0_pay28 vb lg lb)

/-- What a point leaves in the carried block: seven rows grow by the column sums of the point's gradients. -/
def rowsB (dm : Vec F S512x1024 .bf16) (ya : Vec F S512x1024 .bf16) (yb : Vec F S512x1024 .bf16) (bg : Vec F S512x1024 .bf16) (za : Vec F S512x1024 .bf16) (zb : Vec F S512x1024 .bf16) (va : Vec F S512x1024 .f32) (vb : Vec F S512x1024 .f32) (lg : Vec F S1x1024 .f32) (lb : Vec F S1x1024 .f32) (wa : Vec F S1024x1024 .bf16) (wb : Vec F S1024x1024 .bf16) (wo : Vec F S1024x1024 .bf16) (old : Vec F S8x1024 .f32) : Vec F S8x1024 .f32 :=
  VecWindow.put (VecWindow.put (VecWindow.put (VecWindow.put (VecWindow.put (VecWindow.put (VecWindow.put old ![5, 0] S1x1024.size
      (k0_pay12 (k0_pay10 (VecWindow.window old ![5, 0] S1x1024.size inb_S8x1024_S1x1024_5_0)) (k0_pay11 (k0_pay3 dm wo) za ya))) ![6, 0] S1x1024.size
      (k0_pay13 (k0_pay7 (k0_pay3 dm wo) zb yb) (VecWindow.window old ![6, 0] S1x1024.size inb_S8x1024_S1x1024_6_0))) ![4, 0] S1x1024.size
      (k0_pay18 (k0_pay3 dm wo) (k0_pay4 za) wa va (VecWindow.window old ![4, 0] S1x1024.size inb_S8x1024_S1x1024_4_0))) ![2, 0] S1x1024.size
      (k0_pay20 (k0_pay19 (k0_pay3 dm wo) (k0_pay4 za) wa bg) (VecWindow.window old ![2, 0] S1x1024.size inb_S8x1024_S1x1024_2_0))) ![0, 0] S1x1024.size
      (k0_pay30 (k0_pay22 (k0_pay3 dm wo) (k0_pay5 zb) wb) (k0_pay25 vb) (k0_pay27 vb lg lb) (k0_pay28 vb lg lb) (VecWindow.window old ![0, 0] S1x1024.size inb_S8x1024_S1x1024_0_0))) ![1, 0] S1x1024.size
      (k0_pay31 (k0_pay22 (k0_pay3 dm wo) (k0_pay5 zb) wb) (k0_pay27 vb lg lb) (k0_pay28 vb lg lb) (VecWindow.window old ![1, 0] S1x1024.size inb_S8x1024_S1x1024_1_0))) ![3, 0] S1x1024.size
      (k0_pay1 (k0_pay32 (k0_pay22 (k0_pay3 dm wo) (k0_pay5 zb) wb) (k0_pay24 vb) (k0_pay25 vb) (k0_pay26 lg) (k0_pay27 vb lg lb) (k0_pay28 vb lg lb)) (VecWindow.window old ![3, 0] S1x1024.size inb_S8x1024_S1x1024_3_0))

end Cert.BwdMix.Hand

end
-- ==== Proof.BwdMix.Run.lean ====
module

public import proofs.«01_k».proof.Proof.BwdMix.Base

@[expose] public section

set_option maxRecDepth 16384

noncomputable section

namespace Cert.BwdMix.Hand

open Cert.BwdMixIdeal Cert.BwdMixIdeal.Gen
open Idealize.ShloMosaic TcCoe Tactic
open Idealize.SL RA BI BIBase Laws ProofMode Sem
open Pipeline (Dat BodyObligation)

variable {F : FTy → Type} [FloatOps F]

local notation "𝕄" => MT nD τ sig Unit (Elt F) ℕ (Pipeline.UD sig nD τ) ℕ

set_option maxHeartbeats 8000000 in
/-- A point after the first: the weights are already staged, the carried block grows, the other blocks are stored. -/
theorem runB (c : Dev nD) (i : grid0.Coords) (arg1 : Memref sig .tc .vmem S512x1024 .bf16) (harg1 : arg1.IsWhole) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S512x1024 .f32) (harg7 : arg7.IsWhole) (arg8 : Memref sig .tc .vmem S512x1024 .f32) (harg8 : arg8.IsWhole) (arg9 : Memref sig .tc .vmem S1x1024 .f32) (harg9 : arg9.IsWhole) (arg10 : Memref sig .tc .vmem S1x1024 .f32) (harg10 : arg10.IsWhole) (arg12 : Memref sig .tc .vmem S512x3072 .bf16) (harg12 : arg12.IsWhole) (arg13 : Memref sig .tc .vmem S512x1024 .bf16) (harg13 : arg13.IsWhole) (arg14 : Memref sig .tc .vmem S512x1024 .bf16) (harg14 : arg14.IsWhole) (arg15 : Memref sig .tc .vmem S512x1024 .f32) (harg15 : arg15.IsWhole) (arg16 : Memref sig .tc .vmem S512x1024 .f32) (harg16 : arg16.IsWhole) (arg17 : Memref sig .tc .vmem S8x1024 .f32) (harg17 : arg17.IsWhole)
    (dm : Vec F S512x1024 .bf16) (ya : Vec F S512x1024 .bf16) (yb : Vec F S512x1024 .bf16) (bg : Vec F S512x1024 .bf16) (za : Vec F S512x1024 .bf16) (zb : Vec F S512x1024 .bf16) (va : Vec F S512x1024 .f32) (vb : Vec F S512x1024 .f32) (lg : Vec F S1x1024 .f32) (lb : Vec F S1x1024 .f32) (x17 : Vec F S8x1024 .f32) (w1 w2 w3 : Vec F S1024x1024 .bf16)
    (hc : ¬ cond0_0 i)
    (K : PUnit → sProp 𝕄) :
    iprop(owns c.tc arg1 fullShare dm ∗ owns c.tc arg2 fullShare ya ∗ owns c.tc arg3 fullShare yb ∗ owns c.tc arg4 fullShare bg ∗ owns c.tc arg5 fullShare za ∗ owns c.tc arg6 fullShare zb ∗ owns c.tc arg7 fullShare va ∗ owns c.tc arg8 fullShare vb ∗ owns c.tc arg9 fullShare lg ∗ owns c.tc arg10 fullShare lb
        ∗ (∃ d, owns c.tc arg12 fullShare d) ∗ (∃ d, owns c.tc arg13 fullShare d) ∗ (∃ d, owns c.tc arg14 fullShare d) ∗ (∃ d, owns c.tc arg15 fullShare d) ∗ (∃ d, owns c.tc arg16 fullShare d) ∗ owns c.tc arg17 fullShare x17
        ∗ owns c.tc s1M fullShare w1 ∗ owns c.tc s2M fullShare w2 ∗ owns c.tc s3M fullShare w3
        ∗ (iprop(owns c.tc arg1 fullShare dm ∗ owns c.tc arg2 fullShare ya ∗ owns c.tc arg3 fullShare yb ∗ owns c.tc arg4 fullShare bg ∗ owns c.tc arg5 fullShare za ∗ owns c.tc arg6 fullShare zb ∗ owns c.tc arg7 fullShare va ∗ owns c.tc arg8 fullShare vb ∗ owns c.tc arg9 fullShare lg ∗ owns c.tc arg10 fullShare lb
        ∗ owns c.tc arg12 fullShare (dpaB dm ya yb za zb va w1 w3) ∗ owns c.tc arg13 fullShare (dyaB dm za w3) ∗ owns c.tc arg14 fullShare (dybB dm zb w3) ∗ owns c.tc arg15 fullShare (dvaB dm bg za w1 w3) ∗ owns c.tc arg16 fullShare (dvbB dm zb vb lg lb w2 w3) ∗ owns c.tc arg17 fullShare (rowsB dm ya yb bg za zb va vb lg lb w1 w2 w3 x17)
        ∗ owns c.tc s1M fullShare w1 ∗ owns c.tc s2M fullShare w2 ∗ owns c.tc s3M fullShare w3) -∗ K ⟨⟩))
      ⊢ wp frame (wpE (defs₀ (F := F)) Variants.none c none) Set.univ
          (cc0_bwd_mix i arg1 harg1 arg2 harg2 arg3 harg3 arg4 harg4 arg5 harg5 arg6 harg6 arg7 harg7 arg8 harg8 arg9 harg9 arg10 harg10 hbM (Memref.isWhole_whole _) arg12 harg12 arg13 harg13 arg14 harg14 arg15 harg15 arg16 harg16 arg17 harg17 s1M (Memref.isWhole_whole _) s2M (Memref.isWhole_whole _) s3M (Memref.isWhole_whole _) cc0_scratch3) K := by
  simp only [cc0_bwd_mix_eq_skeleton]; unfold cc0_bwd_mix_skel
  simp only [k0_part9_eq_skeleton, k0_part10_eq_skeleton, k0_part11_eq_skeleton, k0_part12_eq_skeleton, k0_part13_eq_skeleton, k0_part1_eq_skeleton, k0_part2_eq_skeleton, k0_part3_eq_skeleton, k0_part4_eq_skeleton, k0_part5_eq_skeleton, k0_part6_eq_skeleton, k0_part7_eq_skeleton, k0_part8_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d12, %f12, -, H12⟩, ⟨%d13, %f13, -, H13⟩, ⟨%d14, %f14, -, H14⟩, ⟨%d15, %f15, -, H15⟩, ⟨%d16, %f16, -, H16⟩, ⟨%f17, %hf17, H17⟩, ⟨%fs1, %hfs1, HS1⟩, ⟨%fs2, %hfs2, HS2⟩, ⟨%fs3, %hfs3, HS3⟩, Hk⟩
  subst hf1 hf2 hf3 hf4 hf5 hf6 hf7 hf8 hf9 hf10 hf17 hfs1 hfs2 hfs3
  sl_exec (disch := first | sl_exact hc)
  sl_step
  iapply Hk
  isplitl [H1]; · iexists _; isplitr; swap; iexact H1; ipureintro; rfl
  isplitl [H2]; · iexists _; isplitr; swap; iexact H2; ipureintro; rfl
  isplitl [H3]; · iexists _; isplitr; swap; iexact H3; ipureintro; rfl
  isplitl [H4]; · iexists _; isplitr; swap; iexact H4; ipureintro; rfl
  isplitl [H5]; · iexists _; isplitr; swap; iexact H5; ipureintro; rfl
  isplitl [H6]; · iexists _; isplitr; swap; iexact H6; ipureintro; rfl
  isplitl [H7]; · iexists _; isplitr; swap; iexact H7; ipureintro; rfl
  isplitl [H8]; · iexists _; isplitr; swap; iexact H8; ipureintro; rfl
  isplitl [H9]; · iexists _; isplitr; swap; iexact H9; ipureintro; rfl
  isplitl [H10]; · iexists _; isplitr; swap; iexact H10; ipureintro; rfl
  isplitl [H12]
  · iexists _; isplitr; swap; iexact H12; ipureintro; delta runB.sl.r; delta runB.sl.r_1; (repeat rw [View.readAt_full]); exact read_cols3 _ _ _ _ _
  isplitl [H13]
  · iexists _; isplitr; swap; iexact H13; ipureintro; rw [View.read_writes_full]; delta runB.sl.r; delta runB.sl.r_1; (repeat rw [View.readAt_full]); try rfl
  isplitl [H14]
  · iexists _; isplitr; swap; iexact H14; ipureintro; rw [View.read_writes_full]; delta runB.sl.r; delta runB.sl.r_2; (repeat rw [View.readAt_full]); try rfl
  isplitl [H15]
  · iexists _; isplitr; swap; iexact H15; ipureintro; rw [View.read_writes_full]; delta runB.sl.r; delta runB.sl.r_1; (repeat rw [View.readAt_full]); try rfl
  isplitl [H16]
  · iexists _; isplitr; swap; iexact H16; ipureintro; rw [View.read_writes_full]; delta runB.sl.r_7; delta runB.sl.r_8; delta runB.sl.r_9; delta runB.sl.r_10; delta runB.sl.r_11; delta runB.sl.r_12; delta runB.sl.r; delta runB.sl.r_2; (repeat rw [View.readAt_full]); try rfl
  isplitl [H17]
  · iexists _; isplitr; swap; iexact H17; ipureintro; (repeat rw [View.read_writes_cons_put _ _ _ _ _ rfl]); delta runB.sl.r_13; delta runB.sl.r_7; delta runB.sl.r_8; delta runB.sl.r_9; delta runB.sl.r_10; delta runB.sl.r_11; delta runB.sl.r_12; delta runB.sl.r_3; delta runB.sl.r_4; delta runB.sl.r_5; delta runB.sl.r_6; delta runB.sl.r; delta runB.sl.r_1; delta runB.sl.r_2; delta runB.sl.v152 runB.sl.v127 runB.sl.v120 runB.sl.v76 runB.sl.v65 runB.sl.v50; (repeat rw [View.readAt_full]); try rfl
  isplitl [HS1]
  · iexists _; isplitr; swap; iexact HS1; ipureintro; rfl
  isplitl [HS2]
  · iexists _; isplitr; swap; iexact HS2; ipureintro; rfl
  iexists _; isplitr; swap; iexact HS3; ipureintro; rfl

end Cert.BwdMix.Hand

end
-- ==== Proof.BwdMix.RunA.lean ====
module

public import proofs.«01_k».proof.Proof.BwdMix.Base

@[expose] public section

set_option maxRecDepth 16384

noncomputable section

namespace Cert.BwdMix.Hand

open Cert.BwdMixIdeal Cert.BwdMixIdeal.Gen
open Idealize.ShloMosaic TcCoe Tactic
open Cert.Common
open Idealize.SL RA BI BIBase Laws ProofMode Sem
open Pipeline (Dat BodyObligation)

variable {F : FTy → Type} [FloatOps F]

local notation "𝕄" => MT nD τ sig Unit (Elt F) ℕ (Pipeline.UD sig nD τ) ℕ

set_option sl_exec.rejoinHeartbeats 200000 in
set_option sl_exec.dmaWindow true in
set_option sl_exec.dmaWindowSet true in
set_option sl_exec.dmaWindowLent true in
set_option maxHeartbeats 64000000 in
/-- The first point: the twenty-four copies stage the three weights, the carried block starts at zero, and the point goes on as every other. -/
theorem runA (c : Dev nD) (i : grid0.Coords) (arg1 : Memref sig .tc .vmem S512x1024 .bf16) (harg1 : arg1.IsWhole) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S512x1024 .f32) (harg7 : arg7.IsWhole) (arg8 : Memref sig .tc .vmem S512x1024 .f32) (harg8 : arg8.IsWhole) (arg9 : Memref sig .tc .vmem S1x1024 .f32) (harg9 : arg9.IsWhole) (arg10 : Memref sig .tc .vmem S1x1024 .f32) (harg10 : arg10.IsWhole) (arg12 : Memref sig .tc .vmem S512x3072 .bf16) (harg12 : arg12.IsWhole) (arg13 : Memref sig .tc .vmem S512x1024 .bf16) (harg13 : arg13.IsWhole) (arg14 : Memref sig .tc .vmem S512x1024 .bf16) (harg14 : arg14.IsWhole) (arg15 : Memref sig .tc .vmem S512x1024 .f32) (harg15 : arg15.IsWhole) (arg16 : Memref sig .tc .vmem S512x1024 .f32) (harg16 : arg16.IsWhole) (arg17 : Memref sig .tc .vmem S8x1024 .f32) (harg17 : arg17.IsWhole)
    (dm : Vec F S512x1024 .bf16) (ya : Vec F S512x1024 .bf16) (yb : Vec F S512x1024 .bf16) (bg : Vec F S512x1024 .bf16) (za : Vec F S512x1024 .bf16) (zb : Vec F S512x1024 .bf16) (va : Vec F S512x1024 .f32) (vb : Vec F S512x1024 .f32) (lg : Vec F S1x1024 .f32) (lb : Vec F S1x1024 .f32) (sl : Vec F S8x384x1024 .bf16) (W : Waits sig Unit)
    (hc : cond0_0 i)
    (K : PUnit → sProp 𝕄) :
    iprop(owns c.tc arg1 fullShare dm ∗ owns c.tc arg2 fullShare ya ∗ owns c.tc arg3 fullShare yb ∗ owns c.tc arg4 fullShare bg ∗ owns c.tc arg5 fullShare za ∗ owns c.tc arg6 fullShare zb ∗ owns c.tc arg7 fullShare va ∗ owns c.tc arg8 fullShare vb ∗ owns c.tc arg9 fullShare lg ∗ owns c.tc arg10 fullShare lb
        ∗ (∃ d, owns c.tc arg12 fullShare d) ∗ (∃ d, owns c.tc arg13 fullShare d) ∗ (∃ d, owns c.tc arg14 fullShare d) ∗ (∃ d, owns c.tc arg15 fullShare d) ∗ (∃ d, owns c.tc arg16 fullShare d) ∗ (∃ d, owns c.tc arg17 fullShare d)
        ∗ (∃ d, owns c.tc s1M fullShare d) ∗ (∃ d, owns c.tc s2M fullShare d) ∗ (∃ d, owns c.tc s3M fullShare d) ∗ semVal (c.tc, SemLoc.dma 29) 0 ∗ semVal (c.tc, SemLoc.dma 30) 0 ∗ semVal (c.tc, SemLoc.dma 31) 0 ∗ semVal (c.tc, SemLoc.dma 32) 0 ∗ semVal (c.tc, SemLoc.dma 33) 0 ∗ semVal (c.tc, SemLoc.dma 34) 0 ∗ semVal (c.tc, SemLoc.dma 35) 0 ∗ semVal (c.tc, SemLoc.dma 36) 0 ∗ semVal (c.tc, SemLoc.dma 37) 0 ∗ semVal (c.tc, SemLoc.dma 38) 0 ∗ semVal (c.tc, SemLoc.dma 39) 0 ∗ semVal (c.tc, SemLoc.dma 40) 0 ∗ semVal (c.tc, SemLoc.dma 41) 0 ∗ semVal (c.tc, SemLoc.dma 42) 0 ∗ semVal (c.tc, SemLoc.dma 43) 0 ∗ semVal (c.tc, SemLoc.dma 44) 0 ∗ semVal (c.tc, SemLoc.dma 45) 0 ∗ semVal (c.tc, SemLoc.dma 46) 0 ∗ semVal (c.tc, SemLoc.dma 47) 0 ∗ semVal (c.tc, SemLoc.dma 48) 0 ∗ semVal (c.tc, SemLoc.dma 49) 0 ∗ semVal (c.tc, SemLoc.dma 50) 0 ∗ semVal (c.tc, SemLoc.dma 51) 0 ∗ semVal (c.tc, SemLoc.dma 52) 0 ∗ hbPt c hbM sl ∗ owes c.tc 0 W
        ∗ (iprop(owns c.tc arg1 fullShare dm ∗ owns c.tc arg2 fullShare ya ∗ owns c.tc arg3 fullShare yb ∗ owns c.tc arg4 fullShare bg ∗ owns c.tc arg5 fullShare za ∗ owns c.tc arg6 fullShare zb ∗ owns c.tc arg7 fullShare va ∗ owns c.tc arg8 fullShare vb ∗ owns c.tc arg9 fullShare lg ∗ owns c.tc arg10 fullShare lb
        ∗ owns c.tc arg12 fullShare (dpaB dm ya yb za zb va (scr 0 sl) (scr 256 sl)) ∗ owns c.tc arg13 fullShare (dyaB dm za (scr 256 sl)) ∗ owns c.tc arg14 fullShare (dybB dm zb (scr 256 sl)) ∗ owns c.tc arg15 fullShare (dvaB dm bg za (scr 0 sl) (scr 256 sl)) ∗ owns c.tc arg16 fullShare (dvbB dm zb vb lg lb (scr 128 sl) (scr 256 sl)) ∗ owns c.tc arg17 fullShare (rowsB dm ya yb bg za zb va vb lg lb (scr 0 sl) (scr 128 sl) (scr 256 sl) k0_pay2)
        ∗ owns c.tc s1M fullShare (scr 0 sl) ∗ owns c.tc s2M fullShare (scr 128 sl) ∗ owns c.tc s3M fullShare (scr 256 sl) ∗ semVal (c.tc, SemLoc.dma 29) 0 ∗ semVal (c.tc, SemLoc.dma 30) 0 ∗ semVal (c.tc, SemLoc.dma 31) 0 ∗ semVal (c.tc, SemLoc.dma 32) 0 ∗ semVal (c.tc, SemLoc.dma 33) 0 ∗ semVal (c.tc, SemLoc.dma 34) 0 ∗ semVal (c.tc, SemLoc.dma 35) 0 ∗ semVal (c.tc, SemLoc.dma 36) 0 ∗ semVal (c.tc, SemLoc.dma 37) 0 ∗ semVal (c.tc, SemLoc.dma 38) 0 ∗ semVal (c.tc, SemLoc.dma 39) 0 ∗ semVal (c.tc, SemLoc.dma 40) 0 ∗ semVal (c.tc, SemLoc.dma 41) 0 ∗ semVal (c.tc, SemLoc.dma 42) 0 ∗ semVal (c.tc, SemLoc.dma 43) 0 ∗ semVal (c.tc, SemLoc.dma 44) 0 ∗ semVal (c.tc, SemLoc.dma 45) 0 ∗ semVal (c.tc, SemLoc.dma 46) 0 ∗ semVal (c.tc, SemLoc.dma 47) 0 ∗ semVal (c.tc, SemLoc.dma 48) 0 ∗ semVal (c.tc, SemLoc.dma 49) 0 ∗ semVal (c.tc, SemLoc.dma 50) 0 ∗ semVal (c.tc, SemLoc.dma 51) 0 ∗ semVal (c.tc, SemLoc.dma 52) 0 ∗ hbPt c hbM sl ∗ (∃ W', owes c.tc 0 W')) -∗ K ⟨⟩))
      ⊢ wp frame (wpE (defs₀ (F := F)) Variants.none c none) Set.univ
          (cc0_bwd_mix i arg1 harg1 arg2 harg2 arg3 harg3 arg4 harg4 arg5 harg5 arg6 harg6 arg7 harg7 arg8 harg8 arg9 harg9 arg10 harg10 hbM (Memref.isWhole_whole _) arg12 harg12 arg13 harg13 arg14 harg14 arg15 harg15 arg16 harg16 arg17 harg17 s1M (Memref.isWhole_whole _) s2M (Memref.isWhole_whole _) s3M (Memref.isWhole_whole _) cc0_scratch3) K := by
  simp only [cc0_bwd_mix_eq_skeleton]; unfold cc0_bwd_mix_skel
  simp only [k0_part9_eq_skeleton, k0_part10_eq_skeleton, k0_part11_eq_skeleton, k0_part12_eq_skeleton, k0_part13_eq_skeleton, k0_part1_eq_skeleton, k0_part2_eq_skeleton, k0_part3_eq_skeleton, k0_part4_eq_skeleton, k0_part5_eq_skeleton, k0_part6_eq_skeleton, k0_part7_eq_skeleton, k0_part8_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%ds1, %fs1, -, HS1⟩, ⟨%ds2, %fs2, -, HS2⟩, ⟨%ds3, %fs3, -, HS3⟩, Hq0, Hq1, Hq2, Hq3, Hq4, Hq5, Hq6, Hq7, Hq8, Hq9, Hq10, Hq11, Hq12, Hq13, Hq14, Hq15, Hq16, Hq17, Hq18, Hq19, Hq20, Hq21, Hq22, Hq23, Hh, HW, Hk⟩
  subst hf1 hf2 hf3 hf4 hf5 hf6 hf7 hf8 hf9 hf10
  sl_exec (disch := first | sl_exact hc)
  sl_step
  have hs1 := read_pieces s1M (scr 0 sl) (runA.sl.dma0_8 sl) (runA.sl.dma0_9 sl) (runA.sl.dma0_10 sl) (runA.sl.dma0_11 sl) (runA.sl.dma0_12 sl) (runA.sl.dma0_13 sl) (runA.sl.dma0_14 sl) (runA.sl.dma0_15 sl)
    (fun x => slab_read 0 0 (by omega) _ rfl _ _ sl _ rfl _ x)
    (fun x => slab_read 0 1 (by omega) _ rfl _ _ sl _ rfl _ x)
    (fun x => slab_read 0 2 (by omega) _ rfl _ _ sl _ rfl _ x)
    (fun x => slab_read 0 3 (by omega) _ rfl _ _ sl _ rfl _ x)
    (fun x => slab_read 0 4 (by omega) _ rfl _ _ sl _ rfl _ x)
    (fun x => slab_read 0 5 (by omega) _ rfl _ _ sl _ rfl _ x)
    (fun x => slab_read 0 6 (by omega) _ rfl _ _ sl _ rfl _ x)
    (fun x => slab_read 0 7 (by omega) _ rfl _ _ sl _ rfl _ x)
  have hs2 := read_pieces s2M (scr 128 sl) (runA.sl.dma0_16 sl) (runA.sl.dma0_17 sl) (runA.sl.dma0_18 sl) (runA.sl.dma0_19 sl) (runA.sl.dma0_20 sl) (runA.sl.dma0_21 sl) (runA.sl.dma0_22 sl) (runA.sl.dma0_23 sl)
    (fun x => slab_read 128 0 (by omega) _ rfl _ _ sl _ rfl _ x)
    (fun x => slab_read 128 1 (by omega) _ rfl _ _ sl _ rfl _ x)
    (fun x => slab_read 128 2 (by omega) _ rfl _ _ sl _ rfl _ x)
    (fun x => slab_read 128 3 (by omega) _ rfl _ _ sl _ rfl _ x)
    (fun x => slab_read 128 4 (by omega) _ rfl _ _ sl _ rfl _ x)
    (fun x => slab_read 128 5 (by omega) _ rfl _ _ sl _ rfl _ x)
    (fun x => slab_read 128 6 (by omega) _ rfl _ _ sl _ rfl _ x)
    (fun x => slab_read 128 7 (by omega) _ rfl _ _ sl _ rfl _ x)
  have hs3 := read_pieces s3M (scr 256 sl) (runA.sl.dma0 sl) (runA.sl.dma0_1 sl) (runA.sl.dma0_2 sl) (runA.sl.dma0_3 sl) (runA.sl.dma0_4 sl) (runA.sl.dma0_5 sl) (runA.sl.dma0_6 sl) (runA.sl.dma0_7 sl)
    (fun x => slab_read 256 0 (by omega) _ rfl _ _ sl _ rfl _ x)
    (fun x => slab_read 256 1 (by omega) _ rfl _ _ sl _ rfl _ x)
    (fun x => slab_read 256 2 (by omega) _ rfl _ _ sl _ rfl _ x)
    (fun x => slab_read 256 3 (by omega) _ rfl _ _ sl _ rfl _ x)
    (fun x => slab_read 256 4 (by omega) _ rfl _ _ sl _ rfl _ x)
    (fun x => slab_read 256 5 (by omega) _ rfl _ _ sl _ rfl _ x)
    (fun x => slab_read 256 6 (by omega) _ rfl _ _ sl _ rfl _ x)
    (fun x => slab_read 256 7 (by omega) _ rfl _ _ sl _ rfl _ x)
  have h11 : runA.sl.v11 c sl = scr 256 sl := by
    delta runA.sl.v11
    exact readCov_whole _ _ _ hs3 _
  have h59 : runA.sl.v59 c sl = scr 0 sl := by
    delta runA.sl.v59
    exact readCov_whole _ _ _ hs1 _
  have h85 : runA.sl.v85 c sl = scr 128 sl := by
    delta runA.sl.v85
    exact readCov_whole _ _ _ hs2 _
  have e44 : runA.sl.v44 (F := F) c arg17 = VecWindow.window (k0_pay2 (F := F)) ![5, 0] S1x1024.size inb_S8x1024_S1x1024_5_0 := by
    delta runA.sl.v44
    delta runA.sl.H17_1
    funext j; exact congrFun (View.read_writes_full _ _ _ _ _) _
  have e50 : runA.sl.v50 c arg1 arg2 arg5 arg17 sl f1 f2 f5 = VecWindow.window (k0_pay2 (F := F)) ![6, 0] S1x1024.size inb_S8x1024_S1x1024_6_0 := by
    delta runA.sl.v50
    delta runA.sl.H17_2
    refine (readCov_skip _ _ _ _ _ 0 (by decide)).trans ?_
    delta runA.sl.H17_1
    funext j; exact congrFun (View.read_writes_full _ _ _ _ _) _
  have e65 : runA.sl.v65 c arg1 arg2 arg3 arg5 arg6 arg17 sl f1 f2 f3 f5 f6 = VecWindow.window (k0_pay2 (F := F)) ![4, 0] S1x1024.size inb_S8x1024_S1x1024_4_0 := by
    delta runA.sl.v65
    delta runA.sl.H17_3
    refine (readCov_skip _ _ _ _ _ 0 (by decide)).trans ?_
    delta runA.sl.H17_2
    refine (readCov_skip _ _ _ _ _ 0 (by decide)).trans ?_
    delta runA.sl.H17_1
    funext j; exact congrFun (View.read_writes_full _ _ _ _ _) _
  have e76 : runA.sl.v76 c arg1 arg2 arg3 arg5 arg6 arg7 arg17 sl f1 f2 f3 f5 f6 f7 = VecWindow.window (k0_pay2 (F := F)) ![2, 0] S1x1024.size inb_S8x1024_S1x1024_2_0 := by
    delta runA.sl.v76
    delta runA.sl.H17_4
    refine (readCov_skip _ _ _ _ _ 0 (by decide)).trans ?_
    delta runA.sl.H17_3
    refine (readCov_skip _ _ _ _ _ 0 (by decide)).trans ?_
    delta runA.sl.H17_2
    refine (readCov_skip _ _ _ _ _ 0 (by decide)).trans ?_
    delta runA.sl.H17_1
    funext j; exact congrFun (View.read_writes_full _ _ _ _ _) _
  have e120 : runA.sl.v120 c arg1 arg2 arg3 arg4 arg5 arg6 arg7 arg17 sl f1 f2 f3 f4 f5 f6 f7 = VecWindow.window (k0_pay2 (F := F)) ![0, 0] S1x1024.size inb_S8x1024_S1x1024_0_0 := by
    delta runA.sl.v120
    delta runA.sl.H17_5
    refine (readCov_skip _ _ _ _ _ 0 (by decide)).trans ?_
    delta runA.sl.H17_4
    refine (readCov_skip _ _ _ _ _ 0 (by decide)).trans ?_
    delta runA.sl.H17_3
    refine (readCov_skip _ _ _ _ _ 0 (by decide)).trans ?_
    delta runA.sl.H17_2
    refine (readCov_skip _ _ _ _ _ 0 (by decide)).trans ?_
    delta runA.sl.H17_1
    funext j; exact congrFun (View.read_writes_full _ _ _ _ _) _
  have e127 : runA.sl.v127 c arg1 arg2 arg3 arg4 arg5 arg6 arg7 arg8 arg9 arg10 arg17 sl f1 f2 f3 f4 f5 f6 f7 f8 f9 f10 = VecWindow.window (k0_pay2 (F := F)) ![1, 0] S1x1024.size inb_S8x1024_S1x1024_1_0 := by
    delta runA.sl.v127
    delta runA.sl.H17_6
    refine (readCov_skip _ _ _ _ _ 0 (by decide)).trans ?_
    delta runA.sl.H17_5
    refine (readCov_skip _ _ _ _ _ 0 (by decide)).trans ?_
    delta runA.sl.H17_4
    refine (readCov_skip _ _ _ _ _ 0 (by decide)).trans ?_
    delta runA.sl.H17_3
    refine (readCov_skip _ _ _ _ _ 0 (by decide)).trans ?_
    delta runA.sl.H17_2
    refine (readCov_skip _ _ _ _ _ 0 (by decide)).trans ?_
    delta runA.sl.H17_1
    funext j; exact congrFun (View.read_writes_full _ _ _ _ _) _
  have e152 : runA.sl.v152 c arg1 arg2 arg3 arg4 arg5 arg6 arg7 arg8 arg9 arg10 arg17 sl f1 f2 f3 f4 f5 f6 f7 f8 f9 f10 = VecWindow.window (k0_pay2 (F := F)) ![3, 0] S1x1024.size inb_S8x1024_S1x1024_3_0 := by
    delta runA.sl.v152
    delta runA.sl.H17_7
    refine (readCov_skip _ _ _ _ _ 0 (by decide)).trans ?_
    delta runA.sl.H17_6
    refine (readCov_skip _ _ _ _ _ 0 (by decide)).trans ?_
    delta runA.sl.H17_5
    refine (readCov_skip _ _ _ _ _ 0 (by decide)).trans ?_
    delta runA.sl.H17_4
    refine (readCov_skip _ _ _ _ _ 0 (by decide)).trans ?_
    delta runA.sl.H17_3
    refine (readCov_skip _ _ _ _ _ 0 (by decide)).trans ?_
    delta runA.sl.H17_2
    refine (readCov_skip _ _ _ _ _ 0 (by decide)).trans ?_
    delta runA.sl.H17_1
    funext j; exact congrFun (View.read_writes_full _ _ _ _ _) _
  iapply Hk
  isplitl [H1]; · iexists _; isplitr; swap; iexact H1; ipureintro; rfl
  isplitl [H2]; · iexists _; isplitr; swap; iexact H2; ipureintro; rfl
  isplitl [H3]; · iexists _; isplitr; swap; iexact H3; ipureintro; rfl
  isplitl [H4]; · iexists _; isplitr; swap; iexact H4; ipureintro; rfl
  isplitl [H5]; · iexists _; isplitr; swap; iexact H5; ipureintro; rfl
  isplitl [H6]; · iexists _; isplitr; swap; iexact H6; ipureintro; rfl
  isplitl [H7]; · iexists _; isplitr; swap; iexact H7; ipureintro; rfl
  isplitl [H8]; · iexists _; isplitr; swap; iexact H8; ipureintro; rfl
  isplitl [H9]; · iexists _; isplitr; swap; iexact H9; ipureintro; rfl
  isplitl [H10]; · iexists _; isplitr; swap; iexact H10; ipureintro; rfl
  isplitl [H12]
  · iexists _; isplitr; swap; iexact H12; ipureintro; delta runA.sl.r; delta runA.sl.r_1; rw [h11, h59]; (repeat rw [View.readAt_full]); exact read_cols3 _ _ _ _ _
  isplitl [H13]
  · iexists _; isplitr; swap; iexact H13; ipureintro; rw [View.read_writes_full]; delta runA.sl.r; delta runA.sl.r_1; rw [h11]; (repeat rw [View.readAt_full]); try rfl
  isplitl [H14]
  · iexists _; isplitr; swap; iexact H14; ipureintro; rw [View.read_writes_full]; delta runA.sl.r; delta runA.sl.r_2; rw [h11]; (repeat rw [View.readAt_full]); try rfl
  isplitl [H15]
  · iexists _; isplitr; swap; iexact H15; ipureintro; rw [View.read_writes_full]; delta runA.sl.r; delta runA.sl.r_1; rw [h11, h59]; (repeat rw [View.readAt_full]); try rfl
  isplitl [H16]
  · iexists _; isplitr; swap; iexact H16; ipureintro; rw [View.read_writes_full]; delta runA.sl.r_7; delta runA.sl.r_8; delta runA.sl.r_9; delta runA.sl.r_10; delta runA.sl.r_11; delta runA.sl.r_12; delta runA.sl.r; delta runA.sl.r_2; rw [h11, h85]; (repeat rw [View.readAt_full]); try rfl
  isplitl [H17]
  · iexists _; isplitr; swap; iexact H17; ipureintro; delta runA.sl.H17_7; delta runA.sl.H17_6; delta runA.sl.H17_5; delta runA.sl.H17_4; delta runA.sl.H17_3; delta runA.sl.H17_2; delta runA.sl.H17_1; iterate 7 rw [View.read_writes_cons_put _ _ _ _ _ rfl]
    rw [View.read_writes_full]; delta runA.sl.r_13; delta runA.sl.r_4; delta runA.sl.r_7; delta runA.sl.r_8; delta runA.sl.r_9; delta runA.sl.r_10; delta runA.sl.r_11; delta runA.sl.r_12; delta runA.sl.r_3; delta runA.sl.r_5; delta runA.sl.r_6; delta runA.sl.r; delta runA.sl.r_1; delta runA.sl.r_2; rw [h11, h59, h85, e44, e50, e65, e76, e120, e127, e152]; (repeat rw [View.readAt_full]); try rfl
  isplitl [HS1]
  · iexists _; isplitr; swap; iexact HS1; ipureintro; exact hs1 _
  isplitl [HS2]
  · iexists _; isplitr; swap; iexact HS2; ipureintro; exact hs2 _
  isplitl [HS3]
  · iexists _; isplitr; swap; iexact HS3; ipureintro; exact hs3 _
  iframe Hq0 Hq1 Hq2 Hq3 Hq4 Hq5 Hq6 Hq7 Hq8 Hq9 Hq10 Hq11 Hq12 Hq13 Hq14 Hq15 Hq16 Hq17 Hq18 Hq19 Hq20 Hq21 Hq22 Hq23 Hh
  iexists _; iexact HW

end Cert.BwdMix.Hand

end
-- ==== Proof.BwdMix.Body.lean ====
module

public import proofs.«01_k».proof.Proof.BwdMix.Run
public import proofs.«01_k».proof.Proof.BwdMix.RunA
public import proofs.«01_k».proof.Proof.Gen.BwdMixIdeal.Points
public import Idealize.ShloMosaic.Lib.Pipeline.Frame

@[expose] public section

set_option maxRecDepth 16384

noncomputable section

namespace Cert.BwdMix.Hand

open Cert.BwdMixIdeal Cert.BwdMixIdeal.Gen
open Idealize.ShloMosaic TcCoe Tactic
open Idealize.SL RA BI BIBase Laws ProofMode Sem
open Pipeline (Dat BodyObligation)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The kernel's own counters and the operand its copies read -/

/-- The twenty-four counters of the kernel's own copies. -/
abbrev osem0 : Fin 24 → SemLoc sig := fun j => (![SemLoc.dma 29, SemLoc.dma 30, SemLoc.dma 31, SemLoc.dma 32, SemLoc.dma 33, SemLoc.dma 34, SemLoc.dma 35, SemLoc.dma 36, SemLoc.dma 37, SemLoc.dma 38, SemLoc.dma 39, SemLoc.dma 40, SemLoc.dma 41, SemLoc.dma 42, SemLoc.dma 43, SemLoc.dma 44, SemLoc.dma 45, SemLoc.dma 46, SemLoc.dma 47, SemLoc.dma 48, SemLoc.dma 49, SemLoc.dma 50, SemLoc.dma 51, SemLoc.dma 52] : Fin 24 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal (c.tc, SemLoc.dma 29) 0 ∗ semVal (c.tc, SemLoc.dma 30) 0 ∗ semVal (c.tc, SemLoc.dma 31) 0 ∗ semVal (c.tc, SemLoc.dma 32) 0 ∗ semVal (c.tc, SemLoc.dma 33) 0 ∗ semVal (c.tc, SemLoc.dma 34) 0 ∗ semVal (c.tc, SemLoc.dma 35) 0 ∗ semVal (c.tc, SemLoc.dma 36) 0 ∗ semVal (c.tc, SemLoc.dma 37) 0 ∗ semVal (c.tc, SemLoc.dma 38) 0 ∗ semVal (c.tc, SemLoc.dma 39) 0 ∗ semVal (c.tc, SemLoc.dma 40) 0 ∗ semVal (c.tc, SemLoc.dma 41) 0 ∗ semVal (c.tc, SemLoc.dma 42) 0 ∗ semVal (c.tc, SemLoc.dma 43) 0 ∗ semVal (c.tc, SemLoc.dma 44) 0 ∗ semVal (c.tc, SemLoc.dma 45) 0 ∗ semVal (c.tc, SemLoc.dma 46) 0 ∗ semVal (c.tc, SemLoc.dma 47) 0 ∗ semVal (c.tc, SemLoc.dma 48) 0 ∗ semVal (c.tc, SemLoc.dma 49) 0 ∗ semVal (c.tc, SemLoc.dma 50) 0 ∗ semVal (c.tc, SemLoc.dma 51) 0 ∗ semVal (c.tc, SemLoc.dma 52) 0) := by
  rw [Pipeline.ownSems0_eq_of_list c osem0 [0, 1, 2, 3, 4, 5, 6, 7, 8, 9, 10, 11, 12, 13, 14, 15, 16, 17, 18, 19, 20, 21, 22, 23] (by decide) (by decide)]; rfl
/-- The weights' slabs, left in the array's own memory. -/
def H0 : Finset (Ref sig .tc) := {main_v9}
theorem H0_sub : H0 ⊆ Pipeline.restRefs sig spec0 := by decide
theorem hbmPts0_eq (c : Dev nD) :
    (bigSep H0 (fun b => (c.tc.loc b) ↦{fullShare} V m c b) : sProp 𝕄) = iprop(hbPt c hbM (V m c main_v9)) := by
  rw [BI.bigSep_eq_bigSepL_of_eq [main_v9] (by decide) (by decide)]; rfl

/-- What the invariant says of everything but the three weight scratches. -/
def Rst (c : Dev nD) : sProp 𝕄 :=
  iprop((∃ r, prngReg c r)
    ∗ iprop(semVal (c.tc, SemLoc.dma 29) 0 ∗ semVal (c.tc, SemLoc.dma 30) 0 ∗ semVal (c.tc, SemLoc.dma 31) 0 ∗ semVal (c.tc, SemLoc.dma 32) 0 ∗ semVal (c.tc, SemLoc.dma 33) 0 ∗ semVal (c.tc, SemLoc.dma 34) 0 ∗ semVal (c.tc, SemLoc.dma 35) 0 ∗ semVal (c.tc, SemLoc.dma 36) 0 ∗ semVal (c.tc, SemLoc.dma 37) 0 ∗ semVal (c.tc, SemLoc.dma 38) 0 ∗ semVal (c.tc, SemLoc.dma 39) 0 ∗ semVal (c.tc, SemLoc.dma 40) 0 ∗ semVal (c.tc, SemLoc.dma 41) 0 ∗ semVal (c.tc, SemLoc.dma 42) 0 ∗ semVal (c.tc, SemLoc.dma 43) 0 ∗ semVal (c.tc, SemLoc.dma 44) 0 ∗ semVal (c.tc, SemLoc.dma 45) 0 ∗ semVal (c.tc, SemLoc.dma 46) 0 ∗ semVal (c.tc, SemLoc.dma 47) 0 ∗ semVal (c.tc, SemLoc.dma 48) 0 ∗ semVal (c.tc, SemLoc.dma 49) 0 ∗ semVal (c.tc, SemLoc.dma 50) 0 ∗ semVal (c.tc, SemLoc.dma 51) 0 ∗ semVal (c.tc, SemLoc.dma 52) 0)
    ∗ iprop(hbPt c hbM (V m c main_v9)))

theorem PhiD0_eq (c : Dev nD) :
    (Pipeline.ΦD osem0 spec0 H0 (V m) c : sProp 𝕄) = iprop((∃ d, owns c.tc s1M fullShare d) ∗ (∃ d, owns c.tc s2M fullShare d) ∗ (∃ d, owns c.tc s3M fullShare d) ∗ Rst m c) := by
  rw [Pipeline.ΦD_eq, scopedRest0_eq, ownSems00_eq, hbmPts0_eq]; unfold Rst; simp only [s1M, s2M, s3M, owns_whole]
  exact (equiv_iff.mp ⟨BI.sep_assoc, BI.sep_assoc'⟩).trans (congrArg _ (equiv_iff.mp ⟨BI.sep_assoc, BI.sep_assoc'⟩))

/-! ## The proof data -/

/-- The first branch's weight. -/
def wt1 (c : Dev nD) : Vec F S1024x1024 .bf16 := scr 0 (V m c main_v9)
/-- The second branch's weight. -/
def wt2 (c : Dev nD) : Vec F S1024x1024 .bf16 := scr 128 (V m c main_v9)
/-- The last weight. -/
def wt3 (c : Dev nD) : Vec F S1024x1024 .bf16 := scr 256 (V m c main_v9)

/-- The carried block after point `n`. -/
def acc (c : Dev nD) : (n : ℕ) → n < cfg0.N → Vec F S8x1024 .f32
  | 0, h => rowsB (iblk m c 0 ⟨0, h⟩) (iblk m c 1 ⟨0, h⟩) (iblk m c 2 ⟨0, h⟩) (iblk m c 3 ⟨0, h⟩) (iblk m c 4 ⟨0, h⟩) (iblk m c 5 ⟨0, h⟩) (iblk m c 6 ⟨0, h⟩) (iblk m c 7 ⟨0, h⟩) (iblk m c 8 ⟨0, h⟩) (iblk m c 9 ⟨0, h⟩) (wt1 m c) (wt2 m c) (wt3 m c) k0_pay2
  | n + 1, h => rowsB (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) (iblk m c 6 ⟨n + 1, h⟩) (iblk m c 7 ⟨n + 1, h⟩) (iblk m c 8 ⟨n + 1, h⟩) (iblk m c 9 ⟨n + 1, h⟩) (wt1 m c) (wt2 m c) (wt3 m c) (acc c n (Nat.lt_of_succ_lt h))

/-- The invariant before point `n`: the weight scratches at anything at first, at the weights after. -/
def PhiS (c : Dev nD) : ℕ → sProp 𝕄
  | 0 => Pipeline.ΦD osem0 spec0 H0 (V m) c
  | _ + 1 => iprop(owns c.tc s1M fullShare (wt1 m c) ∗ owns c.tc s2M fullShare (wt2 m c) ∗ owns c.tc s3M fullShare (wt3 m c) ∗ Rst m c)

/-- The proof data: the inputs stay, the other blocks are what a point leaves. -/
def dats (_ : Fin 1) (c : Dev nD) : Dat τ (Elt F) Unit ℕ (Pipeline.UD sig nD τ) ℕ cfg0 c where
  A w := V m c (Pipeline.arrRef spec0 w)
  after w t := match w with
    | 0 => iblk m c 0 t
    | 1 => iblk m c 1 t
    | 2 => iblk m c 2 t
    | 3 => iblk m c 3 t
    | 4 => iblk m c 4 t
    | 5 => iblk m c 5 t
    | 6 => iblk m c 6 t
    | 7 => iblk m c 7 t
    | 8 => iblk m c 8 t
    | 9 => iblk m c 9 t
    | 10 => dpaB (iblk m c 0 t) (iblk m c 1 t) (iblk m c 2 t) (iblk m c 4 t) (iblk m c 5 t) (iblk m c 6 t) (wt1 m c) (wt3 m c)
    | 11 => dyaB (iblk m c 0 t) (iblk m c 4 t) (wt3 m c)
    | 12 => dybB (iblk m c 0 t) (iblk m c 5 t) (wt3 m c)
    | 13 => dvaB (iblk m c 0 t) (iblk m c 3 t) (iblk m c 4 t) (wt1 m c) (wt3 m c)
    | 14 => dvbB (iblk m c 0 t) (iblk m c 5 t) (iblk m c 7 t) (iblk m c 8 t) (iblk m c 9 t) (wt2 m c) (wt3 m c)
    | 15 => acc m c t.val t.isLt
    | ⟨n + 16, h⟩ => absurd h (Nat.not_lt.2 (Nat.le_add_left 16 n))
  Φ t := PhiS m c t.val
  q w := Pipeline.shareOf spec0 w
  owed _ := 0

theorem A_eq (c : Dev nD) (w : Fin cfg0.W) : (dats m 0 c).A w = V m c (Pipeline.arrRef spec0 w) := by dsimp only [dats]

theorem before0_0 (c : Dev nD) (t : Fin cfg0.N) (d) : (dats m 0 c).before 0 t d = iblk m c 0 t :=
  ((dats m 0 c).before_in_eq_fetched 0 rfl (fun _ => rfl) (fun _ _ _ => rfl) (fun t => rfl) t d).trans rfl
theorem before0_1 (c : Dev nD) (t : Fin cfg0.N) (d) : (dats m 0 c).before 1 t d = iblk m c 1 t :=
  ((dats m 0 c).before_in_eq_fetched 1 rfl (fun _ => rfl) (fun _ _ _ => rfl) (fun t => rfl) t d).trans rfl
theorem before0_2 (c : Dev nD) (t : Fin cfg0.N) (d) : (dats m 0 c).before 2 t d = iblk m c 2 t :=
  ((dats m 0 c).before_in_eq_fetched 2 rfl (fun _ => rfl) (fun _ _ _ => rfl) (fun t => rfl) t d).trans rfl
theorem before0_3 (c : Dev nD) (t : Fin cfg0.N) (d) : (dats m 0 c).before 3 t d = iblk m c 3 t :=
  ((dats m 0 c).before_in_eq_fetched 3 rfl (fun _ => rfl) (fun _ _ _ => rfl) (fun t => rfl) t d).trans rfl
theorem before0_4 (c : Dev nD) (t : Fin cfg0.N) (d) : (dats m 0 c).before 4 t d = iblk m c 4 t :=
  ((dats m 0 c).before_in_eq_fetched 4 rfl (fun _ => rfl) (fun _ _ _ => rfl) (fun t => rfl) t d).trans rfl
theorem before0_5 (c : Dev nD) (t : Fin cfg0.N) (d) : (dats m 0 c).before 5 t d = iblk m c 5 t :=
  ((dats m 0 c).before_in_eq_fetched 5 rfl (fun _ => rfl) (fun _ _ _ => rfl) (fun t => rfl) t d).trans rfl
theorem before0_6 (c : Dev nD) (t : Fin cfg0.N) (d) : (dats m 0 c).before 6 t d = iblk m c 6 t :=
  ((dats m 0 c).before_in_eq_fetched 6 rfl (fun _ => rfl) (fun _ _ _ => rfl) (fun t => rfl) t d).trans rfl
theorem before0_7 (c : Dev nD) (t : Fin cfg0.N) (d) : (dats m 0 c).before 7 t d = iblk m c 7 t :=
  ((dats m 0 c).before_in_eq_fetched 7 rfl (fun _ => rfl) (fun _ _ _ => rfl) (fun t => rfl) t d).trans rfl
theorem before0_8 (c : Dev nD) (t : Fin cfg0.N) (d) : (dats m 0 c).before 8 t d = iblk m c 8 t :=
  ((dats m 0 c).before_in_eq_fetched 8 rfl (fun _ => rfl) (fun _ _ _ => rfl) (fun t => rfl) t d).trans rfl
theorem before0_9 (c : Dev nD) (t : Fin cfg0.N) (d) : (dats m 0 c).before 9 t d = iblk m c 9 t :=
  ((dats m 0 c).before_in_eq_fetched 9 rfl (fun _ => rfl) (fun _ _ _ => rfl) (fun t => rfl) t d).trans rfl

/-- After the first point the carried block's buffer holds what the point before left. -/
theorem before0_15 (c : Dev nD) (n : ℕ) (h : n + 1 < cfg0.N) (d) :
    (dats m 0 c).before 15 ⟨n + 1, h⟩ d = acc m c n (Nat.lt_of_succ_lt h) := by
  have hN : n + 1 < 16 := lt_of_lt_of_eq h (show cfg0.N = 16 from N_0)
  rw [Dat.before_out_kept _ 15 rfl ⟨n + 1, h⟩ (Nat.succ_ne_zero n) (Bool.eq_false_iff.mpr fun hf => by have := (flush0_15 _).mp hf; dsimp only at this; omega)
    (fun _ => rfl) (fun _ _ => rfl)]
  rfl

theorem hcond0 (t : Fin cfg0.N) : cond0_0 (grid0.coords t) ↔ t.val = 0 := by
  have hN : t.val < 16 := lt_of_lt_of_eq t.isLt (show cfg0.N = 16 from N_0)
  have e0 : (grid0.coords t 0).val = t.val / 1 % 16 := Pipeline.Grid.coords_val t 0 (by decide) rfl
  simp only [cond0_0, e0]
  have e1 : t.val / 1 % 16 = t.val := by omega
  rw [e1]
  exact (by decide : ∀ n : Fin 16, Scalar.cmpi .ne (Scalar.extui (Scalar.cmpi .eq (BitVec.ofNat 32 n.val) 0#32)) 0#32 = 1#1 ↔ n.val = 0) ⟨t.val, hN⟩

/-! ## The body obligation -/

def bodyPre (c : Dev nD) (t : Fin cfg0.N) : sProp 𝕄 :=
  iprop((dats m 0 c).Φ t.castSucc ∗ (dats m 0 c).owesAt () t.castSucc
    ∗ (∃ d, owns c.tc (st0_0 t) fullShare ((dats m 0 c).before 0 t d))
    ∗ (∃ d, owns c.tc (st0_1 t) fullShare ((dats m 0 c).before 1 t d))
    ∗ (∃ d, owns c.tc (st0_2 t) fullShare ((dats m 0 c).before 2 t d))
    ∗ (∃ d, owns c.tc (st0_3 t) fullShare ((dats m 0 c).before 3 t d))
    ∗ (∃ d, owns c.tc (st0_4 t) fullShare ((dats m 0 c).before 4 t d))
    ∗ (∃ d, owns c.tc (st0_5 t) fullShare ((dats m 0 c).before 5 t d))
    ∗ (∃ d, owns c.tc (st0_6 t) fullShare ((dats m 0 c).before 6 t d))
    ∗ (∃ d, owns c.tc (st0_7 t) fullShare ((dats m 0 c).before 7 t d))
    ∗ (∃ d, owns c.tc (st0_8 t) fullShare ((dats m 0 c).before 8 t d))
    ∗ (∃ d, owns c.tc (st0_9 t) fullShare ((dats m 0 c).before 9 t d))
    ∗ (∃ d, owns c.tc (st0_10 t) fullShare ((dats m 0 c).before 10 t d))
    ∗ (∃ d, owns c.tc (st0_11 t) fullShare ((dats m 0 c).before 11 t d))
    ∗ (∃ d, owns c.tc (st0_12 t) fullShare ((dats m 0 c).before 12 t d))
    ∗ (∃ d, owns c.tc (st0_13 t) fullShare ((dats m 0 c).before 13 t d))
    ∗ (∃ d, owns c.tc (st0_14 t) fullShare ((dats m 0 c).before 14 t d))
    ∗ (∃ d, owns c.tc (st0_15 t) fullShare ((dats m 0 c).before 15 t d)))
def bodyPost (c : Dev nD) (t : Fin cfg0.N) : sProp 𝕄 :=
  iprop((dats m 0 c).Φ t.succ ∗ (dats m 0 c).owesAt () t.succ
    ∗ owns c.tc (st0_0 t) fullShare ((dats m 0 c).after 0 t)
    ∗ owns c.tc (st0_1 t) fullShare ((dats m 0 c).after 1 t)
    ∗ owns c.tc (st0_2 t) fullShare ((dats m 0 c).after 2 t)
    ∗ owns c.tc (st0_3 t) fullShare ((dats m 0 c).after 3 t)
    ∗ owns c.tc (st0_4 t) fullShare ((dats m 0 c).after 4 t)
    ∗ owns c.tc (st0_5 t) fullShare ((dats m 0 c).after 5 t)
    ∗ owns c.tc (st0_6 t) fullShare ((dats m 0 c).after 6 t)
    ∗ owns c.tc (st0_7 t) fullShare ((dats m 0 c).after 7 t)
    ∗ owns c.tc (st0_8 t) fullShare ((dats m 0 c).after 8 t)
    ∗ owns c.tc (st0_9 t) fullShare ((dats m 0 c).after 9 t)
    ∗ owns c.tc (st0_10 t) fullShare ((dats m 0 c).after 10 t)
    ∗ owns c.tc (st0_11 t) fullShare ((dats m 0 c).after 11 t)
    ∗ owns c.tc (st0_12 t) fullShare ((dats m 0 c).after 12 t)
    ∗ owns c.tc (st0_13 t) fullShare ((dats m 0 c).after 13 t)
    ∗ owns c.tc (st0_14 t) fullShare ((dats m 0 c).after 14 t)
    ∗ owns c.tc (st0_15 t) fullShare ((dats m 0 c).after 15 t))

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).owesAt () t.succ = (dats m 0 c).owesAt () t.castSucc from rfl]
  unfold Dat.owesAt Pipeline.owesWithin
  rw [show (dats m 0 c).owed t.castSucc = 0 from rfl]
  obtain ⟨n, hn⟩ := t
  cases n with
  | zero =>
    rw [show (dats m 0 c).Φ (Fin.castSucc ⟨0, hn⟩) = Pipeline.ΦD osem0 spec0 H0 (V m) c from rfl, PhiD0_eq,
      show (dats m 0 c).Φ (Fin.succ ⟨0, hn⟩) = iprop(owns c.tc s1M fullShare (wt1 m c) ∗ owns c.tc s2M fullShare (wt2 m c) ∗ owns c.tc s3M fullShare (wt3 m c) ∗ Rst m c) from rfl]
    unfold Rst
    iintro ⟨⟨HS1, HS2, HS3, Hg, ⟨Hq0, Hq1, Hq2, Hq3, Hq4, Hq5, Hq6, Hq7, Hq8, Hq9, Hq10, Hq11, Hq12, Hq13, Hq14, Hq15, Hq16, Hq17, Hq18, Hq19, Hq20, Hq21, Hq22, Hq23⟩, Hh⟩, ⟨%W, %hW, HO⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
    iapply (runA c (grid0.coords ⟨0, hn⟩) _ _ _ _ _ _ _ _ _ _ _ _ _ _ _ _ _ _ _ _ _ _ _ _ _ _ _ _ _ _ _ _ _ _ _ _ _ _ _ _ _ _ (V m c main_v9) W ((hcond0 ⟨0, hn⟩).mpr rfl) _)
    iframe H0 H1 H2 H3 H4 H5 H6 H7 H8 H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    iframe HS1 HS2 HS3
    iframe Hq0 Hq1 Hq2 Hq3 Hq4 Hq5 Hq6 Hq7 Hq8 Hq9 Hq10 Hq11 Hq12 Hq13 Hq14 Hq15 Hq16 Hq17 Hq18 Hq19 Hq20 Hq21 Hq22 Hq23 Hh HO
    iintro ⟨H0, H1, H2, H3, H4, H5, H6, H7, H8, H9, H10, H11, H12, H13, H14, H15, HS1, HS2, HS3, Hq0, Hq1, Hq2, Hq3, Hq4, Hq5, Hq6, Hq7, Hq8, Hq9, Hq10, Hq11, Hq12, Hq13, Hq14, Hq15, Hq16, Hq17, Hq18, Hq19, Hq20, Hq21, Hq22, Hq23, Hh, ⟨%W', HO⟩⟩
    isplitl [HS1 HS2 HS3 Hg Hq0 Hq1 Hq2 Hq3 Hq4 Hq5 Hq6 Hq7 Hq8 Hq9 Hq10 Hq11 Hq12 Hq13 Hq14 Hq15 Hq16 Hq17 Hq18 Hq19 Hq20 Hq21 Hq22 Hq23 Hh]
    · iframe HS1 HS2 HS3
      iframe Hg Hq0 Hq1 Hq2 Hq3 Hq4 Hq5 Hq6 Hq7 Hq8 Hq9 Hq10 Hq11 Hq12 Hq13 Hq14 Hq15 Hq16 Hq17 Hq18 Hq19 Hq20 Hq21 Hq22 Hq23 Hh
    isplitl [HO]
    · iexists W'; isplitr; · ipureintro; exact fun _ _ => Or.inl trivial
      iexact HO
    iframe H0 H1 H2 H3 H4 H5 H6 H7 H8 H9 H10 H11 H12 H13 H14
    iexact H15
  | succ n =>
    simp only [before0_15]
    rw [show (dats m 0 c).Φ (Fin.castSucc ⟨n + 1, hn⟩) = iprop(owns c.tc s1M fullShare (wt1 m c) ∗ owns c.tc s2M fullShare (wt2 m c) ∗ owns c.tc s3M fullShare (wt3 m c) ∗ Rst m c) from rfl,
      show (dats m 0 c).Φ (Fin.succ ⟨n + 1, hn⟩) = iprop(owns c.tc s1M fullShare (wt1 m c) ∗ owns c.tc s2M fullShare (wt2 m c) ∗ owns c.tc s3M fullShare (wt3 m c) ∗ Rst m c) from rfl]
    unfold Rst
    iintro ⟨⟨HS1, HS2, HS3, HR⟩, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
    iapply (runB c (grid0.coords ⟨n + 1, hn⟩) _ _ _ _ _ _ _ _ _ _ _ _ _ _ _ _ _ _ _ _ _ _ _ _ _ _ _ _ _ _ _ _ _ _ _ _ _ _ _ _ _ _ _ (wt1 m c) (wt2 m c) (wt3 m c) (fun h => absurd ((hcond0 ⟨n + 1, hn⟩).mp h) (Nat.succ_ne_zero n)) _)
    iframe H0 H1 H2 H3 H4 H5 H6 H7 H8 H9
    isplitl [H10]; · iexists _; iexact H10
    isplitl [H11]; · iexists _; iexact H11
    isplitl [H12]; · iexists _; iexact H12
    isplitl [H13]; · iexists _; iexact H13
    isplitl [H14]; · iexists _; iexact H14
    iframe H15 HS1 HS2 HS3
    iintro ⟨H0, H1, H2, H3, H4, H5, H6, H7, H8, H9, H10, H11, H12, H13, H14, H15, HS1, HS2, HS3⟩
    isplitl [HS1 HS2 HS3 HR]
    · iframe HS1 HS2 HS3
      iexact HR
    iframe HO H0 H1 H2 H3 H4 H5 H6 H7 H8 H9 H10 H11 H12 H13 H14
    iexact H15

/-- The body table's row at the point is the body. -/
theorem defs₀_row (t : Fin cfg0.N) : defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) Variants.none () Set.univ := fun t => by
  rw [bigSep_W0, bigSep_W0, defs₀_row]
  exact triple_restated (sound_body m c t) rfl .rfl fun _ => .rfl

/-! ## The launch -/

set_option maxHeartbeats 800000 in
theorem hmainD (𝒱₀ : Variants) :
    Pipeline.HMain (Ix := Unit) (Name := ℕ) (U := Pipeline.UD sig nD τ) (Lvl := ℕ) cfgs 0 defs₀ 𝒱₀ m (main (F := F)) (V m) :=
  Pipeline.hmain_prefixes cfgs 0 defs₀ 𝒱₀ m main [hostOps0, hostOps0_1, hostOps0_2] (by simp only [List.Forall]; exact ⟨hostOps0_sub, hostOps0_1_sub, hostOps0_2_sub⟩)
    (by simp only [List.Forall]; exact ⟨hostOps0_fresh, hostOps0_1_fresh, hostOps0_2_fresh⟩) main_chain

theorem hout (c : Dev nD) : (dats m 0 c).Φ (Fin.last cfg0.N) ⊢ Pipeline.ΦD osem0 spec0 H0 (V m) c := by
  have hN : cfg0.N = 15 + 1 := N_0
  rw [show (dats m 0 c).Φ (Fin.last cfg0.N) = PhiS m c cfg0.N from rfl, hN, PhiD0_eq]
  show iprop(owns c.tc s1M fullShare (wt1 m c) ∗ owns c.tc s2M fullShare (wt2 m c) ∗ owns c.tc s3M fullShare (wt3 m c) ∗ Rst m c) ⊢ _
  iintro ⟨HS1, HS2, HS3, HR⟩
  isplitl [HS1]; · iexists _; iexact HS1
  isplitl [HS2]; · iexists _; iexact HS2
  isplitl [HS3]; · iexists _; iexact HS3
  iexact HR

set_option backward.isDefEq.respectTransparency.types false in
/-- The run: every array a window stages ends as the proof data say, every other as the region found it, and every counter at zero. -/
theorem run_main :
    θ_run defs (onTc (τ := τ) (main (F := F))) (s₀ m ρ)
      (fun r => Pipeline.FramePost cfgs (dats m) 0 (V m) r ∧ r.2.sem = fun _ => 0) :=
  Pipeline.θ_run_frame_dma_shared (Q' := _) cfgs (dats m) (0 : Fin 1) launch₀0 osem0 defs₀ Variants.none ownSemFacts0 H0 H0_sub m ρ main
    (hbody := fun c => (body_obligation m c).loose) (hq := fun _ _ _ => rfl)
    (howed := fun _ _ => rfl) (V := V m) (hmain := hmainD m Variants.none) (hA := A_eq m)
    (hin := fun _ => .rfl) (hout := hout m) (hQ' := fun _ h => h)

/-- What a run that meets the frame says of the arguments. -/
theorem args_kept {r : PUnit × MemSt nD τ sig (Elt F)} (h : Pipeline.FramePost cfgs (dats m) 0 (V m) r) (c : Dev nD) :
r.2.mem (c.tc.loc main_arg0) = m (c.tc.loc main_arg0)
    ∧ r.2.mem (c.tc.loc main_arg1) = m (c.tc.loc main_arg1)
    ∧ r.2.mem (c.tc.loc main_arg2) = m (c.tc.loc main_arg2)
    ∧ r.2.mem (c.tc.loc main_arg3) = m (c.tc.loc main_arg3)
    ∧ r.2.mem (c.tc.loc main_arg4) = m (c.tc.loc main_arg4)
    ∧ r.2.mem (c.tc.loc main_arg5) = m (c.tc.loc main_arg5)
    ∧ r.2.mem (c.tc.loc main_arg6) = m (c.tc.loc main_arg6)
    ∧ r.2.mem (c.tc.loc main_arg7) = m (c.tc.loc main_arg7)
    ∧ r.2.mem (c.tc.loc main_arg8) = m (c.tc.loc main_arg8)
    ∧ r.2.mem (c.tc.loc main_arg9) = m (c.tc.loc main_arg9)
    ∧ r.2.mem (c.tc.loc main_arg10) = m (c.tc.loc main_arg10) :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).1 6).trans (((dats m 0 c).arrAt_in 6 rfl _).trans ((A_eq m c 6).trans (V_main_arg3 m c))),
    ((h c).1 7).trans (((dats m 0 c).arrAt_in 7 rfl _).trans ((A_eq m c 7).trans (V_main_arg4 m c))),
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    ((h c).2 main_arg7 (Pipeline.mem_restRefs_of main_arg7 (by decide) (by decide))).trans (V_main_arg7 m c),
    ((h c).2 main_arg8 (Pipeline.mem_restRefs_of main_arg8 (by decide) (by decide))).trans (V_main_arg8 m c),
    ((h c).2 main_arg9 (Pipeline.mem_restRefs_of main_arg9 (by decide) (by decide))).trans (V_main_arg9 m c),
    ((h c).2 main_arg10 (Pipeline.mem_restRefs_of main_arg10 (by decide) (by decide))).trans (V_main_arg10 m c)⟩

end Cert.BwdMix.Hand

end
-- ==== Proof.BwdMix.Frames.lean ====
module

public import proofs.«01_k».proof.Defs
public import proofs.«01_k».proof.Proof.BwdMix.Body
public import proofs.«01_k».proof.Proof.Gen.BwdMix
public import proofs.«01_k».proof.Proof.Gen.BwdMixIdeal

@[expose] public section

noncomputable section

namespace Cert.BwdMix.Hand

open Idealize.ShloMosaic Idealize.ShloMosaic.TcCoe Idealize.SL.Sem

/-- At any float operations: the program runs, keeps its arguments, and ends with every counter at zero. -/
theorem frame_any {F : FTy → Type} [FloatOps F] (m : (ℓ : Loc Cert.BwdMixIdeal.nD Cert.BwdMixIdeal.τ Cert.BwdMixIdeal.sig) → Buf (Elt F) ℓ) (ρ : Dev Cert.BwdMixIdeal.nD → PrngReg) :
    θ_run (Cert.BwdMixIdeal.defs (F := F)) (onTc (τ := Cert.BwdMixIdeal.τ) (Cert.BwdMixIdeal.main (F := F))) ⟨m, fun _ => 0, ρ⟩ (fun r => (∀ c : Dev Cert.BwdMixIdeal.nD,
      r.2.mem (c.tc.loc Cert.BwdMixIdeal.main_arg0) = m (c.tc.loc Cert.BwdMixIdeal.main_arg0)
      ∧ r.2.mem (c.tc.loc Cert.BwdMixIdeal.main_arg1) = m (c.tc.loc Cert.BwdMixIdeal.main_arg1)
      ∧ r.2.mem (c.tc.loc Cert.BwdMixIdeal.main_arg2) = m (c.tc.loc Cert.BwdMixIdeal.main_arg2)
      ∧ r.2.mem (c.tc.loc Cert.BwdMixIdeal.main_arg3) = m (c.tc.loc Cert.BwdMixIdeal.main_arg3)
      ∧ r.2.mem (c.tc.loc Cert.BwdMixIdeal.main_arg4) = m (c.tc.loc Cert.BwdMixIdeal.main_arg4)
      ∧ r.2.mem (c.tc.loc Cert.BwdMixIdeal.main_arg5) = m (c.tc.loc Cert.BwdMixIdeal.main_arg5)
      ∧ r.2.mem (c.tc.loc Cert.BwdMixIdeal.main_arg6) = m (c.tc.loc Cert.BwdMixIdeal.main_arg6)
      ∧ r.2.mem (c.tc.loc Cert.BwdMixIdeal.main_arg7) = m (c.tc.loc Cert.BwdMixIdeal.main_arg7)
      ∧ r.2.mem (c.tc.loc Cert.BwdMixIdeal.main_arg8) = m (c.tc.loc Cert.BwdMixIdeal.main_arg8)
      ∧ r.2.mem (c.tc.loc Cert.BwdMixIdeal.main_arg9) = m (c.tc.loc Cert.BwdMixIdeal.main_arg9)
      ∧ r.2.mem (c.tc.loc Cert.BwdMixIdeal.main_arg10) = m (c.tc.loc Cert.BwdMixIdeal.main_arg10))
      ∧ r.2.sem = fun _ => 0) :=
  (θ_run Cert.BwdMixIdeal.defs _ _).mono (fun _ h => ⟨fun c => args_kept m h.1 c, h.2⟩) (run_main m ρ)

/-- The idealized program runs, keeps its arguments, and ends with every counter at zero. -/
theorem frame_ideal : Cert.quiescent_BwdMixIdeal (hBwdMixIdeal := Cert.BwdMixIdeal.Gen.facts) := fun m ρ _ => frame_any m ρ

set_option maxHeartbeats 4000000 in
/-- The kernel as it is compiled is the same program over words: the same run. -/
theorem frame_kernel : Cert.quiescent_BwdMix (hBwdMix := Cert.BwdMix.Gen.facts) := by
  intro m ρ _
  have h := frame_any (F := Bits) m ρ
  have hd : (Cert.BwdMix.defs (F := Bits)) = Cert.BwdMixIdeal.defs (F := Bits) := by sl_kernel_rfl
  have hm : Cert.BwdMix.main (F := Bits) = Cert.BwdMixIdeal.main (F := Bits) := by sl_kernel_rfl
  rw [hd, hm]
  exact h

end Cert.BwdMix.Hand

end
-- ==== Proof.BwdMix.Rows.lean ====
module

public import proofs.«01_k».proof.Proof.BwdIn.Algebra

@[expose] public section

noncomputable section

/-! One token's row of the merge's and the branches' gradients over the extended reals: as the kernel computes it, and as the chain rule gives it. -/

namespace Cert.MixRow

open Idealize.ShloMosaic

/-- A row less its mean. -/
def xc (u : Fin 1024 → EReal) (k : Fin 1024) : EReal := u k - Ideal.div (∑ j, u j) (Ideal.ofBits .f32 0x44800000#32)
/-- The row's variance plus the small constant. -/
def vr (u : Fin 1024 → EReal) : EReal := Ideal.div (∑ k, xc u k * xc u k) (Ideal.ofBits .f32 0x44800000#32) + Ideal.ofBits .f32 0x3727C5AC#32
/-- The row's scale. -/
def rs (u : Fin 1024 → EReal) : EReal := Ideal.rsqrt (vr u)
/-- The normalised row. -/
def nrm (u : Fin 1024 → EReal) (k : Fin 1024) : EReal := xc u k * rs u

/-- The normalisation's gradient in closed form. -/
def back (u q : Fin 1024 → EReal) (d : Fin 1024) : EReal :=
  rs u * (q d - Ideal.div (∑ k, q k) (Ideal.ofBits .f32 0x44800000#32) - nrm u d * Ideal.div (∑ k, q k * nrm u k) (Ideal.ofBits .f32 0x44800000#32))
/-- What the variance passes back to an entry of the row. -/
def share (u q : Fin 1024 → EReal) (d : Fin 1024) : EReal :=
  Ideal.div ((∑ k, xc u k * q k) * (Ideal.ofBits .f32 0xBF000000#32 * Ideal.div (rs u) (vr u))) (Ideal.ofBits .f32 0x44800000#32) * (Ideal.ofBits .f32 0x40000000#32 * xc u d)
/-- The normalisation's gradient by the chain rule. -/
def chain (u q : Fin 1024 → EReal) (d : Fin 1024) : EReal :=
  q d * rs u + share u q d + Ideal.div ((∑ k, -(q k * rs u)) + ∑ k, -share u q k) (Ideal.ofBits .f32 0x44800000#32)

/-- A token's rows: the output's gradient, the branches' outputs, the gates and the branches' inputs. -/
structure Tok where
  dm : Fin 1024 → EReal
  ya : Fin 1024 → EReal
  yb : Fin 1024 → EReal
  bg : Fin 1024 → EReal
  za : Fin 1024 → EReal
  zb : Fin 1024 → EReal
  va : Fin 1024 → EReal
  vb : Fin 1024 → EReal

/-- The gain, the offset and the weights. -/
structure Par where
  g : Fin 1024 → EReal
  b : Fin 1024 → EReal
  wa : Fin 1024 → Fin 1024 → EReal
  wb : Fin 1024 → Fin 1024 → EReal
  wo : Fin 1024 → Fin 1024 → EReal

variable (P : Par) (T : Tok)

/-- The merged row's gradient. -/
def dmg (d : Fin 1024) : EReal := ∑ k, T.dm k * P.wo d k
/-- The gates. -/
def sa (d : Fin 1024) : EReal := Ideal.logistic (T.za d)
def sb (d : Fin 1024) : EReal := Ideal.logistic (T.zb d)
/-- The norm's output and its logistic. -/
def ln (d : Fin 1024) : EReal := nrm T.vb d * P.g d + P.b d
def sl (d : Fin 1024) : EReal := Ideal.logistic (ln P T d)

/-- The gradients as the kernel computes them. -/
def dza (d : Fin 1024) : EReal := dmg P T d * T.ya d * sa T d * (1 - sa T d)
def dzb (d : Fin 1024) : EReal := dmg P T d * T.yb d * sb T d * (1 - sb T d)
def dya (d : Fin 1024) : EReal := dmg P T d * sa T d
def dyb (d : Fin 1024) : EReal := dmg P T d * sb T d
def dqa (d : Fin 1024) : EReal := ∑ k, dya P T k * P.wa d k
def dbg (d : Fin 1024) : EReal := dqa P T d * T.va d
def dva (d : Fin 1024) : EReal := dqa P T d * T.bg d
def dsb (d : Fin 1024) : EReal := ∑ k, dyb P T k * P.wb d k
def dln (d : Fin 1024) : EReal := dsb P T d * (sl P T d * (1 + ln P T d * (1 - sl P T d)))
def dn (d : Fin 1024) : EReal := dln P T d * P.g d
def dvb : Fin 1024 → EReal := back T.vb (dn P T)
/-- The three gradients side by side. -/
def dpa (n : Fin 3072) : EReal :=
  if n.val < 1024 then dbg P T ⟨n.val % 1024, Nat.mod_lt _ (by decide)⟩
  else if n.val < 2048 then dza P T ⟨n.val % 1024, Nat.mod_lt _ (by decide)⟩ else dzb P T ⟨n.val % 1024, Nat.mod_lt _ (by decide)⟩
/-- The token's term of row `a` of the sums. -/
def term (a : ℕ) (d : Fin 1024) : EReal :=
  if a = 3 then dvb P T d else if a = 1 then dln P T d else if a = 0 then dln P T d * nrm T.vb d else if a = 2 then dva P T d
  else if a = 4 then dbg P T d else if a = 6 then dzb P T d else if a = 5 then dza P T d else 0

/-- The gradients by the chain rule. -/
def dzaC (d : Fin 1024) : EReal := dmg P T d * T.ya d * (sa T d * (1 - sa T d))
def dzbC (d : Fin 1024) : EReal := dmg P T d * T.yb d * (sb T d * (1 - sb T d))
def dyaC (d : Fin 1024) : EReal := sa T d * dmg P T d
def dybC (d : Fin 1024) : EReal := sb T d * dmg P T d
def dqaC (d : Fin 1024) : EReal := ∑ k, dyaC P T k * P.wa d k
def dbgC (d : Fin 1024) : EReal := dqaC P T d * T.va d
def dvaC (d : Fin 1024) : EReal := T.bg d * dqaC P T d
def dsbC (d : Fin 1024) : EReal := ∑ k, dybC P T k * P.wb d k
def dlnC (d : Fin 1024) : EReal := dsbC P T d * sl P T d + ln P T d * dsbC P T d * (sl P T d * (1 - sl P T d))
def dnC (d : Fin 1024) : EReal := dlnC P T d * P.g d
def dvbC : Fin 1024 → EReal := chain T.vb (dnC P T)
def dpaC (n : Fin 3072) : EReal :=
  if n.val < 1024 then dbgC P T ⟨n.val % 1024, Nat.mod_lt _ (by decide)⟩
  else if n.val < 2048 then dzaC P T ⟨n.val % 1024, Nat.mod_lt _ (by decide)⟩ else dzbC P T ⟨n.val % 1024, Nat.mod_lt _ (by decide)⟩
def termC (a : ℕ) (d : Fin 1024) : EReal :=
  if a = 3 then dvbC P T d else if a = 1 then dlnC P T d else if a = 0 then nrm T.vb d * dlnC P T d else if a = 2 then dvaC P T d
  else if a = 4 then dbgC P T d else if a = 6 then dzbC P T d else if a = 5 then dzaC P T d else 0

/-! ## Products in another order -/

theorem dza_eq : dza P T = dzaC P T := by funext d; exact mul_assoc _ _ _
theorem dzb_eq : dzb P T = dzbC P T := by funext d; exact mul_assoc _ _ _
theorem dya_eq : dya P T = dyaC P T := by funext d; exact mul_comm _ _
theorem dyb_eq : dyb P T = dybC P T := by funext d; exact mul_comm _ _
theorem dqa_eq : dqa P T = dqaC P T := by funext d; unfold dqa dqaC; rw [dya_eq]
theorem dbg_eq : dbg P T = dbgC P T := by funext d; unfold dbg dbgC; rw [dqa_eq]
theorem dva_eq : dva P T = dvaC P T := by funext d; unfold dva dvaC; rw [dqa_eq]; exact mul_comm _ _
theorem dsb_eq : dsb P T = dsbC P T := by funext d; unfold dsb dsbC; rw [dyb_eq]
theorem dpa_eq : dpa P T = dpaC P T := by funext n; unfold dpa dpaC; rw [dbg_eq, dza_eq, dzb_eq]

/-! ## Real entries -/

/-- An extended real that is a real number. -/
def IsR (y : EReal) : Prop := ∃ r : ℝ, y = (r : EReal)

theorem IsR.add {a b : EReal} (ha : IsR a) (hb : IsR b) : IsR (a + b) := by
  obtain ⟨x, rfl⟩ := ha; obtain ⟨y, rfl⟩ := hb; exact ⟨x + y, by rw [EReal.coe_add]⟩
theorem IsR.mul {a b : EReal} (ha : IsR a) (hb : IsR b) : IsR (a * b) := by
  obtain ⟨x, rfl⟩ := ha; obtain ⟨y, rfl⟩ := hb; exact ⟨x * y, by rw [EReal.coe_mul]⟩
theorem IsR.sub {a b : EReal} (ha : IsR a) (hb : IsR b) : IsR (a - b) := by
  obtain ⟨x, rfl⟩ := ha; obtain ⟨y, rfl⟩ := hb; exact ⟨x - y, by rw [EReal.coe_sub]⟩
theorem IsR.one : IsR 1 := ⟨1, EReal.coe_one.symm⟩
theorem IsR.sum {n : ℕ} {u : Fin n → EReal} (h : ∀ k, IsR (u k)) : IsR (∑ k, u k) := by
  choose x hx using h
  exact ⟨∑ k, x k, by simp only [hx]; exact RealRms.sum_real _ _⟩
/-- A logistic is a real number, whatever its argument. -/
theorem IsR.logistic (a : EReal) : IsR (Ideal.logistic a) := by
  induction a using EReal.rec with
  | bot => exact ⟨0, by rw [Ideal.logistic_bot, EReal.coe_zero]⟩
  | top => exact ⟨1, by rw [Ideal.logistic_top, EReal.coe_one]⟩
  | coe r => exact ⟨_, Ideal.logistic_coe r⟩

theorem width_div (a : ℝ) : Ideal.div (a : EReal) (Ideal.ofBits .f32 0x44800000#32) = ((a / 1024 : ℝ) : EReal) := by
  rw [RealRms.width_real, RealRms.div_real _ _ (by norm_num)]
theorem two_real : Ideal.ofBits .f32 0x40000000#32 = ((2 : ℝ) : EReal) := by
  simp [Ideal.ofBits, Ideal.ieee, -EReal.coe_mul, -EReal.coe_neg]; norm_num
/-- The small constant under the root is a positive real number. -/
theorem eps_real : ∃ e : ℝ, 0 < e ∧ Ideal.ofBits .f32 0x3727C5AC#32 = (e : EReal) := by
  refine ⟨(10995116 : ℝ) * (2 : ℝ) ^ (-40 : ℤ), by positivity, ?_⟩
  simp [Ideal.ofBits, Ideal.ieee, -EReal.coe_mul, -EReal.coe_neg]

/-- A real row's centred entries are real and add up to nothing. -/
theorem xc_real {u : Fin 1024 → EReal} (h : ∀ k, IsR (u k)) : ∃ x : Fin 1024 → ℝ, (∀ k, xc u k = (x k : EReal)) ∧ ∑ k, x k = 0 := by
  choose y hy using h
  refine ⟨fun k => y k - (∑ j, y j) / 1024, fun k => ?_, ?_⟩
  · unfold xc
    simp only [hy]
    rw [RealRms.sum_real, width_div, EReal.coe_sub]
  · rw [Finset.sum_sub_distrib, Finset.sum_const, Finset.card_univ, Fintype.card_fin, nsmul_eq_mul]
    norm_num
    ring
/-- Its variance plus the small constant is a positive real number. -/
theorem vr_real {u : Fin 1024 → EReal} (h : ∀ k, IsR (u k)) : ∃ v : ℝ, 0 < v ∧ vr u = (v : EReal) := by
  obtain ⟨x, hx, -⟩ := xc_real h
  obtain ⟨e, he, hee⟩ := eps_real
  refine ⟨(∑ k, x k * x k) / 1024 + e, add_pos_of_nonneg_of_pos (div_nonneg (Finset.sum_nonneg fun k _ => mul_self_nonneg _) (by norm_num)) he, ?_⟩
  unfold vr
  simp only [hx, ← EReal.coe_mul]
  rw [hee, RealRms.sum_real, width_div, EReal.coe_add]
theorem rs_real {u : Fin 1024 → EReal} (h : ∀ k, IsR (u k)) : IsR (rs u) := by
  obtain ⟨v, hv, e⟩ := vr_real h
  exact ⟨(Real.sqrt v)⁻¹, by unfold rs; rw [e, RealRms.rsqrt_real v hv]⟩
theorem nrm_real {u : Fin 1024 → EReal} (h : ∀ k, IsR (u k)) (k : Fin 1024) : IsR (nrm u k) := by
  obtain ⟨x, hx, -⟩ := xc_real h
  exact IsR.mul ⟨_, hx k⟩ (rs_real h)

/-- The closed form and the chain rule agree at real numbers: the centred entries add up to nothing. -/
theorem norm_eq (x q : Fin 1024 → ℝ) (r v : ℝ) (hx : ∑ k, x k = 0) (hv : 0 < v) (hr : r * r * v = 1) (d : Fin 1024) :
    r * (q d - (∑ k, q k) / 1024 - x d * r * ((∑ k, q k * (x k * r)) / 1024))
      = q d * r + ((∑ k, x k * q k) * (-(1 / 2) * (r / v))) / 1024 * (2 * x d)
        + ((∑ k, -(q k * r)) + ∑ k, -(((∑ j, x j * q j) * (-(1 / 2) * (r / v))) / 1024 * (2 * x k))) / 1024 := by
  have e : r / v = r * r * r := by
    rw [div_eq_iff hv.ne']
    linear_combination (-r) * hr
  have h1 : ∑ k, q k * (x k * r) = (∑ k, x k * q k) * r := by
    rw [Finset.sum_mul]; exact Finset.sum_congr rfl fun k _ => by ring
  have h2 : ∑ k, -(q k * r) = -((∑ k, q k) * r) := by rw [Finset.sum_neg_distrib, Finset.sum_mul]
  rw [h1, h2, e]
  generalize (∑ k, x k * q k) = S
  generalize (∑ k, q k) = Q
  have h3 : ∑ k, -((S * (-(1 / 2) * (r * r * r))) / 1024 * (2 * x k)) = 0 := by
    rw [Finset.sum_neg_distrib, ← Finset.mul_sum, ← Finset.mul_sum, hx]; ring
  rw [h3]
  ring

/-- At real entries the closed form is the chain rule's. -/
theorem back_eq {u q : Fin 1024 → EReal} (hu : ∀ k, IsR (u k)) (hq : ∀ k, IsR (q k)) : back u q = chain u q := by
  funext d
  obtain ⟨v, hv, ev⟩ := vr_real hu
  obtain ⟨x, hx, hx0⟩ := xc_real hu
  choose q' hq using hq
  have er : rs u = (((Real.sqrt v)⁻¹ : ℝ) : EReal) := by unfold rs; rw [ev, RealRms.rsqrt_real v hv]
  have hs := Real.sqrt_pos.2 hv
  have hr : (Real.sqrt v)⁻¹ * (Real.sqrt v)⁻¹ * v = 1 := by
    have h := Real.mul_self_sqrt hv.le
    field_simp
    nlinarith [h]
  generalize (Real.sqrt v)⁻¹ = r at er hr
  have h := norm_eq x q' r v hx0 hv hr d
  unfold back chain share nrm
  simp only [hx, hq, er, ev, RealRms.half_real, two_real, RealRms.div_real r v hv.ne', ← EReal.coe_mul, ← EReal.coe_neg, RealRms.sum_real, width_div, ← EReal.coe_add, ← EReal.coe_sub]
  exact congrArg _ h

/-- The rows and parameters that meet a sum by parts are real. -/
structure Fin' : Prop where
  dm : ∀ k, IsR (T.dm k)
  vb : ∀ k, IsR (T.vb k)
  g : ∀ k, IsR (P.g k)
  b : ∀ k, IsR (P.b k)
  wb : ∀ n k, IsR (P.wb n k)
  wo : ∀ n k, IsR (P.wo n k)

variable {P T} (H : Fin' P T)
include H

theorem dsb_r (d : Fin 1024) : IsR (dsb P T d) :=
  IsR.sum fun k => ((IsR.sum fun j => (H.dm j).mul (H.wo k j)).mul (IsR.logistic _)).mul (H.wb d k)
theorem ln_r (d : Fin 1024) : IsR (ln P T d) := ((nrm_real H.vb d).mul (H.g d)).add (H.b d)
theorem dln_r (d : Fin 1024) : IsR (dln P T d) :=
  (dsb_r H d).mul ((IsR.logistic _).mul (IsR.one.add ((ln_r H d).mul (IsR.one.sub (IsR.logistic _)))))
theorem dln_eq : dln P T = dlnC P T := by
  funext d
  unfold dln dlnC
  rw [← dsb_eq]
  obtain ⟨a, ha⟩ := dsb_r H d
  obtain ⟨l, hl⟩ := ln_r H d
  obtain ⟨s, hs⟩ : IsR (sl P T d) := IsR.logistic _
  rw [ha, hl, hs, ← EReal.coe_one]
  simp only [← EReal.coe_mul, ← EReal.coe_add, ← EReal.coe_sub]
  refine congrArg _ ?_
  ring
theorem dvb_eq : dvb P T = dvbC P T := by
  unfold dvb dvbC
  rw [back_eq (q := dn P T) H.vb fun k => (dln_r H k).mul (H.g k)]
  have e : dn P T = dnC P T := by funext d; unfold dn dnC; rw [dln_eq H]
  rw [e]
theorem term_eq (a : ℕ) (d : Fin 1024) : term P T a d = termC P T a d := by
  unfold term termC
  rw [dvb_eq H, dln_eq H, dva_eq, dbg_eq, dzb_eq, dza_eq, mul_comm]

end Cert.MixRow

end
-- ==== Proof.BwdMix.Blocks.lean ====
module

public import proofs.«01_k».proof.Proof.BwdMix.Base
public import proofs.«01_k».proof.Proof.BwdMix.Rows
public import Idealize.ShloMosaic.Lib.Pointwise

@[expose] public section

set_option maxRecDepth 16384

noncomputable section

namespace Cert.BwdMix.Hand

open Cert.BwdMixIdeal Cert.BwdMixIdeal.Gen
open Idealize.ShloMosaic Idealize.ShloMosaic.TcCoe

/-- A window's entry is the array's entry at the offset position. -/
theorem emb_at {a b m n o0 o1 : ℕ} (h : ∀ q, (![o0, o1] : Fin 2 → ℕ) q + (![m, n] : Fin 2 → ℕ) q ≤ (⟨2, ![a, b]⟩ : Shape).size q) (i : Fin m) (j : Fin n)
    (h0 : o0 + i.val < a) (h1 : o1 + j.val < b) :
    (Rect.unit (s := ⟨2, ![a, b]⟩) ![o0, o1] ![m, n] h).emb (ix2 i j : (⟨2, ![m, n]⟩ : Shape).Idx) = ix2 ⟨o0 + i.val, h0⟩ ⟨o1 + j.val, h1⟩ := by
  funext q
  refine Fin.ext ?_
  match q with
  | 0 => show o0 + 1 * i.val = o0 + i.val; omega
  | 1 => show o1 + 1 * j.val = o1 + j.val; omega

/-- Row `p` of a block's inputs. -/
def tokB (dm ya yb bg za zb : Vec Ideal S512x1024 .bf16) (va vb : Vec Ideal S512x1024 .f32) (p : Fin 512) : MixRow.Tok :=
  ⟨fun k => dm (ix2 p k), fun k => ya (ix2 p k), fun k => yb (ix2 p k), fun k => bg (ix2 p k), fun k => za (ix2 p k), fun k => zb (ix2 p k), fun k => va (ix2 p k), fun k => vb (ix2 p k)⟩
/-- The gain, the offset and the weights a point holds. -/
def parB (lg lb : Vec Ideal S1x1024 .f32) (wa wb wo : Vec Ideal S1024x1024 .bf16) : MixRow.Par :=
  ⟨fun k => lg (ix2 0 k), fun k => lb (ix2 0 k), fun n k => wa (ix2 n k), fun n k => wb (ix2 n k), fun n k => wo (ix2 n k)⟩

variable (dm ya yb bg za zb : Vec Ideal S512x1024 .bf16) (va vb : Vec Ideal S512x1024 .f32) (lg lb : Vec Ideal S1x1024 .f32) (wa wb wo : Vec Ideal S1024x1024 .bf16) (p : Fin 512)

theorem pay3_at (d : Fin 1024) : k0_pay3 dm wo (ix2 p d) = MixRow.dmg (parB lg lb wa wb wo) (tokB dm ya yb bg za zb va vb p) d := by
  unfold k0_pay3
  pointwise []
  rfl

theorem pay4_at (d : Fin 1024) : k0_pay4 za (ix2 p d) = MixRow.sa (tokB dm ya yb bg za zb va vb p) d := by
  unfold k0_pay4
  pointwise []
  rfl

theorem pay5_at (d : Fin 1024) : k0_pay5 zb (ix2 p d) = MixRow.sb (tokB dm ya yb bg za zb va vb p) d := by
  unfold k0_pay5
  pointwise []
  rfl

theorem pay6_at (d : Fin 1024) : k0_pay6 (k0_pay3 dm wo) za ya (ix2 p d) = MixRow.dza (parB lg lb wa wb wo) (tokB dm ya yb bg za zb va vb p) d := by
  have h0 := pay3_at dm ya yb bg za zb va vb lg lb wa wb wo p
  have h1 := pay4_at dm ya yb bg za zb va vb p
  unfold k0_pay6
  generalize k0_pay3 dm wo = X0 at h0 ⊢
  generalize k0_pay4 za = X1 at h1 ⊢
  pointwise []
  simp only [h0, h1]
  rfl

theorem pay7_at (d : Fin 1024) : k0_pay7 (k0_pay3 dm wo) zb yb (ix2 p d) = MixRow.dzb (parB lg lb wa wb wo) (tokB dm ya yb bg za zb va vb p) d := by
  have h0 := pay3_at dm ya yb bg za zb va vb lg lb wa wb wo p
  have h1 := pay5_at dm ya yb bg za zb va vb p
  unfold k0_pay7
  generalize k0_pay3 dm wo = X0 at h0 ⊢
  generalize k0_pay5 zb = X1 at h1 ⊢
  pointwise []
  simp only [h0, h1]
  rfl

theorem pay14_at (d : Fin 1024) : k0_pay14 (k0_pay3 dm wo) (k0_pay4 za) (ix2 p d) = MixRow.dya (parB lg lb wa wb wo) (tokB dm ya yb bg za zb va vb p) d := by
  have h0 := pay3_at dm ya yb bg za zb va vb lg lb wa wb wo p
  have h1 := pay4_at dm ya yb bg za zb va vb p
  unfold k0_pay14
  generalize k0_pay3 dm wo = X0 at h0 ⊢
  generalize k0_pay4 za = X1 at h1 ⊢
  pointwise []
  simp only [h0, h1]
  rfl

theorem pay21_at (d : Fin 1024) : k0_pay21 (k0_pay3 dm wo) (k0_pay5 zb) (ix2 p d) = MixRow.dyb (parB lg lb wa wb wo) (tokB dm ya yb bg za zb va vb p) d := by
  have h0 := pay3_at dm ya yb bg za zb va vb lg lb wa wb wo p
  have h1 := pay5_at dm ya yb bg za zb va vb p
  unfold k0_pay21
  generalize k0_pay3 dm wo = X0 at h0 ⊢
  generalize k0_pay5 zb = X1 at h1 ⊢
  pointwise []
  simp only [h0, h1]
  rfl

theorem pay15_at (d : Fin 1024) : k0_pay15 (k0_pay3 dm wo) (k0_pay4 za) wa (ix2 p d) = MixRow.dqa (parB lg lb wa wb wo) (tokB dm ya yb bg za zb va vb p) d := by
  have h0 := pay14_at dm ya yb bg za zb va vb lg lb wa wb wo p
  unfold k0_pay15
  generalize k0_pay14 (k0_pay3 dm wo) (k0_pay4 za) = X0 at h0 ⊢
  pointwise []
  simp only [h0]
  rfl

theorem pay22_at (d : Fin 1024) : k0_pay22 (k0_pay3 dm wo) (k0_pay5 zb) wb (ix2 p d) = MixRow.dsb (parB lg lb wa wb wo) (tokB dm ya yb bg za zb va vb p) d := by
  have h0 := pay21_at dm ya yb bg za zb va vb lg lb wa wb wo p
  unfold k0_pay22
  generalize k0_pay21 (k0_pay3 dm wo) (k0_pay5 zb) = X0 at h0 ⊢
  pointwise []
  simp only [h0]
  rfl

theorem pay16_at (d : Fin 1024) : k0_pay16 (k0_pay3 dm wo) (k0_pay4 za) wa va (ix2 p d) = MixRow.dbg (parB lg lb wa wb wo) (tokB dm ya yb bg za zb va vb p) d := by
  have h0 := pay15_at dm ya yb bg za zb va vb lg lb wa wb wo p
  unfold k0_pay16
  generalize k0_pay15 (k0_pay3 dm wo) (k0_pay4 za) wa = X0 at h0 ⊢
  pointwise []
  simp only [h0]
  rfl

theorem pay19_at (d : Fin 1024) : k0_pay19 (k0_pay3 dm wo) (k0_pay4 za) wa bg (ix2 p d) = MixRow.dva (parB lg lb wa wb wo) (tokB dm ya yb bg za zb va vb p) d := by
  have h0 := pay15_at dm ya yb bg za zb va vb lg lb wa wb wo p
  unfold k0_pay19
  generalize k0_pay15 (k0_pay3 dm wo) (k0_pay4 za) wa = X0 at h0 ⊢
  pointwise []
  simp only [h0]
  rfl

theorem pay23_at (d : Fin 1024) : k0_pay23 vb (ix2 p d) = MixRow.xc (tokB dm ya yb bg za zb va vb p).vb d := by
  unfold k0_pay23
  pointwise []
  rfl

theorem pay24_at (q : Fin 1) : k0_pay24 vb (ix2 p q) = MixRow.rs (tokB dm ya yb bg za zb va vb p).vb := by
  have h0 := pay23_at dm ya yb bg za zb va vb p
  unfold k0_pay24
  generalize k0_pay23 vb = X0 at h0 ⊢
  pointwise []
  simp only [h0]
  rfl

theorem pay25_at (d : Fin 1024) : k0_pay25 vb (ix2 p d) = MixRow.nrm (tokB dm ya yb bg za zb va vb p).vb d := by
  have h0 := pay23_at dm ya yb bg za zb va vb p
  have h1 := pay24_at dm ya yb bg za zb va vb p
  unfold k0_pay25
  generalize k0_pay23 vb = X0 at h0 ⊢
  generalize k0_pay24 vb = X1 at h1 ⊢
  pointwise []
  simp only [h0, h1]
  rfl

theorem pay27_at (d : Fin 1024) : k0_pay27 vb lg lb (ix2 p d) = MixRow.ln (parB lg lb wa wb wo) (tokB dm ya yb bg za zb va vb p) d := by
  have h0 := pay25_at dm ya yb bg za zb va vb p
  unfold k0_pay27
  generalize k0_pay25 vb = X0 at h0 ⊢
  pointwise [k0_pay26]
  simp only [h0]
  rfl

theorem pay28_at (d : Fin 1024) : k0_pay28 vb lg lb (ix2 p d) = MixRow.sl (parB lg lb wa wb wo) (tokB dm ya yb bg za zb va vb p) d := by
  have h0 := pay27_at dm ya yb bg za zb va vb lg lb wa wb wo p
  unfold k0_pay28
  generalize k0_pay27 vb lg lb = X0 at h0 ⊢
  pointwise []
  simp only [h0]
  rfl

theorem pay29_at (d : Fin 1024) : k0_pay29 (k0_pay22 (k0_pay3 dm wo) (k0_pay5 zb) wb) (k0_pay27 vb lg lb) (k0_pay28 vb lg lb) (ix2 p d) = MixRow.dln (parB lg lb wa wb wo) (tokB dm ya yb bg za zb va vb p) d := by
  have h0 := pay22_at dm ya yb bg za zb va vb lg lb wa wb wo p
  have h1 := pay27_at dm ya yb bg za zb va vb lg lb wa wb wo p
  have h2 := pay28_at dm ya yb bg za zb va vb lg lb wa wb wo p
  unfold k0_pay29
  generalize k0_pay22 (k0_pay3 dm wo) (k0_pay5 zb) wb = X0 at h0 ⊢
  generalize k0_pay27 vb lg lb = X1 at h1 ⊢
  generalize k0_pay28 vb lg lb = X2 at h2 ⊢
  pointwise []
  simp only [h0, h1, h2]
  rfl

theorem pay32_at (d : Fin 1024) : k0_pay32 (k0_pay22 (k0_pay3 dm wo) (k0_pay5 zb) wb) (k0_pay24 vb) (k0_pay25 vb) (k0_pay26 lg) (k0_pay27 vb lg lb) (k0_pay28 vb lg lb) (ix2 p d) = MixRow.dvb (parB lg lb wa wb wo) (tokB dm ya yb bg za zb va vb p) d := by
  have h0 := pay29_at dm ya yb bg za zb va vb lg lb wa wb wo p
  have h1 := pay24_at dm ya yb bg za zb va vb p
  have h2 := pay25_at dm ya yb bg za zb va vb p
  unfold k0_pay32
  generalize k0_pay29 (k0_pay22 (k0_pay3 dm wo) (k0_pay5 zb) wb) (k0_pay27 vb lg lb) (k0_pay28 vb lg lb) = X0 at h0 ⊢
  generalize k0_pay24 vb = X1 at h1 ⊢
  generalize k0_pay25 vb = X2 at h2 ⊢
  pointwise [k0_pay26]
  simp only [h0, h1, h2]
  rfl

theorem dpaB_at (n : Fin 3072) : dpaB dm ya yb za zb va wa wo (ix2 p n) = MixRow.dpa (parB lg lb wa wb wo) (tokB dm ya yb bg za zb va vb p) n := by
  have h0 := pay16_at dm ya yb bg za zb va vb lg lb wa wb wo p
  have h1 := pay6_at dm ya yb bg za zb va vb lg lb wa wb wo p
  have h2 := pay7_at dm ya yb bg za zb va vb lg lb wa wb wo p
  unfold dpaB
  show (if n.val < 1024 then k0_pay17 (k0_pay3 dm wo) (k0_pay4 za) wa va (ix2 p ⟨n.val % 1024, _⟩) else if n.val < 2048 then k0_pay8 (k0_pay3 dm wo) za ya (ix2 p ⟨n.val % 1024, _⟩) else k0_pay9 (k0_pay3 dm wo) zb yb (ix2 p ⟨n.val % 1024, _⟩)) = _
  unfold k0_pay17 k0_pay8 k0_pay9
  generalize k0_pay16 (k0_pay3 dm wo) (k0_pay4 za) wa va = X0 at h0 ⊢
  generalize k0_pay6 (k0_pay3 dm wo) za ya = X1 at h1 ⊢
  generalize k0_pay7 (k0_pay3 dm wo) zb yb = X2 at h2 ⊢
  pointwise []
  simp only [h0, h1, h2]
  rfl

variable (old : Vec Ideal S8x1024 .f32) (d : Fin 1024)

/-- A row of the carried block. -/
theorem old_at (old : Vec Ideal S8x1024 .f32) (o : ℕ) (h : ∀ q, (![o, 0] : Fin 2 → ℕ) q + S1x1024.size q ≤ S8x1024.size q) (k : Fin 1024) (ho : o < 8) :
    VecWindow.window old ![o, 0] S1x1024.size h (ix2 0 k) = old (ix2 ⟨o, ho⟩ k) := by
  refine (congrArg old (emb_at h 0 k ho (by omega))).trans (congrArg old ?_)
  funext r; refine Fin.ext ?_
  match r with
  | 0 => rfl
  | 1 => show 0 + k.val = k.val; omega

/-- A block with row `o` replaced. -/
theorem put_at (old : Vec Ideal S8x1024 .f32) (o : ℕ) (v : Vec Ideal S1x1024 .f32) (a : Fin 8) (d : Fin 1024) :
    VecWindow.put old ![o, 0] S1x1024.size v (ix2 a d) = if a.val = o then v (ix2 0 d) else old (ix2 a d) := by
  unfold VecWindow.put
  by_cases ha : a.val = o
  · have hb : ∀ r : Fin 2, (![o, 0] : Fin 2 → ℕ) r ≤ ((ix2 a d : S8x1024.Idx) r).val ∧ ((ix2 a d : S8x1024.Idx) r).val < (![o, 0] : Fin 2 → ℕ) r + S1x1024.size r := by
      intro r
      match r with
      | 0 => exact ⟨by show o ≤ a.val; omega, by show a.val < o + 1; omega⟩
      | 1 => exact ⟨Nat.zero_le _, by show d.val < 0 + 1024; omega⟩
    rw [dif_pos hb, if_pos ha]
    refine congrArg v ?_
    funext r; refine Fin.ext ?_
    match r with
    | 0 => show a.val - o = 0; omega
    | 1 => show d.val - 0 = d.val; omega
  · rw [dif_neg (fun h => ha (by have h1 : o ≤ a.val := (h 0).1; have h2 : a.val < o + 1 := (h 0).2; omega)), if_neg ha]

theorem row5_at (v : Vec Ideal S1x1024 .f32) : k0_pay12 (k0_pay10 v) (k0_pay11 (k0_pay3 dm wo) za ya) (ix2 0 d) = v (ix2 0 d) + ∑ p : Fin 512, MixRow.dza (parB lg lb wa wb wo) (tokB dm ya yb bg za zb va vb p) d := by
  have h0 := fun p => pay6_at dm ya yb bg za zb va vb lg lb wa wb wo p
  unfold k0_pay12 k0_pay10 k0_pay11
  generalize k0_pay6 (k0_pay3 dm wo) za ya = X0 at h0 ⊢
  pointwise []
  simp only [h0]

theorem row6_at (v : Vec Ideal S1x1024 .f32) : k0_pay13 (k0_pay7 (k0_pay3 dm wo) zb yb) v (ix2 0 d) = v (ix2 0 d) + ∑ p : Fin 512, MixRow.dzb (parB lg lb wa wb wo) (tokB dm ya yb bg za zb va vb p) d := by
  have h0 := fun p => pay7_at dm ya yb bg za zb va vb lg lb wa wb wo p
  unfold k0_pay13
  generalize k0_pay7 (k0_pay3 dm wo) zb yb = X0 at h0 ⊢
  pointwise []
  simp only [h0]

theorem row4_at (v : Vec Ideal S1x1024 .f32) : k0_pay18 (k0_pay3 dm wo) (k0_pay4 za) wa va v (ix2 0 d) = v (ix2 0 d) + ∑ p : Fin 512, MixRow.dbg (parB lg lb wa wb wo) (tokB dm ya yb bg za zb va vb p) d := by
  have h0 := fun p => pay16_at dm ya yb bg za zb va vb lg lb wa wb wo p
  unfold k0_pay18
  generalize k0_pay16 (k0_pay3 dm wo) (k0_pay4 za) wa va = X0 at h0 ⊢
  pointwise []
  simp only [h0]

theorem row2_at (v : Vec Ideal S1x1024 .f32) : k0_pay20 (k0_pay19 (k0_pay3 dm wo) (k0_pay4 za) wa bg) v (ix2 0 d) = v (ix2 0 d) + ∑ p : Fin 512, MixRow.dva (parB lg lb wa wb wo) (tokB dm ya yb bg za zb va vb p) d := by
  have h0 := fun p => pay19_at dm ya yb bg za zb va vb lg lb wa wb wo p
  unfold k0_pay20
  generalize k0_pay19 (k0_pay3 dm wo) (k0_pay4 za) wa bg = X0 at h0 ⊢
  pointwise []
  simp only [h0]

theorem row1_at (v : Vec Ideal S1x1024 .f32) : k0_pay31 (k0_pay22 (k0_pay3 dm wo) (k0_pay5 zb) wb) (k0_pay27 vb lg lb) (k0_pay28 vb lg lb) v (ix2 0 d) = v (ix2 0 d) + ∑ p : Fin 512, MixRow.dln (parB lg lb wa wb wo) (tokB dm ya yb bg za zb va vb p) d := by
  have h0 := fun p => pay29_at dm ya yb bg za zb va vb lg lb wa wb wo p
  unfold k0_pay31
  generalize k0_pay29 (k0_pay22 (k0_pay3 dm wo) (k0_pay5 zb) wb) (k0_pay27 vb lg lb) (k0_pay28 vb lg lb) = X0 at h0 ⊢
  pointwise []
  simp only [h0]

theorem row3_at (v : Vec Ideal S1x1024 .f32) : k0_pay1 (k0_pay32 (k0_pay22 (k0_pay3 dm wo) (k0_pay5 zb) wb) (k0_pay24 vb) (k0_pay25 vb) (k0_pay26 lg) (k0_pay27 vb lg lb) (k0_pay28 vb lg lb)) v (ix2 0 d) = v (ix2 0 d) + ∑ p : Fin 512, MixRow.dvb (parB lg lb wa wb wo) (tokB dm ya yb bg za zb va vb p) d := by
  have h0 := fun p => pay32_at dm ya yb bg za zb va vb lg lb wa wb wo p
  unfold k0_pay1
  generalize k0_pay32 (k0_pay22 (k0_pay3 dm wo) (k0_pay5 zb) wb) (k0_pay24 vb) (k0_pay25 vb) (k0_pay26 lg) (k0_pay27 vb lg lb) (k0_pay28 vb lg lb) = X0 at h0 ⊢
  pointwise []
  simp only [h0]

theorem row0_at (v : Vec Ideal S1x1024 .f32) : k0_pay30 (k0_pay22 (k0_pay3 dm wo) (k0_pay5 zb) wb) (k0_pay25 vb) (k0_pay27 vb lg lb) (k0_pay28 vb lg lb) v (ix2 0 d) = v (ix2 0 d) + ∑ p : Fin 512, MixRow.dln (parB lg lb wa wb wo) (tokB dm ya yb bg za zb va vb p) d * MixRow.nrm (tokB dm ya yb bg za zb va vb p).vb d := by
  have h0 := fun p => pay29_at dm ya yb bg za zb va vb lg lb wa wb wo p
  have h1 := fun p => pay25_at dm ya yb bg za zb va vb p
  unfold k0_pay30
  generalize k0_pay29 (k0_pay22 (k0_pay3 dm wo) (k0_pay5 zb) wb) (k0_pay27 vb lg lb) (k0_pay28 vb lg lb) = X0 at h0 ⊢
  generalize k0_pay25 vb = X1 at h1 ⊢
  pointwise []
  simp only [h0, h1]

theorem rowsB_at (a : Fin 8) : rowsB dm ya yb bg za zb va vb lg lb wa wb wo old (ix2 a d) = old (ix2 a d) + ∑ p : Fin 512, MixRow.term (parB lg lb wa wb wo) (tokB dm ya yb bg za zb va vb p) a.val d := by
  unfold rowsB MixRow.term
  rw [put_at, put_at, put_at, put_at, put_at, put_at, put_at, row3_at dm ya yb bg za zb va vb lg lb wa wb wo, row1_at dm ya yb bg za zb va vb lg lb wa wb wo, row0_at dm ya yb bg za zb va vb lg lb wa wb wo, row2_at dm ya yb bg za zb va vb lg lb wa wb wo, row4_at dm ya yb bg za zb va vb lg lb wa wb wo, row6_at dm ya yb bg za zb va vb lg lb wa wb wo, row5_at dm ya yb bg za zb va vb lg lb wa wb wo]
  rw [old_at old 3 _ d (by omega), old_at old 1 _ d (by omega), old_at old 0 _ d (by omega), old_at old 2 _ d (by omega), old_at old 4 _ d (by omega), old_at old 6 _ d (by omega), old_at old 5 _ d (by omega)]
  by_cases h3 : a.val = 3
  · have e : a = ⟨3, by omega⟩ := Fin.ext h3
    simp only [if_pos h3]; rw [e]
  by_cases h1 : a.val = 1
  · have e : a = ⟨1, by omega⟩ := Fin.ext h1
    simp only [if_neg h3, if_pos h1]; rw [e]
  by_cases h0 : a.val = 0
  · have e : a = ⟨0, by omega⟩ := Fin.ext h0
    simp only [if_neg h3, if_neg h1, if_pos h0]; rw [e]
  by_cases h2 : a.val = 2
  · have e : a = ⟨2, by omega⟩ := Fin.ext h2
    simp only [if_neg h3, if_neg h1, if_neg h0, if_pos h2]; rw [e]
  by_cases h4 : a.val = 4
  · have e : a = ⟨4, by omega⟩ := Fin.ext h4
    simp only [if_neg h3, if_neg h1, if_neg h0, if_neg h2, if_pos h4]; rw [e]
  by_cases h6 : a.val = 6
  · have e : a = ⟨6, by omega⟩ := Fin.ext h6
    simp only [if_neg h3, if_neg h1, if_neg h0, if_neg h2, if_neg h4, if_pos h6]; rw [e]
  by_cases h5 : a.val = 5
  · have e : a = ⟨5, by omega⟩ := Fin.ext h5
    simp only [if_neg h3, if_neg h1, if_neg h0, if_neg h2, if_neg h4, if_neg h6, if_pos h5]; rw [e]
  · simp only [if_neg h3, if_neg h1, if_neg h0, if_neg h2, if_neg h4, if_neg h6, if_neg h5, Finset.sum_const_zero, add_zero]

end Cert.BwdMix.Hand

end
-- ==== Proof.BwdMix.Host.lean ====
module

public import proofs.«01_k».proof.Proof.BwdMix.Blocks
public import proofs.«01_k».proof.Proof.BwdMix.Body
public import Idealize.ShloMosaic.Lib.StableHlo.ReadAt
public import Idealize.ShloMosaic.Lib.Pipeline.ValueKit

@[expose] public section

set_option maxRecDepth 16384

noncomputable section

/-! What the windows and the assembled weights hold, in terms of the program's arguments. -/

namespace Cert.MixRow

open Idealize.ShloMosaic

/-- The second branch's activation of a row: the norm's output times its logistic. -/
def act (u g b : Fin 1024 → EReal) (k : Fin 1024) : EReal := (nrm u k * g k + b k) * Ideal.logistic (nrm u k * g k + b k)
/-- Token `s`'s rows, read off the arguments. -/
def tokA (x0 x1 x2 x3 x4 : Vec Ideal ⟨2, ![8192, 1024]⟩ .f32) (x5 x6 : Vec Ideal ⟨1, ![1024]⟩ .f32) (x7 x8 : Vec Ideal ⟨2, ![1024, 1024]⟩ .f32) (x10 : Vec Ideal ⟨2, ![8192, 1024]⟩ .f32) (s : Fin 8192) : Tok :=
  ⟨fun k => x10 (ix2 s k), fun d => ∑ k : Fin 1024, x0 (ix2 s k) * x3 (ix2 s k) * x7 (ix2 k d),
    fun d => ∑ k : Fin 1024, act (fun j => x4 (ix2 s j)) (fun j => x5 (ix1 j)) (fun j => x6 (ix1 j)) k * x8 (ix2 k d),
    fun k => x0 (ix2 s k), fun k => x1 (ix2 s k), fun k => x2 (ix2 s k), fun k => x3 (ix2 s k), fun k => x4 (ix2 s k)⟩
/-- The gain, the offset and the weights, read off the arguments. -/
def parA (x5 x6 : Vec Ideal ⟨1, ![1024]⟩ .f32) (x7 x8 x9 : Vec Ideal ⟨2, ![1024, 1024]⟩ .f32) : Par :=
  ⟨fun k => x5 (ix1 k), fun k => x6 (ix1 k), fun n k => x7 (ix2 n k), fun n k => x8 (ix2 n k), fun n k => x9 (ix2 n k)⟩

end Cert.MixRow

namespace Cert.BwdMix.Hand

open Cert.BwdMixIdeal Cert.BwdMixIdeal.Gen
open Idealize.ShloMosaic TcCoe Tactic
open Idealize.SL Idealize.SL.Sem

variable (m : (ℓ : Loc nD τ sig) → Buf (Elt Ideal) ℓ) (c : Dev nD)

/-- The eleven arguments. -/
abbrev aBg : Vec Ideal S8192x1024 .f32 := m (c.tc.loc main_arg0)
abbrev aZa : Vec Ideal S8192x1024 .f32 := m (c.tc.loc main_arg1)
abbrev aZb : Vec Ideal S8192x1024 .f32 := m (c.tc.loc main_arg2)
abbrev aVa : Vec Ideal S8192x1024 .f32 := m (c.tc.loc main_arg3)
abbrev aVb : Vec Ideal S8192x1024 .f32 := m (c.tc.loc main_arg4)
abbrev aLg : Vec Ideal S1024 .f32 := m (c.tc.loc main_arg5)
abbrev aLb : Vec Ideal S1024 .f32 := m (c.tc.loc main_arg6)
abbrev aWa : Vec Ideal S1024x1024 .f32 := m (c.tc.loc main_arg7)
abbrev aWb : Vec Ideal S1024x1024 .f32 := m (c.tc.loc main_arg8)
abbrev aWo : Vec Ideal S1024x1024 .f32 := m (c.tc.loc main_arg9)
abbrev aDm : Vec Ideal S8192x1024 .f32 := m (c.tc.loc main_arg10)

/-- The memory's token and its gain, offset and weights. -/
abbrev tok (s : Fin 8192) : MixRow.Tok := MixRow.tokA (aBg m c) (aZa m c) (aZb m c) (aVa m c) (aVb m c) (aLg m c) (aLb m c) (aWa m c) (aWb m c) (aDm m c) s
abbrev par : MixRow.Par := MixRow.parA (aLg m c) (aLb m c) (aWa m c) (aWb m c) (aWo m c)

/-! ## The arrays the host prepares -/

theorem dm_at (s : Fin 8192) (d : Fin 1024) : V m c main_v38 (ix2 s d) = aDm m c (ix2 s d) := by
  unfold V
  after_reads_at
theorem ya_at (s : Fin 8192) (d : Fin 1024) : V m c main_v39 (ix2 s d) = (tok m c s).ya d := by
  unfold V
  after_reads_at
  pointwise [MixRow.tokA]
theorem yb_at (s : Fin 8192) (d : Fin 1024) : V m c main_v40 (ix2 s d) = (tok m c s).yb d := by
  unfold V
  after_reads_at
  pointwise [MixRow.tokA]
  rfl
theorem bg_at (s : Fin 8192) (d : Fin 1024) : V m c main_v2 (ix2 s ⟨d.val, by omega⟩) = aBg m c (ix2 s d) := by
  unfold V
  after_reads_at
  after_reads_at
theorem za_at (s : Fin 8192) (d : Fin 1024) : V m c main_v2 (ix2 s ⟨5120 + d.val, by omega⟩) = aZa m c (ix2 s d) := by
  unfold V
  after_reads_at
  rw [dif_neg (by omega), dif_neg (by omega), dif_pos (by omega)]
  after_reads_at
  refine congrArg _ (congrArg (ix2 s) (Fin.ext ?_))
  show 5120 + d.val - 1024 - 4096 = d.val
  omega
theorem zb_at (s : Fin 8192) (d : Fin 1024) : V m c main_v2 (ix2 s ⟨6144 + d.val, by omega⟩) = aZb m c (ix2 s d) := by
  unfold V
  after_reads_at
  rw [dif_neg (by omega), dif_neg (by omega), dif_neg (by omega)]
  after_reads_at
  refine congrArg _ (congrArg (ix2 s) (Fin.ext ?_))
  show 6144 + d.val - 1024 - 4096 - 1024 = d.val
  omega
theorem lg_at (d : Fin 1024) : V m c main_v41 (ix2 0 d) = aLg m c (ix1 d) := by
  unfold V
  after_reads_at
theorem lb_at (d : Fin 1024) : V m c main_v42 (ix2 0 d) = aLb m c (ix1 d) := by
  unfold V
  after_reads_at

/-- A slab's rows are a block of rows of each weight in turn. -/
theorem slab0 (a : Fin 8) (r : Fin 128) (d : Fin 1024) : V m c main_v9 (ix3 a ⟨0 + r.val, by omega⟩ d) = aWa m c (ix2 ⟨a.val * 128 + r.val, by omega⟩ d) := by
  unfold V
  after_reads_at
  after_reads_at
theorem slab1 (a : Fin 8) (r : Fin 128) (d : Fin 1024) : V m c main_v9 (ix3 a ⟨128 + r.val, by omega⟩ d) = aWb m c (ix2 ⟨a.val * 128 + r.val, by omega⟩ d) := by
  unfold V
  after_reads_at
  after_reads_at
theorem slab2 (a : Fin 8) (r : Fin 128) (d : Fin 1024) : V m c main_v9 (ix3 a ⟨256 + r.val, by omega⟩ d) = aWo m c (ix2 ⟨a.val * 128 + r.val, by omega⟩ d) := by
  unfold V
  after_reads_at
  rw [dif_neg (by omega), dif_neg (by omega)]
  after_reads_at
  refine congrArg _ (congrArg (fun q => ix2 q d) (Fin.ext ?_))
  show a.val * 128 + (256 + r.val - 128 - 128) = a.val * 128 + r.val
  omega

/-- Assembled weight 1 is the argument. -/
theorem wt1_at (n d : Fin 1024) : wt1 m c (ix2 n d) = aWa m c (ix2 n d) := by
  show V m c main_v9 (slabIdx 0 (ix2 n d)) = _
  have e : slabIdx 0 (ix2 n d) = ix3 ⟨n.val / 128, by omega⟩ ⟨0 + n.val % 128, by omega⟩ d := by
    funext r; refine Fin.ext ?_
    match r with
    | 0 => rfl
    | 1 => rfl
    | 2 => rfl
  rw [e]
  refine (slab0 m c ⟨n.val / 128, by omega⟩ ⟨n.val % 128, by omega⟩ d).trans (congrArg (fun q => aWa m c (ix2 q d)) (Fin.ext ?_))
  show n.val / 128 * 128 + n.val % 128 = n.val
  omega
/-- Assembled weight 2 is the argument. -/
theorem wt2_at (n d : Fin 1024) : wt2 m c (ix2 n d) = aWb m c (ix2 n d) := by
  show V m c main_v9 (slabIdx 128 (ix2 n d)) = _
  have e : slabIdx 128 (ix2 n d) = ix3 ⟨n.val / 128, by omega⟩ ⟨128 + n.val % 128, by omega⟩ d := by
    funext r; refine Fin.ext ?_
    match r with
    | 0 => rfl
    | 1 => rfl
    | 2 => rfl
  rw [e]
  refine (slab1 m c ⟨n.val / 128, by omega⟩ ⟨n.val % 128, by omega⟩ d).trans (congrArg (fun q => aWb m c (ix2 q d)) (Fin.ext ?_))
  show n.val / 128 * 128 + n.val % 128 = n.val
  omega
/-- Assembled weight 3 is the argument. -/
theorem wt3_at (n d : Fin 1024) : wt3 m c (ix2 n d) = aWo m c (ix2 n d) := by
  show V m c main_v9 (slabIdx 256 (ix2 n d)) = _
  have e : slabIdx 256 (ix2 n d) = ix3 ⟨n.val / 128, by omega⟩ ⟨256 + n.val % 128, by omega⟩ d := by
    funext r; refine Fin.ext ?_
    match r with
    | 0 => rfl
    | 1 => rfl
    | 2 => rfl
  rw [e]
  refine (slab2 m c ⟨n.val / 128, by omega⟩ ⟨n.val % 128, by omega⟩ d).trans (congrArg (fun q => aWo m c (ix2 q d)) (Fin.ext ?_))
  show n.val / 128 * 128 + n.val % 128 = n.val
  omega

/-! ## The windows' blocks -/

/-- The row of the arrays that row `p` of point `t`'s block is. -/
abbrev row (t : Fin cfg0.N) (p : Fin 512) : Fin 8192 := ⟨t.val * 512 + p.val, by have h : t.val < 16 := t.isLt; omega⟩

theorem e0 : ∀ t : Fin cfg0.N, win0_0.index t = ![t.val, 0] := by decide +kernel
theorem e1 : ∀ t : Fin cfg0.N, win0_1.index t = ![t.val, 0] := by decide +kernel
theorem e2 : ∀ t : Fin cfg0.N, win0_2.index t = ![t.val, 0] := by decide +kernel
theorem e3 : ∀ t : Fin cfg0.N, win0_3.index t = ![t.val, 0] := by decide +kernel
theorem e4 : ∀ t : Fin cfg0.N, win0_4.index t = ![t.val, 5] := by decide +kernel
theorem e5 : ∀ t : Fin cfg0.N, win0_5.index t = ![t.val, 6] := by decide +kernel
theorem e6 : ∀ t : Fin cfg0.N, win0_6.index t = ![t.val, 0] := by decide +kernel
theorem e7 : ∀ t : Fin cfg0.N, win0_7.index t = ![t.val, 0] := by decide +kernel
theorem e10 : ∀ t : Fin cfg0.N, win0_10.index t = ![t.val, 0] := by decide +kernel
theorem e11 : ∀ t : Fin cfg0.N, win0_11.index t = ![t.val, 0] := by decide +kernel
theorem e12 : ∀ t : Fin cfg0.N, win0_12.index t = ![t.val, 0] := by decide +kernel
theorem e13 : ∀ t : Fin cfg0.N, win0_13.index t = ![t.val, 0] := by decide +kernel
theorem e14 : ∀ t : Fin cfg0.N, win0_14.index t = ![t.val, 0] := by decide +kernel
theorem e8 : ∀ t : Fin cfg0.N, win0_8.index t = ![0, 0] := by decide +kernel
theorem e9 : ∀ t : Fin cfg0.N, win0_9.index t = ![0, 0] := by decide +kernel
theorem emb10 (t : Fin cfg0.N) (p : Fin 512) (d : Fin 3072) : (win0_10.blk t).view.emb (ix2 p d) = (ix2 (row t p) d : S8192x3072.Idx) := by blk_ext [e10]
theorem emb11 (t : Fin cfg0.N) (p : Fin 512) (d : Fin 1024) : (win0_11.blk t).view.emb (ix2 p d) = (ix2 (row t p) d : S8192x1024.Idx) := by blk_ext [e11]
theorem emb12 (t : Fin cfg0.N) (p : Fin 512) (d : Fin 1024) : (win0_12.blk t).view.emb (ix2 p d) = (ix2 (row t p) d : S8192x1024.Idx) := by blk_ext [e12]
theorem emb13 (t : Fin cfg0.N) (p : Fin 512) (d : Fin 1024) : (win0_13.blk t).view.emb (ix2 p d) = (ix2 (row t p) d : S8192x1024.Idx) := by blk_ext [e13]
theorem emb14 (t : Fin cfg0.N) (p : Fin 512) (d : Fin 1024) : (win0_14.blk t).view.emb (ix2 p d) = (ix2 (row t p) d : S8192x1024.Idx) := by blk_ext [e14]
theorem b0_at (t : Fin cfg0.N) (p : Fin 512) (k : Fin 1024) : iblk m c 0 t (ix2 p k) = aDm m c (ix2 (row t p) k) := by
  refine Eq.trans ?_ (dm_at m c (row t p) k)
  blk_simp [iblk]
  refine congrArg _ ?_
  blk_ext [e0]
theorem b1_at (t : Fin cfg0.N) (p : Fin 512) (k : Fin 1024) : iblk m c 1 t (ix2 p k) = (tok m c (row t p)).ya k := by
  refine Eq.trans ?_ (ya_at m c (row t p) k)
  blk_simp [iblk]
  refine congrArg _ ?_
  blk_ext [e1]
theorem b2_at (t : Fin cfg0.N) (p : Fin 512) (k : Fin 1024) : iblk m c 2 t (ix2 p k) = (tok m c (row t p)).yb k := by
  refine Eq.trans ?_ (yb_at m c (row t p) k)
  blk_simp [iblk]
  refine congrArg _ ?_
  blk_ext [e2]
theorem b3_at (t : Fin cfg0.N) (p : Fin 512) (k : Fin 1024) : iblk m c 3 t (ix2 p k) = aBg m c (ix2 (row t p) k) := by
  refine Eq.trans ?_ (bg_at m c (row t p) k)
  blk_simp [iblk]
  refine congrArg _ ?_
  blk_ext [e3]
theorem b4_at (t : Fin cfg0.N) (p : Fin 512) (k : Fin 1024) : iblk m c 4 t (ix2 p k) = aZa m c (ix2 (row t p) k) := by
  refine Eq.trans ?_ (za_at m c (row t p) k)
  blk_simp [iblk]
  refine congrArg _ ?_
  blk_ext [e4]
theorem b5_at (t : Fin cfg0.N) (p : Fin 512) (k : Fin 1024) : iblk m c 5 t (ix2 p k) = aZb m c (ix2 (row t p) k) := by
  refine Eq.trans ?_ (zb_at m c (row t p) k)
  blk_simp [iblk]
  refine congrArg _ ?_
  blk_ext [e5]
theorem b6_at (t : Fin cfg0.N) (p : Fin 512) (k : Fin 1024) : iblk m c 6 t (ix2 p k) = aVa m c (ix2 (row t p) k) := by
  blk_simp [iblk]
  rw [V_main_arg3]
  refine congrArg _ ?_
  blk_ext [e6]
theorem b7_at (t : Fin cfg0.N) (p : Fin 512) (k : Fin 1024) : iblk m c 7 t (ix2 p k) = aVb m c (ix2 (row t p) k) := by
  blk_simp [iblk]
  rw [V_main_arg4]
  refine congrArg _ ?_
  blk_ext [e7]
theorem b8_at (t : Fin cfg0.N) (k : Fin 1024) : iblk m c 8 t (ix2 0 k) = aLg m c (ix1 k) := by
  refine Eq.trans ?_ (lg_at m c k)
  blk_simp [iblk]
  refine congrArg _ ?_
  blk_ext [e8]
theorem b9_at (t : Fin cfg0.N) (k : Fin 1024) : iblk m c 9 t (ix2 0 k) = aLb m c (ix1 k) := by
  refine Eq.trans ?_ (lb_at m c k)
  blk_simp [iblk]
  refine congrArg _ ?_
  blk_ext [e9]

/-- A point's token is the memory's. -/
theorem tok_eq (t : Fin cfg0.N) (p : Fin 512) : tokB (iblk m c 0 t) (iblk m c 1 t) (iblk m c 2 t) (iblk m c 3 t) (iblk m c 4 t) (iblk m c 5 t) (iblk m c 6 t) (iblk m c 7 t) p = tok m c (row t p) := by
  unfold tokB
  simp only [b0_at, b1_at, b2_at, b3_at, b4_at, b5_at, b6_at, b7_at]
  rfl
/-- A point's gain, offset and weights are the memory's. -/
theorem par_eq (t : Fin cfg0.N) : parB (iblk m c 8 t) (iblk m c 9 t) (wt1 m c) (wt2 m c) (wt3 m c) = par m c := by
  unfold parB
  simp only [b8_at, b9_at, wt1_at, wt2_at, wt3_at]
  rfl

end Cert.BwdMix.Hand

end
-- ==== Proof.BwdMix.RefAt.lean ====
module

public import proofs.«01_k».proof.Proof.BwdMix.Host
public import proofs.«01_k».proof.Proof.Gen.RefMixIdeal.Read

@[expose] public section

set_option maxRecDepth 16384

noncomputable section

/-! The reference's values, entry by entry: every one is the chain rule's at its token. -/

namespace Cert.RefMixAt

open Cert.RefMixIdeal.Read
open Cert.RefMixIdeal
open Idealize.ShloMosaic TcCoe Tactic

variable (x0 x1 x2 x3 x4 : Vec Ideal S8192x1024 .f32) (x5 x6 : Vec Ideal S1024 .f32) (x7 x8 x9 : Vec Ideal S1024x1024 .f32) (x10 : Vec Ideal S8192x1024 .f32)

theorem v1 (s : Fin 8192) (d : Fin 1024) : (val_main_v1 (F := Ideal) x0 x3 x7) (ix2 s d) = (MixRow.tokA x0 x1 x2 x3 x4 x5 x6 x7 x8 x10 s).ya d := by
  pointwise [val_main_v1, val_main_v0]
  all_goals rfl

theorem v27 (s : Fin 8192) (d : Fin 1024) : (val_main_v27 (F := Ideal) x4 x5 x6 x8) (ix2 s d) = (MixRow.tokA x0 x1 x2 x3 x4 x5 x6 x7 x8 x10 s).yb d := by
  pointwise [val_main_v27, val_main_v26, val_main_v25, val_main_call0_v5, val_main_v22, val_main_v24, val_main_call0_v4, val_main_call0_v3, val_main_v19, val_main_v21, val_main_v23, val_main_call0_cst_0, val_main_call0_v2, val_main_call0_v1, val_main_v14, val_main_v18, val_main_v20, val_main_call0_cst, val_main_call0_v0, val_main_v13, val_main_v17, val_main_v5, val_main_v16, val_main_v3, val_main_v4, val_main_v12, val_main_v15, val_main_v2, val_main_cst_0, val_main_v10, val_main_v11, val_main_cst_3, val_main_cst, val_main_v9, val_main_cst_2, val_main_v8, val_main_cst_1, val_main_v7, val_main_v6]
  all_goals rfl

theorem v33 (s : Fin 8192) (d : Fin 1024) : (val_main_v33 (F := Ideal) x1) (ix2 s d) = MixRow.sa (MixRow.tokA x0 x1 x2 x3 x4 x5 x6 x7 x8 x10 s) d := by
  pointwise [val_main_v33, val_main_v32, val_main_v31, val_main_cst_5, val_main_v30, val_main_v29, val_main_cst_4, val_main_v28]
  all_goals rfl

theorem v43 (s : Fin 8192) (d : Fin 1024) : (val_main_v43 (F := Ideal) x2) (ix2 s d) = MixRow.sb (MixRow.tokA x0 x1 x2 x3 x4 x5 x6 x7 x8 x10 s) d := by
  pointwise [val_main_v43, val_main_v42, val_main_v41, val_main_cst_8, val_main_v40, val_main_v39, val_main_cst_7, val_main_v38]
  all_goals rfl

theorem v52 (s : Fin 8192) (d : Fin 1024) : (val_main_v52 (F := Ideal) x9 x10) (ix2 s d) = MixRow.dmg (MixRow.parA x5 x6 x7 x8 x9) (MixRow.tokA x0 x1 x2 x3 x4 x5 x6 x7 x8 x10 s) d := by
  pointwise [val_main_v52]
  all_goals rfl

theorem v53 (s : Fin 8192) (d : Fin 1024) : (val_main_v53 (F := Ideal) x2 x9 x10) (ix2 s d) = MixRow.dybC (MixRow.parA x5 x6 x7 x8 x9) (MixRow.tokA x0 x1 x2 x3 x4 x5 x6 x7 x8 x10 s) d := by
  have h43 := v43 x0 x1 x2 x3 x4 x5 x6 x7 x8 x10
  have h52 := v52 x0 x1 x2 x3 x4 x5 x6 x7 x8 x9 x10
  pointwise [val_main_v53]
  simp only [h43, h52]
  all_goals rfl

theorem v55 (s : Fin 8192) (d : Fin 1024) : (val_main_v55 (F := Ideal) x2 x4 x5 x6 x8 x9 x10) (ix2 s d) = MixRow.dzbC (MixRow.parA x5 x6 x7 x8 x9) (MixRow.tokA x0 x1 x2 x3 x4 x5 x6 x7 x8 x10 s) d := by
  have h52 := v52 x0 x1 x2 x3 x4 x5 x6 x7 x8 x9 x10
  have h27 := v27 x0 x1 x2 x3 x4 x5 x6 x7 x8 x10
  have h43 := v43 x0 x1 x2 x3 x4 x5 x6 x7 x8 x10
  pointwise [val_main_v55, val_main_v54, val_main_v46, val_main_v45, val_main_v44, val_main_cst_9]
  simp only [h52, h27, h43]
  all_goals rfl

theorem v56 (s : Fin 8192) (d : Fin 1024) : (val_main_v56 (F := Ideal) x1 x9 x10) (ix2 s d) = MixRow.dyaC (MixRow.parA x5 x6 x7 x8 x9) (MixRow.tokA x0 x1 x2 x3 x4 x5 x6 x7 x8 x10 s) d := by
  have h33 := v33 x0 x1 x2 x3 x4 x5 x6 x7 x8 x10
  have h52 := v52 x0 x1 x2 x3 x4 x5 x6 x7 x8 x9 x10
  pointwise [val_main_v56]
  simp only [h33, h52]
  all_goals rfl

theorem v58 (s : Fin 8192) (d : Fin 1024) : (val_main_v58 (F := Ideal) x0 x1 x3 x7 x9 x10) (ix2 s d) = MixRow.dzaC (MixRow.parA x5 x6 x7 x8 x9) (MixRow.tokA x0 x1 x2 x3 x4 x5 x6 x7 x8 x10 s) d := by
  have h52 := v52 x0 x1 x2 x3 x4 x5 x6 x7 x8 x9 x10
  have h1 := v1 x0 x1 x2 x3 x4 x5 x6 x7 x8 x10
  have h33 := v33 x0 x1 x2 x3 x4 x5 x6 x7 x8 x10
  pointwise [val_main_v58, val_main_v57, val_main_v36, val_main_v35, val_main_v34, val_main_cst_6]
  simp only [h52, h1, h33]
  all_goals rfl

theorem v66 (s : Fin 8192) (d : Fin 1024) : (val_main_v66 (F := Ideal) x4) (ix2 s d) = MixRow.xc (MixRow.tokA x0 x1 x2 x3 x4 x5 x6 x7 x8 x10 s).vb d := by
  pointwise [val_main_v66, val_main_v65, val_main_v64, val_main_v62, val_main_v63, val_main_v61, val_main_cst_11, val_main_cst_10]
  all_goals rfl

theorem v75 (s : Fin 8192) (d : Fin 1024) : (val_main_v75 (F := Ideal) x4) (ix2 s d) = MixRow.xc (MixRow.tokA x0 x1 x2 x3 x4 x5 x6 x7 x8 x10 s).vb d := by
  pointwise [val_main_v75, val_main_v74, val_main_v64, val_main_v62, val_main_v63, val_main_v61, val_main_cst_11, val_main_cst_10]
  all_goals rfl

theorem v77 (s : Fin 8192) : (val_main_v77 (F := Ideal) x4) (ix2 s 0) = MixRow.vr (MixRow.tokA x0 x1 x2 x3 x4 x5 x6 x7 x8 x10 s).vb := by
  have h66 := v66 x0 x1 x2 x3 x4 x5 x6 x7 x8 x10
  pointwise [val_main_v77, val_main_v73, val_main_v76, val_main_v71, val_main_v72, val_main_cst_15, val_main_v70, val_main_cst_14, val_main_v67, val_main_cst_13]
  simp only [h66]
  all_goals rfl

theorem v78 (s : Fin 8192) : (val_main_v78 (F := Ideal) x4) (ix2 s 0) = MixRow.rs (MixRow.tokA x0 x1 x2 x3 x4 x5 x6 x7 x8 x10 s).vb := by
  have h77 := v77 x0 x1 x2 x3 x4 x5 x6 x7 x8 x10
  pointwise [val_main_v78]
  simp only [h77]
  all_goals rfl

theorem v83 (s : Fin 8192) (d : Fin 1024) : (val_main_v83 (F := Ideal) x4) (ix2 s d) = MixRow.nrm (MixRow.tokA x0 x1 x2 x3 x4 x5 x6 x7 x8 x10 s).vb d := by
  have h75 := v75 x0 x1 x2 x3 x4 x5 x6 x7 x8 x10
  have h78 := v78 x0 x1 x2 x3 x4 x5 x6 x7 x8 x10
  pointwise [val_main_v83, val_main_v82]
  simp only [h75, h78]
  all_goals rfl

theorem v89 (s : Fin 8192) (d : Fin 1024) : (val_main_v89 (F := Ideal) x4 x5 x6) (ix2 s d) = MixRow.ln (MixRow.parA x5 x6 x7 x8 x9) (MixRow.tokA x0 x1 x2 x3 x4 x5 x6 x7 x8 x10 s) d := by
  have h83 := v83 x0 x1 x2 x3 x4 x5 x6 x7 x8 x10
  pointwise [val_main_v89, val_main_v86, val_main_v88, val_main_v85, val_main_v87, val_main_v84]
  simp only [h83]
  all_goals rfl

theorem v90_2 (s : Fin 8192) (d : Fin 1024) : (val_main_v90_2 (F := Ideal) x4 x5 x6) (ix2 s d) = MixRow.sl (MixRow.parA x5 x6 x7 x8 x9) (MixRow.tokA x0 x1 x2 x3 x4 x5 x6 x7 x8 x10 s) d := by
  have h89 := v89 x0 x1 x2 x3 x4 x5 x6 x7 x8 x9 x10
  pointwise [val_main_v90_2, val_main_call1_v4, val_main_call1_v3, val_main_call1_cst_0, val_main_call1_v2, val_main_call1_v1, val_main_call1_cst, val_main_call1_v0]
  simp only [h89]
  all_goals rfl

theorem v94 (s : Fin 8192) (d : Fin 1024) : (val_main_v94 (F := Ideal) x2 x8 x9 x10) (ix2 s d) = MixRow.dsbC (MixRow.parA x5 x6 x7 x8 x9) (MixRow.tokA x0 x1 x2 x3 x4 x5 x6 x7 x8 x10 s) d := by
  have h53 := v53 x0 x1 x2 x3 x4 x5 x6 x7 x8 x9 x10
  pointwise [val_main_v94]
  simp only [h53]
  all_goals rfl

theorem v95 (s : Fin 8192) (d : Fin 1024) : (val_main_v95 (F := Ideal) x2 x4 x5 x6 x8 x9 x10) (ix2 s d) = MixRow.dlnC (MixRow.parA x5 x6 x7 x8 x9) (MixRow.tokA x0 x1 x2 x3 x4 x5 x6 x7 x8 x10 s) d := by
  have h94 := v94 x0 x1 x2 x3 x4 x5 x6 x7 x8 x9 x10
  have h90_2 := v90_2 x0 x1 x2 x3 x4 x5 x6 x7 x8 x9 x10
  have h89 := v89 x0 x1 x2 x3 x4 x5 x6 x7 x8 x9 x10
  pointwise [val_main_v95, val_main_call2_v1, val_main_call2_v2, val_main_call2_v0, val_main_v90_1, val_main_call1_v7, val_main_call1_v6, val_main_call1_cst_1]
  simp only [h94, h90_2, h89]
  all_goals rfl

theorem v103 (s : Fin 8192) (d : Fin 1024) : (val_main_v103 (F := Ideal) x2 x4 x5 x6 x8 x9 x10) (ix2 s d) = MixRow.dnC (MixRow.parA x5 x6 x7 x8 x9) (MixRow.tokA x0 x1 x2 x3 x4 x5 x6 x7 x8 x10 s) d := by
  have h95 := v95 x0 x1 x2 x3 x4 x5 x6 x7 x8 x9 x10
  pointwise [val_main_v103, val_main_v102, val_main_v84]
  simp only [h95]
  all_goals rfl

theorem v118 (s : Fin 8192) (d : Fin 1024) : (val_main_v118 (F := Ideal) x2 x4 x5 x6 x8 x9 x10) (ix2 s d) = MixRow.share (MixRow.tokA x0 x1 x2 x3 x4 x5 x6 x7 x8 x10 s).vb (MixRow.dnC (MixRow.parA x5 x6 x7 x8 x9) (MixRow.tokA x0 x1 x2 x3 x4 x5 x6 x7 x8 x10 s)) d := by
  have h66 := v66 x0 x1 x2 x3 x4 x5 x6 x7 x8 x10
  have h78 := v78 x0 x1 x2 x3 x4 x5 x6 x7 x8 x10
  have h77 := v77 x0 x1 x2 x3 x4 x5 x6 x7 x8 x10
  have h75 := v75 x0 x1 x2 x3 x4 x5 x6 x7 x8 x10
  have h103 := v103 x0 x1 x2 x3 x4 x5 x6 x7 x8 x9 x10
  pointwise [val_main_v118, val_main_v117, val_main_v69, val_main_v116, val_main_v68, val_main_v115, val_main_cst_24, val_main_cst_12, val_main_v110, val_main_v114, val_main_v107, val_main_v81, val_main_cst_23, val_main_v106, val_main_v80, val_main_v79, val_main_v105, val_main_cst_21, val_main_cst_16]
  simp only [Finset.univ_unique, Finset.sum_singleton, Fin.default_eq_zero]
  simp only [h66, h78, h77, h75, h103]
  all_goals rfl

theorem v128 (s : Fin 8192) (d : Fin 1024) : (val_main_v128 (F := Ideal) x2 x4 x5 x6 x8 x9 x10) (ix2 s d) = MixRow.dvbC (MixRow.parA x5 x6 x7 x8 x9) (MixRow.tokA x0 x1 x2 x3 x4 x5 x6 x7 x8 x10 s) d := by
  have h118 := v118 x0 x1 x2 x3 x4 x5 x6 x7 x8 x9 x10
  have h103 := v103 x0 x1 x2 x3 x4 x5 x6 x7 x8 x9 x10
  have h78 := v78 x0 x1 x2 x3 x4 x5 x6 x7 x8 x10
  pointwise [val_main_v128, val_main_v122, val_main_v127, val_main_v109, val_main_v126, val_main_v108, val_main_v125, val_main_cst_27, val_main_v123, val_main_v124, val_main_v113, val_main_v121, val_main_cst_26, val_main_v112, val_main_v120, val_main_v111, val_main_cst_22, val_main_v119, val_main_cst_25]
  simp only [Finset.univ_unique, Finset.sum_singleton, Fin.default_eq_zero]
  simp only [h118, h103, h78]
  all_goals rfl

theorem v131 (s : Fin 8192) (d : Fin 1024) : (val_main_v131 (F := Ideal) x1 x7 x9 x10) (ix2 s d) = MixRow.dqaC (MixRow.parA x5 x6 x7 x8 x9) (MixRow.tokA x0 x1 x2 x3 x4 x5 x6 x7 x8 x10 s) d := by
  have h56 := v56 x0 x1 x2 x3 x4 x5 x6 x7 x8 x9 x10
  pointwise [val_main_v131]
  simp only [h56]
  all_goals rfl

theorem v132 (s : Fin 8192) (d : Fin 1024) : (val_main_v132 (F := Ideal) x0 x1 x7 x9 x10) (ix2 s d) = MixRow.dvaC (MixRow.parA x5 x6 x7 x8 x9) (MixRow.tokA x0 x1 x2 x3 x4 x5 x6 x7 x8 x10 s) d := by
  have h131 := v131 x0 x1 x2 x3 x4 x5 x6 x7 x8 x9 x10
  pointwise [val_main_v132]
  simp only [h131]
  all_goals rfl

theorem v133 (s : Fin 8192) (d : Fin 1024) : (val_main_v133 (F := Ideal) x1 x3 x7 x9 x10) (ix2 s d) = MixRow.dbgC (MixRow.parA x5 x6 x7 x8 x9) (MixRow.tokA x0 x1 x2 x3 x4 x5 x6 x7 x8 x10 s) d := by
  have h131 := v131 x0 x1 x2 x3 x4 x5 x6 x7 x8 x9 x10
  pointwise [val_main_v133]
  simp only [h131]
  all_goals rfl

/-! ## The sums over the tokens -/

theorem v104 (d : Fin 1024) : (val_main_v104 (F := Ideal) x2 x4 x5 x6 x8 x9 x10) (ix1 d) = ∑ s : Fin 8192, MixRow.termC (MixRow.parA x5 x6 x7 x8 x9) (MixRow.tokA x0 x1 x2 x3 x4 x5 x6 x7 x8 x10 s) 0 d := by
  have h83 := v83 x0 x1 x2 x3 x4 x5 x6 x7 x8 x10
  have h95 := v95 x0 x1 x2 x3 x4 x5 x6 x7 x8 x9 x10
  pointwise [val_main_v104, val_main_v101, val_main_cst_20, val_main_v100, val_main_v99, val_main_cst_19]
  simp only [Finset.univ_unique, Finset.sum_singleton, Fin.default_eq_zero]
  simp only [h83, h95]
  all_goals rfl

theorem v98 (d : Fin 1024) : (val_main_v98 (F := Ideal) x2 x4 x5 x6 x8 x9 x10) (ix1 d) = ∑ s : Fin 8192, MixRow.termC (MixRow.parA x5 x6 x7 x8 x9) (MixRow.tokA x0 x1 x2 x3 x4 x5 x6 x7 x8 x10 s) 1 d := by
  have h95 := v95 x0 x1 x2 x3 x4 x5 x6 x7 x8 x9 x10
  pointwise [val_main_v98, val_main_v97, val_main_cst_18, val_main_v96, val_main_cst_17]
  simp only [Finset.univ_unique, Finset.sum_singleton, Fin.default_eq_zero]
  simp only [h95]
  all_goals rfl

theorem v134 (d : Fin 1024) : (val_main_v134 (F := Ideal) x0 x1 x7 x9 x10) (ix1 d) = ∑ s : Fin 8192, MixRow.termC (MixRow.parA x5 x6 x7 x8 x9) (MixRow.tokA x0 x1 x2 x3 x4 x5 x6 x7 x8 x10 s) 2 d := by
  have h132 := v132 x0 x1 x2 x3 x4 x5 x6 x7 x8 x9 x10
  pointwise [val_main_v134, val_main_cst_28]
  simp only [h132]
  all_goals rfl

theorem v135 (d : Fin 1024) : (val_main_v135 (F := Ideal) x2 x4 x5 x6 x8 x9 x10) (ix1 d) = ∑ s : Fin 8192, MixRow.termC (MixRow.parA x5 x6 x7 x8 x9) (MixRow.tokA x0 x1 x2 x3 x4 x5 x6 x7 x8 x10 s) 3 d := by
  have h128 := v128 x0 x1 x2 x3 x4 x5 x6 x7 x8 x9 x10
  pointwise [val_main_v135, val_main_cst_29]
  simp only [h128]
  all_goals rfl

theorem v136 (d : Fin 1024) : (val_main_v136 (F := Ideal) x1 x3 x7 x9 x10) (ix1 d) = ∑ s : Fin 8192, MixRow.termC (MixRow.parA x5 x6 x7 x8 x9) (MixRow.tokA x0 x1 x2 x3 x4 x5 x6 x7 x8 x10 s) 4 d := by
  have h133 := v133 x0 x1 x2 x3 x4 x5 x6 x7 x8 x9 x10
  pointwise [val_main_v136, val_main_cst_30]
  simp only [h133]
  all_goals rfl

theorem v137 (d : Fin 1024) : (val_main_v137 (F := Ideal) x0 x1 x3 x7 x9 x10) (ix1 d) = ∑ s : Fin 8192, MixRow.termC (MixRow.parA x5 x6 x7 x8 x9) (MixRow.tokA x0 x1 x2 x3 x4 x5 x6 x7 x8 x10 s) 5 d := by
  have h58 := v58 x0 x1 x2 x3 x4 x5 x6 x7 x8 x9 x10
  pointwise [val_main_v137, val_main_cst_31]
  simp only [h58]
  all_goals rfl

theorem v138 (d : Fin 1024) : (val_main_v138 (F := Ideal) x2 x4 x5 x6 x8 x9 x10) (ix1 d) = ∑ s : Fin 8192, MixRow.termC (MixRow.parA x5 x6 x7 x8 x9) (MixRow.tokA x0 x1 x2 x3 x4 x5 x6 x7 x8 x10 s) 6 d := by
  have h55 := v55 x0 x1 x2 x3 x4 x5 x6 x7 x8 x9 x10
  pointwise [val_main_v138, val_main_cst_32]
  simp only [h55]
  all_goals rfl

/-- The eight rows of sums. -/
theorem v148 (a : Fin 8) (d : Fin 1024) : (val_main_v148 (F := Ideal) x0 x1 x2 x3 x4 x5 x6 x7 x8 x9 x10) (ix2 a d) = ∑ s : Fin 8192, MixRow.termC (MixRow.parA x5 x6 x7 x8 x9) (MixRow.tokA x0 x1 x2 x3 x4 x5 x6 x7 x8 x10 s) a.val d := by

  have h0 := v104 x0 x1 x2 x3 x4 x5 x6 x7 x8 x9 x10 d
  have h1 := v98 x0 x1 x2 x3 x4 x5 x6 x7 x8 x9 x10 d
  have h2 := v134 x0 x1 x2 x3 x4 x5 x6 x7 x8 x9 x10 d
  have h3 := v135 x0 x1 x2 x3 x4 x5 x6 x7 x8 x9 x10 d
  have h4 := v136 x0 x1 x2 x3 x4 x5 x6 x7 x8 x9 x10 d
  have h5 := v137 x0 x1 x2 x3 x4 x5 x6 x7 x8 x9 x10 d
  have h6 := v138 x0 x1 x2 x3 x4 x5 x6 x7 x8 x9 x10 d
  have hz : ∀ b : ℕ, 7 ≤ b → ∑ s : Fin 8192, MixRow.termC (MixRow.parA x5 x6 x7 x8 x9) (MixRow.tokA x0 x1 x2 x3 x4 x5 x6 x7 x8 x10 s) b d = 0 := fun b hb => Finset.sum_eq_zero fun s _ => by
    unfold MixRow.termC
    rw [if_neg (by omega), if_neg (by omega), if_neg (by omega), if_neg (by omega), if_neg (by omega), if_neg (by omega), if_neg (by omega)]
  pointwise [val_main_v148, val_main_v140, val_main_v141, val_main_v142, val_main_v143, val_main_v144, val_main_v145, val_main_v146, val_main_v147, val_main_v139, val_main_cst_33]
  simp only [h0, h1, h2, h3, h4, h5, h6, dite_eq_ite, ite_self]
  split
  · rw [show a.val = 0 by omega]
  split
  · rw [show a.val = 1 by omega]
  split
  · rw [show a.val = 2 by omega]
  split
  · rw [show a.val = 3 by omega]
  split
  · rw [show a.val = 4 by omega]
  split
  · rw [show a.val = 5 by omega]
  split
  · rw [show a.val = 6 by omega]
  exact (hz _ (by omega)).symm

/-- The three gradients side by side. -/
theorem v150 (s : Fin 8192) (n : Fin 3072) : (val_main_v150 (F := Ideal) x0 x1 x2 x3 x4 x5 x6 x7 x8 x9 x10) (ix2 s n) = MixRow.dpaC (MixRow.parA x5 x6 x7 x8 x9) (MixRow.tokA x0 x1 x2 x3 x4 x5 x6 x7 x8 x10 s) n := by

  have h0 := v133 x0 x1 x2 x3 x4 x5 x6 x7 x8 x9 x10 s
  have h1 := v58 x0 x1 x2 x3 x4 x5 x6 x7 x8 x9 x10 s
  have h2 := v55 x0 x1 x2 x3 x4 x5 x6 x7 x8 x9 x10 s
  unfold MixRow.dpaC
  pointwise [val_main_v150, val_main_v149]
  simp only [h0, h1, h2]
  split
  · rename_i h
    exact congrArg _ (Fin.ext (Nat.mod_eq_of_lt h).symm)
  split
  · rename_i h h'
    exact (congrArg (MixRow.dzaC (MixRow.parA x5 x6 x7 x8 x9) (MixRow.tokA x0 x1 x2 x3 x4 x5 x6 x7 x8 x10 s)) (Fin.ext (by show n.val - 1024 = n.val % 1024; omega))).trans (if_pos (by omega)).symm
  · rename_i h h'
    have hn := n.isLt
    exact (congrArg (MixRow.dzbC (MixRow.parA x5 x6 x7 x8 x9) (MixRow.tokA x0 x1 x2 x3 x4 x5 x6 x7 x8 x10 s)) (Fin.ext (by show n.val - 1024 - 1024 = n.val % 1024; omega))).trans (if_neg (by omega)).symm

end Cert.RefMixAt

end
-- ==== Proof.BwdMix.Value.lean ====
module

public import proofs.«01_k».proof.Defs
public import proofs.«01_k».proof.Proof.BwdMix.RefAt
public import proofs.«01_k».proof.Proof.BwdMix.Frames
public import proofs.«01_k».proof.Proof.Gen.RefMixIdeal
public import proofs.«01_k».proof.Proof.Gen.RefMixIdeal.Run
public import proofs.«01_k».proof.Proof.Gen.Pre_finite_mix
public import Idealize.ShloMosaic.Lib.Quiescent

@[expose] public section

set_option maxRecDepth 16384

noncomputable section

namespace Cert.ValueMix

open Cert.RefMixIdeal.Read
open Cert.BwdMixIdeal Cert.BwdMixIdeal.Gen Cert.BwdMix.Hand
open Idealize.ShloMosaic TcCoe Tactic
open Idealize.SL Idealize.SL.Sem

/-- The reference runs, keeps its arguments and leaves no semaphore raised. -/
theorem frame_ref : Cert.quiescent_RefMixIdeal (hRefMixIdeal := Cert.RefMixIdeal.Gen.facts) :=
  fun m g _ => (θ_run Cert.RefMixIdeal.defs _ _).mono (fun r h => ⟨fun c => (h c).2.2.2.2.2.2, sem_eq_zero_of_no_sems (by decide) r.2⟩) (Cert.RefMixIdeal.Value.run m g)

variable (m : (ℓ : Loc nD τ sig) → Buf (Elt Ideal) ℓ) (c : Dev nD)

/-! ## The arrays at the end of the run -/

theorem final_dpa : (dats m 0 c).arrAt 10 cfg0.N = (fun i => MixRow.dpa (par m c) (tok m c (i 0)) (i 1) : Vec Ideal S8192x3072 .bf16) := by
  refine (dats m 0 c).arrAt_eq_of_covers 10 _ (by decide +kernel) fun t hf y => ?_
  blk_simp
  obtain ⟨p, d, rfl⟩ : ∃ (p : Fin 512) (d : Fin 3072), y = ix2 p d := ⟨y 0, y 1, eq_ix2 y⟩
  refine Eq.trans ?_ (congrArg (fun i : S8192x3072.Idx => MixRow.dpa (par m c) (tok m c (i 0)) (i 1)) (emb10 t p d)).symm
  show (dpaB (iblk m c 0 t) (iblk m c 1 t) (iblk m c 2 t) (iblk m c 4 t) (iblk m c 5 t) (iblk m c 6 t) (wt1 m c) (wt3 m c)) (ix2 p d) = _
  refine (dpaB_at (iblk m c 0 t) (iblk m c 1 t) (iblk m c 2 t) (iblk m c 3 t) (iblk m c 4 t) (iblk m c 5 t) (iblk m c 6 t) (iblk m c 7 t) (iblk m c 8 t) (iblk m c 9 t) (wt1 m c) (wt2 m c) (wt3 m c) p d).trans ?_
  rw [tok_eq, par_eq]
  rfl

theorem final_dya : (dats m 0 c).arrAt 11 cfg0.N = (fun i => MixRow.dya (par m c) (tok m c (i 0)) (i 1) : Vec Ideal S8192x1024 .bf16) := by
  refine (dats m 0 c).arrAt_eq_of_covers 11 _ (by decide +kernel) fun t hf y => ?_
  blk_simp
  obtain ⟨p, d, rfl⟩ : ∃ (p : Fin 512) (d : Fin 1024), y = ix2 p d := ⟨y 0, y 1, eq_ix2 y⟩
  refine Eq.trans ?_ (congrArg (fun i : S8192x1024.Idx => MixRow.dya (par m c) (tok m c (i 0)) (i 1)) (emb11 t p d)).symm
  show (dyaB (iblk m c 0 t) (iblk m c 4 t) (wt3 m c)) (ix2 p d) = _
  refine (pay14_at (iblk m c 0 t) (iblk m c 1 t) (iblk m c 2 t) (iblk m c 3 t) (iblk m c 4 t) (iblk m c 5 t) (iblk m c 6 t) (iblk m c 7 t) (iblk m c 8 t) (iblk m c 9 t) (wt1 m c) (wt2 m c) (wt3 m c) p d).trans ?_
  rw [tok_eq, par_eq]
  rfl

theorem final_dyb : (dats m 0 c).arrAt 12 cfg0.N = (fun i => MixRow.dyb (par m c) (tok m c (i 0)) (i 1) : Vec Ideal S8192x1024 .bf16) := by
  refine (dats m 0 c).arrAt_eq_of_covers 12 _ (by decide +kernel) fun t hf y => ?_
  blk_simp
  obtain ⟨p, d, rfl⟩ : ∃ (p : Fin 512) (d : Fin 1024), y = ix2 p d := ⟨y 0, y 1, eq_ix2 y⟩
  refine Eq.trans ?_ (congrArg (fun i : S8192x1024.Idx => MixRow.dyb (par m c) (tok m c (i 0)) (i 1)) (emb12 t p d)).symm
  show (dybB (iblk m c 0 t) (iblk m c 5 t) (wt3 m c)) (ix2 p d) = _
  refine (pay21_at (iblk m c 0 t) (iblk m c 1 t) (iblk m c 2 t) (iblk m c 3 t) (iblk m c 4 t) (iblk m c 5 t) (iblk m c 6 t) (iblk m c 7 t) (iblk m c 8 t) (iblk m c 9 t) (wt1 m c) (wt2 m c) (wt3 m c) p d).trans ?_
  rw [tok_eq, par_eq]
  rfl

theorem final_dva : (dats m 0 c).arrAt 13 cfg0.N = (fun i => MixRow.dva (par m c) (tok m c (i 0)) (i 1) : Vec Ideal S8192x1024 .f32) := by
  refine (dats m 0 c).arrAt_eq_of_covers 13 _ (by decide +kernel) fun t hf y => ?_
  blk_simp
  obtain ⟨p, d, rfl⟩ : ∃ (p : Fin 512) (d : Fin 1024), y = ix2 p d := ⟨y 0, y 1, eq_ix2 y⟩
  refine Eq.trans ?_ (congrArg (fun i : S8192x1024.Idx => MixRow.dva (par m c) (tok m c (i 0)) (i 1)) (emb13 t p d)).symm
  show (dvaB (iblk m c 0 t) (iblk m c 3 t) (iblk m c 4 t) (wt1 m c) (wt3 m c)) (ix2 p d) = _
  refine (pay19_at (iblk m c 0 t) (iblk m c 1 t) (iblk m c 2 t) (iblk m c 3 t) (iblk m c 4 t) (iblk m c 5 t) (iblk m c 6 t) (iblk m c 7 t) (iblk m c 8 t) (iblk m c 9 t) (wt1 m c) (wt2 m c) (wt3 m c) p d).trans ?_
  rw [tok_eq, par_eq]
  rfl

theorem final_dvb : (dats m 0 c).arrAt 14 cfg0.N = (fun i => MixRow.dvb (par m c) (tok m c (i 0)) (i 1) : Vec Ideal S8192x1024 .f32) := by
  refine (dats m 0 c).arrAt_eq_of_covers 14 _ (by decide +kernel) fun t hf y => ?_
  blk_simp
  obtain ⟨p, d, rfl⟩ : ∃ (p : Fin 512) (d : Fin 1024), y = ix2 p d := ⟨y 0, y 1, eq_ix2 y⟩
  refine Eq.trans ?_ (congrArg (fun i : S8192x1024.Idx => MixRow.dvb (par m c) (tok m c (i 0)) (i 1)) (emb14 t p d)).symm
  show (dvbB (iblk m c 0 t) (iblk m c 5 t) (iblk m c 7 t) (iblk m c 8 t) (iblk m c 9 t) (wt2 m c) (wt3 m c)) (ix2 p d) = _
  refine (pay32_at (iblk m c 0 t) (iblk m c 1 t) (iblk m c 2 t) (iblk m c 3 t) (iblk m c 4 t) (iblk m c 5 t) (iblk m c 6 t) (iblk m c 7 t) (iblk m c 8 t) (iblk m c 9 t) (wt1 m c) (wt2 m c) (wt3 m c) p d).trans ?_
  rw [tok_eq, par_eq]
  rfl

/-- The carried block after point `n`. -/
theorem acc_at : ∀ (n : ℕ) (h : n < cfg0.N) (a : Fin 8) (d : Fin 1024), acc m c n h (ix2 a d)
    = ∑ t ∈ Finset.range (n + 1), (if ht : t < 16 then ∑ p : Fin 512, MixRow.term (par m c) (tok m c (row ⟨t, ht⟩ p)) a.val d else 0)
  | 0, h, a, d => by
    unfold acc
    rw [rowsB_at (iblk m c 0 ⟨0, h⟩) (iblk m c 1 ⟨0, h⟩) (iblk m c 2 ⟨0, h⟩) (iblk m c 3 ⟨0, h⟩) (iblk m c 4 ⟨0, h⟩) (iblk m c 5 ⟨0, h⟩) (iblk m c 6 ⟨0, h⟩) (iblk m c 7 ⟨0, h⟩) (iblk m c 8 ⟨0, h⟩) (iblk m c 9 ⟨0, h⟩) (wt1 m c) (wt2 m c) (wt3 m c)]
    have hz : (k0_pay2 (F := Ideal)) (ix2 a d) = 0 := by pointwise [k0_pay2]
    rw [hz, Finset.sum_range_one, dif_pos (by omega), zero_add]
    simp only [tok_eq, par_eq]
  | n + 1, h, a, d => by
    unfold acc
    rw [rowsB_at (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) (iblk m c 6 ⟨n + 1, h⟩) (iblk m c 7 ⟨n + 1, h⟩) (iblk m c 8 ⟨n + 1, h⟩) (iblk m c 9 ⟨n + 1, h⟩) (wt1 m c) (wt2 m c) (wt3 m c), acc_at n (Nat.lt_of_succ_lt h) a d, Finset.sum_range_succ _ (n + 1), dif_pos (show n + 1 < 16 from h)]
    simp only [tok_eq, par_eq]

/-- The tokens' terms, block by block, are all of them. -/
theorem sum_rows (f : Fin 8192 → EReal) :
    ∑ t ∈ Finset.range 16, (if ht : t < 16 then ∑ p : Fin 512, f (row ⟨t, ht⟩ p) else 0) = ∑ s : Fin 8192, f s := by
  rw [Finset.sum_range]
  simp only [Fin.isLt, dif_pos]
  rw [← Fintype.sum_prod_type']
  refine (Fintype.sum_equiv (finProdFinEquiv (m := 16) (n := 512)) _ f fun x => congrArg f (Fin.ext ?_))
  show x.1.val * 512 + x.2.val = x.2.val + 512 * x.1.val
  omega

theorem final_small : (dats m 0 c).arrAt 15 cfg0.N = (fun i => ∑ s : Fin 8192, MixRow.term (par m c) (tok m c s) (i 0).val (i 1) : Vec Ideal S8x1024 .f32) := by
  refine (dats m 0 c).arrAt_eq_of_after_last 15 (⟨15, by decide⟩ : Fin cfg0.N) (by decide +kernel) _ fun y => ?_
  blk_simp
  obtain ⟨a, d, rfl⟩ : ∃ (a : Fin 8) (d : Fin 1024), y = ix2 a d := ⟨y 0, y 1, eq_ix2 y⟩
  refine (acc_at m c 15 (by decide) a d).trans ?_
  rw [sum_rows (fun s => MixRow.term (par m c) (tok m c s) a.val d)]
  rfl

/-- The programs' six finite arguments have real entries. -/
theorem reals (h : Cert.Pre_BwdMixIdeal_finite_mix (hPre_finite_mix := Cert.Pre_finite_mix.Gen.facts) m) :
    (∀ i, ∃ r : ℝ, aVb m c i = (r : EReal)) ∧ (∀ i, ∃ r : ℝ, aLg m c i = (r : EReal)) ∧ (∀ i, ∃ r : ℝ, aLb m c i = (r : EReal)) ∧ (∀ i, ∃ r : ℝ, aWb m c i = (r : EReal)) ∧ (∀ i, ∃ r : ℝ, aWo m c i = (r : EReal)) ∧ (∀ i, ∃ r : ℝ, aDm m c i = (r : EReal)) := by
  have h1 := congrFun (h c) ix0
  unfold Pre_finite_mix.fn Pre_finite_mix.fn_part1 at h1
  simp only [andi_apply] at h1
  obtain ⟨h1, e5⟩ := IntOp.andi_eq_one.1 h1
  obtain ⟨h1, e4⟩ := IntOp.andi_eq_one.1 h1
  obtain ⟨h1, e3⟩ := IntOp.andi_eq_one.1 h1
  obtain ⟨h1, e2⟩ := IntOp.andi_eq_one.1 h1
  obtain ⟨e0, e1⟩ := IntOp.andi_eq_one.1 h1
  exact ⟨RealRms.real_of_below _ _ _ _ _ _ e0, RealRms.real_of_below _ _ _ _ _ _ e1, RealRms.real_of_below _ _ _ _ _ _ e2, RealRms.real_of_below _ _ _ _ _ _ e3, RealRms.real_of_below _ _ _ _ _ _ e4, RealRms.real_of_below _ _ _ _ _ _ e5⟩

/-- At finite arguments the rows that meet a sum by parts are real. -/
theorem fin (h : Cert.Pre_BwdMixIdeal_finite_mix (hPre_finite_mix := Cert.Pre_finite_mix.Gen.facts) m) (s : Fin 8192) : MixRow.Fin' (par m c) (tok m c s) := by
  obtain ⟨h0, h1, h2, h3, h4, h5⟩ := reals m c h
  exact ⟨fun k => h5 _, fun k => h0 _, fun k => h1 _, fun k => h2 _, fun n k => h3 _, fun n k => h4 _⟩

theorem ref_dpa : val_main_v150 (F := Ideal) (aBg m c) (aZa m c) (aZb m c) (aVa m c) (aVb m c) (aLg m c) (aLb m c) (aWa m c) (aWb m c) (aWo m c) (aDm m c) = (dats m 0 c).arrAt 10 cfg0.N := by
  refine Eq.trans ?_ (final_dpa m c).symm
  funext i
  refine (congrArg _ (eq_ix2 i)).trans ?_
  refine (RefMixAt.v150 (aBg m c) (aZa m c) (aZb m c) (aVa m c) (aVb m c) (aLg m c) (aLb m c) (aWa m c) (aWb m c) (aWo m c) (aDm m c) (i 0) (i 1)).trans ?_
  exact (congrFun (MixRow.dpa_eq _ _) (i 1)).symm

theorem ref_dya : val_main_v151 (F := Ideal) (aZa m c) (aWo m c) (aDm m c) = (dats m 0 c).arrAt 11 cfg0.N := by
  refine Eq.trans ?_ (final_dya m c).symm
  funext i
  refine (congrArg _ (eq_ix2 i)).trans ?_
  refine (RefMixAt.v56 (aBg m c) (aZa m c) (aZb m c) (aVa m c) (aVb m c) (aLg m c) (aLb m c) (aWa m c) (aWb m c) (aWo m c) (aDm m c) (i 0) (i 1)).trans ?_
  exact (congrFun (MixRow.dya_eq _ _) (i 1)).symm

theorem ref_dyb : val_main_v152 (F := Ideal) (aZb m c) (aWo m c) (aDm m c) = (dats m 0 c).arrAt 12 cfg0.N := by
  refine Eq.trans ?_ (final_dyb m c).symm
  funext i
  refine (congrArg _ (eq_ix2 i)).trans ?_
  refine (RefMixAt.v53 (aBg m c) (aZa m c) (aZb m c) (aVa m c) (aVb m c) (aLg m c) (aLb m c) (aWa m c) (aWb m c) (aWo m c) (aDm m c) (i 0) (i 1)).trans ?_
  exact (congrFun (MixRow.dyb_eq _ _) (i 1)).symm

theorem ref_dva : val_main_v132 (F := Ideal) (aBg m c) (aZa m c) (aWa m c) (aWo m c) (aDm m c) = (dats m 0 c).arrAt 13 cfg0.N := by
  refine Eq.trans ?_ (final_dva m c).symm
  funext i
  refine (congrArg _ (eq_ix2 i)).trans ?_
  refine (RefMixAt.v132 (aBg m c) (aZa m c) (aZb m c) (aVa m c) (aVb m c) (aLg m c) (aLb m c) (aWa m c) (aWb m c) (aWo m c) (aDm m c) (i 0) (i 1)).trans ?_
  exact (congrFun (MixRow.dva_eq _ _) (i 1)).symm

theorem ref_dvb (h : Cert.Pre_BwdMixIdeal_finite_mix (hPre_finite_mix := Cert.Pre_finite_mix.Gen.facts) m) : val_main_v128 (F := Ideal) (aZb m c) (aVb m c) (aLg m c) (aLb m c) (aWb m c) (aWo m c) (aDm m c) = (dats m 0 c).arrAt 14 cfg0.N := by
  refine Eq.trans ?_ (final_dvb m c).symm
  funext i
  refine (congrArg _ (eq_ix2 i)).trans ?_
  refine (RefMixAt.v128 (aBg m c) (aZa m c) (aZb m c) (aVa m c) (aVb m c) (aLg m c) (aLb m c) (aWa m c) (aWb m c) (aWo m c) (aDm m c) (i 0) (i 1)).trans ?_
  exact (congrFun (MixRow.dvb_eq (fin m c h (i 0))) (i 1)).symm

theorem ref_small (h : Cert.Pre_BwdMixIdeal_finite_mix (hPre_finite_mix := Cert.Pre_finite_mix.Gen.facts) m) : val_main_v148 (F := Ideal) (aBg m c) (aZa m c) (aZb m c) (aVa m c) (aVb m c) (aLg m c) (aLb m c) (aWa m c) (aWb m c) (aWo m c) (aDm m c) = (dats m 0 c).arrAt 15 cfg0.N := by
  refine Eq.trans ?_ (final_small m c).symm
  funext i
  refine (congrArg _ (eq_ix2 i)).trans ?_
  refine (RefMixAt.v148 (aBg m c) (aZa m c) (aZb m c) (aVa m c) (aVb m c) (aLg m c) (aLb m c) (aWa m c) (aWb m c) (aWo m c) (aDm m c) (i 0) (i 1)).trans ?_
  exact Finset.sum_congr rfl fun s _ => (MixRow.term_eq (fin m c h s) (i 0).val (i 1)).symm

set_option maxHeartbeats 2000000 in
/-- The two programs end with the same gradients, at finite arguments. -/
theorem algebraic : Cert.algebraic_BwdMixIdeal_RefMixIdeal_pre_finite_mix (hBwdMixIdeal := Cert.BwdMixIdeal.Gen.facts) (hRefMixIdeal := Cert.RefMixIdeal.Gen.facts) (hPre_finite_mix := Cert.Pre_finite_mix.Gen.facts) := by
  intro m ρ m' ρ' hpre hag
  refine ⟨fun c => (dats m 0 c).arrAt 10 cfg0.N, fun c => (dats m 0 c).arrAt 11 cfg0.N, fun c => (dats m 0 c).arrAt 12 cfg0.N, fun c => (dats m 0 c).arrAt 13 cfg0.N, fun c => (dats m 0 c).arrAt 14 cfg0.N, fun c => (dats m 0 c).arrAt 15 cfg0.N,
    (θ_run Cert.BwdMixIdeal.defs _ _).mono (fun _ h c => ⟨(h.1 c).1 10, (h.1 c).1 11, (h.1 c).1 12, (h.1 c).1 13, (h.1 c).1 14, (h.1 c).1 15, args_kept m h.1 c⟩) (run_main m ρ), ?_⟩
  refine (θ_run Cert.RefMixIdeal.defs _ _).mono (fun _ h c => ?_) (RefMixIdeal.Value.run m' ρ')
  obtain ⟨r0, r1, r2, r3, r4, r5, hr⟩ := h c
  obtain ⟨e0, e1, e2, e3, e4, e5, e6, e7, e8, e9, e10⟩ := hag c
  have k0 : StableHlo.launchContents m' c (Proc.tc.devRef Cert.RefMixIdeal.main_arg0) = aBg m c := e0
  have k1 : StableHlo.launchContents m' c (Proc.tc.devRef Cert.RefMixIdeal.main_arg1) = aZa m c := e1
  have k2 : StableHlo.launchContents m' c (Proc.tc.devRef Cert.RefMixIdeal.main_arg2) = aZb m c := e2
  have k3 : StableHlo.launchContents m' c (Proc.tc.devRef Cert.RefMixIdeal.main_arg3) = aVa m c := e3
  have k4 : StableHlo.launchContents m' c (Proc.tc.devRef Cert.RefMixIdeal.main_arg4) = aVb m c := e4
  have k5 : StableHlo.launchContents m' c (Proc.tc.devRef Cert.RefMixIdeal.main_arg5) = aLg m c := e5
  have k6 : StableHlo.launchContents m' c (Proc.tc.devRef Cert.RefMixIdeal.main_arg6) = aLb m c := e6
  have k7 : StableHlo.launchContents m' c (Proc.tc.devRef Cert.RefMixIdeal.main_arg7) = aWa m c := e7
  have k8 : StableHlo.launchContents m' c (Proc.tc.devRef Cert.RefMixIdeal.main_arg8) = aWb m c := e8
  have k9 : StableHlo.launchContents m' c (Proc.tc.devRef Cert.RefMixIdeal.main_arg9) = aWo m c := e9
  have k10 : StableHlo.launchContents m' c (Proc.tc.devRef Cert.RefMixIdeal.main_arg10) = aDm m c := e10
  refine ⟨r0.trans ?_, r1.trans ?_, r2.trans ?_, r3.trans ?_, r4.trans ?_, r5.trans ?_, hr⟩
  · rw [val_main_v150_eq, k0, k1, k2, k3, k4, k5, k6, k7, k8, k9, k10]
    exact ref_dpa m c
  · rw [val_main_v151_eq, k1, k9, k10]
    exact ref_dya m c
  · rw [val_main_v152_eq, k2, k9, k10]
    exact ref_dyb m c
  · rw [val_main_v132_eq, k0, k1, k7, k9, k10]
    exact ref_dva m c
  · rw [val_main_v128_eq, k2, k4, k5, k6, k8, k9, k10]
    exact ref_dvb m c hpre
  · rw [val_main_v148_eq, k0, k1, k2, k3, k4, k5, k6, k7, k8, k9, k10]
    exact ref_small m c hpre

end Cert.ValueMix

end
-- ==== Proof.FwdIn.Base.lean ====
module

public import proofs.«01_k».proof.Proof.Gen.FwdInIdeal.Frame
public import proofs.«01_k».proof.Proof.Gen.FwdInIdeal.Skeleton
public import Idealize.ShloMosaic.Lib.Pipeline.FrameBody
public import Idealize.ShloMosaic.Lib.Ring
public import Idealize.ShloMosaic.Lib.Tactic
public import Idealize.ShloMosaic.Lib.Transfers
public import Idealize.ShloMosaic.Lib.WordCmp
public import Idealize.ShloMosaic.Lib.Pointwise
public import proofs.«01_k».proof.Proof.Common
public import Idealize.ShloMosaic.Lib.Pipeline.ValueKit.Tiles

@[expose] public section

set_option maxRecDepth 16384

noncomputable section

namespace Cert.FwdIn.Hand

open Cert.FwdInIdeal Cert.FwdInIdeal.Gen
open Idealize.ShloMosaic TcCoe Tactic
open Idealize.SL RA BI BIBase Laws ProofMode Sem
open Pipeline (Dat BodyObligation)

variable {F : FTy → Type} [FloatOps F]

local notation "𝕄" => MT nD τ sig Unit (Elt F) ℕ (Pipeline.UD sig nD τ) ℕ

abbrev cond0_0 (i : grid0.Coords) : Prop := (Scalar.cmpi .ne (Scalar.extui (Scalar.cmpi .eq (BitVec.ofNat 32 (i 0).val) 0#32)) 0#32) = 1#1
abbrev scM : Memref sig .tc .vmem S7168x1024 .bf16 := Memref.whole cc0_scratch0
abbrev hbM : Memref sig .tc .hbm S8x896x1024 .bf16 := Memref.whole main_v2

abbrev hbPt (c : Dev nD) {sp : Space} {S : Shape} {e : EltTy} (M : Memref sig .tc sp S e) (f : Buf (Elt F) (M.view.loc (c : Thread nD τ))) : sProp 𝕄 :=
  M.view.loc (c : Thread nD τ) ↦{fullShare} f

/-- The slab entry that row `r`, column `k` of the assembled weight is: row `r % 896` of slab `r / 896`. -/
def slabIdx (y : S7168x1024.Idx) : S8x896x1024.Idx := fun a => match a with
  | 0 => ⟨(y 0).val / 896, by have h : (y 0).val < 7168 := (y 0).isLt; show _ < 8; omega⟩
  | 1 => ⟨(y 0).val % 896, by show _ < 896; omega⟩
  | 2 => ⟨(y 1).val, (y 1).isLt⟩

/-- The weight the eight staged copies leave in the scratch: rows `896·d + r` are row `r` of slab `d`. -/
def scr (sl : Vec F S8x896x1024 .bf16) : Vec F S7168x1024 .bf16 := fun y => sl (slabIdx y)

/-- A copy of slab `d` reads the slab's entries. -/
theorem slab_read (d : ℕ) (hd : d < 8) (inb : ∀ a, (![d, 0, 0] : Fin 3 → ℕ) a + S1x896x1024.size a ≤ S8x896x1024.size a) (pf : ∀ a, (Rect.unit (s := S8x896x1024) ![d, 0, 0] S1x896x1024.size inb).stride a = 1)
    (sl : Vec F S8x896x1024 .bf16) (off : ℕ) (ho : off = 896 * d) (ib : ∀ a, (![off, 0] : Fin 2 → ℕ) a + S896x1024.size a ≤ S7168x1024.size a) (x : S896x1024.Idx) :
    View.read (Elt F) ((hbM.slice (Rect.unit (s := S8x896x1024) ![d, 0, 0] S1x896x1024.size inb) pf).squeeze S896x1024 squeezes_S1x896x1024_S896x1024).view sl x
      = scr sl ((Rect.unit (s := S7168x1024) ![off, 0] S896x1024.size ib).emb x) := by
  subst ho
  have e : Shape.reshapeEquiv (s := S1x896x1024) (s' := S896x1024) squeezes_S1x896x1024_S896x1024.numel_eq x = (fun a => match a with
      | 0 => ⟨0, by show 0 < 1; omega⟩
      | 1 => x 0
      | 2 => x 1 : S1x896x1024.Idx) := by
    refine Shape.reshapeEquiv_eq_of_rowMajor _ ?_
    rw [Shape.rowMajor_val_two, Shape.rowMajor_val_three]
    show (0 * 896 + (x 0).val) * 1024 + (x 1).val = (x 0).val * 1024 + (x 1).val
    omega
  show sl ((Rect.unit (s := S8x896x1024) ![d, 0, 0] S1x896x1024.size inb).emb (Shape.reshapeEquiv _ x)) = _
  rw [e]
  unfold scr
  have h0 : (x 0).val < 896 := (x 0).isLt
  refine congrArg sl (funext fun a => Fin.ext ?_)
  match a with
  | 0 => show d + 1 * 0 = (896 * d + 1 * (x 0).val) / 896; omega
  | 1 => show 0 + 1 * (x 0).val = (896 * d + 1 * (x 0).val) % 896; omega
  | 2 => show 0 + 1 * (x 1).val = 0 + 1 * (x 1).val; rfl

/-- Eight row blocks that hold the assembled weight's own rows leave it, whatever was there. -/
theorem read_pieces (sl : Vec F S8x896x1024 .bf16) (p0 p1 p2 p3 p4 p5 p6 p7 : S896x1024.Idx → Elt F .bf16)
    (h0 : ∀ x, p0 x = scr sl ((Rect.unit (s := S7168x1024) ![0, 0] S896x1024.size inb_S7168x1024_S896x1024_0_0).emb x))
    (h1 : ∀ x, p1 x = scr sl ((Rect.unit (s := S7168x1024) ![896, 0] S896x1024.size inb_S7168x1024_S896x1024_896_0).emb x))
    (h2 : ∀ x, p2 x = scr sl ((Rect.unit (s := S7168x1024) ![1792, 0] S896x1024.size inb_S7168x1024_S896x1024_1792_0).emb x))
    (h3 : ∀ x, p3 x = scr sl ((Rect.unit (s := S7168x1024) ![2688, 0] S896x1024.size inb_S7168x1024_S896x1024_2688_0).emb x))
    (h4 : ∀ x, p4 x = scr sl ((Rect.unit (s := S7168x1024) ![3584, 0] S896x1024.size inb_S7168x1024_S896x1024_3584_0).emb x))
    (h5 : ∀ x, p5 x = scr sl ((Rect.unit (s := S7168x1024) ![4480, 0] S896x1024.size inb_S7168x1024_S896x1024_4480_0).emb x))
    (h6 : ∀ x, p6 x = scr sl ((Rect.unit (s := S7168x1024) ![5376, 0] S896x1024.size inb_S7168x1024_S896x1024_5376_0).emb x))
    (h7 : ∀ x, p7 x = scr sl ((Rect.unit (s := S7168x1024) ![6272, 0] S896x1024.size inb_S7168x1024_S896x1024_6272_0).emb x))
    (f : scM.view.ty.Contents (Elt F)) :
    scM.view.read (Elt F) (scM.view.writes (Elt F) f [⟨Rect.unit ![6272, 0] S896x1024.size inb_S7168x1024_S896x1024_6272_0, p7⟩, ⟨Rect.unit ![5376, 0] S896x1024.size inb_S7168x1024_S896x1024_5376_0, p6⟩, ⟨Rect.unit ![4480, 0] S896x1024.size inb_S7168x1024_S896x1024_4480_0, p5⟩, ⟨Rect.unit ![3584, 0] S896x1024.size inb_S7168x1024_S896x1024_3584_0, p4⟩, ⟨Rect.unit ![2688, 0] S896x1024.size inb_S7168x1024_S896x1024_2688_0, p3⟩, ⟨Rect.unit ![1792, 0] S896x1024.size inb_S7168x1024_S896x1024_1792_0, p2⟩, ⟨Rect.unit ![896, 0] S896x1024.size inb_S7168x1024_S896x1024_896_0, p1⟩, ⟨Rect.unit ![0, 0] S896x1024.size inb_S7168x1024_S896x1024_0_0, p0⟩]) = scr sl := by
  funext y
  refine (View.read_writes_apply_eq_canon _ _ _ _ ?hc).trans (View.canon_eq_of_allAt _ y _ ?hc ?_)
  · exact View.cover_of_tiled (s := S7168x1024) _ S896x1024.size rfl y
  intro p hp x hx
  subst hx
  simp only [List.mem_cons, List.not_mem_nil, or_false] at hp
  rcases hp with rfl | rfl | rfl | rfl | rfl | rfl | rfl | rfl
  · exact h7 x
  · exact h6 x
  · exact h5 x
  · exact h4 x
  · exact h3 x
  · exact h2 x
  · exact h1 x
  · exact h0 x

theorem inbW (j : Fin 7) : ∀ a, (![1024 * j.val, 0] : Fin 2 → ℕ) a + S1024x1024.size a ≤ S7168x1024.size a := by
  have := j.isLt
  intro a
  match a with
  | 0 => show 1024 * j.val + 1024 ≤ 7168; omega
  | 1 => exact Nat.le_refl 1024

theorem inbB (j : Fin 7) : ∀ a, (![0, 1024 * j.val] : Fin 2 → ℕ) a + S1x1024.size a ≤ S1x7168.size a := by
  have := j.isLt
  intro a
  match a with
  | 0 => exact Nat.le_refl 1
  | 1 => show 1024 * j.val + 1024 ≤ 7168; omega

/-- The rows of the weight and the entries of the bias that make the projection's piece `j`. -/
def wj (w : Vec F S7168x1024 .bf16) (j : Fin 7) : Vec F S1024x1024 .bf16 := VecWindow.window w ![1024 * j.val, 0] S1024x1024.size (inbW j)
def bj (b : Vec F S1x7168 .f32) (j : Fin 7) : Vec F S1x1024 .f32 := VecWindow.window b ![0, 1024 * j.val] S1x1024.size (inbB j)

/-- The normalised rows of a block. -/
def hB (x : Vec F S512x1024 .f32) (g : Vec F S1x1024 .f32) : Vec F S512x1024 .bf16 := k0_pay3 x (k0_pay2 x) g

/-- What a point stores: the projection, the product of its pieces 1 and 2, and piece 3 gated by piece 4. -/
def projB (x : Vec F S512x1024 .f32) (g : Vec F S1x1024 .f32) (b : Vec F S1x7168 .f32) (w : Vec F S7168x1024 .bf16) : Vec F S512x7168 .bf16 := fun y =>
  k0_pay1 (hB x g) (wj w ⟨(y 1).val / 1024, by have h : (y 1).val < 7168 := (y 1).isLt; omega⟩) (bj b ⟨(y 1).val / 1024, by have h : (y 1).val < 7168 := (y 1).isLt; omega⟩)
    (ix2 (y 0) ⟨(y 1).val % 1024, Nat.mod_lt _ (by decide)⟩)
def pB (x : Vec F S512x1024 .f32) (g : Vec F S1x1024 .f32) (b : Vec F S1x7168 .f32) (w : Vec F S7168x1024 .bf16) : Vec F S512x1024 .f32 :=
  k0_pay9 (k0_pay10 (hB x g) (wj w 1) (bj b 1)) (k0_pay10 (hB x g) (wj w 2) (bj b 2))
def uB (x : Vec F S512x1024 .f32) (g : Vec F S1x1024 .f32) (b : Vec F S1x7168 .f32) (w : Vec F S7168x1024 .bf16) : Vec F S512x1024 .f32 :=
  k0_pay14 (hB x g) (wj w 3) (bj b 3) (wj w 4) (bj b 4)

theorem proj_at (x : Vec F S512x1024 .f32) (g : Vec F S1x1024 .f32) (b : Vec F S1x7168 .f32) (w : Vec F S7168x1024 .bf16) (j : Fin 7) (off : ℕ) (ho : off = 1024 * j.val)
    (ib : ∀ a, (![0, off] : Fin 2 → ℕ) a + S512x1024.size a ≤ S512x7168.size a) (i : S512x1024.Idx) :
    projB x g b w ((Rect.unit (s := S512x7168) ![0, off] S512x1024.size ib).emb i) = k0_pay1 (hB x g) (wj w j) (bj b j) i := by
  subst ho
  have h1 : (i 1).val < 1024 := (i 1).isLt
  have e : (((Rect.unit (s := S512x7168) ![0, 1024 * j.val] S512x1024.size ib).emb i) 1).val = 1024 * j.val + 1 * (i 1).val := rfl
  have ej : ∀ h, (⟨(((Rect.unit (s := S512x7168) ![0, 1024 * j.val] S512x1024.size ib).emb i) 1).val / 1024, h⟩ : Fin 7) = j := fun h => Fin.ext ((congrArg (· / 1024) e).trans (by show (1024 * j.val + 1 * (i 1).val) / 1024 = j.val; omega))
  unfold projB
  rw [ej]
  refine congrArg _ (funext fun a => Fin.ext ?_)
  match a with
  | 0 => show 0 + 1 * (i 0).val = (i 0).val; omega
  | 1 => show (1024 * j.val + 1 * (i 1).val) % 1024 = (i 1).val; omega

/-- Seven column blocks that hold the projection's pieces make the projection. -/
theorem read_proj {sp : Space} (M : Memref sig .tc sp S512x7168 .bf16) (x : Vec F S512x1024 .f32) (g : Vec F S1x1024 .f32) (b : Vec F S1x7168 .f32) (w : Vec F S7168x1024 .bf16) (f : M.view.ty.Contents (Elt F)) (p6 p5 p4 p3 p2 p1 p0 : Vec F S512x1024 .bf16)
    (h6 : p6 = k0_pay1 (hB x g) (wj w 6) (bj b 6)) (h5 : p5 = k0_pay1 (hB x g) (wj w 5) (bj b 5)) (h4 : p4 = k0_pay1 (hB x g) (wj w 4) (bj b 4)) (h3 : p3 = k0_pay1 (hB x g) (wj w 3) (bj b 3)) (h2 : p2 = k0_pay1 (hB x g) (wj w 2) (bj b 2)) (h1 : p1 = k0_pay1 (hB x g) (wj w 1) (bj b 1)) (h0 : p0 = k0_pay1 (hB x g) (wj w 0) (bj b 0)) :
    M.view.read (Elt F) (M.view.writes (Elt F) f [⟨Rect.unit ![0, 6144] S512x1024.size inb_S512x7168_S512x1024_0_6144, p6⟩, ⟨Rect.unit ![0, 5120] S512x1024.size inb_S512x7168_S512x1024_0_5120, p5⟩, ⟨Rect.unit ![0, 4096] S512x1024.size inb_S512x7168_S512x1024_0_4096, p4⟩, ⟨Rect.unit ![0, 3072] S512x1024.size inb_S512x7168_S512x1024_0_3072, p3⟩, ⟨Rect.unit ![0, 2048] S512x1024.size inb_S512x7168_S512x1024_0_2048, p2⟩, ⟨Rect.unit ![0, 1024] S512x1024.size inb_S512x7168_S512x1024_0_1024, p1⟩, ⟨Rect.unit ![0, 0] S512x1024.size inb_S512x7168_S512x1024_0_0, p0⟩]) = projB x g b w := by
  funext y
  refine (View.read_writes_apply_eq_canon _ _ _ _ ?hc).trans (View.canon_eq_of_allAt _ y _ ?hc ?_)
  · exact View.cover_of_tiled (s := S512x7168) _ S512x1024.size rfl y
  intro p hp i hi
  subst hi
  simp only [List.mem_cons, List.not_mem_nil, or_false] at hp
  rcases hp with rfl | rfl | rfl | rfl | rfl | rfl | rfl
  · exact ((congrFun h6 i).trans (proj_at x g b w 6 6144 rfl inb_S512x7168_S512x1024_0_6144 i).symm)
  · exact ((congrFun h5 i).trans (proj_at x g b w 5 5120 rfl inb_S512x7168_S512x1024_0_5120 i).symm)
  · exact ((congrFun h4 i).trans (proj_at x g b w 4 4096 rfl inb_S512x7168_S512x1024_0_4096 i).symm)
  · exact ((congrFun h3 i).trans (proj_at x g b w 3 3072 rfl inb_S512x7168_S512x1024_0_3072 i).symm)
  · exact ((congrFun h2 i).trans (proj_at x g b w 2 2048 rfl inb_S512x7168_S512x1024_0_2048 i).symm)
  · exact ((congrFun h1 i).trans (proj_at x g b w 1 1024 rfl inb_S512x7168_S512x1024_0_1024 i).symm)
  · exact ((congrFun h0 i).trans (proj_at x g b w 0 0 rfl inb_S512x7168_S512x1024_0_0 i).symm)

end Cert.FwdIn.Hand

end
-- ==== Proof.FwdIn.Run.lean ====
module

public import proofs.«01_k».proof.Proof.FwdIn.Base

@[expose] public section

set_option maxRecDepth 16384

noncomputable section

namespace Cert.FwdIn.Hand

open Cert.FwdInIdeal Cert.FwdInIdeal.Gen
open Idealize.ShloMosaic TcCoe Tactic
open Idealize.SL RA BI BIBase Laws ProofMode Sem
open Pipeline (Dat BodyObligation)

variable {F : FTy → Type} [FloatOps F]

local notation "𝕄" => MT nD τ sig Unit (Elt F) ℕ (Pipeline.UD sig nD τ) ℕ

set_option maxHeartbeats 4000000 in
/-- A point after the first: the weight is already staged, and the four blocks are stored. -/
theorem runB (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1x7168 .f32) (harg3 : arg3.IsWhole)
    (arg5 : Memref sig .tc .vmem S512x7168 .bf16) (harg5 : arg5.IsWhole) (arg6 : Memref sig .tc .vmem S512x1024 .f32) (harg6 : arg6.IsWhole) (arg7 : Memref sig .tc .vmem S512x1024 .f32) (harg7 : arg7.IsWhole) (arg8 : Memref sig .tc .vmem S512x1024 .bf16) (harg8 : arg8.IsWhole)
    (x : Vec F S512x1024 .f32) (g : Vec F S1x1024 .f32) (b : Vec F S1x7168 .f32) (w : Vec F S7168x1024 .bf16)
    (hc : ¬ cond0_0 i)
    (K : PUnit → sProp 𝕄) :
    iprop(owns c.tc arg1 fullShare x ∗ owns c.tc arg2 fullShare g ∗ owns c.tc arg3 fullShare b ∗ (∃ d, owns c.tc arg5 fullShare d) ∗ (∃ d, owns c.tc arg6 fullShare d) ∗ (∃ d, owns c.tc arg7 fullShare d) ∗ (∃ d, owns c.tc arg8 fullShare d) ∗ owns c.tc scM fullShare w
        ∗ (iprop(owns c.tc arg1 fullShare x ∗ owns c.tc arg2 fullShare g ∗ owns c.tc arg3 fullShare b ∗ owns c.tc arg5 fullShare (projB x g b w) ∗ owns c.tc arg6 fullShare (pB x g b w) ∗ owns c.tc arg7 fullShare (uB x g b w) ∗ owns c.tc arg8 fullShare (hB x g) ∗ owns c.tc scM fullShare w) -∗ K ⟨⟩))
      ⊢ wp frame (wpE (defs₀ (F := F)) Variants.none c none) Set.univ
          (cc0_fwd_in i arg1 harg1 arg2 harg2 arg3 harg3 hbM (Memref.isWhole_whole _) arg5 harg5 arg6 harg6 arg7 harg7 arg8 harg8 scM (Memref.isWhole_whole _) cc0_scratch1) K := by
  simp only [cc0_fwd_in_eq_skeleton]; unfold cc0_fwd_in_skel
  simp only [k0_part3_eq_skeleton, k0_part4_eq_skeleton, k0_part5_eq_skeleton, k0_part1_eq_skeleton, k0_part2_eq_skeleton]
  unfold owns
  iintro ⟨⟨%f1, %hf1, H1⟩, ⟨%f2, %hf2, H2⟩, ⟨%f3, %hf3, H3⟩, ⟨%d5, %f5, -, H5⟩, ⟨%d6, %f6, -, H6⟩, ⟨%d7, %f7, -, H7⟩, ⟨%d8, %f8, -, H8⟩, ⟨%fs, %hfs, HS⟩, Hk⟩
  subst hf1 hf2 hf3 hfs
  sl_exec (disch := first | sl_exact hc)
  sl_step
  iapply Hk
  isplitl [H1]; · iexists _; isplitr; swap; iexact H1; ipureintro; rfl
  isplitl [H2]; · iexists _; isplitr; swap; iexact H2; ipureintro; rfl
  isplitl [H3]; · iexists _; isplitr; swap; iexact H3; ipureintro; rfl
  isplitl [H5]; · iexists _; isplitr; swap; iexact H5; ipureintro; (repeat delta runB.sl.r runB.sl.r_1 runB.sl.r_2 runB.sl.r_3 runB.sl.r_4); (repeat rw [View.readAt_full]); refine read_proj _ _ _ _ _ _ _ _ _ _ _ _ _ ?_ ?_ ?_ ?_ ?_ ?_ ?_ <;> (rfl)
  isplitl [H6]; · iexists _; isplitr; swap; iexact H6; ipureintro; rw [View.read_writes_full]; (repeat delta runB.sl.r runB.sl.r_1 runB.sl.r_2 runB.sl.r_3 runB.sl.r_4); (repeat rw [View.readAt_full]); rfl
  isplitl [H7]; · iexists _; isplitr; swap; iexact H7; ipureintro; rw [View.read_writes_full]; (repeat delta runB.sl.r runB.sl.r_1 runB.sl.r_2 runB.sl.r_3 runB.sl.r_4); (repeat rw [View.readAt_full]); rfl
  isplitl [H8]; · iexists _; isplitr; swap; iexact H8; ipureintro; rw [View.read_writes_full]; (repeat delta runB.sl.r runB.sl.r_1 runB.sl.r_2 runB.sl.r_3 runB.sl.r_4); (repeat rw [View.readAt_full]); rfl
  iexists _; isplitr; swap; iexact HS; ipureintro; rfl

end Cert.FwdIn.Hand

end
-- ==== Proof.FwdIn.RunA.lean ====
module

public import proofs.«01_k».proof.Proof.FwdIn.Base

@[expose] public section

set_option maxRecDepth 16384

noncomputable section

namespace Cert.FwdIn.Hand

open Cert.FwdInIdeal Cert.FwdInIdeal.Gen
open Idealize.ShloMosaic TcCoe Tactic
open Cert.Common
open Idealize.SL RA BI BIBase Laws ProofMode Sem
open Pipeline (Dat BodyObligation)

variable {F : FTy → Type} [FloatOps F]

local notation "𝕄" => MT nD τ sig Unit (Elt F) ℕ (Pipeline.UD sig nD τ) ℕ

set_option sl_exec.dmaWindow true in
set_option sl_exec.dmaWindowSet true in
set_option sl_exec.dmaWindowLent true in
set_option maxHeartbeats 4000000 in
/-- The first point: the eight copies stage the weight, and the point goes on as every other. -/
theorem runA (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1x7168 .f32) (harg3 : arg3.IsWhole)
    (arg5 : Memref sig .tc .vmem S512x7168 .bf16) (harg5 : arg5.IsWhole) (arg6 : Memref sig .tc .vmem S512x1024 .f32) (harg6 : arg6.IsWhole) (arg7 : Memref sig .tc .vmem S512x1024 .f32) (harg7 : arg7.IsWhole) (arg8 : Memref sig .tc .vmem S512x1024 .bf16) (harg8 : arg8.IsWhole)
    (x : Vec F S512x1024 .f32) (g : Vec F S1x1024 .f32) (b : Vec F S1x7168 .f32) (sl : Vec F S8x896x1024 .bf16) (W : Waits sig Unit)
    (hc : cond0_0 i)
    (K : PUnit → sProp 𝕄) :
    iprop(owns c.tc arg1 fullShare x ∗ owns c.tc arg2 fullShare g ∗ owns c.tc arg3 fullShare b ∗ (∃ d, owns c.tc arg5 fullShare d) ∗ (∃ d, owns c.tc arg6 fullShare d) ∗ (∃ d, owns c.tc arg7 fullShare d) ∗ (∃ d, owns c.tc arg8 fullShare d) ∗ (∃ d, owns c.tc scM fullShare d) ∗ semVal (c.tc, SemLoc.dma 12) 0 ∗ semVal (c.tc, SemLoc.dma 13) 0 ∗ semVal (c.tc, SemLoc.dma 14) 0 ∗ semVal (c.tc, SemLoc.dma 15) 0 ∗ semVal (c.tc, SemLoc.dma 16) 0 ∗ semVal (c.tc, SemLoc.dma 17) 0 ∗ semVal (c.tc, SemLoc.dma 18) 0 ∗ semVal (c.tc, SemLoc.dma 19) 0 ∗ hbPt c hbM sl ∗ owes c.tc 0 W
        ∗ (iprop(owns c.tc arg1 fullShare x ∗ owns c.tc arg2 fullShare g ∗ owns c.tc arg3 fullShare b ∗ owns c.tc arg5 fullShare (projB x g b (scr sl)) ∗ owns c.tc arg6 fullShare (pB x g b (scr sl)) ∗ owns c.tc arg7 fullShare (uB x g b (scr sl)) ∗ owns c.tc arg8 fullShare (hB x g) ∗ owns c.tc scM fullShare (scr sl) ∗ semVal (c.tc, SemLoc.dma 12) 0 ∗ semVal (c.tc, SemLoc.dma 13) 0 ∗ semVal (c.tc, SemLoc.dma 14) 0 ∗ semVal (c.tc, SemLoc.dma 15) 0 ∗ semVal (c.tc, SemLoc.dma 16) 0 ∗ semVal (c.tc, SemLoc.dma 17) 0 ∗ semVal (c.tc, SemLoc.dma 18) 0 ∗ semVal (c.tc, SemLoc.dma 19) 0 ∗ hbPt c hbM sl ∗ (∃ W', owes c.tc 0 W')) -∗ K ⟨⟩))
      ⊢ wp frame (wpE (defs₀ (F := F)) Variants.none c none) Set.univ
          (cc0_fwd_in i arg1 harg1 arg2 harg2 arg3 harg3 hbM (Memref.isWhole_whole _) arg5 harg5 arg6 harg6 arg7 harg7 arg8 harg8 scM (Memref.isWhole_whole _) cc0_scratch1) K := by
  simp only [cc0_fwd_in_eq_skeleton]; unfold cc0_fwd_in_skel
  simp only [k0_part3_eq_skeleton, k0_part4_eq_skeleton, k0_part5_eq_skeleton, k0_part1_eq_skeleton, k0_part2_eq_skeleton]
  unfold owns
  iintro ⟨⟨%f1, %hf1, H1⟩, ⟨%f2, %hf2, H2⟩, ⟨%f3, %hf3, H3⟩, ⟨%d5, %f5, -, H5⟩, ⟨%d6, %f6, -, H6⟩, ⟨%d7, %f7, -, H7⟩, ⟨%d8, %f8, -, H8⟩, ⟨%ds, %fs, -, HS⟩, Hq0, Hq1, Hq2, Hq3, Hq4, Hq5, Hq6, Hq7, Hh, HW, Hk⟩
  subst hf1 hf2 hf3
  sl_exec (disch := first | sl_exact hc)
  sl_step
  have hs := read_pieces sl (runA.sl.dma0 sl) (runA.sl.dma0_1 sl) (runA.sl.dma0_2 sl) (runA.sl.dma0_3 sl) (runA.sl.dma0_4 sl) (runA.sl.dma0_5 sl) (runA.sl.dma0_6 sl) (runA.sl.dma0_7 sl)
    (fun x => slab_read 0 (by omega) _ _ sl _ rfl _ x)
    (fun x => slab_read 1 (by omega) _ _ sl _ rfl _ x)
    (fun x => slab_read 2 (by omega) _ _ sl _ rfl _ x)
    (fun x => slab_read 3 (by omega) _ _ sl _ rfl _ x)
    (fun x => slab_read 4 (by omega) _ _ sl _ rfl _ x)
    (fun x => slab_read 5 (by omega) _ _ sl _ rfl _ x)
    (fun x => slab_read 6 (by omega) _ _ sl _ rfl _ x)
    (fun x => slab_read 7 (by omega) _ _ sl _ rfl _ x)
  have v23 : runA.sl.v23 c sl = wj (scr sl) 0 := by
    delta runA.sl.v23
    exact readCov_window _ _ _ hs _
  have v31 : runA.sl.v31 c sl = wj (scr sl) 1 := by
    delta runA.sl.v31
    exact readCov_window _ _ _ hs _
  have v39 : runA.sl.v39 c sl = wj (scr sl) 2 := by
    delta runA.sl.v39
    exact readCov_window _ _ _ hs _
  have v49 : runA.sl.v49 c sl = wj (scr sl) 3 := by
    delta runA.sl.v49
    exact readCov_window _ _ _ hs _
  have v57 : runA.sl.v57 c sl = wj (scr sl) 4 := by
    delta runA.sl.v57
    exact readCov_window _ _ _ hs _
  have v68 : runA.sl.v68 c sl = wj (scr sl) 5 := by
    delta runA.sl.v68
    exact readCov_window _ _ _ hs _
  have v76 : runA.sl.v76 c sl = wj (scr sl) 6 := by
    delta runA.sl.v76
    exact readCov_window _ _ _ hs _
  iapply Hk
  isplitl [H1]; · iexists _; isplitr; swap; iexact H1; ipureintro; rfl
  isplitl [H2]; · iexists _; isplitr; swap; iexact H2; ipureintro; rfl
  isplitl [H3]; · iexists _; isplitr; swap; iexact H3; ipureintro; rfl
  isplitl [H5]; · iexists _; isplitr; swap; iexact H5; ipureintro; (repeat delta runA.sl.r runA.sl.r_1 runA.sl.r_2 runA.sl.r_3 runA.sl.r_4); (repeat rw [View.readAt_full]); refine read_proj _ _ _ _ _ _ _ _ _ _ _ _ _ ?_ ?_ ?_ ?_ ?_ ?_ ?_ <;> (simp only [v23, v31, v39, v49, v57, v68, v76]; rfl)
  isplitl [H6]; · iexists _; isplitr; swap; iexact H6; ipureintro; rw [View.read_writes_full]; (repeat delta runA.sl.r runA.sl.r_1 runA.sl.r_2 runA.sl.r_3 runA.sl.r_4); (repeat rw [View.readAt_full]); simp only [v23, v31, v39, v49, v57, v68, v76]; rfl
  isplitl [H7]; · iexists _; isplitr; swap; iexact H7; ipureintro; rw [View.read_writes_full]; (repeat delta runA.sl.r runA.sl.r_1 runA.sl.r_2 runA.sl.r_3 runA.sl.r_4); (repeat rw [View.readAt_full]); simp only [v23, v31, v39, v49, v57, v68, v76]; rfl
  isplitl [H8]; · iexists _; isplitr; swap; iexact H8; ipureintro; rw [View.read_writes_full]; (repeat delta runA.sl.r runA.sl.r_1 runA.sl.r_2 runA.sl.r_3 runA.sl.r_4); (repeat rw [View.readAt_full]); rfl
  isplitl [HS]
  · iexists _; isplitr; swap; iexact HS; ipureintro; exact hs _
  iframe Hq0 Hq1 Hq2 Hq3 Hq4 Hq5 Hq6 Hq7 Hh
  iexists _; iexact HW

end Cert.FwdIn.Hand

end
-- ==== Proof.FwdIn.Body.lean ====
module

public import proofs.«01_k».proof.Proof.FwdIn.Run
public import proofs.«01_k».proof.Proof.FwdIn.RunA
public import proofs.«01_k».proof.Proof.Gen.FwdInIdeal.Points
public import Idealize.ShloMosaic.Lib.Pipeline.Frame

@[expose] public section

set_option maxRecDepth 16384

noncomputable section

namespace Cert.FwdIn.Hand

open Cert.FwdInIdeal Cert.FwdInIdeal.Gen
open Idealize.ShloMosaic TcCoe Tactic
open Idealize.SL RA BI BIBase Laws ProofMode Sem
open Pipeline (Dat BodyObligation)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The kernel's own counters and the operand its copies read -/

/-- The eight counters of the kernel's own copies. -/
abbrev osem0 : Fin 8 → SemLoc sig := fun j => (![SemLoc.dma 12, SemLoc.dma 13, SemLoc.dma 14, SemLoc.dma 15, SemLoc.dma 16, SemLoc.dma 17, SemLoc.dma 18, SemLoc.dma 19] : Fin 8 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal (c.tc, SemLoc.dma 12) 0 ∗ semVal (c.tc, SemLoc.dma 13) 0 ∗ semVal (c.tc, SemLoc.dma 14) 0 ∗ semVal (c.tc, SemLoc.dma 15) 0
          ∗ semVal (c.tc, SemLoc.dma 16) 0 ∗ semVal (c.tc, SemLoc.dma 17) 0 ∗ semVal (c.tc, SemLoc.dma 18) 0 ∗ semVal (c.tc, SemLoc.dma 19) 0) := by
  rw [Pipeline.ownSems0_eq_of_list c osem0 [0, 1, 2, 3, 4, 5, 6, 7] (by decide) (by decide)]; rfl
/-- The weight's slabs, left in the array's own memory. -/
def H0 : Finset (Ref sig .tc) := {main_v2}
theorem H0_sub : H0 ⊆ Pipeline.restRefs sig spec0 := by decide
theorem hbmPts0_eq (c : Dev nD) :
    (bigSep H0 (fun b => (c.tc.loc b) ↦{fullShare} V m c b) : sProp 𝕄) = iprop(hbPt c hbM (V m c main_v2)) := by
  rw [BI.bigSep_eq_bigSepL_of_eq [main_v2] (by decide) (by decide)]; rfl

/-- What the invariant says of everything but the scratch. -/
def Rst (c : Dev nD) : sProp 𝕄 :=
  iprop((∃ r, prngReg c r)
    ∗ iprop(semVal (c.tc, SemLoc.dma 12) 0 ∗ semVal (c.tc, SemLoc.dma 13) 0 ∗ semVal (c.tc, SemLoc.dma 14) 0 ∗ semVal (c.tc, SemLoc.dma 15) 0
          ∗ semVal (c.tc, SemLoc.dma 16) 0 ∗ semVal (c.tc, SemLoc.dma 17) 0 ∗ semVal (c.tc, SemLoc.dma 18) 0 ∗ semVal (c.tc, SemLoc.dma 19) 0)
    ∗ iprop(hbPt c hbM (V m c main_v2)))

theorem PhiD0_eq (c : Dev nD) :
    (Pipeline.ΦD osem0 spec0 H0 (V m) c : sProp 𝕄) = iprop(iprop(∃ d, owns c.tc scM fullShare d) ∗ Rst m c) := by
  rw [Pipeline.ΦD_eq, scopedRest0_eq, ownSems00_eq, hbmPts0_eq]; unfold Rst; simp only [scM, owns_whole]; try rfl

/-! ## The proof data -/

/-- The assembled weight. -/
def wt (c : Dev nD) : Vec F S7168x1024 .bf16 := scr (V m c main_v2)

/-- The invariant before point `n`: the scratch at anything at first, at the assembled weight after. -/
def PhiS (c : Dev nD) : ℕ → sProp 𝕄
  | 0 => Pipeline.ΦD osem0 spec0 H0 (V m) c
  | _ + 1 => iprop(owns c.tc scM fullShare (wt m c) ∗ Rst m c)

/-- The proof data: the inputs stay, the four results' blocks are what a point stores. -/
def dats (_ : Fin 1) (c : Dev nD) : Dat τ (Elt F) Unit ℕ (Pipeline.UD sig nD τ) ℕ cfg0 c where
  A w := V m c (Pipeline.arrRef spec0 w)
  after w t := match w with
    | 0 => iblk m c 0 t
    | 1 => iblk m c 1 t
    | 2 => iblk m c 2 t
    | 3 => projB (iblk m c 0 t) (iblk m c 1 t) (iblk m c 2 t) (wt m c)
    | 4 => pB (iblk m c 0 t) (iblk m c 1 t) (iblk m c 2 t) (wt m c)
    | 5 => uB (iblk m c 0 t) (iblk m c 1 t) (iblk m c 2 t) (wt m c)
    | 6 => hB (iblk m c 0 t) (iblk m c 1 t)
  Φ t := PhiS m c t.val
  q _ := fullShare
  owed _ := 0

theorem A_eq (c : Dev nD) (w : Fin cfg0.W) : (dats m 0 c).A w = V m c (Pipeline.arrRef spec0 w) := by dsimp only [dats]

theorem before0_0 (c : Dev nD) (t : Fin cfg0.N) (d) : (dats m 0 c).before 0 t d = iblk m c 0 t :=
  ((dats m 0 c).before_in_eq_fetched 0 rfl (fun _ => rfl) (fun _ _ _ => rfl) (fun t => rfl) t d).trans rfl
theorem before0_1 (c : Dev nD) (t : Fin cfg0.N) (d) : (dats m 0 c).before 1 t d = iblk m c 1 t :=
  ((dats m 0 c).before_in_eq_fetched 1 rfl (fun _ => rfl) (fun _ _ _ => rfl) (fun t => rfl) t d).trans rfl
theorem before0_2 (c : Dev nD) (t : Fin cfg0.N) (d) : (dats m 0 c).before 2 t d = iblk m c 2 t :=
  ((dats m 0 c).before_in_eq_fetched 2 rfl (fun _ => rfl) (fun _ _ _ => rfl) (fun t => rfl) t d).trans rfl

theorem hcond0 (t : Fin cfg0.N) : cond0_0 (grid0.coords t) ↔ t.val = 0 := by
  have hN : t.val < 16 := lt_of_lt_of_eq t.isLt (show cfg0.N = 16 from N_0)
  have e0 : (grid0.coords t 0).val = t.val / 1 % 16 := Pipeline.Grid.coords_val t 0 (by decide) rfl
  simp only [cond0_0, e0]
  have e1 : t.val / 1 % 16 = t.val := by omega
  rw [e1]
  exact (by decide : ∀ n : Fin 16, Scalar.cmpi .ne (Scalar.extui (Scalar.cmpi .eq (BitVec.ofNat 32 n.val) 0#32)) 0#32 = 1#1 ↔ n.val = 0) ⟨t.val, hN⟩

/-! ## The body obligation -/

def bodyPre (c : Dev nD) (t : Fin cfg0.N) : sProp 𝕄 :=
  iprop((dats m 0 c).Φ t.castSucc ∗ (dats m 0 c).owesAt () t.castSucc
    ∗ (∃ d, owns c.tc (st0_0 t) fullShare ((dats m 0 c).before 0 t d))
    ∗ (∃ d, owns c.tc (st0_1 t) fullShare ((dats m 0 c).before 1 t d))
    ∗ (∃ d, owns c.tc (st0_2 t) fullShare ((dats m 0 c).before 2 t d))
    ∗ (∃ d, owns c.tc (st0_3 t) fullShare ((dats m 0 c).before 3 t d))
    ∗ (∃ d, owns c.tc (st0_4 t) fullShare ((dats m 0 c).before 4 t d))
    ∗ (∃ d, owns c.tc (st0_5 t) fullShare ((dats m 0 c).before 5 t d))
    ∗ (∃ d, owns c.tc (st0_6 t) fullShare ((dats m 0 c).before 6 t d)))
def bodyPost (c : Dev nD) (t : Fin cfg0.N) : sProp 𝕄 :=
  iprop((dats m 0 c).Φ t.succ ∗ (dats m 0 c).owesAt () t.succ
    ∗ owns c.tc (st0_0 t) fullShare ((dats m 0 c).after 0 t)
    ∗ owns c.tc (st0_1 t) fullShare ((dats m 0 c).after 1 t)
    ∗ owns c.tc (st0_2 t) fullShare ((dats m 0 c).after 2 t)
    ∗ owns c.tc (st0_3 t) fullShare ((dats m 0 c).after 3 t)
    ∗ owns c.tc (st0_4 t) fullShare ((dats m 0 c).after 4 t)
    ∗ owns c.tc (st0_5 t) fullShare ((dats m 0 c).after 5 t)
    ∗ owns c.tc (st0_6 t) fullShare ((dats m 0 c).after 6 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  unfold Dat.owesAt Pipeline.owesWithin
  rw [show (dats m 0 c).owed t.castSucc = 0 from rfl]
  obtain ⟨n, hn⟩ := t
  cases n with
  | zero =>
    rw [show (dats m 0 c).Φ (Fin.castSucc ⟨0, hn⟩) = Pipeline.ΦD osem0 spec0 H0 (V m) c from rfl, PhiD0_eq,
      show (dats m 0 c).Φ (Fin.succ ⟨0, hn⟩) = iprop(owns c.tc scM fullShare (wt m c) ∗ Rst m c) from rfl]
    unfold Rst
    iintro ⟨⟨HS, Hg, ⟨Hq0, Hq1, Hq2, Hq3, Hq4, Hq5, Hq6, Hq7⟩, Hh⟩, ⟨%W, %hW, HO⟩, ⟨%d0, H0⟩, ⟨%d1, H1⟩, ⟨%d2, H2⟩, ⟨%d3, H3⟩, ⟨%d4, H4⟩, ⟨%d5, H5⟩, ⟨%d6, H6⟩⟩
    iapply (runA c (grid0.coords ⟨0, hn⟩) _ _ _ _ _ _ _ _ _ _ _ _ _ _ _ _ _ (V m c main_v2) W ((hcond0 ⟨0, hn⟩).mpr rfl) _)
    iframe H0 H1 H2
    isplitl [H3]; · iexists _; iexact H3
    isplitl [H4]; · iexists _; iexact H4
    isplitl [H5]; · iexists _; iexact H5
    isplitl [H6]; · iexists _; iexact H6
    isplitl [HS]; · iexact HS
    iframe Hq0 Hq1 Hq2 Hq3 Hq4 Hq5 Hq6 Hq7 Hh HO
    iintro ⟨H0, H1, H2, H3, H4, H5, H6, HS, Hq0, Hq1, Hq2, Hq3, Hq4, Hq5, Hq6, Hq7, Hh, ⟨%W', HO⟩⟩
    isplitl [HS Hg Hq0 Hq1 Hq2 Hq3 Hq4 Hq5 Hq6 Hq7 Hh]
    · isplitl [HS]; · iexact HS
      iframe Hg Hq0 Hq1 Hq2 Hq3 Hq4 Hq5 Hq6 Hq7 Hh
    isplitl [HO]
    · iexists W'; isplitr; · ipureintro; exact fun _ _ => Or.inl trivial
      iexact HO
    iframe H0 H1 H2 H3 H4 H5
    iexact H6
  | succ n =>
    rw [show (dats m 0 c).Φ (Fin.castSucc ⟨n + 1, hn⟩) = iprop(owns c.tc scM fullShare (wt m c) ∗ Rst m c) from rfl,
      show (dats m 0 c).Φ (Fin.succ ⟨n + 1, hn⟩) = iprop(owns c.tc scM fullShare (wt m c) ∗ Rst m c) from rfl]
    iintro ⟨⟨HS, HR⟩, HO, ⟨%d0, H0⟩, ⟨%d1, H1⟩, ⟨%d2, H2⟩, ⟨%d3, H3⟩, ⟨%d4, H4⟩, ⟨%d5, H5⟩, ⟨%d6, H6⟩⟩
    iapply (runB c (grid0.coords ⟨n + 1, hn⟩) _ _ _ _ _ _ _ _ _ _ _ _ _ _ _ _ _ (wt m c) (fun h => absurd ((hcond0 ⟨n + 1, hn⟩).mp h) (Nat.succ_ne_zero n)) _)
    iframe H0 H1 H2
    isplitl [H3]; · iexists _; iexact H3
    isplitl [H4]; · iexists _; iexact H4
    isplitl [H5]; · iexists _; iexact H5
    isplitl [H6]; · iexists _; iexact H6
    isplitl [HS]; · iexact HS
    iintro ⟨H0, H1, H2, H3, H4, H5, H6, HS⟩
    isplitl [HS HR]
    · isplitl [HS]; · iexact HS
      iexact HR
    iframe HO H0 H1 H2 H3 H4 H5
    iexact H6

/-- The body table's row at the point is the body. -/
theorem defs₀_row (t : Fin cfg0.N) : defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) Variants.none () Set.univ := fun t => by
  rw [bigSep_W0, bigSep_W0, defs₀_row]
  exact triple_restated (sound_body m c t) rfl .rfl fun _ => .rfl

/-! ## The launch -/

theorem hmainD (𝒱₀ : Variants) :
    Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

theorem hout (c : Dev nD) : (dats m 0 c).Φ (Fin.last cfg0.N) ⊢ Pipeline.ΦD osem0 spec0 H0 (V m) c := by
  have hN : cfg0.N = 15 + 1 := N_0
  rw [show (dats m 0 c).Φ (Fin.last cfg0.N) = PhiS m c cfg0.N from rfl, hN, PhiD0_eq]
  show iprop(owns c.tc scM fullShare (wt m c) ∗ Rst m c) ⊢ _
  iintro ⟨HS, HR⟩
  isplitl [HS]; · iexists _; iexact HS
  iexact HR

set_option backward.isDefEq.respectTransparency.types false in
/-- The run: every array a window stages ends as the proof data say, every other as the region found it, and every counter at zero. -/
theorem run_main :
    θ_run defs (onTc (τ := τ) (main (F := F))) (s₀ m ρ)
      (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmainD m Variants.none) (hA := A_eq m)
    (hin := fun _ => .rfl) (hout := hout m) (hQ' := fun _ h => h)

variable {m ρ}

/-- The arguments end as they were launched. -/
theorem args_kept {r : PUnit × MemSt nD τ sig (Elt F)} (h : Pipeline.FramePost cfgs (dats m) 0 (V m) r) (c : Dev nD) :
    r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3) :=
  ⟨((h c).1 0).trans (((dats m 0 c).arrAt_in 0 rfl _).trans ((A_eq m c 0).trans (V_main_arg0 m c))),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c)⟩

end Cert.FwdIn.Hand

end
-- ==== Proof.FwdIn.Frames.lean ====
module

public import proofs.«01_k».proof.Defs
public import proofs.«01_k».proof.Proof.FwdIn.Body
public import proofs.«01_k».proof.Proof.Gen.FwdIn
public import proofs.«01_k».proof.Proof.Gen.FwdInIdeal

@[expose] public section

noncomputable section

namespace Cert.FwdIn.Hand

open Idealize.ShloMosaic Idealize.ShloMosaic.TcCoe Idealize.SL.Sem

/-- At any float operations: the program runs, keeps its arguments, and ends with every counter at zero. -/
theorem frame_any {F : FTy → Type} [FloatOps F] (m : (ℓ : Loc Cert.FwdInIdeal.nD Cert.FwdInIdeal.τ Cert.FwdInIdeal.sig) → Buf (Elt F) ℓ) (ρ : Dev Cert.FwdInIdeal.nD → PrngReg) :
    θ_run (Cert.FwdInIdeal.defs (F := F)) (onTc (τ := Cert.FwdInIdeal.τ) (Cert.FwdInIdeal.main (F := F))) ⟨m, fun _ => 0, ρ⟩ (fun r => (∀ c : Dev Cert.FwdInIdeal.nD,
      r.2.mem (c.tc.loc Cert.FwdInIdeal.main_arg0) = m (c.tc.loc Cert.FwdInIdeal.main_arg0)
      ∧ r.2.mem (c.tc.loc Cert.FwdInIdeal.main_arg1) = m (c.tc.loc Cert.FwdInIdeal.main_arg1)
      ∧ r.2.mem (c.tc.loc Cert.FwdInIdeal.main_arg2) = m (c.tc.loc Cert.FwdInIdeal.main_arg2)
      ∧ r.2.mem (c.tc.loc Cert.FwdInIdeal.main_arg3) = m (c.tc.loc Cert.FwdInIdeal.main_arg3))
      ∧ r.2.sem = fun _ => 0) :=
  (θ_run Cert.FwdInIdeal.defs _ _).mono (fun _ h => ⟨fun c => args_kept h.1 c, h.2⟩) (run_main m ρ)

/-- The idealized program runs, keeps its arguments, and ends with every counter at zero. -/
theorem frame_ideal : Cert.quiescent_FwdInIdeal (hFwdInIdeal := Cert.FwdInIdeal.Gen.facts) := fun m ρ _ => frame_any m ρ

/-- The kernel as it is compiled is the same program over words: the same run. -/
theorem frame_kernel : Cert.quiescent_FwdIn (hFwdIn := Cert.FwdIn.Gen.facts) := by
  intro m ρ _
  have h := frame_any (F := Bits) m ρ
  have hd : (Cert.FwdIn.defs (F := Bits)) = Cert.FwdInIdeal.defs (F := Bits) := by sl_kernel_rfl
  have hm : Cert.FwdIn.main (F := Bits) = Cert.FwdInIdeal.main (F := Bits) := by sl_kernel_rfl
  rw [hd, hm]
  exact h

end Cert.FwdIn.Hand

end
-- ==== Proof.FwdIn.Value.lean ====
module

public import proofs.«01_k».proof.Defs
public import proofs.«01_k».proof.Proof.FwdIn.Frames
public import proofs.«01_k».proof.Proof.Gen.RefFwdIdeal
public import proofs.«01_k».proof.Proof.Gen.RefFwdIdeal.Run
public import proofs.«01_k».proof.Proof.Gen.RefFwdIdeal.Read
public import Idealize.ShloMosaic.Lib.StableHlo.ReadAt
public import Idealize.ShloMosaic.Lib.Pipeline.ValueKit

@[expose] public section

set_option maxRecDepth 16384

noncomputable section

namespace Cert.ValueFwd

open Cert.RefFwdIdeal.Read
open Cert.FwdInIdeal Cert.FwdInIdeal.Gen Cert.FwdIn.Hand
open Idealize.ShloMosaic TcCoe Tactic
open Idealize.SL Idealize.SL.Sem

/-! ## A point's blocks, entry by entry -/

/-- The mean square of a row plus the small constant, as extended reals. -/
def msq {n : ℕ} (x : Vec Ideal ⟨2, ![n, 1024]⟩ .f32) (p : Fin n) : EReal :=
  Ideal.div (∑ k : Fin 1024, x (ix2 p k) * x (ix2 p k)) (Ideal.ofBits .f32 0x44800000#32) + Ideal.ofBits .f32 0x358637BD#32

theorem hB_at (x : Vec Ideal S512x1024 .f32) (g : Vec Ideal S1x1024 .f32) (p : Fin 512) (d : Fin 1024) :
    hB x g (ix2 p d) = x (ix2 p d) * Ideal.rsqrt (msq x p) * g (ix2 0 d) := by
  pointwise [hB, k0_pay3, k0_pay2, msq]

theorem piece_at (h : Vec Ideal S512x1024 .bf16) (w : Vec Ideal S7168x1024 .bf16) (b : Vec Ideal S1x7168 .f32) (j : Fin 7) (p : Fin 512) (d : Fin 1024) :
    k0_pay10 h (wj w j) (bj b j) (ix2 p d)
      = ∑ k : Fin 1024, h (ix2 p k) * w (ix2 ⟨1024 * j.val + d.val, by omega⟩ k) + b (ix2 0 ⟨1024 * j.val + d.val, by omega⟩) := by
  have hw : ∀ k : Fin 1024, wj w j (ix2 d k) = w (ix2 ⟨1024 * j.val + d.val, by omega⟩ k) := fun k => by
    refine congrArg w (funext fun r => Fin.ext ?_)
    match r with
    | 0 => show 1024 * j.val + 1 * d.val = 1024 * j.val + d.val; omega
    | 1 => show 0 + 1 * k.val = k.val; omega
  have hb : bj b j (ix2 0 d) = b (ix2 0 ⟨1024 * j.val + d.val, by omega⟩) := by
    refine congrArg b (funext fun r => Fin.ext ?_)
    match r with
    | 0 => rfl
    | 1 => show 1024 * j.val + 1 * d.val = 1024 * j.val + d.val; omega
  generalize wj w j = w' at hw ⊢
  generalize bj b j = b' at hb ⊢
  pointwise [k0_pay10]
  simp only [hw, hb]

variable (m : (ℓ : Loc nD τ sig) → Buf (Elt Ideal) ℓ) (c : Dev nD)

abbrev aX : Vec Ideal S8192x1024 .f32 := m (c.tc.loc main_arg0)
abbrev aG : Vec Ideal S1024 .f32 := m (c.tc.loc main_arg1)
abbrev aW : Vec Ideal S1024x7168 .f32 := m (c.tc.loc main_arg2)
abbrev aB : Vec Ideal S7168 .f32 := m (c.tc.loc main_arg3)

/-- The normalised rows and the projection, entry by entry. -/
def hAt (x : Vec Ideal S8192x1024 .f32) (g : Vec Ideal S1024 .f32) (s : Fin 8192) (d : Fin 1024) : EReal := x (ix2 s d) * Ideal.rsqrt (msq (n := 8192) x s) * g (ix1 d)
def prAt (x : Vec Ideal S8192x1024 .f32) (g : Vec Ideal S1024 .f32) (w : Vec Ideal S1024x7168 .f32) (b : Vec Ideal S7168 .f32) (s : Fin 8192) (n : Fin 7168) : EReal :=
  ∑ k : Fin 1024, hAt x g s k * w (ix2 k n) + b (ix1 n)
def hA (s : Fin 8192) (d : Fin 1024) : EReal := hAt (aX m c) (aG m c) s d
def prA (s : Fin 8192) (n : Fin 7168) : EReal := prAt (aX m c) (aG m c) (aW m c) (aB m c) s n
def pA (s : Fin 8192) (d : Fin 1024) : EReal := prA m c s ⟨1024 + d.val, by omega⟩ * prA m c s ⟨2048 + d.val, by omega⟩
def uA (s : Fin 8192) (d : Fin 1024) : EReal := prA m c s ⟨3072 + d.val, by omega⟩ * Ideal.logistic (prA m c s ⟨4096 + d.val, by omega⟩)

/-! ## What the host prepared -/

theorem g_at (d : Fin 1024) : V m c main_v3 (ix2 0 d) = aG m c (ix1 d) := by
  unfold V
  after_reads_at

theorem bias_at (n : Fin 7168) : V m c main_v4 (ix2 0 n) = aB m c (ix1 n) := by
  unfold V
  after_reads_at

theorem slab_at (a : Fin 8) (r : Fin 896) (d : Fin 1024) : V m c main_v2 (ix3 a r d) = aW m c (ix2 d ⟨a.val * 896 + r.val, by omega⟩) := by
  unfold V
  after_reads_at

/-- The assembled weight is the weight matrix, transposed. -/
theorem wt_at (n : Fin 7168) (d : Fin 1024) : wt m c (ix2 n d) = aW m c (ix2 d n) := by
  show V m c main_v2 (slabIdx (ix2 n d)) = _
  have e : slabIdx (ix2 n d) = ix3 ⟨n.val / 896, by omega⟩ ⟨n.val % 896, by omega⟩ d := by
    funext r; refine Fin.ext ?_
    match r with
    | 0 => rfl
    | 1 => rfl
    | 2 => rfl
  rw [e, slab_at]
  refine congrArg (fun q => aW m c (ix2 d q)) (Fin.ext ?_)
  show n.val / 896 * 896 + n.val % 896 = n.val
  omega

/-- The row of the arrays that row `p` of point `t`'s block is. -/
abbrev row (t : Fin cfg0.N) (p : Fin 512) : Fin 8192 := ⟨t.val * 512 + p.val, by have h : t.val < 16 := t.isLt; omega⟩

theorem e0 : ∀ t : Fin cfg0.N, win0_0.index t = ![t.val, 0] := by decide +kernel
theorem e1 : ∀ t : Fin cfg0.N, win0_1.index t = ![0, 0] := by decide +kernel
theorem e2 : ∀ t : Fin cfg0.N, win0_2.index t = ![0, 0] := by decide +kernel
theorem e3 : ∀ t : Fin cfg0.N, win0_3.index t = ![t.val, 0] := by decide +kernel
theorem e4 : ∀ t : Fin cfg0.N, win0_4.index t = ![t.val, 0] := by decide +kernel
theorem e5 : ∀ t : Fin cfg0.N, win0_5.index t = ![t.val, 0] := by decide +kernel
theorem e6 : ∀ t : Fin cfg0.N, win0_6.index t = ![t.val, 0] := by decide +kernel

theorem emb3 (t : Fin cfg0.N) (p : Fin 512) (d : Fin 7168) : (win0_3.blk t).view.emb (ix2 p d) = (ix2 (row t p) d : S8192x7168.Idx) := by blk_ext [e3]
theorem emb4 (t : Fin cfg0.N) (p : Fin 512) (d : Fin 1024) : (win0_4.blk t).view.emb (ix2 p d) = (ix2 (row t p) d : S8192x1024.Idx) := by blk_ext [e4]
theorem emb5 (t : Fin cfg0.N) (p : Fin 512) (d : Fin 1024) : (win0_5.blk t).view.emb (ix2 p d) = (ix2 (row t p) d : S8192x1024.Idx) := by blk_ext [e5]
theorem emb6 (t : Fin cfg0.N) (p : Fin 512) (d : Fin 1024) : (win0_6.blk t).view.emb (ix2 p d) = (ix2 (row t p) d : S8192x1024.Idx) := by blk_ext [e6]

theorem b0_at (t : Fin cfg0.N) (p : Fin 512) (k : Fin 1024) : iblk m c 0 t (ix2 p k) = aX m c (ix2 (row t p) k) := by
  blk_simp [iblk]
  rw [V_main_arg0]
  refine congrArg _ ?_
  blk_ext [e0]
theorem b1_at (t : Fin cfg0.N) (k : Fin 1024) : iblk m c 1 t (ix2 0 k) = aG m c (ix1 k) := by
  refine Eq.trans ?_ (g_at m c k)
  blk_simp [iblk]
  refine congrArg _ ?_
  blk_ext [e1]
theorem b2_at (t : Fin cfg0.N) (k : Fin 7168) : iblk m c 2 t (ix2 0 k) = aB m c (ix1 k) := by
  refine Eq.trans ?_ (bias_at m c k)
  blk_simp [iblk]
  refine congrArg _ ?_
  blk_ext [e2]

theorem h_eq (t : Fin cfg0.N) (p : Fin 512) (d : Fin 1024) : hB (iblk m c 0 t) (iblk m c 1 t) (ix2 p d) = hA m c (row t p) d := by
  have hm : msq (n := 512) (iblk m c 0 t) p = msq (n := 8192) (aX m c) (row t p) := by unfold msq; simp only [b0_at]
  rw [hB_at, hm, b0_at, b1_at]
  rfl

theorem piece_eq (t : Fin cfg0.N) (j : Fin 7) (p : Fin 512) (d : Fin 1024) :
    k0_pay10 (hB (iblk m c 0 t) (iblk m c 1 t)) (wj (wt m c) j) (bj (iblk m c 2 t) j) (ix2 p d) = prA m c (row t p) ⟨1024 * j.val + d.val, by omega⟩ := by
  rw [piece_at]
  simp only [h_eq, wt_at, b2_at]
  rfl

/-! ## The results at the end of the run -/

theorem final_proj : (dats m 0 c).arrAt 3 cfg0.N = (fun i => prA m c (i 0) (i 1) : Vec Ideal S8192x7168 .bf16) := by
  refine (dats m 0 c).arrAt_eq_of_covers 3 _ (by decide +kernel) fun t hf y => ?_
  blk_simp
  obtain ⟨p, d, rfl⟩ : ∃ (p : Fin 512) (d : Fin 7168), y = ix2 p d := ⟨y 0, y 1, eq_ix2 y⟩
  refine Eq.trans ?_ (congrArg (fun i : S8192x7168.Idx => prA m c (i 0) (i 1)) (emb3 t p d)).symm
  show projB (iblk m c 0 t) (iblk m c 1 t) (iblk m c 2 t) (wt m c) (ix2 p d) = _
  refine (piece_eq m c t ⟨d.val / 1024, by omega⟩ p ⟨d.val % 1024, Nat.mod_lt _ (by decide)⟩).trans (congrArg (prA m c (row t p)) (Fin.ext ?_))
  show 1024 * (d.val / 1024) + d.val % 1024 = d.val
  omega

theorem final_p : (dats m 0 c).arrAt 4 cfg0.N = (fun i => pA m c (i 0) (i 1) : Vec Ideal S8192x1024 .f32) := by
  refine (dats m 0 c).arrAt_eq_of_covers 4 _ (by decide +kernel) fun t hf y => ?_
  blk_simp
  obtain ⟨p, d, rfl⟩ : ∃ (p : Fin 512) (d : Fin 1024), y = ix2 p d := ⟨y 0, y 1, eq_ix2 y⟩
  refine Eq.trans ?_ (congrArg (fun i : S8192x1024.Idx => pA m c (i 0) (i 1)) (emb4 t p d)).symm
  show pB (iblk m c 0 t) (iblk m c 1 t) (iblk m c 2 t) (wt m c) (ix2 p d) = _
  exact congrArg₂ (· * ·) (piece_eq m c t 1 p d) (piece_eq m c t 2 p d)

theorem final_u : (dats m 0 c).arrAt 5 cfg0.N = (fun i => uA m c (i 0) (i 1) : Vec Ideal S8192x1024 .f32) := by
  refine (dats m 0 c).arrAt_eq_of_covers 5 _ (by decide +kernel) fun t hf y => ?_
  blk_simp
  obtain ⟨p, d, rfl⟩ : ∃ (p : Fin 512) (d : Fin 1024), y = ix2 p d := ⟨y 0, y 1, eq_ix2 y⟩
  refine Eq.trans ?_ (congrArg (fun i : S8192x1024.Idx => uA m c (i 0) (i 1)) (emb5 t p d)).symm
  show uB (iblk m c 0 t) (iblk m c 1 t) (iblk m c 2 t) (wt m c) (ix2 p d) = _
  exact congrArg₂ (fun a b : EReal => a * Ideal.logistic b) (piece_eq m c t 3 p d) (piece_eq m c t 4 p d)

theorem final_h : (dats m 0 c).arrAt 6 cfg0.N = (fun i => hA m c (i 0) (i 1) : Vec Ideal S8192x1024 .bf16) := by
  refine (dats m 0 c).arrAt_eq_of_covers 6 _ (by decide +kernel) fun t hf y => ?_
  blk_simp
  obtain ⟨p, d, rfl⟩ : ∃ (p : Fin 512) (d : Fin 1024), y = ix2 p d := ⟨y 0, y 1, eq_ix2 y⟩
  refine Eq.trans ?_ (congrArg (fun i : S8192x1024.Idx => hA m c (i 0) (i 1)) (emb6 t p d)).symm
  show hB (iblk m c 0 t) (iblk m c 1 t) (ix2 p d) = _
  exact h_eq m c t p d

/-! ## The reference, entry by entry -/

theorem ref_h (x : Vec Ideal S8192x1024 .f32) (g : Vec Ideal S1024 .f32) (s : Fin 8192) (d : Fin 1024) :
    val_main_v12 (F := Ideal) x g (ix2 s d) = hAt x g s d := by
  pointwise [val_main_v12, val_main_v11, val_main_v10, val_main_v9, val_main_v8, val_main_v7, val_main_v6, val_main_v5, val_main_v4, val_main_v3, val_main_v2, val_main_v1, val_main_v0, val_main_cst, val_main_cst_0, val_main_cst_1, hAt, msq]

theorem ref_proj (x : Vec Ideal S8192x1024 .f32) (g : Vec Ideal S1024 .f32) (w : Vec Ideal S1024x7168 .f32) (b : Vec Ideal S7168 .f32) (s : Fin 8192) (n : Fin 7168) :
    val_main_v16 (F := Ideal) x g w b (ix2 s n) = prAt x g w b s n := by
  have h := ref_h x g s
  unfold val_main_v16 val_main_v13 prAt
  generalize val_main_v12 (F := Ideal) x g = y at h ⊢
  pointwise [val_main_v15, val_main_v14]
  simp only [h]

theorem one_bits : Ideal.ofBits .f32 0x3F800000#32 = 1 := Ideal.ofBits_one_f32

theorem ref_p (s : Fin 8192) (d : Fin 1024) : val_main_v22 (F := Ideal) (aX m c) (aG m c) (aW m c) (aB m c) (ix2 s d) = pA m c s d := by
  have h := ref_proj (aX m c) (aG m c) (aW m c) (aB m c)
  unfold pA prA val_main_v22 val_main_v17 val_main_v18
  generalize val_main_v16 (F := Ideal) (aX m c) (aG m c) (aW m c) (aB m c) = y at h ⊢
  pointwise []
  simp only [h]

theorem ref_u (s : Fin 8192) (d : Fin 1024) : val_main_v29 (F := Ideal) (aX m c) (aG m c) (aW m c) (aB m c) (ix2 s d) = uA m c s d := by
  have h := ref_proj (aX m c) (aG m c) (aW m c) (aB m c)
  unfold uA prA val_main_v29 val_main_v28 val_main_v26 val_main_v24 val_main_v23 val_main_v20 val_main_v19
  generalize val_main_v16 (F := Ideal) (aX m c) (aG m c) (aW m c) (aB m c) = y at h ⊢
  pointwise [val_main_v27, val_main_v25, val_main_cst_2, val_main_cst_3]
  simp only [h, one_bits]
  rfl

/-! ## The claims -/

/-- The reference runs and leaves no signal pending. -/
theorem frame_ref : Cert.quiescent_RefFwdIdeal (hRefFwdIdeal := Cert.RefFwdIdeal.Gen.facts) :=
  fun m g _ => (θ_run Cert.RefFwdIdeal.defs _ _).mono (fun r h => ⟨fun c => (h c).2.2.2.2, sem_eq_zero_of_no_sems (by decide) r.2⟩) (Cert.RefFwdIdeal.Value.run m g)

/-- The two programs end with the same projection, product, gated input and normalised rows, at every argument. -/
theorem algebraic : Cert.algebraic_FwdInIdeal_RefFwdIdeal (hFwdInIdeal := Cert.FwdInIdeal.Gen.facts) (hRefFwdIdeal := Cert.RefFwdIdeal.Gen.facts) := by
  intro m ρ m' ρ' _ hag
  refine ⟨fun c => (dats m 0 c).arrAt 3 cfg0.N, fun c => (dats m 0 c).arrAt 4 cfg0.N, fun c => (dats m 0 c).arrAt 5 cfg0.N, fun c => (dats m 0 c).arrAt 6 cfg0.N,
    (θ_run Cert.FwdInIdeal.defs _ _).mono (fun _ h c => ⟨(h.1 c).1 3, (h.1 c).1 4, (h.1 c).1 5, (h.1 c).1 6, args_kept h.1 c⟩) (run_main m ρ), ?_⟩
  refine (θ_run Cert.RefFwdIdeal.defs _ _).mono (fun _ h c => ?_) (RefFwdIdeal.Value.run m' ρ')
  obtain ⟨h0, h1, h2, h3, hr⟩ := h c
  obtain ⟨a0, a1, a2, a3⟩ := hag c
  refine ⟨h0.trans ?_, h1.trans ?_, h2.trans ?_, h3.trans ?_, hr⟩
  · rw [val_main_v21_eq, a0, a1, a2, a3]
    refine Eq.trans ?_ (final_proj m c).symm
    funext i
    exact (congrArg _ (eq_ix2 i)).trans (ref_proj (aX m c) (aG m c) (aW m c) (aB m c) (i 0) (i 1))
  · rw [val_main_v22_eq, a0, a1, a2, a3]
    refine Eq.trans ?_ (final_p m c).symm
    funext i
    exact (congrArg _ (eq_ix2 i)).trans (ref_p m c (i 0) (i 1))
  · rw [val_main_v29_eq, a0, a1, a2, a3]
    refine Eq.trans ?_ (final_u m c).symm
    funext i
    exact (congrArg _ (eq_ix2 i)).trans (ref_u m c (i 0) (i 1))
  · rw [val_main_v30_eq, a0, a1]
    refine Eq.trans ?_ (final_h m c).symm
    funext i
    exact (congrArg _ (eq_ix2 i)).trans (ref_h (aX m c) (aG m c) (i 0) (i 1))

end Cert.ValueFwd

end
-- ==== Proof.WGrad.Sum.lean ====
module

public import Idealize.ShloMosaic.Lib.Pointwise

@[expose] public section

noncomputable section

namespace Cert.ValueWg

/-- The part of a sum over the tokens that token block `k` gives. -/
def part (f : Fin 8192 → EReal) (k : Fin 4) : EReal := ∑ j : Fin 2048, f ⟨j.val + 2048 * k.val, by omega⟩

theorem split (f : Fin 8192 → EReal) : ∑ s, f s = 0 + part f 0 + part f 1 + part f 2 + part f 3 := by
  refine ((finProdFinEquiv (m := 4) (n := 2048)).sum_comp f).symm.trans ?_
  rw [Fintype.sum_prod_type, Fin.sum_univ_four, zero_add]
  rfl

/-- A running sum which starts at zero at the first token block and takes one block at each point is, at the last, the sum over the tokens. -/
theorem run {N : ℕ} (acc : (n : ℕ) → n < N → EReal) (f : ℕ → Fin 8192 → EReal)
    (hA : ∀ (n : ℕ) (h : n < N), n % 4 = 0 → acc n h = 0 + part (f (n / 4)) 0)
    (hB : ∀ (n : ℕ) (h : n < N) (k : Fin 4), n % 4 = k.val → k ≠ 0 → acc n h = acc (n - 1) (Nat.lt_of_le_of_lt (Nat.sub_le _ _) h) + part (f (n / 4)) k)
    (n : ℕ) (h : n < N) (h3 : n % 4 = 3) : acc n h = ∑ s, f (n / 4) s := by
  rw [split, hB n h 3 h3 (by decide), hB (n - 1) (by omega) 2 (show (n - 1) % 4 = 2 by omega) (by decide), hB (n - 1 - 1) (by omega) 1 (show (n - 1 - 1) % 4 = 1 by omega) (by decide),
    hA (n - 1 - 1 - 1) (by omega) (by omega)]
  rw [show (n - 1) / 4 = n / 4 by omega, show (n - 1 - 1) / 4 = n / 4 by omega, show (n - 1 - 1 - 1) / 4 = n / 4 by omega]

end Cert.ValueWg

end
-- ==== Proof.WGrad.Value.lean ====
module

public import proofs.«01_k».proof.Defs
public import proofs.«01_k».proof.Proof.Gen.WGrad
public import proofs.«01_k».proof.Proof.Gen.WGradIdeal.Frame
public import proofs.«01_k».proof.Proof.Gen.RefWgIdeal
public import proofs.«01_k».proof.Proof.Gen.RefWgIdeal.Run
public import proofs.«01_k».proof.Proof.Gen.RefWgIdeal.Read
public import Idealize.ShloMosaic.Lib.StableHlo.ReadAt
public import Idealize.ShloMosaic.Lib.Pipeline.ValueKit
public import proofs.«01_k».proof.Proof.WGrad.Sum
public import Idealize.ShloMosaic.Lib.Quiescent
public import Idealize.ShloMosaic.Lib.VecWindow

@[expose] public section

set_option maxRecDepth 16384

noncomputable section

namespace Cert.ValueWg

open Cert.WGradIdeal Cert.WGradIdeal.Gen
open Idealize.ShloMosaic TcCoe Tactic
open Idealize.SL Idealize.SL.Sem

/-! ## The runs -/

/-- The kernel over extended reals runs, leaves its arguments as they were and no signal pending. -/
theorem frame_ideal : Cert.quiescent_WGradIdeal (hWGradIdeal := Cert.WGradIdeal.Gen.facts) := fun m ρ _ => frame m ρ

/-- The kernel as it is compiled is the same program over words: the same run. -/
theorem frame_kernel : Cert.quiescent_WGrad (hWGrad := Cert.WGrad.Gen.facts) := by
  intro m ρ _
  have h := frame (F := Bits) m ρ
  have hd : (Cert.WGrad.defs (F := Bits)) = Cert.WGradIdeal.defs (F := Bits) := by sl_kernel_rfl
  have hm : Cert.WGrad.main (F := Bits) = Cert.WGradIdeal.main (F := Bits) := by sl_kernel_rfl
  rw [hd, hm]
  exact h

/-- The reference runs and leaves no signal pending. -/
theorem frame_ref : Cert.quiescent_RefWgIdeal (hRefWgIdeal := Cert.RefWgIdeal.Gen.facts) :=
  fun m g _ => (θ_run Cert.RefWgIdeal.defs _ _).mono (fun r h => ⟨fun c => (h c).2, sem_eq_zero_of_no_sems (by decide) r.2⟩) (Cert.RefWgIdeal.Value.run m g)

/-! ## What a point leaves, entry by entry -/

theorem pay1_at (p d : Fin 1024) : k0_pay1 (F := Ideal) (ix2 p d) = 0 := by
  pointwise [k0_pay1]

theorem pay2_at (s : Vec Ideal S1024x1024 .f32) (a b : Vec Ideal S2048x1024 .bf16) (p d : Fin 1024) :
    k0_pay2 s a b (ix2 p d) = s (ix2 p d) + ∑ k : Fin 2048, a (ix2 k p) * b (ix2 k d) := by
  pointwise [k0_pay2]

theorem pay3_at (s : Vec Ideal S1024x1024 .f32) (p d : Fin 1024) : k0_pay3 s (ix2 p d) = s (ix2 p d) := by
  pointwise [k0_pay3]

variable (m : (ℓ : Loc nD τ sig) → Buf (Elt Ideal) ℓ) (c : Dev nD)

theorem left_A (t : Fin cfg0.N) (h0 : t.val % 4 = 0) :
    (outsAt0 m c t.val t.isLt).2 = k0_pay2 k0_pay1 (iblk m c 0 t) (iblk m c 1 t) := by
  rw [outsAt0_A m c t h0 (by omega)]
  dsimp only
  delta sout0_A_0 kernelRun0_A
  dsimp only
  refine (View.read_writes_full VS0_0 _ _ _ _).trans ?_
  delta kernelRun0_A.sl.v3 kernelRun0_A.sl.HS0_1
  rw [View.readAt_full, View.readAt_full, (hs0_0 t).read_unread, (hs0_1 t).read_unread]
  exact congrArg (fun z => k0_pay2 z _ _) (View.readCov_full scM0_0.view _ _ _ _)

theorem left_B (t : Fin cfg0.N) (h0 : ¬t.val % 4 = 0) :
    (outsAt0 m c t.val t.isLt).2 = k0_pay2 (outsAt0 m c (t.val - 1) (Nat.lt_of_le_of_lt (Nat.sub_le _ _) t.isLt)).2 (iblk m c 0 t) (iblk m c 1 t) := by
  have hw : scM0_0.IsWhole := Memref.isWhole_whole _
  by_cases h1 : t.val % 4 = 3
  · rw [outsAt0_C m c t h0 h1]
    dsimp only
    delta sout0_C_0 kernelRun0_C
    dsimp only
    delta kernelRun0_C.sl.HS0_1
    refine (View.read_writes_full VS0_0 _ _ _ _).trans ?_
    rw [View.readAt_full, View.readAt_full, View.readAt_full, (hs0_0 t).read_unread, (hs0_1 t).read_unread]
    exact congrArg (fun z => k0_pay2 z _ _) (hw.read_unread _)
  · rw [outsAt0_B m c t h0 h1]
    dsimp only
    delta sout0_B_0 kernelRun0_B
    dsimp only
    refine (View.read_writes_full VS0_0 _ _ _ _).trans ?_
    rw [View.readAt_full, View.readAt_full, View.readAt_full, (hs0_0 t).read_unread, (hs0_1 t).read_unread]
    exact congrArg (fun z => k0_pay2 z _ _) (hw.read_unread _)

theorem left_out (t : Fin cfg0.N) (h1 : t.val % 4 = 3) :
    (outsAt0 m c t.val t.isLt).1 = k0_pay3 (outsAt0 m c t.val t.isLt).2 := by
  rw [outsAt0_C m c t (by omega) h1]
  dsimp only
  delta out0_C_2 sout0_C_0 kernelRun0_C
  dsimp only
  refine (View.read_writes_full VO0_2 _ _ _ _).trans (congrArg k0_pay3 ?_)
  delta kernelRun0_C.sl.v16 kernelRun0_C.sl.HS0_1
  refine (View.readCov_full scM0_0.view _ _ _ _).trans ?_
  symm
  exact View.read_writes_full VS0_0 _ _ _ _

/-! ## The arguments -/

abbrev aA : Vec Ideal S8192x4096 .f32 := m (c.tc.loc main_arg0)
abbrev aB : Vec Ideal S8192x1024 .f32 := m (c.tc.loc main_arg1)

/-- The product of a token's entries. -/
def term (x : Vec Ideal S8192x4096 .f32) (y : Vec Ideal S8192x1024 .f32) (n : Fin 4096) (d : Fin 1024) (s : Fin 8192) : EReal := x (ix2 s n) * y (ix2 s d)

theorem e0 : ∀ t : Fin cfg0.N, win0_0.index t = ![t.val % 4, t.val / 4] := by decide +kernel
theorem e1 : ∀ t : Fin cfg0.N, win0_1.index t = ![t.val % 4, 0] := by decide +kernel
theorem e2 : ∀ t : Fin cfg0.N, win0_2.index t = ![t.val / 4, 0] := by decide +kernel

abbrev tok (t : Fin cfg0.N) (j : Fin 2048) : Fin 8192 := ⟨j.val + 2048 * (t.val % 4), by omega⟩
abbrev col (n : ℕ) (p : Fin 1024) : Fin 4096 := ⟨n % 4 * 1024 + p.val, by omega⟩

theorem emb2 (t : Fin cfg0.N) (p d : Fin 1024) : (win0_2.blk t).view.emb (ix2 p d) = (ix2 (col (t.val / 4) p) d : S4096x1024.Idx) := by
  have h : t.val < 16 := t.isLt
  blk_ext [e2]

theorem va_at (s : Fin 8192) (n : Fin 4096) : V m c main_v0 (ix2 s n) = aA m c (ix2 s n) := by
  unfold V
  after_reads_at
theorem vb_at (s : Fin 8192) (d : Fin 1024) : V m c main_v1 (ix2 s d) = aB m c (ix2 s d) := by
  unfold V
  after_reads_at

theorem b0_at (t : Fin cfg0.N) (j : Fin 2048) (p : Fin 1024) : iblk m c 0 t (ix2 j p) = aA m c (ix2 (tok t j) (col (t.val / 4) p)) := by
  have h : t.val < 16 := t.isLt
  refine Eq.trans ?_ (va_at m c _ _)
  blk_simp [iblk]
  refine congrArg _ ?_
  blk_ext [e0]
theorem b1_at (t : Fin cfg0.N) (j : Fin 2048) (d : Fin 1024) : iblk m c 1 t (ix2 j d) = aB m c (ix2 (tok t j) d) := by
  refine Eq.trans ?_ (vb_at m c _ _)
  blk_simp [iblk]
  refine congrArg _ ?_
  blk_ext [e1]

/-- The accumulator after a point is what it held before plus the point's token block. -/
theorem add_at (s : Vec Ideal S1024x1024 .f32) (t : Fin cfg0.N) (k : Fin 4) (hk : t.val % 4 = k.val) (p d : Fin 1024) :
    k0_pay2 s (iblk m c 0 t) (iblk m c 1 t) (ix2 p d) = s (ix2 p d) + part (term (aA m c) (aB m c) (col (t.val / 4) p) d) k := by
  rw [pay2_at]
  unfold part term
  simp only [b0_at, b1_at, tok, hk]

theorem acc_at (t : Fin cfg0.N) (h : t.val % 4 = 3) (p d : Fin 1024) :
    (outsAt0 m c t.val t.isLt).2 (ix2 p d) = ∑ s, term (aA m c) (aB m c) (col (t.val / 4) p) d s :=
  run (fun n h => (outsAt0 m c n h).2 (ix2 p d)) (fun i => term (aA m c) (aB m c) (col i p) d)
    (fun n h h0 => by
      show (outsAt0 m c n h).2 (ix2 p d) = _
      rw [left_A m c ⟨n, h⟩ h0, add_at m c _ ⟨n, h⟩ 0 h0, pay1_at])
    (fun n h k hk hk0 => by
      have h0 : ¬n % 4 = 0 := fun e => hk0 (Fin.ext (hk.symm.trans e))
      show (outsAt0 m c n h).2 (ix2 p d) = _
      rw [left_B m c ⟨n, h⟩ h0, add_at m c _ ⟨n, h⟩ k hk])
    t.val t.isLt h

theorem final_out : (dats m 0 c).arrAt 2 cfg0.N
    = (fun i => ∑ s, term (aA m c) (aB m c) (i 0) (i 1) s : Vec Ideal S4096x1024 .bf16) := by
  refine (dats m 0 c).arrAt_eq_of_covers 2 _ (by decide +kernel) fun t hf y => ?_
  have h3 : t.val % 4 = 3 := (by decide +kernel : ∀ t : Fin cfg0.N, (cfg0.win 2).flush t = true → t.val % 4 = 3) t hf
  blk_simp
  obtain ⟨p, d, rfl⟩ : ∃ (p d : Fin 1024), y = ix2 p d := ⟨y 0, y 1, eq_ix2 y⟩
  refine Eq.trans ?_ (congrArg (fun i : S4096x1024.Idx => ∑ s, term (aA m c) (aB m c) (i 0) (i 1) s) (emb2 t p d)).symm
  show (outsAt0 m c t.val t.isLt).1 (ix2 p d) = _
  rw [left_out m c t h3, pay3_at, acc_at m c t h3]
  rfl

theorem ref_at (x : Vec Ideal S8192x4096 .f32) (y : Vec Ideal S8192x1024 .f32) (n : Fin 4096) (d : Fin 1024) :
    Cert.RefWgIdeal.Read.val_main_v1 (F := Ideal) x y (ix2 n d) = ∑ s, term x y n d s := by
  rw [Cert.RefWgIdeal.Read.val_main_v1_apply, Cert.RefWgIdeal.Read.val_main_v0_apply]
  refine Finset.sum_congr rfl fun k _ => ?_
  refine congrArg₂ (· * ·) (congrArg x ?_) (congrArg y ?_) <;>
    (funext r; match r with | 0 => rfl | 1 => rfl)

/-- The two programs end with the same gradient, at every argument. -/
theorem algebraic : Cert.algebraic_WGradIdeal_RefWgIdeal (hWGradIdeal := Cert.WGradIdeal.Gen.facts) (hRefWgIdeal := Cert.RefWgIdeal.Gen.facts) := by
  intro m ρ m' ρ' _ hag
  refine ⟨fun c => (dats m 0 c).arrAt 2 Cert.WGradIdeal.cfg0.N,
    (θ_run Cert.WGradIdeal.defs _ _).mono (fun _ h c => ⟨(h.1 c).1 2, h.2 c⟩)
      (θ_run_and (run_main m ρ) (unchanged m ρ)), ?_⟩
  refine (θ_run Cert.RefWgIdeal.defs _ _).mono (fun _ h c => ?_) (Cert.RefWgIdeal.Value.run m' ρ')
  obtain ⟨h0, hr⟩ := h c
  obtain ⟨e0, e1⟩ := hag c
  have k0 : m' (c.tc.loc Cert.RefWgIdeal.main_arg0) = aA m c := e0
  have k1 : m' (c.tc.loc Cert.RefWgIdeal.main_arg1) = aB m c := e1
  refine ⟨h0.trans ?_, hr⟩
  rw [Cert.RefWgIdeal.Read.val_main_v1_eq, k0, k1]
  refine Eq.trans ?_ (final_out m c).symm
  funext i
  exact (congrArg _ (eq_ix2 i)).trans (ref_at _ _ (i 0) (i 1))

end Cert.ValueWg

end
-- ==== Proof.WGradIn.Value.lean ====
module

public import proofs.«01_k».proof.Defs
public import proofs.«01_k».proof.Proof.WGrad.Sum
public import proofs.«01_k».proof.Proof.BwdConv.RefVal
public import proofs.«01_k».proof.Proof.Gen.WGradIn
public import proofs.«01_k».proof.Proof.Gen.WGradInIdeal.Frame
public import proofs.«01_k».proof.Proof.Gen.RefWiIdeal
public import proofs.«01_k».proof.Proof.Gen.RefWiIdeal.Run
public import proofs.«01_k».proof.Proof.Gen.RefWiIdeal.Read
public import Idealize.ShloMosaic.Lib.StableHlo.ReadAt
public import Idealize.ShloMosaic.Lib.Pipeline.ValueKit
public import Idealize.ShloMosaic.Lib.Quiescent
public import Idealize.ShloMosaic.Lib.VecWindow

@[expose] public section

set_option maxRecDepth 16384

noncomputable section

namespace Cert.ValueWi

open Cert.ValueWg (part run)
open Cert.ValueConv (colPiece)
open Cert.WGradInIdeal Cert.WGradInIdeal.Gen
open Idealize.ShloMosaic TcCoe Tactic
open Idealize.SL Idealize.SL.Sem

/-! ## The runs -/

/-- The kernel over extended reals runs, leaves its arguments as they were and no signal pending. -/
theorem frame_ideal : Cert.quiescent_WGradInIdeal (hWGradInIdeal := Cert.WGradInIdeal.Gen.facts) := fun m ρ _ => frame m ρ

/-- The kernel as it is compiled is the same program over words: the same run. -/
theorem frame_kernel : Cert.quiescent_WGradIn (hWGradIn := Cert.WGradIn.Gen.facts) := by
  intro m ρ _
  have h := frame (F := Bits) m ρ
  have hd : (Cert.WGradIn.defs (F := Bits)) = Cert.WGradInIdeal.defs (F := Bits) := by sl_kernel_rfl
  have hm : Cert.WGradIn.main (F := Bits) = Cert.WGradInIdeal.main (F := Bits) := by sl_kernel_rfl
  rw [hd, hm]
  exact h

/-- The reference runs and leaves no signal pending. -/
theorem frame_ref : Cert.quiescent_RefWiIdeal (hRefWiIdeal := Cert.RefWiIdeal.Gen.facts) :=
  fun m g _ => (θ_run Cert.RefWiIdeal.defs _ _).mono (fun r h => ⟨fun c => (h c).2, sem_eq_zero_of_no_sems (by decide) r.2⟩) (Cert.RefWiIdeal.Value.run m g)

/-! ## What a point leaves, entry by entry -/

theorem pay1_at (p d : Fin 1024) : k0_pay1 (F := Ideal) (ix2 p d) = 0 := by
  pointwise [k0_pay1]

theorem pay2_at (s : Vec Ideal S1024x1024 .f32) (a b : Vec Ideal S2048x1024 .bf16) (p d : Fin 1024) :
    k0_pay2 s a b (ix2 p d) = s (ix2 p d) + ∑ k : Fin 2048, a (ix2 k p) * b (ix2 k d) := by
  pointwise [k0_pay2]

theorem pay4_at (s : Vec Ideal S1024x1024 .f32) (p d : Fin 1024) : k0_pay4 s (ix2 p d) = s (ix2 p d) := by
  pointwise [k0_pay4]

variable (m : (ℓ : Loc nD τ sig) → Buf (Elt Ideal) ℓ) (c : Dev nD)

/-- The rows of the program whose block comes from the second array. -/
abbrev mid (n : ℕ) : Prop := 1 ≤ n / 4 % 7 ∧ n / 4 % 7 ≤ 4

/-- The block a point multiplies. -/
def lhs (t : Fin cfg0.N) : Vec Ideal S2048x1024 .bf16 := if mid t.val then iblk m c 1 t else iblk m c 0 t

theorem left_A (t : Fin cfg0.N) (h0 : t.val % 4 = 0) : (outsAt0 m c t.val t.isLt).2 = k0_pay2 k0_pay1 (lhs m c t) (iblk m c 2 t) := by
  unfold lhs
  by_cases h1 : mid t.val
  · rw [if_pos h1, outsAt0_D m c t h0 (not_not.mpr h1) h1 (by omega)]
    dsimp only
    delta sout0_D_0 kernelRun0_D
    dsimp only
    refine (View.read_writes_full VS0_0 _ _ _ _).trans ?_
    delta kernelRun0_D.sl.v17 kernelRun0_D.sl.HS0_1
    rw [View.readAt_full, View.readAt_full, (hs0_1 t).read_unread, (hs0_2 t).read_unread]
    exact congrArg (fun z => k0_pay2 z _ _) (View.readCov_full scM0_0.view _ _ _ _)
  · rw [if_neg h1, outsAt0_A m c t h0 h1 h1 (by omega)]
    dsimp only
    delta sout0_A_0 kernelRun0_A
    dsimp only
    refine (View.read_writes_full VS0_0 _ _ _ _).trans ?_
    delta kernelRun0_A.sl.v17 kernelRun0_A.sl.HS0_1
    rw [View.readAt_full, View.readAt_full, (hs0_0 t).read_unread, (hs0_2 t).read_unread]
    exact congrArg (fun z => k0_pay2 z _ _) (View.readCov_full scM0_0.view _ _ _ _)

theorem left_B (t : Fin cfg0.N) (h0 : ¬t.val % 4 = 0) :
    (outsAt0 m c t.val t.isLt).2 = k0_pay2 (outsAt0 m c (t.val - 1) (Nat.lt_of_le_of_lt (Nat.sub_le _ _) t.isLt)).2 (lhs m c t) (iblk m c 2 t) := by
  have hw : scM0_0.IsWhole := Memref.isWhole_whole _
  unfold lhs
  by_cases h1 : mid t.val <;> by_cases h3 : t.val % 4 = 3
  · rw [if_pos h1, outsAt0_F m c t h0 (not_not.mpr h1) h1 h3]
    dsimp only
    delta sout0_F_0 kernelRun0_F
    dsimp only
    delta kernelRun0_F.sl.HS0_1
    refine (View.read_writes_full VS0_0 _ _ _ _).trans ?_
    rw [View.readAt_full, View.readAt_full, View.readAt_full, (hs0_1 t).read_unread, (hs0_2 t).read_unread]
    exact congrArg (fun z => k0_pay2 z _ _) (hw.read_unread _)
  · rw [if_pos h1, outsAt0_E m c t h0 (not_not.mpr h1) h1 h3]
    dsimp only
    delta sout0_E_0 kernelRun0_E
    dsimp only
    refine (View.read_writes_full VS0_0 _ _ _ _).trans ?_
    rw [View.readAt_full, View.readAt_full, View.readAt_full, (hs0_1 t).read_unread, (hs0_2 t).read_unread]
    exact congrArg (fun z => k0_pay2 z _ _) (hw.read_unread _)
  · rw [if_neg h1, outsAt0_C m c t h0 h1 h1 h3]
    dsimp only
    delta sout0_C_0 kernelRun0_C
    dsimp only
    delta kernelRun0_C.sl.HS0_1
    refine (View.read_writes_full VS0_0 _ _ _ _).trans ?_
    rw [View.readAt_full, View.readAt_full, View.readAt_full, (hs0_0 t).read_unread, (hs0_2 t).read_unread]
    exact congrArg (fun z => k0_pay2 z _ _) (hw.read_unread _)
  · rw [if_neg h1, outsAt0_B m c t h0 h1 h1 h3]
    dsimp only
    delta sout0_B_0 kernelRun0_B
    dsimp only
    refine (View.read_writes_full VS0_0 _ _ _ _).trans ?_
    rw [View.readAt_full, View.readAt_full, View.readAt_full, (hs0_0 t).read_unread, (hs0_2 t).read_unread]
    exact congrArg (fun z => k0_pay2 z _ _) (hw.read_unread _)

theorem left_out (t : Fin cfg0.N) (h3 : t.val % 4 = 3) : (outsAt0 m c t.val t.isLt).1 = k0_pay4 (outsAt0 m c t.val t.isLt).2 := by
  by_cases h1 : mid t.val
  · rw [outsAt0_F m c t (by omega) (not_not.mpr h1) h1 h3]
    dsimp only
    delta out0_F_3 sout0_F_0 kernelRun0_F
    dsimp only
    refine (View.read_writes_full VO0_3 _ _ _ _).trans (congrArg k0_pay4 ?_)
    delta kernelRun0_F.sl.v17 kernelRun0_F.sl.HS0_1
    refine (View.readCov_full scM0_0.view _ _ _ _).trans ?_
    symm
    exact View.read_writes_full VS0_0 _ _ _ _
  · rw [outsAt0_C m c t (by omega) h1 h1 h3]
    dsimp only
    delta out0_C_3 sout0_C_0 kernelRun0_C
    dsimp only
    refine (View.read_writes_full VO0_3 _ _ _ _).trans (congrArg k0_pay4 ?_)
    delta kernelRun0_C.sl.v17 kernelRun0_C.sl.HS0_1
    refine (View.readCov_full scM0_0.view _ _ _ _).trans ?_
    symm
    exact View.read_writes_full VS0_0 _ _ _ _

/-! ## The arguments -/

abbrev aA : Vec Ideal S8192x3072 .f32 := m (c.tc.loc main_arg0)
abbrev aB : Vec Ideal S8192x4096 .f32 := m (c.tc.loc main_arg1)
abbrev aH : Vec Ideal S8192x1024 .f32 := m (c.tc.loc main_arg2)

/-- The projection's gradient, assembled from its two arrays. -/
def dp (x : Vec Ideal S8192x3072 .f32) (y : Vec Ideal S8192x4096 .f32) (s : Fin 8192) (n : Fin 7168) : EReal :=
  if h : n.val < 1024 then x (ix2 s ⟨n.val, by omega⟩) else if h' : n.val < 5120 then y (ix2 s ⟨n.val - 1024, by omega⟩) else x (ix2 s ⟨n.val - 4096, by omega⟩)

theorem e0 : ∀ t : Fin cfg0.N, ¬mid t.val → win0_0.index t = ![t.val % 4, t.val / 4 - 4] := by decide +kernel
theorem e1 : ∀ t : Fin cfg0.N, mid t.val → win0_1.index t = ![t.val % 4, t.val / 4 - 1] := by decide +kernel
theorem e2 : ∀ t : Fin cfg0.N, win0_2.index t = ![t.val % 4, 0] := by decide +kernel
theorem e3 : ∀ t : Fin cfg0.N, win0_3.index t = ![t.val / 4, 0] := by decide +kernel

abbrev tok (t : Fin cfg0.N) (j : Fin 2048) : Fin 8192 := ⟨j.val + 2048 * (t.val % 4), by omega⟩
abbrev row (n : ℕ) (p : Fin 1024) : Fin 7168 := ⟨n % 7 * 1024 + p.val, by omega⟩

theorem emb3 (t : Fin cfg0.N) (p d : Fin 1024) : (win0_3.blk t).view.emb (ix2 p d) = (ix2 (row (t.val / 4) p) d : S7168x1024.Idx) := by
  have h : t.val < 28 := t.isLt
  blk_ext [e3]

theorem va_at (s : Fin 8192) (n : Fin 3072) : V m c main_v0 (ix2 s n) = aA m c (ix2 s n) := by
  unfold V
  after_reads_at
theorem vb_at (s : Fin 8192) (n : Fin 4096) : V m c main_v1 (ix2 s n) = aB m c (ix2 s n) := by
  unfold V
  after_reads_at
theorem vh_at (s : Fin 8192) (d : Fin 1024) : V m c main_v2 (ix2 s d) = aH m c (ix2 s d) := by
  unfold V
  after_reads_at

theorem lhs_at (t : Fin cfg0.N) (j : Fin 2048) (p : Fin 1024) : lhs m c t (ix2 j p) = dp (aA m c) (aB m c) (tok t j) (row (t.val / 4) p) := by
  have h : t.val < 28 := t.isLt
  unfold lhs
  by_cases h1 : mid t.val
  · rw [if_pos h1]
    unfold dp
    rw [dif_neg (show ¬(row (t.val / 4) p).val < 1024 by show ¬(t.val / 4 % 7 * 1024 + p.val < 1024); omega),
      dif_pos (show (row (t.val / 4) p).val < 5120 by show t.val / 4 % 7 * 1024 + p.val < 5120; omega)]
    refine Eq.trans ?_ (vb_at m c _ _)
    blk_simp [iblk]
    refine congrArg _ ?_
    blk_ext [e1 t h1]
  · rw [if_neg h1]
    unfold dp
    by_cases h0 : (row (t.val / 4) p).val < 1024
    · have h0' : t.val / 4 % 7 * 1024 + p.val < 1024 := h0
      rw [dif_pos h0]
      refine Eq.trans ?_ (va_at m c _ _)
      blk_simp [iblk]
      refine congrArg _ ?_
      blk_ext [e0 t h1]
    · have h0' : ¬(t.val / 4 % 7 * 1024 + p.val < 1024) := h0
      rw [dif_neg h0, dif_neg (show ¬(row (t.val / 4) p).val < 5120 by show ¬(t.val / 4 % 7 * 1024 + p.val < 5120); omega)]
      refine Eq.trans ?_ (va_at m c _ _)
      blk_simp [iblk]
      refine congrArg _ ?_
      blk_ext [e0 t h1]

theorem b2_at (t : Fin cfg0.N) (j : Fin 2048) (d : Fin 1024) : iblk m c 2 t (ix2 j d) = aH m c (ix2 (tok t j) d) := by
  refine Eq.trans ?_ (vh_at m c _ _)
  blk_simp [iblk]
  refine congrArg _ ?_
  blk_ext [e2]

/-- The product of a token's entries. -/
def term (x : Vec Ideal S8192x3072 .f32) (y : Vec Ideal S8192x4096 .f32) (z : Vec Ideal S8192x1024 .f32) (n : Fin 7168) (d : Fin 1024) (s : Fin 8192) : EReal := dp x y s n * z (ix2 s d)

/-- The accumulator after a point is what it held before plus the point's token block. -/
theorem add_at (s : Vec Ideal S1024x1024 .f32) (t : Fin cfg0.N) (k : Fin 4) (hk : t.val % 4 = k.val) (p d : Fin 1024) :
    k0_pay2 s (lhs m c t) (iblk m c 2 t) (ix2 p d) = s (ix2 p d) + part (term (aA m c) (aB m c) (aH m c) (row (t.val / 4) p) d) k := by
  rw [pay2_at]
  unfold part term
  simp only [lhs_at, b2_at, tok, hk]

theorem acc_at (t : Fin cfg0.N) (h : t.val % 4 = 3) (p d : Fin 1024) :
    (outsAt0 m c t.val t.isLt).2 (ix2 p d) = ∑ s, term (aA m c) (aB m c) (aH m c) (row (t.val / 4) p) d s :=
  run (fun n h => (outsAt0 m c n h).2 (ix2 p d)) (fun i => term (aA m c) (aB m c) (aH m c) (row i p) d)
    (fun n h h0 => by
      show (outsAt0 m c n h).2 (ix2 p d) = _
      rw [left_A m c ⟨n, h⟩ h0, add_at m c _ ⟨n, h⟩ 0 h0, pay1_at])
    (fun n h k hk hk0 => by
      have h0 : ¬n % 4 = 0 := fun e => hk0 (Fin.ext (hk.symm.trans e))
      show (outsAt0 m c n h).2 (ix2 p d) = _
      rw [left_B m c ⟨n, h⟩ h0, add_at m c _ ⟨n, h⟩ k hk])
    t.val t.isLt h

theorem final_out : (dats m 0 c).arrAt 3 cfg0.N
    = (fun i => ∑ s, term (aA m c) (aB m c) (aH m c) (i 0) (i 1) s : Vec Ideal S7168x1024 .bf16) := by
  refine (dats m 0 c).arrAt_eq_of_covers 3 _ (by decide +kernel) fun t hf y => ?_
  have h3 : t.val % 4 = 3 := (by decide +kernel : ∀ t : Fin cfg0.N, (cfg0.win 3).flush t = true → t.val % 4 = 3) t hf
  blk_simp
  obtain ⟨p, d, rfl⟩ : ∃ (p d : Fin 1024), y = ix2 p d := ⟨y 0, y 1, eq_ix2 y⟩
  refine Eq.trans ?_ (congrArg (fun i : S7168x1024.Idx => ∑ s, term (aA m c) (aB m c) (aH m c) (i 0) (i 1) s) (emb3 t p d)).symm
  show (outsAt0 m c t.val t.isLt).1 (ix2 p d) = _
  rw [left_out m c t h3, pay4_at, acc_at m c t h3]
  rfl

/-! ## The reference -/

open Cert.RefWiIdeal.Read in
theorem last_at (x : Vec Ideal S8192x3072 .f32) (s : Fin 8192) (q : Fin 2048) : val_main_v1 (F := Ideal) x (ix2 s q) = x (ix2 s ⟨1024 + q.val, by omega⟩) := by
  rw [val_main_v1_apply]
  exact congrArg x (funext fun a => match a with | 0 => rfl | 1 => rfl)

open Cert.RefWiIdeal.Read in
theorem dpR_at (x : Vec Ideal S8192x3072 .f32) (y : Vec Ideal S8192x4096 .f32) (s : Fin 8192) (n : Fin 7168) :
    val_main_v2 (F := Ideal) x y (ix2 s n) = dp x y s n := by
  unfold val_main_v2 dp
  by_cases h0 : n.val < 1024
  · rw [dif_pos h0]
    refine (colPiece _ _ s n 0 (by simp) 1024 _ rfl 0 rfl ⟨n.val, h0⟩ (by simp)).trans ?_
    rw [val_main_v0_apply]
    exact congrArg x (funext fun a => match a with | 0 => rfl | 1 => rfl)
  · rw [dif_neg h0]
    by_cases h1 : n.val < 5120
    · rw [dif_pos h1]
      exact colPiece _ _ s n 1 (by simp) 4096 _ rfl 1024 rfl ⟨n.val - 1024, by omega⟩ (by show 1024 + (n.val - 1024) = n.val; omega)
    · rw [dif_neg h1]
      refine (colPiece _ _ s n 2 (by simp) 2048 _ rfl 5120 rfl ⟨n.val - 5120, by omega⟩ (by show 5120 + (n.val - 5120) = n.val; omega)).trans ?_
      rw [last_at]
      exact congrArg (fun q : Fin 3072 => x (ix2 s q)) (Fin.ext (by show 1024 + (n.val - 5120) = n.val - 4096; omega))

open Cert.RefWiIdeal.Read in
theorem ref_at (x : Vec Ideal S8192x3072 .f32) (y : Vec Ideal S8192x4096 .f32) (z : Vec Ideal S8192x1024 .f32) (n : Fin 7168) (d : Fin 1024) :
    val_main_v4 (F := Ideal) x y z (ix2 n d) = ∑ s, term x y z n d s := by
  rw [val_main_v4_apply, val_main_v3_apply]
  refine Finset.sum_congr rfl fun k _ => ?_
  refine congrArg₂ (· * ·) (Eq.trans (congrArg (val_main_v2 (F := Ideal) x y) ?_) (dpR_at x y k n)) (congrArg z ?_) <;>
    (funext r; match r with | 0 => rfl | 1 => rfl)

/-- The two programs end with the same gradient, at every argument. -/
theorem algebraic : Cert.algebraic_WGradInIdeal_RefWiIdeal (hWGradInIdeal := Cert.WGradInIdeal.Gen.facts) (hRefWiIdeal := Cert.RefWiIdeal.Gen.facts) := by
  intro m ρ m' ρ' _ hag
  refine ⟨fun c => (dats m 0 c).arrAt 3 Cert.WGradInIdeal.cfg0.N,
    (θ_run Cert.WGradInIdeal.defs _ _).mono (fun _ h c => ⟨(h.1 c).1 3, h.2 c⟩)
      (θ_run_and (run_main m ρ) (unchanged m ρ)), ?_⟩
  refine (θ_run Cert.RefWiIdeal.defs _ _).mono (fun _ h c => ?_) (Cert.RefWiIdeal.Value.run m' ρ')
  obtain ⟨h0, hr⟩ := h c
  obtain ⟨e0, e1, e2⟩ := hag c
  have k0 : m' (c.tc.loc Cert.RefWiIdeal.main_arg0) = aA m c := e0
  have k1 : m' (c.tc.loc Cert.RefWiIdeal.main_arg1) = aB m c := e1
  have k2 : m' (c.tc.loc Cert.RefWiIdeal.main_arg2) = aH m c := e2
  refine ⟨h0.trans ?_, hr⟩
  rw [Cert.RefWiIdeal.Read.val_main_v4_eq, k0, k1, k2]
  refine Eq.trans ?_ (final_out m c).symm
  funext i
  exact (congrArg _ (eq_ix2 i)).trans (ref_at _ _ _ (i 0) (i 1))

end Cert.ValueWi

end
-- ==== Proof.lean ====
/- The claims of the calls, put together. -/
module

public import proofs.«01_k».proof.Defs
public import proofs.«01_k».proof.Proof.BwdIn.Frames
public import proofs.«01_k».proof.Proof.BwdIn.Value
public import proofs.«01_k».proof.Proof.BwdConv.Frames
public import proofs.«01_k».proof.Proof.BwdConv.Value
public import proofs.«01_k».proof.Proof.Gen.RefInIdeal
public import proofs.«01_k».proof.Proof.Gen.RefInIdeal.Run
public import proofs.«01_k».proof.Proof.Gen.RefInIdeal.Read
public import proofs.«01_k».proof.Proof.Gen.Pre_finite_in
public import proofs.«01_k».proof.Proof.Gen.BwdIn
public import proofs.«01_k».proof.Proof.Gen.BwdInIdeal
public import proofs.«01_k».proof.Proof.Gen.BwdConv
public import proofs.«01_k».proof.Proof.Gen.BwdConvIdeal
public import proofs.«01_k».proof.Proof.Gen.RefConvIdeal
public import proofs.«01_k».proof.Proof.Gen.RefConvIdeal.Run
public import proofs.«01_k».proof.Proof.Gen.RefConvIdeal.Read
public import proofs.«01_k».proof.Proof.Mlp.Frames
public import proofs.«01_k».proof.Proof.Gen.Mlp
public import proofs.«01_k».proof.Proof.Gen.MlpIdeal
public import proofs.«01_k».proof.Proof.Gen.RefMlpIdeal
public import proofs.«01_k».proof.Proof.Gen.RefMlpIdeal.Run
public import proofs.«01_k».proof.Proof.Mlp.Value
public import proofs.«01_k».proof.Proof.Gen.RefMlpIdeal.Read
public import proofs.«01_k».proof.Proof.Gen.Pre_finite_mlp
public import proofs.«01_k».proof.Proof.BwdMix.Frames
public import proofs.«01_k».proof.Proof.Gen.BwdMix
public import proofs.«01_k».proof.Proof.Gen.BwdMixIdeal
public import proofs.«01_k».proof.Proof.Gen.RefMixIdeal
public import proofs.«01_k».proof.Proof.Gen.RefMixIdeal.Run
public import proofs.«01_k».proof.Proof.BwdMix.Value
public import proofs.«01_k».proof.Proof.Gen.RefMixIdeal.Read
public import proofs.«01_k».proof.Proof.Gen.Pre_finite_mix
public import proofs.«01_k».proof.Proof.FwdIn.Frames
public import proofs.«01_k».proof.Proof.Gen.FwdIn
public import proofs.«01_k».proof.Proof.Gen.FwdInIdeal
public import proofs.«01_k».proof.Proof.Gen.RefFwdIdeal
public import proofs.«01_k».proof.Proof.Gen.RefFwdIdeal.Run
public import proofs.«01_k».proof.Proof.FwdIn.Value
public import proofs.«01_k».proof.Proof.Gen.RefFwdIdeal.Read
public import proofs.«01_k».proof.Proof.WGrad.Value
public import proofs.«01_k».proof.Proof.Gen.WGrad
public import proofs.«01_k».proof.Proof.Gen.WGradIdeal
public import proofs.«01_k».proof.Proof.Gen.RefWgIdeal
public import proofs.«01_k».proof.Proof.Gen.RefWgIdeal.Run
public import proofs.«01_k».proof.Proof.Gen.RefWgIdeal.Read
public import proofs.«01_k».proof.Proof.Gen.WGradIdeal.Skeleton
public import proofs.«01_k».proof.Proof.Gen.WGradIdeal.Launch
public import proofs.«01_k».proof.Proof.Gen.WGradIdeal.Points
public import proofs.«01_k».proof.Proof.Gen.WGradIdeal.Frame
public import proofs.«01_k».proof.Proof.WGradIn.Value
public import proofs.«01_k».proof.Proof.Gen.WGradIn
public import proofs.«01_k».proof.Proof.Gen.WGradInIdeal
public import proofs.«01_k».proof.Proof.Gen.RefWiIdeal
public import proofs.«01_k».proof.Proof.Gen.RefWiIdeal.Run
public import proofs.«01_k».proof.Proof.Gen.RefWiIdeal.Read
public import proofs.«01_k».proof.Proof.Gen.WGradInIdeal.Skeleton
public import proofs.«01_k».proof.Proof.Gen.WGradInIdeal.Launch
public import proofs.«01_k».proof.Proof.Gen.WGradInIdeal.Points
public import proofs.«01_k».proof.Proof.Gen.WGradInIdeal.Frame
public import Idealize.ShloMosaic.Lib.Quiescent
public import Idealize.ShloMosaic.Adequacy
public import Idealize.ShloMosaic.Init

@[expose] public section

noncomputable section

namespace Cert.Proof

open Idealize.ShloMosaic Idealize.SL.Sem

/-- The first norm's reference ends quietly from any memory. -/
theorem frame_ref : Cert.quiescent_RefInIdeal (hRefInIdeal := Cert.RefInIdeal.Gen.facts) := fun m g _ =>
  (θ_run Cert.RefInIdeal.defs _ _).mono (fun r h => ⟨fun c => (h c).2.2, sem_eq_zero_of_no_sems (by decide) r.2⟩) (Cert.RefInIdeal.Value.run m g)

/-- The claim. -/
theorem claim : Cert.Claim :=
  ⟨Cert.BwdIn.Gen.facts, Cert.BwdInIdeal.Gen.facts, Cert.RefInIdeal.Gen.facts, Cert.BwdConv.Gen.facts, Cert.BwdConvIdeal.Gen.facts, Cert.RefConvIdeal.Gen.facts, Cert.Mlp.Gen.facts, Cert.MlpIdeal.Gen.facts, Cert.RefMlpIdeal.Gen.facts, Cert.BwdMix.Gen.facts, Cert.BwdMixIdeal.Gen.facts, Cert.RefMixIdeal.Gen.facts, Cert.FwdIn.Gen.facts, Cert.FwdInIdeal.Gen.facts, Cert.RefFwdIdeal.Gen.facts, Cert.WGrad.Gen.facts, Cert.WGradIdeal.Gen.facts, Cert.RefWgIdeal.Gen.facts, Cert.WGradIn.Gen.facts, Cert.WGradInIdeal.Gen.facts, Cert.RefWiIdeal.Gen.facts, Cert.Pre_finite_in.Gen.facts, Cert.Pre_finite_mlp.Gen.facts, Cert.Pre_finite_mix.Gen.facts,
    Cert.BwdIn.Hand.frame_kernel, Cert.BwdIn.Hand.frame_ideal, fun m g _ => Cert.BwdIn.Hand.frame_ideal m g trivial,
    fun m g _ => frame_ref m g trivial, fun m g _ => frame_ref m g trivial, Cert.BwdConv.Hand.frame_kernel,
    Cert.BwdConv.Hand.frame_ideal, Cert.ValueConv.frame_ref, Cert.Mlp.Hand.frame_kernel,
    Cert.Mlp.Hand.frame_ideal, fun m g _ => Cert.Mlp.Hand.frame_ideal m g trivial, Cert.ValueMlp.frame_ref,
    fun m g _ => Cert.ValueMlp.frame_ref m g trivial, Cert.BwdMix.Hand.frame_kernel, Cert.BwdMix.Hand.frame_ideal,
    fun m g _ => Cert.BwdMix.Hand.frame_ideal m g trivial, Cert.ValueMix.frame_ref, fun m g _ => Cert.ValueMix.frame_ref m g trivial,
    Cert.FwdIn.Hand.frame_kernel, Cert.FwdIn.Hand.frame_ideal, Cert.ValueFwd.frame_ref,
    Cert.ValueWg.frame_kernel, Cert.ValueWg.frame_ideal, Cert.ValueWg.frame_ref,
    Cert.ValueWi.frame_kernel, Cert.ValueWi.frame_ideal, Cert.ValueWi.frame_ref,
    trivial, Cert.ValueIn.algebraic, trivial, Cert.ValueConv.algebraic, trivial, Cert.ValueMlp.algebraic, trivial, Cert.ValueMix.algebraic, trivial, Cert.ValueFwd.algebraic, trivial, Cert.ValueWg.algebraic, trivial, Cert.ValueWi.algebraic⟩

end Cert.Proof

end
